-- ==== Defs.lean ====
def Pre_Kernel [hPre_in_slab : Cert.Pre_in_slab.Facts] (m : (ℓ : Loc Cert.Kernel.nD Cert.Kernel.τ Cert.Kernel.sig) → Buf (Elt Bits) ℓ) : Prop :=
  ∀ c : Dev Cert.Kernel.nD,
    (Cert.Pre_in_slab.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_slab : Cert.Pre_in_slab.Facts] (m : (ℓ : Loc Cert.KernelIdeal.nD Cert.KernelIdeal.τ Cert.KernelIdeal.sig) → Buf (Elt Ideal) ℓ) : Prop :=
  ∀ c : Dev Cert.KernelIdeal.nD,
    (Cert.Pre_in_slab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_slabs [hPre_slabs : Cert.Pre_slabs.Facts] (m : (ℓ : Loc Cert.KernelIdeal.nD Cert.KernelIdeal.τ Cert.KernelIdeal.sig) → Buf (Elt Ideal) ℓ) : Prop :=
  ∀ c : Dev Cert.KernelIdeal.nD,
    (Cert.Pre_slabs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slabs [hPre_slabs : Cert.Pre_slabs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slabs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_slab : Cert.Pre_in_slab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_slab : Cert.Pre_in_slab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_slabs [hKernelIdeal : Cert.KernelIdeal.Facts] [hPre_slabs : Cert.Pre_slabs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_slabs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_slabs [hReferenceIdeal : Cert.ReferenceIdeal.Facts] [hPre_slabs : Cert.Pre_slabs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slabs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "seventh" .f32 0x3E124925#32 ((1 / 7 : ℝ) : EReal)

def algebraic_KernelIdeal_ReferenceIdeal_pre_slabs [hKernelIdeal : Cert.KernelIdeal.Facts] [hReferenceIdeal : Cert.ReferenceIdeal.Facts] [hPre_slabs : Cert.Pre_slabs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_slabs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_slab : Cert.Pre_in_slab.Facts) (hPre_slabs : Cert.Pre_slabs.Facts),
    quiescent_Kernel (hKernel := hKernel) (hPre_in_slab := hPre_in_slab)
    ∧ quiescent_KernelIdeal (hKernelIdeal := hKernelIdeal) (hPre_in_slab := hPre_in_slab)
    ∧ quiescent_KernelIdeal_pre_slabs (hKernelIdeal := hKernelIdeal) (hPre_slabs := hPre_slabs)
    ∧ quiescent_ReferenceIdeal (hReferenceIdeal := hReferenceIdeal)
    ∧ quiescent_ReferenceIdeal_pre_slabs (hReferenceIdeal := hReferenceIdeal) (hPre_slabs := hPre_slabs)
    ∧ preserves_Kernel_KernelIdeal
    ∧ algebraic_KernelIdeal_ReferenceIdeal_pre_slabs (hKernelIdeal := hKernelIdeal) (hReferenceIdeal := hReferenceIdeal) (hPre_slabs := hPre_slabs)
-- ==== Pre_in_slab.lean ====
abbrev S8x64x61452 : Shape := ⟨3, ![8, 64, 61452]⟩
abbrev S15372x7 : Shape := ⟨2, ![15372, 7]⟩
abbrev S2562x7 : Shape := ⟨2, ![2562, 7]⟩
abbrev S_ : Shape := ⟨0, ![]⟩

class Facts : Prop where
  slices_S15372x7_S2562x7_0_0 : S15372x7.Slices ![0, 0] S2562x7
  bcast_S_S2562x7 : S_.BroadcastsInDim S2562x7 (![] : Fin 0 → Fin S2562x7.rank)

variable [Facts]

def fn {F : FTy → Type} [FloatOps F] (main_arg0 : FVec F S8x64x61452 .f32) (main_arg1 : IVec S15372x7 32) : IVec S2562x7 1 :=
  let main_v0 : IVec S2562x7 32 := (extractStridedSlice S2562x7 ![0, 0] · slices_S15372x7_S2562x7_0_0) main_arg1
  let main_c : IVec S_ 32 := constantI S_ 32 0#32
  let main_v1 : IVec S2562x7 32 := broadcastInDim S2562x7 ![] bcast_S_S2562x7 main_c
  let main_v2 : IVec S2562x7 1 := cmpi .sge main_v0 main_v1
  let main_c_0 : IVec S_ 32 := constantI S_ 32 10242#32
  let main_v3 : IVec S2562x7 32 := broadcastInDim S2562x7 ![] bcast_S_S2562x7 main_c_0
  let main_v4 : IVec S2562x7 1 := cmpi .slt main_v0 main_v3
  let main_v5 : IVec S2562x7 1 := andi main_v2 main_v4
  main_v5
-- ==== Pre_slabs.lean ====
abbrev S8x64x61452 : Shape := ⟨3, ![8, 64, 61452]⟩
abbrev S15372x7 : Shape := ⟨2, ![15372, 7]⟩
abbrev S2562x7 : Shape := ⟨2, ![2562, 7]⟩
abbrev S6x2562x7 : Shape := ⟨3, ![6, 2562, 7]⟩
abbrev S_ : Shape := ⟨0, ![]⟩
abbrev S1x2562x7 : Shape := ⟨3, ![1, 2562, 7]⟩

class Facts : Prop where
  slices_S15372x7_S2562x7_0_0 : S15372x7.Slices ![0, 0] S2562x7
  shapeCasts_S15372x7_S6x2562x7 : S15372x7.ShapeCasts S6x2562x7
  bcast_S_S2562x7 : S_.BroadcastsInDim S2562x7 (![] : Fin 0 → Fin S2562x7.rank)
  bcast_S_S6x2562x7 : S_.BroadcastsInDim S6x2562x7 (![] : Fin 0 → Fin S6x2562x7.rank)
  bcast_S2562x7_S1x2562x7_1_2 : S2562x7.BroadcastsInDim S1x2562x7 (![1, 2] : Fin 2 → Fin S1x2562x7.rank)
  bcast_S1x2562x7_S6x2562x7_0_1_2 : S1x2562x7.BroadcastsInDim S6x2562x7 (![0, 1, 2] : Fin 3 → Fin S6x2562x7.rank)

variable [Facts]

def fn {F : FTy → Type} [FloatOps F] (main_arg0 : FVec F S8x64x61452 .f32) (main_arg1 : IVec S15372x7 32) : IVec S6x2562x7 1 :=
  let main_v0 : IVec S2562x7 32 := (extractStridedSlice S2562x7 ![0, 0] · slices_S15372x7_S2562x7_0_0) main_arg1
  let main_v1 : IVec S6x2562x7 32 := shapeCast S6x2562x7 main_arg1 shapeCasts_S15372x7_S6x2562x7
  let main_v2 : IVec S6x2562x7 32 := iotaInDim S6x2562x7 32 0
  let main_c : IVec S_ 32 := constantI S_ 32 0#32
  let main_v3 : IVec S2562x7 32 := broadcastInDim S2562x7 ![] bcast_S_S2562x7 main_c
  let main_v4 : IVec S2562x7 1 := cmpi .sge main_v0 main_v3
  let main_c_0 : IVec S_ 32 := constantI S_ 32 10242#32
  let main_v5 : IVec S2562x7 32 := broadcastInDim S2562x7 ![] bcast_S_S2562x7 main_c_0
  let main_v6 : IVec S2562x7 1 := cmpi .slt main_v0 main_v5
  let main_v7 : IVec S2562x7 1 := andi main_v4 main_v6
  let main_c_1 : IVec S_ 32 := constantI S_ 32 10242#32
  let main_v8 : IVec S6x2562x7 32 := broadcastInDim S6x2562x7 ![] bcast_S_S6x2562x7 main_c_1
  let main_v9 : IVec S6x2562x7 32 := muli main_v2 main_v8
  let main_v10 : IVec S1x2562x7 32 := broadcastInDim S1x2562x7 ![1, 2] bcast_S2562x7_S1x2562x7_1_2 main_v0
  let main_v11 : IVec S6x2562x7 32 := broadcastInDim S6x2562x7 ![0, 1, 2] bcast_S1x2562x7_S6x2562x7_0_1_2 main_v10
  let main_v12 : IVec S6x2562x7 32 := addi main_v11 main_v9
  let main_v13 : IVec S6x2562x7 1 := cmpi .eq main_v1 main_v12
  let main_v14 : IVec S1x2562x7 1 := broadcastInDim S1x2562x7 ![1, 2] bcast_S2562x7_S1x2562x7_1_2 main_v7
  let main_v15 : IVec S6x2562x7 1 := broadcastInDim S6x2562x7 ![0, 1, 2] bcast_S1x2562x7_S6x2562x7_0_1_2 main_v14
  let main_v16 : IVec S6x2562x7 1 := andi main_v15 main_v13
  main_v16
-- ==== Kernel.lean ====
abbrev S8x64x61452 : Shape := ⟨3, ![8, 64, 61452]⟩
abbrev S15372x7 : Shape := ⟨2, ![15372, 7]⟩
abbrev S2562x7 : Shape := ⟨2, ![2562, 7]⟩
abbrev S7x2562 : Shape := ⟨2, ![7, 2562]⟩
abbrev S17934 : Shape := ⟨1, ![17934]⟩
abbrev S512x61452 : Shape := ⟨2, ![512, 61452]⟩
abbrev S512x12 : Shape := ⟨2, ![512, 12]⟩
abbrev S_ : Shape := ⟨0, ![]⟩
abbrev S512x128 : Shape := ⟨2, ![512, 128]⟩
abbrev S512x15372 : Shape := ⟨2, ![512, 15372]⟩
abbrev S4x10368 : Shape := ⟨2, ![4, 10368]⟩
abbrev S4x2572 : Shape := ⟨2, ![4, 2572]⟩
abbrev S16 : Shape := ⟨1, ![16]⟩
abbrev S4x5120 : Shape := ⟨2, ![4, 5120]⟩
abbrev S4x5248 : Shape := ⟨2, ![4, 5248]⟩
abbrev S4x2560 : Shape := ⟨2, ![4, 2560]⟩
abbrev S4x128 : Shape := ⟨2, ![4, 128]⟩
abbrev S8x64x15372 : Shape := ⟨3, ![8, 64, 15372]⟩

abbrev nBuf : Table → Nat
  | .hbm => 12
  | .local .scVector .vmem => 5
  | _ => 0

abbrev bufTy : (tb : Table) → Fin (nBuf tb) → BufTy
  | .hbm, ⟨0, _⟩ => ⟨S8x64x61452, .f32⟩
  | .hbm, ⟨1, _⟩ => ⟨S15372x7, .i32⟩
  | .hbm, ⟨2, _⟩ => ⟨S2562x7, .i32⟩
  | .hbm, ⟨3, _⟩ => ⟨S7x2562, .i32⟩
  | .hbm, ⟨4, _⟩ => ⟨S17934, .i32⟩
  | .hbm, ⟨5, _⟩ => ⟨S512x61452, .f32⟩
  | .hbm, ⟨6, _⟩ => ⟨S512x12, .f32⟩
  | .hbm, ⟨7, _⟩ => ⟨S_, .i32⟩
  | .hbm, ⟨8, _⟩ => ⟨S_, .f32⟩
  | .hbm, ⟨9, _⟩ => ⟨S512x128, .f32⟩
  | .hbm, ⟨10, _⟩ => ⟨S512x15372, .f32⟩
  | .hbm, ⟨11, _⟩ => ⟨S8x64x15372, .f32⟩
  | .local .scVector .vmem, ⟨0, _⟩ => ⟨S17934, .i32⟩
  | .local .scVector .vmem, ⟨1, _⟩ => ⟨S4x10368, .f32⟩
  | .local .scVector .vmem, ⟨2, _⟩ => ⟨S4x10368, .f32⟩
  | .local .scVector .vmem, ⟨3, _⟩ => ⟨S4x2572, .f32⟩
  | .local .scVector .vmem, ⟨4, _⟩ => ⟨S4x2572, .f32⟩
  | _, _ => ⟨S8x64x61452, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v3_scv : Ref sig .scVector := ⟨.hbm, 5, rfl⟩
abbrev main_v5_scv : Ref sig .scVector := ⟨.hbm, 9, rfl⟩
abbrev main_v2_scv : Ref sig .scVector := ⟨.hbm, 4, rfl⟩
abbrev main_v6_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32 : BitVec 32 := 0#32
  let v4 : BitVec 32 := Scalar.addi v3 c0_i32
  let c4_i32_0 : BitVec 32 := 4#32
  let v5 : BitVec 32 := Scalar.muli v4 c4_i32_0
  v5
def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32 : BitVec 32 := 0#32
  let v4 : BitVec 32 := Scalar.addi v3 c0_i32
  let c4_i32_0 : BitVec 32 := 4#32
  let v5 : BitVec 32 := Scalar.muli v4 c4_i32_0
  let v6 : BitVec 32 := v5
  let c0_i32_3 : BitVec 32 := 0#32
  ![v6.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32 : BitVec 32 := 0#32
  let v4 : BitVec 32 := Scalar.addi v3 c0_i32
  let c4_i32_0 : BitVec 32 := 4#32
  let v5 : BitVec 32 := Scalar.muli v4 c4_i32_0
  let v6 : BitVec 32 := v5
  let c5120_i32_8 : BitVec 32 := 5120#32
  ![v6.toNat, 5120]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_12 : BitVec 32 := 4#32
  let v15 : BitVec 32 := Scalar.muli v1 c4_i32_12
  let c0_i32_13 : BitVec 32 := 0#32
  let v16 : BitVec 32 := Scalar.addi v15 c0_i32_13
  let c4_i32_14 : BitVec 32 := 4#32
  let v17 : BitVec 32 := Scalar.muli v16 c4_i32_14
  v17
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_15 : BitVec 32 := 4#32
  let v19 : BitVec 32 := Scalar.muli v1 c4_i32_15
  let c0_i32_16 : BitVec 32 := 0#32
  let v20 : BitVec 32 := Scalar.addi v19 c0_i32_16
  let c4_i32_17 : BitVec 32 := 4#32
  let v21 : BitVec 32 := Scalar.muli v20 c4_i32_17
  v21
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_15 : BitVec 32 := 4#32
  let v19 : BitVec 32 := Scalar.muli v1 c4_i32_15
  let c0_i32_16 : BitVec 32 := 0#32
  let v20 : BitVec 32 := Scalar.addi v19 c0_i32_16
  let c4_i32_17 : BitVec 32 := 4#32
  let v21 : BitVec 32 := Scalar.muli v20 c4_i32_17
  let v22 : BitVec 32 := v21
  let c10240_i32 : BitVec 32 := 10240#32
  ![v22.toNat, 10240]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_15 : BitVec 32 := 4#32
  let v19 : BitVec 32 := Scalar.muli v1 c4_i32_15
  let c0_i32_16 : BitVec 32 := 0#32
  let v20 : BitVec 32 := Scalar.addi v19 c0_i32_16
  let c4_i32_17 : BitVec 32 := 4#32
  let v21 : BitVec 32 := Scalar.muli v20 c4_i32_17
  let v22 : BitVec 32 := v21
  let c15360_i32 : BitVec 32 := 15360#32
  ![v22.toNat, 15360]
@[reducible] def k0_t1_loop : Scf.Loop 32 :=
  let c0_i32_41 : BitVec 32 := 0#32
  let c161_i32 : BitVec 32 := 161#32
  let v39 : BitVec 32 := Scalar.addi c0_i32_41 c161_i32
  let c1_i32 : BitVec 32 := 1#32
  ⟨c0_i32_41, v39, c1_i32⟩
def k0_off5 (k0_t1 : Fin k0_t1_loop.trips) : Fin 1 → Nat :=
  let c0_i32_1328 : BitVec 32 := 0#32
  let c0_i32_41 : BitVec 32 := 0#32
  let c1_i32 : BitVec 32 := 1#32
  let arg21 : BitVec 32 := Scf.iv c0_i32_41 c1_i32 k0_t1
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1328 v1132
  let v1141 : Index := Scalar.indexCast v1140
  ![v1141.toNat]

def k0_chk1 (v1142 : IVec S16 32) (v1143 : IVec S16 32) : Prop :=
  (∀ a x, ((![v1143, v1142] : Fin 2 → IVec S16 32) a x).toNat < S4x10368.size a)
theorem k0_idx1_inb : ∀ (v1142 : IVec S16 32) (v1143 : IVec S16 32) (k0_hw1 : k0_chk1 v1142 v1143), ∀ a x, ((![v1143, v1142] : Fin 2 → IVec S16 32) a x).toNat < S4x10368.size a := fun v1142 v1143 k0_hw1 => k0_hw1

def k0_chk2 (v1142 : IVec S16 32) (v1146 : IVec S16 32) : Prop :=
  (∀ a x, ((![v1146, v1142] : Fin 2 → IVec S16 32) a x).toNat < S4x10368.size a)
theorem k0_idx2_inb : ∀ (v1142 : IVec S16 32) (v1146 : IVec S16 32) (k0_hw2 : k0_chk2 v1142 v1146), ∀ a x, ((![v1146, v1142] : Fin 2 → IVec S16 32) a x).toNat < S4x10368.size a := fun v1142 v1146 k0_hw2 => k0_hw2

def k0_chk3 (v1142 : IVec S16 32) (v1149 : IVec S16 32) : Prop :=
  (∀ a x, ((![v1149, v1142] : Fin 2 → IVec S16 32) a x).toNat < S4x10368.size a)
theorem k0_idx3_inb : ∀ (v1142 : IVec S16 32) (v1149 : IVec S16 32) (k0_hw3 : k0_chk3 v1142 v1149), ∀ a x, ((![v1149, v1142] : Fin 2 → IVec S16 32) a x).toNat < S4x10368.size a := fun v1142 v1149 k0_hw3 => k0_hw3

def k0_chk4 (v1142 : IVec S16 32) (v1152 : IVec S16 32) : Prop :=
  (∀ a x, ((![v1152, v1142] : Fin 2 → IVec S16 32) a x).toNat < S4x10368.size a)
theorem k0_idx4_inb : ∀ (v1142 : IVec S16 32) (v1152 : IVec S16 32) (k0_hw4 : k0_chk4 v1142 v1152), ∀ a x, ((![v1152, v1142] : Fin 2 → IVec S16 32) a x).toNat < S4x10368.size a := fun v1142 v1152 k0_hw4 => k0_hw4
def k0_off6 (k0_t1 : Fin k0_t1_loop.trips) : Fin 1 → Nat :=
  let c2562_i32 : BitVec 32 := 2562#32
  let c0_i32_41 : BitVec 32 := 0#32
  let c1_i32 : BitVec 32 := 1#32
  let arg21 : BitVec 32 := Scf.iv c0_i32_41 c1_i32 k0_t1
  let c16_i32 : BitVec 32 := 16#32
  let v1131 : BitVec 32 := Scalar.muli arg21 c16_i32
  let c2546_i32 : BitVec 32 := 2546#32
  let v1132 : BitVec 32 := Scalar.minsi v1131 c2546_i32
  let v1155 : BitVec 32 := Scalar.addi c2562_i32 v1132
  let v1156 : Index := Scalar.indexCast v1155
  ![v1156.toNat]

def k0_chk5 (v1157 : IVec S16 32) (v1158 : IVec S16 32) : Prop :=
  (∀ a x, ((![v1158, v1157] : Fin 2 → IVec S16 32) a x).toNat < S4x10368.size a)
theorem k0_idx5_inb : ∀ (v1157 : IVec S16 32) (v1158 : IVec S16 32) (k0_hw5 : k0_chk5 v1157 v1158), ∀ a x, ((![v1158, v1157] : Fin 2 → IVec S16 32) a x).toNat < S4x10368.size a := fun v1157 v1158 k0_hw5 => k0_hw5

def k0_chk6 (v1157 : IVec S16 32) (v1161 : IVec S16 32) : Prop :=
  (∀ a x, ((![v1161, v1157] : Fin 2 → IVec S16 32) a x).toNat < S4x10368.size a)
theorem k0_idx6_inb : ∀ (v1157 : IVec S16 32) (v1161 : IVec S16 32) (k0_hw6 : k0_chk6 v1157 v1161), ∀ a x, ((![v1161, v1157] : Fin 2 → IVec S16 32) a x).toNat < S4x10368.size a := fun v1157 v1161 k0_hw6 => k0_hw6

def k0_chk7 (v1157 : IVec S16 32) (v1164 : IVec S16 32) : Prop :=
  (∀ a x, ((![v1164, v1157] : Fin 2 → IVec S16 32) a x).toNat < S4x10368.size a)
theorem k0_idx7_inb : ∀ (v1157 : IVec S16 32) (v1164 : IVec S16 32) (k0_hw7 : k0_chk7 v1157 v1164), ∀ a x, ((![v1164, v1157] : Fin 2 → IVec S16 32) a x).toNat < S4x10368.size a := fun v1157 v1164 k0_hw7 => k0_hw7

def k0_chk8 (v1157 : IVec S16 32) (v1167 : IVec S16 32) : Prop :=
  (∀ a x, ((![v1167, v1157] : Fin 2 → IVec S16 32) a x).toNat < S4x10368.size a)
theorem k0_idx8_inb : ∀ (v1157 : IVec S16 32) (v1167 : IVec S16 32) (k0_hw8 : k0_chk8 v1157 v1167), ∀ a x, ((![v1167, v1157] : Fin 2 → IVec S16 32) a x).toNat < S4x10368.size a := fun v1157 v1167 k0_hw8 => k0_hw8
def k0_off7 (k0_t1 : Fin k0_t1_loop.trips) : Fin 1 → Nat :=
  let c5124_i32 : BitVec 32 := 5124#32
  let c0_i32_41 : BitVec 32 := 0#32
  let c1_i32 : BitVec 32 := 1#32
  let arg21 : BitVec 32 := Scf.iv c0_i32_41 c1_i32 k0_t1
  let c16_i32 : BitVec 32 := 16#32
  let v1131 : BitVec 32 := Scalar.muli arg21 c16_i32
  let c2546_i32 : BitVec 32 := 2546#32
  let v1132 : BitVec 32 := Scalar.minsi v1131 c2546_i32
  let v1170 : BitVec 32 := Scalar.addi c5124_i32 v1132
  let v1171 : Index := Scalar.indexCast v1170
  ![v1171.toNat]

def k0_chk9 (v1172 : IVec S16 32) (v1173 : IVec S16 32) : Prop :=
  (∀ a x, ((![v1173, v1172] : Fin 2 → IVec S16 32) a x).toNat < S4x10368.size a)
theorem k0_idx9_inb : ∀ (v1172 : IVec S16 32) (v1173 : IVec S16 32) (k0_hw9 : k0_chk9 v1172 v1173), ∀ a x, ((![v1173, v1172] : Fin 2 → IVec S16 32) a x).toNat < S4x10368.size a := fun v1172 v1173 k0_hw9 => k0_hw9

def k0_chk10 (v1172 : IVec S16 32) (v1176 : IVec S16 32) : Prop :=
  (∀ a x, ((![v1176, v1172] : Fin 2 → IVec S16 32) a x).toNat < S4x10368.size a)
theorem k0_idx10_inb : ∀ (v1172 : IVec S16 32) (v1176 : IVec S16 32) (k0_hw10 : k0_chk10 v1172 v1176), ∀ a x, ((![v1176, v1172] : Fin 2 → IVec S16 32) a x).toNat < S4x10368.size a := fun v1172 v1176 k0_hw10 => k0_hw10

def k0_chk11 (v1172 : IVec S16 32) (v1179 : IVec S16 32) : Prop :=
  (∀ a x, ((![v1179, v1172] : Fin 2 → IVec S16 32) a x).toNat < S4x10368.size a)
theorem k0_idx11_inb : ∀ (v1172 : IVec S16 32) (v1179 : IVec S16 32) (k0_hw11 : k0_chk11 v1172 v1179), ∀ a x, ((![v1179, v1172] : Fin 2 → IVec S16 32) a x).toNat < S4x10368.size a := fun v1172 v1179 k0_hw11 => k0_hw11

def k0_chk12 (v1172 : IVec S16 32) (v1182 : IVec S16 32) : Prop :=
  (∀ a x, ((![v1182, v1172] : Fin 2 → IVec S16 32) a x).toNat < S4x10368.size a)
theorem k0_idx12_inb : ∀ (v1172 : IVec S16 32) (v1182 : IVec S16 32) (k0_hw12 : k0_chk12 v1172 v1182), ∀ a x, ((![v1182, v1172] : Fin 2 → IVec S16 32) a x).toNat < S4x10368.size a := fun v1172 v1182 k0_hw12 => k0_hw12
def k0_off8 (k0_t1 : Fin k0_t1_loop.trips) : Fin 1 → Nat :=
  let c7686_i32 : BitVec 32 := 7686#32
  let c0_i32_41 : BitVec 32 := 0#32
  let c1_i32 : BitVec 32 := 1#32
  let arg21 : BitVec 32 := Scf.iv c0_i32_41 c1_i32 k0_t1
  let c16_i32 : BitVec 32 := 16#32
  let v1131 : BitVec 32 := Scalar.muli arg21 c16_i32
  let c2546_i32 : BitVec 32 := 2546#32
  let v1132 : BitVec 32 := Scalar.minsi v1131 c2546_i32
  let v1185 : BitVec 32 := Scalar.addi c7686_i32 v1132
  let v1186 : Index := Scalar.indexCast v1185
  ![v1186.toNat]

def k0_chk13 (v1187 : IVec S16 32) (v1188 : IVec S16 32) : Prop :=
  (∀ a x, ((![v1188, v1187] : Fin 2 → IVec S16 32) a x).toNat < S4x10368.size a)
theorem k0_idx13_inb : ∀ (v1187 : IVec S16 32) (v1188 : IVec S16 32) (k0_hw13 : k0_chk13 v1187 v1188), ∀ a x, ((![v1188, v1187] : Fin 2 → IVec S16 32) a x).toNat < S4x10368.size a := fun v1187 v1188 k0_hw13 => k0_hw13

def k0_chk14 (v1187 : IVec S16 32) (v1191 : IVec S16 32) : Prop :=
  (∀ a x, ((![v1191, v1187] : Fin 2 → IVec S16 32) a x).toNat < S4x10368.size a)
theorem k0_idx14_inb : ∀ (v1187 : IVec S16 32) (v1191 : IVec S16 32) (k0_hw14 : k0_chk14 v1187 v1191), ∀ a x, ((![v1191, v1187] : Fin 2 → IVec S16 32) a x).toNat < S4x10368.size a := fun v1187 v1191 k0_hw14 => k0_hw14

def k0_chk15 (v1187 : IVec S16 32) (v1194 : IVec S16 32) : Prop :=
  (∀ a x, ((![v1194, v1187] : Fin 2 → IVec S16 32) a x).toNat < S4x10368.size a)
theorem k0_idx15_inb : ∀ (v1187 : IVec S16 32) (v1194 : IVec S16 32) (k0_hw15 : k0_chk15 v1187 v1194), ∀ a x, ((![v1194, v1187] : Fin 2 → IVec S16 32) a x).toNat < S4x10368.size a := fun v1187 v1194 k0_hw15 => k0_hw15

def k0_chk16 (v1187 : IVec S16 32) (v1197 : IVec S16 32) : Prop :=
  (∀ a x, ((![v1197, v1187] : Fin 2 → IVec S16 32) a x).toNat < S4x10368.size a)
theorem k0_idx16_inb : ∀ (v1187 : IVec S16 32) (v1197 : IVec S16 32) (k0_hw16 : k0_chk16 v1187 v1197), ∀ a x, ((![v1197, v1187] : Fin 2 → IVec S16 32) a x).toNat < S4x10368.size a := fun v1187 v1197 k0_hw16 => k0_hw16
def k0_off9 (k0_t1 : Fin k0_t1_loop.trips) : Fin 1 → Nat :=
  let c10248_i32 : BitVec 32 := 10248#32
  let c0_i32_41 : BitVec 32 := 0#32
  let c1_i32 : BitVec 32 := 1#32
  let arg21 : BitVec 32 := Scf.iv c0_i32_41 c1_i32 k0_t1
  let c16_i32 : BitVec 32 := 16#32
  let v1131 : BitVec 32 := Scalar.muli arg21 c16_i32
  let c2546_i32 : BitVec 32 := 2546#32
  let v1132 : BitVec 32 := Scalar.minsi v1131 c2546_i32
  let v1200 : BitVec 32 := Scalar.addi c10248_i32 v1132
  let v1201 : Index := Scalar.indexCast v1200
  ![v1201.toNat]

def k0_chk17 (v1202 : IVec S16 32) (v1203 : IVec S16 32) : Prop :=
  (∀ a x, ((![v1203, v1202] : Fin 2 → IVec S16 32) a x).toNat < S4x10368.size a)
theorem k0_idx17_inb : ∀ (v1202 : IVec S16 32) (v1203 : IVec S16 32) (k0_hw17 : k0_chk17 v1202 v1203), ∀ a x, ((![v1203, v1202] : Fin 2 → IVec S16 32) a x).toNat < S4x10368.size a := fun v1202 v1203 k0_hw17 => k0_hw17

def k0_chk18 (v1202 : IVec S16 32) (v1206 : IVec S16 32) : Prop :=
  (∀ a x, ((![v1206, v1202] : Fin 2 → IVec S16 32) a x).toNat < S4x10368.size a)
theorem k0_idx18_inb : ∀ (v1202 : IVec S16 32) (v1206 : IVec S16 32) (k0_hw18 : k0_chk18 v1202 v1206), ∀ a x, ((![v1206, v1202] : Fin 2 → IVec S16 32) a x).toNat < S4x10368.size a := fun v1202 v1206 k0_hw18 => k0_hw18

def k0_chk19 (v1202 : IVec S16 32) (v1209 : IVec S16 32) : Prop :=
  (∀ a x, ((![v1209, v1202] : Fin 2 → IVec S16 32) a x).toNat < S4x10368.size a)
theorem k0_idx19_inb : ∀ (v1202 : IVec S16 32) (v1209 : IVec S16 32) (k0_hw19 : k0_chk19 v1202 v1209), ∀ a x, ((![v1209, v1202] : Fin 2 → IVec S16 32) a x).toNat < S4x10368.size a := fun v1202 v1209 k0_hw19 => k0_hw19

def k0_chk20 (v1202 : IVec S16 32) (v1212 : IVec S16 32) : Prop :=
  (∀ a x, ((![v1212, v1202] : Fin 2 → IVec S16 32) a x).toNat < S4x10368.size a)
theorem k0_idx20_inb : ∀ (v1202 : IVec S16 32) (v1212 : IVec S16 32) (k0_hw20 : k0_chk20 v1202 v1212), ∀ a x, ((![v1212, v1202] : Fin 2 → IVec S16 32) a x).toNat < S4x10368.size a := fun v1202 v1212 k0_hw20 => k0_hw20
def k0_off10 (k0_t1 : Fin k0_t1_loop.trips) : Fin 1 → Nat :=
  let c12810_i32 : BitVec 32 := 12810#32
  let c0_i32_41 : BitVec 32 := 0#32
  let c1_i32 : BitVec 32 := 1#32
  let arg21 : BitVec 32 := Scf.iv c0_i32_41 c1_i32 k0_t1
  let c16_i32 : BitVec 32 := 16#32
  let v1131 : BitVec 32 := Scalar.muli arg21 c16_i32
  let c2546_i32 : BitVec 32 := 2546#32
  let v1132 : BitVec 32 := Scalar.minsi v1131 c2546_i32
  let v1215 : BitVec 32 := Scalar.addi c12810_i32 v1132
  let v1216 : Index := Scalar.indexCast v1215
  ![v1216.toNat]

def k0_chk21 (v1217 : IVec S16 32) (v1218 : IVec S16 32) : Prop :=
  (∀ a x, ((![v1218, v1217] : Fin 2 → IVec S16 32) a x).toNat < S4x10368.size a)
theorem k0_idx21_inb : ∀ (v1217 : IVec S16 32) (v1218 : IVec S16 32) (k0_hw21 : k0_chk21 v1217 v1218), ∀ a x, ((![v1218, v1217] : Fin 2 → IVec S16 32) a x).toNat < S4x10368.size a := fun v1217 v1218 k0_hw21 => k0_hw21

def k0_chk22 (v1217 : IVec S16 32) (v1221 : IVec S16 32) : Prop :=
  (∀ a x, ((![v1221, v1217] : Fin 2 → IVec S16 32) a x).toNat < S4x10368.size a)
theorem k0_idx22_inb : ∀ (v1217 : IVec S16 32) (v1221 : IVec S16 32) (k0_hw22 : k0_chk22 v1217 v1221), ∀ a x, ((![v1221, v1217] : Fin 2 → IVec S16 32) a x).toNat < S4x10368.size a := fun v1217 v1221 k0_hw22 => k0_hw22

def k0_chk23 (v1217 : IVec S16 32) (v1224 : IVec S16 32) : Prop :=
  (∀ a x, ((![v1224, v1217] : Fin 2 → IVec S16 32) a x).toNat < S4x10368.size a)
theorem k0_idx23_inb : ∀ (v1217 : IVec S16 32) (v1224 : IVec S16 32) (k0_hw23 : k0_chk23 v1217 v1224), ∀ a x, ((![v1224, v1217] : Fin 2 → IVec S16 32) a x).toNat < S4x10368.size a := fun v1217 v1224 k0_hw23 => k0_hw23

def k0_chk24 (v1217 : IVec S16 32) (v1227 : IVec S16 32) : Prop :=
  (∀ a x, ((![v1227, v1217] : Fin 2 → IVec S16 32) a x).toNat < S4x10368.size a)
theorem k0_idx24_inb : ∀ (v1217 : IVec S16 32) (v1227 : IVec S16 32) (k0_hw24 : k0_chk24 v1217 v1227), ∀ a x, ((![v1227, v1217] : Fin 2 → IVec S16 32) a x).toNat < S4x10368.size a := fun v1217 v1227 k0_hw24 => k0_hw24
def k0_off11 (k0_t1 : Fin k0_t1_loop.trips) : Fin 1 → Nat :=
  let c15372_i32 : BitVec 32 := 15372#32
  let c0_i32_41 : BitVec 32 := 0#32
  let c1_i32 : BitVec 32 := 1#32
  let arg21 : BitVec 32 := Scf.iv c0_i32_41 c1_i32 k0_t1
  let c16_i32 : BitVec 32 := 16#32
  let v1131 : BitVec 32 := Scalar.muli arg21 c16_i32
  let c2546_i32 : BitVec 32 := 2546#32
  let v1132 : BitVec 32 := Scalar.minsi v1131 c2546_i32
  let v1230 : BitVec 32 := Scalar.addi c15372_i32 v1132
  let v1231 : Index := Scalar.indexCast v1230
  ![v1231.toNat]

def k0_chk25 (v1232 : IVec S16 32) (v1233 : IVec S16 32) : Prop :=
  (∀ a x, ((![v1233, v1232] : Fin 2 → IVec S16 32) a x).toNat < S4x10368.size a)
theorem k0_idx25_inb : ∀ (v1232 : IVec S16 32) (v1233 : IVec S16 32) (k0_hw25 : k0_chk25 v1232 v1233), ∀ a x, ((![v1233, v1232] : Fin 2 → IVec S16 32) a x).toNat < S4x10368.size a := fun v1232 v1233 k0_hw25 => k0_hw25

def k0_chk26 (v1232 : IVec S16 32) (v1236 : IVec S16 32) : Prop :=
  (∀ a x, ((![v1236, v1232] : Fin 2 → IVec S16 32) a x).toNat < S4x10368.size a)
theorem k0_idx26_inb : ∀ (v1232 : IVec S16 32) (v1236 : IVec S16 32) (k0_hw26 : k0_chk26 v1232 v1236), ∀ a x, ((![v1236, v1232] : Fin 2 → IVec S16 32) a x).toNat < S4x10368.size a := fun v1232 v1236 k0_hw26 => k0_hw26

def k0_chk27 (v1232 : IVec S16 32) (v1239 : IVec S16 32) : Prop :=
  (∀ a x, ((![v1239, v1232] : Fin 2 → IVec S16 32) a x).toNat < S4x10368.size a)
theorem k0_idx27_inb : ∀ (v1232 : IVec S16 32) (v1239 : IVec S16 32) (k0_hw27 : k0_chk27 v1232 v1239), ∀ a x, ((![v1239, v1232] : Fin 2 → IVec S16 32) a x).toNat < S4x10368.size a := fun v1232 v1239 k0_hw27 => k0_hw27

def k0_chk28 (v1232 : IVec S16 32) (v1242 : IVec S16 32) : Prop :=
  (∀ a x, ((![v1242, v1232] : Fin 2 → IVec S16 32) a x).toNat < S4x10368.size a)
theorem k0_idx28_inb : ∀ (v1232 : IVec S16 32) (v1242 : IVec S16 32) (k0_hw28 : k0_chk28 v1232 v1242), ∀ a x, ((![v1242, v1232] : Fin 2 → IVec S16 32) a x).toNat < S4x10368.size a := fun v1232 v1242 k0_hw28 => k0_hw28

def k0_chk29 (v1135 : IVec S16 32) (v1245 : IVec S16 32) : Prop :=
  (∀ a x, ((![v1245, v1135] : Fin 2 → IVec S16 32) a x).toNat < S4x2572.size a)
theorem k0_idx29_inb : ∀ (v1135 : IVec S16 32) (v1245 : IVec S16 32) (k0_hw29 : k0_chk29 v1135 v1245), ∀ a x, ((![v1245, v1135] : Fin 2 → IVec S16 32) a x).toNat < S4x2572.size a := fun v1135 v1245 k0_hw29 => k0_hw29

def k0_chk30 (v1135 : IVec S16 32) (v1248 : IVec S16 32) : Prop :=
  (∀ a x, ((![v1248, v1135] : Fin 2 → IVec S16 32) a x).toNat < S4x2572.size a)
theorem k0_idx30_inb : ∀ (v1135 : IVec S16 32) (v1248 : IVec S16 32) (k0_hw30 : k0_chk30 v1135 v1248), ∀ a x, ((![v1248, v1135] : Fin 2 → IVec S16 32) a x).toNat < S4x2572.size a := fun v1135 v1248 k0_hw30 => k0_hw30

def k0_chk31 (v1135 : IVec S16 32) (v1251 : IVec S16 32) : Prop :=
  (∀ a x, ((![v1251, v1135] : Fin 2 → IVec S16 32) a x).toNat < S4x2572.size a)
theorem k0_idx31_inb : ∀ (v1135 : IVec S16 32) (v1251 : IVec S16 32) (k0_hw31 : k0_chk31 v1135 v1251), ∀ a x, ((![v1251, v1135] : Fin 2 → IVec S16 32) a x).toNat < S4x2572.size a := fun v1135 v1251 k0_hw31 => k0_hw31

def k0_chk32 (v1135 : IVec S16 32) (v1254 : IVec S16 32) : Prop :=
  (∀ a x, ((![v1254, v1135] : Fin 2 → IVec S16 32) a x).toNat < S4x2572.size a)
theorem k0_idx32_inb : ∀ (v1135 : IVec S16 32) (v1254 : IVec S16 32) (k0_hw32 : k0_chk32 v1135 v1254), ∀ a x, ((![v1254, v1135] : Fin 2 → IVec S16 32) a x).toNat < S4x2572.size a := fun v1135 v1254 k0_hw32 => k0_hw32

def k0_chk33 (v43 : IVec S16 32) (v44 : IVec S16 32) : Prop :=
  (∀ a x, ((![v44, v43] : Fin 2 → IVec S16 32) a x).toNat < S4x2572.size a)
theorem k0_idx33_inb : ∀ (v43 : IVec S16 32) (v44 : IVec S16 32) (k0_hw33 : k0_chk33 v43 v44), ∀ a x, ((![v44, v43] : Fin 2 → IVec S16 32) a x).toNat < S4x2572.size a := fun v43 v44 k0_hw33 => k0_hw33

def k0_chk34 (v43 : IVec S16 32) (v46 : IVec S16 32) : Prop :=
  (∀ a x, ((![v46, v43] : Fin 2 → IVec S16 32) a x).toNat < S4x2572.size a)
theorem k0_idx34_inb : ∀ (v43 : IVec S16 32) (v46 : IVec S16 32) (k0_hw34 : k0_chk34 v43 v46), ∀ a x, ((![v46, v43] : Fin 2 → IVec S16 32) a x).toNat < S4x2572.size a := fun v43 v46 k0_hw34 => k0_hw34

def k0_chk35 (v43 : IVec S16 32) (v48 : IVec S16 32) : Prop :=
  (∀ a x, ((![v48, v43] : Fin 2 → IVec S16 32) a x).toNat < S4x2572.size a)
theorem k0_idx35_inb : ∀ (v43 : IVec S16 32) (v48 : IVec S16 32) (k0_hw35 : k0_chk35 v43 v48), ∀ a x, ((![v48, v43] : Fin 2 → IVec S16 32) a x).toNat < S4x2572.size a := fun v43 v48 k0_hw35 => k0_hw35

def k0_chk36 (v43 : IVec S16 32) (v50 : IVec S16 32) : Prop :=
  (∀ a x, ((![v50, v43] : Fin 2 → IVec S16 32) a x).toNat < S4x2572.size a)
theorem k0_idx36_inb : ∀ (v43 : IVec S16 32) (v50 : IVec S16 32) (k0_hw36 : k0_chk36 v43 v50), ∀ a x, ((![v50, v43] : Fin 2 → IVec S16 32) a x).toNat < S4x2572.size a := fun v43 v50 k0_hw36 => k0_hw36
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_12 : BitVec 32 := 4#32
  let v15 : BitVec 32 := Scalar.muli v1 c4_i32_12
  let c0_i32_13 : BitVec 32 := 0#32
  let v16 : BitVec 32 := Scalar.addi v15 c0_i32_13
  let c4_i32_14 : BitVec 32 := 4#32
  let v17 : BitVec 32 := Scalar.muli v16 c4_i32_14
  let v18 : BitVec 32 := v17
  let c0_i32_48 : BitVec 32 := 0#32
  ![v18.toNat, 0]
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_52 : BitVec 32 := 4#32
  let v56 : BitVec 32 := Scalar.muli v1 c4_i32_52
  let c0_i32_53 : BitVec 32 := 0#32
  let v57 : BitVec 32 := Scalar.addi v56 c0_i32_53
  let c4_i32_54 : BitVec 32 := 4#32
  let v58 : BitVec 32 := Scalar.muli v57 c4_i32_54
  v58
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_55 : BitVec 32 := 4#32
  let v60 : BitVec 32 := Scalar.muli v1 c4_i32_55
  let c0_i32_56 : BitVec 32 := 0#32
  let v61 : BitVec 32 := Scalar.addi v60 c0_i32_56
  let c4_i32_57 : BitVec 32 := 4#32
  let v62 : BitVec 32 := Scalar.muli v61 c4_i32_57
  v62
def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_55 : BitVec 32 := 4#32
  let v60 : BitVec 32 := Scalar.muli v1 c4_i32_55
  let c0_i32_56 : BitVec 32 := 0#32
  let v61 : BitVec 32 := Scalar.addi v60 c0_i32_56
  let c4_i32_57 : BitVec 32 := 4#32
  let v62 : BitVec 32 := Scalar.muli v61 c4_i32_57
  let v63 : BitVec 32 := v62
  let c20480_i32 : BitVec 32 := 20480#32
  ![v63.toNat, 20480]
def k0_off14 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_55 : BitVec 32 := 4#32
  let v60 : BitVec 32 := Scalar.muli v1 c4_i32_55
  let c0_i32_56 : BitVec 32 := 0#32
  let v61 : BitVec 32 := Scalar.addi v60 c0_i32_56
  let c4_i32_57 : BitVec 32 := 4#32
  let v62 : BitVec 32 := Scalar.muli v61 c4_i32_57
  let v63 : BitVec 32 := v62
  let c25600_i32 : BitVec 32 := 25600#32
  ![v63.toNat, 25600]

def k0_chk37 (v2 : IVec S16 32) (v72 : IVec S16 32) : Prop :=
  (∀ a x, ((![v72, v2] : Fin 2 → IVec S16 32) a x).toNat < S4x2572.size a)
theorem k0_idx37_inb : ∀ (v2 : IVec S16 32) (v72 : IVec S16 32) (k0_hw37 : k0_chk37 v2 v72), ∀ a x, ((![v72, v2] : Fin 2 → IVec S16 32) a x).toNat < S4x2572.size a := fun v2 v72 k0_hw37 => k0_hw37

def k0_chk38 (v2 : IVec S16 32) (v73 : IVec S16 32) : Prop :=
  (∀ a x, ((![v73, v2] : Fin 2 → IVec S16 32) a x).toNat < S4x2572.size a)
theorem k0_idx38_inb : ∀ (v2 : IVec S16 32) (v73 : IVec S16 32) (k0_hw38 : k0_chk38 v2 v73), ∀ a x, ((![v73, v2] : Fin 2 → IVec S16 32) a x).toNat < S4x2572.size a := fun v2 v73 k0_hw38 => k0_hw38

def k0_chk39 (v2 : IVec S16 32) (v74 : IVec S16 32) : Prop :=
  (∀ a x, ((![v74, v2] : Fin 2 → IVec S16 32) a x).toNat < S4x2572.size a)
theorem k0_idx39_inb : ∀ (v2 : IVec S16 32) (v74 : IVec S16 32) (k0_hw39 : k0_chk39 v2 v74), ∀ a x, ((![v74, v2] : Fin 2 → IVec S16 32) a x).toNat < S4x2572.size a := fun v2 v74 k0_hw39 => k0_hw39

def k0_chk40 (v2 : IVec S16 32) (v75 : IVec S16 32) : Prop :=
  (∀ a x, ((![v75, v2] : Fin 2 → IVec S16 32) a x).toNat < S4x2572.size a)
theorem k0_idx40_inb : ∀ (v2 : IVec S16 32) (v75 : IVec S16 32) (k0_hw40 : k0_chk40 v2 v75), ∀ a x, ((![v75, v2] : Fin 2 → IVec S16 32) a x).toNat < S4x2572.size a := fun v2 v75 k0_hw40 => k0_hw40
def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_15 : BitVec 32 := 4#32
  let v19 : BitVec 32 := Scalar.muli v1 c4_i32_15
  let c0_i32_16 : BitVec 32 := 0#32
  let v20 : BitVec 32 := Scalar.addi v19 c0_i32_16
  let c4_i32_17 : BitVec 32 := 4#32
  let v21 : BitVec 32 := Scalar.muli v20 c4_i32_17
  let v22 : BitVec 32 := v21
  let c10240_i32_74 : BitVec 32 := 10240#32
  ![v22.toNat, 10240]
def k0_off16 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_15 : BitVec 32 := 4#32
  let v19 : BitVec 32 := Scalar.muli v1 c4_i32_15
  let c0_i32_16 : BitVec 32 := 0#32
  let v20 : BitVec 32 := Scalar.addi v19 c0_i32_16
  let c4_i32_17 : BitVec 32 := 4#32
  let v21 : BitVec 32 := Scalar.muli v20 c4_i32_17
  let v22 : BitVec 32 := v21
  let c15360_i32_80 : BitVec 32 := 15360#32
  ![v22.toNat, 15360]
@[reducible] def k0_t2_loop : Scf.Loop 32 :=
  let c0_i32_85 : BitVec 32 := 0#32
  let c161_i32_86 : BitVec 32 := 161#32
  let v84 : BitVec 32 := Scalar.addi c0_i32_85 c161_i32_86
  let c1_i32_87 : BitVec 32 := 1#32
  ⟨c0_i32_85, v84, c1_i32_87⟩
def k0_off17 (k0_t2 : Fin k0_t2_loop.trips) : Fin 1 → Nat :=
  let c0_i32_1328 : BitVec 32 := 0#32
  let c0_i32_85 : BitVec 32 := 0#32
  let c1_i32_87 : BitVec 32 := 1#32
  let arg21 : BitVec 32 := Scf.iv c0_i32_85 c1_i32_87 k0_t2
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1328 v1132
  let v1141 : Index := Scalar.indexCast v1140
  ![v1141.toNat]

def k0_chk41 (v1144 : IVec S16 32) (v1145 : IVec S16 32) : Prop :=
  (∀ a x, ((![v1145, v1144] : Fin 2 → IVec S16 32) a x).toNat < S4x10368.size a)
theorem k0_idx41_inb : ∀ (v1144 : IVec S16 32) (v1145 : IVec S16 32) (k0_hw41 : k0_chk41 v1144 v1145), ∀ a x, ((![v1145, v1144] : Fin 2 → IVec S16 32) a x).toNat < S4x10368.size a := fun v1144 v1145 k0_hw41 => k0_hw41

def k0_chk42 (v1144 : IVec S16 32) (v1148 : IVec S16 32) : Prop :=
  (∀ a x, ((![v1148, v1144] : Fin 2 → IVec S16 32) a x).toNat < S4x10368.size a)
theorem k0_idx42_inb : ∀ (v1144 : IVec S16 32) (v1148 : IVec S16 32) (k0_hw42 : k0_chk42 v1144 v1148), ∀ a x, ((![v1148, v1144] : Fin 2 → IVec S16 32) a x).toNat < S4x10368.size a := fun v1144 v1148 k0_hw42 => k0_hw42

def k0_chk43 (v1144 : IVec S16 32) (v1151 : IVec S16 32) : Prop :=
  (∀ a x, ((![v1151, v1144] : Fin 2 → IVec S16 32) a x).toNat < S4x10368.size a)
theorem k0_idx43_inb : ∀ (v1144 : IVec S16 32) (v1151 : IVec S16 32) (k0_hw43 : k0_chk43 v1144 v1151), ∀ a x, ((![v1151, v1144] : Fin 2 → IVec S16 32) a x).toNat < S4x10368.size a := fun v1144 v1151 k0_hw43 => k0_hw43

def k0_chk44 (v1144 : IVec S16 32) (v1154 : IVec S16 32) : Prop :=
  (∀ a x, ((![v1154, v1144] : Fin 2 → IVec S16 32) a x).toNat < S4x10368.size a)
theorem k0_idx44_inb : ∀ (v1144 : IVec S16 32) (v1154 : IVec S16 32) (k0_hw44 : k0_chk44 v1144 v1154), ∀ a x, ((![v1154, v1144] : Fin 2 → IVec S16 32) a x).toNat < S4x10368.size a := fun v1144 v1154 k0_hw44 => k0_hw44
def k0_off18 (k0_t2 : Fin k0_t2_loop.trips) : Fin 1 → Nat :=
  let c2562_i32 : BitVec 32 := 2562#32
  let c0_i32_85 : BitVec 32 := 0#32
  let c1_i32_87 : BitVec 32 := 1#32
  let arg21 : BitVec 32 := Scf.iv c0_i32_85 c1_i32_87 k0_t2
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk45 (v1161 : IVec S16 32) (v1162 : IVec S16 32) : Prop :=
  (∀ a x, ((![v1162, v1161] : Fin 2 → IVec S16 32) a x).toNat < S4x10368.size a)
theorem k0_idx45_inb : ∀ (v1161 : IVec S16 32) (v1162 : IVec S16 32) (k0_hw45 : k0_chk45 v1161 v1162), ∀ a x, ((![v1162, v1161] : Fin 2 → IVec S16 32) a x).toNat < S4x10368.size a := fun v1161 v1162 k0_hw45 => k0_hw45

def k0_chk46 (v1161 : IVec S16 32) (v1165 : IVec S16 32) : Prop :=
  (∀ a x, ((![v1165, v1161] : Fin 2 → IVec S16 32) a x).toNat < S4x10368.size a)
theorem k0_idx46_inb : ∀ (v1161 : IVec S16 32) (v1165 : IVec S16 32) (k0_hw46 : k0_chk46 v1161 v1165), ∀ a x, ((![v1165, v1161] : Fin 2 → IVec S16 32) a x).toNat < S4x10368.size a := fun v1161 v1165 k0_hw46 => k0_hw46

def k0_chk47 (v1161 : IVec S16 32) (v1168 : IVec S16 32) : Prop :=
  (∀ a x, ((![v1168, v1161] : Fin 2 → IVec S16 32) a x).toNat < S4x10368.size a)
theorem k0_idx47_inb : ∀ (v1161 : IVec S16 32) (v1168 : IVec S16 32) (k0_hw47 : k0_chk47 v1161 v1168), ∀ a x, ((![v1168, v1161] : Fin 2 → IVec S16 32) a x).toNat < S4x10368.size a := fun v1161 v1168 k0_hw47 => k0_hw47

def k0_chk48 (v1161 : IVec S16 32) (v1171 : IVec S16 32) : Prop :=
  (∀ a x, ((![v1171, v1161] : Fin 2 → IVec S16 32) a x).toNat < S4x10368.size a)
theorem k0_idx48_inb : ∀ (v1161 : IVec S16 32) (v1171 : IVec S16 32) (k0_hw48 : k0_chk48 v1161 v1171), ∀ a x, ((![v1171, v1161] : Fin 2 → IVec S16 32) a x).toNat < S4x10368.size a := fun v1161 v1171 k0_hw48 => k0_hw48
def k0_off19 (k0_t2 : Fin k0_t2_loop.trips) : Fin 1 → Nat :=
  let c5124_i32 : BitVec 32 := 5124#32
  let c0_i32_85 : BitVec 32 := 0#32
  let c1_i32_87 : BitVec 32 := 1#32
  let arg21 : BitVec 32 := Scf.iv c0_i32_85 c1_i32_87 k0_t2
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk49 (v1178 : IVec S16 32) (v1179 : IVec S16 32) : Prop :=
  (∀ a x, ((![v1179, v1178] : Fin 2 → IVec S16 32) a x).toNat < S4x10368.size a)
theorem k0_idx49_inb : ∀ (v1178 : IVec S16 32) (v1179 : IVec S16 32) (k0_hw49 : k0_chk49 v1178 v1179), ∀ a x, ((![v1179, v1178] : Fin 2 → IVec S16 32) a x).toNat < S4x10368.size a := fun v1178 v1179 k0_hw49 => k0_hw49

def k0_chk50 (v1178 : IVec S16 32) (v1182 : IVec S16 32) : Prop :=
  (∀ a x, ((![v1182, v1178] : Fin 2 → IVec S16 32) a x).toNat < S4x10368.size a)
theorem k0_idx50_inb : ∀ (v1178 : IVec S16 32) (v1182 : IVec S16 32) (k0_hw50 : k0_chk50 v1178 v1182), ∀ a x, ((![v1182, v1178] : Fin 2 → IVec S16 32) a x).toNat < S4x10368.size a := fun v1178 v1182 k0_hw50 => k0_hw50

def k0_chk51 (v1178 : IVec S16 32) (v1185 : IVec S16 32) : Prop :=
  (∀ a x, ((![v1185, v1178] : Fin 2 → IVec S16 32) a x).toNat < S4x10368.size a)
theorem k0_idx51_inb : ∀ (v1178 : IVec S16 32) (v1185 : IVec S16 32) (k0_hw51 : k0_chk51 v1178 v1185), ∀ a x, ((![v1185, v1178] : Fin 2 → IVec S16 32) a x).toNat < S4x10368.size a := fun v1178 v1185 k0_hw51 => k0_hw51

def k0_chk52 (v1178 : IVec S16 32) (v1188 : IVec S16 32) : Prop :=
  (∀ a x, ((![v1188, v1178] : Fin 2 → IVec S16 32) a x).toNat < S4x10368.size a)
theorem k0_idx52_inb : ∀ (v1178 : IVec S16 32) (v1188 : IVec S16 32) (k0_hw52 : k0_chk52 v1178 v1188), ∀ a x, ((![v1188, v1178] : Fin 2 → IVec S16 32) a x).toNat < S4x10368.size a := fun v1178 v1188 k0_hw52 => k0_hw52
def k0_off20 (k0_t2 : Fin k0_t2_loop.trips) : Fin 1 → Nat :=
  let c7686_i32 : BitVec 32 := 7686#32
  let c0_i32_85 : BitVec 32 := 0#32
  let c1_i32_87 : BitVec 32 := 1#32
  let arg21 : BitVec 32 := Scf.iv c0_i32_85 c1_i32_87 k0_t2
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk53 (v1195 : IVec S16 32) (v1196 : IVec S16 32) : Prop :=
  (∀ a x, ((![v1196, v1195] : Fin 2 → IVec S16 32) a x).toNat < S4x10368.size a)
theorem k0_idx53_inb : ∀ (v1195 : IVec S16 32) (v1196 : IVec S16 32) (k0_hw53 : k0_chk53 v1195 v1196), ∀ a x, ((![v1196, v1195] : Fin 2 → IVec S16 32) a x).toNat < S4x10368.size a := fun v1195 v1196 k0_hw53 => k0_hw53

def k0_chk54 (v1195 : IVec S16 32) (v1199 : IVec S16 32) : Prop :=
  (∀ a x, ((![v1199, v1195] : Fin 2 → IVec S16 32) a x).toNat < S4x10368.size a)
theorem k0_idx54_inb : ∀ (v1195 : IVec S16 32) (v1199 : IVec S16 32) (k0_hw54 : k0_chk54 v1195 v1199), ∀ a x, ((![v1199, v1195] : Fin 2 → IVec S16 32) a x).toNat < S4x10368.size a := fun v1195 v1199 k0_hw54 => k0_hw54

def k0_chk55 (v1195 : IVec S16 32) (v1202 : IVec S16 32) : Prop :=
  (∀ a x, ((![v1202, v1195] : Fin 2 → IVec S16 32) a x).toNat < S4x10368.size a)
theorem k0_idx55_inb : ∀ (v1195 : IVec S16 32) (v1202 : IVec S16 32) (k0_hw55 : k0_chk55 v1195 v1202), ∀ a x, ((![v1202, v1195] : Fin 2 → IVec S16 32) a x).toNat < S4x10368.size a := fun v1195 v1202 k0_hw55 => k0_hw55

def k0_chk56 (v1195 : IVec S16 32) (v1205 : IVec S16 32) : Prop :=
  (∀ a x, ((![v1205, v1195] : Fin 2 → IVec S16 32) a x).toNat < S4x10368.size a)
theorem k0_idx56_inb : ∀ (v1195 : IVec S16 32) (v1205 : IVec S16 32) (k0_hw56 : k0_chk56 v1195 v1205), ∀ a x, ((![v1205, v1195] : Fin 2 → IVec S16 32) a x).toNat < S4x10368.size a := fun v1195 v1205 k0_hw56 => k0_hw56
def k0_off21 (k0_t2 : Fin k0_t2_loop.trips) : Fin 1 → Nat :=
  let c10248_i32 : BitVec 32 := 10248#32
  let c0_i32_85 : BitVec 32 := 0#32
  let c1_i32_87 : BitVec 32 := 1#32
  let arg21 : BitVec 32 := Scf.iv c0_i32_85 c1_i32_87 k0_t2
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk57 (v1212 : IVec S16 32) (v1213 : IVec S16 32) : Prop :=
  (∀ a x, ((![v1213, v1212] : Fin 2 → IVec S16 32) a x).toNat < S4x10368.size a)
theorem k0_idx57_inb : ∀ (v1212 : IVec S16 32) (v1213 : IVec S16 32) (k0_hw57 : k0_chk57 v1212 v1213), ∀ a x, ((![v1213, v1212] : Fin 2 → IVec S16 32) a x).toNat < S4x10368.size a := fun v1212 v1213 k0_hw57 => k0_hw57

def k0_chk58 (v1212 : IVec S16 32) (v1216 : IVec S16 32) : Prop :=
  (∀ a x, ((![v1216, v1212] : Fin 2 → IVec S16 32) a x).toNat < S4x10368.size a)
theorem k0_idx58_inb : ∀ (v1212 : IVec S16 32) (v1216 : IVec S16 32) (k0_hw58 : k0_chk58 v1212 v1216), ∀ a x, ((![v1216, v1212] : Fin 2 → IVec S16 32) a x).toNat < S4x10368.size a := fun v1212 v1216 k0_hw58 => k0_hw58

def k0_chk59 (v1212 : IVec S16 32) (v1219 : IVec S16 32) : Prop :=
  (∀ a x, ((![v1219, v1212] : Fin 2 → IVec S16 32) a x).toNat < S4x10368.size a)
theorem k0_idx59_inb : ∀ (v1212 : IVec S16 32) (v1219 : IVec S16 32) (k0_hw59 : k0_chk59 v1212 v1219), ∀ a x, ((![v1219, v1212] : Fin 2 → IVec S16 32) a x).toNat < S4x10368.size a := fun v1212 v1219 k0_hw59 => k0_hw59

def k0_chk60 (v1212 : IVec S16 32) (v1222 : IVec S16 32) : Prop :=
  (∀ a x, ((![v1222, v1212] : Fin 2 → IVec S16 32) a x).toNat < S4x10368.size a)
theorem k0_idx60_inb : ∀ (v1212 : IVec S16 32) (v1222 : IVec S16 32) (k0_hw60 : k0_chk60 v1212 v1222), ∀ a x, ((![v1222, v1212] : Fin 2 → IVec S16 32) a x).toNat < S4x10368.size a := fun v1212 v1222 k0_hw60 => k0_hw60
def k0_off22 (k0_t2 : Fin k0_t2_loop.trips) : Fin 1 → Nat :=
  let c12810_i32 : BitVec 32 := 12810#32
  let c0_i32_85 : BitVec 32 := 0#32
  let c1_i32_87 : BitVec 32 := 1#32
  let arg21 : BitVec 32 := Scf.iv c0_i32_85 c1_i32_87 k0_t2
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk61 (v1229 : IVec S16 32) (v1230 : IVec S16 32) : Prop :=
  (∀ a x, ((![v1230, v1229] : Fin 2 → IVec S16 32) a x).toNat < S4x10368.size a)
theorem k0_idx61_inb : ∀ (v1229 : IVec S16 32) (v1230 : IVec S16 32) (k0_hw61 : k0_chk61 v1229 v1230), ∀ a x, ((![v1230, v1229] : Fin 2 → IVec S16 32) a x).toNat < S4x10368.size a := fun v1229 v1230 k0_hw61 => k0_hw61

def k0_chk62 (v1229 : IVec S16 32) (v1233 : IVec S16 32) : Prop :=
  (∀ a x, ((![v1233, v1229] : Fin 2 → IVec S16 32) a x).toNat < S4x10368.size a)
theorem k0_idx62_inb : ∀ (v1229 : IVec S16 32) (v1233 : IVec S16 32) (k0_hw62 : k0_chk62 v1229 v1233), ∀ a x, ((![v1233, v1229] : Fin 2 → IVec S16 32) a x).toNat < S4x10368.size a := fun v1229 v1233 k0_hw62 => k0_hw62

def k0_chk63 (v1229 : IVec S16 32) (v1236 : IVec S16 32) : Prop :=
  (∀ a x, ((![v1236, v1229] : Fin 2 → IVec S16 32) a x).toNat < S4x10368.size a)
theorem k0_idx63_inb : ∀ (v1229 : IVec S16 32) (v1236 : IVec S16 32) (k0_hw63 : k0_chk63 v1229 v1236), ∀ a x, ((![v1236, v1229] : Fin 2 → IVec S16 32) a x).toNat < S4x10368.size a := fun v1229 v1236 k0_hw63 => k0_hw63

def k0_chk64 (v1229 : IVec S16 32) (v1239 : IVec S16 32) : Prop :=
  (∀ a x, ((![v1239, v1229] : Fin 2 → IVec S16 32) a x).toNat < S4x10368.size a)
theorem k0_idx64_inb : ∀ (v1229 : IVec S16 32) (v1239 : IVec S16 32) (k0_hw64 : k0_chk64 v1229 v1239), ∀ a x, ((![v1239, v1229] : Fin 2 → IVec S16 32) a x).toNat < S4x10368.size a := fun v1229 v1239 k0_hw64 => k0_hw64
def k0_off23 (k0_t2 : Fin k0_t2_loop.trips) : Fin 1 → Nat :=
  let c15372_i32 : BitVec 32 := 15372#32
  let c0_i32_85 : BitVec 32 := 0#32
  let c1_i32_87 : BitVec 32 := 1#32
  let arg21 : BitVec 32 := Scf.iv c0_i32_85 c1_i32_87 k0_t2
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk65 (v1246 : IVec S16 32) (v1247 : IVec S16 32) : Prop :=
  (∀ a x, ((![v1247, v1246] : Fin 2 → IVec S16 32) a x).toNat < S4x10368.size a)
theorem k0_idx65_inb : ∀ (v1246 : IVec S16 32) (v1247 : IVec S16 32) (k0_hw65 : k0_chk65 v1246 v1247), ∀ a x, ((![v1247, v1246] : Fin 2 → IVec S16 32) a x).toNat < S4x10368.size a := fun v1246 v1247 k0_hw65 => k0_hw65

def k0_chk66 (v1246 : IVec S16 32) (v1250 : IVec S16 32) : Prop :=
  (∀ a x, ((![v1250, v1246] : Fin 2 → IVec S16 32) a x).toNat < S4x10368.size a)
theorem k0_idx66_inb : ∀ (v1246 : IVec S16 32) (v1250 : IVec S16 32) (k0_hw66 : k0_chk66 v1246 v1250), ∀ a x, ((![v1250, v1246] : Fin 2 → IVec S16 32) a x).toNat < S4x10368.size a := fun v1246 v1250 k0_hw66 => k0_hw66

def k0_chk67 (v1246 : IVec S16 32) (v1253 : IVec S16 32) : Prop :=
  (∀ a x, ((![v1253, v1246] : Fin 2 → IVec S16 32) a x).toNat < S4x10368.size a)
theorem k0_idx67_inb : ∀ (v1246 : IVec S16 32) (v1253 : IVec S16 32) (k0_hw67 : k0_chk67 v1246 v1253), ∀ a x, ((![v1253, v1246] : Fin 2 → IVec S16 32) a x).toNat < S4x10368.size a := fun v1246 v1253 k0_hw67 => k0_hw67

def k0_chk68 (v1246 : IVec S16 32) (v1256 : IVec S16 32) : Prop :=
  (∀ a x, ((![v1256, v1246] : Fin 2 → IVec S16 32) a x).toNat < S4x10368.size a)
theorem k0_idx68_inb : ∀ (v1246 : IVec S16 32) (v1256 : IVec S16 32) (k0_hw68 : k0_chk68 v1246 v1256), ∀ a x, ((![v1256, v1246] : Fin 2 → IVec S16 32) a x).toNat < S4x10368.size a := fun v1246 v1256 k0_hw68 => k0_hw68

def k0_chk69 (v1135 : IVec S16 32) (v1259 : IVec S16 32) : Prop :=
  (∀ a x, ((![v1259, v1135] : Fin 2 → IVec S16 32) a x).toNat < S4x2572.size a)
theorem k0_idx69_inb : ∀ (v1135 : IVec S16 32) (v1259 : IVec S16 32) (k0_hw69 : k0_chk69 v1135 v1259), ∀ a x, ((![v1259, v1135] : Fin 2 → IVec S16 32) a x).toNat < S4x2572.size a := fun v1135 v1259 k0_hw69 => k0_hw69

def k0_chk70 (v1135 : IVec S16 32) (v1262 : IVec S16 32) : Prop :=
  (∀ a x, ((![v1262, v1135] : Fin 2 → IVec S16 32) a x).toNat < S4x2572.size a)
theorem k0_idx70_inb : ∀ (v1135 : IVec S16 32) (v1262 : IVec S16 32) (k0_hw70 : k0_chk70 v1135 v1262), ∀ a x, ((![v1262, v1135] : Fin 2 → IVec S16 32) a x).toNat < S4x2572.size a := fun v1135 v1262 k0_hw70 => k0_hw70

def k0_chk71 (v1135 : IVec S16 32) (v1265 : IVec S16 32) : Prop :=
  (∀ a x, ((![v1265, v1135] : Fin 2 → IVec S16 32) a x).toNat < S4x2572.size a)
theorem k0_idx71_inb : ∀ (v1135 : IVec S16 32) (v1265 : IVec S16 32) (k0_hw71 : k0_chk71 v1135 v1265), ∀ a x, ((![v1265, v1135] : Fin 2 → IVec S16 32) a x).toNat < S4x2572.size a := fun v1135 v1265 k0_hw71 => k0_hw71

def k0_chk72 (v1135 : IVec S16 32) (v1268 : IVec S16 32) : Prop :=
  (∀ a x, ((![v1268, v1135] : Fin 2 → IVec S16 32) a x).toNat < S4x2572.size a)
theorem k0_idx72_inb : ∀ (v1135 : IVec S16 32) (v1268 : IVec S16 32) (k0_hw72 : k0_chk72 v1135 v1268), ∀ a x, ((![v1268, v1135] : Fin 2 → IVec S16 32) a x).toNat < S4x2572.size a := fun v1135 v1268 k0_hw72 => k0_hw72

def k0_chk73 (v88 : IVec S16 32) (v89 : IVec S16 32) : Prop :=
  (∀ a x, ((![v89, v88] : Fin 2 → IVec S16 32) a x).toNat < S4x2572.size a)
theorem k0_idx73_inb : ∀ (v88 : IVec S16 32) (v89 : IVec S16 32) (k0_hw73 : k0_chk73 v88 v89), ∀ a x, ((![v89, v88] : Fin 2 → IVec S16 32) a x).toNat < S4x2572.size a := fun v88 v89 k0_hw73 => k0_hw73

def k0_chk74 (v88 : IVec S16 32) (v91 : IVec S16 32) : Prop :=
  (∀ a x, ((![v91, v88] : Fin 2 → IVec S16 32) a x).toNat < S4x2572.size a)
theorem k0_idx74_inb : ∀ (v88 : IVec S16 32) (v91 : IVec S16 32) (k0_hw74 : k0_chk74 v88 v91), ∀ a x, ((![v91, v88] : Fin 2 → IVec S16 32) a x).toNat < S4x2572.size a := fun v88 v91 k0_hw74 => k0_hw74

def k0_chk75 (v88 : IVec S16 32) (v93 : IVec S16 32) : Prop :=
  (∀ a x, ((![v93, v88] : Fin 2 → IVec S16 32) a x).toNat < S4x2572.size a)
theorem k0_idx75_inb : ∀ (v88 : IVec S16 32) (v93 : IVec S16 32) (k0_hw75 : k0_chk75 v88 v93), ∀ a x, ((![v93, v88] : Fin 2 → IVec S16 32) a x).toNat < S4x2572.size a := fun v88 v93 k0_hw75 => k0_hw75

def k0_chk76 (v88 : IVec S16 32) (v95 : IVec S16 32) : Prop :=
  (∀ a x, ((![v95, v88] : Fin 2 → IVec S16 32) a x).toNat < S4x2572.size a)
theorem k0_idx76_inb : ∀ (v88 : IVec S16 32) (v95 : IVec S16 32) (k0_hw76 : k0_chk76 v88 v95), ∀ a x, ((![v95, v88] : Fin 2 → IVec S16 32) a x).toNat < S4x2572.size a := fun v88 v95 k0_hw76 => k0_hw76
def k0_off24 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_52 : BitVec 32 := 4#32
  let v56 : BitVec 32 := Scalar.muli v1 c4_i32_52
  let c0_i32_53 : BitVec 32 := 0#32
  let v57 : BitVec 32 := Scalar.addi v56 c0_i32_53
  let c4_i32_54 : BitVec 32 := 4#32
  let v58 : BitVec 32 := Scalar.muli v57 c4_i32_54
  let v59 : BitVec 32 := v58
  let c2560_i32_97 : BitVec 32 := 2560#32
  ![v59.toNat, 2560]
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_101 : BitVec 32 := 4#32
  let v101 : BitVec 32 := Scalar.muli v1 c4_i32_101
  let c0_i32_102 : BitVec 32 := 0#32
  let v102 : BitVec 32 := Scalar.addi v101 c0_i32_102
  let c4_i32_103 : BitVec 32 := 4#32
  let v103 : BitVec 32 := Scalar.muli v102 c4_i32_103
  v103
def k0_mult7 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_104 : BitVec 32 := 4#32
  let v105 : BitVec 32 := Scalar.muli v1 c4_i32_104
  let c0_i32_105 : BitVec 32 := 0#32
  let v106 : BitVec 32 := Scalar.addi v105 c0_i32_105
  let c4_i32_106 : BitVec 32 := 4#32
  let v107 : BitVec 32 := Scalar.muli v106 c4_i32_106
  v107
def k0_off25 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_104 : BitVec 32 := 4#32
  let v105 : BitVec 32 := Scalar.muli v1 c4_i32_104
  let c0_i32_105 : BitVec 32 := 0#32
  let v106 : BitVec 32 := Scalar.addi v105 c0_i32_105
  let c4_i32_106 : BitVec 32 := 4#32
  let v107 : BitVec 32 := Scalar.muli v106 c4_i32_106
  let v108 : BitVec 32 := v107
  let c30720_i32 : BitVec 32 := 30720#32
  ![v108.toNat, 30720]
def k0_off26 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_104 : BitVec 32 := 4#32
  let v105 : BitVec 32 := Scalar.muli v1 c4_i32_104
  let c0_i32_105 : BitVec 32 := 0#32
  let v106 : BitVec 32 := Scalar.addi v105 c0_i32_105
  let c4_i32_106 : BitVec 32 := 4#32
  let v107 : BitVec 32 := Scalar.muli v106 c4_i32_106
  let v108 : BitVec 32 := v107
  let c35840_i32 : BitVec 32 := 35840#32
  ![v108.toNat, 35840]
def k0_off27 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_12 : BitVec 32 := 4#32
  let v15 : BitVec 32 := Scalar.muli v1 c4_i32_12
  let c0_i32_13 : BitVec 32 := 0#32
  let v16 : BitVec 32 := Scalar.addi v15 c0_i32_13
  let c4_i32_14 : BitVec 32 := 4#32
  let v17 : BitVec 32 := Scalar.muli v16 c4_i32_14
  let v18 : BitVec 32 := v17
  let c0_i32_119 : BitVec 32 := 0#32
  ![v18.toNat, 0]

def k0_chk77 (v2 : IVec S16 32) (v121 : IVec S16 32) : Prop :=
  (∀ a x, ((![v121, v2] : Fin 2 → IVec S16 32) a x).toNat < S4x2572.size a)
theorem k0_idx77_inb : ∀ (v2 : IVec S16 32) (v121 : IVec S16 32) (k0_hw77 : k0_chk77 v2 v121), ∀ a x, ((![v121, v2] : Fin 2 → IVec S16 32) a x).toNat < S4x2572.size a := fun v2 v121 k0_hw77 => k0_hw77

def k0_chk78 (v2 : IVec S16 32) (v122 : IVec S16 32) : Prop :=
  (∀ a x, ((![v122, v2] : Fin 2 → IVec S16 32) a x).toNat < S4x2572.size a)
theorem k0_idx78_inb : ∀ (v2 : IVec S16 32) (v122 : IVec S16 32) (k0_hw78 : k0_chk78 v2 v122), ∀ a x, ((![v122, v2] : Fin 2 → IVec S16 32) a x).toNat < S4x2572.size a := fun v2 v122 k0_hw78 => k0_hw78

def k0_chk79 (v2 : IVec S16 32) (v123 : IVec S16 32) : Prop :=
  (∀ a x, ((![v123, v2] : Fin 2 → IVec S16 32) a x).toNat < S4x2572.size a)
theorem k0_idx79_inb : ∀ (v2 : IVec S16 32) (v123 : IVec S16 32) (k0_hw79 : k0_chk79 v2 v123), ∀ a x, ((![v123, v2] : Fin 2 → IVec S16 32) a x).toNat < S4x2572.size a := fun v2 v123 k0_hw79 => k0_hw79

def k0_chk80 (v2 : IVec S16 32) (v124 : IVec S16 32) : Prop :=
  (∀ a x, ((![v124, v2] : Fin 2 → IVec S16 32) a x).toNat < S4x2572.size a)
theorem k0_idx80_inb : ∀ (v2 : IVec S16 32) (v124 : IVec S16 32) (k0_hw80 : k0_chk80 v2 v124), ∀ a x, ((![v124, v2] : Fin 2 → IVec S16 32) a x).toNat < S4x2572.size a := fun v2 v124 k0_hw80 => k0_hw80
def k0_off28 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_55 : BitVec 32 := 4#32
  let v60 : BitVec 32 := Scalar.muli v1 c4_i32_55
  let c0_i32_56 : BitVec 32 := 0#32
  let v61 : BitVec 32 := Scalar.addi v60 c0_i32_56
  let c4_i32_57 : BitVec 32 := 4#32
  let v62 : BitVec 32 := Scalar.muli v61 c4_i32_57
  let v63 : BitVec 32 := v62
  let c20480_i32_129 : BitVec 32 := 20480#32
  ![v63.toNat, 20480]
def k0_off29 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_55 : BitVec 32 := 4#32
  let v60 : BitVec 32 := Scalar.muli v1 c4_i32_55
  let c0_i32_56 : BitVec 32 := 0#32
  let v61 : BitVec 32 := Scalar.addi v60 c0_i32_56
  let c4_i32_57 : BitVec 32 := 4#32
  let v62 : BitVec 32 := Scalar.muli v61 c4_i32_57
  let v63 : BitVec 32 := v62
  let c25600_i32_135 : BitVec 32 := 25600#32
  ![v63.toNat, 25600]
@[reducible] def k0_t3_loop : Scf.Loop 32 :=
  let c0_i32_140 : BitVec 32 := 0#32
  let c161_i32_141 : BitVec 32 := 161#32
  let v133 : BitVec 32 := Scalar.addi c0_i32_140 c161_i32_141
  let c1_i32_142 : BitVec 32 := 1#32
  ⟨c0_i32_140, v133, c1_i32_142⟩
def k0_off30 (k0_t3 : Fin k0_t3_loop.trips) : Fin 1 → Nat :=
  let c0_i32_1328 : BitVec 32 := 0#32
  let c0_i32_140 : BitVec 32 := 0#32
  let c1_i32_142 : BitVec 32 := 1#32
  let arg21 : BitVec 32 := Scf.iv c0_i32_140 c1_i32_142 k0_t3
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1328 v1132
  let v1141 : Index := Scalar.indexCast v1140
  ![v1141.toNat]

def k0_chk81 (v1144 : IVec S16 32) (v1145 : IVec S16 32) : Prop :=
  (∀ a x, ((![v1145, v1144] : Fin 2 → IVec S16 32) a x).toNat < S4x10368.size a)
theorem k0_idx81_inb : ∀ (v1144 : IVec S16 32) (v1145 : IVec S16 32) (k0_hw81 : k0_chk81 v1144 v1145), ∀ a x, ((![v1145, v1144] : Fin 2 → IVec S16 32) a x).toNat < S4x10368.size a := fun v1144 v1145 k0_hw81 => k0_hw81

def k0_chk82 (v1144 : IVec S16 32) (v1148 : IVec S16 32) : Prop :=
  (∀ a x, ((![v1148, v1144] : Fin 2 → IVec S16 32) a x).toNat < S4x10368.size a)
theorem k0_idx82_inb : ∀ (v1144 : IVec S16 32) (v1148 : IVec S16 32) (k0_hw82 : k0_chk82 v1144 v1148), ∀ a x, ((![v1148, v1144] : Fin 2 → IVec S16 32) a x).toNat < S4x10368.size a := fun v1144 v1148 k0_hw82 => k0_hw82

def k0_chk83 (v1144 : IVec S16 32) (v1151 : IVec S16 32) : Prop :=
  (∀ a x, ((![v1151, v1144] : Fin 2 → IVec S16 32) a x).toNat < S4x10368.size a)
theorem k0_idx83_inb : ∀ (v1144 : IVec S16 32) (v1151 : IVec S16 32) (k0_hw83 : k0_chk83 v1144 v1151), ∀ a x, ((![v1151, v1144] : Fin 2 → IVec S16 32) a x).toNat < S4x10368.size a := fun v1144 v1151 k0_hw83 => k0_hw83

def k0_chk84 (v1144 : IVec S16 32) (v1154 : IVec S16 32) : Prop :=
  (∀ a x, ((![v1154, v1144] : Fin 2 → IVec S16 32) a x).toNat < S4x10368.size a)
theorem k0_idx84_inb : ∀ (v1144 : IVec S16 32) (v1154 : IVec S16 32) (k0_hw84 : k0_chk84 v1144 v1154), ∀ a x, ((![v1154, v1144] : Fin 2 → IVec S16 32) a x).toNat < S4x10368.size a := fun v1144 v1154 k0_hw84 => k0_hw84
def k0_off31 (k0_t3 : Fin k0_t3_loop.trips) : Fin 1 → Nat :=
  let c2562_i32 : BitVec 32 := 2562#32
  let c0_i32_140 : BitVec 32 := 0#32
  let c1_i32_142 : BitVec 32 := 1#32
  let arg21 : BitVec 32 := Scf.iv c0_i32_140 c1_i32_142 k0_t3
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk85 (v1161 : IVec S16 32) (v1162 : IVec S16 32) : Prop :=
  (∀ a x, ((![v1162, v1161] : Fin 2 → IVec S16 32) a x).toNat < S4x10368.size a)
theorem k0_idx85_inb : ∀ (v1161 : IVec S16 32) (v1162 : IVec S16 32) (k0_hw85 : k0_chk85 v1161 v1162), ∀ a x, ((![v1162, v1161] : Fin 2 → IVec S16 32) a x).toNat < S4x10368.size a := fun v1161 v1162 k0_hw85 => k0_hw85

def k0_chk86 (v1161 : IVec S16 32) (v1165 : IVec S16 32) : Prop :=
  (∀ a x, ((![v1165, v1161] : Fin 2 → IVec S16 32) a x).toNat < S4x10368.size a)
theorem k0_idx86_inb : ∀ (v1161 : IVec S16 32) (v1165 : IVec S16 32) (k0_hw86 : k0_chk86 v1161 v1165), ∀ a x, ((![v1165, v1161] : Fin 2 → IVec S16 32) a x).toNat < S4x10368.size a := fun v1161 v1165 k0_hw86 => k0_hw86

def k0_chk87 (v1161 : IVec S16 32) (v1168 : IVec S16 32) : Prop :=
  (∀ a x, ((![v1168, v1161] : Fin 2 → IVec S16 32) a x).toNat < S4x10368.size a)
theorem k0_idx87_inb : ∀ (v1161 : IVec S16 32) (v1168 : IVec S16 32) (k0_hw87 : k0_chk87 v1161 v1168), ∀ a x, ((![v1168, v1161] : Fin 2 → IVec S16 32) a x).toNat < S4x10368.size a := fun v1161 v1168 k0_hw87 => k0_hw87

def k0_chk88 (v1161 : IVec S16 32) (v1171 : IVec S16 32) : Prop :=
  (∀ a x, ((![v1171, v1161] : Fin 2 → IVec S16 32) a x).toNat < S4x10368.size a)
theorem k0_idx88_inb : ∀ (v1161 : IVec S16 32) (v1171 : IVec S16 32) (k0_hw88 : k0_chk88 v1161 v1171), ∀ a x, ((![v1171, v1161] : Fin 2 → IVec S16 32) a x).toNat < S4x10368.size a := fun v1161 v1171 k0_hw88 => k0_hw88
def k0_off32 (k0_t3 : Fin k0_t3_loop.trips) : Fin 1 → Nat :=
  let c5124_i32 : BitVec 32 := 5124#32
  let c0_i32_140 : BitVec 32 := 0#32
  let c1_i32_142 : BitVec 32 := 1#32
  let arg21 : BitVec 32 := Scf.iv c0_i32_140 c1_i32_142 k0_t3
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk89 (v1178 : IVec S16 32) (v1179 : IVec S16 32) : Prop :=
  (∀ a x, ((![v1179, v1178] : Fin 2 → IVec S16 32) a x).toNat < S4x10368.size a)
theorem k0_idx89_inb : ∀ (v1178 : IVec S16 32) (v1179 : IVec S16 32) (k0_hw89 : k0_chk89 v1178 v1179), ∀ a x, ((![v1179, v1178] : Fin 2 → IVec S16 32) a x).toNat < S4x10368.size a := fun v1178 v1179 k0_hw89 => k0_hw89

def k0_chk90 (v1178 : IVec S16 32) (v1182 : IVec S16 32) : Prop :=
  (∀ a x, ((![v1182, v1178] : Fin 2 → IVec S16 32) a x).toNat < S4x10368.size a)
theorem k0_idx90_inb : ∀ (v1178 : IVec S16 32) (v1182 : IVec S16 32) (k0_hw90 : k0_chk90 v1178 v1182), ∀ a x, ((![v1182, v1178] : Fin 2 → IVec S16 32) a x).toNat < S4x10368.size a := fun v1178 v1182 k0_hw90 => k0_hw90

def k0_chk91 (v1178 : IVec S16 32) (v1185 : IVec S16 32) : Prop :=
  (∀ a x, ((![v1185, v1178] : Fin 2 → IVec S16 32) a x).toNat < S4x10368.size a)
theorem k0_idx91_inb : ∀ (v1178 : IVec S16 32) (v1185 : IVec S16 32) (k0_hw91 : k0_chk91 v1178 v1185), ∀ a x, ((![v1185, v1178] : Fin 2 → IVec S16 32) a x).toNat < S4x10368.size a := fun v1178 v1185 k0_hw91 => k0_hw91

def k0_chk92 (v1178 : IVec S16 32) (v1188 : IVec S16 32) : Prop :=
  (∀ a x, ((![v1188, v1178] : Fin 2 → IVec S16 32) a x).toNat < S4x10368.size a)
theorem k0_idx92_inb : ∀ (v1178 : IVec S16 32) (v1188 : IVec S16 32) (k0_hw92 : k0_chk92 v1178 v1188), ∀ a x, ((![v1188, v1178] : Fin 2 → IVec S16 32) a x).toNat < S4x10368.size a := fun v1178 v1188 k0_hw92 => k0_hw92
def k0_off33 (k0_t3 : Fin k0_t3_loop.trips) : Fin 1 → Nat :=
  let c7686_i32 : BitVec 32 := 7686#32
  let c0_i32_140 : BitVec 32 := 0#32
  let c1_i32_142 : BitVec 32 := 1#32
  let arg21 : BitVec 32 := Scf.iv c0_i32_140 c1_i32_142 k0_t3
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk93 (v1195 : IVec S16 32) (v1196 : IVec S16 32) : Prop :=
  (∀ a x, ((![v1196, v1195] : Fin 2 → IVec S16 32) a x).toNat < S4x10368.size a)
theorem k0_idx93_inb : ∀ (v1195 : IVec S16 32) (v1196 : IVec S16 32) (k0_hw93 : k0_chk93 v1195 v1196), ∀ a x, ((![v1196, v1195] : Fin 2 → IVec S16 32) a x).toNat < S4x10368.size a := fun v1195 v1196 k0_hw93 => k0_hw93

def k0_chk94 (v1195 : IVec S16 32) (v1199 : IVec S16 32) : Prop :=
  (∀ a x, ((![v1199, v1195] : Fin 2 → IVec S16 32) a x).toNat < S4x10368.size a)
theorem k0_idx94_inb : ∀ (v1195 : IVec S16 32) (v1199 : IVec S16 32) (k0_hw94 : k0_chk94 v1195 v1199), ∀ a x, ((![v1199, v1195] : Fin 2 → IVec S16 32) a x).toNat < S4x10368.size a := fun v1195 v1199 k0_hw94 => k0_hw94

def k0_chk95 (v1195 : IVec S16 32) (v1202 : IVec S16 32) : Prop :=
  (∀ a x, ((![v1202, v1195] : Fin 2 → IVec S16 32) a x).toNat < S4x10368.size a)
theorem k0_idx95_inb : ∀ (v1195 : IVec S16 32) (v1202 : IVec S16 32) (k0_hw95 : k0_chk95 v1195 v1202), ∀ a x, ((![v1202, v1195] : Fin 2 → IVec S16 32) a x).toNat < S4x10368.size a := fun v1195 v1202 k0_hw95 => k0_hw95

def k0_chk96 (v1195 : IVec S16 32) (v1205 : IVec S16 32) : Prop :=
  (∀ a x, ((![v1205, v1195] : Fin 2 → IVec S16 32) a x).toNat < S4x10368.size a)
theorem k0_idx96_inb : ∀ (v1195 : IVec S16 32) (v1205 : IVec S16 32) (k0_hw96 : k0_chk96 v1195 v1205), ∀ a x, ((![v1205, v1195] : Fin 2 → IVec S16 32) a x).toNat < S4x10368.size a := fun v1195 v1205 k0_hw96 => k0_hw96
def k0_off34 (k0_t3 : Fin k0_t3_loop.trips) : Fin 1 → Nat :=
  let c10248_i32 : BitVec 32 := 10248#32
  let c0_i32_140 : BitVec 32 := 0#32
  let c1_i32_142 : BitVec 32 := 1#32
  let arg21 : BitVec 32 := Scf.iv c0_i32_140 c1_i32_142 k0_t3
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk97 (v1212 : IVec S16 32) (v1213 : IVec S16 32) : Prop :=
  (∀ a x, ((![v1213, v1212] : Fin 2 → IVec S16 32) a x).toNat < S4x10368.size a)
theorem k0_idx97_inb : ∀ (v1212 : IVec S16 32) (v1213 : IVec S16 32) (k0_hw97 : k0_chk97 v1212 v1213), ∀ a x, ((![v1213, v1212] : Fin 2 → IVec S16 32) a x).toNat < S4x10368.size a := fun v1212 v1213 k0_hw97 => k0_hw97

def k0_chk98 (v1212 : IVec S16 32) (v1216 : IVec S16 32) : Prop :=
  (∀ a x, ((![v1216, v1212] : Fin 2 → IVec S16 32) a x).toNat < S4x10368.size a)
theorem k0_idx98_inb : ∀ (v1212 : IVec S16 32) (v1216 : IVec S16 32) (k0_hw98 : k0_chk98 v1212 v1216), ∀ a x, ((![v1216, v1212] : Fin 2 → IVec S16 32) a x).toNat < S4x10368.size a := fun v1212 v1216 k0_hw98 => k0_hw98

def k0_chk99 (v1212 : IVec S16 32) (v1219 : IVec S16 32) : Prop :=
  (∀ a x, ((![v1219, v1212] : Fin 2 → IVec S16 32) a x).toNat < S4x10368.size a)
theorem k0_idx99_inb : ∀ (v1212 : IVec S16 32) (v1219 : IVec S16 32) (k0_hw99 : k0_chk99 v1212 v1219), ∀ a x, ((![v1219, v1212] : Fin 2 → IVec S16 32) a x).toNat < S4x10368.size a := fun v1212 v1219 k0_hw99 => k0_hw99

def k0_chk100 (v1212 : IVec S16 32) (v1222 : IVec S16 32) : Prop :=
  (∀ a x, ((![v1222, v1212] : Fin 2 → IVec S16 32) a x).toNat < S4x10368.size a)
theorem k0_idx100_inb : ∀ (v1212 : IVec S16 32) (v1222 : IVec S16 32) (k0_hw100 : k0_chk100 v1212 v1222), ∀ a x, ((![v1222, v1212] : Fin 2 → IVec S16 32) a x).toNat < S4x10368.size a := fun v1212 v1222 k0_hw100 => k0_hw100
def k0_off35 (k0_t3 : Fin k0_t3_loop.trips) : Fin 1 → Nat :=
  let c12810_i32 : BitVec 32 := 12810#32
  let c0_i32_140 : BitVec 32 := 0#32
  let c1_i32_142 : BitVec 32 := 1#32
  let arg21 : BitVec 32 := Scf.iv c0_i32_140 c1_i32_142 k0_t3
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk101 (v1229 : IVec S16 32) (v1230 : IVec S16 32) : Prop :=
  (∀ a x, ((![v1230, v1229] : Fin 2 → IVec S16 32) a x).toNat < S4x10368.size a)
theorem k0_idx101_inb : ∀ (v1229 : IVec S16 32) (v1230 : IVec S16 32) (k0_hw101 : k0_chk101 v1229 v1230), ∀ a x, ((![v1230, v1229] : Fin 2 → IVec S16 32) a x).toNat < S4x10368.size a := fun v1229 v1230 k0_hw101 => k0_hw101

def k0_chk102 (v1229 : IVec S16 32) (v1233 : IVec S16 32) : Prop :=
  (∀ a x, ((![v1233, v1229] : Fin 2 → IVec S16 32) a x).toNat < S4x10368.size a)
theorem k0_idx102_inb : ∀ (v1229 : IVec S16 32) (v1233 : IVec S16 32) (k0_hw102 : k0_chk102 v1229 v1233), ∀ a x, ((![v1233, v1229] : Fin 2 → IVec S16 32) a x).toNat < S4x10368.size a := fun v1229 v1233 k0_hw102 => k0_hw102

def k0_chk103 (v1229 : IVec S16 32) (v1236 : IVec S16 32) : Prop :=
  (∀ a x, ((![v1236, v1229] : Fin 2 → IVec S16 32) a x).toNat < S4x10368.size a)
theorem k0_idx103_inb : ∀ (v1229 : IVec S16 32) (v1236 : IVec S16 32) (k0_hw103 : k0_chk103 v1229 v1236), ∀ a x, ((![v1236, v1229] : Fin 2 → IVec S16 32) a x).toNat < S4x10368.size a := fun v1229 v1236 k0_hw103 => k0_hw103

def k0_chk104 (v1229 : IVec S16 32) (v1239 : IVec S16 32) : Prop :=
  (∀ a x, ((![v1239, v1229] : Fin 2 → IVec S16 32) a x).toNat < S4x10368.size a)
theorem k0_idx104_inb : ∀ (v1229 : IVec S16 32) (v1239 : IVec S16 32) (k0_hw104 : k0_chk104 v1229 v1239), ∀ a x, ((![v1239, v1229] : Fin 2 → IVec S16 32) a x).toNat < S4x10368.size a := fun v1229 v1239 k0_hw104 => k0_hw104
def k0_off36 (k0_t3 : Fin k0_t3_loop.trips) : Fin 1 → Nat :=
  let c15372_i32 : BitVec 32 := 15372#32
  let c0_i32_140 : BitVec 32 := 0#32
  let c1_i32_142 : BitVec 32 := 1#32
  let arg21 : BitVec 32 := Scf.iv c0_i32_140 c1_i32_142 k0_t3
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk105 (v1246 : IVec S16 32) (v1247 : IVec S16 32) : Prop :=
  (∀ a x, ((![v1247, v1246] : Fin 2 → IVec S16 32) a x).toNat < S4x10368.size a)
theorem k0_idx105_inb : ∀ (v1246 : IVec S16 32) (v1247 : IVec S16 32) (k0_hw105 : k0_chk105 v1246 v1247), ∀ a x, ((![v1247, v1246] : Fin 2 → IVec S16 32) a x).toNat < S4x10368.size a := fun v1246 v1247 k0_hw105 => k0_hw105

def k0_chk106 (v1246 : IVec S16 32) (v1250 : IVec S16 32) : Prop :=
  (∀ a x, ((![v1250, v1246] : Fin 2 → IVec S16 32) a x).toNat < S4x10368.size a)
theorem k0_idx106_inb : ∀ (v1246 : IVec S16 32) (v1250 : IVec S16 32) (k0_hw106 : k0_chk106 v1246 v1250), ∀ a x, ((![v1250, v1246] : Fin 2 → IVec S16 32) a x).toNat < S4x10368.size a := fun v1246 v1250 k0_hw106 => k0_hw106

def k0_chk107 (v1246 : IVec S16 32) (v1253 : IVec S16 32) : Prop :=
  (∀ a x, ((![v1253, v1246] : Fin 2 → IVec S16 32) a x).toNat < S4x10368.size a)
theorem k0_idx107_inb : ∀ (v1246 : IVec S16 32) (v1253 : IVec S16 32) (k0_hw107 : k0_chk107 v1246 v1253), ∀ a x, ((![v1253, v1246] : Fin 2 → IVec S16 32) a x).toNat < S4x10368.size a := fun v1246 v1253 k0_hw107 => k0_hw107

def k0_chk108 (v1246 : IVec S16 32) (v1256 : IVec S16 32) : Prop :=
  (∀ a x, ((![v1256, v1246] : Fin 2 → IVec S16 32) a x).toNat < S4x10368.size a)
theorem k0_idx108_inb : ∀ (v1246 : IVec S16 32) (v1256 : IVec S16 32) (k0_hw108 : k0_chk108 v1246 v1256), ∀ a x, ((![v1256, v1246] : Fin 2 → IVec S16 32) a x).toNat < S4x10368.size a := fun v1246 v1256 k0_hw108 => k0_hw108

def k0_chk109 (v1135 : IVec S16 32) (v1259 : IVec S16 32) : Prop :=
  (∀ a x, ((![v1259, v1135] : Fin 2 → IVec S16 32) a x).toNat < S4x2572.size a)
theorem k0_idx109_inb : ∀ (v1135 : IVec S16 32) (v1259 : IVec S16 32) (k0_hw109 : k0_chk109 v1135 v1259), ∀ a x, ((![v1259, v1135] : Fin 2 → IVec S16 32) a x).toNat < S4x2572.size a := fun v1135 v1259 k0_hw109 => k0_hw109

def k0_chk110 (v1135 : IVec S16 32) (v1262 : IVec S16 32) : Prop :=
  (∀ a x, ((![v1262, v1135] : Fin 2 → IVec S16 32) a x).toNat < S4x2572.size a)
theorem k0_idx110_inb : ∀ (v1135 : IVec S16 32) (v1262 : IVec S16 32) (k0_hw110 : k0_chk110 v1135 v1262), ∀ a x, ((![v1262, v1135] : Fin 2 → IVec S16 32) a x).toNat < S4x2572.size a := fun v1135 v1262 k0_hw110 => k0_hw110

def k0_chk111 (v1135 : IVec S16 32) (v1265 : IVec S16 32) : Prop :=
  (∀ a x, ((![v1265, v1135] : Fin 2 → IVec S16 32) a x).toNat < S4x2572.size a)
theorem k0_idx111_inb : ∀ (v1135 : IVec S16 32) (v1265 : IVec S16 32) (k0_hw111 : k0_chk111 v1135 v1265), ∀ a x, ((![v1265, v1135] : Fin 2 → IVec S16 32) a x).toNat < S4x2572.size a := fun v1135 v1265 k0_hw111 => k0_hw111

def k0_chk112 (v1135 : IVec S16 32) (v1268 : IVec S16 32) : Prop :=
  (∀ a x, ((![v1268, v1135] : Fin 2 → IVec S16 32) a x).toNat < S4x2572.size a)
theorem k0_idx112_inb : ∀ (v1135 : IVec S16 32) (v1268 : IVec S16 32) (k0_hw112 : k0_chk112 v1135 v1268), ∀ a x, ((![v1268, v1135] : Fin 2 → IVec S16 32) a x).toNat < S4x2572.size a := fun v1135 v1268 k0_hw112 => k0_hw112

def k0_chk113 (v137 : IVec S16 32) (v138 : IVec S16 32) : Prop :=
  (∀ a x, ((![v138, v137] : Fin 2 → IVec S16 32) a x).toNat < S4x2572.size a)
theorem k0_idx113_inb : ∀ (v137 : IVec S16 32) (v138 : IVec S16 32) (k0_hw113 : k0_chk113 v137 v138), ∀ a x, ((![v138, v137] : Fin 2 → IVec S16 32) a x).toNat < S4x2572.size a := fun v137 v138 k0_hw113 => k0_hw113

def k0_chk114 (v137 : IVec S16 32) (v140 : IVec S16 32) : Prop :=
  (∀ a x, ((![v140, v137] : Fin 2 → IVec S16 32) a x).toNat < S4x2572.size a)
theorem k0_idx114_inb : ∀ (v137 : IVec S16 32) (v140 : IVec S16 32) (k0_hw114 : k0_chk114 v137 v140), ∀ a x, ((![v140, v137] : Fin 2 → IVec S16 32) a x).toNat < S4x2572.size a := fun v137 v140 k0_hw114 => k0_hw114

def k0_chk115 (v137 : IVec S16 32) (v142 : IVec S16 32) : Prop :=
  (∀ a x, ((![v142, v137] : Fin 2 → IVec S16 32) a x).toNat < S4x2572.size a)
theorem k0_idx115_inb : ∀ (v137 : IVec S16 32) (v142 : IVec S16 32) (k0_hw115 : k0_chk115 v137 v142), ∀ a x, ((![v142, v137] : Fin 2 → IVec S16 32) a x).toNat < S4x2572.size a := fun v137 v142 k0_hw115 => k0_hw115

def k0_chk116 (v137 : IVec S16 32) (v144 : IVec S16 32) : Prop :=
  (∀ a x, ((![v144, v137] : Fin 2 → IVec S16 32) a x).toNat < S4x2572.size a)
theorem k0_idx116_inb : ∀ (v137 : IVec S16 32) (v144 : IVec S16 32) (k0_hw116 : k0_chk116 v137 v144), ∀ a x, ((![v144, v137] : Fin 2 → IVec S16 32) a x).toNat < S4x2572.size a := fun v137 v144 k0_hw116 => k0_hw116
def k0_off37 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_101 : BitVec 32 := 4#32
  let v101 : BitVec 32 := Scalar.muli v1 c4_i32_101
  let c0_i32_102 : BitVec 32 := 0#32
  let v102 : BitVec 32 := Scalar.addi v101 c0_i32_102
  let c4_i32_103 : BitVec 32 := 4#32
  let v103 : BitVec 32 := Scalar.muli v102 c4_i32_103
  let v104 : BitVec 32 := v103
  let c5120_i32_152 : BitVec 32 := 5120#32
  ![v104.toNat, 5120]
def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_156 : BitVec 32 := 4#32
  let v150 : BitVec 32 := Scalar.muli v1 c4_i32_156
  let c0_i32_157 : BitVec 32 := 0#32
  let v151 : BitVec 32 := Scalar.addi v150 c0_i32_157
  let c4_i32_158 : BitVec 32 := 4#32
  let v152 : BitVec 32 := Scalar.muli v151 c4_i32_158
  v152
def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_159 : BitVec 32 := 4#32
  let v154 : BitVec 32 := Scalar.muli v1 c4_i32_159
  let c0_i32_160 : BitVec 32 := 0#32
  let v155 : BitVec 32 := Scalar.addi v154 c0_i32_160
  let c4_i32_161 : BitVec 32 := 4#32
  let v156 : BitVec 32 := Scalar.muli v155 c4_i32_161
  v156
def k0_off38 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_159 : BitVec 32 := 4#32
  let v154 : BitVec 32 := Scalar.muli v1 c4_i32_159
  let c0_i32_160 : BitVec 32 := 0#32
  let v155 : BitVec 32 := Scalar.addi v154 c0_i32_160
  let c4_i32_161 : BitVec 32 := 4#32
  let v156 : BitVec 32 := Scalar.muli v155 c4_i32_161
  let v157 : BitVec 32 := v156
  let c40960_i32 : BitVec 32 := 40960#32
  ![v157.toNat, 40960]
def k0_off39 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_159 : BitVec 32 := 4#32
  let v154 : BitVec 32 := Scalar.muli v1 c4_i32_159
  let c0_i32_160 : BitVec 32 := 0#32
  let v155 : BitVec 32 := Scalar.addi v154 c0_i32_160
  let c4_i32_161 : BitVec 32 := 4#32
  let v156 : BitVec 32 := Scalar.muli v155 c4_i32_161
  let v157 : BitVec 32 := v156
  let c46080_i32 : BitVec 32 := 46080#32
  ![v157.toNat, 46080]
def k0_off40 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_52 : BitVec 32 := 4#32
  let v56 : BitVec 32 := Scalar.muli v1 c4_i32_52
  let c0_i32_53 : BitVec 32 := 0#32
  let v57 : BitVec 32 := Scalar.addi v56 c0_i32_53
  let c4_i32_54 : BitVec 32 := 4#32
  let v58 : BitVec 32 := Scalar.muli v57 c4_i32_54
  let v59 : BitVec 32 := v58
  let c2560_i32_174 : BitVec 32 := 2560#32
  ![v59.toNat, 2560]

def k0_chk117 (v2 : IVec S16 32) (v170 : IVec S16 32) : Prop :=
  (∀ a x, ((![v170, v2] : Fin 2 → IVec S16 32) a x).toNat < S4x2572.size a)
theorem k0_idx117_inb : ∀ (v2 : IVec S16 32) (v170 : IVec S16 32) (k0_hw117 : k0_chk117 v2 v170), ∀ a x, ((![v170, v2] : Fin 2 → IVec S16 32) a x).toNat < S4x2572.size a := fun v2 v170 k0_hw117 => k0_hw117

def k0_chk118 (v2 : IVec S16 32) (v171 : IVec S16 32) : Prop :=
  (∀ a x, ((![v171, v2] : Fin 2 → IVec S16 32) a x).toNat < S4x2572.size a)
theorem k0_idx118_inb : ∀ (v2 : IVec S16 32) (v171 : IVec S16 32) (k0_hw118 : k0_chk118 v2 v171), ∀ a x, ((![v171, v2] : Fin 2 → IVec S16 32) a x).toNat < S4x2572.size a := fun v2 v171 k0_hw118 => k0_hw118

def k0_chk119 (v2 : IVec S16 32) (v172 : IVec S16 32) : Prop :=
  (∀ a x, ((![v172, v2] : Fin 2 → IVec S16 32) a x).toNat < S4x2572.size a)
theorem k0_idx119_inb : ∀ (v2 : IVec S16 32) (v172 : IVec S16 32) (k0_hw119 : k0_chk119 v2 v172), ∀ a x, ((![v172, v2] : Fin 2 → IVec S16 32) a x).toNat < S4x2572.size a := fun v2 v172 k0_hw119 => k0_hw119

def k0_chk120 (v2 : IVec S16 32) (v173 : IVec S16 32) : Prop :=
  (∀ a x, ((![v173, v2] : Fin 2 → IVec S16 32) a x).toNat < S4x2572.size a)
theorem k0_idx120_inb : ∀ (v2 : IVec S16 32) (v173 : IVec S16 32) (k0_hw120 : k0_chk120 v2 v173), ∀ a x, ((![v173, v2] : Fin 2 → IVec S16 32) a x).toNat < S4x2572.size a := fun v2 v173 k0_hw120 => k0_hw120
def k0_off41 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_104 : BitVec 32 := 4#32
  let v105 : BitVec 32 := Scalar.muli v1 c4_i32_104
  let c0_i32_105 : BitVec 32 := 0#32
  let v106 : BitVec 32 := Scalar.addi v105 c0_i32_105
  let c4_i32_106 : BitVec 32 := 4#32
  let v107 : BitVec 32 := Scalar.muli v106 c4_i32_106
  let v108 : BitVec 32 := v107
  let c30720_i32_184 : BitVec 32 := 30720#32
  ![v108.toNat, 30720]
def k0_off42 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_104 : BitVec 32 := 4#32
  let v105 : BitVec 32 := Scalar.muli v1 c4_i32_104
  let c0_i32_105 : BitVec 32 := 0#32
  let v106 : BitVec 32 := Scalar.addi v105 c0_i32_105
  let c4_i32_106 : BitVec 32 := 4#32
  let v107 : BitVec 32 := Scalar.muli v106 c4_i32_106
  let v108 : BitVec 32 := v107
  let c35840_i32_190 : BitVec 32 := 35840#32
  ![v108.toNat, 35840]
@[reducible] def k0_t4_loop : Scf.Loop 32 :=
  let c0_i32_195 : BitVec 32 := 0#32
  let c161_i32_196 : BitVec 32 := 161#32
  let v182 : BitVec 32 := Scalar.addi c0_i32_195 c161_i32_196
  let c1_i32_197 : BitVec 32 := 1#32
  ⟨c0_i32_195, v182, c1_i32_197⟩
def k0_off43 (k0_t4 : Fin k0_t4_loop.trips) : Fin 1 → Nat :=
  let c0_i32_1327 : BitVec 32 := 0#32
  let c0_i32_195 : BitVec 32 := 0#32
  let c1_i32_197 : BitVec 32 := 1#32
  let arg21 : BitVec 32 := Scf.iv c0_i32_195 c1_i32_197 k0_t4
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1327 v1132
  let v1141 : Index := Scalar.indexCast v1140
  ![v1141.toNat]

def k0_chk121 (v1144 : IVec S16 32) (v1145 : IVec S16 32) : Prop :=
  (∀ a x, ((![v1145, v1144] : Fin 2 → IVec S16 32) a x).toNat < S4x10368.size a)
theorem k0_idx121_inb : ∀ (v1144 : IVec S16 32) (v1145 : IVec S16 32) (k0_hw121 : k0_chk121 v1144 v1145), ∀ a x, ((![v1145, v1144] : Fin 2 → IVec S16 32) a x).toNat < S4x10368.size a := fun v1144 v1145 k0_hw121 => k0_hw121

def k0_chk122 (v1144 : IVec S16 32) (v1148 : IVec S16 32) : Prop :=
  (∀ a x, ((![v1148, v1144] : Fin 2 → IVec S16 32) a x).toNat < S4x10368.size a)
theorem k0_idx122_inb : ∀ (v1144 : IVec S16 32) (v1148 : IVec S16 32) (k0_hw122 : k0_chk122 v1144 v1148), ∀ a x, ((![v1148, v1144] : Fin 2 → IVec S16 32) a x).toNat < S4x10368.size a := fun v1144 v1148 k0_hw122 => k0_hw122

def k0_chk123 (v1144 : IVec S16 32) (v1151 : IVec S16 32) : Prop :=
  (∀ a x, ((![v1151, v1144] : Fin 2 → IVec S16 32) a x).toNat < S4x10368.size a)
theorem k0_idx123_inb : ∀ (v1144 : IVec S16 32) (v1151 : IVec S16 32) (k0_hw123 : k0_chk123 v1144 v1151), ∀ a x, ((![v1151, v1144] : Fin 2 → IVec S16 32) a x).toNat < S4x10368.size a := fun v1144 v1151 k0_hw123 => k0_hw123

def k0_chk124 (v1144 : IVec S16 32) (v1154 : IVec S16 32) : Prop :=
  (∀ a x, ((![v1154, v1144] : Fin 2 → IVec S16 32) a x).toNat < S4x10368.size a)
theorem k0_idx124_inb : ∀ (v1144 : IVec S16 32) (v1154 : IVec S16 32) (k0_hw124 : k0_chk124 v1144 v1154), ∀ a x, ((![v1154, v1144] : Fin 2 → IVec S16 32) a x).toNat < S4x10368.size a := fun v1144 v1154 k0_hw124 => k0_hw124
def k0_off44 (k0_t4 : Fin k0_t4_loop.trips) : Fin 1 → Nat :=
  let c2562_i32 : BitVec 32 := 2562#32
  let c0_i32_195 : BitVec 32 := 0#32
  let c1_i32_197 : BitVec 32 := 1#32
  let arg21 : BitVec 32 := Scf.iv c0_i32_195 c1_i32_197 k0_t4
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk125 (v1161 : IVec S16 32) (v1162 : IVec S16 32) : Prop :=
  (∀ a x, ((![v1162, v1161] : Fin 2 → IVec S16 32) a x).toNat < S4x10368.size a)
theorem k0_idx125_inb : ∀ (v1161 : IVec S16 32) (v1162 : IVec S16 32) (k0_hw125 : k0_chk125 v1161 v1162), ∀ a x, ((![v1162, v1161] : Fin 2 → IVec S16 32) a x).toNat < S4x10368.size a := fun v1161 v1162 k0_hw125 => k0_hw125

def k0_chk126 (v1161 : IVec S16 32) (v1165 : IVec S16 32) : Prop :=
  (∀ a x, ((![v1165, v1161] : Fin 2 → IVec S16 32) a x).toNat < S4x10368.size a)
theorem k0_idx126_inb : ∀ (v1161 : IVec S16 32) (v1165 : IVec S16 32) (k0_hw126 : k0_chk126 v1161 v1165), ∀ a x, ((![v1165, v1161] : Fin 2 → IVec S16 32) a x).toNat < S4x10368.size a := fun v1161 v1165 k0_hw126 => k0_hw126

def k0_chk127 (v1161 : IVec S16 32) (v1168 : IVec S16 32) : Prop :=
  (∀ a x, ((![v1168, v1161] : Fin 2 → IVec S16 32) a x).toNat < S4x10368.size a)
theorem k0_idx127_inb : ∀ (v1161 : IVec S16 32) (v1168 : IVec S16 32) (k0_hw127 : k0_chk127 v1161 v1168), ∀ a x, ((![v1168, v1161] : Fin 2 → IVec S16 32) a x).toNat < S4x10368.size a := fun v1161 v1168 k0_hw127 => k0_hw127

def k0_chk128 (v1161 : IVec S16 32) (v1171 : IVec S16 32) : Prop :=
  (∀ a x, ((![v1171, v1161] : Fin 2 → IVec S16 32) a x).toNat < S4x10368.size a)
theorem k0_idx128_inb : ∀ (v1161 : IVec S16 32) (v1171 : IVec S16 32) (k0_hw128 : k0_chk128 v1161 v1171), ∀ a x, ((![v1171, v1161] : Fin 2 → IVec S16 32) a x).toNat < S4x10368.size a := fun v1161 v1171 k0_hw128 => k0_hw128
def k0_off45 (k0_t4 : Fin k0_t4_loop.trips) : Fin 1 → Nat :=
  let c5124_i32 : BitVec 32 := 5124#32
  let c0_i32_195 : BitVec 32 := 0#32
  let c1_i32_197 : BitVec 32 := 1#32
  let arg21 : BitVec 32 := Scf.iv c0_i32_195 c1_i32_197 k0_t4
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk129 (v1178 : IVec S16 32) (v1179 : IVec S16 32) : Prop :=
  (∀ a x, ((![v1179, v1178] : Fin 2 → IVec S16 32) a x).toNat < S4x10368.size a)
theorem k0_idx129_inb : ∀ (v1178 : IVec S16 32) (v1179 : IVec S16 32) (k0_hw129 : k0_chk129 v1178 v1179), ∀ a x, ((![v1179, v1178] : Fin 2 → IVec S16 32) a x).toNat < S4x10368.size a := fun v1178 v1179 k0_hw129 => k0_hw129

def k0_chk130 (v1178 : IVec S16 32) (v1182 : IVec S16 32) : Prop :=
  (∀ a x, ((![v1182, v1178] : Fin 2 → IVec S16 32) a x).toNat < S4x10368.size a)
theorem k0_idx130_inb : ∀ (v1178 : IVec S16 32) (v1182 : IVec S16 32) (k0_hw130 : k0_chk130 v1178 v1182), ∀ a x, ((![v1182, v1178] : Fin 2 → IVec S16 32) a x).toNat < S4x10368.size a := fun v1178 v1182 k0_hw130 => k0_hw130

def k0_chk131 (v1178 : IVec S16 32) (v1185 : IVec S16 32) : Prop :=
  (∀ a x, ((![v1185, v1178] : Fin 2 → IVec S16 32) a x).toNat < S4x10368.size a)
theorem k0_idx131_inb : ∀ (v1178 : IVec S16 32) (v1185 : IVec S16 32) (k0_hw131 : k0_chk131 v1178 v1185), ∀ a x, ((![v1185, v1178] : Fin 2 → IVec S16 32) a x).toNat < S4x10368.size a := fun v1178 v1185 k0_hw131 => k0_hw131

def k0_chk132 (v1178 : IVec S16 32) (v1188 : IVec S16 32) : Prop :=
  (∀ a x, ((![v1188, v1178] : Fin 2 → IVec S16 32) a x).toNat < S4x10368.size a)
theorem k0_idx132_inb : ∀ (v1178 : IVec S16 32) (v1188 : IVec S16 32) (k0_hw132 : k0_chk132 v1178 v1188), ∀ a x, ((![v1188, v1178] : Fin 2 → IVec S16 32) a x).toNat < S4x10368.size a := fun v1178 v1188 k0_hw132 => k0_hw132
def k0_off46 (k0_t4 : Fin k0_t4_loop.trips) : Fin 1 → Nat :=
  let c7686_i32 : BitVec 32 := 7686#32
  let c0_i32_195 : BitVec 32 := 0#32
  let c1_i32_197 : BitVec 32 := 1#32
  let arg21 : BitVec 32 := Scf.iv c0_i32_195 c1_i32_197 k0_t4
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk133 (v1195 : IVec S16 32) (v1196 : IVec S16 32) : Prop :=
  (∀ a x, ((![v1196, v1195] : Fin 2 → IVec S16 32) a x).toNat < S4x10368.size a)
theorem k0_idx133_inb : ∀ (v1195 : IVec S16 32) (v1196 : IVec S16 32) (k0_hw133 : k0_chk133 v1195 v1196), ∀ a x, ((![v1196, v1195] : Fin 2 → IVec S16 32) a x).toNat < S4x10368.size a := fun v1195 v1196 k0_hw133 => k0_hw133

def k0_chk134 (v1195 : IVec S16 32) (v1199 : IVec S16 32) : Prop :=
  (∀ a x, ((![v1199, v1195] : Fin 2 → IVec S16 32) a x).toNat < S4x10368.size a)
theorem k0_idx134_inb : ∀ (v1195 : IVec S16 32) (v1199 : IVec S16 32) (k0_hw134 : k0_chk134 v1195 v1199), ∀ a x, ((![v1199, v1195] : Fin 2 → IVec S16 32) a x).toNat < S4x10368.size a := fun v1195 v1199 k0_hw134 => k0_hw134

def k0_chk135 (v1195 : IVec S16 32) (v1202 : IVec S16 32) : Prop :=
  (∀ a x, ((![v1202, v1195] : Fin 2 → IVec S16 32) a x).toNat < S4x10368.size a)
theorem k0_idx135_inb : ∀ (v1195 : IVec S16 32) (v1202 : IVec S16 32) (k0_hw135 : k0_chk135 v1195 v1202), ∀ a x, ((![v1202, v1195] : Fin 2 → IVec S16 32) a x).toNat < S4x10368.size a := fun v1195 v1202 k0_hw135 => k0_hw135

def k0_chk136 (v1195 : IVec S16 32) (v1205 : IVec S16 32) : Prop :=
  (∀ a x, ((![v1205, v1195] : Fin 2 → IVec S16 32) a x).toNat < S4x10368.size a)
theorem k0_idx136_inb : ∀ (v1195 : IVec S16 32) (v1205 : IVec S16 32) (k0_hw136 : k0_chk136 v1195 v1205), ∀ a x, ((![v1205, v1195] : Fin 2 → IVec S16 32) a x).toNat < S4x10368.size a := fun v1195 v1205 k0_hw136 => k0_hw136
def k0_off47 (k0_t4 : Fin k0_t4_loop.trips) : Fin 1 → Nat :=
  let c10248_i32 : BitVec 32 := 10248#32
  let c0_i32_195 : BitVec 32 := 0#32
  let c1_i32_197 : BitVec 32 := 1#32
  let arg21 : BitVec 32 := Scf.iv c0_i32_195 c1_i32_197 k0_t4
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk137 (v1212 : IVec S16 32) (v1213 : IVec S16 32) : Prop :=
  (∀ a x, ((![v1213, v1212] : Fin 2 → IVec S16 32) a x).toNat < S4x10368.size a)
theorem k0_idx137_inb : ∀ (v1212 : IVec S16 32) (v1213 : IVec S16 32) (k0_hw137 : k0_chk137 v1212 v1213), ∀ a x, ((![v1213, v1212] : Fin 2 → IVec S16 32) a x).toNat < S4x10368.size a := fun v1212 v1213 k0_hw137 => k0_hw137

def k0_chk138 (v1212 : IVec S16 32) (v1216 : IVec S16 32) : Prop :=
  (∀ a x, ((![v1216, v1212] : Fin 2 → IVec S16 32) a x).toNat < S4x10368.size a)
theorem k0_idx138_inb : ∀ (v1212 : IVec S16 32) (v1216 : IVec S16 32) (k0_hw138 : k0_chk138 v1212 v1216), ∀ a x, ((![v1216, v1212] : Fin 2 → IVec S16 32) a x).toNat < S4x10368.size a := fun v1212 v1216 k0_hw138 => k0_hw138

def k0_chk139 (v1212 : IVec S16 32) (v1219 : IVec S16 32) : Prop :=
  (∀ a x, ((![v1219, v1212] : Fin 2 → IVec S16 32) a x).toNat < S4x10368.size a)
theorem k0_idx139_inb : ∀ (v1212 : IVec S16 32) (v1219 : IVec S16 32) (k0_hw139 : k0_chk139 v1212 v1219), ∀ a x, ((![v1219, v1212] : Fin 2 → IVec S16 32) a x).toNat < S4x10368.size a := fun v1212 v1219 k0_hw139 => k0_hw139

def k0_chk140 (v1212 : IVec S16 32) (v1222 : IVec S16 32) : Prop :=
  (∀ a x, ((![v1222, v1212] : Fin 2 → IVec S16 32) a x).toNat < S4x10368.size a)
theorem k0_idx140_inb : ∀ (v1212 : IVec S16 32) (v1222 : IVec S16 32) (k0_hw140 : k0_chk140 v1212 v1222), ∀ a x, ((![v1222, v1212] : Fin 2 → IVec S16 32) a x).toNat < S4x10368.size a := fun v1212 v1222 k0_hw140 => k0_hw140
def k0_off48 (k0_t4 : Fin k0_t4_loop.trips) : Fin 1 → Nat :=
  let c12810_i32 : BitVec 32 := 12810#32
  let c0_i32_195 : BitVec 32 := 0#32
  let c1_i32_197 : BitVec 32 := 1#32
  let arg21 : BitVec 32 := Scf.iv c0_i32_195 c1_i32_197 k0_t4
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk141 (v1229 : IVec S16 32) (v1230 : IVec S16 32) : Prop :=
  (∀ a x, ((![v1230, v1229] : Fin 2 → IVec S16 32) a x).toNat < S4x10368.size a)
theorem k0_idx141_inb : ∀ (v1229 : IVec S16 32) (v1230 : IVec S16 32) (k0_hw141 : k0_chk141 v1229 v1230), ∀ a x, ((![v1230, v1229] : Fin 2 → IVec S16 32) a x).toNat < S4x10368.size a := fun v1229 v1230 k0_hw141 => k0_hw141

def k0_chk142 (v1229 : IVec S16 32) (v1233 : IVec S16 32) : Prop :=
  (∀ a x, ((![v1233, v1229] : Fin 2 → IVec S16 32) a x).toNat < S4x10368.size a)
theorem k0_idx142_inb : ∀ (v1229 : IVec S16 32) (v1233 : IVec S16 32) (k0_hw142 : k0_chk142 v1229 v1233), ∀ a x, ((![v1233, v1229] : Fin 2 → IVec S16 32) a x).toNat < S4x10368.size a := fun v1229 v1233 k0_hw142 => k0_hw142

def k0_chk143 (v1229 : IVec S16 32) (v1236 : IVec S16 32) : Prop :=
  (∀ a x, ((![v1236, v1229] : Fin 2 → IVec S16 32) a x).toNat < S4x10368.size a)
theorem k0_idx143_inb : ∀ (v1229 : IVec S16 32) (v1236 : IVec S16 32) (k0_hw143 : k0_chk143 v1229 v1236), ∀ a x, ((![v1236, v1229] : Fin 2 → IVec S16 32) a x).toNat < S4x10368.size a := fun v1229 v1236 k0_hw143 => k0_hw143

def k0_chk144 (v1229 : IVec S16 32) (v1239 : IVec S16 32) : Prop :=
  (∀ a x, ((![v1239, v1229] : Fin 2 → IVec S16 32) a x).toNat < S4x10368.size a)
theorem k0_idx144_inb : ∀ (v1229 : IVec S16 32) (v1239 : IVec S16 32) (k0_hw144 : k0_chk144 v1229 v1239), ∀ a x, ((![v1239, v1229] : Fin 2 → IVec S16 32) a x).toNat < S4x10368.size a := fun v1229 v1239 k0_hw144 => k0_hw144
def k0_off49 (k0_t4 : Fin k0_t4_loop.trips) : Fin 1 → Nat :=
  let c15372_i32 : BitVec 32 := 15372#32
  let c0_i32_195 : BitVec 32 := 0#32
  let c1_i32_197 : BitVec 32 := 1#32
  let arg21 : BitVec 32 := Scf.iv c0_i32_195 c1_i32_197 k0_t4
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk145 (v1246 : IVec S16 32) (v1247 : IVec S16 32) : Prop :=
  (∀ a x, ((![v1247, v1246] : Fin 2 → IVec S16 32) a x).toNat < S4x10368.size a)
theorem k0_idx145_inb : ∀ (v1246 : IVec S16 32) (v1247 : IVec S16 32) (k0_hw145 : k0_chk145 v1246 v1247), ∀ a x, ((![v1247, v1246] : Fin 2 → IVec S16 32) a x).toNat < S4x10368.size a := fun v1246 v1247 k0_hw145 => k0_hw145

def k0_chk146 (v1246 : IVec S16 32) (v1250 : IVec S16 32) : Prop :=
  (∀ a x, ((![v1250, v1246] : Fin 2 → IVec S16 32) a x).toNat < S4x10368.size a)
theorem k0_idx146_inb : ∀ (v1246 : IVec S16 32) (v1250 : IVec S16 32) (k0_hw146 : k0_chk146 v1246 v1250), ∀ a x, ((![v1250, v1246] : Fin 2 → IVec S16 32) a x).toNat < S4x10368.size a := fun v1246 v1250 k0_hw146 => k0_hw146

def k0_chk147 (v1246 : IVec S16 32) (v1253 : IVec S16 32) : Prop :=
  (∀ a x, ((![v1253, v1246] : Fin 2 → IVec S16 32) a x).toNat < S4x10368.size a)
theorem k0_idx147_inb : ∀ (v1246 : IVec S16 32) (v1253 : IVec S16 32) (k0_hw147 : k0_chk147 v1246 v1253), ∀ a x, ((![v1253, v1246] : Fin 2 → IVec S16 32) a x).toNat < S4x10368.size a := fun v1246 v1253 k0_hw147 => k0_hw147

def k0_chk148 (v1246 : IVec S16 32) (v1256 : IVec S16 32) : Prop :=
  (∀ a x, ((![v1256, v1246] : Fin 2 → IVec S16 32) a x).toNat < S4x10368.size a)
theorem k0_idx148_inb : ∀ (v1246 : IVec S16 32) (v1256 : IVec S16 32) (k0_hw148 : k0_chk148 v1246 v1256), ∀ a x, ((![v1256, v1246] : Fin 2 → IVec S16 32) a x).toNat < S4x10368.size a := fun v1246 v1256 k0_hw148 => k0_hw148

def k0_chk149 (v1135 : IVec S16 32) (v1259 : IVec S16 32) : Prop :=
  (∀ a x, ((![v1259, v1135] : Fin 2 → IVec S16 32) a x).toNat < S4x2572.size a)
theorem k0_idx149_inb : ∀ (v1135 : IVec S16 32) (v1259 : IVec S16 32) (k0_hw149 : k0_chk149 v1135 v1259), ∀ a x, ((![v1259, v1135] : Fin 2 → IVec S16 32) a x).toNat < S4x2572.size a := fun v1135 v1259 k0_hw149 => k0_hw149

def k0_chk150 (v1135 : IVec S16 32) (v1262 : IVec S16 32) : Prop :=
  (∀ a x, ((![v1262, v1135] : Fin 2 → IVec S16 32) a x).toNat < S4x2572.size a)
theorem k0_idx150_inb : ∀ (v1135 : IVec S16 32) (v1262 : IVec S16 32) (k0_hw150 : k0_chk150 v1135 v1262), ∀ a x, ((![v1262, v1135] : Fin 2 → IVec S16 32) a x).toNat < S4x2572.size a := fun v1135 v1262 k0_hw150 => k0_hw150

def k0_chk151 (v1135 : IVec S16 32) (v1265 : IVec S16 32) : Prop :=
  (∀ a x, ((![v1265, v1135] : Fin 2 → IVec S16 32) a x).toNat < S4x2572.size a)
theorem k0_idx151_inb : ∀ (v1135 : IVec S16 32) (v1265 : IVec S16 32) (k0_hw151 : k0_chk151 v1135 v1265), ∀ a x, ((![v1265, v1135] : Fin 2 → IVec S16 32) a x).toNat < S4x2572.size a := fun v1135 v1265 k0_hw151 => k0_hw151

def k0_chk152 (v1135 : IVec S16 32) (v1268 : IVec S16 32) : Prop :=
  (∀ a x, ((![v1268, v1135] : Fin 2 → IVec S16 32) a x).toNat < S4x2572.size a)
theorem k0_idx152_inb : ∀ (v1135 : IVec S16 32) (v1268 : IVec S16 32) (k0_hw152 : k0_chk152 v1135 v1268), ∀ a x, ((![v1268, v1135] : Fin 2 → IVec S16 32) a x).toNat < S4x2572.size a := fun v1135 v1268 k0_hw152 => k0_hw152

def k0_chk153 (v186 : IVec S16 32) (v187 : IVec S16 32) : Prop :=
  (∀ a x, ((![v187, v186] : Fin 2 → IVec S16 32) a x).toNat < S4x2572.size a)
theorem k0_idx153_inb : ∀ (v186 : IVec S16 32) (v187 : IVec S16 32) (k0_hw153 : k0_chk153 v186 v187), ∀ a x, ((![v187, v186] : Fin 2 → IVec S16 32) a x).toNat < S4x2572.size a := fun v186 v187 k0_hw153 => k0_hw153

def k0_chk154 (v186 : IVec S16 32) (v189 : IVec S16 32) : Prop :=
  (∀ a x, ((![v189, v186] : Fin 2 → IVec S16 32) a x).toNat < S4x2572.size a)
theorem k0_idx154_inb : ∀ (v186 : IVec S16 32) (v189 : IVec S16 32) (k0_hw154 : k0_chk154 v186 v189), ∀ a x, ((![v189, v186] : Fin 2 → IVec S16 32) a x).toNat < S4x2572.size a := fun v186 v189 k0_hw154 => k0_hw154

def k0_chk155 (v186 : IVec S16 32) (v191 : IVec S16 32) : Prop :=
  (∀ a x, ((![v191, v186] : Fin 2 → IVec S16 32) a x).toNat < S4x2572.size a)
theorem k0_idx155_inb : ∀ (v186 : IVec S16 32) (v191 : IVec S16 32) (k0_hw155 : k0_chk155 v186 v191), ∀ a x, ((![v191, v186] : Fin 2 → IVec S16 32) a x).toNat < S4x2572.size a := fun v186 v191 k0_hw155 => k0_hw155

def k0_chk156 (v186 : IVec S16 32) (v193 : IVec S16 32) : Prop :=
  (∀ a x, ((![v193, v186] : Fin 2 → IVec S16 32) a x).toNat < S4x2572.size a)
theorem k0_idx156_inb : ∀ (v186 : IVec S16 32) (v193 : IVec S16 32) (k0_hw156 : k0_chk156 v186 v193), ∀ a x, ((![v193, v186] : Fin 2 → IVec S16 32) a x).toNat < S4x2572.size a := fun v186 v193 k0_hw156 => k0_hw156
def k0_off50 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_156 : BitVec 32 := 4#32
  let v150 : BitVec 32 := Scalar.muli v1 c4_i32_156
  let c0_i32_157 : BitVec 32 := 0#32
  let v151 : BitVec 32 := Scalar.addi v150 c0_i32_157
  let c4_i32_158 : BitVec 32 := 4#32
  let v152 : BitVec 32 := Scalar.muli v151 c4_i32_158
  let v153 : BitVec 32 := v152
  let c7680_i32 : BitVec 32 := 7680#32
  ![v153.toNat, 7680]
def k0_mult10 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_210 : BitVec 32 := 4#32
  let v199 : BitVec 32 := Scalar.muli v1 c4_i32_210
  let c0_i32_211 : BitVec 32 := 0#32
  let v200 : BitVec 32 := Scalar.addi v199 c0_i32_211
  let c4_i32_212 : BitVec 32 := 4#32
  let v201 : BitVec 32 := Scalar.muli v200 c4_i32_212
  v201
def k0_mult11 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_213 : BitVec 32 := 4#32
  let v203 : BitVec 32 := Scalar.muli v1 c4_i32_213
  let c0_i32_214 : BitVec 32 := 0#32
  let v204 : BitVec 32 := Scalar.addi v203 c0_i32_214
  let c4_i32_215 : BitVec 32 := 4#32
  let v205 : BitVec 32 := Scalar.muli v204 c4_i32_215
  v205
def k0_off51 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_213 : BitVec 32 := 4#32
  let v203 : BitVec 32 := Scalar.muli v1 c4_i32_213
  let c0_i32_214 : BitVec 32 := 0#32
  let v204 : BitVec 32 := Scalar.addi v203 c0_i32_214
  let c4_i32_215 : BitVec 32 := 4#32
  let v205 : BitVec 32 := Scalar.muli v204 c4_i32_215
  let v206 : BitVec 32 := v205
  let c51200_i32 : BitVec 32 := 51200#32
  ![v206.toNat, 51200]
def k0_off52 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_213 : BitVec 32 := 4#32
  let v203 : BitVec 32 := Scalar.muli v1 c4_i32_213
  let c0_i32_214 : BitVec 32 := 0#32
  let v204 : BitVec 32 := Scalar.addi v203 c0_i32_214
  let c4_i32_215 : BitVec 32 := 4#32
  let v205 : BitVec 32 := Scalar.muli v204 c4_i32_215
  let v206 : BitVec 32 := v205
  let c56320_i32 : BitVec 32 := 56320#32
  ![v206.toNat, 56320]
def k0_off53 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_213 : BitVec 32 := 4#32
  let v203 : BitVec 32 := Scalar.muli v1 c4_i32_213
  let c0_i32_214 : BitVec 32 := 0#32
  let v204 : BitVec 32 := Scalar.addi v203 c0_i32_214
  let c4_i32_215 : BitVec 32 := 4#32
  let v205 : BitVec 32 := Scalar.muli v204 c4_i32_215
  let v206 : BitVec 32 := v205
  let c0_i32_228 : BitVec 32 := 0#32
  ![v206.toNat, 0]
def k0_off54 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_101 : BitVec 32 := 4#32
  let v101 : BitVec 32 := Scalar.muli v1 c4_i32_101
  let c0_i32_102 : BitVec 32 := 0#32
  let v102 : BitVec 32 := Scalar.addi v101 c0_i32_102
  let c4_i32_103 : BitVec 32 := 4#32
  let v103 : BitVec 32 := Scalar.muli v102 c4_i32_103
  let v104 : BitVec 32 := v103
  let c5120_i32_234 : BitVec 32 := 5120#32
  ![v104.toNat, 5120]

def k0_chk157 (v2 : IVec S16 32) (v223 : IVec S16 32) : Prop :=
  (∀ a x, ((![v223, v2] : Fin 2 → IVec S16 32) a x).toNat < S4x2572.size a)
theorem k0_idx157_inb : ∀ (v2 : IVec S16 32) (v223 : IVec S16 32) (k0_hw157 : k0_chk157 v2 v223), ∀ a x, ((![v223, v2] : Fin 2 → IVec S16 32) a x).toNat < S4x2572.size a := fun v2 v223 k0_hw157 => k0_hw157

def k0_chk158 (v2 : IVec S16 32) (v224 : IVec S16 32) : Prop :=
  (∀ a x, ((![v224, v2] : Fin 2 → IVec S16 32) a x).toNat < S4x2572.size a)
theorem k0_idx158_inb : ∀ (v2 : IVec S16 32) (v224 : IVec S16 32) (k0_hw158 : k0_chk158 v2 v224), ∀ a x, ((![v224, v2] : Fin 2 → IVec S16 32) a x).toNat < S4x2572.size a := fun v2 v224 k0_hw158 => k0_hw158

def k0_chk159 (v2 : IVec S16 32) (v225 : IVec S16 32) : Prop :=
  (∀ a x, ((![v225, v2] : Fin 2 → IVec S16 32) a x).toNat < S4x2572.size a)
theorem k0_idx159_inb : ∀ (v2 : IVec S16 32) (v225 : IVec S16 32) (k0_hw159 : k0_chk159 v2 v225), ∀ a x, ((![v225, v2] : Fin 2 → IVec S16 32) a x).toNat < S4x2572.size a := fun v2 v225 k0_hw159 => k0_hw159

def k0_chk160 (v2 : IVec S16 32) (v226 : IVec S16 32) : Prop :=
  (∀ a x, ((![v226, v2] : Fin 2 → IVec S16 32) a x).toNat < S4x2572.size a)
theorem k0_idx160_inb : ∀ (v2 : IVec S16 32) (v226 : IVec S16 32) (k0_hw160 : k0_chk160 v2 v226), ∀ a x, ((![v226, v2] : Fin 2 → IVec S16 32) a x).toNat < S4x2572.size a := fun v2 v226 k0_hw160 => k0_hw160
def k0_off55 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_159 : BitVec 32 := 4#32
  let v154 : BitVec 32 := Scalar.muli v1 c4_i32_159
  let c0_i32_160 : BitVec 32 := 0#32
  let v155 : BitVec 32 := Scalar.addi v154 c0_i32_160
  let c4_i32_161 : BitVec 32 := 4#32
  let v156 : BitVec 32 := Scalar.muli v155 c4_i32_161
  let v157 : BitVec 32 := v156
  let c40960_i32_244 : BitVec 32 := 40960#32
  ![v157.toNat, 40960]
def k0_off56 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_159 : BitVec 32 := 4#32
  let v154 : BitVec 32 := Scalar.muli v1 c4_i32_159
  let c0_i32_160 : BitVec 32 := 0#32
  let v155 : BitVec 32 := Scalar.addi v154 c0_i32_160
  let c4_i32_161 : BitVec 32 := 4#32
  let v156 : BitVec 32 := Scalar.muli v155 c4_i32_161
  let v157 : BitVec 32 := v156
  let c46080_i32_250 : BitVec 32 := 46080#32
  ![v157.toNat, 46080]
@[reducible] def k0_t5_loop : Scf.Loop 32 :=
  let c0_i32_255 : BitVec 32 := 0#32
  let c161_i32_256 : BitVec 32 := 161#32
  let v235 : BitVec 32 := Scalar.addi c0_i32_255 c161_i32_256
  let c1_i32_257 : BitVec 32 := 1#32
  ⟨c0_i32_255, v235, c1_i32_257⟩
def k0_off57 (k0_t5 : Fin k0_t5_loop.trips) : Fin 1 → Nat :=
  let c0_i32_1327 : BitVec 32 := 0#32
  let c0_i32_255 : BitVec 32 := 0#32
  let c1_i32_257 : BitVec 32 := 1#32
  let arg21 : BitVec 32 := Scf.iv c0_i32_255 c1_i32_257 k0_t5
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1327 v1132
  let v1141 : Index := Scalar.indexCast v1140
  ![v1141.toNat]

def k0_chk161 (v1144 : IVec S16 32) (v1145 : IVec S16 32) : Prop :=
  (∀ a x, ((![v1145, v1144] : Fin 2 → IVec S16 32) a x).toNat < S4x10368.size a)
theorem k0_idx161_inb : ∀ (v1144 : IVec S16 32) (v1145 : IVec S16 32) (k0_hw161 : k0_chk161 v1144 v1145), ∀ a x, ((![v1145, v1144] : Fin 2 → IVec S16 32) a x).toNat < S4x10368.size a := fun v1144 v1145 k0_hw161 => k0_hw161

def k0_chk162 (v1144 : IVec S16 32) (v1148 : IVec S16 32) : Prop :=
  (∀ a x, ((![v1148, v1144] : Fin 2 → IVec S16 32) a x).toNat < S4x10368.size a)
theorem k0_idx162_inb : ∀ (v1144 : IVec S16 32) (v1148 : IVec S16 32) (k0_hw162 : k0_chk162 v1144 v1148), ∀ a x, ((![v1148, v1144] : Fin 2 → IVec S16 32) a x).toNat < S4x10368.size a := fun v1144 v1148 k0_hw162 => k0_hw162

def k0_chk163 (v1144 : IVec S16 32) (v1151 : IVec S16 32) : Prop :=
  (∀ a x, ((![v1151, v1144] : Fin 2 → IVec S16 32) a x).toNat < S4x10368.size a)
theorem k0_idx163_inb : ∀ (v1144 : IVec S16 32) (v1151 : IVec S16 32) (k0_hw163 : k0_chk163 v1144 v1151), ∀ a x, ((![v1151, v1144] : Fin 2 → IVec S16 32) a x).toNat < S4x10368.size a := fun v1144 v1151 k0_hw163 => k0_hw163

def k0_chk164 (v1144 : IVec S16 32) (v1154 : IVec S16 32) : Prop :=
  (∀ a x, ((![v1154, v1144] : Fin 2 → IVec S16 32) a x).toNat < S4x10368.size a)
theorem k0_idx164_inb : ∀ (v1144 : IVec S16 32) (v1154 : IVec S16 32) (k0_hw164 : k0_chk164 v1144 v1154), ∀ a x, ((![v1154, v1144] : Fin 2 → IVec S16 32) a x).toNat < S4x10368.size a := fun v1144 v1154 k0_hw164 => k0_hw164
def k0_off58 (k0_t5 : Fin k0_t5_loop.trips) : Fin 1 → Nat :=
  let c2562_i32 : BitVec 32 := 2562#32
  let c0_i32_255 : BitVec 32 := 0#32
  let c1_i32_257 : BitVec 32 := 1#32
  let arg21 : BitVec 32 := Scf.iv c0_i32_255 c1_i32_257 k0_t5
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk165 (v1161 : IVec S16 32) (v1162 : IVec S16 32) : Prop :=
  (∀ a x, ((![v1162, v1161] : Fin 2 → IVec S16 32) a x).toNat < S4x10368.size a)
theorem k0_idx165_inb : ∀ (v1161 : IVec S16 32) (v1162 : IVec S16 32) (k0_hw165 : k0_chk165 v1161 v1162), ∀ a x, ((![v1162, v1161] : Fin 2 → IVec S16 32) a x).toNat < S4x10368.size a := fun v1161 v1162 k0_hw165 => k0_hw165

def k0_chk166 (v1161 : IVec S16 32) (v1165 : IVec S16 32) : Prop :=
  (∀ a x, ((![v1165, v1161] : Fin 2 → IVec S16 32) a x).toNat < S4x10368.size a)
theorem k0_idx166_inb : ∀ (v1161 : IVec S16 32) (v1165 : IVec S16 32) (k0_hw166 : k0_chk166 v1161 v1165), ∀ a x, ((![v1165, v1161] : Fin 2 → IVec S16 32) a x).toNat < S4x10368.size a := fun v1161 v1165 k0_hw166 => k0_hw166

def k0_chk167 (v1161 : IVec S16 32) (v1168 : IVec S16 32) : Prop :=
  (∀ a x, ((![v1168, v1161] : Fin 2 → IVec S16 32) a x).toNat < S4x10368.size a)
theorem k0_idx167_inb : ∀ (v1161 : IVec S16 32) (v1168 : IVec S16 32) (k0_hw167 : k0_chk167 v1161 v1168), ∀ a x, ((![v1168, v1161] : Fin 2 → IVec S16 32) a x).toNat < S4x10368.size a := fun v1161 v1168 k0_hw167 => k0_hw167

def k0_chk168 (v1161 : IVec S16 32) (v1171 : IVec S16 32) : Prop :=
  (∀ a x, ((![v1171, v1161] : Fin 2 → IVec S16 32) a x).toNat < S4x10368.size a)
theorem k0_idx168_inb : ∀ (v1161 : IVec S16 32) (v1171 : IVec S16 32) (k0_hw168 : k0_chk168 v1161 v1171), ∀ a x, ((![v1171, v1161] : Fin 2 → IVec S16 32) a x).toNat < S4x10368.size a := fun v1161 v1171 k0_hw168 => k0_hw168
def k0_off59 (k0_t5 : Fin k0_t5_loop.trips) : Fin 1 → Nat :=
  let c5124_i32 : BitVec 32 := 5124#32
  let c0_i32_255 : BitVec 32 := 0#32
  let c1_i32_257 : BitVec 32 := 1#32
  let arg21 : BitVec 32 := Scf.iv c0_i32_255 c1_i32_257 k0_t5
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk169 (v1178 : IVec S16 32) (v1179 : IVec S16 32) : Prop :=
  (∀ a x, ((![v1179, v1178] : Fin 2 → IVec S16 32) a x).toNat < S4x10368.size a)
theorem k0_idx169_inb : ∀ (v1178 : IVec S16 32) (v1179 : IVec S16 32) (k0_hw169 : k0_chk169 v1178 v1179), ∀ a x, ((![v1179, v1178] : Fin 2 → IVec S16 32) a x).toNat < S4x10368.size a := fun v1178 v1179 k0_hw169 => k0_hw169

def k0_chk170 (v1178 : IVec S16 32) (v1182 : IVec S16 32) : Prop :=
  (∀ a x, ((![v1182, v1178] : Fin 2 → IVec S16 32) a x).toNat < S4x10368.size a)
theorem k0_idx170_inb : ∀ (v1178 : IVec S16 32) (v1182 : IVec S16 32) (k0_hw170 : k0_chk170 v1178 v1182), ∀ a x, ((![v1182, v1178] : Fin 2 → IVec S16 32) a x).toNat < S4x10368.size a := fun v1178 v1182 k0_hw170 => k0_hw170

def k0_chk171 (v1178 : IVec S16 32) (v1185 : IVec S16 32) : Prop :=
  (∀ a x, ((![v1185, v1178] : Fin 2 → IVec S16 32) a x).toNat < S4x10368.size a)
theorem k0_idx171_inb : ∀ (v1178 : IVec S16 32) (v1185 : IVec S16 32) (k0_hw171 : k0_chk171 v1178 v1185), ∀ a x, ((![v1185, v1178] : Fin 2 → IVec S16 32) a x).toNat < S4x10368.size a := fun v1178 v1185 k0_hw171 => k0_hw171

def k0_chk172 (v1178 : IVec S16 32) (v1188 : IVec S16 32) : Prop :=
  (∀ a x, ((![v1188, v1178] : Fin 2 → IVec S16 32) a x).toNat < S4x10368.size a)
theorem k0_idx172_inb : ∀ (v1178 : IVec S16 32) (v1188 : IVec S16 32) (k0_hw172 : k0_chk172 v1178 v1188), ∀ a x, ((![v1188, v1178] : Fin 2 → IVec S16 32) a x).toNat < S4x10368.size a := fun v1178 v1188 k0_hw172 => k0_hw172
def k0_off60 (k0_t5 : Fin k0_t5_loop.trips) : Fin 1 → Nat :=
  let c7686_i32 : BitVec 32 := 7686#32
  let c0_i32_255 : BitVec 32 := 0#32
  let c1_i32_257 : BitVec 32 := 1#32
  let arg21 : BitVec 32 := Scf.iv c0_i32_255 c1_i32_257 k0_t5
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk173 (v1195 : IVec S16 32) (v1196 : IVec S16 32) : Prop :=
  (∀ a x, ((![v1196, v1195] : Fin 2 → IVec S16 32) a x).toNat < S4x10368.size a)
theorem k0_idx173_inb : ∀ (v1195 : IVec S16 32) (v1196 : IVec S16 32) (k0_hw173 : k0_chk173 v1195 v1196), ∀ a x, ((![v1196, v1195] : Fin 2 → IVec S16 32) a x).toNat < S4x10368.size a := fun v1195 v1196 k0_hw173 => k0_hw173

def k0_chk174 (v1195 : IVec S16 32) (v1199 : IVec S16 32) : Prop :=
  (∀ a x, ((![v1199, v1195] : Fin 2 → IVec S16 32) a x).toNat < S4x10368.size a)
theorem k0_idx174_inb : ∀ (v1195 : IVec S16 32) (v1199 : IVec S16 32) (k0_hw174 : k0_chk174 v1195 v1199), ∀ a x, ((![v1199, v1195] : Fin 2 → IVec S16 32) a x).toNat < S4x10368.size a := fun v1195 v1199 k0_hw174 => k0_hw174

def k0_chk175 (v1195 : IVec S16 32) (v1202 : IVec S16 32) : Prop :=
  (∀ a x, ((![v1202, v1195] : Fin 2 → IVec S16 32) a x).toNat < S4x10368.size a)
theorem k0_idx175_inb : ∀ (v1195 : IVec S16 32) (v1202 : IVec S16 32) (k0_hw175 : k0_chk175 v1195 v1202), ∀ a x, ((![v1202, v1195] : Fin 2 → IVec S16 32) a x).toNat < S4x10368.size a := fun v1195 v1202 k0_hw175 => k0_hw175

def k0_chk176 (v1195 : IVec S16 32) (v1205 : IVec S16 32) : Prop :=
  (∀ a x, ((![v1205, v1195] : Fin 2 → IVec S16 32) a x).toNat < S4x10368.size a)
theorem k0_idx176_inb : ∀ (v1195 : IVec S16 32) (v1205 : IVec S16 32) (k0_hw176 : k0_chk176 v1195 v1205), ∀ a x, ((![v1205, v1195] : Fin 2 → IVec S16 32) a x).toNat < S4x10368.size a := fun v1195 v1205 k0_hw176 => k0_hw176
def k0_off61 (k0_t5 : Fin k0_t5_loop.trips) : Fin 1 → Nat :=
  let c10248_i32 : BitVec 32 := 10248#32
  let c0_i32_255 : BitVec 32 := 0#32
  let c1_i32_257 : BitVec 32 := 1#32
  let arg21 : BitVec 32 := Scf.iv c0_i32_255 c1_i32_257 k0_t5
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk177 (v1212 : IVec S16 32) (v1213 : IVec S16 32) : Prop :=
  (∀ a x, ((![v1213, v1212] : Fin 2 → IVec S16 32) a x).toNat < S4x10368.size a)
theorem k0_idx177_inb : ∀ (v1212 : IVec S16 32) (v1213 : IVec S16 32) (k0_hw177 : k0_chk177 v1212 v1213), ∀ a x, ((![v1213, v1212] : Fin 2 → IVec S16 32) a x).toNat < S4x10368.size a := fun v1212 v1213 k0_hw177 => k0_hw177

def k0_chk178 (v1212 : IVec S16 32) (v1216 : IVec S16 32) : Prop :=
  (∀ a x, ((![v1216, v1212] : Fin 2 → IVec S16 32) a x).toNat < S4x10368.size a)
theorem k0_idx178_inb : ∀ (v1212 : IVec S16 32) (v1216 : IVec S16 32) (k0_hw178 : k0_chk178 v1212 v1216), ∀ a x, ((![v1216, v1212] : Fin 2 → IVec S16 32) a x).toNat < S4x10368.size a := fun v1212 v1216 k0_hw178 => k0_hw178

def k0_chk179 (v1212 : IVec S16 32) (v1219 : IVec S16 32) : Prop :=
  (∀ a x, ((![v1219, v1212] : Fin 2 → IVec S16 32) a x).toNat < S4x10368.size a)
theorem k0_idx179_inb : ∀ (v1212 : IVec S16 32) (v1219 : IVec S16 32) (k0_hw179 : k0_chk179 v1212 v1219), ∀ a x, ((![v1219, v1212] : Fin 2 → IVec S16 32) a x).toNat < S4x10368.size a := fun v1212 v1219 k0_hw179 => k0_hw179

def k0_chk180 (v1212 : IVec S16 32) (v1222 : IVec S16 32) : Prop :=
  (∀ a x, ((![v1222, v1212] : Fin 2 → IVec S16 32) a x).toNat < S4x10368.size a)
theorem k0_idx180_inb : ∀ (v1212 : IVec S16 32) (v1222 : IVec S16 32) (k0_hw180 : k0_chk180 v1212 v1222), ∀ a x, ((![v1222, v1212] : Fin 2 → IVec S16 32) a x).toNat < S4x10368.size a := fun v1212 v1222 k0_hw180 => k0_hw180
def k0_off62 (k0_t5 : Fin k0_t5_loop.trips) : Fin 1 → Nat :=
  let c12810_i32 : BitVec 32 := 12810#32
  let c0_i32_255 : BitVec 32 := 0#32
  let c1_i32_257 : BitVec 32 := 1#32
  let arg21 : BitVec 32 := Scf.iv c0_i32_255 c1_i32_257 k0_t5
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk181 (v1229 : IVec S16 32) (v1230 : IVec S16 32) : Prop :=
  (∀ a x, ((![v1230, v1229] : Fin 2 → IVec S16 32) a x).toNat < S4x10368.size a)
theorem k0_idx181_inb : ∀ (v1229 : IVec S16 32) (v1230 : IVec S16 32) (k0_hw181 : k0_chk181 v1229 v1230), ∀ a x, ((![v1230, v1229] : Fin 2 → IVec S16 32) a x).toNat < S4x10368.size a := fun v1229 v1230 k0_hw181 => k0_hw181

def k0_chk182 (v1229 : IVec S16 32) (v1233 : IVec S16 32) : Prop :=
  (∀ a x, ((![v1233, v1229] : Fin 2 → IVec S16 32) a x).toNat < S4x10368.size a)
theorem k0_idx182_inb : ∀ (v1229 : IVec S16 32) (v1233 : IVec S16 32) (k0_hw182 : k0_chk182 v1229 v1233), ∀ a x, ((![v1233, v1229] : Fin 2 → IVec S16 32) a x).toNat < S4x10368.size a := fun v1229 v1233 k0_hw182 => k0_hw182

def k0_chk183 (v1229 : IVec S16 32) (v1236 : IVec S16 32) : Prop :=
  (∀ a x, ((![v1236, v1229] : Fin 2 → IVec S16 32) a x).toNat < S4x10368.size a)
theorem k0_idx183_inb : ∀ (v1229 : IVec S16 32) (v1236 : IVec S16 32) (k0_hw183 : k0_chk183 v1229 v1236), ∀ a x, ((![v1236, v1229] : Fin 2 → IVec S16 32) a x).toNat < S4x10368.size a := fun v1229 v1236 k0_hw183 => k0_hw183

def k0_chk184 (v1229 : IVec S16 32) (v1239 : IVec S16 32) : Prop :=
  (∀ a x, ((![v1239, v1229] : Fin 2 → IVec S16 32) a x).toNat < S4x10368.size a)
theorem k0_idx184_inb : ∀ (v1229 : IVec S16 32) (v1239 : IVec S16 32) (k0_hw184 : k0_chk184 v1229 v1239), ∀ a x, ((![v1239, v1229] : Fin 2 → IVec S16 32) a x).toNat < S4x10368.size a := fun v1229 v1239 k0_hw184 => k0_hw184
def k0_off63 (k0_t5 : Fin k0_t5_loop.trips) : Fin 1 → Nat :=
  let c15372_i32 : BitVec 32 := 15372#32
  let c0_i32_255 : BitVec 32 := 0#32
  let c1_i32_257 : BitVec 32 := 1#32
  let arg21 : BitVec 32 := Scf.iv c0_i32_255 c1_i32_257 k0_t5
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk185 (v1246 : IVec S16 32) (v1247 : IVec S16 32) : Prop :=
  (∀ a x, ((![v1247, v1246] : Fin 2 → IVec S16 32) a x).toNat < S4x10368.size a)
theorem k0_idx185_inb : ∀ (v1246 : IVec S16 32) (v1247 : IVec S16 32) (k0_hw185 : k0_chk185 v1246 v1247), ∀ a x, ((![v1247, v1246] : Fin 2 → IVec S16 32) a x).toNat < S4x10368.size a := fun v1246 v1247 k0_hw185 => k0_hw185

def k0_chk186 (v1246 : IVec S16 32) (v1250 : IVec S16 32) : Prop :=
  (∀ a x, ((![v1250, v1246] : Fin 2 → IVec S16 32) a x).toNat < S4x10368.size a)
theorem k0_idx186_inb : ∀ (v1246 : IVec S16 32) (v1250 : IVec S16 32) (k0_hw186 : k0_chk186 v1246 v1250), ∀ a x, ((![v1250, v1246] : Fin 2 → IVec S16 32) a x).toNat < S4x10368.size a := fun v1246 v1250 k0_hw186 => k0_hw186

def k0_chk187 (v1246 : IVec S16 32) (v1253 : IVec S16 32) : Prop :=
  (∀ a x, ((![v1253, v1246] : Fin 2 → IVec S16 32) a x).toNat < S4x10368.size a)
theorem k0_idx187_inb : ∀ (v1246 : IVec S16 32) (v1253 : IVec S16 32) (k0_hw187 : k0_chk187 v1246 v1253), ∀ a x, ((![v1253, v1246] : Fin 2 → IVec S16 32) a x).toNat < S4x10368.size a := fun v1246 v1253 k0_hw187 => k0_hw187

def k0_chk188 (v1246 : IVec S16 32) (v1256 : IVec S16 32) : Prop :=
  (∀ a x, ((![v1256, v1246] : Fin 2 → IVec S16 32) a x).toNat < S4x10368.size a)
theorem k0_idx188_inb : ∀ (v1246 : IVec S16 32) (v1256 : IVec S16 32) (k0_hw188 : k0_chk188 v1246 v1256), ∀ a x, ((![v1256, v1246] : Fin 2 → IVec S16 32) a x).toNat < S4x10368.size a := fun v1246 v1256 k0_hw188 => k0_hw188

def k0_chk189 (v1135 : IVec S16 32) (v1259 : IVec S16 32) : Prop :=
  (∀ a x, ((![v1259, v1135] : Fin 2 → IVec S16 32) a x).toNat < S4x2572.size a)
theorem k0_idx189_inb : ∀ (v1135 : IVec S16 32) (v1259 : IVec S16 32) (k0_hw189 : k0_chk189 v1135 v1259), ∀ a x, ((![v1259, v1135] : Fin 2 → IVec S16 32) a x).toNat < S4x2572.size a := fun v1135 v1259 k0_hw189 => k0_hw189

def k0_chk190 (v1135 : IVec S16 32) (v1262 : IVec S16 32) : Prop :=
  (∀ a x, ((![v1262, v1135] : Fin 2 → IVec S16 32) a x).toNat < S4x2572.size a)
theorem k0_idx190_inb : ∀ (v1135 : IVec S16 32) (v1262 : IVec S16 32) (k0_hw190 : k0_chk190 v1135 v1262), ∀ a x, ((![v1262, v1135] : Fin 2 → IVec S16 32) a x).toNat < S4x2572.size a := fun v1135 v1262 k0_hw190 => k0_hw190

def k0_chk191 (v1135 : IVec S16 32) (v1265 : IVec S16 32) : Prop :=
  (∀ a x, ((![v1265, v1135] : Fin 2 → IVec S16 32) a x).toNat < S4x2572.size a)
theorem k0_idx191_inb : ∀ (v1135 : IVec S16 32) (v1265 : IVec S16 32) (k0_hw191 : k0_chk191 v1135 v1265), ∀ a x, ((![v1265, v1135] : Fin 2 → IVec S16 32) a x).toNat < S4x2572.size a := fun v1135 v1265 k0_hw191 => k0_hw191

def k0_chk192 (v1135 : IVec S16 32) (v1268 : IVec S16 32) : Prop :=
  (∀ a x, ((![v1268, v1135] : Fin 2 → IVec S16 32) a x).toNat < S4x2572.size a)
theorem k0_idx192_inb : ∀ (v1135 : IVec S16 32) (v1268 : IVec S16 32) (k0_hw192 : k0_chk192 v1135 v1268), ∀ a x, ((![v1268, v1135] : Fin 2 → IVec S16 32) a x).toNat < S4x2572.size a := fun v1135 v1268 k0_hw192 => k0_hw192

def k0_chk193 (v239 : IVec S16 32) (v240 : IVec S16 32) : Prop :=
  (∀ a x, ((![v240, v239] : Fin 2 → IVec S16 32) a x).toNat < S4x2572.size a)
theorem k0_idx193_inb : ∀ (v239 : IVec S16 32) (v240 : IVec S16 32) (k0_hw193 : k0_chk193 v239 v240), ∀ a x, ((![v240, v239] : Fin 2 → IVec S16 32) a x).toNat < S4x2572.size a := fun v239 v240 k0_hw193 => k0_hw193

def k0_chk194 (v239 : IVec S16 32) (v242 : IVec S16 32) : Prop :=
  (∀ a x, ((![v242, v239] : Fin 2 → IVec S16 32) a x).toNat < S4x2572.size a)
theorem k0_idx194_inb : ∀ (v239 : IVec S16 32) (v242 : IVec S16 32) (k0_hw194 : k0_chk194 v239 v242), ∀ a x, ((![v242, v239] : Fin 2 → IVec S16 32) a x).toNat < S4x2572.size a := fun v239 v242 k0_hw194 => k0_hw194

def k0_chk195 (v239 : IVec S16 32) (v244 : IVec S16 32) : Prop :=
  (∀ a x, ((![v244, v239] : Fin 2 → IVec S16 32) a x).toNat < S4x2572.size a)
theorem k0_idx195_inb : ∀ (v239 : IVec S16 32) (v244 : IVec S16 32) (k0_hw195 : k0_chk195 v239 v244), ∀ a x, ((![v244, v239] : Fin 2 → IVec S16 32) a x).toNat < S4x2572.size a := fun v239 v244 k0_hw195 => k0_hw195

def k0_chk196 (v239 : IVec S16 32) (v246 : IVec S16 32) : Prop :=
  (∀ a x, ((![v246, v239] : Fin 2 → IVec S16 32) a x).toNat < S4x2572.size a)
theorem k0_idx196_inb : ∀ (v239 : IVec S16 32) (v246 : IVec S16 32) (k0_hw196 : k0_chk196 v239 v246), ∀ a x, ((![v246, v239] : Fin 2 → IVec S16 32) a x).toNat < S4x2572.size a := fun v239 v246 k0_hw196 => k0_hw196
def k0_off64 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_210 : BitVec 32 := 4#32
  let v199 : BitVec 32 := Scalar.muli v1 c4_i32_210
  let c0_i32_211 : BitVec 32 := 0#32
  let v200 : BitVec 32 := Scalar.addi v199 c0_i32_211
  let c4_i32_212 : BitVec 32 := 4#32
  let v201 : BitVec 32 := Scalar.muli v200 c4_i32_212
  let v202 : BitVec 32 := v201
  let c10240_i32_267 : BitVec 32 := 10240#32
  ![v202.toNat, 10240]
def k0_mult12 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_271 : BitVec 32 := 4#32
  let v252 : BitVec 32 := Scalar.muli v1 c4_i32_271
  let c0_i32_272 : BitVec 32 := 0#32
  let v253 : BitVec 32 := Scalar.addi v252 c0_i32_272
  let c4_i32_273 : BitVec 32 := 4#32
  let v254 : BitVec 32 := Scalar.muli v253 c4_i32_273
  v254
def k0_mult13 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_274 : BitVec 32 := 4#32
  let v256 : BitVec 32 := Scalar.muli v1 c4_i32_274
  let c1_i32_275 : BitVec 32 := 1#32
  let v257 : BitVec 32 := Scalar.addi v256 c1_i32_275
  let c4_i32_276 : BitVec 32 := 4#32
  let v258 : BitVec 32 := Scalar.muli v257 c4_i32_276
  v258
def k0_off65 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_274 : BitVec 32 := 4#32
  let v256 : BitVec 32 := Scalar.muli v1 c4_i32_274
  let c1_i32_275 : BitVec 32 := 1#32
  let v257 : BitVec 32 := Scalar.addi v256 c1_i32_275
  let c4_i32_276 : BitVec 32 := 4#32
  let v258 : BitVec 32 := Scalar.muli v257 c4_i32_276
  let v259 : BitVec 32 := v258
  let c0_i32_279 : BitVec 32 := 0#32
  ![v259.toNat, 0]
def k0_off66 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_274 : BitVec 32 := 4#32
  let v256 : BitVec 32 := Scalar.muli v1 c4_i32_274
  let c1_i32_275 : BitVec 32 := 1#32
  let v257 : BitVec 32 := Scalar.addi v256 c1_i32_275
  let c4_i32_276 : BitVec 32 := 4#32
  let v258 : BitVec 32 := Scalar.muli v257 c4_i32_276
  let v259 : BitVec 32 := v258
  let c5120_i32_285 : BitVec 32 := 5120#32
  ![v259.toNat, 5120]
def k0_off67 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_156 : BitVec 32 := 4#32
  let v150 : BitVec 32 := Scalar.muli v1 c4_i32_156
  let c0_i32_157 : BitVec 32 := 0#32
  let v151 : BitVec 32 := Scalar.addi v150 c0_i32_157
  let c4_i32_158 : BitVec 32 := 4#32
  let v152 : BitVec 32 := Scalar.muli v151 c4_i32_158
  let v153 : BitVec 32 := v152
  let c7680_i32_291 : BitVec 32 := 7680#32
  ![v153.toNat, 7680]

def k0_chk197 (v2 : IVec S16 32) (v272 : IVec S16 32) : Prop :=
  (∀ a x, ((![v272, v2] : Fin 2 → IVec S16 32) a x).toNat < S4x2572.size a)
theorem k0_idx197_inb : ∀ (v2 : IVec S16 32) (v272 : IVec S16 32) (k0_hw197 : k0_chk197 v2 v272), ∀ a x, ((![v272, v2] : Fin 2 → IVec S16 32) a x).toNat < S4x2572.size a := fun v2 v272 k0_hw197 => k0_hw197

def k0_chk198 (v2 : IVec S16 32) (v273 : IVec S16 32) : Prop :=
  (∀ a x, ((![v273, v2] : Fin 2 → IVec S16 32) a x).toNat < S4x2572.size a)
theorem k0_idx198_inb : ∀ (v2 : IVec S16 32) (v273 : IVec S16 32) (k0_hw198 : k0_chk198 v2 v273), ∀ a x, ((![v273, v2] : Fin 2 → IVec S16 32) a x).toNat < S4x2572.size a := fun v2 v273 k0_hw198 => k0_hw198

def k0_chk199 (v2 : IVec S16 32) (v274 : IVec S16 32) : Prop :=
  (∀ a x, ((![v274, v2] : Fin 2 → IVec S16 32) a x).toNat < S4x2572.size a)
theorem k0_idx199_inb : ∀ (v2 : IVec S16 32) (v274 : IVec S16 32) (k0_hw199 : k0_chk199 v2 v274), ∀ a x, ((![v274, v2] : Fin 2 → IVec S16 32) a x).toNat < S4x2572.size a := fun v2 v274 k0_hw199 => k0_hw199

def k0_chk200 (v2 : IVec S16 32) (v275 : IVec S16 32) : Prop :=
  (∀ a x, ((![v275, v2] : Fin 2 → IVec S16 32) a x).toNat < S4x2572.size a)
theorem k0_idx200_inb : ∀ (v2 : IVec S16 32) (v275 : IVec S16 32) (k0_hw200 : k0_chk200 v2 v275), ∀ a x, ((![v275, v2] : Fin 2 → IVec S16 32) a x).toNat < S4x2572.size a := fun v2 v275 k0_hw200 => k0_hw200
def k0_off68 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_213 : BitVec 32 := 4#32
  let v203 : BitVec 32 := Scalar.muli v1 c4_i32_213
  let c0_i32_214 : BitVec 32 := 0#32
  let v204 : BitVec 32 := Scalar.addi v203 c0_i32_214
  let c4_i32_215 : BitVec 32 := 4#32
  let v205 : BitVec 32 := Scalar.muli v204 c4_i32_215
  let v206 : BitVec 32 := v205
  let c51200_i32_301 : BitVec 32 := 51200#32
  ![v206.toNat, 51200]
def k0_off69 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_213 : BitVec 32 := 4#32
  let v203 : BitVec 32 := Scalar.muli v1 c4_i32_213
  let c0_i32_214 : BitVec 32 := 0#32
  let v204 : BitVec 32 := Scalar.addi v203 c0_i32_214
  let c4_i32_215 : BitVec 32 := 4#32
  let v205 : BitVec 32 := Scalar.muli v204 c4_i32_215
  let v206 : BitVec 32 := v205
  let c56320_i32_307 : BitVec 32 := 56320#32
  ![v206.toNat, 56320]
def k0_off70 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_213 : BitVec 32 := 4#32
  let v203 : BitVec 32 := Scalar.muli v1 c4_i32_213
  let c0_i32_214 : BitVec 32 := 0#32
  let v204 : BitVec 32 := Scalar.addi v203 c0_i32_214
  let c4_i32_215 : BitVec 32 := 4#32
  let v205 : BitVec 32 := Scalar.muli v204 c4_i32_215
  let v206 : BitVec 32 := v205
  let c0_i32_313 : BitVec 32 := 0#32
  ![v206.toNat, 0]
@[reducible] def k0_t6_loop : Scf.Loop 32 :=
  let c0_i32_318 : BitVec 32 := 0#32
  let c161_i32_319 : BitVec 32 := 161#32
  let v288 : BitVec 32 := Scalar.addi c0_i32_318 c161_i32_319
  let c1_i32_320 : BitVec 32 := 1#32
  ⟨c0_i32_318, v288, c1_i32_320⟩
def k0_off71 (k0_t6 : Fin k0_t6_loop.trips) : Fin 1 → Nat :=
  let c0_i32_1327 : BitVec 32 := 0#32
  let c0_i32_318 : BitVec 32 := 0#32
  let c1_i32_320 : BitVec 32 := 1#32
  let arg21 : BitVec 32 := Scf.iv c0_i32_318 c1_i32_320 k0_t6
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1327 v1132
  let v1141 : Index := Scalar.indexCast v1140
  ![v1141.toNat]

def k0_chk201 (v1144 : IVec S16 32) (v1145 : IVec S16 32) : Prop :=
  (∀ a x, ((![v1145, v1144] : Fin 2 → IVec S16 32) a x).toNat < S4x10368.size a)
theorem k0_idx201_inb : ∀ (v1144 : IVec S16 32) (v1145 : IVec S16 32) (k0_hw201 : k0_chk201 v1144 v1145), ∀ a x, ((![v1145, v1144] : Fin 2 → IVec S16 32) a x).toNat < S4x10368.size a := fun v1144 v1145 k0_hw201 => k0_hw201

def k0_chk202 (v1144 : IVec S16 32) (v1148 : IVec S16 32) : Prop :=
  (∀ a x, ((![v1148, v1144] : Fin 2 → IVec S16 32) a x).toNat < S4x10368.size a)
theorem k0_idx202_inb : ∀ (v1144 : IVec S16 32) (v1148 : IVec S16 32) (k0_hw202 : k0_chk202 v1144 v1148), ∀ a x, ((![v1148, v1144] : Fin 2 → IVec S16 32) a x).toNat < S4x10368.size a := fun v1144 v1148 k0_hw202 => k0_hw202

def k0_chk203 (v1144 : IVec S16 32) (v1151 : IVec S16 32) : Prop :=
  (∀ a x, ((![v1151, v1144] : Fin 2 → IVec S16 32) a x).toNat < S4x10368.size a)
theorem k0_idx203_inb : ∀ (v1144 : IVec S16 32) (v1151 : IVec S16 32) (k0_hw203 : k0_chk203 v1144 v1151), ∀ a x, ((![v1151, v1144] : Fin 2 → IVec S16 32) a x).toNat < S4x10368.size a := fun v1144 v1151 k0_hw203 => k0_hw203

def k0_chk204 (v1144 : IVec S16 32) (v1154 : IVec S16 32) : Prop :=
  (∀ a x, ((![v1154, v1144] : Fin 2 → IVec S16 32) a x).toNat < S4x10368.size a)
theorem k0_idx204_inb : ∀ (v1144 : IVec S16 32) (v1154 : IVec S16 32) (k0_hw204 : k0_chk204 v1144 v1154), ∀ a x, ((![v1154, v1144] : Fin 2 → IVec S16 32) a x).toNat < S4x10368.size a := fun v1144 v1154 k0_hw204 => k0_hw204
def k0_off72 (k0_t6 : Fin k0_t6_loop.trips) : Fin 1 → Nat :=
  let c2562_i32 : BitVec 32 := 2562#32
  let c0_i32_318 : BitVec 32 := 0#32
  let c1_i32_320 : BitVec 32 := 1#32
  let arg21 : BitVec 32 := Scf.iv c0_i32_318 c1_i32_320 k0_t6
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk205 (v1161 : IVec S16 32) (v1162 : IVec S16 32) : Prop :=
  (∀ a x, ((![v1162, v1161] : Fin 2 → IVec S16 32) a x).toNat < S4x10368.size a)
theorem k0_idx205_inb : ∀ (v1161 : IVec S16 32) (v1162 : IVec S16 32) (k0_hw205 : k0_chk205 v1161 v1162), ∀ a x, ((![v1162, v1161] : Fin 2 → IVec S16 32) a x).toNat < S4x10368.size a := fun v1161 v1162 k0_hw205 => k0_hw205

def k0_chk206 (v1161 : IVec S16 32) (v1165 : IVec S16 32) : Prop :=
  (∀ a x, ((![v1165, v1161] : Fin 2 → IVec S16 32) a x).toNat < S4x10368.size a)
theorem k0_idx206_inb : ∀ (v1161 : IVec S16 32) (v1165 : IVec S16 32) (k0_hw206 : k0_chk206 v1161 v1165), ∀ a x, ((![v1165, v1161] : Fin 2 → IVec S16 32) a x).toNat < S4x10368.size a := fun v1161 v1165 k0_hw206 => k0_hw206

def k0_chk207 (v1161 : IVec S16 32) (v1168 : IVec S16 32) : Prop :=
  (∀ a x, ((![v1168, v1161] : Fin 2 → IVec S16 32) a x).toNat < S4x10368.size a)
theorem k0_idx207_inb : ∀ (v1161 : IVec S16 32) (v1168 : IVec S16 32) (k0_hw207 : k0_chk207 v1161 v1168), ∀ a x, ((![v1168, v1161] : Fin 2 → IVec S16 32) a x).toNat < S4x10368.size a := fun v1161 v1168 k0_hw207 => k0_hw207

def k0_chk208 (v1161 : IVec S16 32) (v1171 : IVec S16 32) : Prop :=
  (∀ a x, ((![v1171, v1161] : Fin 2 → IVec S16 32) a x).toNat < S4x10368.size a)
theorem k0_idx208_inb : ∀ (v1161 : IVec S16 32) (v1171 : IVec S16 32) (k0_hw208 : k0_chk208 v1161 v1171), ∀ a x, ((![v1171, v1161] : Fin 2 → IVec S16 32) a x).toNat < S4x10368.size a := fun v1161 v1171 k0_hw208 => k0_hw208
def k0_off73 (k0_t6 : Fin k0_t6_loop.trips) : Fin 1 → Nat :=
  let c5124_i32 : BitVec 32 := 5124#32
  let c0_i32_318 : BitVec 32 := 0#32
  let c1_i32_320 : BitVec 32 := 1#32
  let arg21 : BitVec 32 := Scf.iv c0_i32_318 c1_i32_320 k0_t6
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk209 (v1178 : IVec S16 32) (v1179 : IVec S16 32) : Prop :=
  (∀ a x, ((![v1179, v1178] : Fin 2 → IVec S16 32) a x).toNat < S4x10368.size a)
theorem k0_idx209_inb : ∀ (v1178 : IVec S16 32) (v1179 : IVec S16 32) (k0_hw209 : k0_chk209 v1178 v1179), ∀ a x, ((![v1179, v1178] : Fin 2 → IVec S16 32) a x).toNat < S4x10368.size a := fun v1178 v1179 k0_hw209 => k0_hw209

def k0_chk210 (v1178 : IVec S16 32) (v1182 : IVec S16 32) : Prop :=
  (∀ a x, ((![v1182, v1178] : Fin 2 → IVec S16 32) a x).toNat < S4x10368.size a)
theorem k0_idx210_inb : ∀ (v1178 : IVec S16 32) (v1182 : IVec S16 32) (k0_hw210 : k0_chk210 v1178 v1182), ∀ a x, ((![v1182, v1178] : Fin 2 → IVec S16 32) a x).toNat < S4x10368.size a := fun v1178 v1182 k0_hw210 => k0_hw210

def k0_chk211 (v1178 : IVec S16 32) (v1185 : IVec S16 32) : Prop :=
  (∀ a x, ((![v1185, v1178] : Fin 2 → IVec S16 32) a x).toNat < S4x10368.size a)
theorem k0_idx211_inb : ∀ (v1178 : IVec S16 32) (v1185 : IVec S16 32) (k0_hw211 : k0_chk211 v1178 v1185), ∀ a x, ((![v1185, v1178] : Fin 2 → IVec S16 32) a x).toNat < S4x10368.size a := fun v1178 v1185 k0_hw211 => k0_hw211

def k0_chk212 (v1178 : IVec S16 32) (v1188 : IVec S16 32) : Prop :=
  (∀ a x, ((![v1188, v1178] : Fin 2 → IVec S16 32) a x).toNat < S4x10368.size a)
theorem k0_idx212_inb : ∀ (v1178 : IVec S16 32) (v1188 : IVec S16 32) (k0_hw212 : k0_chk212 v1178 v1188), ∀ a x, ((![v1188, v1178] : Fin 2 → IVec S16 32) a x).toNat < S4x10368.size a := fun v1178 v1188 k0_hw212 => k0_hw212
def k0_off74 (k0_t6 : Fin k0_t6_loop.trips) : Fin 1 → Nat :=
  let c7686_i32 : BitVec 32 := 7686#32
  let c0_i32_318 : BitVec 32 := 0#32
  let c1_i32_320 : BitVec 32 := 1#32
  let arg21 : BitVec 32 := Scf.iv c0_i32_318 c1_i32_320 k0_t6
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk213 (v1195 : IVec S16 32) (v1196 : IVec S16 32) : Prop :=
  (∀ a x, ((![v1196, v1195] : Fin 2 → IVec S16 32) a x).toNat < S4x10368.size a)
theorem k0_idx213_inb : ∀ (v1195 : IVec S16 32) (v1196 : IVec S16 32) (k0_hw213 : k0_chk213 v1195 v1196), ∀ a x, ((![v1196, v1195] : Fin 2 → IVec S16 32) a x).toNat < S4x10368.size a := fun v1195 v1196 k0_hw213 => k0_hw213

def k0_chk214 (v1195 : IVec S16 32) (v1199 : IVec S16 32) : Prop :=
  (∀ a x, ((![v1199, v1195] : Fin 2 → IVec S16 32) a x).toNat < S4x10368.size a)
theorem k0_idx214_inb : ∀ (v1195 : IVec S16 32) (v1199 : IVec S16 32) (k0_hw214 : k0_chk214 v1195 v1199), ∀ a x, ((![v1199, v1195] : Fin 2 → IVec S16 32) a x).toNat < S4x10368.size a := fun v1195 v1199 k0_hw214 => k0_hw214

def k0_chk215 (v1195 : IVec S16 32) (v1202 : IVec S16 32) : Prop :=
  (∀ a x, ((![v1202, v1195] : Fin 2 → IVec S16 32) a x).toNat < S4x10368.size a)
theorem k0_idx215_inb : ∀ (v1195 : IVec S16 32) (v1202 : IVec S16 32) (k0_hw215 : k0_chk215 v1195 v1202), ∀ a x, ((![v1202, v1195] : Fin 2 → IVec S16 32) a x).toNat < S4x10368.size a := fun v1195 v1202 k0_hw215 => k0_hw215

def k0_chk216 (v1195 : IVec S16 32) (v1205 : IVec S16 32) : Prop :=
  (∀ a x, ((![v1205, v1195] : Fin 2 → IVec S16 32) a x).toNat < S4x10368.size a)
theorem k0_idx216_inb : ∀ (v1195 : IVec S16 32) (v1205 : IVec S16 32) (k0_hw216 : k0_chk216 v1195 v1205), ∀ a x, ((![v1205, v1195] : Fin 2 → IVec S16 32) a x).toNat < S4x10368.size a := fun v1195 v1205 k0_hw216 => k0_hw216
def k0_off75 (k0_t6 : Fin k0_t6_loop.trips) : Fin 1 → Nat :=
  let c10248_i32 : BitVec 32 := 10248#32
  let c0_i32_318 : BitVec 32 := 0#32
  let c1_i32_320 : BitVec 32 := 1#32
  let arg21 : BitVec 32 := Scf.iv c0_i32_318 c1_i32_320 k0_t6
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk217 (v1212 : IVec S16 32) (v1213 : IVec S16 32) : Prop :=
  (∀ a x, ((![v1213, v1212] : Fin 2 → IVec S16 32) a x).toNat < S4x10368.size a)
theorem k0_idx217_inb : ∀ (v1212 : IVec S16 32) (v1213 : IVec S16 32) (k0_hw217 : k0_chk217 v1212 v1213), ∀ a x, ((![v1213, v1212] : Fin 2 → IVec S16 32) a x).toNat < S4x10368.size a := fun v1212 v1213 k0_hw217 => k0_hw217

def k0_chk218 (v1212 : IVec S16 32) (v1216 : IVec S16 32) : Prop :=
  (∀ a x, ((![v1216, v1212] : Fin 2 → IVec S16 32) a x).toNat < S4x10368.size a)
theorem k0_idx218_inb : ∀ (v1212 : IVec S16 32) (v1216 : IVec S16 32) (k0_hw218 : k0_chk218 v1212 v1216), ∀ a x, ((![v1216, v1212] : Fin 2 → IVec S16 32) a x).toNat < S4x10368.size a := fun v1212 v1216 k0_hw218 => k0_hw218

def k0_chk219 (v1212 : IVec S16 32) (v1219 : IVec S16 32) : Prop :=
  (∀ a x, ((![v1219, v1212] : Fin 2 → IVec S16 32) a x).toNat < S4x10368.size a)
theorem k0_idx219_inb : ∀ (v1212 : IVec S16 32) (v1219 : IVec S16 32) (k0_hw219 : k0_chk219 v1212 v1219), ∀ a x, ((![v1219, v1212] : Fin 2 → IVec S16 32) a x).toNat < S4x10368.size a := fun v1212 v1219 k0_hw219 => k0_hw219

def k0_chk220 (v1212 : IVec S16 32) (v1222 : IVec S16 32) : Prop :=
  (∀ a x, ((![v1222, v1212] : Fin 2 → IVec S16 32) a x).toNat < S4x10368.size a)
theorem k0_idx220_inb : ∀ (v1212 : IVec S16 32) (v1222 : IVec S16 32) (k0_hw220 : k0_chk220 v1212 v1222), ∀ a x, ((![v1222, v1212] : Fin 2 → IVec S16 32) a x).toNat < S4x10368.size a := fun v1212 v1222 k0_hw220 => k0_hw220
def k0_off76 (k0_t6 : Fin k0_t6_loop.trips) : Fin 1 → Nat :=
  let c12810_i32 : BitVec 32 := 12810#32
  let c0_i32_318 : BitVec 32 := 0#32
  let c1_i32_320 : BitVec 32 := 1#32
  let arg21 : BitVec 32 := Scf.iv c0_i32_318 c1_i32_320 k0_t6
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk221 (v1229 : IVec S16 32) (v1230 : IVec S16 32) : Prop :=
  (∀ a x, ((![v1230, v1229] : Fin 2 → IVec S16 32) a x).toNat < S4x10368.size a)
theorem k0_idx221_inb : ∀ (v1229 : IVec S16 32) (v1230 : IVec S16 32) (k0_hw221 : k0_chk221 v1229 v1230), ∀ a x, ((![v1230, v1229] : Fin 2 → IVec S16 32) a x).toNat < S4x10368.size a := fun v1229 v1230 k0_hw221 => k0_hw221

def k0_chk222 (v1229 : IVec S16 32) (v1233 : IVec S16 32) : Prop :=
  (∀ a x, ((![v1233, v1229] : Fin 2 → IVec S16 32) a x).toNat < S4x10368.size a)
theorem k0_idx222_inb : ∀ (v1229 : IVec S16 32) (v1233 : IVec S16 32) (k0_hw222 : k0_chk222 v1229 v1233), ∀ a x, ((![v1233, v1229] : Fin 2 → IVec S16 32) a x).toNat < S4x10368.size a := fun v1229 v1233 k0_hw222 => k0_hw222

def k0_chk223 (v1229 : IVec S16 32) (v1236 : IVec S16 32) : Prop :=
  (∀ a x, ((![v1236, v1229] : Fin 2 → IVec S16 32) a x).toNat < S4x10368.size a)
theorem k0_idx223_inb : ∀ (v1229 : IVec S16 32) (v1236 : IVec S16 32) (k0_hw223 : k0_chk223 v1229 v1236), ∀ a x, ((![v1236, v1229] : Fin 2 → IVec S16 32) a x).toNat < S4x10368.size a := fun v1229 v1236 k0_hw223 => k0_hw223

def k0_chk224 (v1229 : IVec S16 32) (v1239 : IVec S16 32) : Prop :=
  (∀ a x, ((![v1239, v1229] : Fin 2 → IVec S16 32) a x).toNat < S4x10368.size a)
theorem k0_idx224_inb : ∀ (v1229 : IVec S16 32) (v1239 : IVec S16 32) (k0_hw224 : k0_chk224 v1229 v1239), ∀ a x, ((![v1239, v1229] : Fin 2 → IVec S16 32) a x).toNat < S4x10368.size a := fun v1229 v1239 k0_hw224 => k0_hw224
def k0_off77 (k0_t6 : Fin k0_t6_loop.trips) : Fin 1 → Nat :=
  let c15372_i32 : BitVec 32 := 15372#32
  let c0_i32_318 : BitVec 32 := 0#32
  let c1_i32_320 : BitVec 32 := 1#32
  let arg21 : BitVec 32 := Scf.iv c0_i32_318 c1_i32_320 k0_t6
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk225 (v1246 : IVec S16 32) (v1247 : IVec S16 32) : Prop :=
  (∀ a x, ((![v1247, v1246] : Fin 2 → IVec S16 32) a x).toNat < S4x10368.size a)
theorem k0_idx225_inb : ∀ (v1246 : IVec S16 32) (v1247 : IVec S16 32) (k0_hw225 : k0_chk225 v1246 v1247), ∀ a x, ((![v1247, v1246] : Fin 2 → IVec S16 32) a x).toNat < S4x10368.size a := fun v1246 v1247 k0_hw225 => k0_hw225

def k0_chk226 (v1246 : IVec S16 32) (v1250 : IVec S16 32) : Prop :=
  (∀ a x, ((![v1250, v1246] : Fin 2 → IVec S16 32) a x).toNat < S4x10368.size a)
theorem k0_idx226_inb : ∀ (v1246 : IVec S16 32) (v1250 : IVec S16 32) (k0_hw226 : k0_chk226 v1246 v1250), ∀ a x, ((![v1250, v1246] : Fin 2 → IVec S16 32) a x).toNat < S4x10368.size a := fun v1246 v1250 k0_hw226 => k0_hw226

def k0_chk227 (v1246 : IVec S16 32) (v1253 : IVec S16 32) : Prop :=
  (∀ a x, ((![v1253, v1246] : Fin 2 → IVec S16 32) a x).toNat < S4x10368.size a)
theorem k0_idx227_inb : ∀ (v1246 : IVec S16 32) (v1253 : IVec S16 32) (k0_hw227 : k0_chk227 v1246 v1253), ∀ a x, ((![v1253, v1246] : Fin 2 → IVec S16 32) a x).toNat < S4x10368.size a := fun v1246 v1253 k0_hw227 => k0_hw227

def k0_chk228 (v1246 : IVec S16 32) (v1256 : IVec S16 32) : Prop :=
  (∀ a x, ((![v1256, v1246] : Fin 2 → IVec S16 32) a x).toNat < S4x10368.size a)
theorem k0_idx228_inb : ∀ (v1246 : IVec S16 32) (v1256 : IVec S16 32) (k0_hw228 : k0_chk228 v1246 v1256), ∀ a x, ((![v1256, v1246] : Fin 2 → IVec S16 32) a x).toNat < S4x10368.size a := fun v1246 v1256 k0_hw228 => k0_hw228

def k0_chk229 (v1135 : IVec S16 32) (v1259 : IVec S16 32) : Prop :=
  (∀ a x, ((![v1259, v1135] : Fin 2 → IVec S16 32) a x).toNat < S4x2572.size a)
theorem k0_idx229_inb : ∀ (v1135 : IVec S16 32) (v1259 : IVec S16 32) (k0_hw229 : k0_chk229 v1135 v1259), ∀ a x, ((![v1259, v1135] : Fin 2 → IVec S16 32) a x).toNat < S4x2572.size a := fun v1135 v1259 k0_hw229 => k0_hw229

def k0_chk230 (v1135 : IVec S16 32) (v1262 : IVec S16 32) : Prop :=
  (∀ a x, ((![v1262, v1135] : Fin 2 → IVec S16 32) a x).toNat < S4x2572.size a)
theorem k0_idx230_inb : ∀ (v1135 : IVec S16 32) (v1262 : IVec S16 32) (k0_hw230 : k0_chk230 v1135 v1262), ∀ a x, ((![v1262, v1135] : Fin 2 → IVec S16 32) a x).toNat < S4x2572.size a := fun v1135 v1262 k0_hw230 => k0_hw230

def k0_chk231 (v1135 : IVec S16 32) (v1265 : IVec S16 32) : Prop :=
  (∀ a x, ((![v1265, v1135] : Fin 2 → IVec S16 32) a x).toNat < S4x2572.size a)
theorem k0_idx231_inb : ∀ (v1135 : IVec S16 32) (v1265 : IVec S16 32) (k0_hw231 : k0_chk231 v1135 v1265), ∀ a x, ((![v1265, v1135] : Fin 2 → IVec S16 32) a x).toNat < S4x2572.size a := fun v1135 v1265 k0_hw231 => k0_hw231

def k0_chk232 (v1135 : IVec S16 32) (v1268 : IVec S16 32) : Prop :=
  (∀ a x, ((![v1268, v1135] : Fin 2 → IVec S16 32) a x).toNat < S4x2572.size a)
theorem k0_idx232_inb : ∀ (v1135 : IVec S16 32) (v1268 : IVec S16 32) (k0_hw232 : k0_chk232 v1135 v1268), ∀ a x, ((![v1268, v1135] : Fin 2 → IVec S16 32) a x).toNat < S4x2572.size a := fun v1135 v1268 k0_hw232 => k0_hw232
def k0_off78 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_271 : BitVec 32 := 4#32
  let v252 : BitVec 32 := Scalar.muli v1 c4_i32_271
  let c0_i32_272 : BitVec 32 := 0#32
  let v253 : BitVec 32 := Scalar.addi v252 c0_i32_272
  let c4_i32_273 : BitVec 32 := 4#32
  let v254 : BitVec 32 := Scalar.muli v253 c4_i32_273
  let v255 : BitVec 32 := v254
  let c12800_i32 : BitVec 32 := 12800#32
  ![v255.toNat, 12800]
def k0_mult14 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_323 : BitVec 32 := 4#32
  let v291 : BitVec 32 := Scalar.muli v1 c4_i32_323
  let c1_i32_324 : BitVec 32 := 1#32
  let v292 : BitVec 32 := Scalar.addi v291 c1_i32_324
  let c4_i32_325 : BitVec 32 := 4#32
  let v293 : BitVec 32 := Scalar.muli v292 c4_i32_325
  v293
def k0_mult15 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_326 : BitVec 32 := 4#32
  let v295 : BitVec 32 := Scalar.muli v1 c4_i32_326
  let c1_i32_327 : BitVec 32 := 1#32
  let v296 : BitVec 32 := Scalar.addi v295 c1_i32_327
  let c4_i32_328 : BitVec 32 := 4#32
  let v297 : BitVec 32 := Scalar.muli v296 c4_i32_328
  v297
def k0_off79 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_326 : BitVec 32 := 4#32
  let v295 : BitVec 32 := Scalar.muli v1 c4_i32_326
  let c1_i32_327 : BitVec 32 := 1#32
  let v296 : BitVec 32 := Scalar.addi v295 c1_i32_327
  let c4_i32_328 : BitVec 32 := 4#32
  let v297 : BitVec 32 := Scalar.muli v296 c4_i32_328
  let v298 : BitVec 32 := v297
  let c10240_i32_331 : BitVec 32 := 10240#32
  ![v298.toNat, 10240]
def k0_off80 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_326 : BitVec 32 := 4#32
  let v295 : BitVec 32 := Scalar.muli v1 c4_i32_326
  let c1_i32_327 : BitVec 32 := 1#32
  let v296 : BitVec 32 := Scalar.addi v295 c1_i32_327
  let c4_i32_328 : BitVec 32 := 4#32
  let v297 : BitVec 32 := Scalar.muli v296 c4_i32_328
  let v298 : BitVec 32 := v297
  let c15360_i32_337 : BitVec 32 := 15360#32
  ![v298.toNat, 15360]
def k0_off81 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_210 : BitVec 32 := 4#32
  let v199 : BitVec 32 := Scalar.muli v1 c4_i32_210
  let c0_i32_211 : BitVec 32 := 0#32
  let v200 : BitVec 32 := Scalar.addi v199 c0_i32_211
  let c4_i32_212 : BitVec 32 := 4#32
  let v201 : BitVec 32 := Scalar.muli v200 c4_i32_212
  let v202 : BitVec 32 := v201
  let c10240_i32_343 : BitVec 32 := 10240#32
  ![v202.toNat, 10240]
def k0_off82 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_274 : BitVec 32 := 4#32
  let v256 : BitVec 32 := Scalar.muli v1 c4_i32_274
  let c1_i32_275 : BitVec 32 := 1#32
  let v257 : BitVec 32 := Scalar.addi v256 c1_i32_275
  let c4_i32_276 : BitVec 32 := 4#32
  let v258 : BitVec 32 := Scalar.muli v257 c4_i32_276
  let v259 : BitVec 32 := v258
  let c0_i32_349 : BitVec 32 := 0#32
  ![v259.toNat, 0]
def k0_off83 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_274 : BitVec 32 := 4#32
  let v256 : BitVec 32 := Scalar.muli v1 c4_i32_274
  let c1_i32_275 : BitVec 32 := 1#32
  let v257 : BitVec 32 := Scalar.addi v256 c1_i32_275
  let c4_i32_276 : BitVec 32 := 4#32
  let v258 : BitVec 32 := Scalar.muli v257 c4_i32_276
  let v259 : BitVec 32 := v258
  let c5120_i32_355 : BitVec 32 := 5120#32
  ![v259.toNat, 5120]
@[reducible] def k0_t7_loop : Scf.Loop 32 :=
  let c0_i32_360 : BitVec 32 := 0#32
  let c161_i32_361 : BitVec 32 := 161#32
  let v319 : BitVec 32 := Scalar.addi c0_i32_360 c161_i32_361
  let c1_i32_362 : BitVec 32 := 1#32
  ⟨c0_i32_360, v319, c1_i32_362⟩
def k0_off84 (k0_t7 : Fin k0_t7_loop.trips) : Fin 1 → Nat :=
  let c0_i32_1328 : BitVec 32 := 0#32
  let c0_i32_360 : BitVec 32 := 0#32
  let c1_i32_362 : BitVec 32 := 1#32
  let arg21 : BitVec 32 := Scf.iv c0_i32_360 c1_i32_362 k0_t7
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1328 v1132
  let v1141 : Index := Scalar.indexCast v1140
  ![v1141.toNat]

def k0_chk233 (v1142 : IVec S16 32) (v1143 : IVec S16 32) : Prop :=
  (∀ a x, ((![v1143, v1142] : Fin 2 → IVec S16 32) a x).toNat < S4x10368.size a)
theorem k0_idx233_inb : ∀ (v1142 : IVec S16 32) (v1143 : IVec S16 32) (k0_hw233 : k0_chk233 v1142 v1143), ∀ a x, ((![v1143, v1142] : Fin 2 → IVec S16 32) a x).toNat < S4x10368.size a := fun v1142 v1143 k0_hw233 => k0_hw233

def k0_chk234 (v1142 : IVec S16 32) (v1146 : IVec S16 32) : Prop :=
  (∀ a x, ((![v1146, v1142] : Fin 2 → IVec S16 32) a x).toNat < S4x10368.size a)
theorem k0_idx234_inb : ∀ (v1142 : IVec S16 32) (v1146 : IVec S16 32) (k0_hw234 : k0_chk234 v1142 v1146), ∀ a x, ((![v1146, v1142] : Fin 2 → IVec S16 32) a x).toNat < S4x10368.size a := fun v1142 v1146 k0_hw234 => k0_hw234

def k0_chk235 (v1142 : IVec S16 32) (v1149 : IVec S16 32) : Prop :=
  (∀ a x, ((![v1149, v1142] : Fin 2 → IVec S16 32) a x).toNat < S4x10368.size a)
theorem k0_idx235_inb : ∀ (v1142 : IVec S16 32) (v1149 : IVec S16 32) (k0_hw235 : k0_chk235 v1142 v1149), ∀ a x, ((![v1149, v1142] : Fin 2 → IVec S16 32) a x).toNat < S4x10368.size a := fun v1142 v1149 k0_hw235 => k0_hw235

def k0_chk236 (v1142 : IVec S16 32) (v1152 : IVec S16 32) : Prop :=
  (∀ a x, ((![v1152, v1142] : Fin 2 → IVec S16 32) a x).toNat < S4x10368.size a)
theorem k0_idx236_inb : ∀ (v1142 : IVec S16 32) (v1152 : IVec S16 32) (k0_hw236 : k0_chk236 v1142 v1152), ∀ a x, ((![v1152, v1142] : Fin 2 → IVec S16 32) a x).toNat < S4x10368.size a := fun v1142 v1152 k0_hw236 => k0_hw236
def k0_off85 (k0_t7 : Fin k0_t7_loop.trips) : Fin 1 → Nat :=
  let c2562_i32 : BitVec 32 := 2562#32
  let c0_i32_360 : BitVec 32 := 0#32
  let c1_i32_362 : BitVec 32 := 1#32
  let arg21 : BitVec 32 := Scf.iv c0_i32_360 c1_i32_362 k0_t7
  let c16_i32 : BitVec 32 := 16#32
  let v1131 : BitVec 32 := Scalar.muli arg21 c16_i32
  let c2546_i32 : BitVec 32 := 2546#32
  let v1132 : BitVec 32 := Scalar.minsi v1131 c2546_i32
  let v1155 : BitVec 32 := Scalar.addi c2562_i32 v1132
  let v1156 : Index := Scalar.indexCast v1155
  ![v1156.toNat]

def k0_chk237 (v1157 : IVec S16 32) (v1158 : IVec S16 32) : Prop :=
  (∀ a x, ((![v1158, v1157] : Fin 2 → IVec S16 32) a x).toNat < S4x10368.size a)
theorem k0_idx237_inb : ∀ (v1157 : IVec S16 32) (v1158 : IVec S16 32) (k0_hw237 : k0_chk237 v1157 v1158), ∀ a x, ((![v1158, v1157] : Fin 2 → IVec S16 32) a x).toNat < S4x10368.size a := fun v1157 v1158 k0_hw237 => k0_hw237

def k0_chk238 (v1157 : IVec S16 32) (v1161 : IVec S16 32) : Prop :=
  (∀ a x, ((![v1161, v1157] : Fin 2 → IVec S16 32) a x).toNat < S4x10368.size a)
theorem k0_idx238_inb : ∀ (v1157 : IVec S16 32) (v1161 : IVec S16 32) (k0_hw238 : k0_chk238 v1157 v1161), ∀ a x, ((![v1161, v1157] : Fin 2 → IVec S16 32) a x).toNat < S4x10368.size a := fun v1157 v1161 k0_hw238 => k0_hw238

def k0_chk239 (v1157 : IVec S16 32) (v1164 : IVec S16 32) : Prop :=
  (∀ a x, ((![v1164, v1157] : Fin 2 → IVec S16 32) a x).toNat < S4x10368.size a)
theorem k0_idx239_inb : ∀ (v1157 : IVec S16 32) (v1164 : IVec S16 32) (k0_hw239 : k0_chk239 v1157 v1164), ∀ a x, ((![v1164, v1157] : Fin 2 → IVec S16 32) a x).toNat < S4x10368.size a := fun v1157 v1164 k0_hw239 => k0_hw239

def k0_chk240 (v1157 : IVec S16 32) (v1167 : IVec S16 32) : Prop :=
  (∀ a x, ((![v1167, v1157] : Fin 2 → IVec S16 32) a x).toNat < S4x10368.size a)
theorem k0_idx240_inb : ∀ (v1157 : IVec S16 32) (v1167 : IVec S16 32) (k0_hw240 : k0_chk240 v1157 v1167), ∀ a x, ((![v1167, v1157] : Fin 2 → IVec S16 32) a x).toNat < S4x10368.size a := fun v1157 v1167 k0_hw240 => k0_hw240
def k0_off86 (k0_t7 : Fin k0_t7_loop.trips) : Fin 1 → Nat :=
  let c5124_i32 : BitVec 32 := 5124#32
  let c0_i32_360 : BitVec 32 := 0#32
  let c1_i32_362 : BitVec 32 := 1#32
  let arg21 : BitVec 32 := Scf.iv c0_i32_360 c1_i32_362 k0_t7
  let c16_i32 : BitVec 32 := 16#32
  let v1131 : BitVec 32 := Scalar.muli arg21 c16_i32
  let c2546_i32 : BitVec 32 := 2546#32
  let v1132 : BitVec 32 := Scalar.minsi v1131 c2546_i32
  let v1170 : BitVec 32 := Scalar.addi c5124_i32 v1132
  let v1171 : Index := Scalar.indexCast v1170
  ![v1171.toNat]

def k0_chk241 (v1172 : IVec S16 32) (v1173 : IVec S16 32) : Prop :=
  (∀ a x, ((![v1173, v1172] : Fin 2 → IVec S16 32) a x).toNat < S4x10368.size a)
theorem k0_idx241_inb : ∀ (v1172 : IVec S16 32) (v1173 : IVec S16 32) (k0_hw241 : k0_chk241 v1172 v1173), ∀ a x, ((![v1173, v1172] : Fin 2 → IVec S16 32) a x).toNat < S4x10368.size a := fun v1172 v1173 k0_hw241 => k0_hw241

def k0_chk242 (v1172 : IVec S16 32) (v1176 : IVec S16 32) : Prop :=
  (∀ a x, ((![v1176, v1172] : Fin 2 → IVec S16 32) a x).toNat < S4x10368.size a)
theorem k0_idx242_inb : ∀ (v1172 : IVec S16 32) (v1176 : IVec S16 32) (k0_hw242 : k0_chk242 v1172 v1176), ∀ a x, ((![v1176, v1172] : Fin 2 → IVec S16 32) a x).toNat < S4x10368.size a := fun v1172 v1176 k0_hw242 => k0_hw242

def k0_chk243 (v1172 : IVec S16 32) (v1179 : IVec S16 32) : Prop :=
  (∀ a x, ((![v1179, v1172] : Fin 2 → IVec S16 32) a x).toNat < S4x10368.size a)
theorem k0_idx243_inb : ∀ (v1172 : IVec S16 32) (v1179 : IVec S16 32) (k0_hw243 : k0_chk243 v1172 v1179), ∀ a x, ((![v1179, v1172] : Fin 2 → IVec S16 32) a x).toNat < S4x10368.size a := fun v1172 v1179 k0_hw243 => k0_hw243

def k0_chk244 (v1172 : IVec S16 32) (v1182 : IVec S16 32) : Prop :=
  (∀ a x, ((![v1182, v1172] : Fin 2 → IVec S16 32) a x).toNat < S4x10368.size a)
theorem k0_idx244_inb : ∀ (v1172 : IVec S16 32) (v1182 : IVec S16 32) (k0_hw244 : k0_chk244 v1172 v1182), ∀ a x, ((![v1182, v1172] : Fin 2 → IVec S16 32) a x).toNat < S4x10368.size a := fun v1172 v1182 k0_hw244 => k0_hw244
def k0_off87 (k0_t7 : Fin k0_t7_loop.trips) : Fin 1 → Nat :=
  let c7686_i32 : BitVec 32 := 7686#32
  let c0_i32_360 : BitVec 32 := 0#32
  let c1_i32_362 : BitVec 32 := 1#32
  let arg21 : BitVec 32 := Scf.iv c0_i32_360 c1_i32_362 k0_t7
  let c16_i32 : BitVec 32 := 16#32
  let v1131 : BitVec 32 := Scalar.muli arg21 c16_i32
  let c2546_i32 : BitVec 32 := 2546#32
  let v1132 : BitVec 32 := Scalar.minsi v1131 c2546_i32
  let v1185 : BitVec 32 := Scalar.addi c7686_i32 v1132
  let v1186 : Index := Scalar.indexCast v1185
  ![v1186.toNat]

def k0_chk245 (v1187 : IVec S16 32) (v1188 : IVec S16 32) : Prop :=
  (∀ a x, ((![v1188, v1187] : Fin 2 → IVec S16 32) a x).toNat < S4x10368.size a)
theorem k0_idx245_inb : ∀ (v1187 : IVec S16 32) (v1188 : IVec S16 32) (k0_hw245 : k0_chk245 v1187 v1188), ∀ a x, ((![v1188, v1187] : Fin 2 → IVec S16 32) a x).toNat < S4x10368.size a := fun v1187 v1188 k0_hw245 => k0_hw245

def k0_chk246 (v1187 : IVec S16 32) (v1191 : IVec S16 32) : Prop :=
  (∀ a x, ((![v1191, v1187] : Fin 2 → IVec S16 32) a x).toNat < S4x10368.size a)
theorem k0_idx246_inb : ∀ (v1187 : IVec S16 32) (v1191 : IVec S16 32) (k0_hw246 : k0_chk246 v1187 v1191), ∀ a x, ((![v1191, v1187] : Fin 2 → IVec S16 32) a x).toNat < S4x10368.size a := fun v1187 v1191 k0_hw246 => k0_hw246

def k0_chk247 (v1187 : IVec S16 32) (v1194 : IVec S16 32) : Prop :=
  (∀ a x, ((![v1194, v1187] : Fin 2 → IVec S16 32) a x).toNat < S4x10368.size a)
theorem k0_idx247_inb : ∀ (v1187 : IVec S16 32) (v1194 : IVec S16 32) (k0_hw247 : k0_chk247 v1187 v1194), ∀ a x, ((![v1194, v1187] : Fin 2 → IVec S16 32) a x).toNat < S4x10368.size a := fun v1187 v1194 k0_hw247 => k0_hw247

def k0_chk248 (v1187 : IVec S16 32) (v1197 : IVec S16 32) : Prop :=
  (∀ a x, ((![v1197, v1187] : Fin 2 → IVec S16 32) a x).toNat < S4x10368.size a)
theorem k0_idx248_inb : ∀ (v1187 : IVec S16 32) (v1197 : IVec S16 32) (k0_hw248 : k0_chk248 v1187 v1197), ∀ a x, ((![v1197, v1187] : Fin 2 → IVec S16 32) a x).toNat < S4x10368.size a := fun v1187 v1197 k0_hw248 => k0_hw248
def k0_off88 (k0_t7 : Fin k0_t7_loop.trips) : Fin 1 → Nat :=
  let c10248_i32 : BitVec 32 := 10248#32
  let c0_i32_360 : BitVec 32 := 0#32
  let c1_i32_362 : BitVec 32 := 1#32
  let arg21 : BitVec 32 := Scf.iv c0_i32_360 c1_i32_362 k0_t7
  let c16_i32 : BitVec 32 := 16#32
  let v1131 : BitVec 32 := Scalar.muli arg21 c16_i32
  let c2546_i32 : BitVec 32 := 2546#32
  let v1132 : BitVec 32 := Scalar.minsi v1131 c2546_i32
  let v1200 : BitVec 32 := Scalar.addi c10248_i32 v1132
  let v1201 : Index := Scalar.indexCast v1200
  ![v1201.toNat]

def k0_chk249 (v1202 : IVec S16 32) (v1203 : IVec S16 32) : Prop :=
  (∀ a x, ((![v1203, v1202] : Fin 2 → IVec S16 32) a x).toNat < S4x10368.size a)
theorem k0_idx249_inb : ∀ (v1202 : IVec S16 32) (v1203 : IVec S16 32) (k0_hw249 : k0_chk249 v1202 v1203), ∀ a x, ((![v1203, v1202] : Fin 2 → IVec S16 32) a x).toNat < S4x10368.size a := fun v1202 v1203 k0_hw249 => k0_hw249

def k0_chk250 (v1202 : IVec S16 32) (v1206 : IVec S16 32) : Prop :=
  (∀ a x, ((![v1206, v1202] : Fin 2 → IVec S16 32) a x).toNat < S4x10368.size a)
theorem k0_idx250_inb : ∀ (v1202 : IVec S16 32) (v1206 : IVec S16 32) (k0_hw250 : k0_chk250 v1202 v1206), ∀ a x, ((![v1206, v1202] : Fin 2 → IVec S16 32) a x).toNat < S4x10368.size a := fun v1202 v1206 k0_hw250 => k0_hw250

def k0_chk251 (v1202 : IVec S16 32) (v1209 : IVec S16 32) : Prop :=
  (∀ a x, ((![v1209, v1202] : Fin 2 → IVec S16 32) a x).toNat < S4x10368.size a)
theorem k0_idx251_inb : ∀ (v1202 : IVec S16 32) (v1209 : IVec S16 32) (k0_hw251 : k0_chk251 v1202 v1209), ∀ a x, ((![v1209, v1202] : Fin 2 → IVec S16 32) a x).toNat < S4x10368.size a := fun v1202 v1209 k0_hw251 => k0_hw251

def k0_chk252 (v1202 : IVec S16 32) (v1212 : IVec S16 32) : Prop :=
  (∀ a x, ((![v1212, v1202] : Fin 2 → IVec S16 32) a x).toNat < S4x10368.size a)
theorem k0_idx252_inb : ∀ (v1202 : IVec S16 32) (v1212 : IVec S16 32) (k0_hw252 : k0_chk252 v1202 v1212), ∀ a x, ((![v1212, v1202] : Fin 2 → IVec S16 32) a x).toNat < S4x10368.size a := fun v1202 v1212 k0_hw252 => k0_hw252
def k0_off89 (k0_t7 : Fin k0_t7_loop.trips) : Fin 1 → Nat :=
  let c12810_i32 : BitVec 32 := 12810#32
  let c0_i32_360 : BitVec 32 := 0#32
  let c1_i32_362 : BitVec 32 := 1#32
  let arg21 : BitVec 32 := Scf.iv c0_i32_360 c1_i32_362 k0_t7
  let c16_i32 : BitVec 32 := 16#32
  let v1131 : BitVec 32 := Scalar.muli arg21 c16_i32
  let c2546_i32 : BitVec 32 := 2546#32
  let v1132 : BitVec 32 := Scalar.minsi v1131 c2546_i32
  let v1215 : BitVec 32 := Scalar.addi c12810_i32 v1132
  let v1216 : Index := Scalar.indexCast v1215
  ![v1216.toNat]

def k0_chk253 (v1217 : IVec S16 32) (v1218 : IVec S16 32) : Prop :=
  (∀ a x, ((![v1218, v1217] : Fin 2 → IVec S16 32) a x).toNat < S4x10368.size a)
theorem k0_idx253_inb : ∀ (v1217 : IVec S16 32) (v1218 : IVec S16 32) (k0_hw253 : k0_chk253 v1217 v1218), ∀ a x, ((![v1218, v1217] : Fin 2 → IVec S16 32) a x).toNat < S4x10368.size a := fun v1217 v1218 k0_hw253 => k0_hw253

def k0_chk254 (v1217 : IVec S16 32) (v1221 : IVec S16 32) : Prop :=
  (∀ a x, ((![v1221, v1217] : Fin 2 → IVec S16 32) a x).toNat < S4x10368.size a)
theorem k0_idx254_inb : ∀ (v1217 : IVec S16 32) (v1221 : IVec S16 32) (k0_hw254 : k0_chk254 v1217 v1221), ∀ a x, ((![v1221, v1217] : Fin 2 → IVec S16 32) a x).toNat < S4x10368.size a := fun v1217 v1221 k0_hw254 => k0_hw254

def k0_chk255 (v1217 : IVec S16 32) (v1224 : IVec S16 32) : Prop :=
  (∀ a x, ((![v1224, v1217] : Fin 2 → IVec S16 32) a x).toNat < S4x10368.size a)
theorem k0_idx255_inb : ∀ (v1217 : IVec S16 32) (v1224 : IVec S16 32) (k0_hw255 : k0_chk255 v1217 v1224), ∀ a x, ((![v1224, v1217] : Fin 2 → IVec S16 32) a x).toNat < S4x10368.size a := fun v1217 v1224 k0_hw255 => k0_hw255

def k0_chk256 (v1217 : IVec S16 32) (v1227 : IVec S16 32) : Prop :=
  (∀ a x, ((![v1227, v1217] : Fin 2 → IVec S16 32) a x).toNat < S4x10368.size a)
theorem k0_idx256_inb : ∀ (v1217 : IVec S16 32) (v1227 : IVec S16 32) (k0_hw256 : k0_chk256 v1217 v1227), ∀ a x, ((![v1227, v1217] : Fin 2 → IVec S16 32) a x).toNat < S4x10368.size a := fun v1217 v1227 k0_hw256 => k0_hw256
def k0_off90 (k0_t7 : Fin k0_t7_loop.trips) : Fin 1 → Nat :=
  let c15372_i32 : BitVec 32 := 15372#32
  let c0_i32_360 : BitVec 32 := 0#32
  let c1_i32_362 : BitVec 32 := 1#32
  let arg21 : BitVec 32 := Scf.iv c0_i32_360 c1_i32_362 k0_t7
  let c16_i32 : BitVec 32 := 16#32
  let v1131 : BitVec 32 := Scalar.muli arg21 c16_i32
  let c2546_i32 : BitVec 32 := 2546#32
  let v1132 : BitVec 32 := Scalar.minsi v1131 c2546_i32
  let v1230 : BitVec 32 := Scalar.addi c15372_i32 v1132
  let v1231 : Index := Scalar.indexCast v1230
  ![v1231.toNat]

def k0_chk257 (v1232 : IVec S16 32) (v1233 : IVec S16 32) : Prop :=
  (∀ a x, ((![v1233, v1232] : Fin 2 → IVec S16 32) a x).toNat < S4x10368.size a)
theorem k0_idx257_inb : ∀ (v1232 : IVec S16 32) (v1233 : IVec S16 32) (k0_hw257 : k0_chk257 v1232 v1233), ∀ a x, ((![v1233, v1232] : Fin 2 → IVec S16 32) a x).toNat < S4x10368.size a := fun v1232 v1233 k0_hw257 => k0_hw257

def k0_chk258 (v1232 : IVec S16 32) (v1236 : IVec S16 32) : Prop :=
  (∀ a x, ((![v1236, v1232] : Fin 2 → IVec S16 32) a x).toNat < S4x10368.size a)
theorem k0_idx258_inb : ∀ (v1232 : IVec S16 32) (v1236 : IVec S16 32) (k0_hw258 : k0_chk258 v1232 v1236), ∀ a x, ((![v1236, v1232] : Fin 2 → IVec S16 32) a x).toNat < S4x10368.size a := fun v1232 v1236 k0_hw258 => k0_hw258

def k0_chk259 (v1232 : IVec S16 32) (v1239 : IVec S16 32) : Prop :=
  (∀ a x, ((![v1239, v1232] : Fin 2 → IVec S16 32) a x).toNat < S4x10368.size a)
theorem k0_idx259_inb : ∀ (v1232 : IVec S16 32) (v1239 : IVec S16 32) (k0_hw259 : k0_chk259 v1232 v1239), ∀ a x, ((![v1239, v1232] : Fin 2 → IVec S16 32) a x).toNat < S4x10368.size a := fun v1232 v1239 k0_hw259 => k0_hw259

def k0_chk260 (v1232 : IVec S16 32) (v1242 : IVec S16 32) : Prop :=
  (∀ a x, ((![v1242, v1232] : Fin 2 → IVec S16 32) a x).toNat < S4x10368.size a)
theorem k0_idx260_inb : ∀ (v1232 : IVec S16 32) (v1242 : IVec S16 32) (k0_hw260 : k0_chk260 v1232 v1242), ∀ a x, ((![v1242, v1232] : Fin 2 → IVec S16 32) a x).toNat < S4x10368.size a := fun v1232 v1242 k0_hw260 => k0_hw260

def k0_chk261 (v1135 : IVec S16 32) (v1245 : IVec S16 32) : Prop :=
  (∀ a x, ((![v1245, v1135] : Fin 2 → IVec S16 32) a x).toNat < S4x2572.size a)
theorem k0_idx261_inb : ∀ (v1135 : IVec S16 32) (v1245 : IVec S16 32) (k0_hw261 : k0_chk261 v1135 v1245), ∀ a x, ((![v1245, v1135] : Fin 2 → IVec S16 32) a x).toNat < S4x2572.size a := fun v1135 v1245 k0_hw261 => k0_hw261

def k0_chk262 (v1135 : IVec S16 32) (v1248 : IVec S16 32) : Prop :=
  (∀ a x, ((![v1248, v1135] : Fin 2 → IVec S16 32) a x).toNat < S4x2572.size a)
theorem k0_idx262_inb : ∀ (v1135 : IVec S16 32) (v1248 : IVec S16 32) (k0_hw262 : k0_chk262 v1135 v1248), ∀ a x, ((![v1248, v1135] : Fin 2 → IVec S16 32) a x).toNat < S4x2572.size a := fun v1135 v1248 k0_hw262 => k0_hw262

def k0_chk263 (v1135 : IVec S16 32) (v1251 : IVec S16 32) : Prop :=
  (∀ a x, ((![v1251, v1135] : Fin 2 → IVec S16 32) a x).toNat < S4x2572.size a)
theorem k0_idx263_inb : ∀ (v1135 : IVec S16 32) (v1251 : IVec S16 32) (k0_hw263 : k0_chk263 v1135 v1251), ∀ a x, ((![v1251, v1135] : Fin 2 → IVec S16 32) a x).toNat < S4x2572.size a := fun v1135 v1251 k0_hw263 => k0_hw263

def k0_chk264 (v1135 : IVec S16 32) (v1254 : IVec S16 32) : Prop :=
  (∀ a x, ((![v1254, v1135] : Fin 2 → IVec S16 32) a x).toNat < S4x2572.size a)
theorem k0_idx264_inb : ∀ (v1135 : IVec S16 32) (v1254 : IVec S16 32) (k0_hw264 : k0_chk264 v1135 v1254), ∀ a x, ((![v1254, v1135] : Fin 2 → IVec S16 32) a x).toNat < S4x2572.size a := fun v1135 v1254 k0_hw264 => k0_hw264

def k0_chk265 (v323 : IVec S16 32) (v324 : IVec S16 32) : Prop :=
  (∀ a x, ((![v324, v323] : Fin 2 → IVec S16 32) a x).toNat < S4x2572.size a)
theorem k0_idx265_inb : ∀ (v323 : IVec S16 32) (v324 : IVec S16 32) (k0_hw265 : k0_chk265 v323 v324), ∀ a x, ((![v324, v323] : Fin 2 → IVec S16 32) a x).toNat < S4x2572.size a := fun v323 v324 k0_hw265 => k0_hw265

def k0_chk266 (v323 : IVec S16 32) (v326 : IVec S16 32) : Prop :=
  (∀ a x, ((![v326, v323] : Fin 2 → IVec S16 32) a x).toNat < S4x2572.size a)
theorem k0_idx266_inb : ∀ (v323 : IVec S16 32) (v326 : IVec S16 32) (k0_hw266 : k0_chk266 v323 v326), ∀ a x, ((![v326, v323] : Fin 2 → IVec S16 32) a x).toNat < S4x2572.size a := fun v323 v326 k0_hw266 => k0_hw266

def k0_chk267 (v323 : IVec S16 32) (v328 : IVec S16 32) : Prop :=
  (∀ a x, ((![v328, v323] : Fin 2 → IVec S16 32) a x).toNat < S4x2572.size a)
theorem k0_idx267_inb : ∀ (v323 : IVec S16 32) (v328 : IVec S16 32) (k0_hw267 : k0_chk267 v323 v328), ∀ a x, ((![v328, v323] : Fin 2 → IVec S16 32) a x).toNat < S4x2572.size a := fun v323 v328 k0_hw267 => k0_hw267

def k0_chk268 (v323 : IVec S16 32) (v330 : IVec S16 32) : Prop :=
  (∀ a x, ((![v330, v323] : Fin 2 → IVec S16 32) a x).toNat < S4x2572.size a)
theorem k0_idx268_inb : ∀ (v323 : IVec S16 32) (v330 : IVec S16 32) (k0_hw268 : k0_chk268 v323 v330), ∀ a x, ((![v330, v323] : Fin 2 → IVec S16 32) a x).toNat < S4x2572.size a := fun v323 v330 k0_hw268 => k0_hw268
def k0_off91 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_323 : BitVec 32 := 4#32
  let v291 : BitVec 32 := Scalar.muli v1 c4_i32_323
  let c1_i32_324 : BitVec 32 := 1#32
  let v292 : BitVec 32 := Scalar.addi v291 c1_i32_324
  let c4_i32_325 : BitVec 32 := 4#32
  let v293 : BitVec 32 := Scalar.muli v292 c4_i32_325
  let v294 : BitVec 32 := v293
  let c0_i32_372 : BitVec 32 := 0#32
  ![v294.toNat, 0]
def k0_mult16 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_376 : BitVec 32 := 4#32
  let v336 : BitVec 32 := Scalar.muli v1 c4_i32_376
  let c1_i32_377 : BitVec 32 := 1#32
  let v337 : BitVec 32 := Scalar.addi v336 c1_i32_377
  let c4_i32_378 : BitVec 32 := 4#32
  let v338 : BitVec 32 := Scalar.muli v337 c4_i32_378
  v338
def k0_mult17 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_379 : BitVec 32 := 4#32
  let v340 : BitVec 32 := Scalar.muli v1 c4_i32_379
  let c1_i32_380 : BitVec 32 := 1#32
  let v341 : BitVec 32 := Scalar.addi v340 c1_i32_380
  let c4_i32_381 : BitVec 32 := 4#32
  let v342 : BitVec 32 := Scalar.muli v341 c4_i32_381
  v342
def k0_off92 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_379 : BitVec 32 := 4#32
  let v340 : BitVec 32 := Scalar.muli v1 c4_i32_379
  let c1_i32_380 : BitVec 32 := 1#32
  let v341 : BitVec 32 := Scalar.addi v340 c1_i32_380
  let c4_i32_381 : BitVec 32 := 4#32
  let v342 : BitVec 32 := Scalar.muli v341 c4_i32_381
  let v343 : BitVec 32 := v342
  let c20480_i32_384 : BitVec 32 := 20480#32
  ![v343.toNat, 20480]
def k0_off93 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_379 : BitVec 32 := 4#32
  let v340 : BitVec 32 := Scalar.muli v1 c4_i32_379
  let c1_i32_380 : BitVec 32 := 1#32
  let v341 : BitVec 32 := Scalar.addi v340 c1_i32_380
  let c4_i32_381 : BitVec 32 := 4#32
  let v342 : BitVec 32 := Scalar.muli v341 c4_i32_381
  let v343 : BitVec 32 := v342
  let c25600_i32_390 : BitVec 32 := 25600#32
  ![v343.toNat, 25600]
def k0_off94 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_271 : BitVec 32 := 4#32
  let v252 : BitVec 32 := Scalar.muli v1 c4_i32_271
  let c0_i32_272 : BitVec 32 := 0#32
  let v253 : BitVec 32 := Scalar.addi v252 c0_i32_272
  let c4_i32_273 : BitVec 32 := 4#32
  let v254 : BitVec 32 := Scalar.muli v253 c4_i32_273
  let v255 : BitVec 32 := v254
  let c12800_i32_394 : BitVec 32 := 12800#32
  ![v255.toNat, 12800]

def k0_chk269 (v2 : IVec S16 32) (v354 : IVec S16 32) : Prop :=
  (∀ a x, ((![v354, v2] : Fin 2 → IVec S16 32) a x).toNat < S4x2572.size a)
theorem k0_idx269_inb : ∀ (v2 : IVec S16 32) (v354 : IVec S16 32) (k0_hw269 : k0_chk269 v2 v354), ∀ a x, ((![v354, v2] : Fin 2 → IVec S16 32) a x).toNat < S4x2572.size a := fun v2 v354 k0_hw269 => k0_hw269

def k0_chk270 (v2 : IVec S16 32) (v355 : IVec S16 32) : Prop :=
  (∀ a x, ((![v355, v2] : Fin 2 → IVec S16 32) a x).toNat < S4x2572.size a)
theorem k0_idx270_inb : ∀ (v2 : IVec S16 32) (v355 : IVec S16 32) (k0_hw270 : k0_chk270 v2 v355), ∀ a x, ((![v355, v2] : Fin 2 → IVec S16 32) a x).toNat < S4x2572.size a := fun v2 v355 k0_hw270 => k0_hw270

def k0_chk271 (v2 : IVec S16 32) (v356 : IVec S16 32) : Prop :=
  (∀ a x, ((![v356, v2] : Fin 2 → IVec S16 32) a x).toNat < S4x2572.size a)
theorem k0_idx271_inb : ∀ (v2 : IVec S16 32) (v356 : IVec S16 32) (k0_hw271 : k0_chk271 v2 v356), ∀ a x, ((![v356, v2] : Fin 2 → IVec S16 32) a x).toNat < S4x2572.size a := fun v2 v356 k0_hw271 => k0_hw271

def k0_chk272 (v2 : IVec S16 32) (v357 : IVec S16 32) : Prop :=
  (∀ a x, ((![v357, v2] : Fin 2 → IVec S16 32) a x).toNat < S4x2572.size a)
theorem k0_idx272_inb : ∀ (v2 : IVec S16 32) (v357 : IVec S16 32) (k0_hw272 : k0_chk272 v2 v357), ∀ a x, ((![v357, v2] : Fin 2 → IVec S16 32) a x).toNat < S4x2572.size a := fun v2 v357 k0_hw272 => k0_hw272
def k0_off95 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_326 : BitVec 32 := 4#32
  let v295 : BitVec 32 := Scalar.muli v1 c4_i32_326
  let c1_i32_327 : BitVec 32 := 1#32
  let v296 : BitVec 32 := Scalar.addi v295 c1_i32_327
  let c4_i32_328 : BitVec 32 := 4#32
  let v297 : BitVec 32 := Scalar.muli v296 c4_i32_328
  let v298 : BitVec 32 := v297
  let c10240_i32_402 : BitVec 32 := 10240#32
  ![v298.toNat, 10240]
def k0_off96 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_326 : BitVec 32 := 4#32
  let v295 : BitVec 32 := Scalar.muli v1 c4_i32_326
  let c1_i32_327 : BitVec 32 := 1#32
  let v296 : BitVec 32 := Scalar.addi v295 c1_i32_327
  let c4_i32_328 : BitVec 32 := 4#32
  let v297 : BitVec 32 := Scalar.muli v296 c4_i32_328
  let v298 : BitVec 32 := v297
  let c15360_i32_408 : BitVec 32 := 15360#32
  ![v298.toNat, 15360]
@[reducible] def k0_t8_loop : Scf.Loop 32 :=
  let c0_i32_413 : BitVec 32 := 0#32
  let c161_i32_414 : BitVec 32 := 161#32
  let v366 : BitVec 32 := Scalar.addi c0_i32_413 c161_i32_414
  let c1_i32_415 : BitVec 32 := 1#32
  ⟨c0_i32_413, v366, c1_i32_415⟩
def k0_off97 (k0_t8 : Fin k0_t8_loop.trips) : Fin 1 → Nat :=
  let c0_i32_1328 : BitVec 32 := 0#32
  let c0_i32_413 : BitVec 32 := 0#32
  let c1_i32_415 : BitVec 32 := 1#32
  let arg21 : BitVec 32 := Scf.iv c0_i32_413 c1_i32_415 k0_t8
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1328 v1132
  let v1141 : Index := Scalar.indexCast v1140
  ![v1141.toNat]

def k0_chk273 (v1144 : IVec S16 32) (v1145 : IVec S16 32) : Prop :=
  (∀ a x, ((![v1145, v1144] : Fin 2 → IVec S16 32) a x).toNat < S4x10368.size a)
theorem k0_idx273_inb : ∀ (v1144 : IVec S16 32) (v1145 : IVec S16 32) (k0_hw273 : k0_chk273 v1144 v1145), ∀ a x, ((![v1145, v1144] : Fin 2 → IVec S16 32) a x).toNat < S4x10368.size a := fun v1144 v1145 k0_hw273 => k0_hw273

def k0_chk274 (v1144 : IVec S16 32) (v1148 : IVec S16 32) : Prop :=
  (∀ a x, ((![v1148, v1144] : Fin 2 → IVec S16 32) a x).toNat < S4x10368.size a)
theorem k0_idx274_inb : ∀ (v1144 : IVec S16 32) (v1148 : IVec S16 32) (k0_hw274 : k0_chk274 v1144 v1148), ∀ a x, ((![v1148, v1144] : Fin 2 → IVec S16 32) a x).toNat < S4x10368.size a := fun v1144 v1148 k0_hw274 => k0_hw274

def k0_chk275 (v1144 : IVec S16 32) (v1151 : IVec S16 32) : Prop :=
  (∀ a x, ((![v1151, v1144] : Fin 2 → IVec S16 32) a x).toNat < S4x10368.size a)
theorem k0_idx275_inb : ∀ (v1144 : IVec S16 32) (v1151 : IVec S16 32) (k0_hw275 : k0_chk275 v1144 v1151), ∀ a x, ((![v1151, v1144] : Fin 2 → IVec S16 32) a x).toNat < S4x10368.size a := fun v1144 v1151 k0_hw275 => k0_hw275

def k0_chk276 (v1144 : IVec S16 32) (v1154 : IVec S16 32) : Prop :=
  (∀ a x, ((![v1154, v1144] : Fin 2 → IVec S16 32) a x).toNat < S4x10368.size a)
theorem k0_idx276_inb : ∀ (v1144 : IVec S16 32) (v1154 : IVec S16 32) (k0_hw276 : k0_chk276 v1144 v1154), ∀ a x, ((![v1154, v1144] : Fin 2 → IVec S16 32) a x).toNat < S4x10368.size a := fun v1144 v1154 k0_hw276 => k0_hw276
def k0_off98 (k0_t8 : Fin k0_t8_loop.trips) : Fin 1 → Nat :=
  let c2562_i32 : BitVec 32 := 2562#32
  let c0_i32_413 : BitVec 32 := 0#32
  let c1_i32_415 : BitVec 32 := 1#32
  let arg21 : BitVec 32 := Scf.iv c0_i32_413 c1_i32_415 k0_t8
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk277 (v1161 : IVec S16 32) (v1162 : IVec S16 32) : Prop :=
  (∀ a x, ((![v1162, v1161] : Fin 2 → IVec S16 32) a x).toNat < S4x10368.size a)
theorem k0_idx277_inb : ∀ (v1161 : IVec S16 32) (v1162 : IVec S16 32) (k0_hw277 : k0_chk277 v1161 v1162), ∀ a x, ((![v1162, v1161] : Fin 2 → IVec S16 32) a x).toNat < S4x10368.size a := fun v1161 v1162 k0_hw277 => k0_hw277

def k0_chk278 (v1161 : IVec S16 32) (v1165 : IVec S16 32) : Prop :=
  (∀ a x, ((![v1165, v1161] : Fin 2 → IVec S16 32) a x).toNat < S4x10368.size a)
theorem k0_idx278_inb : ∀ (v1161 : IVec S16 32) (v1165 : IVec S16 32) (k0_hw278 : k0_chk278 v1161 v1165), ∀ a x, ((![v1165, v1161] : Fin 2 → IVec S16 32) a x).toNat < S4x10368.size a := fun v1161 v1165 k0_hw278 => k0_hw278

def k0_chk279 (v1161 : IVec S16 32) (v1168 : IVec S16 32) : Prop :=
  (∀ a x, ((![v1168, v1161] : Fin 2 → IVec S16 32) a x).toNat < S4x10368.size a)
theorem k0_idx279_inb : ∀ (v1161 : IVec S16 32) (v1168 : IVec S16 32) (k0_hw279 : k0_chk279 v1161 v1168), ∀ a x, ((![v1168, v1161] : Fin 2 → IVec S16 32) a x).toNat < S4x10368.size a := fun v1161 v1168 k0_hw279 => k0_hw279

def k0_chk280 (v1161 : IVec S16 32) (v1171 : IVec S16 32) : Prop :=
  (∀ a x, ((![v1171, v1161] : Fin 2 → IVec S16 32) a x).toNat < S4x10368.size a)
theorem k0_idx280_inb : ∀ (v1161 : IVec S16 32) (v1171 : IVec S16 32) (k0_hw280 : k0_chk280 v1161 v1171), ∀ a x, ((![v1171, v1161] : Fin 2 → IVec S16 32) a x).toNat < S4x10368.size a := fun v1161 v1171 k0_hw280 => k0_hw280
def k0_off99 (k0_t8 : Fin k0_t8_loop.trips) : Fin 1 → Nat :=
  let c5124_i32 : BitVec 32 := 5124#32
  let c0_i32_413 : BitVec 32 := 0#32
  let c1_i32_415 : BitVec 32 := 1#32
  let arg21 : BitVec 32 := Scf.iv c0_i32_413 c1_i32_415 k0_t8
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk281 (v1178 : IVec S16 32) (v1179 : IVec S16 32) : Prop :=
  (∀ a x, ((![v1179, v1178] : Fin 2 → IVec S16 32) a x).toNat < S4x10368.size a)
theorem k0_idx281_inb : ∀ (v1178 : IVec S16 32) (v1179 : IVec S16 32) (k0_hw281 : k0_chk281 v1178 v1179), ∀ a x, ((![v1179, v1178] : Fin 2 → IVec S16 32) a x).toNat < S4x10368.size a := fun v1178 v1179 k0_hw281 => k0_hw281

def k0_chk282 (v1178 : IVec S16 32) (v1182 : IVec S16 32) : Prop :=
  (∀ a x, ((![v1182, v1178] : Fin 2 → IVec S16 32) a x).toNat < S4x10368.size a)
theorem k0_idx282_inb : ∀ (v1178 : IVec S16 32) (v1182 : IVec S16 32) (k0_hw282 : k0_chk282 v1178 v1182), ∀ a x, ((![v1182, v1178] : Fin 2 → IVec S16 32) a x).toNat < S4x10368.size a := fun v1178 v1182 k0_hw282 => k0_hw282

def k0_chk283 (v1178 : IVec S16 32) (v1185 : IVec S16 32) : Prop :=
  (∀ a x, ((![v1185, v1178] : Fin 2 → IVec S16 32) a x).toNat < S4x10368.size a)
theorem k0_idx283_inb : ∀ (v1178 : IVec S16 32) (v1185 : IVec S16 32) (k0_hw283 : k0_chk283 v1178 v1185), ∀ a x, ((![v1185, v1178] : Fin 2 → IVec S16 32) a x).toNat < S4x10368.size a := fun v1178 v1185 k0_hw283 => k0_hw283

def k0_chk284 (v1178 : IVec S16 32) (v1188 : IVec S16 32) : Prop :=
  (∀ a x, ((![v1188, v1178] : Fin 2 → IVec S16 32) a x).toNat < S4x10368.size a)
theorem k0_idx284_inb : ∀ (v1178 : IVec S16 32) (v1188 : IVec S16 32) (k0_hw284 : k0_chk284 v1178 v1188), ∀ a x, ((![v1188, v1178] : Fin 2 → IVec S16 32) a x).toNat < S4x10368.size a := fun v1178 v1188 k0_hw284 => k0_hw284
def k0_off100 (k0_t8 : Fin k0_t8_loop.trips) : Fin 1 → Nat :=
  let c7686_i32 : BitVec 32 := 7686#32
  let c0_i32_413 : BitVec 32 := 0#32
  let c1_i32_415 : BitVec 32 := 1#32
  let arg21 : BitVec 32 := Scf.iv c0_i32_413 c1_i32_415 k0_t8
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk285 (v1195 : IVec S16 32) (v1196 : IVec S16 32) : Prop :=
  (∀ a x, ((![v1196, v1195] : Fin 2 → IVec S16 32) a x).toNat < S4x10368.size a)
theorem k0_idx285_inb : ∀ (v1195 : IVec S16 32) (v1196 : IVec S16 32) (k0_hw285 : k0_chk285 v1195 v1196), ∀ a x, ((![v1196, v1195] : Fin 2 → IVec S16 32) a x).toNat < S4x10368.size a := fun v1195 v1196 k0_hw285 => k0_hw285

def k0_chk286 (v1195 : IVec S16 32) (v1199 : IVec S16 32) : Prop :=
  (∀ a x, ((![v1199, v1195] : Fin 2 → IVec S16 32) a x).toNat < S4x10368.size a)
theorem k0_idx286_inb : ∀ (v1195 : IVec S16 32) (v1199 : IVec S16 32) (k0_hw286 : k0_chk286 v1195 v1199), ∀ a x, ((![v1199, v1195] : Fin 2 → IVec S16 32) a x).toNat < S4x10368.size a := fun v1195 v1199 k0_hw286 => k0_hw286

def k0_chk287 (v1195 : IVec S16 32) (v1202 : IVec S16 32) : Prop :=
  (∀ a x, ((![v1202, v1195] : Fin 2 → IVec S16 32) a x).toNat < S4x10368.size a)
theorem k0_idx287_inb : ∀ (v1195 : IVec S16 32) (v1202 : IVec S16 32) (k0_hw287 : k0_chk287 v1195 v1202), ∀ a x, ((![v1202, v1195] : Fin 2 → IVec S16 32) a x).toNat < S4x10368.size a := fun v1195 v1202 k0_hw287 => k0_hw287

def k0_chk288 (v1195 : IVec S16 32) (v1205 : IVec S16 32) : Prop :=
  (∀ a x, ((![v1205, v1195] : Fin 2 → IVec S16 32) a x).toNat < S4x10368.size a)
theorem k0_idx288_inb : ∀ (v1195 : IVec S16 32) (v1205 : IVec S16 32) (k0_hw288 : k0_chk288 v1195 v1205), ∀ a x, ((![v1205, v1195] : Fin 2 → IVec S16 32) a x).toNat < S4x10368.size a := fun v1195 v1205 k0_hw288 => k0_hw288
def k0_off101 (k0_t8 : Fin k0_t8_loop.trips) : Fin 1 → Nat :=
  let c10248_i32 : BitVec 32 := 10248#32
  let c0_i32_413 : BitVec 32 := 0#32
  let c1_i32_415 : BitVec 32 := 1#32
  let arg21 : BitVec 32 := Scf.iv c0_i32_413 c1_i32_415 k0_t8
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk289 (v1212 : IVec S16 32) (v1213 : IVec S16 32) : Prop :=
  (∀ a x, ((![v1213, v1212] : Fin 2 → IVec S16 32) a x).toNat < S4x10368.size a)
theorem k0_idx289_inb : ∀ (v1212 : IVec S16 32) (v1213 : IVec S16 32) (k0_hw289 : k0_chk289 v1212 v1213), ∀ a x, ((![v1213, v1212] : Fin 2 → IVec S16 32) a x).toNat < S4x10368.size a := fun v1212 v1213 k0_hw289 => k0_hw289

def k0_chk290 (v1212 : IVec S16 32) (v1216 : IVec S16 32) : Prop :=
  (∀ a x, ((![v1216, v1212] : Fin 2 → IVec S16 32) a x).toNat < S4x10368.size a)
theorem k0_idx290_inb : ∀ (v1212 : IVec S16 32) (v1216 : IVec S16 32) (k0_hw290 : k0_chk290 v1212 v1216), ∀ a x, ((![v1216, v1212] : Fin 2 → IVec S16 32) a x).toNat < S4x10368.size a := fun v1212 v1216 k0_hw290 => k0_hw290

def k0_chk291 (v1212 : IVec S16 32) (v1219 : IVec S16 32) : Prop :=
  (∀ a x, ((![v1219, v1212] : Fin 2 → IVec S16 32) a x).toNat < S4x10368.size a)
theorem k0_idx291_inb : ∀ (v1212 : IVec S16 32) (v1219 : IVec S16 32) (k0_hw291 : k0_chk291 v1212 v1219), ∀ a x, ((![v1219, v1212] : Fin 2 → IVec S16 32) a x).toNat < S4x10368.size a := fun v1212 v1219 k0_hw291 => k0_hw291

def k0_chk292 (v1212 : IVec S16 32) (v1222 : IVec S16 32) : Prop :=
  (∀ a x, ((![v1222, v1212] : Fin 2 → IVec S16 32) a x).toNat < S4x10368.size a)
theorem k0_idx292_inb : ∀ (v1212 : IVec S16 32) (v1222 : IVec S16 32) (k0_hw292 : k0_chk292 v1212 v1222), ∀ a x, ((![v1222, v1212] : Fin 2 → IVec S16 32) a x).toNat < S4x10368.size a := fun v1212 v1222 k0_hw292 => k0_hw292
def k0_off102 (k0_t8 : Fin k0_t8_loop.trips) : Fin 1 → Nat :=
  let c12810_i32 : BitVec 32 := 12810#32
  let c0_i32_413 : BitVec 32 := 0#32
  let c1_i32_415 : BitVec 32 := 1#32
  let arg21 : BitVec 32 := Scf.iv c0_i32_413 c1_i32_415 k0_t8
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk293 (v1229 : IVec S16 32) (v1230 : IVec S16 32) : Prop :=
  (∀ a x, ((![v1230, v1229] : Fin 2 → IVec S16 32) a x).toNat < S4x10368.size a)
theorem k0_idx293_inb : ∀ (v1229 : IVec S16 32) (v1230 : IVec S16 32) (k0_hw293 : k0_chk293 v1229 v1230), ∀ a x, ((![v1230, v1229] : Fin 2 → IVec S16 32) a x).toNat < S4x10368.size a := fun v1229 v1230 k0_hw293 => k0_hw293

def k0_chk294 (v1229 : IVec S16 32) (v1233 : IVec S16 32) : Prop :=
  (∀ a x, ((![v1233, v1229] : Fin 2 → IVec S16 32) a x).toNat < S4x10368.size a)
theorem k0_idx294_inb : ∀ (v1229 : IVec S16 32) (v1233 : IVec S16 32) (k0_hw294 : k0_chk294 v1229 v1233), ∀ a x, ((![v1233, v1229] : Fin 2 → IVec S16 32) a x).toNat < S4x10368.size a := fun v1229 v1233 k0_hw294 => k0_hw294

def k0_chk295 (v1229 : IVec S16 32) (v1236 : IVec S16 32) : Prop :=
  (∀ a x, ((![v1236, v1229] : Fin 2 → IVec S16 32) a x).toNat < S4x10368.size a)
theorem k0_idx295_inb : ∀ (v1229 : IVec S16 32) (v1236 : IVec S16 32) (k0_hw295 : k0_chk295 v1229 v1236), ∀ a x, ((![v1236, v1229] : Fin 2 → IVec S16 32) a x).toNat < S4x10368.size a := fun v1229 v1236 k0_hw295 => k0_hw295

def k0_chk296 (v1229 : IVec S16 32) (v1239 : IVec S16 32) : Prop :=
  (∀ a x, ((![v1239, v1229] : Fin 2 → IVec S16 32) a x).toNat < S4x10368.size a)
theorem k0_idx296_inb : ∀ (v1229 : IVec S16 32) (v1239 : IVec S16 32) (k0_hw296 : k0_chk296 v1229 v1239), ∀ a x, ((![v1239, v1229] : Fin 2 → IVec S16 32) a x).toNat < S4x10368.size a := fun v1229 v1239 k0_hw296 => k0_hw296
def k0_off103 (k0_t8 : Fin k0_t8_loop.trips) : Fin 1 → Nat :=
  let c15372_i32 : BitVec 32 := 15372#32
  let c0_i32_413 : BitVec 32 := 0#32
  let c1_i32_415 : BitVec 32 := 1#32
  let arg21 : BitVec 32 := Scf.iv c0_i32_413 c1_i32_415 k0_t8
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk297 (v1246 : IVec S16 32) (v1247 : IVec S16 32) : Prop :=
  (∀ a x, ((![v1247, v1246] : Fin 2 → IVec S16 32) a x).toNat < S4x10368.size a)
theorem k0_idx297_inb : ∀ (v1246 : IVec S16 32) (v1247 : IVec S16 32) (k0_hw297 : k0_chk297 v1246 v1247), ∀ a x, ((![v1247, v1246] : Fin 2 → IVec S16 32) a x).toNat < S4x10368.size a := fun v1246 v1247 k0_hw297 => k0_hw297

def k0_chk298 (v1246 : IVec S16 32) (v1250 : IVec S16 32) : Prop :=
  (∀ a x, ((![v1250, v1246] : Fin 2 → IVec S16 32) a x).toNat < S4x10368.size a)
theorem k0_idx298_inb : ∀ (v1246 : IVec S16 32) (v1250 : IVec S16 32) (k0_hw298 : k0_chk298 v1246 v1250), ∀ a x, ((![v1250, v1246] : Fin 2 → IVec S16 32) a x).toNat < S4x10368.size a := fun v1246 v1250 k0_hw298 => k0_hw298

def k0_chk299 (v1246 : IVec S16 32) (v1253 : IVec S16 32) : Prop :=
  (∀ a x, ((![v1253, v1246] : Fin 2 → IVec S16 32) a x).toNat < S4x10368.size a)
theorem k0_idx299_inb : ∀ (v1246 : IVec S16 32) (v1253 : IVec S16 32) (k0_hw299 : k0_chk299 v1246 v1253), ∀ a x, ((![v1253, v1246] : Fin 2 → IVec S16 32) a x).toNat < S4x10368.size a := fun v1246 v1253 k0_hw299 => k0_hw299

def k0_chk300 (v1246 : IVec S16 32) (v1256 : IVec S16 32) : Prop :=
  (∀ a x, ((![v1256, v1246] : Fin 2 → IVec S16 32) a x).toNat < S4x10368.size a)
theorem k0_idx300_inb : ∀ (v1246 : IVec S16 32) (v1256 : IVec S16 32) (k0_hw300 : k0_chk300 v1246 v1256), ∀ a x, ((![v1256, v1246] : Fin 2 → IVec S16 32) a x).toNat < S4x10368.size a := fun v1246 v1256 k0_hw300 => k0_hw300

def k0_chk301 (v1135 : IVec S16 32) (v1259 : IVec S16 32) : Prop :=
  (∀ a x, ((![v1259, v1135] : Fin 2 → IVec S16 32) a x).toNat < S4x2572.size a)
theorem k0_idx301_inb : ∀ (v1135 : IVec S16 32) (v1259 : IVec S16 32) (k0_hw301 : k0_chk301 v1135 v1259), ∀ a x, ((![v1259, v1135] : Fin 2 → IVec S16 32) a x).toNat < S4x2572.size a := fun v1135 v1259 k0_hw301 => k0_hw301

def k0_chk302 (v1135 : IVec S16 32) (v1262 : IVec S16 32) : Prop :=
  (∀ a x, ((![v1262, v1135] : Fin 2 → IVec S16 32) a x).toNat < S4x2572.size a)
theorem k0_idx302_inb : ∀ (v1135 : IVec S16 32) (v1262 : IVec S16 32) (k0_hw302 : k0_chk302 v1135 v1262), ∀ a x, ((![v1262, v1135] : Fin 2 → IVec S16 32) a x).toNat < S4x2572.size a := fun v1135 v1262 k0_hw302 => k0_hw302

def k0_chk303 (v1135 : IVec S16 32) (v1265 : IVec S16 32) : Prop :=
  (∀ a x, ((![v1265, v1135] : Fin 2 → IVec S16 32) a x).toNat < S4x2572.size a)
theorem k0_idx303_inb : ∀ (v1135 : IVec S16 32) (v1265 : IVec S16 32) (k0_hw303 : k0_chk303 v1135 v1265), ∀ a x, ((![v1265, v1135] : Fin 2 → IVec S16 32) a x).toNat < S4x2572.size a := fun v1135 v1265 k0_hw303 => k0_hw303

def k0_chk304 (v1135 : IVec S16 32) (v1268 : IVec S16 32) : Prop :=
  (∀ a x, ((![v1268, v1135] : Fin 2 → IVec S16 32) a x).toNat < S4x2572.size a)
theorem k0_idx304_inb : ∀ (v1135 : IVec S16 32) (v1268 : IVec S16 32) (k0_hw304 : k0_chk304 v1135 v1268), ∀ a x, ((![v1268, v1135] : Fin 2 → IVec S16 32) a x).toNat < S4x2572.size a := fun v1135 v1268 k0_hw304 => k0_hw304

def k0_chk305 (v370 : IVec S16 32) (v371 : IVec S16 32) : Prop :=
  (∀ a x, ((![v371, v370] : Fin 2 → IVec S16 32) a x).toNat < S4x2572.size a)
theorem k0_idx305_inb : ∀ (v370 : IVec S16 32) (v371 : IVec S16 32) (k0_hw305 : k0_chk305 v370 v371), ∀ a x, ((![v371, v370] : Fin 2 → IVec S16 32) a x).toNat < S4x2572.size a := fun v370 v371 k0_hw305 => k0_hw305

def k0_chk306 (v370 : IVec S16 32) (v373 : IVec S16 32) : Prop :=
  (∀ a x, ((![v373, v370] : Fin 2 → IVec S16 32) a x).toNat < S4x2572.size a)
theorem k0_idx306_inb : ∀ (v370 : IVec S16 32) (v373 : IVec S16 32) (k0_hw306 : k0_chk306 v370 v373), ∀ a x, ((![v373, v370] : Fin 2 → IVec S16 32) a x).toNat < S4x2572.size a := fun v370 v373 k0_hw306 => k0_hw306

def k0_chk307 (v370 : IVec S16 32) (v375 : IVec S16 32) : Prop :=
  (∀ a x, ((![v375, v370] : Fin 2 → IVec S16 32) a x).toNat < S4x2572.size a)
theorem k0_idx307_inb : ∀ (v370 : IVec S16 32) (v375 : IVec S16 32) (k0_hw307 : k0_chk307 v370 v375), ∀ a x, ((![v375, v370] : Fin 2 → IVec S16 32) a x).toNat < S4x2572.size a := fun v370 v375 k0_hw307 => k0_hw307

def k0_chk308 (v370 : IVec S16 32) (v377 : IVec S16 32) : Prop :=
  (∀ a x, ((![v377, v370] : Fin 2 → IVec S16 32) a x).toNat < S4x2572.size a)
theorem k0_idx308_inb : ∀ (v370 : IVec S16 32) (v377 : IVec S16 32) (k0_hw308 : k0_chk308 v370 v377), ∀ a x, ((![v377, v370] : Fin 2 → IVec S16 32) a x).toNat < S4x2572.size a := fun v370 v377 k0_hw308 => k0_hw308
def k0_off104 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_376 : BitVec 32 := 4#32
  let v336 : BitVec 32 := Scalar.muli v1 c4_i32_376
  let c1_i32_377 : BitVec 32 := 1#32
  let v337 : BitVec 32 := Scalar.addi v336 c1_i32_377
  let c4_i32_378 : BitVec 32 := 4#32
  let v338 : BitVec 32 := Scalar.muli v337 c4_i32_378
  let v339 : BitVec 32 := v338
  let c2560_i32_425 : BitVec 32 := 2560#32
  ![v339.toNat, 2560]
def k0_mult18 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_429 : BitVec 32 := 4#32
  let v383 : BitVec 32 := Scalar.muli v1 c4_i32_429
  let c1_i32_430 : BitVec 32 := 1#32
  let v384 : BitVec 32 := Scalar.addi v383 c1_i32_430
  let c4_i32_431 : BitVec 32 := 4#32
  let v385 : BitVec 32 := Scalar.muli v384 c4_i32_431
  v385
def k0_mult19 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_432 : BitVec 32 := 4#32
  let v387 : BitVec 32 := Scalar.muli v1 c4_i32_432
  let c1_i32_433 : BitVec 32 := 1#32
  let v388 : BitVec 32 := Scalar.addi v387 c1_i32_433
  let c4_i32_434 : BitVec 32 := 4#32
  let v389 : BitVec 32 := Scalar.muli v388 c4_i32_434
  v389
def k0_off105 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_432 : BitVec 32 := 4#32
  let v387 : BitVec 32 := Scalar.muli v1 c4_i32_432
  let c1_i32_433 : BitVec 32 := 1#32
  let v388 : BitVec 32 := Scalar.addi v387 c1_i32_433
  let c4_i32_434 : BitVec 32 := 4#32
  let v389 : BitVec 32 := Scalar.muli v388 c4_i32_434
  let v390 : BitVec 32 := v389
  let c30720_i32_437 : BitVec 32 := 30720#32
  ![v390.toNat, 30720]
def k0_off106 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_432 : BitVec 32 := 4#32
  let v387 : BitVec 32 := Scalar.muli v1 c4_i32_432
  let c1_i32_433 : BitVec 32 := 1#32
  let v388 : BitVec 32 := Scalar.addi v387 c1_i32_433
  let c4_i32_434 : BitVec 32 := 4#32
  let v389 : BitVec 32 := Scalar.muli v388 c4_i32_434
  let v390 : BitVec 32 := v389
  let c35840_i32_443 : BitVec 32 := 35840#32
  ![v390.toNat, 35840]
def k0_off107 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_323 : BitVec 32 := 4#32
  let v291 : BitVec 32 := Scalar.muli v1 c4_i32_323
  let c1_i32_324 : BitVec 32 := 1#32
  let v292 : BitVec 32 := Scalar.addi v291 c1_i32_324
  let c4_i32_325 : BitVec 32 := 4#32
  let v293 : BitVec 32 := Scalar.muli v292 c4_i32_325
  let v294 : BitVec 32 := v293
  let c0_i32_449 : BitVec 32 := 0#32
  ![v294.toNat, 0]

def k0_chk309 (v2 : IVec S16 32) (v403 : IVec S16 32) : Prop :=
  (∀ a x, ((![v403, v2] : Fin 2 → IVec S16 32) a x).toNat < S4x2572.size a)
theorem k0_idx309_inb : ∀ (v2 : IVec S16 32) (v403 : IVec S16 32) (k0_hw309 : k0_chk309 v2 v403), ∀ a x, ((![v403, v2] : Fin 2 → IVec S16 32) a x).toNat < S4x2572.size a := fun v2 v403 k0_hw309 => k0_hw309

def k0_chk310 (v2 : IVec S16 32) (v404 : IVec S16 32) : Prop :=
  (∀ a x, ((![v404, v2] : Fin 2 → IVec S16 32) a x).toNat < S4x2572.size a)
theorem k0_idx310_inb : ∀ (v2 : IVec S16 32) (v404 : IVec S16 32) (k0_hw310 : k0_chk310 v2 v404), ∀ a x, ((![v404, v2] : Fin 2 → IVec S16 32) a x).toNat < S4x2572.size a := fun v2 v404 k0_hw310 => k0_hw310

def k0_chk311 (v2 : IVec S16 32) (v405 : IVec S16 32) : Prop :=
  (∀ a x, ((![v405, v2] : Fin 2 → IVec S16 32) a x).toNat < S4x2572.size a)
theorem k0_idx311_inb : ∀ (v2 : IVec S16 32) (v405 : IVec S16 32) (k0_hw311 : k0_chk311 v2 v405), ∀ a x, ((![v405, v2] : Fin 2 → IVec S16 32) a x).toNat < S4x2572.size a := fun v2 v405 k0_hw311 => k0_hw311

def k0_chk312 (v2 : IVec S16 32) (v406 : IVec S16 32) : Prop :=
  (∀ a x, ((![v406, v2] : Fin 2 → IVec S16 32) a x).toNat < S4x2572.size a)
theorem k0_idx312_inb : ∀ (v2 : IVec S16 32) (v406 : IVec S16 32) (k0_hw312 : k0_chk312 v2 v406), ∀ a x, ((![v406, v2] : Fin 2 → IVec S16 32) a x).toNat < S4x2572.size a := fun v2 v406 k0_hw312 => k0_hw312
def k0_off108 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_379 : BitVec 32 := 4#32
  let v340 : BitVec 32 := Scalar.muli v1 c4_i32_379
  let c1_i32_380 : BitVec 32 := 1#32
  let v341 : BitVec 32 := Scalar.addi v340 c1_i32_380
  let c4_i32_381 : BitVec 32 := 4#32
  let v342 : BitVec 32 := Scalar.muli v341 c4_i32_381
  let v343 : BitVec 32 := v342
  let c20480_i32_459 : BitVec 32 := 20480#32
  ![v343.toNat, 20480]
def k0_off109 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_379 : BitVec 32 := 4#32
  let v340 : BitVec 32 := Scalar.muli v1 c4_i32_379
  let c1_i32_380 : BitVec 32 := 1#32
  let v341 : BitVec 32 := Scalar.addi v340 c1_i32_380
  let c4_i32_381 : BitVec 32 := 4#32
  let v342 : BitVec 32 := Scalar.muli v341 c4_i32_381
  let v343 : BitVec 32 := v342
  let c25600_i32_465 : BitVec 32 := 25600#32
  ![v343.toNat, 25600]
@[reducible] def k0_t9_loop : Scf.Loop 32 :=
  let c0_i32_470 : BitVec 32 := 0#32
  let c161_i32_471 : BitVec 32 := 161#32
  let v415 : BitVec 32 := Scalar.addi c0_i32_470 c161_i32_471
  let c1_i32_472 : BitVec 32 := 1#32
  ⟨c0_i32_470, v415, c1_i32_472⟩
def k0_off110 (k0_t9 : Fin k0_t9_loop.trips) : Fin 1 → Nat :=
  let c0_i32_1328 : BitVec 32 := 0#32
  let c0_i32_470 : BitVec 32 := 0#32
  let c1_i32_472 : BitVec 32 := 1#32
  let arg21 : BitVec 32 := Scf.iv c0_i32_470 c1_i32_472 k0_t9
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1328 v1132
  let v1141 : Index := Scalar.indexCast v1140
  ![v1141.toNat]

def k0_chk313 (v1144 : IVec S16 32) (v1145 : IVec S16 32) : Prop :=
  (∀ a x, ((![v1145, v1144] : Fin 2 → IVec S16 32) a x).toNat < S4x10368.size a)
theorem k0_idx313_inb : ∀ (v1144 : IVec S16 32) (v1145 : IVec S16 32) (k0_hw313 : k0_chk313 v1144 v1145), ∀ a x, ((![v1145, v1144] : Fin 2 → IVec S16 32) a x).toNat < S4x10368.size a := fun v1144 v1145 k0_hw313 => k0_hw313

def k0_chk314 (v1144 : IVec S16 32) (v1148 : IVec S16 32) : Prop :=
  (∀ a x, ((![v1148, v1144] : Fin 2 → IVec S16 32) a x).toNat < S4x10368.size a)
theorem k0_idx314_inb : ∀ (v1144 : IVec S16 32) (v1148 : IVec S16 32) (k0_hw314 : k0_chk314 v1144 v1148), ∀ a x, ((![v1148, v1144] : Fin 2 → IVec S16 32) a x).toNat < S4x10368.size a := fun v1144 v1148 k0_hw314 => k0_hw314

def k0_chk315 (v1144 : IVec S16 32) (v1151 : IVec S16 32) : Prop :=
  (∀ a x, ((![v1151, v1144] : Fin 2 → IVec S16 32) a x).toNat < S4x10368.size a)
theorem k0_idx315_inb : ∀ (v1144 : IVec S16 32) (v1151 : IVec S16 32) (k0_hw315 : k0_chk315 v1144 v1151), ∀ a x, ((![v1151, v1144] : Fin 2 → IVec S16 32) a x).toNat < S4x10368.size a := fun v1144 v1151 k0_hw315 => k0_hw315

def k0_chk316 (v1144 : IVec S16 32) (v1154 : IVec S16 32) : Prop :=
  (∀ a x, ((![v1154, v1144] : Fin 2 → IVec S16 32) a x).toNat < S4x10368.size a)
theorem k0_idx316_inb : ∀ (v1144 : IVec S16 32) (v1154 : IVec S16 32) (k0_hw316 : k0_chk316 v1144 v1154), ∀ a x, ((![v1154, v1144] : Fin 2 → IVec S16 32) a x).toNat < S4x10368.size a := fun v1144 v1154 k0_hw316 => k0_hw316
def k0_off111 (k0_t9 : Fin k0_t9_loop.trips) : Fin 1 → Nat :=
  let c2562_i32 : BitVec 32 := 2562#32
  let c0_i32_470 : BitVec 32 := 0#32
  let c1_i32_472 : BitVec 32 := 1#32
  let arg21 : BitVec 32 := Scf.iv c0_i32_470 c1_i32_472 k0_t9
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk317 (v1161 : IVec S16 32) (v1162 : IVec S16 32) : Prop :=
  (∀ a x, ((![v1162, v1161] : Fin 2 → IVec S16 32) a x).toNat < S4x10368.size a)
theorem k0_idx317_inb : ∀ (v1161 : IVec S16 32) (v1162 : IVec S16 32) (k0_hw317 : k0_chk317 v1161 v1162), ∀ a x, ((![v1162, v1161] : Fin 2 → IVec S16 32) a x).toNat < S4x10368.size a := fun v1161 v1162 k0_hw317 => k0_hw317

def k0_chk318 (v1161 : IVec S16 32) (v1165 : IVec S16 32) : Prop :=
  (∀ a x, ((![v1165, v1161] : Fin 2 → IVec S16 32) a x).toNat < S4x10368.size a)
theorem k0_idx318_inb : ∀ (v1161 : IVec S16 32) (v1165 : IVec S16 32) (k0_hw318 : k0_chk318 v1161 v1165), ∀ a x, ((![v1165, v1161] : Fin 2 → IVec S16 32) a x).toNat < S4x10368.size a := fun v1161 v1165 k0_hw318 => k0_hw318

def k0_chk319 (v1161 : IVec S16 32) (v1168 : IVec S16 32) : Prop :=
  (∀ a x, ((![v1168, v1161] : Fin 2 → IVec S16 32) a x).toNat < S4x10368.size a)
theorem k0_idx319_inb : ∀ (v1161 : IVec S16 32) (v1168 : IVec S16 32) (k0_hw319 : k0_chk319 v1161 v1168), ∀ a x, ((![v1168, v1161] : Fin 2 → IVec S16 32) a x).toNat < S4x10368.size a := fun v1161 v1168 k0_hw319 => k0_hw319

def k0_chk320 (v1161 : IVec S16 32) (v1171 : IVec S16 32) : Prop :=
  (∀ a x, ((![v1171, v1161] : Fin 2 → IVec S16 32) a x).toNat < S4x10368.size a)
theorem k0_idx320_inb : ∀ (v1161 : IVec S16 32) (v1171 : IVec S16 32) (k0_hw320 : k0_chk320 v1161 v1171), ∀ a x, ((![v1171, v1161] : Fin 2 → IVec S16 32) a x).toNat < S4x10368.size a := fun v1161 v1171 k0_hw320 => k0_hw320
def k0_off112 (k0_t9 : Fin k0_t9_loop.trips) : Fin 1 → Nat :=
  let c5124_i32 : BitVec 32 := 5124#32
  let c0_i32_470 : BitVec 32 := 0#32
  let c1_i32_472 : BitVec 32 := 1#32
  let arg21 : BitVec 32 := Scf.iv c0_i32_470 c1_i32_472 k0_t9
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk321 (v1178 : IVec S16 32) (v1179 : IVec S16 32) : Prop :=
  (∀ a x, ((![v1179, v1178] : Fin 2 → IVec S16 32) a x).toNat < S4x10368.size a)
theorem k0_idx321_inb : ∀ (v1178 : IVec S16 32) (v1179 : IVec S16 32) (k0_hw321 : k0_chk321 v1178 v1179), ∀ a x, ((![v1179, v1178] : Fin 2 → IVec S16 32) a x).toNat < S4x10368.size a := fun v1178 v1179 k0_hw321 => k0_hw321

def k0_chk322 (v1178 : IVec S16 32) (v1182 : IVec S16 32) : Prop :=
  (∀ a x, ((![v1182, v1178] : Fin 2 → IVec S16 32) a x).toNat < S4x10368.size a)
theorem k0_idx322_inb : ∀ (v1178 : IVec S16 32) (v1182 : IVec S16 32) (k0_hw322 : k0_chk322 v1178 v1182), ∀ a x, ((![v1182, v1178] : Fin 2 → IVec S16 32) a x).toNat < S4x10368.size a := fun v1178 v1182 k0_hw322 => k0_hw322

def k0_chk323 (v1178 : IVec S16 32) (v1185 : IVec S16 32) : Prop :=
  (∀ a x, ((![v1185, v1178] : Fin 2 → IVec S16 32) a x).toNat < S4x10368.size a)
theorem k0_idx323_inb : ∀ (v1178 : IVec S16 32) (v1185 : IVec S16 32) (k0_hw323 : k0_chk323 v1178 v1185), ∀ a x, ((![v1185, v1178] : Fin 2 → IVec S16 32) a x).toNat < S4x10368.size a := fun v1178 v1185 k0_hw323 => k0_hw323

def k0_chk324 (v1178 : IVec S16 32) (v1188 : IVec S16 32) : Prop :=
  (∀ a x, ((![v1188, v1178] : Fin 2 → IVec S16 32) a x).toNat < S4x10368.size a)
theorem k0_idx324_inb : ∀ (v1178 : IVec S16 32) (v1188 : IVec S16 32) (k0_hw324 : k0_chk324 v1178 v1188), ∀ a x, ((![v1188, v1178] : Fin 2 → IVec S16 32) a x).toNat < S4x10368.size a := fun v1178 v1188 k0_hw324 => k0_hw324
def k0_off113 (k0_t9 : Fin k0_t9_loop.trips) : Fin 1 → Nat :=
  let c7686_i32 : BitVec 32 := 7686#32
  let c0_i32_470 : BitVec 32 := 0#32
  let c1_i32_472 : BitVec 32 := 1#32
  let arg21 : BitVec 32 := Scf.iv c0_i32_470 c1_i32_472 k0_t9
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk325 (v1195 : IVec S16 32) (v1196 : IVec S16 32) : Prop :=
  (∀ a x, ((![v1196, v1195] : Fin 2 → IVec S16 32) a x).toNat < S4x10368.size a)
theorem k0_idx325_inb : ∀ (v1195 : IVec S16 32) (v1196 : IVec S16 32) (k0_hw325 : k0_chk325 v1195 v1196), ∀ a x, ((![v1196, v1195] : Fin 2 → IVec S16 32) a x).toNat < S4x10368.size a := fun v1195 v1196 k0_hw325 => k0_hw325

def k0_chk326 (v1195 : IVec S16 32) (v1199 : IVec S16 32) : Prop :=
  (∀ a x, ((![v1199, v1195] : Fin 2 → IVec S16 32) a x).toNat < S4x10368.size a)
theorem k0_idx326_inb : ∀ (v1195 : IVec S16 32) (v1199 : IVec S16 32) (k0_hw326 : k0_chk326 v1195 v1199), ∀ a x, ((![v1199, v1195] : Fin 2 → IVec S16 32) a x).toNat < S4x10368.size a := fun v1195 v1199 k0_hw326 => k0_hw326

def k0_chk327 (v1195 : IVec S16 32) (v1202 : IVec S16 32) : Prop :=
  (∀ a x, ((![v1202, v1195] : Fin 2 → IVec S16 32) a x).toNat < S4x10368.size a)
theorem k0_idx327_inb : ∀ (v1195 : IVec S16 32) (v1202 : IVec S16 32) (k0_hw327 : k0_chk327 v1195 v1202), ∀ a x, ((![v1202, v1195] : Fin 2 → IVec S16 32) a x).toNat < S4x10368.size a := fun v1195 v1202 k0_hw327 => k0_hw327

def k0_chk328 (v1195 : IVec S16 32) (v1205 : IVec S16 32) : Prop :=
  (∀ a x, ((![v1205, v1195] : Fin 2 → IVec S16 32) a x).toNat < S4x10368.size a)
theorem k0_idx328_inb : ∀ (v1195 : IVec S16 32) (v1205 : IVec S16 32) (k0_hw328 : k0_chk328 v1195 v1205), ∀ a x, ((![v1205, v1195] : Fin 2 → IVec S16 32) a x).toNat < S4x10368.size a := fun v1195 v1205 k0_hw328 => k0_hw328
def k0_off114 (k0_t9 : Fin k0_t9_loop.trips) : Fin 1 → Nat :=
  let c10248_i32 : BitVec 32 := 10248#32
  let c0_i32_470 : BitVec 32 := 0#32
  let c1_i32_472 : BitVec 32 := 1#32
  let arg21 : BitVec 32 := Scf.iv c0_i32_470 c1_i32_472 k0_t9
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk329 (v1212 : IVec S16 32) (v1213 : IVec S16 32) : Prop :=
  (∀ a x, ((![v1213, v1212] : Fin 2 → IVec S16 32) a x).toNat < S4x10368.size a)
theorem k0_idx329_inb : ∀ (v1212 : IVec S16 32) (v1213 : IVec S16 32) (k0_hw329 : k0_chk329 v1212 v1213), ∀ a x, ((![v1213, v1212] : Fin 2 → IVec S16 32) a x).toNat < S4x10368.size a := fun v1212 v1213 k0_hw329 => k0_hw329

def k0_chk330 (v1212 : IVec S16 32) (v1216 : IVec S16 32) : Prop :=
  (∀ a x, ((![v1216, v1212] : Fin 2 → IVec S16 32) a x).toNat < S4x10368.size a)
theorem k0_idx330_inb : ∀ (v1212 : IVec S16 32) (v1216 : IVec S16 32) (k0_hw330 : k0_chk330 v1212 v1216), ∀ a x, ((![v1216, v1212] : Fin 2 → IVec S16 32) a x).toNat < S4x10368.size a := fun v1212 v1216 k0_hw330 => k0_hw330

def k0_chk331 (v1212 : IVec S16 32) (v1219 : IVec S16 32) : Prop :=
  (∀ a x, ((![v1219, v1212] : Fin 2 → IVec S16 32) a x).toNat < S4x10368.size a)
theorem k0_idx331_inb : ∀ (v1212 : IVec S16 32) (v1219 : IVec S16 32) (k0_hw331 : k0_chk331 v1212 v1219), ∀ a x, ((![v1219, v1212] : Fin 2 → IVec S16 32) a x).toNat < S4x10368.size a := fun v1212 v1219 k0_hw331 => k0_hw331

def k0_chk332 (v1212 : IVec S16 32) (v1222 : IVec S16 32) : Prop :=
  (∀ a x, ((![v1222, v1212] : Fin 2 → IVec S16 32) a x).toNat < S4x10368.size a)
theorem k0_idx332_inb : ∀ (v1212 : IVec S16 32) (v1222 : IVec S16 32) (k0_hw332 : k0_chk332 v1212 v1222), ∀ a x, ((![v1222, v1212] : Fin 2 → IVec S16 32) a x).toNat < S4x10368.size a := fun v1212 v1222 k0_hw332 => k0_hw332
def k0_off115 (k0_t9 : Fin k0_t9_loop.trips) : Fin 1 → Nat :=
  let c12810_i32 : BitVec 32 := 12810#32
  let c0_i32_470 : BitVec 32 := 0#32
  let c1_i32_472 : BitVec 32 := 1#32
  let arg21 : BitVec 32 := Scf.iv c0_i32_470 c1_i32_472 k0_t9
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk333 (v1229 : IVec S16 32) (v1230 : IVec S16 32) : Prop :=
  (∀ a x, ((![v1230, v1229] : Fin 2 → IVec S16 32) a x).toNat < S4x10368.size a)
theorem k0_idx333_inb : ∀ (v1229 : IVec S16 32) (v1230 : IVec S16 32) (k0_hw333 : k0_chk333 v1229 v1230), ∀ a x, ((![v1230, v1229] : Fin 2 → IVec S16 32) a x).toNat < S4x10368.size a := fun v1229 v1230 k0_hw333 => k0_hw333

def k0_chk334 (v1229 : IVec S16 32) (v1233 : IVec S16 32) : Prop :=
  (∀ a x, ((![v1233, v1229] : Fin 2 → IVec S16 32) a x).toNat < S4x10368.size a)
theorem k0_idx334_inb : ∀ (v1229 : IVec S16 32) (v1233 : IVec S16 32) (k0_hw334 : k0_chk334 v1229 v1233), ∀ a x, ((![v1233, v1229] : Fin 2 → IVec S16 32) a x).toNat < S4x10368.size a := fun v1229 v1233 k0_hw334 => k0_hw334

def k0_chk335 (v1229 : IVec S16 32) (v1236 : IVec S16 32) : Prop :=
  (∀ a x, ((![v1236, v1229] : Fin 2 → IVec S16 32) a x).toNat < S4x10368.size a)
theorem k0_idx335_inb : ∀ (v1229 : IVec S16 32) (v1236 : IVec S16 32) (k0_hw335 : k0_chk335 v1229 v1236), ∀ a x, ((![v1236, v1229] : Fin 2 → IVec S16 32) a x).toNat < S4x10368.size a := fun v1229 v1236 k0_hw335 => k0_hw335

def k0_chk336 (v1229 : IVec S16 32) (v1239 : IVec S16 32) : Prop :=
  (∀ a x, ((![v1239, v1229] : Fin 2 → IVec S16 32) a x).toNat < S4x10368.size a)
theorem k0_idx336_inb : ∀ (v1229 : IVec S16 32) (v1239 : IVec S16 32) (k0_hw336 : k0_chk336 v1229 v1239), ∀ a x, ((![v1239, v1229] : Fin 2 → IVec S16 32) a x).toNat < S4x10368.size a := fun v1229 v1239 k0_hw336 => k0_hw336
def k0_off116 (k0_t9 : Fin k0_t9_loop.trips) : Fin 1 → Nat :=
  let c15372_i32 : BitVec 32 := 15372#32
  let c0_i32_470 : BitVec 32 := 0#32
  let c1_i32_472 : BitVec 32 := 1#32
  let arg21 : BitVec 32 := Scf.iv c0_i32_470 c1_i32_472 k0_t9
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk337 (v1246 : IVec S16 32) (v1247 : IVec S16 32) : Prop :=
  (∀ a x, ((![v1247, v1246] : Fin 2 → IVec S16 32) a x).toNat < S4x10368.size a)
theorem k0_idx337_inb : ∀ (v1246 : IVec S16 32) (v1247 : IVec S16 32) (k0_hw337 : k0_chk337 v1246 v1247), ∀ a x, ((![v1247, v1246] : Fin 2 → IVec S16 32) a x).toNat < S4x10368.size a := fun v1246 v1247 k0_hw337 => k0_hw337

def k0_chk338 (v1246 : IVec S16 32) (v1250 : IVec S16 32) : Prop :=
  (∀ a x, ((![v1250, v1246] : Fin 2 → IVec S16 32) a x).toNat < S4x10368.size a)
theorem k0_idx338_inb : ∀ (v1246 : IVec S16 32) (v1250 : IVec S16 32) (k0_hw338 : k0_chk338 v1246 v1250), ∀ a x, ((![v1250, v1246] : Fin 2 → IVec S16 32) a x).toNat < S4x10368.size a := fun v1246 v1250 k0_hw338 => k0_hw338

def k0_chk339 (v1246 : IVec S16 32) (v1253 : IVec S16 32) : Prop :=
  (∀ a x, ((![v1253, v1246] : Fin 2 → IVec S16 32) a x).toNat < S4x10368.size a)
theorem k0_idx339_inb : ∀ (v1246 : IVec S16 32) (v1253 : IVec S16 32) (k0_hw339 : k0_chk339 v1246 v1253), ∀ a x, ((![v1253, v1246] : Fin 2 → IVec S16 32) a x).toNat < S4x10368.size a := fun v1246 v1253 k0_hw339 => k0_hw339

def k0_chk340 (v1246 : IVec S16 32) (v1256 : IVec S16 32) : Prop :=
  (∀ a x, ((![v1256, v1246] : Fin 2 → IVec S16 32) a x).toNat < S4x10368.size a)
theorem k0_idx340_inb : ∀ (v1246 : IVec S16 32) (v1256 : IVec S16 32) (k0_hw340 : k0_chk340 v1246 v1256), ∀ a x, ((![v1256, v1246] : Fin 2 → IVec S16 32) a x).toNat < S4x10368.size a := fun v1246 v1256 k0_hw340 => k0_hw340

def k0_chk341 (v1135 : IVec S16 32) (v1259 : IVec S16 32) : Prop :=
  (∀ a x, ((![v1259, v1135] : Fin 2 → IVec S16 32) a x).toNat < S4x2572.size a)
theorem k0_idx341_inb : ∀ (v1135 : IVec S16 32) (v1259 : IVec S16 32) (k0_hw341 : k0_chk341 v1135 v1259), ∀ a x, ((![v1259, v1135] : Fin 2 → IVec S16 32) a x).toNat < S4x2572.size a := fun v1135 v1259 k0_hw341 => k0_hw341

def k0_chk342 (v1135 : IVec S16 32) (v1262 : IVec S16 32) : Prop :=
  (∀ a x, ((![v1262, v1135] : Fin 2 → IVec S16 32) a x).toNat < S4x2572.size a)
theorem k0_idx342_inb : ∀ (v1135 : IVec S16 32) (v1262 : IVec S16 32) (k0_hw342 : k0_chk342 v1135 v1262), ∀ a x, ((![v1262, v1135] : Fin 2 → IVec S16 32) a x).toNat < S4x2572.size a := fun v1135 v1262 k0_hw342 => k0_hw342

def k0_chk343 (v1135 : IVec S16 32) (v1265 : IVec S16 32) : Prop :=
  (∀ a x, ((![v1265, v1135] : Fin 2 → IVec S16 32) a x).toNat < S4x2572.size a)
theorem k0_idx343_inb : ∀ (v1135 : IVec S16 32) (v1265 : IVec S16 32) (k0_hw343 : k0_chk343 v1135 v1265), ∀ a x, ((![v1265, v1135] : Fin 2 → IVec S16 32) a x).toNat < S4x2572.size a := fun v1135 v1265 k0_hw343 => k0_hw343

def k0_chk344 (v1135 : IVec S16 32) (v1268 : IVec S16 32) : Prop :=
  (∀ a x, ((![v1268, v1135] : Fin 2 → IVec S16 32) a x).toNat < S4x2572.size a)
theorem k0_idx344_inb : ∀ (v1135 : IVec S16 32) (v1268 : IVec S16 32) (k0_hw344 : k0_chk344 v1135 v1268), ∀ a x, ((![v1268, v1135] : Fin 2 → IVec S16 32) a x).toNat < S4x2572.size a := fun v1135 v1268 k0_hw344 => k0_hw344

def k0_chk345 (v419 : IVec S16 32) (v420 : IVec S16 32) : Prop :=
  (∀ a x, ((![v420, v419] : Fin 2 → IVec S16 32) a x).toNat < S4x2572.size a)
theorem k0_idx345_inb : ∀ (v419 : IVec S16 32) (v420 : IVec S16 32) (k0_hw345 : k0_chk345 v419 v420), ∀ a x, ((![v420, v419] : Fin 2 → IVec S16 32) a x).toNat < S4x2572.size a := fun v419 v420 k0_hw345 => k0_hw345

def k0_chk346 (v419 : IVec S16 32) (v422 : IVec S16 32) : Prop :=
  (∀ a x, ((![v422, v419] : Fin 2 → IVec S16 32) a x).toNat < S4x2572.size a)
theorem k0_idx346_inb : ∀ (v419 : IVec S16 32) (v422 : IVec S16 32) (k0_hw346 : k0_chk346 v419 v422), ∀ a x, ((![v422, v419] : Fin 2 → IVec S16 32) a x).toNat < S4x2572.size a := fun v419 v422 k0_hw346 => k0_hw346

def k0_chk347 (v419 : IVec S16 32) (v424 : IVec S16 32) : Prop :=
  (∀ a x, ((![v424, v419] : Fin 2 → IVec S16 32) a x).toNat < S4x2572.size a)
theorem k0_idx347_inb : ∀ (v419 : IVec S16 32) (v424 : IVec S16 32) (k0_hw347 : k0_chk347 v419 v424), ∀ a x, ((![v424, v419] : Fin 2 → IVec S16 32) a x).toNat < S4x2572.size a := fun v419 v424 k0_hw347 => k0_hw347

def k0_chk348 (v419 : IVec S16 32) (v426 : IVec S16 32) : Prop :=
  (∀ a x, ((![v426, v419] : Fin 2 → IVec S16 32) a x).toNat < S4x2572.size a)
theorem k0_idx348_inb : ∀ (v419 : IVec S16 32) (v426 : IVec S16 32) (k0_hw348 : k0_chk348 v419 v426), ∀ a x, ((![v426, v419] : Fin 2 → IVec S16 32) a x).toNat < S4x2572.size a := fun v419 v426 k0_hw348 => k0_hw348
def k0_off117 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_429 : BitVec 32 := 4#32
  let v383 : BitVec 32 := Scalar.muli v1 c4_i32_429
  let c1_i32_430 : BitVec 32 := 1#32
  let v384 : BitVec 32 := Scalar.addi v383 c1_i32_430
  let c4_i32_431 : BitVec 32 := 4#32
  let v385 : BitVec 32 := Scalar.muli v384 c4_i32_431
  let v386 : BitVec 32 := v385
  let c5120_i32_482 : BitVec 32 := 5120#32
  ![v386.toNat, 5120]
def k0_mult20 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_486 : BitVec 32 := 4#32
  let v432 : BitVec 32 := Scalar.muli v1 c4_i32_486
  let c1_i32_487 : BitVec 32 := 1#32
  let v433 : BitVec 32 := Scalar.addi v432 c1_i32_487
  let c4_i32_488 : BitVec 32 := 4#32
  let v434 : BitVec 32 := Scalar.muli v433 c4_i32_488
  v434
def k0_mult21 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_489 : BitVec 32 := 4#32
  let v436 : BitVec 32 := Scalar.muli v1 c4_i32_489
  let c1_i32_490 : BitVec 32 := 1#32
  let v437 : BitVec 32 := Scalar.addi v436 c1_i32_490
  let c4_i32_491 : BitVec 32 := 4#32
  let v438 : BitVec 32 := Scalar.muli v437 c4_i32_491
  v438
def k0_off118 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_489 : BitVec 32 := 4#32
  let v436 : BitVec 32 := Scalar.muli v1 c4_i32_489
  let c1_i32_490 : BitVec 32 := 1#32
  let v437 : BitVec 32 := Scalar.addi v436 c1_i32_490
  let c4_i32_491 : BitVec 32 := 4#32
  let v438 : BitVec 32 := Scalar.muli v437 c4_i32_491
  let v439 : BitVec 32 := v438
  let c40960_i32_494 : BitVec 32 := 40960#32
  ![v439.toNat, 40960]
def k0_off119 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_489 : BitVec 32 := 4#32
  let v436 : BitVec 32 := Scalar.muli v1 c4_i32_489
  let c1_i32_490 : BitVec 32 := 1#32
  let v437 : BitVec 32 := Scalar.addi v436 c1_i32_490
  let c4_i32_491 : BitVec 32 := 4#32
  let v438 : BitVec 32 := Scalar.muli v437 c4_i32_491
  let v439 : BitVec 32 := v438
  let c46080_i32_500 : BitVec 32 := 46080#32
  ![v439.toNat, 46080]
def k0_off120 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_376 : BitVec 32 := 4#32
  let v336 : BitVec 32 := Scalar.muli v1 c4_i32_376
  let c1_i32_377 : BitVec 32 := 1#32
  let v337 : BitVec 32 := Scalar.addi v336 c1_i32_377
  let c4_i32_378 : BitVec 32 := 4#32
  let v338 : BitVec 32 := Scalar.muli v337 c4_i32_378
  let v339 : BitVec 32 := v338
  let c2560_i32_506 : BitVec 32 := 2560#32
  ![v339.toNat, 2560]

def k0_chk349 (v2 : IVec S16 32) (v452 : IVec S16 32) : Prop :=
  (∀ a x, ((![v452, v2] : Fin 2 → IVec S16 32) a x).toNat < S4x2572.size a)
theorem k0_idx349_inb : ∀ (v2 : IVec S16 32) (v452 : IVec S16 32) (k0_hw349 : k0_chk349 v2 v452), ∀ a x, ((![v452, v2] : Fin 2 → IVec S16 32) a x).toNat < S4x2572.size a := fun v2 v452 k0_hw349 => k0_hw349

def k0_chk350 (v2 : IVec S16 32) (v453 : IVec S16 32) : Prop :=
  (∀ a x, ((![v453, v2] : Fin 2 → IVec S16 32) a x).toNat < S4x2572.size a)
theorem k0_idx350_inb : ∀ (v2 : IVec S16 32) (v453 : IVec S16 32) (k0_hw350 : k0_chk350 v2 v453), ∀ a x, ((![v453, v2] : Fin 2 → IVec S16 32) a x).toNat < S4x2572.size a := fun v2 v453 k0_hw350 => k0_hw350

def k0_chk351 (v2 : IVec S16 32) (v454 : IVec S16 32) : Prop :=
  (∀ a x, ((![v454, v2] : Fin 2 → IVec S16 32) a x).toNat < S4x2572.size a)
theorem k0_idx351_inb : ∀ (v2 : IVec S16 32) (v454 : IVec S16 32) (k0_hw351 : k0_chk351 v2 v454), ∀ a x, ((![v454, v2] : Fin 2 → IVec S16 32) a x).toNat < S4x2572.size a := fun v2 v454 k0_hw351 => k0_hw351

def k0_chk352 (v2 : IVec S16 32) (v455 : IVec S16 32) : Prop :=
  (∀ a x, ((![v455, v2] : Fin 2 → IVec S16 32) a x).toNat < S4x2572.size a)
theorem k0_idx352_inb : ∀ (v2 : IVec S16 32) (v455 : IVec S16 32) (k0_hw352 : k0_chk352 v2 v455), ∀ a x, ((![v455, v2] : Fin 2 → IVec S16 32) a x).toNat < S4x2572.size a := fun v2 v455 k0_hw352 => k0_hw352
def k0_off121 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_432 : BitVec 32 := 4#32
  let v387 : BitVec 32 := Scalar.muli v1 c4_i32_432
  let c1_i32_433 : BitVec 32 := 1#32
  let v388 : BitVec 32 := Scalar.addi v387 c1_i32_433
  let c4_i32_434 : BitVec 32 := 4#32
  let v389 : BitVec 32 := Scalar.muli v388 c4_i32_434
  let v390 : BitVec 32 := v389
  let c30720_i32_516 : BitVec 32 := 30720#32
  ![v390.toNat, 30720]
def k0_off122 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_432 : BitVec 32 := 4#32
  let v387 : BitVec 32 := Scalar.muli v1 c4_i32_432
  let c1_i32_433 : BitVec 32 := 1#32
  let v388 : BitVec 32 := Scalar.addi v387 c1_i32_433
  let c4_i32_434 : BitVec 32 := 4#32
  let v389 : BitVec 32 := Scalar.muli v388 c4_i32_434
  let v390 : BitVec 32 := v389
  let c35840_i32_522 : BitVec 32 := 35840#32
  ![v390.toNat, 35840]
@[reducible] def k0_t10_loop : Scf.Loop 32 :=
  let c0_i32_527 : BitVec 32 := 0#32
  let c161_i32_528 : BitVec 32 := 161#32
  let v464 : BitVec 32 := Scalar.addi c0_i32_527 c161_i32_528
  let c1_i32_529 : BitVec 32 := 1#32
  ⟨c0_i32_527, v464, c1_i32_529⟩
def k0_off123 (k0_t10 : Fin k0_t10_loop.trips) : Fin 1 → Nat :=
  let c0_i32_1327 : BitVec 32 := 0#32
  let c0_i32_527 : BitVec 32 := 0#32
  let c1_i32_529 : BitVec 32 := 1#32
  let arg21 : BitVec 32 := Scf.iv c0_i32_527 c1_i32_529 k0_t10
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1327 v1132
  let v1141 : Index := Scalar.indexCast v1140
  ![v1141.toNat]

def k0_chk353 (v1144 : IVec S16 32) (v1145 : IVec S16 32) : Prop :=
  (∀ a x, ((![v1145, v1144] : Fin 2 → IVec S16 32) a x).toNat < S4x10368.size a)
theorem k0_idx353_inb : ∀ (v1144 : IVec S16 32) (v1145 : IVec S16 32) (k0_hw353 : k0_chk353 v1144 v1145), ∀ a x, ((![v1145, v1144] : Fin 2 → IVec S16 32) a x).toNat < S4x10368.size a := fun v1144 v1145 k0_hw353 => k0_hw353

def k0_chk354 (v1144 : IVec S16 32) (v1148 : IVec S16 32) : Prop :=
  (∀ a x, ((![v1148, v1144] : Fin 2 → IVec S16 32) a x).toNat < S4x10368.size a)
theorem k0_idx354_inb : ∀ (v1144 : IVec S16 32) (v1148 : IVec S16 32) (k0_hw354 : k0_chk354 v1144 v1148), ∀ a x, ((![v1148, v1144] : Fin 2 → IVec S16 32) a x).toNat < S4x10368.size a := fun v1144 v1148 k0_hw354 => k0_hw354

def k0_chk355 (v1144 : IVec S16 32) (v1151 : IVec S16 32) : Prop :=
  (∀ a x, ((![v1151, v1144] : Fin 2 → IVec S16 32) a x).toNat < S4x10368.size a)
theorem k0_idx355_inb : ∀ (v1144 : IVec S16 32) (v1151 : IVec S16 32) (k0_hw355 : k0_chk355 v1144 v1151), ∀ a x, ((![v1151, v1144] : Fin 2 → IVec S16 32) a x).toNat < S4x10368.size a := fun v1144 v1151 k0_hw355 => k0_hw355

def k0_chk356 (v1144 : IVec S16 32) (v1154 : IVec S16 32) : Prop :=
  (∀ a x, ((![v1154, v1144] : Fin 2 → IVec S16 32) a x).toNat < S4x10368.size a)
theorem k0_idx356_inb : ∀ (v1144 : IVec S16 32) (v1154 : IVec S16 32) (k0_hw356 : k0_chk356 v1144 v1154), ∀ a x, ((![v1154, v1144] : Fin 2 → IVec S16 32) a x).toNat < S4x10368.size a := fun v1144 v1154 k0_hw356 => k0_hw356
def k0_off124 (k0_t10 : Fin k0_t10_loop.trips) : Fin 1 → Nat :=
  let c2562_i32 : BitVec 32 := 2562#32
  let c0_i32_527 : BitVec 32 := 0#32
  let c1_i32_529 : BitVec 32 := 1#32
  let arg21 : BitVec 32 := Scf.iv c0_i32_527 c1_i32_529 k0_t10
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk357 (v1161 : IVec S16 32) (v1162 : IVec S16 32) : Prop :=
  (∀ a x, ((![v1162, v1161] : Fin 2 → IVec S16 32) a x).toNat < S4x10368.size a)
theorem k0_idx357_inb : ∀ (v1161 : IVec S16 32) (v1162 : IVec S16 32) (k0_hw357 : k0_chk357 v1161 v1162), ∀ a x, ((![v1162, v1161] : Fin 2 → IVec S16 32) a x).toNat < S4x10368.size a := fun v1161 v1162 k0_hw357 => k0_hw357

def k0_chk358 (v1161 : IVec S16 32) (v1165 : IVec S16 32) : Prop :=
  (∀ a x, ((![v1165, v1161] : Fin 2 → IVec S16 32) a x).toNat < S4x10368.size a)
theorem k0_idx358_inb : ∀ (v1161 : IVec S16 32) (v1165 : IVec S16 32) (k0_hw358 : k0_chk358 v1161 v1165), ∀ a x, ((![v1165, v1161] : Fin 2 → IVec S16 32) a x).toNat < S4x10368.size a := fun v1161 v1165 k0_hw358 => k0_hw358

def k0_chk359 (v1161 : IVec S16 32) (v1168 : IVec S16 32) : Prop :=
  (∀ a x, ((![v1168, v1161] : Fin 2 → IVec S16 32) a x).toNat < S4x10368.size a)
theorem k0_idx359_inb : ∀ (v1161 : IVec S16 32) (v1168 : IVec S16 32) (k0_hw359 : k0_chk359 v1161 v1168), ∀ a x, ((![v1168, v1161] : Fin 2 → IVec S16 32) a x).toNat < S4x10368.size a := fun v1161 v1168 k0_hw359 => k0_hw359

def k0_chk360 (v1161 : IVec S16 32) (v1171 : IVec S16 32) : Prop :=
  (∀ a x, ((![v1171, v1161] : Fin 2 → IVec S16 32) a x).toNat < S4x10368.size a)
theorem k0_idx360_inb : ∀ (v1161 : IVec S16 32) (v1171 : IVec S16 32) (k0_hw360 : k0_chk360 v1161 v1171), ∀ a x, ((![v1171, v1161] : Fin 2 → IVec S16 32) a x).toNat < S4x10368.size a := fun v1161 v1171 k0_hw360 => k0_hw360
def k0_off125 (k0_t10 : Fin k0_t10_loop.trips) : Fin 1 → Nat :=
  let c5124_i32 : BitVec 32 := 5124#32
  let c0_i32_527 : BitVec 32 := 0#32
  let c1_i32_529 : BitVec 32 := 1#32
  let arg21 : BitVec 32 := Scf.iv c0_i32_527 c1_i32_529 k0_t10
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk361 (v1178 : IVec S16 32) (v1179 : IVec S16 32) : Prop :=
  (∀ a x, ((![v1179, v1178] : Fin 2 → IVec S16 32) a x).toNat < S4x10368.size a)
theorem k0_idx361_inb : ∀ (v1178 : IVec S16 32) (v1179 : IVec S16 32) (k0_hw361 : k0_chk361 v1178 v1179), ∀ a x, ((![v1179, v1178] : Fin 2 → IVec S16 32) a x).toNat < S4x10368.size a := fun v1178 v1179 k0_hw361 => k0_hw361

def k0_chk362 (v1178 : IVec S16 32) (v1182 : IVec S16 32) : Prop :=
  (∀ a x, ((![v1182, v1178] : Fin 2 → IVec S16 32) a x).toNat < S4x10368.size a)
theorem k0_idx362_inb : ∀ (v1178 : IVec S16 32) (v1182 : IVec S16 32) (k0_hw362 : k0_chk362 v1178 v1182), ∀ a x, ((![v1182, v1178] : Fin 2 → IVec S16 32) a x).toNat < S4x10368.size a := fun v1178 v1182 k0_hw362 => k0_hw362

def k0_chk363 (v1178 : IVec S16 32) (v1185 : IVec S16 32) : Prop :=
  (∀ a x, ((![v1185, v1178] : Fin 2 → IVec S16 32) a x).toNat < S4x10368.size a)
theorem k0_idx363_inb : ∀ (v1178 : IVec S16 32) (v1185 : IVec S16 32) (k0_hw363 : k0_chk363 v1178 v1185), ∀ a x, ((![v1185, v1178] : Fin 2 → IVec S16 32) a x).toNat < S4x10368.size a := fun v1178 v1185 k0_hw363 => k0_hw363

def k0_chk364 (v1178 : IVec S16 32) (v1188 : IVec S16 32) : Prop :=
  (∀ a x, ((![v1188, v1178] : Fin 2 → IVec S16 32) a x).toNat < S4x10368.size a)
theorem k0_idx364_inb : ∀ (v1178 : IVec S16 32) (v1188 : IVec S16 32) (k0_hw364 : k0_chk364 v1178 v1188), ∀ a x, ((![v1188, v1178] : Fin 2 → IVec S16 32) a x).toNat < S4x10368.size a := fun v1178 v1188 k0_hw364 => k0_hw364
def k0_off126 (k0_t10 : Fin k0_t10_loop.trips) : Fin 1 → Nat :=
  let c7686_i32 : BitVec 32 := 7686#32
  let c0_i32_527 : BitVec 32 := 0#32
  let c1_i32_529 : BitVec 32 := 1#32
  let arg21 : BitVec 32 := Scf.iv c0_i32_527 c1_i32_529 k0_t10
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk365 (v1195 : IVec S16 32) (v1196 : IVec S16 32) : Prop :=
  (∀ a x, ((![v1196, v1195] : Fin 2 → IVec S16 32) a x).toNat < S4x10368.size a)
theorem k0_idx365_inb : ∀ (v1195 : IVec S16 32) (v1196 : IVec S16 32) (k0_hw365 : k0_chk365 v1195 v1196), ∀ a x, ((![v1196, v1195] : Fin 2 → IVec S16 32) a x).toNat < S4x10368.size a := fun v1195 v1196 k0_hw365 => k0_hw365

def k0_chk366 (v1195 : IVec S16 32) (v1199 : IVec S16 32) : Prop :=
  (∀ a x, ((![v1199, v1195] : Fin 2 → IVec S16 32) a x).toNat < S4x10368.size a)
theorem k0_idx366_inb : ∀ (v1195 : IVec S16 32) (v1199 : IVec S16 32) (k0_hw366 : k0_chk366 v1195 v1199), ∀ a x, ((![v1199, v1195] : Fin 2 → IVec S16 32) a x).toNat < S4x10368.size a := fun v1195 v1199 k0_hw366 => k0_hw366

def k0_chk367 (v1195 : IVec S16 32) (v1202 : IVec S16 32) : Prop :=
  (∀ a x, ((![v1202, v1195] : Fin 2 → IVec S16 32) a x).toNat < S4x10368.size a)
theorem k0_idx367_inb : ∀ (v1195 : IVec S16 32) (v1202 : IVec S16 32) (k0_hw367 : k0_chk367 v1195 v1202), ∀ a x, ((![v1202, v1195] : Fin 2 → IVec S16 32) a x).toNat < S4x10368.size a := fun v1195 v1202 k0_hw367 => k0_hw367

def k0_chk368 (v1195 : IVec S16 32) (v1205 : IVec S16 32) : Prop :=
  (∀ a x, ((![v1205, v1195] : Fin 2 → IVec S16 32) a x).toNat < S4x10368.size a)
theorem k0_idx368_inb : ∀ (v1195 : IVec S16 32) (v1205 : IVec S16 32) (k0_hw368 : k0_chk368 v1195 v1205), ∀ a x, ((![v1205, v1195] : Fin 2 → IVec S16 32) a x).toNat < S4x10368.size a := fun v1195 v1205 k0_hw368 => k0_hw368
def k0_off127 (k0_t10 : Fin k0_t10_loop.trips) : Fin 1 → Nat :=
  let c10248_i32 : BitVec 32 := 10248#32
  let c0_i32_527 : BitVec 32 := 0#32
  let c1_i32_529 : BitVec 32 := 1#32
  let arg21 : BitVec 32 := Scf.iv c0_i32_527 c1_i32_529 k0_t10
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk369 (v1212 : IVec S16 32) (v1213 : IVec S16 32) : Prop :=
  (∀ a x, ((![v1213, v1212] : Fin 2 → IVec S16 32) a x).toNat < S4x10368.size a)
theorem k0_idx369_inb : ∀ (v1212 : IVec S16 32) (v1213 : IVec S16 32) (k0_hw369 : k0_chk369 v1212 v1213), ∀ a x, ((![v1213, v1212] : Fin 2 → IVec S16 32) a x).toNat < S4x10368.size a := fun v1212 v1213 k0_hw369 => k0_hw369

def k0_chk370 (v1212 : IVec S16 32) (v1216 : IVec S16 32) : Prop :=
  (∀ a x, ((![v1216, v1212] : Fin 2 → IVec S16 32) a x).toNat < S4x10368.size a)
theorem k0_idx370_inb : ∀ (v1212 : IVec S16 32) (v1216 : IVec S16 32) (k0_hw370 : k0_chk370 v1212 v1216), ∀ a x, ((![v1216, v1212] : Fin 2 → IVec S16 32) a x).toNat < S4x10368.size a := fun v1212 v1216 k0_hw370 => k0_hw370

def k0_chk371 (v1212 : IVec S16 32) (v1219 : IVec S16 32) : Prop :=
  (∀ a x, ((![v1219, v1212] : Fin 2 → IVec S16 32) a x).toNat < S4x10368.size a)
theorem k0_idx371_inb : ∀ (v1212 : IVec S16 32) (v1219 : IVec S16 32) (k0_hw371 : k0_chk371 v1212 v1219), ∀ a x, ((![v1219, v1212] : Fin 2 → IVec S16 32) a x).toNat < S4x10368.size a := fun v1212 v1219 k0_hw371 => k0_hw371

def k0_chk372 (v1212 : IVec S16 32) (v1222 : IVec S16 32) : Prop :=
  (∀ a x, ((![v1222, v1212] : Fin 2 → IVec S16 32) a x).toNat < S4x10368.size a)
theorem k0_idx372_inb : ∀ (v1212 : IVec S16 32) (v1222 : IVec S16 32) (k0_hw372 : k0_chk372 v1212 v1222), ∀ a x, ((![v1222, v1212] : Fin 2 → IVec S16 32) a x).toNat < S4x10368.size a := fun v1212 v1222 k0_hw372 => k0_hw372
def k0_off128 (k0_t10 : Fin k0_t10_loop.trips) : Fin 1 → Nat :=
  let c12810_i32 : BitVec 32 := 12810#32
  let c0_i32_527 : BitVec 32 := 0#32
  let c1_i32_529 : BitVec 32 := 1#32
  let arg21 : BitVec 32 := Scf.iv c0_i32_527 c1_i32_529 k0_t10
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk373 (v1229 : IVec S16 32) (v1230 : IVec S16 32) : Prop :=
  (∀ a x, ((![v1230, v1229] : Fin 2 → IVec S16 32) a x).toNat < S4x10368.size a)
theorem k0_idx373_inb : ∀ (v1229 : IVec S16 32) (v1230 : IVec S16 32) (k0_hw373 : k0_chk373 v1229 v1230), ∀ a x, ((![v1230, v1229] : Fin 2 → IVec S16 32) a x).toNat < S4x10368.size a := fun v1229 v1230 k0_hw373 => k0_hw373

def k0_chk374 (v1229 : IVec S16 32) (v1233 : IVec S16 32) : Prop :=
  (∀ a x, ((![v1233, v1229] : Fin 2 → IVec S16 32) a x).toNat < S4x10368.size a)
theorem k0_idx374_inb : ∀ (v1229 : IVec S16 32) (v1233 : IVec S16 32) (k0_hw374 : k0_chk374 v1229 v1233), ∀ a x, ((![v1233, v1229] : Fin 2 → IVec S16 32) a x).toNat < S4x10368.size a := fun v1229 v1233 k0_hw374 => k0_hw374

def k0_chk375 (v1229 : IVec S16 32) (v1236 : IVec S16 32) : Prop :=
  (∀ a x, ((![v1236, v1229] : Fin 2 → IVec S16 32) a x).toNat < S4x10368.size a)
theorem k0_idx375_inb : ∀ (v1229 : IVec S16 32) (v1236 : IVec S16 32) (k0_hw375 : k0_chk375 v1229 v1236), ∀ a x, ((![v1236, v1229] : Fin 2 → IVec S16 32) a x).toNat < S4x10368.size a := fun v1229 v1236 k0_hw375 => k0_hw375

def k0_chk376 (v1229 : IVec S16 32) (v1239 : IVec S16 32) : Prop :=
  (∀ a x, ((![v1239, v1229] : Fin 2 → IVec S16 32) a x).toNat < S4x10368.size a)
theorem k0_idx376_inb : ∀ (v1229 : IVec S16 32) (v1239 : IVec S16 32) (k0_hw376 : k0_chk376 v1229 v1239), ∀ a x, ((![v1239, v1229] : Fin 2 → IVec S16 32) a x).toNat < S4x10368.size a := fun v1229 v1239 k0_hw376 => k0_hw376
def k0_off129 (k0_t10 : Fin k0_t10_loop.trips) : Fin 1 → Nat :=
  let c15372_i32 : BitVec 32 := 15372#32
  let c0_i32_527 : BitVec 32 := 0#32
  let c1_i32_529 : BitVec 32 := 1#32
  let arg21 : BitVec 32 := Scf.iv c0_i32_527 c1_i32_529 k0_t10
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk377 (v1246 : IVec S16 32) (v1247 : IVec S16 32) : Prop :=
  (∀ a x, ((![v1247, v1246] : Fin 2 → IVec S16 32) a x).toNat < S4x10368.size a)
theorem k0_idx377_inb : ∀ (v1246 : IVec S16 32) (v1247 : IVec S16 32) (k0_hw377 : k0_chk377 v1246 v1247), ∀ a x, ((![v1247, v1246] : Fin 2 → IVec S16 32) a x).toNat < S4x10368.size a := fun v1246 v1247 k0_hw377 => k0_hw377

def k0_chk378 (v1246 : IVec S16 32) (v1250 : IVec S16 32) : Prop :=
  (∀ a x, ((![v1250, v1246] : Fin 2 → IVec S16 32) a x).toNat < S4x10368.size a)
theorem k0_idx378_inb : ∀ (v1246 : IVec S16 32) (v1250 : IVec S16 32) (k0_hw378 : k0_chk378 v1246 v1250), ∀ a x, ((![v1250, v1246] : Fin 2 → IVec S16 32) a x).toNat < S4x10368.size a := fun v1246 v1250 k0_hw378 => k0_hw378

def k0_chk379 (v1246 : IVec S16 32) (v1253 : IVec S16 32) : Prop :=
  (∀ a x, ((![v1253, v1246] : Fin 2 → IVec S16 32) a x).toNat < S4x10368.size a)
theorem k0_idx379_inb : ∀ (v1246 : IVec S16 32) (v1253 : IVec S16 32) (k0_hw379 : k0_chk379 v1246 v1253), ∀ a x, ((![v1253, v1246] : Fin 2 → IVec S16 32) a x).toNat < S4x10368.size a := fun v1246 v1253 k0_hw379 => k0_hw379

def k0_chk380 (v1246 : IVec S16 32) (v1256 : IVec S16 32) : Prop :=
  (∀ a x, ((![v1256, v1246] : Fin 2 → IVec S16 32) a x).toNat < S4x10368.size a)
theorem k0_idx380_inb : ∀ (v1246 : IVec S16 32) (v1256 : IVec S16 32) (k0_hw380 : k0_chk380 v1246 v1256), ∀ a x, ((![v1256, v1246] : Fin 2 → IVec S16 32) a x).toNat < S4x10368.size a := fun v1246 v1256 k0_hw380 => k0_hw380

def k0_chk381 (v1135 : IVec S16 32) (v1259 : IVec S16 32) : Prop :=
  (∀ a x, ((![v1259, v1135] : Fin 2 → IVec S16 32) a x).toNat < S4x2572.size a)
theorem k0_idx381_inb : ∀ (v1135 : IVec S16 32) (v1259 : IVec S16 32) (k0_hw381 : k0_chk381 v1135 v1259), ∀ a x, ((![v1259, v1135] : Fin 2 → IVec S16 32) a x).toNat < S4x2572.size a := fun v1135 v1259 k0_hw381 => k0_hw381

def k0_chk382 (v1135 : IVec S16 32) (v1262 : IVec S16 32) : Prop :=
  (∀ a x, ((![v1262, v1135] : Fin 2 → IVec S16 32) a x).toNat < S4x2572.size a)
theorem k0_idx382_inb : ∀ (v1135 : IVec S16 32) (v1262 : IVec S16 32) (k0_hw382 : k0_chk382 v1135 v1262), ∀ a x, ((![v1262, v1135] : Fin 2 → IVec S16 32) a x).toNat < S4x2572.size a := fun v1135 v1262 k0_hw382 => k0_hw382

def k0_chk383 (v1135 : IVec S16 32) (v1265 : IVec S16 32) : Prop :=
  (∀ a x, ((![v1265, v1135] : Fin 2 → IVec S16 32) a x).toNat < S4x2572.size a)
theorem k0_idx383_inb : ∀ (v1135 : IVec S16 32) (v1265 : IVec S16 32) (k0_hw383 : k0_chk383 v1135 v1265), ∀ a x, ((![v1265, v1135] : Fin 2 → IVec S16 32) a x).toNat < S4x2572.size a := fun v1135 v1265 k0_hw383 => k0_hw383

def k0_chk384 (v1135 : IVec S16 32) (v1268 : IVec S16 32) : Prop :=
  (∀ a x, ((![v1268, v1135] : Fin 2 → IVec S16 32) a x).toNat < S4x2572.size a)
theorem k0_idx384_inb : ∀ (v1135 : IVec S16 32) (v1268 : IVec S16 32) (k0_hw384 : k0_chk384 v1135 v1268), ∀ a x, ((![v1268, v1135] : Fin 2 → IVec S16 32) a x).toNat < S4x2572.size a := fun v1135 v1268 k0_hw384 => k0_hw384

def k0_chk385 (v468 : IVec S16 32) (v469 : IVec S16 32) : Prop :=
  (∀ a x, ((![v469, v468] : Fin 2 → IVec S16 32) a x).toNat < S4x2572.size a)
theorem k0_idx385_inb : ∀ (v468 : IVec S16 32) (v469 : IVec S16 32) (k0_hw385 : k0_chk385 v468 v469), ∀ a x, ((![v469, v468] : Fin 2 → IVec S16 32) a x).toNat < S4x2572.size a := fun v468 v469 k0_hw385 => k0_hw385

def k0_chk386 (v468 : IVec S16 32) (v471 : IVec S16 32) : Prop :=
  (∀ a x, ((![v471, v468] : Fin 2 → IVec S16 32) a x).toNat < S4x2572.size a)
theorem k0_idx386_inb : ∀ (v468 : IVec S16 32) (v471 : IVec S16 32) (k0_hw386 : k0_chk386 v468 v471), ∀ a x, ((![v471, v468] : Fin 2 → IVec S16 32) a x).toNat < S4x2572.size a := fun v468 v471 k0_hw386 => k0_hw386

def k0_chk387 (v468 : IVec S16 32) (v473 : IVec S16 32) : Prop :=
  (∀ a x, ((![v473, v468] : Fin 2 → IVec S16 32) a x).toNat < S4x2572.size a)
theorem k0_idx387_inb : ∀ (v468 : IVec S16 32) (v473 : IVec S16 32) (k0_hw387 : k0_chk387 v468 v473), ∀ a x, ((![v473, v468] : Fin 2 → IVec S16 32) a x).toNat < S4x2572.size a := fun v468 v473 k0_hw387 => k0_hw387

def k0_chk388 (v468 : IVec S16 32) (v475 : IVec S16 32) : Prop :=
  (∀ a x, ((![v475, v468] : Fin 2 → IVec S16 32) a x).toNat < S4x2572.size a)
theorem k0_idx388_inb : ∀ (v468 : IVec S16 32) (v475 : IVec S16 32) (k0_hw388 : k0_chk388 v468 v475), ∀ a x, ((![v475, v468] : Fin 2 → IVec S16 32) a x).toNat < S4x2572.size a := fun v468 v475 k0_hw388 => k0_hw388
def k0_off130 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_486 : BitVec 32 := 4#32
  let v432 : BitVec 32 := Scalar.muli v1 c4_i32_486
  let c1_i32_487 : BitVec 32 := 1#32
  let v433 : BitVec 32 := Scalar.addi v432 c1_i32_487
  let c4_i32_488 : BitVec 32 := 4#32
  let v434 : BitVec 32 := Scalar.muli v433 c4_i32_488
  let v435 : BitVec 32 := v434
  let c7680_i32_539 : BitVec 32 := 7680#32
  ![v435.toNat, 7680]
def k0_mult22 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_543 : BitVec 32 := 4#32
  let v481 : BitVec 32 := Scalar.muli v1 c4_i32_543
  let c1_i32_544 : BitVec 32 := 1#32
  let v482 : BitVec 32 := Scalar.addi v481 c1_i32_544
  let c4_i32_545 : BitVec 32 := 4#32
  let v483 : BitVec 32 := Scalar.muli v482 c4_i32_545
  v483
def k0_mult23 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_546 : BitVec 32 := 4#32
  let v485 : BitVec 32 := Scalar.muli v1 c4_i32_546
  let c1_i32_547 : BitVec 32 := 1#32
  let v486 : BitVec 32 := Scalar.addi v485 c1_i32_547
  let c4_i32_548 : BitVec 32 := 4#32
  let v487 : BitVec 32 := Scalar.muli v486 c4_i32_548
  v487
def k0_off131 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_546 : BitVec 32 := 4#32
  let v485 : BitVec 32 := Scalar.muli v1 c4_i32_546
  let c1_i32_547 : BitVec 32 := 1#32
  let v486 : BitVec 32 := Scalar.addi v485 c1_i32_547
  let c4_i32_548 : BitVec 32 := 4#32
  let v487 : BitVec 32 := Scalar.muli v486 c4_i32_548
  let v488 : BitVec 32 := v487
  let c51200_i32_551 : BitVec 32 := 51200#32
  ![v488.toNat, 51200]
def k0_off132 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_546 : BitVec 32 := 4#32
  let v485 : BitVec 32 := Scalar.muli v1 c4_i32_546
  let c1_i32_547 : BitVec 32 := 1#32
  let v486 : BitVec 32 := Scalar.addi v485 c1_i32_547
  let c4_i32_548 : BitVec 32 := 4#32
  let v487 : BitVec 32 := Scalar.muli v486 c4_i32_548
  let v488 : BitVec 32 := v487
  let c56320_i32_557 : BitVec 32 := 56320#32
  ![v488.toNat, 56320]
def k0_off133 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_546 : BitVec 32 := 4#32
  let v485 : BitVec 32 := Scalar.muli v1 c4_i32_546
  let c1_i32_547 : BitVec 32 := 1#32
  let v486 : BitVec 32 := Scalar.addi v485 c1_i32_547
  let c4_i32_548 : BitVec 32 := 4#32
  let v487 : BitVec 32 := Scalar.muli v486 c4_i32_548
  let v488 : BitVec 32 := v487
  let c0_i32_563 : BitVec 32 := 0#32
  ![v488.toNat, 0]
def k0_off134 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_429 : BitVec 32 := 4#32
  let v383 : BitVec 32 := Scalar.muli v1 c4_i32_429
  let c1_i32_430 : BitVec 32 := 1#32
  let v384 : BitVec 32 := Scalar.addi v383 c1_i32_430
  let c4_i32_431 : BitVec 32 := 4#32
  let v385 : BitVec 32 := Scalar.muli v384 c4_i32_431
  let v386 : BitVec 32 := v385
  let c5120_i32_569 : BitVec 32 := 5120#32
  ![v386.toNat, 5120]

def k0_chk389 (v2 : IVec S16 32) (v505 : IVec S16 32) : Prop :=
  (∀ a x, ((![v505, v2] : Fin 2 → IVec S16 32) a x).toNat < S4x2572.size a)
theorem k0_idx389_inb : ∀ (v2 : IVec S16 32) (v505 : IVec S16 32) (k0_hw389 : k0_chk389 v2 v505), ∀ a x, ((![v505, v2] : Fin 2 → IVec S16 32) a x).toNat < S4x2572.size a := fun v2 v505 k0_hw389 => k0_hw389

def k0_chk390 (v2 : IVec S16 32) (v506 : IVec S16 32) : Prop :=
  (∀ a x, ((![v506, v2] : Fin 2 → IVec S16 32) a x).toNat < S4x2572.size a)
theorem k0_idx390_inb : ∀ (v2 : IVec S16 32) (v506 : IVec S16 32) (k0_hw390 : k0_chk390 v2 v506), ∀ a x, ((![v506, v2] : Fin 2 → IVec S16 32) a x).toNat < S4x2572.size a := fun v2 v506 k0_hw390 => k0_hw390

def k0_chk391 (v2 : IVec S16 32) (v507 : IVec S16 32) : Prop :=
  (∀ a x, ((![v507, v2] : Fin 2 → IVec S16 32) a x).toNat < S4x2572.size a)
theorem k0_idx391_inb : ∀ (v2 : IVec S16 32) (v507 : IVec S16 32) (k0_hw391 : k0_chk391 v2 v507), ∀ a x, ((![v507, v2] : Fin 2 → IVec S16 32) a x).toNat < S4x2572.size a := fun v2 v507 k0_hw391 => k0_hw391

def k0_chk392 (v2 : IVec S16 32) (v508 : IVec S16 32) : Prop :=
  (∀ a x, ((![v508, v2] : Fin 2 → IVec S16 32) a x).toNat < S4x2572.size a)
theorem k0_idx392_inb : ∀ (v2 : IVec S16 32) (v508 : IVec S16 32) (k0_hw392 : k0_chk392 v2 v508), ∀ a x, ((![v508, v2] : Fin 2 → IVec S16 32) a x).toNat < S4x2572.size a := fun v2 v508 k0_hw392 => k0_hw392
def k0_off135 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_489 : BitVec 32 := 4#32
  let v436 : BitVec 32 := Scalar.muli v1 c4_i32_489
  let c1_i32_490 : BitVec 32 := 1#32
  let v437 : BitVec 32 := Scalar.addi v436 c1_i32_490
  let c4_i32_491 : BitVec 32 := 4#32
  let v438 : BitVec 32 := Scalar.muli v437 c4_i32_491
  let v439 : BitVec 32 := v438
  let c40960_i32_579 : BitVec 32 := 40960#32
  ![v439.toNat, 40960]
def k0_off136 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_489 : BitVec 32 := 4#32
  let v436 : BitVec 32 := Scalar.muli v1 c4_i32_489
  let c1_i32_490 : BitVec 32 := 1#32
  let v437 : BitVec 32 := Scalar.addi v436 c1_i32_490
  let c4_i32_491 : BitVec 32 := 4#32
  let v438 : BitVec 32 := Scalar.muli v437 c4_i32_491
  let v439 : BitVec 32 := v438
  let c46080_i32_585 : BitVec 32 := 46080#32
  ![v439.toNat, 46080]
@[reducible] def k0_t11_loop : Scf.Loop 32 :=
  let c0_i32_590 : BitVec 32 := 0#32
  let c161_i32_591 : BitVec 32 := 161#32
  let v517 : BitVec 32 := Scalar.addi c0_i32_590 c161_i32_591
  let c1_i32_592 : BitVec 32 := 1#32
  ⟨c0_i32_590, v517, c1_i32_592⟩
def k0_off137 (k0_t11 : Fin k0_t11_loop.trips) : Fin 1 → Nat :=
  let c0_i32_1327 : BitVec 32 := 0#32
  let c0_i32_590 : BitVec 32 := 0#32
  let c1_i32_592 : BitVec 32 := 1#32
  let arg21 : BitVec 32 := Scf.iv c0_i32_590 c1_i32_592 k0_t11
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1327 v1132
  let v1141 : Index := Scalar.indexCast v1140
  ![v1141.toNat]

def k0_chk393 (v1144 : IVec S16 32) (v1145 : IVec S16 32) : Prop :=
  (∀ a x, ((![v1145, v1144] : Fin 2 → IVec S16 32) a x).toNat < S4x10368.size a)
theorem k0_idx393_inb : ∀ (v1144 : IVec S16 32) (v1145 : IVec S16 32) (k0_hw393 : k0_chk393 v1144 v1145), ∀ a x, ((![v1145, v1144] : Fin 2 → IVec S16 32) a x).toNat < S4x10368.size a := fun v1144 v1145 k0_hw393 => k0_hw393

def k0_chk394 (v1144 : IVec S16 32) (v1148 : IVec S16 32) : Prop :=
  (∀ a x, ((![v1148, v1144] : Fin 2 → IVec S16 32) a x).toNat < S4x10368.size a)
theorem k0_idx394_inb : ∀ (v1144 : IVec S16 32) (v1148 : IVec S16 32) (k0_hw394 : k0_chk394 v1144 v1148), ∀ a x, ((![v1148, v1144] : Fin 2 → IVec S16 32) a x).toNat < S4x10368.size a := fun v1144 v1148 k0_hw394 => k0_hw394

def k0_chk395 (v1144 : IVec S16 32) (v1151 : IVec S16 32) : Prop :=
  (∀ a x, ((![v1151, v1144] : Fin 2 → IVec S16 32) a x).toNat < S4x10368.size a)
theorem k0_idx395_inb : ∀ (v1144 : IVec S16 32) (v1151 : IVec S16 32) (k0_hw395 : k0_chk395 v1144 v1151), ∀ a x, ((![v1151, v1144] : Fin 2 → IVec S16 32) a x).toNat < S4x10368.size a := fun v1144 v1151 k0_hw395 => k0_hw395

def k0_chk396 (v1144 : IVec S16 32) (v1154 : IVec S16 32) : Prop :=
  (∀ a x, ((![v1154, v1144] : Fin 2 → IVec S16 32) a x).toNat < S4x10368.size a)
theorem k0_idx396_inb : ∀ (v1144 : IVec S16 32) (v1154 : IVec S16 32) (k0_hw396 : k0_chk396 v1144 v1154), ∀ a x, ((![v1154, v1144] : Fin 2 → IVec S16 32) a x).toNat < S4x10368.size a := fun v1144 v1154 k0_hw396 => k0_hw396
def k0_off138 (k0_t11 : Fin k0_t11_loop.trips) : Fin 1 → Nat :=
  let c2562_i32 : BitVec 32 := 2562#32
  let c0_i32_590 : BitVec 32 := 0#32
  let c1_i32_592 : BitVec 32 := 1#32
  let arg21 : BitVec 32 := Scf.iv c0_i32_590 c1_i32_592 k0_t11
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk397 (v1161 : IVec S16 32) (v1162 : IVec S16 32) : Prop :=
  (∀ a x, ((![v1162, v1161] : Fin 2 → IVec S16 32) a x).toNat < S4x10368.size a)
theorem k0_idx397_inb : ∀ (v1161 : IVec S16 32) (v1162 : IVec S16 32) (k0_hw397 : k0_chk397 v1161 v1162), ∀ a x, ((![v1162, v1161] : Fin 2 → IVec S16 32) a x).toNat < S4x10368.size a := fun v1161 v1162 k0_hw397 => k0_hw397

def k0_chk398 (v1161 : IVec S16 32) (v1165 : IVec S16 32) : Prop :=
  (∀ a x, ((![v1165, v1161] : Fin 2 → IVec S16 32) a x).toNat < S4x10368.size a)
theorem k0_idx398_inb : ∀ (v1161 : IVec S16 32) (v1165 : IVec S16 32) (k0_hw398 : k0_chk398 v1161 v1165), ∀ a x, ((![v1165, v1161] : Fin 2 → IVec S16 32) a x).toNat < S4x10368.size a := fun v1161 v1165 k0_hw398 => k0_hw398

def k0_chk399 (v1161 : IVec S16 32) (v1168 : IVec S16 32) : Prop :=
  (∀ a x, ((![v1168, v1161] : Fin 2 → IVec S16 32) a x).toNat < S4x10368.size a)
theorem k0_idx399_inb : ∀ (v1161 : IVec S16 32) (v1168 : IVec S16 32) (k0_hw399 : k0_chk399 v1161 v1168), ∀ a x, ((![v1168, v1161] : Fin 2 → IVec S16 32) a x).toNat < S4x10368.size a := fun v1161 v1168 k0_hw399 => k0_hw399

def k0_chk400 (v1161 : IVec S16 32) (v1171 : IVec S16 32) : Prop :=
  (∀ a x, ((![v1171, v1161] : Fin 2 → IVec S16 32) a x).toNat < S4x10368.size a)
theorem k0_idx400_inb : ∀ (v1161 : IVec S16 32) (v1171 : IVec S16 32) (k0_hw400 : k0_chk400 v1161 v1171), ∀ a x, ((![v1171, v1161] : Fin 2 → IVec S16 32) a x).toNat < S4x10368.size a := fun v1161 v1171 k0_hw400 => k0_hw400
def k0_off139 (k0_t11 : Fin k0_t11_loop.trips) : Fin 1 → Nat :=
  let c5124_i32 : BitVec 32 := 5124#32
  let c0_i32_590 : BitVec 32 := 0#32
  let c1_i32_592 : BitVec 32 := 1#32
  let arg21 : BitVec 32 := Scf.iv c0_i32_590 c1_i32_592 k0_t11
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk401 (v1178 : IVec S16 32) (v1179 : IVec S16 32) : Prop :=
  (∀ a x, ((![v1179, v1178] : Fin 2 → IVec S16 32) a x).toNat < S4x10368.size a)
theorem k0_idx401_inb : ∀ (v1178 : IVec S16 32) (v1179 : IVec S16 32) (k0_hw401 : k0_chk401 v1178 v1179), ∀ a x, ((![v1179, v1178] : Fin 2 → IVec S16 32) a x).toNat < S4x10368.size a := fun v1178 v1179 k0_hw401 => k0_hw401

def k0_chk402 (v1178 : IVec S16 32) (v1182 : IVec S16 32) : Prop :=
  (∀ a x, ((![v1182, v1178] : Fin 2 → IVec S16 32) a x).toNat < S4x10368.size a)
theorem k0_idx402_inb : ∀ (v1178 : IVec S16 32) (v1182 : IVec S16 32) (k0_hw402 : k0_chk402 v1178 v1182), ∀ a x, ((![v1182, v1178] : Fin 2 → IVec S16 32) a x).toNat < S4x10368.size a := fun v1178 v1182 k0_hw402 => k0_hw402

def k0_chk403 (v1178 : IVec S16 32) (v1185 : IVec S16 32) : Prop :=
  (∀ a x, ((![v1185, v1178] : Fin 2 → IVec S16 32) a x).toNat < S4x10368.size a)
theorem k0_idx403_inb : ∀ (v1178 : IVec S16 32) (v1185 : IVec S16 32) (k0_hw403 : k0_chk403 v1178 v1185), ∀ a x, ((![v1185, v1178] : Fin 2 → IVec S16 32) a x).toNat < S4x10368.size a := fun v1178 v1185 k0_hw403 => k0_hw403

def k0_chk404 (v1178 : IVec S16 32) (v1188 : IVec S16 32) : Prop :=
  (∀ a x, ((![v1188, v1178] : Fin 2 → IVec S16 32) a x).toNat < S4x10368.size a)
theorem k0_idx404_inb : ∀ (v1178 : IVec S16 32) (v1188 : IVec S16 32) (k0_hw404 : k0_chk404 v1178 v1188), ∀ a x, ((![v1188, v1178] : Fin 2 → IVec S16 32) a x).toNat < S4x10368.size a := fun v1178 v1188 k0_hw404 => k0_hw404
def k0_off140 (k0_t11 : Fin k0_t11_loop.trips) : Fin 1 → Nat :=
  let c7686_i32 : BitVec 32 := 7686#32
  let c0_i32_590 : BitVec 32 := 0#32
  let c1_i32_592 : BitVec 32 := 1#32
  let arg21 : BitVec 32 := Scf.iv c0_i32_590 c1_i32_592 k0_t11
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk405 (v1195 : IVec S16 32) (v1196 : IVec S16 32) : Prop :=
  (∀ a x, ((![v1196, v1195] : Fin 2 → IVec S16 32) a x).toNat < S4x10368.size a)
theorem k0_idx405_inb : ∀ (v1195 : IVec S16 32) (v1196 : IVec S16 32) (k0_hw405 : k0_chk405 v1195 v1196), ∀ a x, ((![v1196, v1195] : Fin 2 → IVec S16 32) a x).toNat < S4x10368.size a := fun v1195 v1196 k0_hw405 => k0_hw405

def k0_chk406 (v1195 : IVec S16 32) (v1199 : IVec S16 32) : Prop :=
  (∀ a x, ((![v1199, v1195] : Fin 2 → IVec S16 32) a x).toNat < S4x10368.size a)
theorem k0_idx406_inb : ∀ (v1195 : IVec S16 32) (v1199 : IVec S16 32) (k0_hw406 : k0_chk406 v1195 v1199), ∀ a x, ((![v1199, v1195] : Fin 2 → IVec S16 32) a x).toNat < S4x10368.size a := fun v1195 v1199 k0_hw406 => k0_hw406

def k0_chk407 (v1195 : IVec S16 32) (v1202 : IVec S16 32) : Prop :=
  (∀ a x, ((![v1202, v1195] : Fin 2 → IVec S16 32) a x).toNat < S4x10368.size a)
theorem k0_idx407_inb : ∀ (v1195 : IVec S16 32) (v1202 : IVec S16 32) (k0_hw407 : k0_chk407 v1195 v1202), ∀ a x, ((![v1202, v1195] : Fin 2 → IVec S16 32) a x).toNat < S4x10368.size a := fun v1195 v1202 k0_hw407 => k0_hw407

def k0_chk408 (v1195 : IVec S16 32) (v1205 : IVec S16 32) : Prop :=
  (∀ a x, ((![v1205, v1195] : Fin 2 → IVec S16 32) a x).toNat < S4x10368.size a)
theorem k0_idx408_inb : ∀ (v1195 : IVec S16 32) (v1205 : IVec S16 32) (k0_hw408 : k0_chk408 v1195 v1205), ∀ a x, ((![v1205, v1195] : Fin 2 → IVec S16 32) a x).toNat < S4x10368.size a := fun v1195 v1205 k0_hw408 => k0_hw408
def k0_off141 (k0_t11 : Fin k0_t11_loop.trips) : Fin 1 → Nat :=
  let c10248_i32 : BitVec 32 := 10248#32
  let c0_i32_590 : BitVec 32 := 0#32
  let c1_i32_592 : BitVec 32 := 1#32
  let arg21 : BitVec 32 := Scf.iv c0_i32_590 c1_i32_592 k0_t11
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk409 (v1212 : IVec S16 32) (v1213 : IVec S16 32) : Prop :=
  (∀ a x, ((![v1213, v1212] : Fin 2 → IVec S16 32) a x).toNat < S4x10368.size a)
theorem k0_idx409_inb : ∀ (v1212 : IVec S16 32) (v1213 : IVec S16 32) (k0_hw409 : k0_chk409 v1212 v1213), ∀ a x, ((![v1213, v1212] : Fin 2 → IVec S16 32) a x).toNat < S4x10368.size a := fun v1212 v1213 k0_hw409 => k0_hw409

def k0_chk410 (v1212 : IVec S16 32) (v1216 : IVec S16 32) : Prop :=
  (∀ a x, ((![v1216, v1212] : Fin 2 → IVec S16 32) a x).toNat < S4x10368.size a)
theorem k0_idx410_inb : ∀ (v1212 : IVec S16 32) (v1216 : IVec S16 32) (k0_hw410 : k0_chk410 v1212 v1216), ∀ a x, ((![v1216, v1212] : Fin 2 → IVec S16 32) a x).toNat < S4x10368.size a := fun v1212 v1216 k0_hw410 => k0_hw410

def k0_chk411 (v1212 : IVec S16 32) (v1219 : IVec S16 32) : Prop :=
  (∀ a x, ((![v1219, v1212] : Fin 2 → IVec S16 32) a x).toNat < S4x10368.size a)
theorem k0_idx411_inb : ∀ (v1212 : IVec S16 32) (v1219 : IVec S16 32) (k0_hw411 : k0_chk411 v1212 v1219), ∀ a x, ((![v1219, v1212] : Fin 2 → IVec S16 32) a x).toNat < S4x10368.size a := fun v1212 v1219 k0_hw411 => k0_hw411

def k0_chk412 (v1212 : IVec S16 32) (v1222 : IVec S16 32) : Prop :=
  (∀ a x, ((![v1222, v1212] : Fin 2 → IVec S16 32) a x).toNat < S4x10368.size a)
theorem k0_idx412_inb : ∀ (v1212 : IVec S16 32) (v1222 : IVec S16 32) (k0_hw412 : k0_chk412 v1212 v1222), ∀ a x, ((![v1222, v1212] : Fin 2 → IVec S16 32) a x).toNat < S4x10368.size a := fun v1212 v1222 k0_hw412 => k0_hw412
def k0_off142 (k0_t11 : Fin k0_t11_loop.trips) : Fin 1 → Nat :=
  let c12810_i32 : BitVec 32 := 12810#32
  let c0_i32_590 : BitVec 32 := 0#32
  let c1_i32_592 : BitVec 32 := 1#32
  let arg21 : BitVec 32 := Scf.iv c0_i32_590 c1_i32_592 k0_t11
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk413 (v1229 : IVec S16 32) (v1230 : IVec S16 32) : Prop :=
  (∀ a x, ((![v1230, v1229] : Fin 2 → IVec S16 32) a x).toNat < S4x10368.size a)
theorem k0_idx413_inb : ∀ (v1229 : IVec S16 32) (v1230 : IVec S16 32) (k0_hw413 : k0_chk413 v1229 v1230), ∀ a x, ((![v1230, v1229] : Fin 2 → IVec S16 32) a x).toNat < S4x10368.size a := fun v1229 v1230 k0_hw413 => k0_hw413

def k0_chk414 (v1229 : IVec S16 32) (v1233 : IVec S16 32) : Prop :=
  (∀ a x, ((![v1233, v1229] : Fin 2 → IVec S16 32) a x).toNat < S4x10368.size a)
theorem k0_idx414_inb : ∀ (v1229 : IVec S16 32) (v1233 : IVec S16 32) (k0_hw414 : k0_chk414 v1229 v1233), ∀ a x, ((![v1233, v1229] : Fin 2 → IVec S16 32) a x).toNat < S4x10368.size a := fun v1229 v1233 k0_hw414 => k0_hw414

def k0_chk415 (v1229 : IVec S16 32) (v1236 : IVec S16 32) : Prop :=
  (∀ a x, ((![v1236, v1229] : Fin 2 → IVec S16 32) a x).toNat < S4x10368.size a)
theorem k0_idx415_inb : ∀ (v1229 : IVec S16 32) (v1236 : IVec S16 32) (k0_hw415 : k0_chk415 v1229 v1236), ∀ a x, ((![v1236, v1229] : Fin 2 → IVec S16 32) a x).toNat < S4x10368.size a := fun v1229 v1236 k0_hw415 => k0_hw415

def k0_chk416 (v1229 : IVec S16 32) (v1239 : IVec S16 32) : Prop :=
  (∀ a x, ((![v1239, v1229] : Fin 2 → IVec S16 32) a x).toNat < S4x10368.size a)
theorem k0_idx416_inb : ∀ (v1229 : IVec S16 32) (v1239 : IVec S16 32) (k0_hw416 : k0_chk416 v1229 v1239), ∀ a x, ((![v1239, v1229] : Fin 2 → IVec S16 32) a x).toNat < S4x10368.size a := fun v1229 v1239 k0_hw416 => k0_hw416
def k0_off143 (k0_t11 : Fin k0_t11_loop.trips) : Fin 1 → Nat :=
  let c15372_i32 : BitVec 32 := 15372#32
  let c0_i32_590 : BitVec 32 := 0#32
  let c1_i32_592 : BitVec 32 := 1#32
  let arg21 : BitVec 32 := Scf.iv c0_i32_590 c1_i32_592 k0_t11
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk417 (v1246 : IVec S16 32) (v1247 : IVec S16 32) : Prop :=
  (∀ a x, ((![v1247, v1246] : Fin 2 → IVec S16 32) a x).toNat < S4x10368.size a)
theorem k0_idx417_inb : ∀ (v1246 : IVec S16 32) (v1247 : IVec S16 32) (k0_hw417 : k0_chk417 v1246 v1247), ∀ a x, ((![v1247, v1246] : Fin 2 → IVec S16 32) a x).toNat < S4x10368.size a := fun v1246 v1247 k0_hw417 => k0_hw417

def k0_chk418 (v1246 : IVec S16 32) (v1250 : IVec S16 32) : Prop :=
  (∀ a x, ((![v1250, v1246] : Fin 2 → IVec S16 32) a x).toNat < S4x10368.size a)
theorem k0_idx418_inb : ∀ (v1246 : IVec S16 32) (v1250 : IVec S16 32) (k0_hw418 : k0_chk418 v1246 v1250), ∀ a x, ((![v1250, v1246] : Fin 2 → IVec S16 32) a x).toNat < S4x10368.size a := fun v1246 v1250 k0_hw418 => k0_hw418

def k0_chk419 (v1246 : IVec S16 32) (v1253 : IVec S16 32) : Prop :=
  (∀ a x, ((![v1253, v1246] : Fin 2 → IVec S16 32) a x).toNat < S4x10368.size a)
theorem k0_idx419_inb : ∀ (v1246 : IVec S16 32) (v1253 : IVec S16 32) (k0_hw419 : k0_chk419 v1246 v1253), ∀ a x, ((![v1253, v1246] : Fin 2 → IVec S16 32) a x).toNat < S4x10368.size a := fun v1246 v1253 k0_hw419 => k0_hw419

def k0_chk420 (v1246 : IVec S16 32) (v1256 : IVec S16 32) : Prop :=
  (∀ a x, ((![v1256, v1246] : Fin 2 → IVec S16 32) a x).toNat < S4x10368.size a)
theorem k0_idx420_inb : ∀ (v1246 : IVec S16 32) (v1256 : IVec S16 32) (k0_hw420 : k0_chk420 v1246 v1256), ∀ a x, ((![v1256, v1246] : Fin 2 → IVec S16 32) a x).toNat < S4x10368.size a := fun v1246 v1256 k0_hw420 => k0_hw420

def k0_chk421 (v1135 : IVec S16 32) (v1259 : IVec S16 32) : Prop :=
  (∀ a x, ((![v1259, v1135] : Fin 2 → IVec S16 32) a x).toNat < S4x2572.size a)
theorem k0_idx421_inb : ∀ (v1135 : IVec S16 32) (v1259 : IVec S16 32) (k0_hw421 : k0_chk421 v1135 v1259), ∀ a x, ((![v1259, v1135] : Fin 2 → IVec S16 32) a x).toNat < S4x2572.size a := fun v1135 v1259 k0_hw421 => k0_hw421

def k0_chk422 (v1135 : IVec S16 32) (v1262 : IVec S16 32) : Prop :=
  (∀ a x, ((![v1262, v1135] : Fin 2 → IVec S16 32) a x).toNat < S4x2572.size a)
theorem k0_idx422_inb : ∀ (v1135 : IVec S16 32) (v1262 : IVec S16 32) (k0_hw422 : k0_chk422 v1135 v1262), ∀ a x, ((![v1262, v1135] : Fin 2 → IVec S16 32) a x).toNat < S4x2572.size a := fun v1135 v1262 k0_hw422 => k0_hw422

def k0_chk423 (v1135 : IVec S16 32) (v1265 : IVec S16 32) : Prop :=
  (∀ a x, ((![v1265, v1135] : Fin 2 → IVec S16 32) a x).toNat < S4x2572.size a)
theorem k0_idx423_inb : ∀ (v1135 : IVec S16 32) (v1265 : IVec S16 32) (k0_hw423 : k0_chk423 v1135 v1265), ∀ a x, ((![v1265, v1135] : Fin 2 → IVec S16 32) a x).toNat < S4x2572.size a := fun v1135 v1265 k0_hw423 => k0_hw423

def k0_chk424 (v1135 : IVec S16 32) (v1268 : IVec S16 32) : Prop :=
  (∀ a x, ((![v1268, v1135] : Fin 2 → IVec S16 32) a x).toNat < S4x2572.size a)
theorem k0_idx424_inb : ∀ (v1135 : IVec S16 32) (v1268 : IVec S16 32) (k0_hw424 : k0_chk424 v1135 v1268), ∀ a x, ((![v1268, v1135] : Fin 2 → IVec S16 32) a x).toNat < S4x2572.size a := fun v1135 v1268 k0_hw424 => k0_hw424

def k0_chk425 (v521 : IVec S16 32) (v522 : IVec S16 32) : Prop :=
  (∀ a x, ((![v522, v521] : Fin 2 → IVec S16 32) a x).toNat < S4x2572.size a)
theorem k0_idx425_inb : ∀ (v521 : IVec S16 32) (v522 : IVec S16 32) (k0_hw425 : k0_chk425 v521 v522), ∀ a x, ((![v522, v521] : Fin 2 → IVec S16 32) a x).toNat < S4x2572.size a := fun v521 v522 k0_hw425 => k0_hw425

def k0_chk426 (v521 : IVec S16 32) (v524 : IVec S16 32) : Prop :=
  (∀ a x, ((![v524, v521] : Fin 2 → IVec S16 32) a x).toNat < S4x2572.size a)
theorem k0_idx426_inb : ∀ (v521 : IVec S16 32) (v524 : IVec S16 32) (k0_hw426 : k0_chk426 v521 v524), ∀ a x, ((![v524, v521] : Fin 2 → IVec S16 32) a x).toNat < S4x2572.size a := fun v521 v524 k0_hw426 => k0_hw426

def k0_chk427 (v521 : IVec S16 32) (v526 : IVec S16 32) : Prop :=
  (∀ a x, ((![v526, v521] : Fin 2 → IVec S16 32) a x).toNat < S4x2572.size a)
theorem k0_idx427_inb : ∀ (v521 : IVec S16 32) (v526 : IVec S16 32) (k0_hw427 : k0_chk427 v521 v526), ∀ a x, ((![v526, v521] : Fin 2 → IVec S16 32) a x).toNat < S4x2572.size a := fun v521 v526 k0_hw427 => k0_hw427

def k0_chk428 (v521 : IVec S16 32) (v528 : IVec S16 32) : Prop :=
  (∀ a x, ((![v528, v521] : Fin 2 → IVec S16 32) a x).toNat < S4x2572.size a)
theorem k0_idx428_inb : ∀ (v521 : IVec S16 32) (v528 : IVec S16 32) (k0_hw428 : k0_chk428 v521 v528), ∀ a x, ((![v528, v521] : Fin 2 → IVec S16 32) a x).toNat < S4x2572.size a := fun v521 v528 k0_hw428 => k0_hw428
def k0_off144 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_543 : BitVec 32 := 4#32
  let v481 : BitVec 32 := Scalar.muli v1 c4_i32_543
  let c1_i32_544 : BitVec 32 := 1#32
  let v482 : BitVec 32 := Scalar.addi v481 c1_i32_544
  let c4_i32_545 : BitVec 32 := 4#32
  let v483 : BitVec 32 := Scalar.muli v482 c4_i32_545
  let v484 : BitVec 32 := v483
  let c10240_i32_602 : BitVec 32 := 10240#32
  ![v484.toNat, 10240]
def k0_mult24 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_606 : BitVec 32 := 4#32
  let v534 : BitVec 32 := Scalar.muli v1 c4_i32_606
  let c1_i32_607 : BitVec 32 := 1#32
  let v535 : BitVec 32 := Scalar.addi v534 c1_i32_607
  let c4_i32_608 : BitVec 32 := 4#32
  let v536 : BitVec 32 := Scalar.muli v535 c4_i32_608
  v536
def k0_mult25 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_609 : BitVec 32 := 4#32
  let v538 : BitVec 32 := Scalar.muli v1 c4_i32_609
  let c2_i32_610 : BitVec 32 := 2#32
  let v539 : BitVec 32 := Scalar.addi v538 c2_i32_610
  let c4_i32_611 : BitVec 32 := 4#32
  let v540 : BitVec 32 := Scalar.muli v539 c4_i32_611
  v540
def k0_off145 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_609 : BitVec 32 := 4#32
  let v538 : BitVec 32 := Scalar.muli v1 c4_i32_609
  let c2_i32_610 : BitVec 32 := 2#32
  let v539 : BitVec 32 := Scalar.addi v538 c2_i32_610
  let c4_i32_611 : BitVec 32 := 4#32
  let v540 : BitVec 32 := Scalar.muli v539 c4_i32_611
  let v541 : BitVec 32 := v540
  let c0_i32_614 : BitVec 32 := 0#32
  ![v541.toNat, 0]
def k0_off146 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_609 : BitVec 32 := 4#32
  let v538 : BitVec 32 := Scalar.muli v1 c4_i32_609
  let c2_i32_610 : BitVec 32 := 2#32
  let v539 : BitVec 32 := Scalar.addi v538 c2_i32_610
  let c4_i32_611 : BitVec 32 := 4#32
  let v540 : BitVec 32 := Scalar.muli v539 c4_i32_611
  let v541 : BitVec 32 := v540
  let c5120_i32_620 : BitVec 32 := 5120#32
  ![v541.toNat, 5120]
def k0_off147 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_486 : BitVec 32 := 4#32
  let v432 : BitVec 32 := Scalar.muli v1 c4_i32_486
  let c1_i32_487 : BitVec 32 := 1#32
  let v433 : BitVec 32 := Scalar.addi v432 c1_i32_487
  let c4_i32_488 : BitVec 32 := 4#32
  let v434 : BitVec 32 := Scalar.muli v433 c4_i32_488
  let v435 : BitVec 32 := v434
  let c7680_i32_626 : BitVec 32 := 7680#32
  ![v435.toNat, 7680]

def k0_chk429 (v2 : IVec S16 32) (v554 : IVec S16 32) : Prop :=
  (∀ a x, ((![v554, v2] : Fin 2 → IVec S16 32) a x).toNat < S4x2572.size a)
theorem k0_idx429_inb : ∀ (v2 : IVec S16 32) (v554 : IVec S16 32) (k0_hw429 : k0_chk429 v2 v554), ∀ a x, ((![v554, v2] : Fin 2 → IVec S16 32) a x).toNat < S4x2572.size a := fun v2 v554 k0_hw429 => k0_hw429

def k0_chk430 (v2 : IVec S16 32) (v555 : IVec S16 32) : Prop :=
  (∀ a x, ((![v555, v2] : Fin 2 → IVec S16 32) a x).toNat < S4x2572.size a)
theorem k0_idx430_inb : ∀ (v2 : IVec S16 32) (v555 : IVec S16 32) (k0_hw430 : k0_chk430 v2 v555), ∀ a x, ((![v555, v2] : Fin 2 → IVec S16 32) a x).toNat < S4x2572.size a := fun v2 v555 k0_hw430 => k0_hw430

def k0_chk431 (v2 : IVec S16 32) (v556 : IVec S16 32) : Prop :=
  (∀ a x, ((![v556, v2] : Fin 2 → IVec S16 32) a x).toNat < S4x2572.size a)
theorem k0_idx431_inb : ∀ (v2 : IVec S16 32) (v556 : IVec S16 32) (k0_hw431 : k0_chk431 v2 v556), ∀ a x, ((![v556, v2] : Fin 2 → IVec S16 32) a x).toNat < S4x2572.size a := fun v2 v556 k0_hw431 => k0_hw431

def k0_chk432 (v2 : IVec S16 32) (v557 : IVec S16 32) : Prop :=
  (∀ a x, ((![v557, v2] : Fin 2 → IVec S16 32) a x).toNat < S4x2572.size a)
theorem k0_idx432_inb : ∀ (v2 : IVec S16 32) (v557 : IVec S16 32) (k0_hw432 : k0_chk432 v2 v557), ∀ a x, ((![v557, v2] : Fin 2 → IVec S16 32) a x).toNat < S4x2572.size a := fun v2 v557 k0_hw432 => k0_hw432
def k0_off148 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_546 : BitVec 32 := 4#32
  let v485 : BitVec 32 := Scalar.muli v1 c4_i32_546
  let c1_i32_547 : BitVec 32 := 1#32
  let v486 : BitVec 32 := Scalar.addi v485 c1_i32_547
  let c4_i32_548 : BitVec 32 := 4#32
  let v487 : BitVec 32 := Scalar.muli v486 c4_i32_548
  let v488 : BitVec 32 := v487
  let c51200_i32_636 : BitVec 32 := 51200#32
  ![v488.toNat, 51200]
def k0_off149 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_546 : BitVec 32 := 4#32
  let v485 : BitVec 32 := Scalar.muli v1 c4_i32_546
  let c1_i32_547 : BitVec 32 := 1#32
  let v486 : BitVec 32 := Scalar.addi v485 c1_i32_547
  let c4_i32_548 : BitVec 32 := 4#32
  let v487 : BitVec 32 := Scalar.muli v486 c4_i32_548
  let v488 : BitVec 32 := v487
  let c56320_i32_642 : BitVec 32 := 56320#32
  ![v488.toNat, 56320]
def k0_off150 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_546 : BitVec 32 := 4#32
  let v485 : BitVec 32 := Scalar.muli v1 c4_i32_546
  let c1_i32_547 : BitVec 32 := 1#32
  let v486 : BitVec 32 := Scalar.addi v485 c1_i32_547
  let c4_i32_548 : BitVec 32 := 4#32
  let v487 : BitVec 32 := Scalar.muli v486 c4_i32_548
  let v488 : BitVec 32 := v487
  let c0_i32_648 : BitVec 32 := 0#32
  ![v488.toNat, 0]
@[reducible] def k0_t12_loop : Scf.Loop 32 :=
  let c0_i32_653 : BitVec 32 := 0#32
  let c161_i32_654 : BitVec 32 := 161#32
  let v570 : BitVec 32 := Scalar.addi c0_i32_653 c161_i32_654
  let c1_i32_655 : BitVec 32 := 1#32
  ⟨c0_i32_653, v570, c1_i32_655⟩
def k0_off151 (k0_t12 : Fin k0_t12_loop.trips) : Fin 1 → Nat :=
  let c0_i32_1327 : BitVec 32 := 0#32
  let c0_i32_653 : BitVec 32 := 0#32
  let c1_i32_655 : BitVec 32 := 1#32
  let arg21 : BitVec 32 := Scf.iv c0_i32_653 c1_i32_655 k0_t12
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1327 v1132
  let v1141 : Index := Scalar.indexCast v1140
  ![v1141.toNat]

def k0_chk433 (v1144 : IVec S16 32) (v1145 : IVec S16 32) : Prop :=
  (∀ a x, ((![v1145, v1144] : Fin 2 → IVec S16 32) a x).toNat < S4x10368.size a)
theorem k0_idx433_inb : ∀ (v1144 : IVec S16 32) (v1145 : IVec S16 32) (k0_hw433 : k0_chk433 v1144 v1145), ∀ a x, ((![v1145, v1144] : Fin 2 → IVec S16 32) a x).toNat < S4x10368.size a := fun v1144 v1145 k0_hw433 => k0_hw433

def k0_chk434 (v1144 : IVec S16 32) (v1148 : IVec S16 32) : Prop :=
  (∀ a x, ((![v1148, v1144] : Fin 2 → IVec S16 32) a x).toNat < S4x10368.size a)
theorem k0_idx434_inb : ∀ (v1144 : IVec S16 32) (v1148 : IVec S16 32) (k0_hw434 : k0_chk434 v1144 v1148), ∀ a x, ((![v1148, v1144] : Fin 2 → IVec S16 32) a x).toNat < S4x10368.size a := fun v1144 v1148 k0_hw434 => k0_hw434

def k0_chk435 (v1144 : IVec S16 32) (v1151 : IVec S16 32) : Prop :=
  (∀ a x, ((![v1151, v1144] : Fin 2 → IVec S16 32) a x).toNat < S4x10368.size a)
theorem k0_idx435_inb : ∀ (v1144 : IVec S16 32) (v1151 : IVec S16 32) (k0_hw435 : k0_chk435 v1144 v1151), ∀ a x, ((![v1151, v1144] : Fin 2 → IVec S16 32) a x).toNat < S4x10368.size a := fun v1144 v1151 k0_hw435 => k0_hw435

def k0_chk436 (v1144 : IVec S16 32) (v1154 : IVec S16 32) : Prop :=
  (∀ a x, ((![v1154, v1144] : Fin 2 → IVec S16 32) a x).toNat < S4x10368.size a)
theorem k0_idx436_inb : ∀ (v1144 : IVec S16 32) (v1154 : IVec S16 32) (k0_hw436 : k0_chk436 v1144 v1154), ∀ a x, ((![v1154, v1144] : Fin 2 → IVec S16 32) a x).toNat < S4x10368.size a := fun v1144 v1154 k0_hw436 => k0_hw436
def k0_off152 (k0_t12 : Fin k0_t12_loop.trips) : Fin 1 → Nat :=
  let c2562_i32 : BitVec 32 := 2562#32
  let c0_i32_653 : BitVec 32 := 0#32
  let c1_i32_655 : BitVec 32 := 1#32
  let arg21 : BitVec 32 := Scf.iv c0_i32_653 c1_i32_655 k0_t12
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk437 (v1161 : IVec S16 32) (v1162 : IVec S16 32) : Prop :=
  (∀ a x, ((![v1162, v1161] : Fin 2 → IVec S16 32) a x).toNat < S4x10368.size a)
theorem k0_idx437_inb : ∀ (v1161 : IVec S16 32) (v1162 : IVec S16 32) (k0_hw437 : k0_chk437 v1161 v1162), ∀ a x, ((![v1162, v1161] : Fin 2 → IVec S16 32) a x).toNat < S4x10368.size a := fun v1161 v1162 k0_hw437 => k0_hw437

def k0_chk438 (v1161 : IVec S16 32) (v1165 : IVec S16 32) : Prop :=
  (∀ a x, ((![v1165, v1161] : Fin 2 → IVec S16 32) a x).toNat < S4x10368.size a)
theorem k0_idx438_inb : ∀ (v1161 : IVec S16 32) (v1165 : IVec S16 32) (k0_hw438 : k0_chk438 v1161 v1165), ∀ a x, ((![v1165, v1161] : Fin 2 → IVec S16 32) a x).toNat < S4x10368.size a := fun v1161 v1165 k0_hw438 => k0_hw438

def k0_chk439 (v1161 : IVec S16 32) (v1168 : IVec S16 32) : Prop :=
  (∀ a x, ((![v1168, v1161] : Fin 2 → IVec S16 32) a x).toNat < S4x10368.size a)
theorem k0_idx439_inb : ∀ (v1161 : IVec S16 32) (v1168 : IVec S16 32) (k0_hw439 : k0_chk439 v1161 v1168), ∀ a x, ((![v1168, v1161] : Fin 2 → IVec S16 32) a x).toNat < S4x10368.size a := fun v1161 v1168 k0_hw439 => k0_hw439

def k0_chk440 (v1161 : IVec S16 32) (v1171 : IVec S16 32) : Prop :=
  (∀ a x, ((![v1171, v1161] : Fin 2 → IVec S16 32) a x).toNat < S4x10368.size a)
theorem k0_idx440_inb : ∀ (v1161 : IVec S16 32) (v1171 : IVec S16 32) (k0_hw440 : k0_chk440 v1161 v1171), ∀ a x, ((![v1171, v1161] : Fin 2 → IVec S16 32) a x).toNat < S4x10368.size a := fun v1161 v1171 k0_hw440 => k0_hw440
def k0_off153 (k0_t12 : Fin k0_t12_loop.trips) : Fin 1 → Nat :=
  let c5124_i32 : BitVec 32 := 5124#32
  let c0_i32_653 : BitVec 32 := 0#32
  let c1_i32_655 : BitVec 32 := 1#32
  let arg21 : BitVec 32 := Scf.iv c0_i32_653 c1_i32_655 k0_t12
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk441 (v1178 : IVec S16 32) (v1179 : IVec S16 32) : Prop :=
  (∀ a x, ((![v1179, v1178] : Fin 2 → IVec S16 32) a x).toNat < S4x10368.size a)
theorem k0_idx441_inb : ∀ (v1178 : IVec S16 32) (v1179 : IVec S16 32) (k0_hw441 : k0_chk441 v1178 v1179), ∀ a x, ((![v1179, v1178] : Fin 2 → IVec S16 32) a x).toNat < S4x10368.size a := fun v1178 v1179 k0_hw441 => k0_hw441

def k0_chk442 (v1178 : IVec S16 32) (v1182 : IVec S16 32) : Prop :=
  (∀ a x, ((![v1182, v1178] : Fin 2 → IVec S16 32) a x).toNat < S4x10368.size a)
theorem k0_idx442_inb : ∀ (v1178 : IVec S16 32) (v1182 : IVec S16 32) (k0_hw442 : k0_chk442 v1178 v1182), ∀ a x, ((![v1182, v1178] : Fin 2 → IVec S16 32) a x).toNat < S4x10368.size a := fun v1178 v1182 k0_hw442 => k0_hw442

def k0_chk443 (v1178 : IVec S16 32) (v1185 : IVec S16 32) : Prop :=
  (∀ a x, ((![v1185, v1178] : Fin 2 → IVec S16 32) a x).toNat < S4x10368.size a)
theorem k0_idx443_inb : ∀ (v1178 : IVec S16 32) (v1185 : IVec S16 32) (k0_hw443 : k0_chk443 v1178 v1185), ∀ a x, ((![v1185, v1178] : Fin 2 → IVec S16 32) a x).toNat < S4x10368.size a := fun v1178 v1185 k0_hw443 => k0_hw443

def k0_chk444 (v1178 : IVec S16 32) (v1188 : IVec S16 32) : Prop :=
  (∀ a x, ((![v1188, v1178] : Fin 2 → IVec S16 32) a x).toNat < S4x10368.size a)
theorem k0_idx444_inb : ∀ (v1178 : IVec S16 32) (v1188 : IVec S16 32) (k0_hw444 : k0_chk444 v1178 v1188), ∀ a x, ((![v1188, v1178] : Fin 2 → IVec S16 32) a x).toNat < S4x10368.size a := fun v1178 v1188 k0_hw444 => k0_hw444
def k0_off154 (k0_t12 : Fin k0_t12_loop.trips) : Fin 1 → Nat :=
  let c7686_i32 : BitVec 32 := 7686#32
  let c0_i32_653 : BitVec 32 := 0#32
  let c1_i32_655 : BitVec 32 := 1#32
  let arg21 : BitVec 32 := Scf.iv c0_i32_653 c1_i32_655 k0_t12
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk445 (v1195 : IVec S16 32) (v1196 : IVec S16 32) : Prop :=
  (∀ a x, ((![v1196, v1195] : Fin 2 → IVec S16 32) a x).toNat < S4x10368.size a)
theorem k0_idx445_inb : ∀ (v1195 : IVec S16 32) (v1196 : IVec S16 32) (k0_hw445 : k0_chk445 v1195 v1196), ∀ a x, ((![v1196, v1195] : Fin 2 → IVec S16 32) a x).toNat < S4x10368.size a := fun v1195 v1196 k0_hw445 => k0_hw445

def k0_chk446 (v1195 : IVec S16 32) (v1199 : IVec S16 32) : Prop :=
  (∀ a x, ((![v1199, v1195] : Fin 2 → IVec S16 32) a x).toNat < S4x10368.size a)
theorem k0_idx446_inb : ∀ (v1195 : IVec S16 32) (v1199 : IVec S16 32) (k0_hw446 : k0_chk446 v1195 v1199), ∀ a x, ((![v1199, v1195] : Fin 2 → IVec S16 32) a x).toNat < S4x10368.size a := fun v1195 v1199 k0_hw446 => k0_hw446

def k0_chk447 (v1195 : IVec S16 32) (v1202 : IVec S16 32) : Prop :=
  (∀ a x, ((![v1202, v1195] : Fin 2 → IVec S16 32) a x).toNat < S4x10368.size a)
theorem k0_idx447_inb : ∀ (v1195 : IVec S16 32) (v1202 : IVec S16 32) (k0_hw447 : k0_chk447 v1195 v1202), ∀ a x, ((![v1202, v1195] : Fin 2 → IVec S16 32) a x).toNat < S4x10368.size a := fun v1195 v1202 k0_hw447 => k0_hw447

def k0_chk448 (v1195 : IVec S16 32) (v1205 : IVec S16 32) : Prop :=
  (∀ a x, ((![v1205, v1195] : Fin 2 → IVec S16 32) a x).toNat < S4x10368.size a)
theorem k0_idx448_inb : ∀ (v1195 : IVec S16 32) (v1205 : IVec S16 32) (k0_hw448 : k0_chk448 v1195 v1205), ∀ a x, ((![v1205, v1195] : Fin 2 → IVec S16 32) a x).toNat < S4x10368.size a := fun v1195 v1205 k0_hw448 => k0_hw448
def k0_off155 (k0_t12 : Fin k0_t12_loop.trips) : Fin 1 → Nat :=
  let c10248_i32 : BitVec 32 := 10248#32
  let c0_i32_653 : BitVec 32 := 0#32
  let c1_i32_655 : BitVec 32 := 1#32
  let arg21 : BitVec 32 := Scf.iv c0_i32_653 c1_i32_655 k0_t12
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk449 (v1212 : IVec S16 32) (v1213 : IVec S16 32) : Prop :=
  (∀ a x, ((![v1213, v1212] : Fin 2 → IVec S16 32) a x).toNat < S4x10368.size a)
theorem k0_idx449_inb : ∀ (v1212 : IVec S16 32) (v1213 : IVec S16 32) (k0_hw449 : k0_chk449 v1212 v1213), ∀ a x, ((![v1213, v1212] : Fin 2 → IVec S16 32) a x).toNat < S4x10368.size a := fun v1212 v1213 k0_hw449 => k0_hw449

def k0_chk450 (v1212 : IVec S16 32) (v1216 : IVec S16 32) : Prop :=
  (∀ a x, ((![v1216, v1212] : Fin 2 → IVec S16 32) a x).toNat < S4x10368.size a)
theorem k0_idx450_inb : ∀ (v1212 : IVec S16 32) (v1216 : IVec S16 32) (k0_hw450 : k0_chk450 v1212 v1216), ∀ a x, ((![v1216, v1212] : Fin 2 → IVec S16 32) a x).toNat < S4x10368.size a := fun v1212 v1216 k0_hw450 => k0_hw450

def k0_chk451 (v1212 : IVec S16 32) (v1219 : IVec S16 32) : Prop :=
  (∀ a x, ((![v1219, v1212] : Fin 2 → IVec S16 32) a x).toNat < S4x10368.size a)
theorem k0_idx451_inb : ∀ (v1212 : IVec S16 32) (v1219 : IVec S16 32) (k0_hw451 : k0_chk451 v1212 v1219), ∀ a x, ((![v1219, v1212] : Fin 2 → IVec S16 32) a x).toNat < S4x10368.size a := fun v1212 v1219 k0_hw451 => k0_hw451

def k0_chk452 (v1212 : IVec S16 32) (v1222 : IVec S16 32) : Prop :=
  (∀ a x, ((![v1222, v1212] : Fin 2 → IVec S16 32) a x).toNat < S4x10368.size a)
theorem k0_idx452_inb : ∀ (v1212 : IVec S16 32) (v1222 : IVec S16 32) (k0_hw452 : k0_chk452 v1212 v1222), ∀ a x, ((![v1222, v1212] : Fin 2 → IVec S16 32) a x).toNat < S4x10368.size a := fun v1212 v1222 k0_hw452 => k0_hw452
def k0_off156 (k0_t12 : Fin k0_t12_loop.trips) : Fin 1 → Nat :=
  let c12810_i32 : BitVec 32 := 12810#32
  let c0_i32_653 : BitVec 32 := 0#32
  let c1_i32_655 : BitVec 32 := 1#32
  let arg21 : BitVec 32 := Scf.iv c0_i32_653 c1_i32_655 k0_t12
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk453 (v1229 : IVec S16 32) (v1230 : IVec S16 32) : Prop :=
  (∀ a x, ((![v1230, v1229] : Fin 2 → IVec S16 32) a x).toNat < S4x10368.size a)
theorem k0_idx453_inb : ∀ (v1229 : IVec S16 32) (v1230 : IVec S16 32) (k0_hw453 : k0_chk453 v1229 v1230), ∀ a x, ((![v1230, v1229] : Fin 2 → IVec S16 32) a x).toNat < S4x10368.size a := fun v1229 v1230 k0_hw453 => k0_hw453

def k0_chk454 (v1229 : IVec S16 32) (v1233 : IVec S16 32) : Prop :=
  (∀ a x, ((![v1233, v1229] : Fin 2 → IVec S16 32) a x).toNat < S4x10368.size a)
theorem k0_idx454_inb : ∀ (v1229 : IVec S16 32) (v1233 : IVec S16 32) (k0_hw454 : k0_chk454 v1229 v1233), ∀ a x, ((![v1233, v1229] : Fin 2 → IVec S16 32) a x).toNat < S4x10368.size a := fun v1229 v1233 k0_hw454 => k0_hw454

def k0_chk455 (v1229 : IVec S16 32) (v1236 : IVec S16 32) : Prop :=
  (∀ a x, ((![v1236, v1229] : Fin 2 → IVec S16 32) a x).toNat < S4x10368.size a)
theorem k0_idx455_inb : ∀ (v1229 : IVec S16 32) (v1236 : IVec S16 32) (k0_hw455 : k0_chk455 v1229 v1236), ∀ a x, ((![v1236, v1229] : Fin 2 → IVec S16 32) a x).toNat < S4x10368.size a := fun v1229 v1236 k0_hw455 => k0_hw455

def k0_chk456 (v1229 : IVec S16 32) (v1239 : IVec S16 32) : Prop :=
  (∀ a x, ((![v1239, v1229] : Fin 2 → IVec S16 32) a x).toNat < S4x10368.size a)
theorem k0_idx456_inb : ∀ (v1229 : IVec S16 32) (v1239 : IVec S16 32) (k0_hw456 : k0_chk456 v1229 v1239), ∀ a x, ((![v1239, v1229] : Fin 2 → IVec S16 32) a x).toNat < S4x10368.size a := fun v1229 v1239 k0_hw456 => k0_hw456
def k0_off157 (k0_t12 : Fin k0_t12_loop.trips) : Fin 1 → Nat :=
  let c15372_i32 : BitVec 32 := 15372#32
  let c0_i32_653 : BitVec 32 := 0#32
  let c1_i32_655 : BitVec 32 := 1#32
  let arg21 : BitVec 32 := Scf.iv c0_i32_653 c1_i32_655 k0_t12
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk457 (v1246 : IVec S16 32) (v1247 : IVec S16 32) : Prop :=
  (∀ a x, ((![v1247, v1246] : Fin 2 → IVec S16 32) a x).toNat < S4x10368.size a)
theorem k0_idx457_inb : ∀ (v1246 : IVec S16 32) (v1247 : IVec S16 32) (k0_hw457 : k0_chk457 v1246 v1247), ∀ a x, ((![v1247, v1246] : Fin 2 → IVec S16 32) a x).toNat < S4x10368.size a := fun v1246 v1247 k0_hw457 => k0_hw457

def k0_chk458 (v1246 : IVec S16 32) (v1250 : IVec S16 32) : Prop :=
  (∀ a x, ((![v1250, v1246] : Fin 2 → IVec S16 32) a x).toNat < S4x10368.size a)
theorem k0_idx458_inb : ∀ (v1246 : IVec S16 32) (v1250 : IVec S16 32) (k0_hw458 : k0_chk458 v1246 v1250), ∀ a x, ((![v1250, v1246] : Fin 2 → IVec S16 32) a x).toNat < S4x10368.size a := fun v1246 v1250 k0_hw458 => k0_hw458

def k0_chk459 (v1246 : IVec S16 32) (v1253 : IVec S16 32) : Prop :=
  (∀ a x, ((![v1253, v1246] : Fin 2 → IVec S16 32) a x).toNat < S4x10368.size a)
theorem k0_idx459_inb : ∀ (v1246 : IVec S16 32) (v1253 : IVec S16 32) (k0_hw459 : k0_chk459 v1246 v1253), ∀ a x, ((![v1253, v1246] : Fin 2 → IVec S16 32) a x).toNat < S4x10368.size a := fun v1246 v1253 k0_hw459 => k0_hw459

def k0_chk460 (v1246 : IVec S16 32) (v1256 : IVec S16 32) : Prop :=
  (∀ a x, ((![v1256, v1246] : Fin 2 → IVec S16 32) a x).toNat < S4x10368.size a)
theorem k0_idx460_inb : ∀ (v1246 : IVec S16 32) (v1256 : IVec S16 32) (k0_hw460 : k0_chk460 v1246 v1256), ∀ a x, ((![v1256, v1246] : Fin 2 → IVec S16 32) a x).toNat < S4x10368.size a := fun v1246 v1256 k0_hw460 => k0_hw460

def k0_chk461 (v1135 : IVec S16 32) (v1259 : IVec S16 32) : Prop :=
  (∀ a x, ((![v1259, v1135] : Fin 2 → IVec S16 32) a x).toNat < S4x2572.size a)
theorem k0_idx461_inb : ∀ (v1135 : IVec S16 32) (v1259 : IVec S16 32) (k0_hw461 : k0_chk461 v1135 v1259), ∀ a x, ((![v1259, v1135] : Fin 2 → IVec S16 32) a x).toNat < S4x2572.size a := fun v1135 v1259 k0_hw461 => k0_hw461

def k0_chk462 (v1135 : IVec S16 32) (v1262 : IVec S16 32) : Prop :=
  (∀ a x, ((![v1262, v1135] : Fin 2 → IVec S16 32) a x).toNat < S4x2572.size a)
theorem k0_idx462_inb : ∀ (v1135 : IVec S16 32) (v1262 : IVec S16 32) (k0_hw462 : k0_chk462 v1135 v1262), ∀ a x, ((![v1262, v1135] : Fin 2 → IVec S16 32) a x).toNat < S4x2572.size a := fun v1135 v1262 k0_hw462 => k0_hw462

def k0_chk463 (v1135 : IVec S16 32) (v1265 : IVec S16 32) : Prop :=
  (∀ a x, ((![v1265, v1135] : Fin 2 → IVec S16 32) a x).toNat < S4x2572.size a)
theorem k0_idx463_inb : ∀ (v1135 : IVec S16 32) (v1265 : IVec S16 32) (k0_hw463 : k0_chk463 v1135 v1265), ∀ a x, ((![v1265, v1135] : Fin 2 → IVec S16 32) a x).toNat < S4x2572.size a := fun v1135 v1265 k0_hw463 => k0_hw463

def k0_chk464 (v1135 : IVec S16 32) (v1268 : IVec S16 32) : Prop :=
  (∀ a x, ((![v1268, v1135] : Fin 2 → IVec S16 32) a x).toNat < S4x2572.size a)
theorem k0_idx464_inb : ∀ (v1135 : IVec S16 32) (v1268 : IVec S16 32) (k0_hw464 : k0_chk464 v1135 v1268), ∀ a x, ((![v1268, v1135] : Fin 2 → IVec S16 32) a x).toNat < S4x2572.size a := fun v1135 v1268 k0_hw464 => k0_hw464
def k0_off158 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_606 : BitVec 32 := 4#32
  let v534 : BitVec 32 := Scalar.muli v1 c4_i32_606
  let c1_i32_607 : BitVec 32 := 1#32
  let v535 : BitVec 32 := Scalar.addi v534 c1_i32_607
  let c4_i32_608 : BitVec 32 := 4#32
  let v536 : BitVec 32 := Scalar.muli v535 c4_i32_608
  let v537 : BitVec 32 := v536
  let c12800_i32_657 : BitVec 32 := 12800#32
  ![v537.toNat, 12800]
def k0_mult26 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_659 : BitVec 32 := 4#32
  let v573 : BitVec 32 := Scalar.muli v1 c4_i32_659
  let c2_i32_660 : BitVec 32 := 2#32
  let v574 : BitVec 32 := Scalar.addi v573 c2_i32_660
  let c4_i32_661 : BitVec 32 := 4#32
  let v575 : BitVec 32 := Scalar.muli v574 c4_i32_661
  v575
def k0_mult27 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_662 : BitVec 32 := 4#32
  let v577 : BitVec 32 := Scalar.muli v1 c4_i32_662
  let c2_i32_663 : BitVec 32 := 2#32
  let v578 : BitVec 32 := Scalar.addi v577 c2_i32_663
  let c4_i32_664 : BitVec 32 := 4#32
  let v579 : BitVec 32 := Scalar.muli v578 c4_i32_664
  v579
def k0_off159 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_662 : BitVec 32 := 4#32
  let v577 : BitVec 32 := Scalar.muli v1 c4_i32_662
  let c2_i32_663 : BitVec 32 := 2#32
  let v578 : BitVec 32 := Scalar.addi v577 c2_i32_663
  let c4_i32_664 : BitVec 32 := 4#32
  let v579 : BitVec 32 := Scalar.muli v578 c4_i32_664
  let v580 : BitVec 32 := v579
  let c10240_i32_667 : BitVec 32 := 10240#32
  ![v580.toNat, 10240]
def k0_off160 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_662 : BitVec 32 := 4#32
  let v577 : BitVec 32 := Scalar.muli v1 c4_i32_662
  let c2_i32_663 : BitVec 32 := 2#32
  let v578 : BitVec 32 := Scalar.addi v577 c2_i32_663
  let c4_i32_664 : BitVec 32 := 4#32
  let v579 : BitVec 32 := Scalar.muli v578 c4_i32_664
  let v580 : BitVec 32 := v579
  let c15360_i32_673 : BitVec 32 := 15360#32
  ![v580.toNat, 15360]
def k0_off161 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_543 : BitVec 32 := 4#32
  let v481 : BitVec 32 := Scalar.muli v1 c4_i32_543
  let c1_i32_544 : BitVec 32 := 1#32
  let v482 : BitVec 32 := Scalar.addi v481 c1_i32_544
  let c4_i32_545 : BitVec 32 := 4#32
  let v483 : BitVec 32 := Scalar.muli v482 c4_i32_545
  let v484 : BitVec 32 := v483
  let c10240_i32_679 : BitVec 32 := 10240#32
  ![v484.toNat, 10240]
def k0_off162 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_609 : BitVec 32 := 4#32
  let v538 : BitVec 32 := Scalar.muli v1 c4_i32_609
  let c2_i32_610 : BitVec 32 := 2#32
  let v539 : BitVec 32 := Scalar.addi v538 c2_i32_610
  let c4_i32_611 : BitVec 32 := 4#32
  let v540 : BitVec 32 := Scalar.muli v539 c4_i32_611
  let v541 : BitVec 32 := v540
  let c0_i32_685 : BitVec 32 := 0#32
  ![v541.toNat, 0]
def k0_off163 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_609 : BitVec 32 := 4#32
  let v538 : BitVec 32 := Scalar.muli v1 c4_i32_609
  let c2_i32_610 : BitVec 32 := 2#32
  let v539 : BitVec 32 := Scalar.addi v538 c2_i32_610
  let c4_i32_611 : BitVec 32 := 4#32
  let v540 : BitVec 32 := Scalar.muli v539 c4_i32_611
  let v541 : BitVec 32 := v540
  let c5120_i32_691 : BitVec 32 := 5120#32
  ![v541.toNat, 5120]
@[reducible] def k0_t13_loop : Scf.Loop 32 :=
  let c0_i32_696 : BitVec 32 := 0#32
  let c161_i32_697 : BitVec 32 := 161#32
  let v601 : BitVec 32 := Scalar.addi c0_i32_696 c161_i32_697
  let c1_i32_698 : BitVec 32 := 1#32
  ⟨c0_i32_696, v601, c1_i32_698⟩
def k0_off164 (k0_t13 : Fin k0_t13_loop.trips) : Fin 1 → Nat :=
  let c0_i32_1328 : BitVec 32 := 0#32
  let c0_i32_696 : BitVec 32 := 0#32
  let c1_i32_698 : BitVec 32 := 1#32
  let arg21 : BitVec 32 := Scf.iv c0_i32_696 c1_i32_698 k0_t13
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1328 v1132
  let v1141 : Index := Scalar.indexCast v1140
  ![v1141.toNat]

def k0_chk465 (v1142 : IVec S16 32) (v1143 : IVec S16 32) : Prop :=
  (∀ a x, ((![v1143, v1142] : Fin 2 → IVec S16 32) a x).toNat < S4x10368.size a)
theorem k0_idx465_inb : ∀ (v1142 : IVec S16 32) (v1143 : IVec S16 32) (k0_hw465 : k0_chk465 v1142 v1143), ∀ a x, ((![v1143, v1142] : Fin 2 → IVec S16 32) a x).toNat < S4x10368.size a := fun v1142 v1143 k0_hw465 => k0_hw465

def k0_chk466 (v1142 : IVec S16 32) (v1146 : IVec S16 32) : Prop :=
  (∀ a x, ((![v1146, v1142] : Fin 2 → IVec S16 32) a x).toNat < S4x10368.size a)
theorem k0_idx466_inb : ∀ (v1142 : IVec S16 32) (v1146 : IVec S16 32) (k0_hw466 : k0_chk466 v1142 v1146), ∀ a x, ((![v1146, v1142] : Fin 2 → IVec S16 32) a x).toNat < S4x10368.size a := fun v1142 v1146 k0_hw466 => k0_hw466

def k0_chk467 (v1142 : IVec S16 32) (v1149 : IVec S16 32) : Prop :=
  (∀ a x, ((![v1149, v1142] : Fin 2 → IVec S16 32) a x).toNat < S4x10368.size a)
theorem k0_idx467_inb : ∀ (v1142 : IVec S16 32) (v1149 : IVec S16 32) (k0_hw467 : k0_chk467 v1142 v1149), ∀ a x, ((![v1149, v1142] : Fin 2 → IVec S16 32) a x).toNat < S4x10368.size a := fun v1142 v1149 k0_hw467 => k0_hw467

def k0_chk468 (v1142 : IVec S16 32) (v1152 : IVec S16 32) : Prop :=
  (∀ a x, ((![v1152, v1142] : Fin 2 → IVec S16 32) a x).toNat < S4x10368.size a)
theorem k0_idx468_inb : ∀ (v1142 : IVec S16 32) (v1152 : IVec S16 32) (k0_hw468 : k0_chk468 v1142 v1152), ∀ a x, ((![v1152, v1142] : Fin 2 → IVec S16 32) a x).toNat < S4x10368.size a := fun v1142 v1152 k0_hw468 => k0_hw468
def k0_off165 (k0_t13 : Fin k0_t13_loop.trips) : Fin 1 → Nat :=
  let c2562_i32 : BitVec 32 := 2562#32
  let c0_i32_696 : BitVec 32 := 0#32
  let c1_i32_698 : BitVec 32 := 1#32
  let arg21 : BitVec 32 := Scf.iv c0_i32_696 c1_i32_698 k0_t13
  let c16_i32 : BitVec 32 := 16#32
  let v1131 : BitVec 32 := Scalar.muli arg21 c16_i32
  let c2546_i32 : BitVec 32 := 2546#32
  let v1132 : BitVec 32 := Scalar.minsi v1131 c2546_i32
  let v1155 : BitVec 32 := Scalar.addi c2562_i32 v1132
  let v1156 : Index := Scalar.indexCast v1155
  ![v1156.toNat]

def k0_chk469 (v1157 : IVec S16 32) (v1158 : IVec S16 32) : Prop :=
  (∀ a x, ((![v1158, v1157] : Fin 2 → IVec S16 32) a x).toNat < S4x10368.size a)
theorem k0_idx469_inb : ∀ (v1157 : IVec S16 32) (v1158 : IVec S16 32) (k0_hw469 : k0_chk469 v1157 v1158), ∀ a x, ((![v1158, v1157] : Fin 2 → IVec S16 32) a x).toNat < S4x10368.size a := fun v1157 v1158 k0_hw469 => k0_hw469

def k0_chk470 (v1157 : IVec S16 32) (v1161 : IVec S16 32) : Prop :=
  (∀ a x, ((![v1161, v1157] : Fin 2 → IVec S16 32) a x).toNat < S4x10368.size a)
theorem k0_idx470_inb : ∀ (v1157 : IVec S16 32) (v1161 : IVec S16 32) (k0_hw470 : k0_chk470 v1157 v1161), ∀ a x, ((![v1161, v1157] : Fin 2 → IVec S16 32) a x).toNat < S4x10368.size a := fun v1157 v1161 k0_hw470 => k0_hw470

def k0_chk471 (v1157 : IVec S16 32) (v1164 : IVec S16 32) : Prop :=
  (∀ a x, ((![v1164, v1157] : Fin 2 → IVec S16 32) a x).toNat < S4x10368.size a)
theorem k0_idx471_inb : ∀ (v1157 : IVec S16 32) (v1164 : IVec S16 32) (k0_hw471 : k0_chk471 v1157 v1164), ∀ a x, ((![v1164, v1157] : Fin 2 → IVec S16 32) a x).toNat < S4x10368.size a := fun v1157 v1164 k0_hw471 => k0_hw471

def k0_chk472 (v1157 : IVec S16 32) (v1167 : IVec S16 32) : Prop :=
  (∀ a x, ((![v1167, v1157] : Fin 2 → IVec S16 32) a x).toNat < S4x10368.size a)
theorem k0_idx472_inb : ∀ (v1157 : IVec S16 32) (v1167 : IVec S16 32) (k0_hw472 : k0_chk472 v1157 v1167), ∀ a x, ((![v1167, v1157] : Fin 2 → IVec S16 32) a x).toNat < S4x10368.size a := fun v1157 v1167 k0_hw472 => k0_hw472
def k0_off166 (k0_t13 : Fin k0_t13_loop.trips) : Fin 1 → Nat :=
  let c5124_i32 : BitVec 32 := 5124#32
  let c0_i32_696 : BitVec 32 := 0#32
  let c1_i32_698 : BitVec 32 := 1#32
  let arg21 : BitVec 32 := Scf.iv c0_i32_696 c1_i32_698 k0_t13
  let c16_i32 : BitVec 32 := 16#32
  let v1131 : BitVec 32 := Scalar.muli arg21 c16_i32
  let c2546_i32 : BitVec 32 := 2546#32
  let v1132 : BitVec 32 := Scalar.minsi v1131 c2546_i32
  let v1170 : BitVec 32 := Scalar.addi c5124_i32 v1132
  let v1171 : Index := Scalar.indexCast v1170
  ![v1171.toNat]

def k0_chk473 (v1172 : IVec S16 32) (v1173 : IVec S16 32) : Prop :=
  (∀ a x, ((![v1173, v1172] : Fin 2 → IVec S16 32) a x).toNat < S4x10368.size a)
theorem k0_idx473_inb : ∀ (v1172 : IVec S16 32) (v1173 : IVec S16 32) (k0_hw473 : k0_chk473 v1172 v1173), ∀ a x, ((![v1173, v1172] : Fin 2 → IVec S16 32) a x).toNat < S4x10368.size a := fun v1172 v1173 k0_hw473 => k0_hw473

def k0_chk474 (v1172 : IVec S16 32) (v1176 : IVec S16 32) : Prop :=
  (∀ a x, ((![v1176, v1172] : Fin 2 → IVec S16 32) a x).toNat < S4x10368.size a)
theorem k0_idx474_inb : ∀ (v1172 : IVec S16 32) (v1176 : IVec S16 32) (k0_hw474 : k0_chk474 v1172 v1176), ∀ a x, ((![v1176, v1172] : Fin 2 → IVec S16 32) a x).toNat < S4x10368.size a := fun v1172 v1176 k0_hw474 => k0_hw474

def k0_chk475 (v1172 : IVec S16 32) (v1179 : IVec S16 32) : Prop :=
  (∀ a x, ((![v1179, v1172] : Fin 2 → IVec S16 32) a x).toNat < S4x10368.size a)
theorem k0_idx475_inb : ∀ (v1172 : IVec S16 32) (v1179 : IVec S16 32) (k0_hw475 : k0_chk475 v1172 v1179), ∀ a x, ((![v1179, v1172] : Fin 2 → IVec S16 32) a x).toNat < S4x10368.size a := fun v1172 v1179 k0_hw475 => k0_hw475

def k0_chk476 (v1172 : IVec S16 32) (v1182 : IVec S16 32) : Prop :=
  (∀ a x, ((![v1182, v1172] : Fin 2 → IVec S16 32) a x).toNat < S4x10368.size a)
theorem k0_idx476_inb : ∀ (v1172 : IVec S16 32) (v1182 : IVec S16 32) (k0_hw476 : k0_chk476 v1172 v1182), ∀ a x, ((![v1182, v1172] : Fin 2 → IVec S16 32) a x).toNat < S4x10368.size a := fun v1172 v1182 k0_hw476 => k0_hw476
def k0_off167 (k0_t13 : Fin k0_t13_loop.trips) : Fin 1 → Nat :=
  let c7686_i32 : BitVec 32 := 7686#32
  let c0_i32_696 : BitVec 32 := 0#32
  let c1_i32_698 : BitVec 32 := 1#32
  let arg21 : BitVec 32 := Scf.iv c0_i32_696 c1_i32_698 k0_t13
  let c16_i32 : BitVec 32 := 16#32
  let v1131 : BitVec 32 := Scalar.muli arg21 c16_i32
  let c2546_i32 : BitVec 32 := 2546#32
  let v1132 : BitVec 32 := Scalar.minsi v1131 c2546_i32
  let v1185 : BitVec 32 := Scalar.addi c7686_i32 v1132
  let v1186 : Index := Scalar.indexCast v1185
  ![v1186.toNat]

def k0_chk477 (v1187 : IVec S16 32) (v1188 : IVec S16 32) : Prop :=
  (∀ a x, ((![v1188, v1187] : Fin 2 → IVec S16 32) a x).toNat < S4x10368.size a)
theorem k0_idx477_inb : ∀ (v1187 : IVec S16 32) (v1188 : IVec S16 32) (k0_hw477 : k0_chk477 v1187 v1188), ∀ a x, ((![v1188, v1187] : Fin 2 → IVec S16 32) a x).toNat < S4x10368.size a := fun v1187 v1188 k0_hw477 => k0_hw477

def k0_chk478 (v1187 : IVec S16 32) (v1191 : IVec S16 32) : Prop :=
  (∀ a x, ((![v1191, v1187] : Fin 2 → IVec S16 32) a x).toNat < S4x10368.size a)
theorem k0_idx478_inb : ∀ (v1187 : IVec S16 32) (v1191 : IVec S16 32) (k0_hw478 : k0_chk478 v1187 v1191), ∀ a x, ((![v1191, v1187] : Fin 2 → IVec S16 32) a x).toNat < S4x10368.size a := fun v1187 v1191 k0_hw478 => k0_hw478

def k0_chk479 (v1187 : IVec S16 32) (v1194 : IVec S16 32) : Prop :=
  (∀ a x, ((![v1194, v1187] : Fin 2 → IVec S16 32) a x).toNat < S4x10368.size a)
theorem k0_idx479_inb : ∀ (v1187 : IVec S16 32) (v1194 : IVec S16 32) (k0_hw479 : k0_chk479 v1187 v1194), ∀ a x, ((![v1194, v1187] : Fin 2 → IVec S16 32) a x).toNat < S4x10368.size a := fun v1187 v1194 k0_hw479 => k0_hw479

def k0_chk480 (v1187 : IVec S16 32) (v1197 : IVec S16 32) : Prop :=
  (∀ a x, ((![v1197, v1187] : Fin 2 → IVec S16 32) a x).toNat < S4x10368.size a)
theorem k0_idx480_inb : ∀ (v1187 : IVec S16 32) (v1197 : IVec S16 32) (k0_hw480 : k0_chk480 v1187 v1197), ∀ a x, ((![v1197, v1187] : Fin 2 → IVec S16 32) a x).toNat < S4x10368.size a := fun v1187 v1197 k0_hw480 => k0_hw480
def k0_off168 (k0_t13 : Fin k0_t13_loop.trips) : Fin 1 → Nat :=
  let c10248_i32 : BitVec 32 := 10248#32
  let c0_i32_696 : BitVec 32 := 0#32
  let c1_i32_698 : BitVec 32 := 1#32
  let arg21 : BitVec 32 := Scf.iv c0_i32_696 c1_i32_698 k0_t13
  let c16_i32 : BitVec 32 := 16#32
  let v1131 : BitVec 32 := Scalar.muli arg21 c16_i32
  let c2546_i32 : BitVec 32 := 2546#32
  let v1132 : BitVec 32 := Scalar.minsi v1131 c2546_i32
  let v1200 : BitVec 32 := Scalar.addi c10248_i32 v1132
  let v1201 : Index := Scalar.indexCast v1200
  ![v1201.toNat]

def k0_chk481 (v1202 : IVec S16 32) (v1203 : IVec S16 32) : Prop :=
  (∀ a x, ((![v1203, v1202] : Fin 2 → IVec S16 32) a x).toNat < S4x10368.size a)
theorem k0_idx481_inb : ∀ (v1202 : IVec S16 32) (v1203 : IVec S16 32) (k0_hw481 : k0_chk481 v1202 v1203), ∀ a x, ((![v1203, v1202] : Fin 2 → IVec S16 32) a x).toNat < S4x10368.size a := fun v1202 v1203 k0_hw481 => k0_hw481

def k0_chk482 (v1202 : IVec S16 32) (v1206 : IVec S16 32) : Prop :=
  (∀ a x, ((![v1206, v1202] : Fin 2 → IVec S16 32) a x).toNat < S4x10368.size a)
theorem k0_idx482_inb : ∀ (v1202 : IVec S16 32) (v1206 : IVec S16 32) (k0_hw482 : k0_chk482 v1202 v1206), ∀ a x, ((![v1206, v1202] : Fin 2 → IVec S16 32) a x).toNat < S4x10368.size a := fun v1202 v1206 k0_hw482 => k0_hw482

def k0_chk483 (v1202 : IVec S16 32) (v1209 : IVec S16 32) : Prop :=
  (∀ a x, ((![v1209, v1202] : Fin 2 → IVec S16 32) a x).toNat < S4x10368.size a)
theorem k0_idx483_inb : ∀ (v1202 : IVec S16 32) (v1209 : IVec S16 32) (k0_hw483 : k0_chk483 v1202 v1209), ∀ a x, ((![v1209, v1202] : Fin 2 → IVec S16 32) a x).toNat < S4x10368.size a := fun v1202 v1209 k0_hw483 => k0_hw483

def k0_chk484 (v1202 : IVec S16 32) (v1212 : IVec S16 32) : Prop :=
  (∀ a x, ((![v1212, v1202] : Fin 2 → IVec S16 32) a x).toNat < S4x10368.size a)
theorem k0_idx484_inb : ∀ (v1202 : IVec S16 32) (v1212 : IVec S16 32) (k0_hw484 : k0_chk484 v1202 v1212), ∀ a x, ((![v1212, v1202] : Fin 2 → IVec S16 32) a x).toNat < S4x10368.size a := fun v1202 v1212 k0_hw484 => k0_hw484
def k0_off169 (k0_t13 : Fin k0_t13_loop.trips) : Fin 1 → Nat :=
  let c12810_i32 : BitVec 32 := 12810#32
  let c0_i32_696 : BitVec 32 := 0#32
  let c1_i32_698 : BitVec 32 := 1#32
  let arg21 : BitVec 32 := Scf.iv c0_i32_696 c1_i32_698 k0_t13
  let c16_i32 : BitVec 32 := 16#32
  let v1131 : BitVec 32 := Scalar.muli arg21 c16_i32
  let c2546_i32 : BitVec 32 := 2546#32
  let v1132 : BitVec 32 := Scalar.minsi v1131 c2546_i32
  let v1215 : BitVec 32 := Scalar.addi c12810_i32 v1132
  let v1216 : Index := Scalar.indexCast v1215
  ![v1216.toNat]

def k0_chk485 (v1217 : IVec S16 32) (v1218 : IVec S16 32) : Prop :=
  (∀ a x, ((![v1218, v1217] : Fin 2 → IVec S16 32) a x).toNat < S4x10368.size a)
theorem k0_idx485_inb : ∀ (v1217 : IVec S16 32) (v1218 : IVec S16 32) (k0_hw485 : k0_chk485 v1217 v1218), ∀ a x, ((![v1218, v1217] : Fin 2 → IVec S16 32) a x).toNat < S4x10368.size a := fun v1217 v1218 k0_hw485 => k0_hw485

def k0_chk486 (v1217 : IVec S16 32) (v1221 : IVec S16 32) : Prop :=
  (∀ a x, ((![v1221, v1217] : Fin 2 → IVec S16 32) a x).toNat < S4x10368.size a)
theorem k0_idx486_inb : ∀ (v1217 : IVec S16 32) (v1221 : IVec S16 32) (k0_hw486 : k0_chk486 v1217 v1221), ∀ a x, ((![v1221, v1217] : Fin 2 → IVec S16 32) a x).toNat < S4x10368.size a := fun v1217 v1221 k0_hw486 => k0_hw486

def k0_chk487 (v1217 : IVec S16 32) (v1224 : IVec S16 32) : Prop :=
  (∀ a x, ((![v1224, v1217] : Fin 2 → IVec S16 32) a x).toNat < S4x10368.size a)
theorem k0_idx487_inb : ∀ (v1217 : IVec S16 32) (v1224 : IVec S16 32) (k0_hw487 : k0_chk487 v1217 v1224), ∀ a x, ((![v1224, v1217] : Fin 2 → IVec S16 32) a x).toNat < S4x10368.size a := fun v1217 v1224 k0_hw487 => k0_hw487

def k0_chk488 (v1217 : IVec S16 32) (v1227 : IVec S16 32) : Prop :=
  (∀ a x, ((![v1227, v1217] : Fin 2 → IVec S16 32) a x).toNat < S4x10368.size a)
theorem k0_idx488_inb : ∀ (v1217 : IVec S16 32) (v1227 : IVec S16 32) (k0_hw488 : k0_chk488 v1217 v1227), ∀ a x, ((![v1227, v1217] : Fin 2 → IVec S16 32) a x).toNat < S4x10368.size a := fun v1217 v1227 k0_hw488 => k0_hw488
def k0_off170 (k0_t13 : Fin k0_t13_loop.trips) : Fin 1 → Nat :=
  let c15372_i32 : BitVec 32 := 15372#32
  let c0_i32_696 : BitVec 32 := 0#32
  let c1_i32_698 : BitVec 32 := 1#32
  let arg21 : BitVec 32 := Scf.iv c0_i32_696 c1_i32_698 k0_t13
  let c16_i32 : BitVec 32 := 16#32
  let v1131 : BitVec 32 := Scalar.muli arg21 c16_i32
  let c2546_i32 : BitVec 32 := 2546#32
  let v1132 : BitVec 32 := Scalar.minsi v1131 c2546_i32
  let v1230 : BitVec 32 := Scalar.addi c15372_i32 v1132
  let v1231 : Index := Scalar.indexCast v1230
  ![v1231.toNat]

def k0_chk489 (v1232 : IVec S16 32) (v1233 : IVec S16 32) : Prop :=
  (∀ a x, ((![v1233, v1232] : Fin 2 → IVec S16 32) a x).toNat < S4x10368.size a)
theorem k0_idx489_inb : ∀ (v1232 : IVec S16 32) (v1233 : IVec S16 32) (k0_hw489 : k0_chk489 v1232 v1233), ∀ a x, ((![v1233, v1232] : Fin 2 → IVec S16 32) a x).toNat < S4x10368.size a := fun v1232 v1233 k0_hw489 => k0_hw489

def k0_chk490 (v1232 : IVec S16 32) (v1236 : IVec S16 32) : Prop :=
  (∀ a x, ((![v1236, v1232] : Fin 2 → IVec S16 32) a x).toNat < S4x10368.size a)
theorem k0_idx490_inb : ∀ (v1232 : IVec S16 32) (v1236 : IVec S16 32) (k0_hw490 : k0_chk490 v1232 v1236), ∀ a x, ((![v1236, v1232] : Fin 2 → IVec S16 32) a x).toNat < S4x10368.size a := fun v1232 v1236 k0_hw490 => k0_hw490

def k0_chk491 (v1232 : IVec S16 32) (v1239 : IVec S16 32) : Prop :=
  (∀ a x, ((![v1239, v1232] : Fin 2 → IVec S16 32) a x).toNat < S4x10368.size a)
theorem k0_idx491_inb : ∀ (v1232 : IVec S16 32) (v1239 : IVec S16 32) (k0_hw491 : k0_chk491 v1232 v1239), ∀ a x, ((![v1239, v1232] : Fin 2 → IVec S16 32) a x).toNat < S4x10368.size a := fun v1232 v1239 k0_hw491 => k0_hw491

def k0_chk492 (v1232 : IVec S16 32) (v1242 : IVec S16 32) : Prop :=
  (∀ a x, ((![v1242, v1232] : Fin 2 → IVec S16 32) a x).toNat < S4x10368.size a)
theorem k0_idx492_inb : ∀ (v1232 : IVec S16 32) (v1242 : IVec S16 32) (k0_hw492 : k0_chk492 v1232 v1242), ∀ a x, ((![v1242, v1232] : Fin 2 → IVec S16 32) a x).toNat < S4x10368.size a := fun v1232 v1242 k0_hw492 => k0_hw492

def k0_chk493 (v1135 : IVec S16 32) (v1245 : IVec S16 32) : Prop :=
  (∀ a x, ((![v1245, v1135] : Fin 2 → IVec S16 32) a x).toNat < S4x2572.size a)
theorem k0_idx493_inb : ∀ (v1135 : IVec S16 32) (v1245 : IVec S16 32) (k0_hw493 : k0_chk493 v1135 v1245), ∀ a x, ((![v1245, v1135] : Fin 2 → IVec S16 32) a x).toNat < S4x2572.size a := fun v1135 v1245 k0_hw493 => k0_hw493

def k0_chk494 (v1135 : IVec S16 32) (v1248 : IVec S16 32) : Prop :=
  (∀ a x, ((![v1248, v1135] : Fin 2 → IVec S16 32) a x).toNat < S4x2572.size a)
theorem k0_idx494_inb : ∀ (v1135 : IVec S16 32) (v1248 : IVec S16 32) (k0_hw494 : k0_chk494 v1135 v1248), ∀ a x, ((![v1248, v1135] : Fin 2 → IVec S16 32) a x).toNat < S4x2572.size a := fun v1135 v1248 k0_hw494 => k0_hw494

def k0_chk495 (v1135 : IVec S16 32) (v1251 : IVec S16 32) : Prop :=
  (∀ a x, ((![v1251, v1135] : Fin 2 → IVec S16 32) a x).toNat < S4x2572.size a)
theorem k0_idx495_inb : ∀ (v1135 : IVec S16 32) (v1251 : IVec S16 32) (k0_hw495 : k0_chk495 v1135 v1251), ∀ a x, ((![v1251, v1135] : Fin 2 → IVec S16 32) a x).toNat < S4x2572.size a := fun v1135 v1251 k0_hw495 => k0_hw495

def k0_chk496 (v1135 : IVec S16 32) (v1254 : IVec S16 32) : Prop :=
  (∀ a x, ((![v1254, v1135] : Fin 2 → IVec S16 32) a x).toNat < S4x2572.size a)
theorem k0_idx496_inb : ∀ (v1135 : IVec S16 32) (v1254 : IVec S16 32) (k0_hw496 : k0_chk496 v1135 v1254), ∀ a x, ((![v1254, v1135] : Fin 2 → IVec S16 32) a x).toNat < S4x2572.size a := fun v1135 v1254 k0_hw496 => k0_hw496

def k0_chk497 (v605 : IVec S16 32) (v606 : IVec S16 32) : Prop :=
  (∀ a x, ((![v606, v605] : Fin 2 → IVec S16 32) a x).toNat < S4x2572.size a)
theorem k0_idx497_inb : ∀ (v605 : IVec S16 32) (v606 : IVec S16 32) (k0_hw497 : k0_chk497 v605 v606), ∀ a x, ((![v606, v605] : Fin 2 → IVec S16 32) a x).toNat < S4x2572.size a := fun v605 v606 k0_hw497 => k0_hw497

def k0_chk498 (v605 : IVec S16 32) (v608 : IVec S16 32) : Prop :=
  (∀ a x, ((![v608, v605] : Fin 2 → IVec S16 32) a x).toNat < S4x2572.size a)
theorem k0_idx498_inb : ∀ (v605 : IVec S16 32) (v608 : IVec S16 32) (k0_hw498 : k0_chk498 v605 v608), ∀ a x, ((![v608, v605] : Fin 2 → IVec S16 32) a x).toNat < S4x2572.size a := fun v605 v608 k0_hw498 => k0_hw498

def k0_chk499 (v605 : IVec S16 32) (v610 : IVec S16 32) : Prop :=
  (∀ a x, ((![v610, v605] : Fin 2 → IVec S16 32) a x).toNat < S4x2572.size a)
theorem k0_idx499_inb : ∀ (v605 : IVec S16 32) (v610 : IVec S16 32) (k0_hw499 : k0_chk499 v605 v610), ∀ a x, ((![v610, v605] : Fin 2 → IVec S16 32) a x).toNat < S4x2572.size a := fun v605 v610 k0_hw499 => k0_hw499

def k0_chk500 (v605 : IVec S16 32) (v612 : IVec S16 32) : Prop :=
  (∀ a x, ((![v612, v605] : Fin 2 → IVec S16 32) a x).toNat < S4x2572.size a)
theorem k0_idx500_inb : ∀ (v605 : IVec S16 32) (v612 : IVec S16 32) (k0_hw500 : k0_chk500 v605 v612), ∀ a x, ((![v612, v605] : Fin 2 → IVec S16 32) a x).toNat < S4x2572.size a := fun v605 v612 k0_hw500 => k0_hw500
def k0_off171 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_659 : BitVec 32 := 4#32
  let v573 : BitVec 32 := Scalar.muli v1 c4_i32_659
  let c2_i32_660 : BitVec 32 := 2#32
  let v574 : BitVec 32 := Scalar.addi v573 c2_i32_660
  let c4_i32_661 : BitVec 32 := 4#32
  let v575 : BitVec 32 := Scalar.muli v574 c4_i32_661
  let v576 : BitVec 32 := v575
  let c0_i32_708 : BitVec 32 := 0#32
  ![v576.toNat, 0]
def k0_mult28 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_712 : BitVec 32 := 4#32
  let v618 : BitVec 32 := Scalar.muli v1 c4_i32_712
  let c2_i32_713 : BitVec 32 := 2#32
  let v619 : BitVec 32 := Scalar.addi v618 c2_i32_713
  let c4_i32_714 : BitVec 32 := 4#32
  let v620 : BitVec 32 := Scalar.muli v619 c4_i32_714
  v620
def k0_mult29 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_715 : BitVec 32 := 4#32
  let v622 : BitVec 32 := Scalar.muli v1 c4_i32_715
  let c2_i32_716 : BitVec 32 := 2#32
  let v623 : BitVec 32 := Scalar.addi v622 c2_i32_716
  let c4_i32_717 : BitVec 32 := 4#32
  let v624 : BitVec 32 := Scalar.muli v623 c4_i32_717
  v624
def k0_off172 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_715 : BitVec 32 := 4#32
  let v622 : BitVec 32 := Scalar.muli v1 c4_i32_715
  let c2_i32_716 : BitVec 32 := 2#32
  let v623 : BitVec 32 := Scalar.addi v622 c2_i32_716
  let c4_i32_717 : BitVec 32 := 4#32
  let v624 : BitVec 32 := Scalar.muli v623 c4_i32_717
  let v625 : BitVec 32 := v624
  let c20480_i32_720 : BitVec 32 := 20480#32
  ![v625.toNat, 20480]
def k0_off173 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_715 : BitVec 32 := 4#32
  let v622 : BitVec 32 := Scalar.muli v1 c4_i32_715
  let c2_i32_716 : BitVec 32 := 2#32
  let v623 : BitVec 32 := Scalar.addi v622 c2_i32_716
  let c4_i32_717 : BitVec 32 := 4#32
  let v624 : BitVec 32 := Scalar.muli v623 c4_i32_717
  let v625 : BitVec 32 := v624
  let c25600_i32_726 : BitVec 32 := 25600#32
  ![v625.toNat, 25600]
def k0_off174 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_606 : BitVec 32 := 4#32
  let v534 : BitVec 32 := Scalar.muli v1 c4_i32_606
  let c1_i32_607 : BitVec 32 := 1#32
  let v535 : BitVec 32 := Scalar.addi v534 c1_i32_607
  let c4_i32_608 : BitVec 32 := 4#32
  let v536 : BitVec 32 := Scalar.muli v535 c4_i32_608
  let v537 : BitVec 32 := v536
  let c12800_i32_730 : BitVec 32 := 12800#32
  ![v537.toNat, 12800]

def k0_chk501 (v2 : IVec S16 32) (v636 : IVec S16 32) : Prop :=
  (∀ a x, ((![v636, v2] : Fin 2 → IVec S16 32) a x).toNat < S4x2572.size a)
theorem k0_idx501_inb : ∀ (v2 : IVec S16 32) (v636 : IVec S16 32) (k0_hw501 : k0_chk501 v2 v636), ∀ a x, ((![v636, v2] : Fin 2 → IVec S16 32) a x).toNat < S4x2572.size a := fun v2 v636 k0_hw501 => k0_hw501

def k0_chk502 (v2 : IVec S16 32) (v637 : IVec S16 32) : Prop :=
  (∀ a x, ((![v637, v2] : Fin 2 → IVec S16 32) a x).toNat < S4x2572.size a)
theorem k0_idx502_inb : ∀ (v2 : IVec S16 32) (v637 : IVec S16 32) (k0_hw502 : k0_chk502 v2 v637), ∀ a x, ((![v637, v2] : Fin 2 → IVec S16 32) a x).toNat < S4x2572.size a := fun v2 v637 k0_hw502 => k0_hw502

def k0_chk503 (v2 : IVec S16 32) (v638 : IVec S16 32) : Prop :=
  (∀ a x, ((![v638, v2] : Fin 2 → IVec S16 32) a x).toNat < S4x2572.size a)
theorem k0_idx503_inb : ∀ (v2 : IVec S16 32) (v638 : IVec S16 32) (k0_hw503 : k0_chk503 v2 v638), ∀ a x, ((![v638, v2] : Fin 2 → IVec S16 32) a x).toNat < S4x2572.size a := fun v2 v638 k0_hw503 => k0_hw503

def k0_chk504 (v2 : IVec S16 32) (v639 : IVec S16 32) : Prop :=
  (∀ a x, ((![v639, v2] : Fin 2 → IVec S16 32) a x).toNat < S4x2572.size a)
theorem k0_idx504_inb : ∀ (v2 : IVec S16 32) (v639 : IVec S16 32) (k0_hw504 : k0_chk504 v2 v639), ∀ a x, ((![v639, v2] : Fin 2 → IVec S16 32) a x).toNat < S4x2572.size a := fun v2 v639 k0_hw504 => k0_hw504
def k0_off175 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_662 : BitVec 32 := 4#32
  let v577 : BitVec 32 := Scalar.muli v1 c4_i32_662
  let c2_i32_663 : BitVec 32 := 2#32
  let v578 : BitVec 32 := Scalar.addi v577 c2_i32_663
  let c4_i32_664 : BitVec 32 := 4#32
  let v579 : BitVec 32 := Scalar.muli v578 c4_i32_664
  let v580 : BitVec 32 := v579
  let c10240_i32_738 : BitVec 32 := 10240#32
  ![v580.toNat, 10240]
def k0_off176 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_662 : BitVec 32 := 4#32
  let v577 : BitVec 32 := Scalar.muli v1 c4_i32_662
  let c2_i32_663 : BitVec 32 := 2#32
  let v578 : BitVec 32 := Scalar.addi v577 c2_i32_663
  let c4_i32_664 : BitVec 32 := 4#32
  let v579 : BitVec 32 := Scalar.muli v578 c4_i32_664
  let v580 : BitVec 32 := v579
  let c15360_i32_744 : BitVec 32 := 15360#32
  ![v580.toNat, 15360]
@[reducible] def k0_t14_loop : Scf.Loop 32 :=
  let c0_i32_749 : BitVec 32 := 0#32
  let c161_i32_750 : BitVec 32 := 161#32
  let v648 : BitVec 32 := Scalar.addi c0_i32_749 c161_i32_750
  let c1_i32_751 : BitVec 32 := 1#32
  ⟨c0_i32_749, v648, c1_i32_751⟩
def k0_off177 (k0_t14 : Fin k0_t14_loop.trips) : Fin 1 → Nat :=
  let c0_i32_1328 : BitVec 32 := 0#32
  let c0_i32_749 : BitVec 32 := 0#32
  let c1_i32_751 : BitVec 32 := 1#32
  let arg21 : BitVec 32 := Scf.iv c0_i32_749 c1_i32_751 k0_t14
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1328 v1132
  let v1141 : Index := Scalar.indexCast v1140
  ![v1141.toNat]

def k0_chk505 (v1144 : IVec S16 32) (v1145 : IVec S16 32) : Prop :=
  (∀ a x, ((![v1145, v1144] : Fin 2 → IVec S16 32) a x).toNat < S4x10368.size a)
theorem k0_idx505_inb : ∀ (v1144 : IVec S16 32) (v1145 : IVec S16 32) (k0_hw505 : k0_chk505 v1144 v1145), ∀ a x, ((![v1145, v1144] : Fin 2 → IVec S16 32) a x).toNat < S4x10368.size a := fun v1144 v1145 k0_hw505 => k0_hw505

def k0_chk506 (v1144 : IVec S16 32) (v1148 : IVec S16 32) : Prop :=
  (∀ a x, ((![v1148, v1144] : Fin 2 → IVec S16 32) a x).toNat < S4x10368.size a)
theorem k0_idx506_inb : ∀ (v1144 : IVec S16 32) (v1148 : IVec S16 32) (k0_hw506 : k0_chk506 v1144 v1148), ∀ a x, ((![v1148, v1144] : Fin 2 → IVec S16 32) a x).toNat < S4x10368.size a := fun v1144 v1148 k0_hw506 => k0_hw506

def k0_chk507 (v1144 : IVec S16 32) (v1151 : IVec S16 32) : Prop :=
  (∀ a x, ((![v1151, v1144] : Fin 2 → IVec S16 32) a x).toNat < S4x10368.size a)
theorem k0_idx507_inb : ∀ (v1144 : IVec S16 32) (v1151 : IVec S16 32) (k0_hw507 : k0_chk507 v1144 v1151), ∀ a x, ((![v1151, v1144] : Fin 2 → IVec S16 32) a x).toNat < S4x10368.size a := fun v1144 v1151 k0_hw507 => k0_hw507

def k0_chk508 (v1144 : IVec S16 32) (v1154 : IVec S16 32) : Prop :=
  (∀ a x, ((![v1154, v1144] : Fin 2 → IVec S16 32) a x).toNat < S4x10368.size a)
theorem k0_idx508_inb : ∀ (v1144 : IVec S16 32) (v1154 : IVec S16 32) (k0_hw508 : k0_chk508 v1144 v1154), ∀ a x, ((![v1154, v1144] : Fin 2 → IVec S16 32) a x).toNat < S4x10368.size a := fun v1144 v1154 k0_hw508 => k0_hw508
def k0_off178 (k0_t14 : Fin k0_t14_loop.trips) : Fin 1 → Nat :=
  let c2562_i32 : BitVec 32 := 2562#32
  let c0_i32_749 : BitVec 32 := 0#32
  let c1_i32_751 : BitVec 32 := 1#32
  let arg21 : BitVec 32 := Scf.iv c0_i32_749 c1_i32_751 k0_t14
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk509 (v1161 : IVec S16 32) (v1162 : IVec S16 32) : Prop :=
  (∀ a x, ((![v1162, v1161] : Fin 2 → IVec S16 32) a x).toNat < S4x10368.size a)
theorem k0_idx509_inb : ∀ (v1161 : IVec S16 32) (v1162 : IVec S16 32) (k0_hw509 : k0_chk509 v1161 v1162), ∀ a x, ((![v1162, v1161] : Fin 2 → IVec S16 32) a x).toNat < S4x10368.size a := fun v1161 v1162 k0_hw509 => k0_hw509

def k0_chk510 (v1161 : IVec S16 32) (v1165 : IVec S16 32) : Prop :=
  (∀ a x, ((![v1165, v1161] : Fin 2 → IVec S16 32) a x).toNat < S4x10368.size a)
theorem k0_idx510_inb : ∀ (v1161 : IVec S16 32) (v1165 : IVec S16 32) (k0_hw510 : k0_chk510 v1161 v1165), ∀ a x, ((![v1165, v1161] : Fin 2 → IVec S16 32) a x).toNat < S4x10368.size a := fun v1161 v1165 k0_hw510 => k0_hw510

def k0_chk511 (v1161 : IVec S16 32) (v1168 : IVec S16 32) : Prop :=
  (∀ a x, ((![v1168, v1161] : Fin 2 → IVec S16 32) a x).toNat < S4x10368.size a)
theorem k0_idx511_inb : ∀ (v1161 : IVec S16 32) (v1168 : IVec S16 32) (k0_hw511 : k0_chk511 v1161 v1168), ∀ a x, ((![v1168, v1161] : Fin 2 → IVec S16 32) a x).toNat < S4x10368.size a := fun v1161 v1168 k0_hw511 => k0_hw511

def k0_chk512 (v1161 : IVec S16 32) (v1171 : IVec S16 32) : Prop :=
  (∀ a x, ((![v1171, v1161] : Fin 2 → IVec S16 32) a x).toNat < S4x10368.size a)
theorem k0_idx512_inb : ∀ (v1161 : IVec S16 32) (v1171 : IVec S16 32) (k0_hw512 : k0_chk512 v1161 v1171), ∀ a x, ((![v1171, v1161] : Fin 2 → IVec S16 32) a x).toNat < S4x10368.size a := fun v1161 v1171 k0_hw512 => k0_hw512
def k0_off179 (k0_t14 : Fin k0_t14_loop.trips) : Fin 1 → Nat :=
  let c5124_i32 : BitVec 32 := 5124#32
  let c0_i32_749 : BitVec 32 := 0#32
  let c1_i32_751 : BitVec 32 := 1#32
  let arg21 : BitVec 32 := Scf.iv c0_i32_749 c1_i32_751 k0_t14
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk513 (v1178 : IVec S16 32) (v1179 : IVec S16 32) : Prop :=
  (∀ a x, ((![v1179, v1178] : Fin 2 → IVec S16 32) a x).toNat < S4x10368.size a)
theorem k0_idx513_inb : ∀ (v1178 : IVec S16 32) (v1179 : IVec S16 32) (k0_hw513 : k0_chk513 v1178 v1179), ∀ a x, ((![v1179, v1178] : Fin 2 → IVec S16 32) a x).toNat < S4x10368.size a := fun v1178 v1179 k0_hw513 => k0_hw513

def k0_chk514 (v1178 : IVec S16 32) (v1182 : IVec S16 32) : Prop :=
  (∀ a x, ((![v1182, v1178] : Fin 2 → IVec S16 32) a x).toNat < S4x10368.size a)
theorem k0_idx514_inb : ∀ (v1178 : IVec S16 32) (v1182 : IVec S16 32) (k0_hw514 : k0_chk514 v1178 v1182), ∀ a x, ((![v1182, v1178] : Fin 2 → IVec S16 32) a x).toNat < S4x10368.size a := fun v1178 v1182 k0_hw514 => k0_hw514

def k0_chk515 (v1178 : IVec S16 32) (v1185 : IVec S16 32) : Prop :=
  (∀ a x, ((![v1185, v1178] : Fin 2 → IVec S16 32) a x).toNat < S4x10368.size a)
theorem k0_idx515_inb : ∀ (v1178 : IVec S16 32) (v1185 : IVec S16 32) (k0_hw515 : k0_chk515 v1178 v1185), ∀ a x, ((![v1185, v1178] : Fin 2 → IVec S16 32) a x).toNat < S4x10368.size a := fun v1178 v1185 k0_hw515 => k0_hw515

def k0_chk516 (v1178 : IVec S16 32) (v1188 : IVec S16 32) : Prop :=
  (∀ a x, ((![v1188, v1178] : Fin 2 → IVec S16 32) a x).toNat < S4x10368.size a)
theorem k0_idx516_inb : ∀ (v1178 : IVec S16 32) (v1188 : IVec S16 32) (k0_hw516 : k0_chk516 v1178 v1188), ∀ a x, ((![v1188, v1178] : Fin 2 → IVec S16 32) a x).toNat < S4x10368.size a := fun v1178 v1188 k0_hw516 => k0_hw516
def k0_off180 (k0_t14 : Fin k0_t14_loop.trips) : Fin 1 → Nat :=
  let c7686_i32 : BitVec 32 := 7686#32
  let c0_i32_749 : BitVec 32 := 0#32
  let c1_i32_751 : BitVec 32 := 1#32
  let arg21 : BitVec 32 := Scf.iv c0_i32_749 c1_i32_751 k0_t14
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk517 (v1195 : IVec S16 32) (v1196 : IVec S16 32) : Prop :=
  (∀ a x, ((![v1196, v1195] : Fin 2 → IVec S16 32) a x).toNat < S4x10368.size a)
theorem k0_idx517_inb : ∀ (v1195 : IVec S16 32) (v1196 : IVec S16 32) (k0_hw517 : k0_chk517 v1195 v1196), ∀ a x, ((![v1196, v1195] : Fin 2 → IVec S16 32) a x).toNat < S4x10368.size a := fun v1195 v1196 k0_hw517 => k0_hw517

def k0_chk518 (v1195 : IVec S16 32) (v1199 : IVec S16 32) : Prop :=
  (∀ a x, ((![v1199, v1195] : Fin 2 → IVec S16 32) a x).toNat < S4x10368.size a)
theorem k0_idx518_inb : ∀ (v1195 : IVec S16 32) (v1199 : IVec S16 32) (k0_hw518 : k0_chk518 v1195 v1199), ∀ a x, ((![v1199, v1195] : Fin 2 → IVec S16 32) a x).toNat < S4x10368.size a := fun v1195 v1199 k0_hw518 => k0_hw518

def k0_chk519 (v1195 : IVec S16 32) (v1202 : IVec S16 32) : Prop :=
  (∀ a x, ((![v1202, v1195] : Fin 2 → IVec S16 32) a x).toNat < S4x10368.size a)
theorem k0_idx519_inb : ∀ (v1195 : IVec S16 32) (v1202 : IVec S16 32) (k0_hw519 : k0_chk519 v1195 v1202), ∀ a x, ((![v1202, v1195] : Fin 2 → IVec S16 32) a x).toNat < S4x10368.size a := fun v1195 v1202 k0_hw519 => k0_hw519

def k0_chk520 (v1195 : IVec S16 32) (v1205 : IVec S16 32) : Prop :=
  (∀ a x, ((![v1205, v1195] : Fin 2 → IVec S16 32) a x).toNat < S4x10368.size a)
theorem k0_idx520_inb : ∀ (v1195 : IVec S16 32) (v1205 : IVec S16 32) (k0_hw520 : k0_chk520 v1195 v1205), ∀ a x, ((![v1205, v1195] : Fin 2 → IVec S16 32) a x).toNat < S4x10368.size a := fun v1195 v1205 k0_hw520 => k0_hw520
def k0_off181 (k0_t14 : Fin k0_t14_loop.trips) : Fin 1 → Nat :=
  let c10248_i32 : BitVec 32 := 10248#32
  let c0_i32_749 : BitVec 32 := 0#32
  let c1_i32_751 : BitVec 32 := 1#32
  let arg21 : BitVec 32 := Scf.iv c0_i32_749 c1_i32_751 k0_t14
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk521 (v1212 : IVec S16 32) (v1213 : IVec S16 32) : Prop :=
  (∀ a x, ((![v1213, v1212] : Fin 2 → IVec S16 32) a x).toNat < S4x10368.size a)
theorem k0_idx521_inb : ∀ (v1212 : IVec S16 32) (v1213 : IVec S16 32) (k0_hw521 : k0_chk521 v1212 v1213), ∀ a x, ((![v1213, v1212] : Fin 2 → IVec S16 32) a x).toNat < S4x10368.size a := fun v1212 v1213 k0_hw521 => k0_hw521

def k0_chk522 (v1212 : IVec S16 32) (v1216 : IVec S16 32) : Prop :=
  (∀ a x, ((![v1216, v1212] : Fin 2 → IVec S16 32) a x).toNat < S4x10368.size a)
theorem k0_idx522_inb : ∀ (v1212 : IVec S16 32) (v1216 : IVec S16 32) (k0_hw522 : k0_chk522 v1212 v1216), ∀ a x, ((![v1216, v1212] : Fin 2 → IVec S16 32) a x).toNat < S4x10368.size a := fun v1212 v1216 k0_hw522 => k0_hw522

def k0_chk523 (v1212 : IVec S16 32) (v1219 : IVec S16 32) : Prop :=
  (∀ a x, ((![v1219, v1212] : Fin 2 → IVec S16 32) a x).toNat < S4x10368.size a)
theorem k0_idx523_inb : ∀ (v1212 : IVec S16 32) (v1219 : IVec S16 32) (k0_hw523 : k0_chk523 v1212 v1219), ∀ a x, ((![v1219, v1212] : Fin 2 → IVec S16 32) a x).toNat < S4x10368.size a := fun v1212 v1219 k0_hw523 => k0_hw523

def k0_chk524 (v1212 : IVec S16 32) (v1222 : IVec S16 32) : Prop :=
  (∀ a x, ((![v1222, v1212] : Fin 2 → IVec S16 32) a x).toNat < S4x10368.size a)
theorem k0_idx524_inb : ∀ (v1212 : IVec S16 32) (v1222 : IVec S16 32) (k0_hw524 : k0_chk524 v1212 v1222), ∀ a x, ((![v1222, v1212] : Fin 2 → IVec S16 32) a x).toNat < S4x10368.size a := fun v1212 v1222 k0_hw524 => k0_hw524
def k0_off182 (k0_t14 : Fin k0_t14_loop.trips) : Fin 1 → Nat :=
  let c12810_i32 : BitVec 32 := 12810#32
  let c0_i32_749 : BitVec 32 := 0#32
  let c1_i32_751 : BitVec 32 := 1#32
  let arg21 : BitVec 32 := Scf.iv c0_i32_749 c1_i32_751 k0_t14
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk525 (v1229 : IVec S16 32) (v1230 : IVec S16 32) : Prop :=
  (∀ a x, ((![v1230, v1229] : Fin 2 → IVec S16 32) a x).toNat < S4x10368.size a)
theorem k0_idx525_inb : ∀ (v1229 : IVec S16 32) (v1230 : IVec S16 32) (k0_hw525 : k0_chk525 v1229 v1230), ∀ a x, ((![v1230, v1229] : Fin 2 → IVec S16 32) a x).toNat < S4x10368.size a := fun v1229 v1230 k0_hw525 => k0_hw525

def k0_chk526 (v1229 : IVec S16 32) (v1233 : IVec S16 32) : Prop :=
  (∀ a x, ((![v1233, v1229] : Fin 2 → IVec S16 32) a x).toNat < S4x10368.size a)
theorem k0_idx526_inb : ∀ (v1229 : IVec S16 32) (v1233 : IVec S16 32) (k0_hw526 : k0_chk526 v1229 v1233), ∀ a x, ((![v1233, v1229] : Fin 2 → IVec S16 32) a x).toNat < S4x10368.size a := fun v1229 v1233 k0_hw526 => k0_hw526

def k0_chk527 (v1229 : IVec S16 32) (v1236 : IVec S16 32) : Prop :=
  (∀ a x, ((![v1236, v1229] : Fin 2 → IVec S16 32) a x).toNat < S4x10368.size a)
theorem k0_idx527_inb : ∀ (v1229 : IVec S16 32) (v1236 : IVec S16 32) (k0_hw527 : k0_chk527 v1229 v1236), ∀ a x, ((![v1236, v1229] : Fin 2 → IVec S16 32) a x).toNat < S4x10368.size a := fun v1229 v1236 k0_hw527 => k0_hw527

def k0_chk528 (v1229 : IVec S16 32) (v1239 : IVec S16 32) : Prop :=
  (∀ a x, ((![v1239, v1229] : Fin 2 → IVec S16 32) a x).toNat < S4x10368.size a)
theorem k0_idx528_inb : ∀ (v1229 : IVec S16 32) (v1239 : IVec S16 32) (k0_hw528 : k0_chk528 v1229 v1239), ∀ a x, ((![v1239, v1229] : Fin 2 → IVec S16 32) a x).toNat < S4x10368.size a := fun v1229 v1239 k0_hw528 => k0_hw528
def k0_off183 (k0_t14 : Fin k0_t14_loop.trips) : Fin 1 → Nat :=
  let c15372_i32 : BitVec 32 := 15372#32
  let c0_i32_749 : BitVec 32 := 0#32
  let c1_i32_751 : BitVec 32 := 1#32
  let arg21 : BitVec 32 := Scf.iv c0_i32_749 c1_i32_751 k0_t14
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk529 (v1246 : IVec S16 32) (v1247 : IVec S16 32) : Prop :=
  (∀ a x, ((![v1247, v1246] : Fin 2 → IVec S16 32) a x).toNat < S4x10368.size a)
theorem k0_idx529_inb : ∀ (v1246 : IVec S16 32) (v1247 : IVec S16 32) (k0_hw529 : k0_chk529 v1246 v1247), ∀ a x, ((![v1247, v1246] : Fin 2 → IVec S16 32) a x).toNat < S4x10368.size a := fun v1246 v1247 k0_hw529 => k0_hw529

def k0_chk530 (v1246 : IVec S16 32) (v1250 : IVec S16 32) : Prop :=
  (∀ a x, ((![v1250, v1246] : Fin 2 → IVec S16 32) a x).toNat < S4x10368.size a)
theorem k0_idx530_inb : ∀ (v1246 : IVec S16 32) (v1250 : IVec S16 32) (k0_hw530 : k0_chk530 v1246 v1250), ∀ a x, ((![v1250, v1246] : Fin 2 → IVec S16 32) a x).toNat < S4x10368.size a := fun v1246 v1250 k0_hw530 => k0_hw530

def k0_chk531 (v1246 : IVec S16 32) (v1253 : IVec S16 32) : Prop :=
  (∀ a x, ((![v1253, v1246] : Fin 2 → IVec S16 32) a x).toNat < S4x10368.size a)
theorem k0_idx531_inb : ∀ (v1246 : IVec S16 32) (v1253 : IVec S16 32) (k0_hw531 : k0_chk531 v1246 v1253), ∀ a x, ((![v1253, v1246] : Fin 2 → IVec S16 32) a x).toNat < S4x10368.size a := fun v1246 v1253 k0_hw531 => k0_hw531

def k0_chk532 (v1246 : IVec S16 32) (v1256 : IVec S16 32) : Prop :=
  (∀ a x, ((![v1256, v1246] : Fin 2 → IVec S16 32) a x).toNat < S4x10368.size a)
theorem k0_idx532_inb : ∀ (v1246 : IVec S16 32) (v1256 : IVec S16 32) (k0_hw532 : k0_chk532 v1246 v1256), ∀ a x, ((![v1256, v1246] : Fin 2 → IVec S16 32) a x).toNat < S4x10368.size a := fun v1246 v1256 k0_hw532 => k0_hw532

def k0_chk533 (v1135 : IVec S16 32) (v1259 : IVec S16 32) : Prop :=
  (∀ a x, ((![v1259, v1135] : Fin 2 → IVec S16 32) a x).toNat < S4x2572.size a)
theorem k0_idx533_inb : ∀ (v1135 : IVec S16 32) (v1259 : IVec S16 32) (k0_hw533 : k0_chk533 v1135 v1259), ∀ a x, ((![v1259, v1135] : Fin 2 → IVec S16 32) a x).toNat < S4x2572.size a := fun v1135 v1259 k0_hw533 => k0_hw533

def k0_chk534 (v1135 : IVec S16 32) (v1262 : IVec S16 32) : Prop :=
  (∀ a x, ((![v1262, v1135] : Fin 2 → IVec S16 32) a x).toNat < S4x2572.size a)
theorem k0_idx534_inb : ∀ (v1135 : IVec S16 32) (v1262 : IVec S16 32) (k0_hw534 : k0_chk534 v1135 v1262), ∀ a x, ((![v1262, v1135] : Fin 2 → IVec S16 32) a x).toNat < S4x2572.size a := fun v1135 v1262 k0_hw534 => k0_hw534

def k0_chk535 (v1135 : IVec S16 32) (v1265 : IVec S16 32) : Prop :=
  (∀ a x, ((![v1265, v1135] : Fin 2 → IVec S16 32) a x).toNat < S4x2572.size a)
theorem k0_idx535_inb : ∀ (v1135 : IVec S16 32) (v1265 : IVec S16 32) (k0_hw535 : k0_chk535 v1135 v1265), ∀ a x, ((![v1265, v1135] : Fin 2 → IVec S16 32) a x).toNat < S4x2572.size a := fun v1135 v1265 k0_hw535 => k0_hw535

def k0_chk536 (v1135 : IVec S16 32) (v1268 : IVec S16 32) : Prop :=
  (∀ a x, ((![v1268, v1135] : Fin 2 → IVec S16 32) a x).toNat < S4x2572.size a)
theorem k0_idx536_inb : ∀ (v1135 : IVec S16 32) (v1268 : IVec S16 32) (k0_hw536 : k0_chk536 v1135 v1268), ∀ a x, ((![v1268, v1135] : Fin 2 → IVec S16 32) a x).toNat < S4x2572.size a := fun v1135 v1268 k0_hw536 => k0_hw536

def k0_chk537 (v652 : IVec S16 32) (v653 : IVec S16 32) : Prop :=
  (∀ a x, ((![v653, v652] : Fin 2 → IVec S16 32) a x).toNat < S4x2572.size a)
theorem k0_idx537_inb : ∀ (v652 : IVec S16 32) (v653 : IVec S16 32) (k0_hw537 : k0_chk537 v652 v653), ∀ a x, ((![v653, v652] : Fin 2 → IVec S16 32) a x).toNat < S4x2572.size a := fun v652 v653 k0_hw537 => k0_hw537

def k0_chk538 (v652 : IVec S16 32) (v655 : IVec S16 32) : Prop :=
  (∀ a x, ((![v655, v652] : Fin 2 → IVec S16 32) a x).toNat < S4x2572.size a)
theorem k0_idx538_inb : ∀ (v652 : IVec S16 32) (v655 : IVec S16 32) (k0_hw538 : k0_chk538 v652 v655), ∀ a x, ((![v655, v652] : Fin 2 → IVec S16 32) a x).toNat < S4x2572.size a := fun v652 v655 k0_hw538 => k0_hw538

def k0_chk539 (v652 : IVec S16 32) (v657 : IVec S16 32) : Prop :=
  (∀ a x, ((![v657, v652] : Fin 2 → IVec S16 32) a x).toNat < S4x2572.size a)
theorem k0_idx539_inb : ∀ (v652 : IVec S16 32) (v657 : IVec S16 32) (k0_hw539 : k0_chk539 v652 v657), ∀ a x, ((![v657, v652] : Fin 2 → IVec S16 32) a x).toNat < S4x2572.size a := fun v652 v657 k0_hw539 => k0_hw539

def k0_chk540 (v652 : IVec S16 32) (v659 : IVec S16 32) : Prop :=
  (∀ a x, ((![v659, v652] : Fin 2 → IVec S16 32) a x).toNat < S4x2572.size a)
theorem k0_idx540_inb : ∀ (v652 : IVec S16 32) (v659 : IVec S16 32) (k0_hw540 : k0_chk540 v652 v659), ∀ a x, ((![v659, v652] : Fin 2 → IVec S16 32) a x).toNat < S4x2572.size a := fun v652 v659 k0_hw540 => k0_hw540
def k0_off184 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_712 : BitVec 32 := 4#32
  let v618 : BitVec 32 := Scalar.muli v1 c4_i32_712
  let c2_i32_713 : BitVec 32 := 2#32
  let v619 : BitVec 32 := Scalar.addi v618 c2_i32_713
  let c4_i32_714 : BitVec 32 := 4#32
  let v620 : BitVec 32 := Scalar.muli v619 c4_i32_714
  let v621 : BitVec 32 := v620
  let c2560_i32_761 : BitVec 32 := 2560#32
  ![v621.toNat, 2560]
def k0_mult30 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_765 : BitVec 32 := 4#32
  let v665 : BitVec 32 := Scalar.muli v1 c4_i32_765
  let c2_i32_766 : BitVec 32 := 2#32
  let v666 : BitVec 32 := Scalar.addi v665 c2_i32_766
  let c4_i32_767 : BitVec 32 := 4#32
  let v667 : BitVec 32 := Scalar.muli v666 c4_i32_767
  v667
def k0_mult31 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_768 : BitVec 32 := 4#32
  let v669 : BitVec 32 := Scalar.muli v1 c4_i32_768
  let c2_i32_769 : BitVec 32 := 2#32
  let v670 : BitVec 32 := Scalar.addi v669 c2_i32_769
  let c4_i32_770 : BitVec 32 := 4#32
  let v671 : BitVec 32 := Scalar.muli v670 c4_i32_770
  v671
def k0_off185 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_768 : BitVec 32 := 4#32
  let v669 : BitVec 32 := Scalar.muli v1 c4_i32_768
  let c2_i32_769 : BitVec 32 := 2#32
  let v670 : BitVec 32 := Scalar.addi v669 c2_i32_769
  let c4_i32_770 : BitVec 32 := 4#32
  let v671 : BitVec 32 := Scalar.muli v670 c4_i32_770
  let v672 : BitVec 32 := v671
  let c30720_i32_773 : BitVec 32 := 30720#32
  ![v672.toNat, 30720]
def k0_off186 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_768 : BitVec 32 := 4#32
  let v669 : BitVec 32 := Scalar.muli v1 c4_i32_768
  let c2_i32_769 : BitVec 32 := 2#32
  let v670 : BitVec 32 := Scalar.addi v669 c2_i32_769
  let c4_i32_770 : BitVec 32 := 4#32
  let v671 : BitVec 32 := Scalar.muli v670 c4_i32_770
  let v672 : BitVec 32 := v671
  let c35840_i32_779 : BitVec 32 := 35840#32
  ![v672.toNat, 35840]
def k0_off187 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_659 : BitVec 32 := 4#32
  let v573 : BitVec 32 := Scalar.muli v1 c4_i32_659
  let c2_i32_660 : BitVec 32 := 2#32
  let v574 : BitVec 32 := Scalar.addi v573 c2_i32_660
  let c4_i32_661 : BitVec 32 := 4#32
  let v575 : BitVec 32 := Scalar.muli v574 c4_i32_661
  let v576 : BitVec 32 := v575
  let c0_i32_785 : BitVec 32 := 0#32
  ![v576.toNat, 0]

def k0_chk541 (v2 : IVec S16 32) (v685 : IVec S16 32) : Prop :=
  (∀ a x, ((![v685, v2] : Fin 2 → IVec S16 32) a x).toNat < S4x2572.size a)
theorem k0_idx541_inb : ∀ (v2 : IVec S16 32) (v685 : IVec S16 32) (k0_hw541 : k0_chk541 v2 v685), ∀ a x, ((![v685, v2] : Fin 2 → IVec S16 32) a x).toNat < S4x2572.size a := fun v2 v685 k0_hw541 => k0_hw541

def k0_chk542 (v2 : IVec S16 32) (v686 : IVec S16 32) : Prop :=
  (∀ a x, ((![v686, v2] : Fin 2 → IVec S16 32) a x).toNat < S4x2572.size a)
theorem k0_idx542_inb : ∀ (v2 : IVec S16 32) (v686 : IVec S16 32) (k0_hw542 : k0_chk542 v2 v686), ∀ a x, ((![v686, v2] : Fin 2 → IVec S16 32) a x).toNat < S4x2572.size a := fun v2 v686 k0_hw542 => k0_hw542

def k0_chk543 (v2 : IVec S16 32) (v687 : IVec S16 32) : Prop :=
  (∀ a x, ((![v687, v2] : Fin 2 → IVec S16 32) a x).toNat < S4x2572.size a)
theorem k0_idx543_inb : ∀ (v2 : IVec S16 32) (v687 : IVec S16 32) (k0_hw543 : k0_chk543 v2 v687), ∀ a x, ((![v687, v2] : Fin 2 → IVec S16 32) a x).toNat < S4x2572.size a := fun v2 v687 k0_hw543 => k0_hw543

def k0_chk544 (v2 : IVec S16 32) (v688 : IVec S16 32) : Prop :=
  (∀ a x, ((![v688, v2] : Fin 2 → IVec S16 32) a x).toNat < S4x2572.size a)
theorem k0_idx544_inb : ∀ (v2 : IVec S16 32) (v688 : IVec S16 32) (k0_hw544 : k0_chk544 v2 v688), ∀ a x, ((![v688, v2] : Fin 2 → IVec S16 32) a x).toNat < S4x2572.size a := fun v2 v688 k0_hw544 => k0_hw544
def k0_off188 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_715 : BitVec 32 := 4#32
  let v622 : BitVec 32 := Scalar.muli v1 c4_i32_715
  let c2_i32_716 : BitVec 32 := 2#32
  let v623 : BitVec 32 := Scalar.addi v622 c2_i32_716
  let c4_i32_717 : BitVec 32 := 4#32
  let v624 : BitVec 32 := Scalar.muli v623 c4_i32_717
  let v625 : BitVec 32 := v624
  let c20480_i32_795 : BitVec 32 := 20480#32
  ![v625.toNat, 20480]
def k0_off189 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_715 : BitVec 32 := 4#32
  let v622 : BitVec 32 := Scalar.muli v1 c4_i32_715
  let c2_i32_716 : BitVec 32 := 2#32
  let v623 : BitVec 32 := Scalar.addi v622 c2_i32_716
  let c4_i32_717 : BitVec 32 := 4#32
  let v624 : BitVec 32 := Scalar.muli v623 c4_i32_717
  let v625 : BitVec 32 := v624
  let c25600_i32_801 : BitVec 32 := 25600#32
  ![v625.toNat, 25600]
@[reducible] def k0_t15_loop : Scf.Loop 32 :=
  let c0_i32_806 : BitVec 32 := 0#32
  let c161_i32_807 : BitVec 32 := 161#32
  let v697 : BitVec 32 := Scalar.addi c0_i32_806 c161_i32_807
  let c1_i32_808 : BitVec 32 := 1#32
  ⟨c0_i32_806, v697, c1_i32_808⟩
def k0_off190 (k0_t15 : Fin k0_t15_loop.trips) : Fin 1 → Nat :=
  let c0_i32_1328 : BitVec 32 := 0#32
  let c0_i32_806 : BitVec 32 := 0#32
  let c1_i32_808 : BitVec 32 := 1#32
  let arg21 : BitVec 32 := Scf.iv c0_i32_806 c1_i32_808 k0_t15
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1328 v1132
  let v1141 : Index := Scalar.indexCast v1140
  ![v1141.toNat]

def k0_chk545 (v1144 : IVec S16 32) (v1145 : IVec S16 32) : Prop :=
  (∀ a x, ((![v1145, v1144] : Fin 2 → IVec S16 32) a x).toNat < S4x10368.size a)
theorem k0_idx545_inb : ∀ (v1144 : IVec S16 32) (v1145 : IVec S16 32) (k0_hw545 : k0_chk545 v1144 v1145), ∀ a x, ((![v1145, v1144] : Fin 2 → IVec S16 32) a x).toNat < S4x10368.size a := fun v1144 v1145 k0_hw545 => k0_hw545

def k0_chk546 (v1144 : IVec S16 32) (v1148 : IVec S16 32) : Prop :=
  (∀ a x, ((![v1148, v1144] : Fin 2 → IVec S16 32) a x).toNat < S4x10368.size a)
theorem k0_idx546_inb : ∀ (v1144 : IVec S16 32) (v1148 : IVec S16 32) (k0_hw546 : k0_chk546 v1144 v1148), ∀ a x, ((![v1148, v1144] : Fin 2 → IVec S16 32) a x).toNat < S4x10368.size a := fun v1144 v1148 k0_hw546 => k0_hw546

def k0_chk547 (v1144 : IVec S16 32) (v1151 : IVec S16 32) : Prop :=
  (∀ a x, ((![v1151, v1144] : Fin 2 → IVec S16 32) a x).toNat < S4x10368.size a)
theorem k0_idx547_inb : ∀ (v1144 : IVec S16 32) (v1151 : IVec S16 32) (k0_hw547 : k0_chk547 v1144 v1151), ∀ a x, ((![v1151, v1144] : Fin 2 → IVec S16 32) a x).toNat < S4x10368.size a := fun v1144 v1151 k0_hw547 => k0_hw547

def k0_chk548 (v1144 : IVec S16 32) (v1154 : IVec S16 32) : Prop :=
  (∀ a x, ((![v1154, v1144] : Fin 2 → IVec S16 32) a x).toNat < S4x10368.size a)
theorem k0_idx548_inb : ∀ (v1144 : IVec S16 32) (v1154 : IVec S16 32) (k0_hw548 : k0_chk548 v1144 v1154), ∀ a x, ((![v1154, v1144] : Fin 2 → IVec S16 32) a x).toNat < S4x10368.size a := fun v1144 v1154 k0_hw548 => k0_hw548
def k0_off191 (k0_t15 : Fin k0_t15_loop.trips) : Fin 1 → Nat :=
  let c2562_i32 : BitVec 32 := 2562#32
  let c0_i32_806 : BitVec 32 := 0#32
  let c1_i32_808 : BitVec 32 := 1#32
  let arg21 : BitVec 32 := Scf.iv c0_i32_806 c1_i32_808 k0_t15
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk549 (v1161 : IVec S16 32) (v1162 : IVec S16 32) : Prop :=
  (∀ a x, ((![v1162, v1161] : Fin 2 → IVec S16 32) a x).toNat < S4x10368.size a)
theorem k0_idx549_inb : ∀ (v1161 : IVec S16 32) (v1162 : IVec S16 32) (k0_hw549 : k0_chk549 v1161 v1162), ∀ a x, ((![v1162, v1161] : Fin 2 → IVec S16 32) a x).toNat < S4x10368.size a := fun v1161 v1162 k0_hw549 => k0_hw549

def k0_chk550 (v1161 : IVec S16 32) (v1165 : IVec S16 32) : Prop :=
  (∀ a x, ((![v1165, v1161] : Fin 2 → IVec S16 32) a x).toNat < S4x10368.size a)
theorem k0_idx550_inb : ∀ (v1161 : IVec S16 32) (v1165 : IVec S16 32) (k0_hw550 : k0_chk550 v1161 v1165), ∀ a x, ((![v1165, v1161] : Fin 2 → IVec S16 32) a x).toNat < S4x10368.size a := fun v1161 v1165 k0_hw550 => k0_hw550

def k0_chk551 (v1161 : IVec S16 32) (v1168 : IVec S16 32) : Prop :=
  (∀ a x, ((![v1168, v1161] : Fin 2 → IVec S16 32) a x).toNat < S4x10368.size a)
theorem k0_idx551_inb : ∀ (v1161 : IVec S16 32) (v1168 : IVec S16 32) (k0_hw551 : k0_chk551 v1161 v1168), ∀ a x, ((![v1168, v1161] : Fin 2 → IVec S16 32) a x).toNat < S4x10368.size a := fun v1161 v1168 k0_hw551 => k0_hw551

def k0_chk552 (v1161 : IVec S16 32) (v1171 : IVec S16 32) : Prop :=
  (∀ a x, ((![v1171, v1161] : Fin 2 → IVec S16 32) a x).toNat < S4x10368.size a)
theorem k0_idx552_inb : ∀ (v1161 : IVec S16 32) (v1171 : IVec S16 32) (k0_hw552 : k0_chk552 v1161 v1171), ∀ a x, ((![v1171, v1161] : Fin 2 → IVec S16 32) a x).toNat < S4x10368.size a := fun v1161 v1171 k0_hw552 => k0_hw552
def k0_off192 (k0_t15 : Fin k0_t15_loop.trips) : Fin 1 → Nat :=
  let c5124_i32 : BitVec 32 := 5124#32
  let c0_i32_806 : BitVec 32 := 0#32
  let c1_i32_808 : BitVec 32 := 1#32
  let arg21 : BitVec 32 := Scf.iv c0_i32_806 c1_i32_808 k0_t15
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk553 (v1178 : IVec S16 32) (v1179 : IVec S16 32) : Prop :=
  (∀ a x, ((![v1179, v1178] : Fin 2 → IVec S16 32) a x).toNat < S4x10368.size a)
theorem k0_idx553_inb : ∀ (v1178 : IVec S16 32) (v1179 : IVec S16 32) (k0_hw553 : k0_chk553 v1178 v1179), ∀ a x, ((![v1179, v1178] : Fin 2 → IVec S16 32) a x).toNat < S4x10368.size a := fun v1178 v1179 k0_hw553 => k0_hw553

def k0_chk554 (v1178 : IVec S16 32) (v1182 : IVec S16 32) : Prop :=
  (∀ a x, ((![v1182, v1178] : Fin 2 → IVec S16 32) a x).toNat < S4x10368.size a)
theorem k0_idx554_inb : ∀ (v1178 : IVec S16 32) (v1182 : IVec S16 32) (k0_hw554 : k0_chk554 v1178 v1182), ∀ a x, ((![v1182, v1178] : Fin 2 → IVec S16 32) a x).toNat < S4x10368.size a := fun v1178 v1182 k0_hw554 => k0_hw554

def k0_chk555 (v1178 : IVec S16 32) (v1185 : IVec S16 32) : Prop :=
  (∀ a x, ((![v1185, v1178] : Fin 2 → IVec S16 32) a x).toNat < S4x10368.size a)
theorem k0_idx555_inb : ∀ (v1178 : IVec S16 32) (v1185 : IVec S16 32) (k0_hw555 : k0_chk555 v1178 v1185), ∀ a x, ((![v1185, v1178] : Fin 2 → IVec S16 32) a x).toNat < S4x10368.size a := fun v1178 v1185 k0_hw555 => k0_hw555

def k0_chk556 (v1178 : IVec S16 32) (v1188 : IVec S16 32) : Prop :=
  (∀ a x, ((![v1188, v1178] : Fin 2 → IVec S16 32) a x).toNat < S4x10368.size a)
theorem k0_idx556_inb : ∀ (v1178 : IVec S16 32) (v1188 : IVec S16 32) (k0_hw556 : k0_chk556 v1178 v1188), ∀ a x, ((![v1188, v1178] : Fin 2 → IVec S16 32) a x).toNat < S4x10368.size a := fun v1178 v1188 k0_hw556 => k0_hw556
def k0_off193 (k0_t15 : Fin k0_t15_loop.trips) : Fin 1 → Nat :=
  let c7686_i32 : BitVec 32 := 7686#32
  let c0_i32_806 : BitVec 32 := 0#32
  let c1_i32_808 : BitVec 32 := 1#32
  let arg21 : BitVec 32 := Scf.iv c0_i32_806 c1_i32_808 k0_t15
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk557 (v1195 : IVec S16 32) (v1196 : IVec S16 32) : Prop :=
  (∀ a x, ((![v1196, v1195] : Fin 2 → IVec S16 32) a x).toNat < S4x10368.size a)
theorem k0_idx557_inb : ∀ (v1195 : IVec S16 32) (v1196 : IVec S16 32) (k0_hw557 : k0_chk557 v1195 v1196), ∀ a x, ((![v1196, v1195] : Fin 2 → IVec S16 32) a x).toNat < S4x10368.size a := fun v1195 v1196 k0_hw557 => k0_hw557

def k0_chk558 (v1195 : IVec S16 32) (v1199 : IVec S16 32) : Prop :=
  (∀ a x, ((![v1199, v1195] : Fin 2 → IVec S16 32) a x).toNat < S4x10368.size a)
theorem k0_idx558_inb : ∀ (v1195 : IVec S16 32) (v1199 : IVec S16 32) (k0_hw558 : k0_chk558 v1195 v1199), ∀ a x, ((![v1199, v1195] : Fin 2 → IVec S16 32) a x).toNat < S4x10368.size a := fun v1195 v1199 k0_hw558 => k0_hw558

def k0_chk559 (v1195 : IVec S16 32) (v1202 : IVec S16 32) : Prop :=
  (∀ a x, ((![v1202, v1195] : Fin 2 → IVec S16 32) a x).toNat < S4x10368.size a)
theorem k0_idx559_inb : ∀ (v1195 : IVec S16 32) (v1202 : IVec S16 32) (k0_hw559 : k0_chk559 v1195 v1202), ∀ a x, ((![v1202, v1195] : Fin 2 → IVec S16 32) a x).toNat < S4x10368.size a := fun v1195 v1202 k0_hw559 => k0_hw559

def k0_chk560 (v1195 : IVec S16 32) (v1205 : IVec S16 32) : Prop :=
  (∀ a x, ((![v1205, v1195] : Fin 2 → IVec S16 32) a x).toNat < S4x10368.size a)
theorem k0_idx560_inb : ∀ (v1195 : IVec S16 32) (v1205 : IVec S16 32) (k0_hw560 : k0_chk560 v1195 v1205), ∀ a x, ((![v1205, v1195] : Fin 2 → IVec S16 32) a x).toNat < S4x10368.size a := fun v1195 v1205 k0_hw560 => k0_hw560
def k0_off194 (k0_t15 : Fin k0_t15_loop.trips) : Fin 1 → Nat :=
  let c10248_i32 : BitVec 32 := 10248#32
  let c0_i32_806 : BitVec 32 := 0#32
  let c1_i32_808 : BitVec 32 := 1#32
  let arg21 : BitVec 32 := Scf.iv c0_i32_806 c1_i32_808 k0_t15
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk561 (v1212 : IVec S16 32) (v1213 : IVec S16 32) : Prop :=
  (∀ a x, ((![v1213, v1212] : Fin 2 → IVec S16 32) a x).toNat < S4x10368.size a)
theorem k0_idx561_inb : ∀ (v1212 : IVec S16 32) (v1213 : IVec S16 32) (k0_hw561 : k0_chk561 v1212 v1213), ∀ a x, ((![v1213, v1212] : Fin 2 → IVec S16 32) a x).toNat < S4x10368.size a := fun v1212 v1213 k0_hw561 => k0_hw561

def k0_chk562 (v1212 : IVec S16 32) (v1216 : IVec S16 32) : Prop :=
  (∀ a x, ((![v1216, v1212] : Fin 2 → IVec S16 32) a x).toNat < S4x10368.size a)
theorem k0_idx562_inb : ∀ (v1212 : IVec S16 32) (v1216 : IVec S16 32) (k0_hw562 : k0_chk562 v1212 v1216), ∀ a x, ((![v1216, v1212] : Fin 2 → IVec S16 32) a x).toNat < S4x10368.size a := fun v1212 v1216 k0_hw562 => k0_hw562

def k0_chk563 (v1212 : IVec S16 32) (v1219 : IVec S16 32) : Prop :=
  (∀ a x, ((![v1219, v1212] : Fin 2 → IVec S16 32) a x).toNat < S4x10368.size a)
theorem k0_idx563_inb : ∀ (v1212 : IVec S16 32) (v1219 : IVec S16 32) (k0_hw563 : k0_chk563 v1212 v1219), ∀ a x, ((![v1219, v1212] : Fin 2 → IVec S16 32) a x).toNat < S4x10368.size a := fun v1212 v1219 k0_hw563 => k0_hw563

def k0_chk564 (v1212 : IVec S16 32) (v1222 : IVec S16 32) : Prop :=
  (∀ a x, ((![v1222, v1212] : Fin 2 → IVec S16 32) a x).toNat < S4x10368.size a)
theorem k0_idx564_inb : ∀ (v1212 : IVec S16 32) (v1222 : IVec S16 32) (k0_hw564 : k0_chk564 v1212 v1222), ∀ a x, ((![v1222, v1212] : Fin 2 → IVec S16 32) a x).toNat < S4x10368.size a := fun v1212 v1222 k0_hw564 => k0_hw564
def k0_off195 (k0_t15 : Fin k0_t15_loop.trips) : Fin 1 → Nat :=
  let c12810_i32 : BitVec 32 := 12810#32
  let c0_i32_806 : BitVec 32 := 0#32
  let c1_i32_808 : BitVec 32 := 1#32
  let arg21 : BitVec 32 := Scf.iv c0_i32_806 c1_i32_808 k0_t15
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk565 (v1229 : IVec S16 32) (v1230 : IVec S16 32) : Prop :=
  (∀ a x, ((![v1230, v1229] : Fin 2 → IVec S16 32) a x).toNat < S4x10368.size a)
theorem k0_idx565_inb : ∀ (v1229 : IVec S16 32) (v1230 : IVec S16 32) (k0_hw565 : k0_chk565 v1229 v1230), ∀ a x, ((![v1230, v1229] : Fin 2 → IVec S16 32) a x).toNat < S4x10368.size a := fun v1229 v1230 k0_hw565 => k0_hw565

def k0_chk566 (v1229 : IVec S16 32) (v1233 : IVec S16 32) : Prop :=
  (∀ a x, ((![v1233, v1229] : Fin 2 → IVec S16 32) a x).toNat < S4x10368.size a)
theorem k0_idx566_inb : ∀ (v1229 : IVec S16 32) (v1233 : IVec S16 32) (k0_hw566 : k0_chk566 v1229 v1233), ∀ a x, ((![v1233, v1229] : Fin 2 → IVec S16 32) a x).toNat < S4x10368.size a := fun v1229 v1233 k0_hw566 => k0_hw566

def k0_chk567 (v1229 : IVec S16 32) (v1236 : IVec S16 32) : Prop :=
  (∀ a x, ((![v1236, v1229] : Fin 2 → IVec S16 32) a x).toNat < S4x10368.size a)
theorem k0_idx567_inb : ∀ (v1229 : IVec S16 32) (v1236 : IVec S16 32) (k0_hw567 : k0_chk567 v1229 v1236), ∀ a x, ((![v1236, v1229] : Fin 2 → IVec S16 32) a x).toNat < S4x10368.size a := fun v1229 v1236 k0_hw567 => k0_hw567

def k0_chk568 (v1229 : IVec S16 32) (v1239 : IVec S16 32) : Prop :=
  (∀ a x, ((![v1239, v1229] : Fin 2 → IVec S16 32) a x).toNat < S4x10368.size a)
theorem k0_idx568_inb : ∀ (v1229 : IVec S16 32) (v1239 : IVec S16 32) (k0_hw568 : k0_chk568 v1229 v1239), ∀ a x, ((![v1239, v1229] : Fin 2 → IVec S16 32) a x).toNat < S4x10368.size a := fun v1229 v1239 k0_hw568 => k0_hw568
def k0_off196 (k0_t15 : Fin k0_t15_loop.trips) : Fin 1 → Nat :=
  let c15372_i32 : BitVec 32 := 15372#32
  let c0_i32_806 : BitVec 32 := 0#32
  let c1_i32_808 : BitVec 32 := 1#32
  let arg21 : BitVec 32 := Scf.iv c0_i32_806 c1_i32_808 k0_t15
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk569 (v1246 : IVec S16 32) (v1247 : IVec S16 32) : Prop :=
  (∀ a x, ((![v1247, v1246] : Fin 2 → IVec S16 32) a x).toNat < S4x10368.size a)
theorem k0_idx569_inb : ∀ (v1246 : IVec S16 32) (v1247 : IVec S16 32) (k0_hw569 : k0_chk569 v1246 v1247), ∀ a x, ((![v1247, v1246] : Fin 2 → IVec S16 32) a x).toNat < S4x10368.size a := fun v1246 v1247 k0_hw569 => k0_hw569

def k0_chk570 (v1246 : IVec S16 32) (v1250 : IVec S16 32) : Prop :=
  (∀ a x, ((![v1250, v1246] : Fin 2 → IVec S16 32) a x).toNat < S4x10368.size a)
theorem k0_idx570_inb : ∀ (v1246 : IVec S16 32) (v1250 : IVec S16 32) (k0_hw570 : k0_chk570 v1246 v1250), ∀ a x, ((![v1250, v1246] : Fin 2 → IVec S16 32) a x).toNat < S4x10368.size a := fun v1246 v1250 k0_hw570 => k0_hw570

def k0_chk571 (v1246 : IVec S16 32) (v1253 : IVec S16 32) : Prop :=
  (∀ a x, ((![v1253, v1246] : Fin 2 → IVec S16 32) a x).toNat < S4x10368.size a)
theorem k0_idx571_inb : ∀ (v1246 : IVec S16 32) (v1253 : IVec S16 32) (k0_hw571 : k0_chk571 v1246 v1253), ∀ a x, ((![v1253, v1246] : Fin 2 → IVec S16 32) a x).toNat < S4x10368.size a := fun v1246 v1253 k0_hw571 => k0_hw571

def k0_chk572 (v1246 : IVec S16 32) (v1256 : IVec S16 32) : Prop :=
  (∀ a x, ((![v1256, v1246] : Fin 2 → IVec S16 32) a x).toNat < S4x10368.size a)
theorem k0_idx572_inb : ∀ (v1246 : IVec S16 32) (v1256 : IVec S16 32) (k0_hw572 : k0_chk572 v1246 v1256), ∀ a x, ((![v1256, v1246] : Fin 2 → IVec S16 32) a x).toNat < S4x10368.size a := fun v1246 v1256 k0_hw572 => k0_hw572

def k0_chk573 (v1135 : IVec S16 32) (v1259 : IVec S16 32) : Prop :=
  (∀ a x, ((![v1259, v1135] : Fin 2 → IVec S16 32) a x).toNat < S4x2572.size a)
theorem k0_idx573_inb : ∀ (v1135 : IVec S16 32) (v1259 : IVec S16 32) (k0_hw573 : k0_chk573 v1135 v1259), ∀ a x, ((![v1259, v1135] : Fin 2 → IVec S16 32) a x).toNat < S4x2572.size a := fun v1135 v1259 k0_hw573 => k0_hw573

def k0_chk574 (v1135 : IVec S16 32) (v1262 : IVec S16 32) : Prop :=
  (∀ a x, ((![v1262, v1135] : Fin 2 → IVec S16 32) a x).toNat < S4x2572.size a)
theorem k0_idx574_inb : ∀ (v1135 : IVec S16 32) (v1262 : IVec S16 32) (k0_hw574 : k0_chk574 v1135 v1262), ∀ a x, ((![v1262, v1135] : Fin 2 → IVec S16 32) a x).toNat < S4x2572.size a := fun v1135 v1262 k0_hw574 => k0_hw574

def k0_chk575 (v1135 : IVec S16 32) (v1265 : IVec S16 32) : Prop :=
  (∀ a x, ((![v1265, v1135] : Fin 2 → IVec S16 32) a x).toNat < S4x2572.size a)
theorem k0_idx575_inb : ∀ (v1135 : IVec S16 32) (v1265 : IVec S16 32) (k0_hw575 : k0_chk575 v1135 v1265), ∀ a x, ((![v1265, v1135] : Fin 2 → IVec S16 32) a x).toNat < S4x2572.size a := fun v1135 v1265 k0_hw575 => k0_hw575

def k0_chk576 (v1135 : IVec S16 32) (v1268 : IVec S16 32) : Prop :=
  (∀ a x, ((![v1268, v1135] : Fin 2 → IVec S16 32) a x).toNat < S4x2572.size a)
theorem k0_idx576_inb : ∀ (v1135 : IVec S16 32) (v1268 : IVec S16 32) (k0_hw576 : k0_chk576 v1135 v1268), ∀ a x, ((![v1268, v1135] : Fin 2 → IVec S16 32) a x).toNat < S4x2572.size a := fun v1135 v1268 k0_hw576 => k0_hw576

def k0_chk577 (v701 : IVec S16 32) (v702 : IVec S16 32) : Prop :=
  (∀ a x, ((![v702, v701] : Fin 2 → IVec S16 32) a x).toNat < S4x2572.size a)
theorem k0_idx577_inb : ∀ (v701 : IVec S16 32) (v702 : IVec S16 32) (k0_hw577 : k0_chk577 v701 v702), ∀ a x, ((![v702, v701] : Fin 2 → IVec S16 32) a x).toNat < S4x2572.size a := fun v701 v702 k0_hw577 => k0_hw577

def k0_chk578 (v701 : IVec S16 32) (v704 : IVec S16 32) : Prop :=
  (∀ a x, ((![v704, v701] : Fin 2 → IVec S16 32) a x).toNat < S4x2572.size a)
theorem k0_idx578_inb : ∀ (v701 : IVec S16 32) (v704 : IVec S16 32) (k0_hw578 : k0_chk578 v701 v704), ∀ a x, ((![v704, v701] : Fin 2 → IVec S16 32) a x).toNat < S4x2572.size a := fun v701 v704 k0_hw578 => k0_hw578

def k0_chk579 (v701 : IVec S16 32) (v706 : IVec S16 32) : Prop :=
  (∀ a x, ((![v706, v701] : Fin 2 → IVec S16 32) a x).toNat < S4x2572.size a)
theorem k0_idx579_inb : ∀ (v701 : IVec S16 32) (v706 : IVec S16 32) (k0_hw579 : k0_chk579 v701 v706), ∀ a x, ((![v706, v701] : Fin 2 → IVec S16 32) a x).toNat < S4x2572.size a := fun v701 v706 k0_hw579 => k0_hw579

def k0_chk580 (v701 : IVec S16 32) (v708 : IVec S16 32) : Prop :=
  (∀ a x, ((![v708, v701] : Fin 2 → IVec S16 32) a x).toNat < S4x2572.size a)
theorem k0_idx580_inb : ∀ (v701 : IVec S16 32) (v708 : IVec S16 32) (k0_hw580 : k0_chk580 v701 v708), ∀ a x, ((![v708, v701] : Fin 2 → IVec S16 32) a x).toNat < S4x2572.size a := fun v701 v708 k0_hw580 => k0_hw580
def k0_off197 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_765 : BitVec 32 := 4#32
  let v665 : BitVec 32 := Scalar.muli v1 c4_i32_765
  let c2_i32_766 : BitVec 32 := 2#32
  let v666 : BitVec 32 := Scalar.addi v665 c2_i32_766
  let c4_i32_767 : BitVec 32 := 4#32
  let v667 : BitVec 32 := Scalar.muli v666 c4_i32_767
  let v668 : BitVec 32 := v667
  let c5120_i32_818 : BitVec 32 := 5120#32
  ![v668.toNat, 5120]
def k0_mult32 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_822 : BitVec 32 := 4#32
  let v714 : BitVec 32 := Scalar.muli v1 c4_i32_822
  let c2_i32_823 : BitVec 32 := 2#32
  let v715 : BitVec 32 := Scalar.addi v714 c2_i32_823
  let c4_i32_824 : BitVec 32 := 4#32
  let v716 : BitVec 32 := Scalar.muli v715 c4_i32_824
  v716
def k0_mult33 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_825 : BitVec 32 := 4#32
  let v718 : BitVec 32 := Scalar.muli v1 c4_i32_825
  let c2_i32_826 : BitVec 32 := 2#32
  let v719 : BitVec 32 := Scalar.addi v718 c2_i32_826
  let c4_i32_827 : BitVec 32 := 4#32
  let v720 : BitVec 32 := Scalar.muli v719 c4_i32_827
  v720
def k0_off198 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_825 : BitVec 32 := 4#32
  let v718 : BitVec 32 := Scalar.muli v1 c4_i32_825
  let c2_i32_826 : BitVec 32 := 2#32
  let v719 : BitVec 32 := Scalar.addi v718 c2_i32_826
  let c4_i32_827 : BitVec 32 := 4#32
  let v720 : BitVec 32 := Scalar.muli v719 c4_i32_827
  let v721 : BitVec 32 := v720
  let c40960_i32_830 : BitVec 32 := 40960#32
  ![v721.toNat, 40960]
def k0_off199 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_825 : BitVec 32 := 4#32
  let v718 : BitVec 32 := Scalar.muli v1 c4_i32_825
  let c2_i32_826 : BitVec 32 := 2#32
  let v719 : BitVec 32 := Scalar.addi v718 c2_i32_826
  let c4_i32_827 : BitVec 32 := 4#32
  let v720 : BitVec 32 := Scalar.muli v719 c4_i32_827
  let v721 : BitVec 32 := v720
  let c46080_i32_836 : BitVec 32 := 46080#32
  ![v721.toNat, 46080]
def k0_off200 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_712 : BitVec 32 := 4#32
  let v618 : BitVec 32 := Scalar.muli v1 c4_i32_712
  let c2_i32_713 : BitVec 32 := 2#32
  let v619 : BitVec 32 := Scalar.addi v618 c2_i32_713
  let c4_i32_714 : BitVec 32 := 4#32
  let v620 : BitVec 32 := Scalar.muli v619 c4_i32_714
  let v621 : BitVec 32 := v620
  let c2560_i32_842 : BitVec 32 := 2560#32
  ![v621.toNat, 2560]

def k0_chk581 (v2 : IVec S16 32) (v734 : IVec S16 32) : Prop :=
  (∀ a x, ((![v734, v2] : Fin 2 → IVec S16 32) a x).toNat < S4x2572.size a)
theorem k0_idx581_inb : ∀ (v2 : IVec S16 32) (v734 : IVec S16 32) (k0_hw581 : k0_chk581 v2 v734), ∀ a x, ((![v734, v2] : Fin 2 → IVec S16 32) a x).toNat < S4x2572.size a := fun v2 v734 k0_hw581 => k0_hw581

def k0_chk582 (v2 : IVec S16 32) (v735 : IVec S16 32) : Prop :=
  (∀ a x, ((![v735, v2] : Fin 2 → IVec S16 32) a x).toNat < S4x2572.size a)
theorem k0_idx582_inb : ∀ (v2 : IVec S16 32) (v735 : IVec S16 32) (k0_hw582 : k0_chk582 v2 v735), ∀ a x, ((![v735, v2] : Fin 2 → IVec S16 32) a x).toNat < S4x2572.size a := fun v2 v735 k0_hw582 => k0_hw582

def k0_chk583 (v2 : IVec S16 32) (v736 : IVec S16 32) : Prop :=
  (∀ a x, ((![v736, v2] : Fin 2 → IVec S16 32) a x).toNat < S4x2572.size a)
theorem k0_idx583_inb : ∀ (v2 : IVec S16 32) (v736 : IVec S16 32) (k0_hw583 : k0_chk583 v2 v736), ∀ a x, ((![v736, v2] : Fin 2 → IVec S16 32) a x).toNat < S4x2572.size a := fun v2 v736 k0_hw583 => k0_hw583

def k0_chk584 (v2 : IVec S16 32) (v737 : IVec S16 32) : Prop :=
  (∀ a x, ((![v737, v2] : Fin 2 → IVec S16 32) a x).toNat < S4x2572.size a)
theorem k0_idx584_inb : ∀ (v2 : IVec S16 32) (v737 : IVec S16 32) (k0_hw584 : k0_chk584 v2 v737), ∀ a x, ((![v737, v2] : Fin 2 → IVec S16 32) a x).toNat < S4x2572.size a := fun v2 v737 k0_hw584 => k0_hw584
def k0_off201 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_768 : BitVec 32 := 4#32
  let v669 : BitVec 32 := Scalar.muli v1 c4_i32_768
  let c2_i32_769 : BitVec 32 := 2#32
  let v670 : BitVec 32 := Scalar.addi v669 c2_i32_769
  let c4_i32_770 : BitVec 32 := 4#32
  let v671 : BitVec 32 := Scalar.muli v670 c4_i32_770
  let v672 : BitVec 32 := v671
  let c30720_i32_852 : BitVec 32 := 30720#32
  ![v672.toNat, 30720]
def k0_off202 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_768 : BitVec 32 := 4#32
  let v669 : BitVec 32 := Scalar.muli v1 c4_i32_768
  let c2_i32_769 : BitVec 32 := 2#32
  let v670 : BitVec 32 := Scalar.addi v669 c2_i32_769
  let c4_i32_770 : BitVec 32 := 4#32
  let v671 : BitVec 32 := Scalar.muli v670 c4_i32_770
  let v672 : BitVec 32 := v671
  let c35840_i32_858 : BitVec 32 := 35840#32
  ![v672.toNat, 35840]
@[reducible] def k0_t16_loop : Scf.Loop 32 :=
  let c0_i32_863 : BitVec 32 := 0#32
  let c161_i32_864 : BitVec 32 := 161#32
  let v746 : BitVec 32 := Scalar.addi c0_i32_863 c161_i32_864
  let c1_i32_865 : BitVec 32 := 1#32
  ⟨c0_i32_863, v746, c1_i32_865⟩
def k0_off203 (k0_t16 : Fin k0_t16_loop.trips) : Fin 1 → Nat :=
  let c0_i32_1327 : BitVec 32 := 0#32
  let c0_i32_863 : BitVec 32 := 0#32
  let c1_i32_865 : BitVec 32 := 1#32
  let arg21 : BitVec 32 := Scf.iv c0_i32_863 c1_i32_865 k0_t16
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1327 v1132
  let v1141 : Index := Scalar.indexCast v1140
  ![v1141.toNat]

def k0_chk585 (v1144 : IVec S16 32) (v1145 : IVec S16 32) : Prop :=
  (∀ a x, ((![v1145, v1144] : Fin 2 → IVec S16 32) a x).toNat < S4x10368.size a)
theorem k0_idx585_inb : ∀ (v1144 : IVec S16 32) (v1145 : IVec S16 32) (k0_hw585 : k0_chk585 v1144 v1145), ∀ a x, ((![v1145, v1144] : Fin 2 → IVec S16 32) a x).toNat < S4x10368.size a := fun v1144 v1145 k0_hw585 => k0_hw585

def k0_chk586 (v1144 : IVec S16 32) (v1148 : IVec S16 32) : Prop :=
  (∀ a x, ((![v1148, v1144] : Fin 2 → IVec S16 32) a x).toNat < S4x10368.size a)
theorem k0_idx586_inb : ∀ (v1144 : IVec S16 32) (v1148 : IVec S16 32) (k0_hw586 : k0_chk586 v1144 v1148), ∀ a x, ((![v1148, v1144] : Fin 2 → IVec S16 32) a x).toNat < S4x10368.size a := fun v1144 v1148 k0_hw586 => k0_hw586

def k0_chk587 (v1144 : IVec S16 32) (v1151 : IVec S16 32) : Prop :=
  (∀ a x, ((![v1151, v1144] : Fin 2 → IVec S16 32) a x).toNat < S4x10368.size a)
theorem k0_idx587_inb : ∀ (v1144 : IVec S16 32) (v1151 : IVec S16 32) (k0_hw587 : k0_chk587 v1144 v1151), ∀ a x, ((![v1151, v1144] : Fin 2 → IVec S16 32) a x).toNat < S4x10368.size a := fun v1144 v1151 k0_hw587 => k0_hw587

def k0_chk588 (v1144 : IVec S16 32) (v1154 : IVec S16 32) : Prop :=
  (∀ a x, ((![v1154, v1144] : Fin 2 → IVec S16 32) a x).toNat < S4x10368.size a)
theorem k0_idx588_inb : ∀ (v1144 : IVec S16 32) (v1154 : IVec S16 32) (k0_hw588 : k0_chk588 v1144 v1154), ∀ a x, ((![v1154, v1144] : Fin 2 → IVec S16 32) a x).toNat < S4x10368.size a := fun v1144 v1154 k0_hw588 => k0_hw588
def k0_off204 (k0_t16 : Fin k0_t16_loop.trips) : Fin 1 → Nat :=
  let c2562_i32 : BitVec 32 := 2562#32
  let c0_i32_863 : BitVec 32 := 0#32
  let c1_i32_865 : BitVec 32 := 1#32
  let arg21 : BitVec 32 := Scf.iv c0_i32_863 c1_i32_865 k0_t16
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk589 (v1161 : IVec S16 32) (v1162 : IVec S16 32) : Prop :=
  (∀ a x, ((![v1162, v1161] : Fin 2 → IVec S16 32) a x).toNat < S4x10368.size a)
theorem k0_idx589_inb : ∀ (v1161 : IVec S16 32) (v1162 : IVec S16 32) (k0_hw589 : k0_chk589 v1161 v1162), ∀ a x, ((![v1162, v1161] : Fin 2 → IVec S16 32) a x).toNat < S4x10368.size a := fun v1161 v1162 k0_hw589 => k0_hw589

def k0_chk590 (v1161 : IVec S16 32) (v1165 : IVec S16 32) : Prop :=
  (∀ a x, ((![v1165, v1161] : Fin 2 → IVec S16 32) a x).toNat < S4x10368.size a)
theorem k0_idx590_inb : ∀ (v1161 : IVec S16 32) (v1165 : IVec S16 32) (k0_hw590 : k0_chk590 v1161 v1165), ∀ a x, ((![v1165, v1161] : Fin 2 → IVec S16 32) a x).toNat < S4x10368.size a := fun v1161 v1165 k0_hw590 => k0_hw590

def k0_chk591 (v1161 : IVec S16 32) (v1168 : IVec S16 32) : Prop :=
  (∀ a x, ((![v1168, v1161] : Fin 2 → IVec S16 32) a x).toNat < S4x10368.size a)
theorem k0_idx591_inb : ∀ (v1161 : IVec S16 32) (v1168 : IVec S16 32) (k0_hw591 : k0_chk591 v1161 v1168), ∀ a x, ((![v1168, v1161] : Fin 2 → IVec S16 32) a x).toNat < S4x10368.size a := fun v1161 v1168 k0_hw591 => k0_hw591

def k0_chk592 (v1161 : IVec S16 32) (v1171 : IVec S16 32) : Prop :=
  (∀ a x, ((![v1171, v1161] : Fin 2 → IVec S16 32) a x).toNat < S4x10368.size a)
theorem k0_idx592_inb : ∀ (v1161 : IVec S16 32) (v1171 : IVec S16 32) (k0_hw592 : k0_chk592 v1161 v1171), ∀ a x, ((![v1171, v1161] : Fin 2 → IVec S16 32) a x).toNat < S4x10368.size a := fun v1161 v1171 k0_hw592 => k0_hw592
def k0_off205 (k0_t16 : Fin k0_t16_loop.trips) : Fin 1 → Nat :=
  let c5124_i32 : BitVec 32 := 5124#32
  let c0_i32_863 : BitVec 32 := 0#32
  let c1_i32_865 : BitVec 32 := 1#32
  let arg21 : BitVec 32 := Scf.iv c0_i32_863 c1_i32_865 k0_t16
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk593 (v1178 : IVec S16 32) (v1179 : IVec S16 32) : Prop :=
  (∀ a x, ((![v1179, v1178] : Fin 2 → IVec S16 32) a x).toNat < S4x10368.size a)
theorem k0_idx593_inb : ∀ (v1178 : IVec S16 32) (v1179 : IVec S16 32) (k0_hw593 : k0_chk593 v1178 v1179), ∀ a x, ((![v1179, v1178] : Fin 2 → IVec S16 32) a x).toNat < S4x10368.size a := fun v1178 v1179 k0_hw593 => k0_hw593

def k0_chk594 (v1178 : IVec S16 32) (v1182 : IVec S16 32) : Prop :=
  (∀ a x, ((![v1182, v1178] : Fin 2 → IVec S16 32) a x).toNat < S4x10368.size a)
theorem k0_idx594_inb : ∀ (v1178 : IVec S16 32) (v1182 : IVec S16 32) (k0_hw594 : k0_chk594 v1178 v1182), ∀ a x, ((![v1182, v1178] : Fin 2 → IVec S16 32) a x).toNat < S4x10368.size a := fun v1178 v1182 k0_hw594 => k0_hw594

def k0_chk595 (v1178 : IVec S16 32) (v1185 : IVec S16 32) : Prop :=
  (∀ a x, ((![v1185, v1178] : Fin 2 → IVec S16 32) a x).toNat < S4x10368.size a)
theorem k0_idx595_inb : ∀ (v1178 : IVec S16 32) (v1185 : IVec S16 32) (k0_hw595 : k0_chk595 v1178 v1185), ∀ a x, ((![v1185, v1178] : Fin 2 → IVec S16 32) a x).toNat < S4x10368.size a := fun v1178 v1185 k0_hw595 => k0_hw595

def k0_chk596 (v1178 : IVec S16 32) (v1188 : IVec S16 32) : Prop :=
  (∀ a x, ((![v1188, v1178] : Fin 2 → IVec S16 32) a x).toNat < S4x10368.size a)
theorem k0_idx596_inb : ∀ (v1178 : IVec S16 32) (v1188 : IVec S16 32) (k0_hw596 : k0_chk596 v1178 v1188), ∀ a x, ((![v1188, v1178] : Fin 2 → IVec S16 32) a x).toNat < S4x10368.size a := fun v1178 v1188 k0_hw596 => k0_hw596
def k0_off206 (k0_t16 : Fin k0_t16_loop.trips) : Fin 1 → Nat :=
  let c7686_i32 : BitVec 32 := 7686#32
  let c0_i32_863 : BitVec 32 := 0#32
  let c1_i32_865 : BitVec 32 := 1#32
  let arg21 : BitVec 32 := Scf.iv c0_i32_863 c1_i32_865 k0_t16
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk597 (v1195 : IVec S16 32) (v1196 : IVec S16 32) : Prop :=
  (∀ a x, ((![v1196, v1195] : Fin 2 → IVec S16 32) a x).toNat < S4x10368.size a)
theorem k0_idx597_inb : ∀ (v1195 : IVec S16 32) (v1196 : IVec S16 32) (k0_hw597 : k0_chk597 v1195 v1196), ∀ a x, ((![v1196, v1195] : Fin 2 → IVec S16 32) a x).toNat < S4x10368.size a := fun v1195 v1196 k0_hw597 => k0_hw597

def k0_chk598 (v1195 : IVec S16 32) (v1199 : IVec S16 32) : Prop :=
  (∀ a x, ((![v1199, v1195] : Fin 2 → IVec S16 32) a x).toNat < S4x10368.size a)
theorem k0_idx598_inb : ∀ (v1195 : IVec S16 32) (v1199 : IVec S16 32) (k0_hw598 : k0_chk598 v1195 v1199), ∀ a x, ((![v1199, v1195] : Fin 2 → IVec S16 32) a x).toNat < S4x10368.size a := fun v1195 v1199 k0_hw598 => k0_hw598

def k0_chk599 (v1195 : IVec S16 32) (v1202 : IVec S16 32) : Prop :=
  (∀ a x, ((![v1202, v1195] : Fin 2 → IVec S16 32) a x).toNat < S4x10368.size a)
theorem k0_idx599_inb : ∀ (v1195 : IVec S16 32) (v1202 : IVec S16 32) (k0_hw599 : k0_chk599 v1195 v1202), ∀ a x, ((![v1202, v1195] : Fin 2 → IVec S16 32) a x).toNat < S4x10368.size a := fun v1195 v1202 k0_hw599 => k0_hw599

def k0_chk600 (v1195 : IVec S16 32) (v1205 : IVec S16 32) : Prop :=
  (∀ a x, ((![v1205, v1195] : Fin 2 → IVec S16 32) a x).toNat < S4x10368.size a)
theorem k0_idx600_inb : ∀ (v1195 : IVec S16 32) (v1205 : IVec S16 32) (k0_hw600 : k0_chk600 v1195 v1205), ∀ a x, ((![v1205, v1195] : Fin 2 → IVec S16 32) a x).toNat < S4x10368.size a := fun v1195 v1205 k0_hw600 => k0_hw600
def k0_off207 (k0_t16 : Fin k0_t16_loop.trips) : Fin 1 → Nat :=
  let c10248_i32 : BitVec 32 := 10248#32
  let c0_i32_863 : BitVec 32 := 0#32
  let c1_i32_865 : BitVec 32 := 1#32
  let arg21 : BitVec 32 := Scf.iv c0_i32_863 c1_i32_865 k0_t16
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk601 (v1212 : IVec S16 32) (v1213 : IVec S16 32) : Prop :=
  (∀ a x, ((![v1213, v1212] : Fin 2 → IVec S16 32) a x).toNat < S4x10368.size a)
theorem k0_idx601_inb : ∀ (v1212 : IVec S16 32) (v1213 : IVec S16 32) (k0_hw601 : k0_chk601 v1212 v1213), ∀ a x, ((![v1213, v1212] : Fin 2 → IVec S16 32) a x).toNat < S4x10368.size a := fun v1212 v1213 k0_hw601 => k0_hw601

def k0_chk602 (v1212 : IVec S16 32) (v1216 : IVec S16 32) : Prop :=
  (∀ a x, ((![v1216, v1212] : Fin 2 → IVec S16 32) a x).toNat < S4x10368.size a)
theorem k0_idx602_inb : ∀ (v1212 : IVec S16 32) (v1216 : IVec S16 32) (k0_hw602 : k0_chk602 v1212 v1216), ∀ a x, ((![v1216, v1212] : Fin 2 → IVec S16 32) a x).toNat < S4x10368.size a := fun v1212 v1216 k0_hw602 => k0_hw602

def k0_chk603 (v1212 : IVec S16 32) (v1219 : IVec S16 32) : Prop :=
  (∀ a x, ((![v1219, v1212] : Fin 2 → IVec S16 32) a x).toNat < S4x10368.size a)
theorem k0_idx603_inb : ∀ (v1212 : IVec S16 32) (v1219 : IVec S16 32) (k0_hw603 : k0_chk603 v1212 v1219), ∀ a x, ((![v1219, v1212] : Fin 2 → IVec S16 32) a x).toNat < S4x10368.size a := fun v1212 v1219 k0_hw603 => k0_hw603

def k0_chk604 (v1212 : IVec S16 32) (v1222 : IVec S16 32) : Prop :=
  (∀ a x, ((![v1222, v1212] : Fin 2 → IVec S16 32) a x).toNat < S4x10368.size a)
theorem k0_idx604_inb : ∀ (v1212 : IVec S16 32) (v1222 : IVec S16 32) (k0_hw604 : k0_chk604 v1212 v1222), ∀ a x, ((![v1222, v1212] : Fin 2 → IVec S16 32) a x).toNat < S4x10368.size a := fun v1212 v1222 k0_hw604 => k0_hw604
def k0_off208 (k0_t16 : Fin k0_t16_loop.trips) : Fin 1 → Nat :=
  let c12810_i32 : BitVec 32 := 12810#32
  let c0_i32_863 : BitVec 32 := 0#32
  let c1_i32_865 : BitVec 32 := 1#32
  let arg21 : BitVec 32 := Scf.iv c0_i32_863 c1_i32_865 k0_t16
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk605 (v1229 : IVec S16 32) (v1230 : IVec S16 32) : Prop :=
  (∀ a x, ((![v1230, v1229] : Fin 2 → IVec S16 32) a x).toNat < S4x10368.size a)
theorem k0_idx605_inb : ∀ (v1229 : IVec S16 32) (v1230 : IVec S16 32) (k0_hw605 : k0_chk605 v1229 v1230), ∀ a x, ((![v1230, v1229] : Fin 2 → IVec S16 32) a x).toNat < S4x10368.size a := fun v1229 v1230 k0_hw605 => k0_hw605

def k0_chk606 (v1229 : IVec S16 32) (v1233 : IVec S16 32) : Prop :=
  (∀ a x, ((![v1233, v1229] : Fin 2 → IVec S16 32) a x).toNat < S4x10368.size a)
theorem k0_idx606_inb : ∀ (v1229 : IVec S16 32) (v1233 : IVec S16 32) (k0_hw606 : k0_chk606 v1229 v1233), ∀ a x, ((![v1233, v1229] : Fin 2 → IVec S16 32) a x).toNat < S4x10368.size a := fun v1229 v1233 k0_hw606 => k0_hw606

def k0_chk607 (v1229 : IVec S16 32) (v1236 : IVec S16 32) : Prop :=
  (∀ a x, ((![v1236, v1229] : Fin 2 → IVec S16 32) a x).toNat < S4x10368.size a)
theorem k0_idx607_inb : ∀ (v1229 : IVec S16 32) (v1236 : IVec S16 32) (k0_hw607 : k0_chk607 v1229 v1236), ∀ a x, ((![v1236, v1229] : Fin 2 → IVec S16 32) a x).toNat < S4x10368.size a := fun v1229 v1236 k0_hw607 => k0_hw607

def k0_chk608 (v1229 : IVec S16 32) (v1239 : IVec S16 32) : Prop :=
  (∀ a x, ((![v1239, v1229] : Fin 2 → IVec S16 32) a x).toNat < S4x10368.size a)
theorem k0_idx608_inb : ∀ (v1229 : IVec S16 32) (v1239 : IVec S16 32) (k0_hw608 : k0_chk608 v1229 v1239), ∀ a x, ((![v1239, v1229] : Fin 2 → IVec S16 32) a x).toNat < S4x10368.size a := fun v1229 v1239 k0_hw608 => k0_hw608
def k0_off209 (k0_t16 : Fin k0_t16_loop.trips) : Fin 1 → Nat :=
  let c15372_i32 : BitVec 32 := 15372#32
  let c0_i32_863 : BitVec 32 := 0#32
  let c1_i32_865 : BitVec 32 := 1#32
  let arg21 : BitVec 32 := Scf.iv c0_i32_863 c1_i32_865 k0_t16
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk609 (v1246 : IVec S16 32) (v1247 : IVec S16 32) : Prop :=
  (∀ a x, ((![v1247, v1246] : Fin 2 → IVec S16 32) a x).toNat < S4x10368.size a)
theorem k0_idx609_inb : ∀ (v1246 : IVec S16 32) (v1247 : IVec S16 32) (k0_hw609 : k0_chk609 v1246 v1247), ∀ a x, ((![v1247, v1246] : Fin 2 → IVec S16 32) a x).toNat < S4x10368.size a := fun v1246 v1247 k0_hw609 => k0_hw609

def k0_chk610 (v1246 : IVec S16 32) (v1250 : IVec S16 32) : Prop :=
  (∀ a x, ((![v1250, v1246] : Fin 2 → IVec S16 32) a x).toNat < S4x10368.size a)
theorem k0_idx610_inb : ∀ (v1246 : IVec S16 32) (v1250 : IVec S16 32) (k0_hw610 : k0_chk610 v1246 v1250), ∀ a x, ((![v1250, v1246] : Fin 2 → IVec S16 32) a x).toNat < S4x10368.size a := fun v1246 v1250 k0_hw610 => k0_hw610

def k0_chk611 (v1246 : IVec S16 32) (v1253 : IVec S16 32) : Prop :=
  (∀ a x, ((![v1253, v1246] : Fin 2 → IVec S16 32) a x).toNat < S4x10368.size a)
theorem k0_idx611_inb : ∀ (v1246 : IVec S16 32) (v1253 : IVec S16 32) (k0_hw611 : k0_chk611 v1246 v1253), ∀ a x, ((![v1253, v1246] : Fin 2 → IVec S16 32) a x).toNat < S4x10368.size a := fun v1246 v1253 k0_hw611 => k0_hw611

def k0_chk612 (v1246 : IVec S16 32) (v1256 : IVec S16 32) : Prop :=
  (∀ a x, ((![v1256, v1246] : Fin 2 → IVec S16 32) a x).toNat < S4x10368.size a)
theorem k0_idx612_inb : ∀ (v1246 : IVec S16 32) (v1256 : IVec S16 32) (k0_hw612 : k0_chk612 v1246 v1256), ∀ a x, ((![v1256, v1246] : Fin 2 → IVec S16 32) a x).toNat < S4x10368.size a := fun v1246 v1256 k0_hw612 => k0_hw612

def k0_chk613 (v1135 : IVec S16 32) (v1259 : IVec S16 32) : Prop :=
  (∀ a x, ((![v1259, v1135] : Fin 2 → IVec S16 32) a x).toNat < S4x2572.size a)
theorem k0_idx613_inb : ∀ (v1135 : IVec S16 32) (v1259 : IVec S16 32) (k0_hw613 : k0_chk613 v1135 v1259), ∀ a x, ((![v1259, v1135] : Fin 2 → IVec S16 32) a x).toNat < S4x2572.size a := fun v1135 v1259 k0_hw613 => k0_hw613

def k0_chk614 (v1135 : IVec S16 32) (v1262 : IVec S16 32) : Prop :=
  (∀ a x, ((![v1262, v1135] : Fin 2 → IVec S16 32) a x).toNat < S4x2572.size a)
theorem k0_idx614_inb : ∀ (v1135 : IVec S16 32) (v1262 : IVec S16 32) (k0_hw614 : k0_chk614 v1135 v1262), ∀ a x, ((![v1262, v1135] : Fin 2 → IVec S16 32) a x).toNat < S4x2572.size a := fun v1135 v1262 k0_hw614 => k0_hw614

def k0_chk615 (v1135 : IVec S16 32) (v1265 : IVec S16 32) : Prop :=
  (∀ a x, ((![v1265, v1135] : Fin 2 → IVec S16 32) a x).toNat < S4x2572.size a)
theorem k0_idx615_inb : ∀ (v1135 : IVec S16 32) (v1265 : IVec S16 32) (k0_hw615 : k0_chk615 v1135 v1265), ∀ a x, ((![v1265, v1135] : Fin 2 → IVec S16 32) a x).toNat < S4x2572.size a := fun v1135 v1265 k0_hw615 => k0_hw615

def k0_chk616 (v1135 : IVec S16 32) (v1268 : IVec S16 32) : Prop :=
  (∀ a x, ((![v1268, v1135] : Fin 2 → IVec S16 32) a x).toNat < S4x2572.size a)
theorem k0_idx616_inb : ∀ (v1135 : IVec S16 32) (v1268 : IVec S16 32) (k0_hw616 : k0_chk616 v1135 v1268), ∀ a x, ((![v1268, v1135] : Fin 2 → IVec S16 32) a x).toNat < S4x2572.size a := fun v1135 v1268 k0_hw616 => k0_hw616

def k0_chk617 (v750 : IVec S16 32) (v751 : IVec S16 32) : Prop :=
  (∀ a x, ((![v751, v750] : Fin 2 → IVec S16 32) a x).toNat < S4x2572.size a)
theorem k0_idx617_inb : ∀ (v750 : IVec S16 32) (v751 : IVec S16 32) (k0_hw617 : k0_chk617 v750 v751), ∀ a x, ((![v751, v750] : Fin 2 → IVec S16 32) a x).toNat < S4x2572.size a := fun v750 v751 k0_hw617 => k0_hw617

def k0_chk618 (v750 : IVec S16 32) (v753 : IVec S16 32) : Prop :=
  (∀ a x, ((![v753, v750] : Fin 2 → IVec S16 32) a x).toNat < S4x2572.size a)
theorem k0_idx618_inb : ∀ (v750 : IVec S16 32) (v753 : IVec S16 32) (k0_hw618 : k0_chk618 v750 v753), ∀ a x, ((![v753, v750] : Fin 2 → IVec S16 32) a x).toNat < S4x2572.size a := fun v750 v753 k0_hw618 => k0_hw618

def k0_chk619 (v750 : IVec S16 32) (v755 : IVec S16 32) : Prop :=
  (∀ a x, ((![v755, v750] : Fin 2 → IVec S16 32) a x).toNat < S4x2572.size a)
theorem k0_idx619_inb : ∀ (v750 : IVec S16 32) (v755 : IVec S16 32) (k0_hw619 : k0_chk619 v750 v755), ∀ a x, ((![v755, v750] : Fin 2 → IVec S16 32) a x).toNat < S4x2572.size a := fun v750 v755 k0_hw619 => k0_hw619

def k0_chk620 (v750 : IVec S16 32) (v757 : IVec S16 32) : Prop :=
  (∀ a x, ((![v757, v750] : Fin 2 → IVec S16 32) a x).toNat < S4x2572.size a)
theorem k0_idx620_inb : ∀ (v750 : IVec S16 32) (v757 : IVec S16 32) (k0_hw620 : k0_chk620 v750 v757), ∀ a x, ((![v757, v750] : Fin 2 → IVec S16 32) a x).toNat < S4x2572.size a := fun v750 v757 k0_hw620 => k0_hw620
def k0_off210 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_822 : BitVec 32 := 4#32
  let v714 : BitVec 32 := Scalar.muli v1 c4_i32_822
  let c2_i32_823 : BitVec 32 := 2#32
  let v715 : BitVec 32 := Scalar.addi v714 c2_i32_823
  let c4_i32_824 : BitVec 32 := 4#32
  let v716 : BitVec 32 := Scalar.muli v715 c4_i32_824
  let v717 : BitVec 32 := v716
  let c7680_i32_875 : BitVec 32 := 7680#32
  ![v717.toNat, 7680]
def k0_mult34 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_879 : BitVec 32 := 4#32
  let v763 : BitVec 32 := Scalar.muli v1 c4_i32_879
  let c2_i32_880 : BitVec 32 := 2#32
  let v764 : BitVec 32 := Scalar.addi v763 c2_i32_880
  let c4_i32_881 : BitVec 32 := 4#32
  let v765 : BitVec 32 := Scalar.muli v764 c4_i32_881
  v765
def k0_mult35 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_882 : BitVec 32 := 4#32
  let v767 : BitVec 32 := Scalar.muli v1 c4_i32_882
  let c2_i32_883 : BitVec 32 := 2#32
  let v768 : BitVec 32 := Scalar.addi v767 c2_i32_883
  let c4_i32_884 : BitVec 32 := 4#32
  let v769 : BitVec 32 := Scalar.muli v768 c4_i32_884
  v769
def k0_off211 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_882 : BitVec 32 := 4#32
  let v767 : BitVec 32 := Scalar.muli v1 c4_i32_882
  let c2_i32_883 : BitVec 32 := 2#32
  let v768 : BitVec 32 := Scalar.addi v767 c2_i32_883
  let c4_i32_884 : BitVec 32 := 4#32
  let v769 : BitVec 32 := Scalar.muli v768 c4_i32_884
  let v770 : BitVec 32 := v769
  let c51200_i32_887 : BitVec 32 := 51200#32
  ![v770.toNat, 51200]
def k0_off212 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_882 : BitVec 32 := 4#32
  let v767 : BitVec 32 := Scalar.muli v1 c4_i32_882
  let c2_i32_883 : BitVec 32 := 2#32
  let v768 : BitVec 32 := Scalar.addi v767 c2_i32_883
  let c4_i32_884 : BitVec 32 := 4#32
  let v769 : BitVec 32 := Scalar.muli v768 c4_i32_884
  let v770 : BitVec 32 := v769
  let c56320_i32_893 : BitVec 32 := 56320#32
  ![v770.toNat, 56320]
def k0_off213 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_882 : BitVec 32 := 4#32
  let v767 : BitVec 32 := Scalar.muli v1 c4_i32_882
  let c2_i32_883 : BitVec 32 := 2#32
  let v768 : BitVec 32 := Scalar.addi v767 c2_i32_883
  let c4_i32_884 : BitVec 32 := 4#32
  let v769 : BitVec 32 := Scalar.muli v768 c4_i32_884
  let v770 : BitVec 32 := v769
  let c0_i32_899 : BitVec 32 := 0#32
  ![v770.toNat, 0]
def k0_off214 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_765 : BitVec 32 := 4#32
  let v665 : BitVec 32 := Scalar.muli v1 c4_i32_765
  let c2_i32_766 : BitVec 32 := 2#32
  let v666 : BitVec 32 := Scalar.addi v665 c2_i32_766
  let c4_i32_767 : BitVec 32 := 4#32
  let v667 : BitVec 32 := Scalar.muli v666 c4_i32_767
  let v668 : BitVec 32 := v667
  let c5120_i32_905 : BitVec 32 := 5120#32
  ![v668.toNat, 5120]

def k0_chk621 (v2 : IVec S16 32) (v787 : IVec S16 32) : Prop :=
  (∀ a x, ((![v787, v2] : Fin 2 → IVec S16 32) a x).toNat < S4x2572.size a)
theorem k0_idx621_inb : ∀ (v2 : IVec S16 32) (v787 : IVec S16 32) (k0_hw621 : k0_chk621 v2 v787), ∀ a x, ((![v787, v2] : Fin 2 → IVec S16 32) a x).toNat < S4x2572.size a := fun v2 v787 k0_hw621 => k0_hw621

def k0_chk622 (v2 : IVec S16 32) (v788 : IVec S16 32) : Prop :=
  (∀ a x, ((![v788, v2] : Fin 2 → IVec S16 32) a x).toNat < S4x2572.size a)
theorem k0_idx622_inb : ∀ (v2 : IVec S16 32) (v788 : IVec S16 32) (k0_hw622 : k0_chk622 v2 v788), ∀ a x, ((![v788, v2] : Fin 2 → IVec S16 32) a x).toNat < S4x2572.size a := fun v2 v788 k0_hw622 => k0_hw622

def k0_chk623 (v2 : IVec S16 32) (v789 : IVec S16 32) : Prop :=
  (∀ a x, ((![v789, v2] : Fin 2 → IVec S16 32) a x).toNat < S4x2572.size a)
theorem k0_idx623_inb : ∀ (v2 : IVec S16 32) (v789 : IVec S16 32) (k0_hw623 : k0_chk623 v2 v789), ∀ a x, ((![v789, v2] : Fin 2 → IVec S16 32) a x).toNat < S4x2572.size a := fun v2 v789 k0_hw623 => k0_hw623

def k0_chk624 (v2 : IVec S16 32) (v790 : IVec S16 32) : Prop :=
  (∀ a x, ((![v790, v2] : Fin 2 → IVec S16 32) a x).toNat < S4x2572.size a)
theorem k0_idx624_inb : ∀ (v2 : IVec S16 32) (v790 : IVec S16 32) (k0_hw624 : k0_chk624 v2 v790), ∀ a x, ((![v790, v2] : Fin 2 → IVec S16 32) a x).toNat < S4x2572.size a := fun v2 v790 k0_hw624 => k0_hw624
def k0_off215 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_825 : BitVec 32 := 4#32
  let v718 : BitVec 32 := Scalar.muli v1 c4_i32_825
  let c2_i32_826 : BitVec 32 := 2#32
  let v719 : BitVec 32 := Scalar.addi v718 c2_i32_826
  let c4_i32_827 : BitVec 32 := 4#32
  let v720 : BitVec 32 := Scalar.muli v719 c4_i32_827
  let v721 : BitVec 32 := v720
  let c40960_i32_915 : BitVec 32 := 40960#32
  ![v721.toNat, 40960]
def k0_off216 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_825 : BitVec 32 := 4#32
  let v718 : BitVec 32 := Scalar.muli v1 c4_i32_825
  let c2_i32_826 : BitVec 32 := 2#32
  let v719 : BitVec 32 := Scalar.addi v718 c2_i32_826
  let c4_i32_827 : BitVec 32 := 4#32
  let v720 : BitVec 32 := Scalar.muli v719 c4_i32_827
  let v721 : BitVec 32 := v720
  let c46080_i32_921 : BitVec 32 := 46080#32
  ![v721.toNat, 46080]
@[reducible] def k0_t17_loop : Scf.Loop 32 :=
  let c0_i32_926 : BitVec 32 := 0#32
  let c161_i32_927 : BitVec 32 := 161#32
  let v799 : BitVec 32 := Scalar.addi c0_i32_926 c161_i32_927
  let c1_i32_928 : BitVec 32 := 1#32
  ⟨c0_i32_926, v799, c1_i32_928⟩
def k0_off217 (k0_t17 : Fin k0_t17_loop.trips) : Fin 1 → Nat :=
  let c0_i32_1327 : BitVec 32 := 0#32
  let c0_i32_926 : BitVec 32 := 0#32
  let c1_i32_928 : BitVec 32 := 1#32
  let arg21 : BitVec 32 := Scf.iv c0_i32_926 c1_i32_928 k0_t17
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1327 v1132
  let v1141 : Index := Scalar.indexCast v1140
  ![v1141.toNat]

def k0_chk625 (v1144 : IVec S16 32) (v1145 : IVec S16 32) : Prop :=
  (∀ a x, ((![v1145, v1144] : Fin 2 → IVec S16 32) a x).toNat < S4x10368.size a)
theorem k0_idx625_inb : ∀ (v1144 : IVec S16 32) (v1145 : IVec S16 32) (k0_hw625 : k0_chk625 v1144 v1145), ∀ a x, ((![v1145, v1144] : Fin 2 → IVec S16 32) a x).toNat < S4x10368.size a := fun v1144 v1145 k0_hw625 => k0_hw625

def k0_chk626 (v1144 : IVec S16 32) (v1148 : IVec S16 32) : Prop :=
  (∀ a x, ((![v1148, v1144] : Fin 2 → IVec S16 32) a x).toNat < S4x10368.size a)
theorem k0_idx626_inb : ∀ (v1144 : IVec S16 32) (v1148 : IVec S16 32) (k0_hw626 : k0_chk626 v1144 v1148), ∀ a x, ((![v1148, v1144] : Fin 2 → IVec S16 32) a x).toNat < S4x10368.size a := fun v1144 v1148 k0_hw626 => k0_hw626

def k0_chk627 (v1144 : IVec S16 32) (v1151 : IVec S16 32) : Prop :=
  (∀ a x, ((![v1151, v1144] : Fin 2 → IVec S16 32) a x).toNat < S4x10368.size a)
theorem k0_idx627_inb : ∀ (v1144 : IVec S16 32) (v1151 : IVec S16 32) (k0_hw627 : k0_chk627 v1144 v1151), ∀ a x, ((![v1151, v1144] : Fin 2 → IVec S16 32) a x).toNat < S4x10368.size a := fun v1144 v1151 k0_hw627 => k0_hw627

def k0_chk628 (v1144 : IVec S16 32) (v1154 : IVec S16 32) : Prop :=
  (∀ a x, ((![v1154, v1144] : Fin 2 → IVec S16 32) a x).toNat < S4x10368.size a)
theorem k0_idx628_inb : ∀ (v1144 : IVec S16 32) (v1154 : IVec S16 32) (k0_hw628 : k0_chk628 v1144 v1154), ∀ a x, ((![v1154, v1144] : Fin 2 → IVec S16 32) a x).toNat < S4x10368.size a := fun v1144 v1154 k0_hw628 => k0_hw628
def k0_off218 (k0_t17 : Fin k0_t17_loop.trips) : Fin 1 → Nat :=
  let c2562_i32 : BitVec 32 := 2562#32
  let c0_i32_926 : BitVec 32 := 0#32
  let c1_i32_928 : BitVec 32 := 1#32
  let arg21 : BitVec 32 := Scf.iv c0_i32_926 c1_i32_928 k0_t17
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk629 (v1161 : IVec S16 32) (v1162 : IVec S16 32) : Prop :=
  (∀ a x, ((![v1162, v1161] : Fin 2 → IVec S16 32) a x).toNat < S4x10368.size a)
theorem k0_idx629_inb : ∀ (v1161 : IVec S16 32) (v1162 : IVec S16 32) (k0_hw629 : k0_chk629 v1161 v1162), ∀ a x, ((![v1162, v1161] : Fin 2 → IVec S16 32) a x).toNat < S4x10368.size a := fun v1161 v1162 k0_hw629 => k0_hw629

def k0_chk630 (v1161 : IVec S16 32) (v1165 : IVec S16 32) : Prop :=
  (∀ a x, ((![v1165, v1161] : Fin 2 → IVec S16 32) a x).toNat < S4x10368.size a)
theorem k0_idx630_inb : ∀ (v1161 : IVec S16 32) (v1165 : IVec S16 32) (k0_hw630 : k0_chk630 v1161 v1165), ∀ a x, ((![v1165, v1161] : Fin 2 → IVec S16 32) a x).toNat < S4x10368.size a := fun v1161 v1165 k0_hw630 => k0_hw630

def k0_chk631 (v1161 : IVec S16 32) (v1168 : IVec S16 32) : Prop :=
  (∀ a x, ((![v1168, v1161] : Fin 2 → IVec S16 32) a x).toNat < S4x10368.size a)
theorem k0_idx631_inb : ∀ (v1161 : IVec S16 32) (v1168 : IVec S16 32) (k0_hw631 : k0_chk631 v1161 v1168), ∀ a x, ((![v1168, v1161] : Fin 2 → IVec S16 32) a x).toNat < S4x10368.size a := fun v1161 v1168 k0_hw631 => k0_hw631

def k0_chk632 (v1161 : IVec S16 32) (v1171 : IVec S16 32) : Prop :=
  (∀ a x, ((![v1171, v1161] : Fin 2 → IVec S16 32) a x).toNat < S4x10368.size a)
theorem k0_idx632_inb : ∀ (v1161 : IVec S16 32) (v1171 : IVec S16 32) (k0_hw632 : k0_chk632 v1161 v1171), ∀ a x, ((![v1171, v1161] : Fin 2 → IVec S16 32) a x).toNat < S4x10368.size a := fun v1161 v1171 k0_hw632 => k0_hw632
def k0_off219 (k0_t17 : Fin k0_t17_loop.trips) : Fin 1 → Nat :=
  let c5124_i32 : BitVec 32 := 5124#32
  let c0_i32_926 : BitVec 32 := 0#32
  let c1_i32_928 : BitVec 32 := 1#32
  let arg21 : BitVec 32 := Scf.iv c0_i32_926 c1_i32_928 k0_t17
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk633 (v1178 : IVec S16 32) (v1179 : IVec S16 32) : Prop :=
  (∀ a x, ((![v1179, v1178] : Fin 2 → IVec S16 32) a x).toNat < S4x10368.size a)
theorem k0_idx633_inb : ∀ (v1178 : IVec S16 32) (v1179 : IVec S16 32) (k0_hw633 : k0_chk633 v1178 v1179), ∀ a x, ((![v1179, v1178] : Fin 2 → IVec S16 32) a x).toNat < S4x10368.size a := fun v1178 v1179 k0_hw633 => k0_hw633

def k0_chk634 (v1178 : IVec S16 32) (v1182 : IVec S16 32) : Prop :=
  (∀ a x, ((![v1182, v1178] : Fin 2 → IVec S16 32) a x).toNat < S4x10368.size a)
theorem k0_idx634_inb : ∀ (v1178 : IVec S16 32) (v1182 : IVec S16 32) (k0_hw634 : k0_chk634 v1178 v1182), ∀ a x, ((![v1182, v1178] : Fin 2 → IVec S16 32) a x).toNat < S4x10368.size a := fun v1178 v1182 k0_hw634 => k0_hw634

def k0_chk635 (v1178 : IVec S16 32) (v1185 : IVec S16 32) : Prop :=
  (∀ a x, ((![v1185, v1178] : Fin 2 → IVec S16 32) a x).toNat < S4x10368.size a)
theorem k0_idx635_inb : ∀ (v1178 : IVec S16 32) (v1185 : IVec S16 32) (k0_hw635 : k0_chk635 v1178 v1185), ∀ a x, ((![v1185, v1178] : Fin 2 → IVec S16 32) a x).toNat < S4x10368.size a := fun v1178 v1185 k0_hw635 => k0_hw635

def k0_chk636 (v1178 : IVec S16 32) (v1188 : IVec S16 32) : Prop :=
  (∀ a x, ((![v1188, v1178] : Fin 2 → IVec S16 32) a x).toNat < S4x10368.size a)
theorem k0_idx636_inb : ∀ (v1178 : IVec S16 32) (v1188 : IVec S16 32) (k0_hw636 : k0_chk636 v1178 v1188), ∀ a x, ((![v1188, v1178] : Fin 2 → IVec S16 32) a x).toNat < S4x10368.size a := fun v1178 v1188 k0_hw636 => k0_hw636
def k0_off220 (k0_t17 : Fin k0_t17_loop.trips) : Fin 1 → Nat :=
  let c7686_i32 : BitVec 32 := 7686#32
  let c0_i32_926 : BitVec 32 := 0#32
  let c1_i32_928 : BitVec 32 := 1#32
  let arg21 : BitVec 32 := Scf.iv c0_i32_926 c1_i32_928 k0_t17
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk637 (v1195 : IVec S16 32) (v1196 : IVec S16 32) : Prop :=
  (∀ a x, ((![v1196, v1195] : Fin 2 → IVec S16 32) a x).toNat < S4x10368.size a)
theorem k0_idx637_inb : ∀ (v1195 : IVec S16 32) (v1196 : IVec S16 32) (k0_hw637 : k0_chk637 v1195 v1196), ∀ a x, ((![v1196, v1195] : Fin 2 → IVec S16 32) a x).toNat < S4x10368.size a := fun v1195 v1196 k0_hw637 => k0_hw637

def k0_chk638 (v1195 : IVec S16 32) (v1199 : IVec S16 32) : Prop :=
  (∀ a x, ((![v1199, v1195] : Fin 2 → IVec S16 32) a x).toNat < S4x10368.size a)
theorem k0_idx638_inb : ∀ (v1195 : IVec S16 32) (v1199 : IVec S16 32) (k0_hw638 : k0_chk638 v1195 v1199), ∀ a x, ((![v1199, v1195] : Fin 2 → IVec S16 32) a x).toNat < S4x10368.size a := fun v1195 v1199 k0_hw638 => k0_hw638

def k0_chk639 (v1195 : IVec S16 32) (v1202 : IVec S16 32) : Prop :=
  (∀ a x, ((![v1202, v1195] : Fin 2 → IVec S16 32) a x).toNat < S4x10368.size a)
theorem k0_idx639_inb : ∀ (v1195 : IVec S16 32) (v1202 : IVec S16 32) (k0_hw639 : k0_chk639 v1195 v1202), ∀ a x, ((![v1202, v1195] : Fin 2 → IVec S16 32) a x).toNat < S4x10368.size a := fun v1195 v1202 k0_hw639 => k0_hw639

def k0_chk640 (v1195 : IVec S16 32) (v1205 : IVec S16 32) : Prop :=
  (∀ a x, ((![v1205, v1195] : Fin 2 → IVec S16 32) a x).toNat < S4x10368.size a)
theorem k0_idx640_inb : ∀ (v1195 : IVec S16 32) (v1205 : IVec S16 32) (k0_hw640 : k0_chk640 v1195 v1205), ∀ a x, ((![v1205, v1195] : Fin 2 → IVec S16 32) a x).toNat < S4x10368.size a := fun v1195 v1205 k0_hw640 => k0_hw640
def k0_off221 (k0_t17 : Fin k0_t17_loop.trips) : Fin 1 → Nat :=
  let c10248_i32 : BitVec 32 := 10248#32
  let c0_i32_926 : BitVec 32 := 0#32
  let c1_i32_928 : BitVec 32 := 1#32
  let arg21 : BitVec 32 := Scf.iv c0_i32_926 c1_i32_928 k0_t17
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk641 (v1212 : IVec S16 32) (v1213 : IVec S16 32) : Prop :=
  (∀ a x, ((![v1213, v1212] : Fin 2 → IVec S16 32) a x).toNat < S4x10368.size a)
theorem k0_idx641_inb : ∀ (v1212 : IVec S16 32) (v1213 : IVec S16 32) (k0_hw641 : k0_chk641 v1212 v1213), ∀ a x, ((![v1213, v1212] : Fin 2 → IVec S16 32) a x).toNat < S4x10368.size a := fun v1212 v1213 k0_hw641 => k0_hw641

def k0_chk642 (v1212 : IVec S16 32) (v1216 : IVec S16 32) : Prop :=
  (∀ a x, ((![v1216, v1212] : Fin 2 → IVec S16 32) a x).toNat < S4x10368.size a)
theorem k0_idx642_inb : ∀ (v1212 : IVec S16 32) (v1216 : IVec S16 32) (k0_hw642 : k0_chk642 v1212 v1216), ∀ a x, ((![v1216, v1212] : Fin 2 → IVec S16 32) a x).toNat < S4x10368.size a := fun v1212 v1216 k0_hw642 => k0_hw642

def k0_chk643 (v1212 : IVec S16 32) (v1219 : IVec S16 32) : Prop :=
  (∀ a x, ((![v1219, v1212] : Fin 2 → IVec S16 32) a x).toNat < S4x10368.size a)
theorem k0_idx643_inb : ∀ (v1212 : IVec S16 32) (v1219 : IVec S16 32) (k0_hw643 : k0_chk643 v1212 v1219), ∀ a x, ((![v1219, v1212] : Fin 2 → IVec S16 32) a x).toNat < S4x10368.size a := fun v1212 v1219 k0_hw643 => k0_hw643

def k0_chk644 (v1212 : IVec S16 32) (v1222 : IVec S16 32) : Prop :=
  (∀ a x, ((![v1222, v1212] : Fin 2 → IVec S16 32) a x).toNat < S4x10368.size a)
theorem k0_idx644_inb : ∀ (v1212 : IVec S16 32) (v1222 : IVec S16 32) (k0_hw644 : k0_chk644 v1212 v1222), ∀ a x, ((![v1222, v1212] : Fin 2 → IVec S16 32) a x).toNat < S4x10368.size a := fun v1212 v1222 k0_hw644 => k0_hw644
def k0_off222 (k0_t17 : Fin k0_t17_loop.trips) : Fin 1 → Nat :=
  let c12810_i32 : BitVec 32 := 12810#32
  let c0_i32_926 : BitVec 32 := 0#32
  let c1_i32_928 : BitVec 32 := 1#32
  let arg21 : BitVec 32 := Scf.iv c0_i32_926 c1_i32_928 k0_t17
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk645 (v1229 : IVec S16 32) (v1230 : IVec S16 32) : Prop :=
  (∀ a x, ((![v1230, v1229] : Fin 2 → IVec S16 32) a x).toNat < S4x10368.size a)
theorem k0_idx645_inb : ∀ (v1229 : IVec S16 32) (v1230 : IVec S16 32) (k0_hw645 : k0_chk645 v1229 v1230), ∀ a x, ((![v1230, v1229] : Fin 2 → IVec S16 32) a x).toNat < S4x10368.size a := fun v1229 v1230 k0_hw645 => k0_hw645

def k0_chk646 (v1229 : IVec S16 32) (v1233 : IVec S16 32) : Prop :=
  (∀ a x, ((![v1233, v1229] : Fin 2 → IVec S16 32) a x).toNat < S4x10368.size a)
theorem k0_idx646_inb : ∀ (v1229 : IVec S16 32) (v1233 : IVec S16 32) (k0_hw646 : k0_chk646 v1229 v1233), ∀ a x, ((![v1233, v1229] : Fin 2 → IVec S16 32) a x).toNat < S4x10368.size a := fun v1229 v1233 k0_hw646 => k0_hw646

def k0_chk647 (v1229 : IVec S16 32) (v1236 : IVec S16 32) : Prop :=
  (∀ a x, ((![v1236, v1229] : Fin 2 → IVec S16 32) a x).toNat < S4x10368.size a)
theorem k0_idx647_inb : ∀ (v1229 : IVec S16 32) (v1236 : IVec S16 32) (k0_hw647 : k0_chk647 v1229 v1236), ∀ a x, ((![v1236, v1229] : Fin 2 → IVec S16 32) a x).toNat < S4x10368.size a := fun v1229 v1236 k0_hw647 => k0_hw647

def k0_chk648 (v1229 : IVec S16 32) (v1239 : IVec S16 32) : Prop :=
  (∀ a x, ((![v1239, v1229] : Fin 2 → IVec S16 32) a x).toNat < S4x10368.size a)
theorem k0_idx648_inb : ∀ (v1229 : IVec S16 32) (v1239 : IVec S16 32) (k0_hw648 : k0_chk648 v1229 v1239), ∀ a x, ((![v1239, v1229] : Fin 2 → IVec S16 32) a x).toNat < S4x10368.size a := fun v1229 v1239 k0_hw648 => k0_hw648
def k0_off223 (k0_t17 : Fin k0_t17_loop.trips) : Fin 1 → Nat :=
  let c15372_i32 : BitVec 32 := 15372#32
  let c0_i32_926 : BitVec 32 := 0#32
  let c1_i32_928 : BitVec 32 := 1#32
  let arg21 : BitVec 32 := Scf.iv c0_i32_926 c1_i32_928 k0_t17
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk649 (v1246 : IVec S16 32) (v1247 : IVec S16 32) : Prop :=
  (∀ a x, ((![v1247, v1246] : Fin 2 → IVec S16 32) a x).toNat < S4x10368.size a)
theorem k0_idx649_inb : ∀ (v1246 : IVec S16 32) (v1247 : IVec S16 32) (k0_hw649 : k0_chk649 v1246 v1247), ∀ a x, ((![v1247, v1246] : Fin 2 → IVec S16 32) a x).toNat < S4x10368.size a := fun v1246 v1247 k0_hw649 => k0_hw649

def k0_chk650 (v1246 : IVec S16 32) (v1250 : IVec S16 32) : Prop :=
  (∀ a x, ((![v1250, v1246] : Fin 2 → IVec S16 32) a x).toNat < S4x10368.size a)
theorem k0_idx650_inb : ∀ (v1246 : IVec S16 32) (v1250 : IVec S16 32) (k0_hw650 : k0_chk650 v1246 v1250), ∀ a x, ((![v1250, v1246] : Fin 2 → IVec S16 32) a x).toNat < S4x10368.size a := fun v1246 v1250 k0_hw650 => k0_hw650

def k0_chk651 (v1246 : IVec S16 32) (v1253 : IVec S16 32) : Prop :=
  (∀ a x, ((![v1253, v1246] : Fin 2 → IVec S16 32) a x).toNat < S4x10368.size a)
theorem k0_idx651_inb : ∀ (v1246 : IVec S16 32) (v1253 : IVec S16 32) (k0_hw651 : k0_chk651 v1246 v1253), ∀ a x, ((![v1253, v1246] : Fin 2 → IVec S16 32) a x).toNat < S4x10368.size a := fun v1246 v1253 k0_hw651 => k0_hw651

def k0_chk652 (v1246 : IVec S16 32) (v1256 : IVec S16 32) : Prop :=
  (∀ a x, ((![v1256, v1246] : Fin 2 → IVec S16 32) a x).toNat < S4x10368.size a)
theorem k0_idx652_inb : ∀ (v1246 : IVec S16 32) (v1256 : IVec S16 32) (k0_hw652 : k0_chk652 v1246 v1256), ∀ a x, ((![v1256, v1246] : Fin 2 → IVec S16 32) a x).toNat < S4x10368.size a := fun v1246 v1256 k0_hw652 => k0_hw652

def k0_chk653 (v1135 : IVec S16 32) (v1259 : IVec S16 32) : Prop :=
  (∀ a x, ((![v1259, v1135] : Fin 2 → IVec S16 32) a x).toNat < S4x2572.size a)
theorem k0_idx653_inb : ∀ (v1135 : IVec S16 32) (v1259 : IVec S16 32) (k0_hw653 : k0_chk653 v1135 v1259), ∀ a x, ((![v1259, v1135] : Fin 2 → IVec S16 32) a x).toNat < S4x2572.size a := fun v1135 v1259 k0_hw653 => k0_hw653

def k0_chk654 (v1135 : IVec S16 32) (v1262 : IVec S16 32) : Prop :=
  (∀ a x, ((![v1262, v1135] : Fin 2 → IVec S16 32) a x).toNat < S4x2572.size a)
theorem k0_idx654_inb : ∀ (v1135 : IVec S16 32) (v1262 : IVec S16 32) (k0_hw654 : k0_chk654 v1135 v1262), ∀ a x, ((![v1262, v1135] : Fin 2 → IVec S16 32) a x).toNat < S4x2572.size a := fun v1135 v1262 k0_hw654 => k0_hw654

def k0_chk655 (v1135 : IVec S16 32) (v1265 : IVec S16 32) : Prop :=
  (∀ a x, ((![v1265, v1135] : Fin 2 → IVec S16 32) a x).toNat < S4x2572.size a)
theorem k0_idx655_inb : ∀ (v1135 : IVec S16 32) (v1265 : IVec S16 32) (k0_hw655 : k0_chk655 v1135 v1265), ∀ a x, ((![v1265, v1135] : Fin 2 → IVec S16 32) a x).toNat < S4x2572.size a := fun v1135 v1265 k0_hw655 => k0_hw655

def k0_chk656 (v1135 : IVec S16 32) (v1268 : IVec S16 32) : Prop :=
  (∀ a x, ((![v1268, v1135] : Fin 2 → IVec S16 32) a x).toNat < S4x2572.size a)
theorem k0_idx656_inb : ∀ (v1135 : IVec S16 32) (v1268 : IVec S16 32) (k0_hw656 : k0_chk656 v1135 v1268), ∀ a x, ((![v1268, v1135] : Fin 2 → IVec S16 32) a x).toNat < S4x2572.size a := fun v1135 v1268 k0_hw656 => k0_hw656

def k0_chk657 (v803 : IVec S16 32) (v804 : IVec S16 32) : Prop :=
  (∀ a x, ((![v804, v803] : Fin 2 → IVec S16 32) a x).toNat < S4x2572.size a)
theorem k0_idx657_inb : ∀ (v803 : IVec S16 32) (v804 : IVec S16 32) (k0_hw657 : k0_chk657 v803 v804), ∀ a x, ((![v804, v803] : Fin 2 → IVec S16 32) a x).toNat < S4x2572.size a := fun v803 v804 k0_hw657 => k0_hw657

def k0_chk658 (v803 : IVec S16 32) (v806 : IVec S16 32) : Prop :=
  (∀ a x, ((![v806, v803] : Fin 2 → IVec S16 32) a x).toNat < S4x2572.size a)
theorem k0_idx658_inb : ∀ (v803 : IVec S16 32) (v806 : IVec S16 32) (k0_hw658 : k0_chk658 v803 v806), ∀ a x, ((![v806, v803] : Fin 2 → IVec S16 32) a x).toNat < S4x2572.size a := fun v803 v806 k0_hw658 => k0_hw658

def k0_chk659 (v803 : IVec S16 32) (v808 : IVec S16 32) : Prop :=
  (∀ a x, ((![v808, v803] : Fin 2 → IVec S16 32) a x).toNat < S4x2572.size a)
theorem k0_idx659_inb : ∀ (v803 : IVec S16 32) (v808 : IVec S16 32) (k0_hw659 : k0_chk659 v803 v808), ∀ a x, ((![v808, v803] : Fin 2 → IVec S16 32) a x).toNat < S4x2572.size a := fun v803 v808 k0_hw659 => k0_hw659

def k0_chk660 (v803 : IVec S16 32) (v810 : IVec S16 32) : Prop :=
  (∀ a x, ((![v810, v803] : Fin 2 → IVec S16 32) a x).toNat < S4x2572.size a)
theorem k0_idx660_inb : ∀ (v803 : IVec S16 32) (v810 : IVec S16 32) (k0_hw660 : k0_chk660 v803 v810), ∀ a x, ((![v810, v803] : Fin 2 → IVec S16 32) a x).toNat < S4x2572.size a := fun v803 v810 k0_hw660 => k0_hw660
def k0_off224 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_879 : BitVec 32 := 4#32
  let v763 : BitVec 32 := Scalar.muli v1 c4_i32_879
  let c2_i32_880 : BitVec 32 := 2#32
  let v764 : BitVec 32 := Scalar.addi v763 c2_i32_880
  let c4_i32_881 : BitVec 32 := 4#32
  let v765 : BitVec 32 := Scalar.muli v764 c4_i32_881
  let v766 : BitVec 32 := v765
  let c10240_i32_938 : BitVec 32 := 10240#32
  ![v766.toNat, 10240]
def k0_mult36 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_942 : BitVec 32 := 4#32
  let v816 : BitVec 32 := Scalar.muli v1 c4_i32_942
  let c2_i32_943 : BitVec 32 := 2#32
  let v817 : BitVec 32 := Scalar.addi v816 c2_i32_943
  let c4_i32_944 : BitVec 32 := 4#32
  let v818 : BitVec 32 := Scalar.muli v817 c4_i32_944
  v818
def k0_mult37 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_945 : BitVec 32 := 4#32
  let v820 : BitVec 32 := Scalar.muli v1 c4_i32_945
  let c3_i32_946 : BitVec 32 := 3#32
  let v821 : BitVec 32 := Scalar.addi v820 c3_i32_946
  let c4_i32_947 : BitVec 32 := 4#32
  let v822 : BitVec 32 := Scalar.muli v821 c4_i32_947
  v822
def k0_off225 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_945 : BitVec 32 := 4#32
  let v820 : BitVec 32 := Scalar.muli v1 c4_i32_945
  let c3_i32_946 : BitVec 32 := 3#32
  let v821 : BitVec 32 := Scalar.addi v820 c3_i32_946
  let c4_i32_947 : BitVec 32 := 4#32
  let v822 : BitVec 32 := Scalar.muli v821 c4_i32_947
  let v823 : BitVec 32 := v822
  let c0_i32_950 : BitVec 32 := 0#32
  ![v823.toNat, 0]
def k0_off226 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_945 : BitVec 32 := 4#32
  let v820 : BitVec 32 := Scalar.muli v1 c4_i32_945
  let c3_i32_946 : BitVec 32 := 3#32
  let v821 : BitVec 32 := Scalar.addi v820 c3_i32_946
  let c4_i32_947 : BitVec 32 := 4#32
  let v822 : BitVec 32 := Scalar.muli v821 c4_i32_947
  let v823 : BitVec 32 := v822
  let c5120_i32_956 : BitVec 32 := 5120#32
  ![v823.toNat, 5120]
def k0_off227 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_822 : BitVec 32 := 4#32
  let v714 : BitVec 32 := Scalar.muli v1 c4_i32_822
  let c2_i32_823 : BitVec 32 := 2#32
  let v715 : BitVec 32 := Scalar.addi v714 c2_i32_823
  let c4_i32_824 : BitVec 32 := 4#32
  let v716 : BitVec 32 := Scalar.muli v715 c4_i32_824
  let v717 : BitVec 32 := v716
  let c7680_i32_962 : BitVec 32 := 7680#32
  ![v717.toNat, 7680]

def k0_chk661 (v2 : IVec S16 32) (v836 : IVec S16 32) : Prop :=
  (∀ a x, ((![v836, v2] : Fin 2 → IVec S16 32) a x).toNat < S4x2572.size a)
theorem k0_idx661_inb : ∀ (v2 : IVec S16 32) (v836 : IVec S16 32) (k0_hw661 : k0_chk661 v2 v836), ∀ a x, ((![v836, v2] : Fin 2 → IVec S16 32) a x).toNat < S4x2572.size a := fun v2 v836 k0_hw661 => k0_hw661

def k0_chk662 (v2 : IVec S16 32) (v837 : IVec S16 32) : Prop :=
  (∀ a x, ((![v837, v2] : Fin 2 → IVec S16 32) a x).toNat < S4x2572.size a)
theorem k0_idx662_inb : ∀ (v2 : IVec S16 32) (v837 : IVec S16 32) (k0_hw662 : k0_chk662 v2 v837), ∀ a x, ((![v837, v2] : Fin 2 → IVec S16 32) a x).toNat < S4x2572.size a := fun v2 v837 k0_hw662 => k0_hw662

def k0_chk663 (v2 : IVec S16 32) (v838 : IVec S16 32) : Prop :=
  (∀ a x, ((![v838, v2] : Fin 2 → IVec S16 32) a x).toNat < S4x2572.size a)
theorem k0_idx663_inb : ∀ (v2 : IVec S16 32) (v838 : IVec S16 32) (k0_hw663 : k0_chk663 v2 v838), ∀ a x, ((![v838, v2] : Fin 2 → IVec S16 32) a x).toNat < S4x2572.size a := fun v2 v838 k0_hw663 => k0_hw663

def k0_chk664 (v2 : IVec S16 32) (v839 : IVec S16 32) : Prop :=
  (∀ a x, ((![v839, v2] : Fin 2 → IVec S16 32) a x).toNat < S4x2572.size a)
theorem k0_idx664_inb : ∀ (v2 : IVec S16 32) (v839 : IVec S16 32) (k0_hw664 : k0_chk664 v2 v839), ∀ a x, ((![v839, v2] : Fin 2 → IVec S16 32) a x).toNat < S4x2572.size a := fun v2 v839 k0_hw664 => k0_hw664
def k0_off228 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_882 : BitVec 32 := 4#32
  let v767 : BitVec 32 := Scalar.muli v1 c4_i32_882
  let c2_i32_883 : BitVec 32 := 2#32
  let v768 : BitVec 32 := Scalar.addi v767 c2_i32_883
  let c4_i32_884 : BitVec 32 := 4#32
  let v769 : BitVec 32 := Scalar.muli v768 c4_i32_884
  let v770 : BitVec 32 := v769
  let c51200_i32_972 : BitVec 32 := 51200#32
  ![v770.toNat, 51200]
def k0_off229 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_882 : BitVec 32 := 4#32
  let v767 : BitVec 32 := Scalar.muli v1 c4_i32_882
  let c2_i32_883 : BitVec 32 := 2#32
  let v768 : BitVec 32 := Scalar.addi v767 c2_i32_883
  let c4_i32_884 : BitVec 32 := 4#32
  let v769 : BitVec 32 := Scalar.muli v768 c4_i32_884
  let v770 : BitVec 32 := v769
  let c56320_i32_978 : BitVec 32 := 56320#32
  ![v770.toNat, 56320]
def k0_off230 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_882 : BitVec 32 := 4#32
  let v767 : BitVec 32 := Scalar.muli v1 c4_i32_882
  let c2_i32_883 : BitVec 32 := 2#32
  let v768 : BitVec 32 := Scalar.addi v767 c2_i32_883
  let c4_i32_884 : BitVec 32 := 4#32
  let v769 : BitVec 32 := Scalar.muli v768 c4_i32_884
  let v770 : BitVec 32 := v769
  let c0_i32_984 : BitVec 32 := 0#32
  ![v770.toNat, 0]
@[reducible] def k0_t18_loop : Scf.Loop 32 :=
  let c0_i32_989 : BitVec 32 := 0#32
  let c161_i32_990 : BitVec 32 := 161#32
  let v852 : BitVec 32 := Scalar.addi c0_i32_989 c161_i32_990
  let c1_i32_991 : BitVec 32 := 1#32
  ⟨c0_i32_989, v852, c1_i32_991⟩
def k0_off231 (k0_t18 : Fin k0_t18_loop.trips) : Fin 1 → Nat :=
  let c0_i32_1327 : BitVec 32 := 0#32
  let c0_i32_989 : BitVec 32 := 0#32
  let c1_i32_991 : BitVec 32 := 1#32
  let arg21 : BitVec 32 := Scf.iv c0_i32_989 c1_i32_991 k0_t18
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1327 v1132
  let v1141 : Index := Scalar.indexCast v1140
  ![v1141.toNat]

def k0_chk665 (v1144 : IVec S16 32) (v1145 : IVec S16 32) : Prop :=
  (∀ a x, ((![v1145, v1144] : Fin 2 → IVec S16 32) a x).toNat < S4x10368.size a)
theorem k0_idx665_inb : ∀ (v1144 : IVec S16 32) (v1145 : IVec S16 32) (k0_hw665 : k0_chk665 v1144 v1145), ∀ a x, ((![v1145, v1144] : Fin 2 → IVec S16 32) a x).toNat < S4x10368.size a := fun v1144 v1145 k0_hw665 => k0_hw665

def k0_chk666 (v1144 : IVec S16 32) (v1148 : IVec S16 32) : Prop :=
  (∀ a x, ((![v1148, v1144] : Fin 2 → IVec S16 32) a x).toNat < S4x10368.size a)
theorem k0_idx666_inb : ∀ (v1144 : IVec S16 32) (v1148 : IVec S16 32) (k0_hw666 : k0_chk666 v1144 v1148), ∀ a x, ((![v1148, v1144] : Fin 2 → IVec S16 32) a x).toNat < S4x10368.size a := fun v1144 v1148 k0_hw666 => k0_hw666

def k0_chk667 (v1144 : IVec S16 32) (v1151 : IVec S16 32) : Prop :=
  (∀ a x, ((![v1151, v1144] : Fin 2 → IVec S16 32) a x).toNat < S4x10368.size a)
theorem k0_idx667_inb : ∀ (v1144 : IVec S16 32) (v1151 : IVec S16 32) (k0_hw667 : k0_chk667 v1144 v1151), ∀ a x, ((![v1151, v1144] : Fin 2 → IVec S16 32) a x).toNat < S4x10368.size a := fun v1144 v1151 k0_hw667 => k0_hw667

def k0_chk668 (v1144 : IVec S16 32) (v1154 : IVec S16 32) : Prop :=
  (∀ a x, ((![v1154, v1144] : Fin 2 → IVec S16 32) a x).toNat < S4x10368.size a)
theorem k0_idx668_inb : ∀ (v1144 : IVec S16 32) (v1154 : IVec S16 32) (k0_hw668 : k0_chk668 v1144 v1154), ∀ a x, ((![v1154, v1144] : Fin 2 → IVec S16 32) a x).toNat < S4x10368.size a := fun v1144 v1154 k0_hw668 => k0_hw668
def k0_off232 (k0_t18 : Fin k0_t18_loop.trips) : Fin 1 → Nat :=
  let c2562_i32 : BitVec 32 := 2562#32
  let c0_i32_989 : BitVec 32 := 0#32
  let c1_i32_991 : BitVec 32 := 1#32
  let arg21 : BitVec 32 := Scf.iv c0_i32_989 c1_i32_991 k0_t18
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk669 (v1161 : IVec S16 32) (v1162 : IVec S16 32) : Prop :=
  (∀ a x, ((![v1162, v1161] : Fin 2 → IVec S16 32) a x).toNat < S4x10368.size a)
theorem k0_idx669_inb : ∀ (v1161 : IVec S16 32) (v1162 : IVec S16 32) (k0_hw669 : k0_chk669 v1161 v1162), ∀ a x, ((![v1162, v1161] : Fin 2 → IVec S16 32) a x).toNat < S4x10368.size a := fun v1161 v1162 k0_hw669 => k0_hw669

def k0_chk670 (v1161 : IVec S16 32) (v1165 : IVec S16 32) : Prop :=
  (∀ a x, ((![v1165, v1161] : Fin 2 → IVec S16 32) a x).toNat < S4x10368.size a)
theorem k0_idx670_inb : ∀ (v1161 : IVec S16 32) (v1165 : IVec S16 32) (k0_hw670 : k0_chk670 v1161 v1165), ∀ a x, ((![v1165, v1161] : Fin 2 → IVec S16 32) a x).toNat < S4x10368.size a := fun v1161 v1165 k0_hw670 => k0_hw670

def k0_chk671 (v1161 : IVec S16 32) (v1168 : IVec S16 32) : Prop :=
  (∀ a x, ((![v1168, v1161] : Fin 2 → IVec S16 32) a x).toNat < S4x10368.size a)
theorem k0_idx671_inb : ∀ (v1161 : IVec S16 32) (v1168 : IVec S16 32) (k0_hw671 : k0_chk671 v1161 v1168), ∀ a x, ((![v1168, v1161] : Fin 2 → IVec S16 32) a x).toNat < S4x10368.size a := fun v1161 v1168 k0_hw671 => k0_hw671

def k0_chk672 (v1161 : IVec S16 32) (v1171 : IVec S16 32) : Prop :=
  (∀ a x, ((![v1171, v1161] : Fin 2 → IVec S16 32) a x).toNat < S4x10368.size a)
theorem k0_idx672_inb : ∀ (v1161 : IVec S16 32) (v1171 : IVec S16 32) (k0_hw672 : k0_chk672 v1161 v1171), ∀ a x, ((![v1171, v1161] : Fin 2 → IVec S16 32) a x).toNat < S4x10368.size a := fun v1161 v1171 k0_hw672 => k0_hw672
def k0_off233 (k0_t18 : Fin k0_t18_loop.trips) : Fin 1 → Nat :=
  let c5124_i32 : BitVec 32 := 5124#32
  let c0_i32_989 : BitVec 32 := 0#32
  let c1_i32_991 : BitVec 32 := 1#32
  let arg21 : BitVec 32 := Scf.iv c0_i32_989 c1_i32_991 k0_t18
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk673 (v1178 : IVec S16 32) (v1179 : IVec S16 32) : Prop :=
  (∀ a x, ((![v1179, v1178] : Fin 2 → IVec S16 32) a x).toNat < S4x10368.size a)
theorem k0_idx673_inb : ∀ (v1178 : IVec S16 32) (v1179 : IVec S16 32) (k0_hw673 : k0_chk673 v1178 v1179), ∀ a x, ((![v1179, v1178] : Fin 2 → IVec S16 32) a x).toNat < S4x10368.size a := fun v1178 v1179 k0_hw673 => k0_hw673

def k0_chk674 (v1178 : IVec S16 32) (v1182 : IVec S16 32) : Prop :=
  (∀ a x, ((![v1182, v1178] : Fin 2 → IVec S16 32) a x).toNat < S4x10368.size a)
theorem k0_idx674_inb : ∀ (v1178 : IVec S16 32) (v1182 : IVec S16 32) (k0_hw674 : k0_chk674 v1178 v1182), ∀ a x, ((![v1182, v1178] : Fin 2 → IVec S16 32) a x).toNat < S4x10368.size a := fun v1178 v1182 k0_hw674 => k0_hw674

def k0_chk675 (v1178 : IVec S16 32) (v1185 : IVec S16 32) : Prop :=
  (∀ a x, ((![v1185, v1178] : Fin 2 → IVec S16 32) a x).toNat < S4x10368.size a)
theorem k0_idx675_inb : ∀ (v1178 : IVec S16 32) (v1185 : IVec S16 32) (k0_hw675 : k0_chk675 v1178 v1185), ∀ a x, ((![v1185, v1178] : Fin 2 → IVec S16 32) a x).toNat < S4x10368.size a := fun v1178 v1185 k0_hw675 => k0_hw675

def k0_chk676 (v1178 : IVec S16 32) (v1188 : IVec S16 32) : Prop :=
  (∀ a x, ((![v1188, v1178] : Fin 2 → IVec S16 32) a x).toNat < S4x10368.size a)
theorem k0_idx676_inb : ∀ (v1178 : IVec S16 32) (v1188 : IVec S16 32) (k0_hw676 : k0_chk676 v1178 v1188), ∀ a x, ((![v1188, v1178] : Fin 2 → IVec S16 32) a x).toNat < S4x10368.size a := fun v1178 v1188 k0_hw676 => k0_hw676
def k0_off234 (k0_t18 : Fin k0_t18_loop.trips) : Fin 1 → Nat :=
  let c7686_i32 : BitVec 32 := 7686#32
  let c0_i32_989 : BitVec 32 := 0#32
  let c1_i32_991 : BitVec 32 := 1#32
  let arg21 : BitVec 32 := Scf.iv c0_i32_989 c1_i32_991 k0_t18
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk677 (v1195 : IVec S16 32) (v1196 : IVec S16 32) : Prop :=
  (∀ a x, ((![v1196, v1195] : Fin 2 → IVec S16 32) a x).toNat < S4x10368.size a)
theorem k0_idx677_inb : ∀ (v1195 : IVec S16 32) (v1196 : IVec S16 32) (k0_hw677 : k0_chk677 v1195 v1196), ∀ a x, ((![v1196, v1195] : Fin 2 → IVec S16 32) a x).toNat < S4x10368.size a := fun v1195 v1196 k0_hw677 => k0_hw677

def k0_chk678 (v1195 : IVec S16 32) (v1199 : IVec S16 32) : Prop :=
  (∀ a x, ((![v1199, v1195] : Fin 2 → IVec S16 32) a x).toNat < S4x10368.size a)
theorem k0_idx678_inb : ∀ (v1195 : IVec S16 32) (v1199 : IVec S16 32) (k0_hw678 : k0_chk678 v1195 v1199), ∀ a x, ((![v1199, v1195] : Fin 2 → IVec S16 32) a x).toNat < S4x10368.size a := fun v1195 v1199 k0_hw678 => k0_hw678

def k0_chk679 (v1195 : IVec S16 32) (v1202 : IVec S16 32) : Prop :=
  (∀ a x, ((![v1202, v1195] : Fin 2 → IVec S16 32) a x).toNat < S4x10368.size a)
theorem k0_idx679_inb : ∀ (v1195 : IVec S16 32) (v1202 : IVec S16 32) (k0_hw679 : k0_chk679 v1195 v1202), ∀ a x, ((![v1202, v1195] : Fin 2 → IVec S16 32) a x).toNat < S4x10368.size a := fun v1195 v1202 k0_hw679 => k0_hw679

def k0_chk680 (v1195 : IVec S16 32) (v1205 : IVec S16 32) : Prop :=
  (∀ a x, ((![v1205, v1195] : Fin 2 → IVec S16 32) a x).toNat < S4x10368.size a)
theorem k0_idx680_inb : ∀ (v1195 : IVec S16 32) (v1205 : IVec S16 32) (k0_hw680 : k0_chk680 v1195 v1205), ∀ a x, ((![v1205, v1195] : Fin 2 → IVec S16 32) a x).toNat < S4x10368.size a := fun v1195 v1205 k0_hw680 => k0_hw680
def k0_off235 (k0_t18 : Fin k0_t18_loop.trips) : Fin 1 → Nat :=
  let c10248_i32 : BitVec 32 := 10248#32
  let c0_i32_989 : BitVec 32 := 0#32
  let c1_i32_991 : BitVec 32 := 1#32
  let arg21 : BitVec 32 := Scf.iv c0_i32_989 c1_i32_991 k0_t18
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk681 (v1212 : IVec S16 32) (v1213 : IVec S16 32) : Prop :=
  (∀ a x, ((![v1213, v1212] : Fin 2 → IVec S16 32) a x).toNat < S4x10368.size a)
theorem k0_idx681_inb : ∀ (v1212 : IVec S16 32) (v1213 : IVec S16 32) (k0_hw681 : k0_chk681 v1212 v1213), ∀ a x, ((![v1213, v1212] : Fin 2 → IVec S16 32) a x).toNat < S4x10368.size a := fun v1212 v1213 k0_hw681 => k0_hw681

def k0_chk682 (v1212 : IVec S16 32) (v1216 : IVec S16 32) : Prop :=
  (∀ a x, ((![v1216, v1212] : Fin 2 → IVec S16 32) a x).toNat < S4x10368.size a)
theorem k0_idx682_inb : ∀ (v1212 : IVec S16 32) (v1216 : IVec S16 32) (k0_hw682 : k0_chk682 v1212 v1216), ∀ a x, ((![v1216, v1212] : Fin 2 → IVec S16 32) a x).toNat < S4x10368.size a := fun v1212 v1216 k0_hw682 => k0_hw682

def k0_chk683 (v1212 : IVec S16 32) (v1219 : IVec S16 32) : Prop :=
  (∀ a x, ((![v1219, v1212] : Fin 2 → IVec S16 32) a x).toNat < S4x10368.size a)
theorem k0_idx683_inb : ∀ (v1212 : IVec S16 32) (v1219 : IVec S16 32) (k0_hw683 : k0_chk683 v1212 v1219), ∀ a x, ((![v1219, v1212] : Fin 2 → IVec S16 32) a x).toNat < S4x10368.size a := fun v1212 v1219 k0_hw683 => k0_hw683

def k0_chk684 (v1212 : IVec S16 32) (v1222 : IVec S16 32) : Prop :=
  (∀ a x, ((![v1222, v1212] : Fin 2 → IVec S16 32) a x).toNat < S4x10368.size a)
theorem k0_idx684_inb : ∀ (v1212 : IVec S16 32) (v1222 : IVec S16 32) (k0_hw684 : k0_chk684 v1212 v1222), ∀ a x, ((![v1222, v1212] : Fin 2 → IVec S16 32) a x).toNat < S4x10368.size a := fun v1212 v1222 k0_hw684 => k0_hw684
def k0_off236 (k0_t18 : Fin k0_t18_loop.trips) : Fin 1 → Nat :=
  let c12810_i32 : BitVec 32 := 12810#32
  let c0_i32_989 : BitVec 32 := 0#32
  let c1_i32_991 : BitVec 32 := 1#32
  let arg21 : BitVec 32 := Scf.iv c0_i32_989 c1_i32_991 k0_t18
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk685 (v1229 : IVec S16 32) (v1230 : IVec S16 32) : Prop :=
  (∀ a x, ((![v1230, v1229] : Fin 2 → IVec S16 32) a x).toNat < S4x10368.size a)
theorem k0_idx685_inb : ∀ (v1229 : IVec S16 32) (v1230 : IVec S16 32) (k0_hw685 : k0_chk685 v1229 v1230), ∀ a x, ((![v1230, v1229] : Fin 2 → IVec S16 32) a x).toNat < S4x10368.size a := fun v1229 v1230 k0_hw685 => k0_hw685

def k0_chk686 (v1229 : IVec S16 32) (v1233 : IVec S16 32) : Prop :=
  (∀ a x, ((![v1233, v1229] : Fin 2 → IVec S16 32) a x).toNat < S4x10368.size a)
theorem k0_idx686_inb : ∀ (v1229 : IVec S16 32) (v1233 : IVec S16 32) (k0_hw686 : k0_chk686 v1229 v1233), ∀ a x, ((![v1233, v1229] : Fin 2 → IVec S16 32) a x).toNat < S4x10368.size a := fun v1229 v1233 k0_hw686 => k0_hw686

def k0_chk687 (v1229 : IVec S16 32) (v1236 : IVec S16 32) : Prop :=
  (∀ a x, ((![v1236, v1229] : Fin 2 → IVec S16 32) a x).toNat < S4x10368.size a)
theorem k0_idx687_inb : ∀ (v1229 : IVec S16 32) (v1236 : IVec S16 32) (k0_hw687 : k0_chk687 v1229 v1236), ∀ a x, ((![v1236, v1229] : Fin 2 → IVec S16 32) a x).toNat < S4x10368.size a := fun v1229 v1236 k0_hw687 => k0_hw687

def k0_chk688 (v1229 : IVec S16 32) (v1239 : IVec S16 32) : Prop :=
  (∀ a x, ((![v1239, v1229] : Fin 2 → IVec S16 32) a x).toNat < S4x10368.size a)
theorem k0_idx688_inb : ∀ (v1229 : IVec S16 32) (v1239 : IVec S16 32) (k0_hw688 : k0_chk688 v1229 v1239), ∀ a x, ((![v1239, v1229] : Fin 2 → IVec S16 32) a x).toNat < S4x10368.size a := fun v1229 v1239 k0_hw688 => k0_hw688
def k0_off237 (k0_t18 : Fin k0_t18_loop.trips) : Fin 1 → Nat :=
  let c15372_i32 : BitVec 32 := 15372#32
  let c0_i32_989 : BitVec 32 := 0#32
  let c1_i32_991 : BitVec 32 := 1#32
  let arg21 : BitVec 32 := Scf.iv c0_i32_989 c1_i32_991 k0_t18
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk689 (v1246 : IVec S16 32) (v1247 : IVec S16 32) : Prop :=
  (∀ a x, ((![v1247, v1246] : Fin 2 → IVec S16 32) a x).toNat < S4x10368.size a)
theorem k0_idx689_inb : ∀ (v1246 : IVec S16 32) (v1247 : IVec S16 32) (k0_hw689 : k0_chk689 v1246 v1247), ∀ a x, ((![v1247, v1246] : Fin 2 → IVec S16 32) a x).toNat < S4x10368.size a := fun v1246 v1247 k0_hw689 => k0_hw689

def k0_chk690 (v1246 : IVec S16 32) (v1250 : IVec S16 32) : Prop :=
  (∀ a x, ((![v1250, v1246] : Fin 2 → IVec S16 32) a x).toNat < S4x10368.size a)
theorem k0_idx690_inb : ∀ (v1246 : IVec S16 32) (v1250 : IVec S16 32) (k0_hw690 : k0_chk690 v1246 v1250), ∀ a x, ((![v1250, v1246] : Fin 2 → IVec S16 32) a x).toNat < S4x10368.size a := fun v1246 v1250 k0_hw690 => k0_hw690

def k0_chk691 (v1246 : IVec S16 32) (v1253 : IVec S16 32) : Prop :=
  (∀ a x, ((![v1253, v1246] : Fin 2 → IVec S16 32) a x).toNat < S4x10368.size a)
theorem k0_idx691_inb : ∀ (v1246 : IVec S16 32) (v1253 : IVec S16 32) (k0_hw691 : k0_chk691 v1246 v1253), ∀ a x, ((![v1253, v1246] : Fin 2 → IVec S16 32) a x).toNat < S4x10368.size a := fun v1246 v1253 k0_hw691 => k0_hw691

def k0_chk692 (v1246 : IVec S16 32) (v1256 : IVec S16 32) : Prop :=
  (∀ a x, ((![v1256, v1246] : Fin 2 → IVec S16 32) a x).toNat < S4x10368.size a)
theorem k0_idx692_inb : ∀ (v1246 : IVec S16 32) (v1256 : IVec S16 32) (k0_hw692 : k0_chk692 v1246 v1256), ∀ a x, ((![v1256, v1246] : Fin 2 → IVec S16 32) a x).toNat < S4x10368.size a := fun v1246 v1256 k0_hw692 => k0_hw692

def k0_chk693 (v1135 : IVec S16 32) (v1259 : IVec S16 32) : Prop :=
  (∀ a x, ((![v1259, v1135] : Fin 2 → IVec S16 32) a x).toNat < S4x2572.size a)
theorem k0_idx693_inb : ∀ (v1135 : IVec S16 32) (v1259 : IVec S16 32) (k0_hw693 : k0_chk693 v1135 v1259), ∀ a x, ((![v1259, v1135] : Fin 2 → IVec S16 32) a x).toNat < S4x2572.size a := fun v1135 v1259 k0_hw693 => k0_hw693

def k0_chk694 (v1135 : IVec S16 32) (v1262 : IVec S16 32) : Prop :=
  (∀ a x, ((![v1262, v1135] : Fin 2 → IVec S16 32) a x).toNat < S4x2572.size a)
theorem k0_idx694_inb : ∀ (v1135 : IVec S16 32) (v1262 : IVec S16 32) (k0_hw694 : k0_chk694 v1135 v1262), ∀ a x, ((![v1262, v1135] : Fin 2 → IVec S16 32) a x).toNat < S4x2572.size a := fun v1135 v1262 k0_hw694 => k0_hw694

def k0_chk695 (v1135 : IVec S16 32) (v1265 : IVec S16 32) : Prop :=
  (∀ a x, ((![v1265, v1135] : Fin 2 → IVec S16 32) a x).toNat < S4x2572.size a)
theorem k0_idx695_inb : ∀ (v1135 : IVec S16 32) (v1265 : IVec S16 32) (k0_hw695 : k0_chk695 v1135 v1265), ∀ a x, ((![v1265, v1135] : Fin 2 → IVec S16 32) a x).toNat < S4x2572.size a := fun v1135 v1265 k0_hw695 => k0_hw695

def k0_chk696 (v1135 : IVec S16 32) (v1268 : IVec S16 32) : Prop :=
  (∀ a x, ((![v1268, v1135] : Fin 2 → IVec S16 32) a x).toNat < S4x2572.size a)
theorem k0_idx696_inb : ∀ (v1135 : IVec S16 32) (v1268 : IVec S16 32) (k0_hw696 : k0_chk696 v1135 v1268), ∀ a x, ((![v1268, v1135] : Fin 2 → IVec S16 32) a x).toNat < S4x2572.size a := fun v1135 v1268 k0_hw696 => k0_hw696
def k0_off238 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_942 : BitVec 32 := 4#32
  let v816 : BitVec 32 := Scalar.muli v1 c4_i32_942
  let c2_i32_943 : BitVec 32 := 2#32
  let v817 : BitVec 32 := Scalar.addi v816 c2_i32_943
  let c4_i32_944 : BitVec 32 := 4#32
  let v818 : BitVec 32 := Scalar.muli v817 c4_i32_944
  let v819 : BitVec 32 := v818
  let c12800_i32_993 : BitVec 32 := 12800#32
  ![v819.toNat, 12800]
def k0_mult38 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_995 : BitVec 32 := 4#32
  let v855 : BitVec 32 := Scalar.muli v1 c4_i32_995
  let c3_i32_996 : BitVec 32 := 3#32
  let v856 : BitVec 32 := Scalar.addi v855 c3_i32_996
  let c4_i32_997 : BitVec 32 := 4#32
  let v857 : BitVec 32 := Scalar.muli v856 c4_i32_997
  v857
def k0_mult39 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_998 : BitVec 32 := 4#32
  let v859 : BitVec 32 := Scalar.muli v1 c4_i32_998
  let c3_i32_999 : BitVec 32 := 3#32
  let v860 : BitVec 32 := Scalar.addi v859 c3_i32_999
  let c4_i32_1000 : BitVec 32 := 4#32
  let v861 : BitVec 32 := Scalar.muli v860 c4_i32_1000
  v861
def k0_off239 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_998 : BitVec 32 := 4#32
  let v859 : BitVec 32 := Scalar.muli v1 c4_i32_998
  let c3_i32_999 : BitVec 32 := 3#32
  let v860 : BitVec 32 := Scalar.addi v859 c3_i32_999
  let c4_i32_1000 : BitVec 32 := 4#32
  let v861 : BitVec 32 := Scalar.muli v860 c4_i32_1000
  let v862 : BitVec 32 := v861
  let c10240_i32_1003 : BitVec 32 := 10240#32
  ![v862.toNat, 10240]
def k0_off240 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_998 : BitVec 32 := 4#32
  let v859 : BitVec 32 := Scalar.muli v1 c4_i32_998
  let c3_i32_999 : BitVec 32 := 3#32
  let v860 : BitVec 32 := Scalar.addi v859 c3_i32_999
  let c4_i32_1000 : BitVec 32 := 4#32
  let v861 : BitVec 32 := Scalar.muli v860 c4_i32_1000
  let v862 : BitVec 32 := v861
  let c15360_i32_1009 : BitVec 32 := 15360#32
  ![v862.toNat, 15360]
def k0_off241 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_879 : BitVec 32 := 4#32
  let v763 : BitVec 32 := Scalar.muli v1 c4_i32_879
  let c2_i32_880 : BitVec 32 := 2#32
  let v764 : BitVec 32 := Scalar.addi v763 c2_i32_880
  let c4_i32_881 : BitVec 32 := 4#32
  let v765 : BitVec 32 := Scalar.muli v764 c4_i32_881
  let v766 : BitVec 32 := v765
  let c10240_i32_1015 : BitVec 32 := 10240#32
  ![v766.toNat, 10240]
def k0_off242 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_945 : BitVec 32 := 4#32
  let v820 : BitVec 32 := Scalar.muli v1 c4_i32_945
  let c3_i32_946 : BitVec 32 := 3#32
  let v821 : BitVec 32 := Scalar.addi v820 c3_i32_946
  let c4_i32_947 : BitVec 32 := 4#32
  let v822 : BitVec 32 := Scalar.muli v821 c4_i32_947
  let v823 : BitVec 32 := v822
  let c0_i32_1021 : BitVec 32 := 0#32
  ![v823.toNat, 0]
def k0_off243 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_945 : BitVec 32 := 4#32
  let v820 : BitVec 32 := Scalar.muli v1 c4_i32_945
  let c3_i32_946 : BitVec 32 := 3#32
  let v821 : BitVec 32 := Scalar.addi v820 c3_i32_946
  let c4_i32_947 : BitVec 32 := 4#32
  let v822 : BitVec 32 := Scalar.muli v821 c4_i32_947
  let v823 : BitVec 32 := v822
  let c5120_i32_1027 : BitVec 32 := 5120#32
  ![v823.toNat, 5120]
@[reducible] def k0_t19_loop : Scf.Loop 32 :=
  let c0_i32_1032 : BitVec 32 := 0#32
  let c161_i32_1033 : BitVec 32 := 161#32
  let v883 : BitVec 32 := Scalar.addi c0_i32_1032 c161_i32_1033
  let c1_i32_1034 : BitVec 32 := 1#32
  ⟨c0_i32_1032, v883, c1_i32_1034⟩
def k0_off244 (k0_t19 : Fin k0_t19_loop.trips) : Fin 1 → Nat :=
  let c0_i32_1328 : BitVec 32 := 0#32
  let c0_i32_1032 : BitVec 32 := 0#32
  let c1_i32_1034 : BitVec 32 := 1#32
  let arg21 : BitVec 32 := Scf.iv c0_i32_1032 c1_i32_1034 k0_t19
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1328 v1132
  let v1141 : Index := Scalar.indexCast v1140
  ![v1141.toNat]

def k0_chk697 (v1142 : IVec S16 32) (v1143 : IVec S16 32) : Prop :=
  (∀ a x, ((![v1143, v1142] : Fin 2 → IVec S16 32) a x).toNat < S4x10368.size a)
theorem k0_idx697_inb : ∀ (v1142 : IVec S16 32) (v1143 : IVec S16 32) (k0_hw697 : k0_chk697 v1142 v1143), ∀ a x, ((![v1143, v1142] : Fin 2 → IVec S16 32) a x).toNat < S4x10368.size a := fun v1142 v1143 k0_hw697 => k0_hw697

def k0_chk698 (v1142 : IVec S16 32) (v1146 : IVec S16 32) : Prop :=
  (∀ a x, ((![v1146, v1142] : Fin 2 → IVec S16 32) a x).toNat < S4x10368.size a)
theorem k0_idx698_inb : ∀ (v1142 : IVec S16 32) (v1146 : IVec S16 32) (k0_hw698 : k0_chk698 v1142 v1146), ∀ a x, ((![v1146, v1142] : Fin 2 → IVec S16 32) a x).toNat < S4x10368.size a := fun v1142 v1146 k0_hw698 => k0_hw698

def k0_chk699 (v1142 : IVec S16 32) (v1149 : IVec S16 32) : Prop :=
  (∀ a x, ((![v1149, v1142] : Fin 2 → IVec S16 32) a x).toNat < S4x10368.size a)
theorem k0_idx699_inb : ∀ (v1142 : IVec S16 32) (v1149 : IVec S16 32) (k0_hw699 : k0_chk699 v1142 v1149), ∀ a x, ((![v1149, v1142] : Fin 2 → IVec S16 32) a x).toNat < S4x10368.size a := fun v1142 v1149 k0_hw699 => k0_hw699

def k0_chk700 (v1142 : IVec S16 32) (v1152 : IVec S16 32) : Prop :=
  (∀ a x, ((![v1152, v1142] : Fin 2 → IVec S16 32) a x).toNat < S4x10368.size a)
theorem k0_idx700_inb : ∀ (v1142 : IVec S16 32) (v1152 : IVec S16 32) (k0_hw700 : k0_chk700 v1142 v1152), ∀ a x, ((![v1152, v1142] : Fin 2 → IVec S16 32) a x).toNat < S4x10368.size a := fun v1142 v1152 k0_hw700 => k0_hw700
def k0_off245 (k0_t19 : Fin k0_t19_loop.trips) : Fin 1 → Nat :=
  let c2562_i32 : BitVec 32 := 2562#32
  let c0_i32_1032 : BitVec 32 := 0#32
  let c1_i32_1034 : BitVec 32 := 1#32
  let arg21 : BitVec 32 := Scf.iv c0_i32_1032 c1_i32_1034 k0_t19
  let c16_i32 : BitVec 32 := 16#32
  let v1131 : BitVec 32 := Scalar.muli arg21 c16_i32
  let c2546_i32 : BitVec 32 := 2546#32
  let v1132 : BitVec 32 := Scalar.minsi v1131 c2546_i32
  let v1155 : BitVec 32 := Scalar.addi c2562_i32 v1132
  let v1156 : Index := Scalar.indexCast v1155
  ![v1156.toNat]

def k0_chk701 (v1157 : IVec S16 32) (v1158 : IVec S16 32) : Prop :=
  (∀ a x, ((![v1158, v1157] : Fin 2 → IVec S16 32) a x).toNat < S4x10368.size a)
theorem k0_idx701_inb : ∀ (v1157 : IVec S16 32) (v1158 : IVec S16 32) (k0_hw701 : k0_chk701 v1157 v1158), ∀ a x, ((![v1158, v1157] : Fin 2 → IVec S16 32) a x).toNat < S4x10368.size a := fun v1157 v1158 k0_hw701 => k0_hw701

def k0_chk702 (v1157 : IVec S16 32) (v1161 : IVec S16 32) : Prop :=
  (∀ a x, ((![v1161, v1157] : Fin 2 → IVec S16 32) a x).toNat < S4x10368.size a)
theorem k0_idx702_inb : ∀ (v1157 : IVec S16 32) (v1161 : IVec S16 32) (k0_hw702 : k0_chk702 v1157 v1161), ∀ a x, ((![v1161, v1157] : Fin 2 → IVec S16 32) a x).toNat < S4x10368.size a := fun v1157 v1161 k0_hw702 => k0_hw702

def k0_chk703 (v1157 : IVec S16 32) (v1164 : IVec S16 32) : Prop :=
  (∀ a x, ((![v1164, v1157] : Fin 2 → IVec S16 32) a x).toNat < S4x10368.size a)
theorem k0_idx703_inb : ∀ (v1157 : IVec S16 32) (v1164 : IVec S16 32) (k0_hw703 : k0_chk703 v1157 v1164), ∀ a x, ((![v1164, v1157] : Fin 2 → IVec S16 32) a x).toNat < S4x10368.size a := fun v1157 v1164 k0_hw703 => k0_hw703

def k0_chk704 (v1157 : IVec S16 32) (v1167 : IVec S16 32) : Prop :=
  (∀ a x, ((![v1167, v1157] : Fin 2 → IVec S16 32) a x).toNat < S4x10368.size a)
theorem k0_idx704_inb : ∀ (v1157 : IVec S16 32) (v1167 : IVec S16 32) (k0_hw704 : k0_chk704 v1157 v1167), ∀ a x, ((![v1167, v1157] : Fin 2 → IVec S16 32) a x).toNat < S4x10368.size a := fun v1157 v1167 k0_hw704 => k0_hw704
def k0_off246 (k0_t19 : Fin k0_t19_loop.trips) : Fin 1 → Nat :=
  let c5124_i32 : BitVec 32 := 5124#32
  let c0_i32_1032 : BitVec 32 := 0#32
  let c1_i32_1034 : BitVec 32 := 1#32
  let arg21 : BitVec 32 := Scf.iv c0_i32_1032 c1_i32_1034 k0_t19
  let c16_i32 : BitVec 32 := 16#32
  let v1131 : BitVec 32 := Scalar.muli arg21 c16_i32
  let c2546_i32 : BitVec 32 := 2546#32
  let v1132 : BitVec 32 := Scalar.minsi v1131 c2546_i32
  let v1170 : BitVec 32 := Scalar.addi c5124_i32 v1132
  let v1171 : Index := Scalar.indexCast v1170
  ![v1171.toNat]

def k0_chk705 (v1172 : IVec S16 32) (v1173 : IVec S16 32) : Prop :=
  (∀ a x, ((![v1173, v1172] : Fin 2 → IVec S16 32) a x).toNat < S4x10368.size a)
theorem k0_idx705_inb : ∀ (v1172 : IVec S16 32) (v1173 : IVec S16 32) (k0_hw705 : k0_chk705 v1172 v1173), ∀ a x, ((![v1173, v1172] : Fin 2 → IVec S16 32) a x).toNat < S4x10368.size a := fun v1172 v1173 k0_hw705 => k0_hw705

def k0_chk706 (v1172 : IVec S16 32) (v1176 : IVec S16 32) : Prop :=
  (∀ a x, ((![v1176, v1172] : Fin 2 → IVec S16 32) a x).toNat < S4x10368.size a)
theorem k0_idx706_inb : ∀ (v1172 : IVec S16 32) (v1176 : IVec S16 32) (k0_hw706 : k0_chk706 v1172 v1176), ∀ a x, ((![v1176, v1172] : Fin 2 → IVec S16 32) a x).toNat < S4x10368.size a := fun v1172 v1176 k0_hw706 => k0_hw706

def k0_chk707 (v1172 : IVec S16 32) (v1179 : IVec S16 32) : Prop :=
  (∀ a x, ((![v1179, v1172] : Fin 2 → IVec S16 32) a x).toNat < S4x10368.size a)
theorem k0_idx707_inb : ∀ (v1172 : IVec S16 32) (v1179 : IVec S16 32) (k0_hw707 : k0_chk707 v1172 v1179), ∀ a x, ((![v1179, v1172] : Fin 2 → IVec S16 32) a x).toNat < S4x10368.size a := fun v1172 v1179 k0_hw707 => k0_hw707

def k0_chk708 (v1172 : IVec S16 32) (v1182 : IVec S16 32) : Prop :=
  (∀ a x, ((![v1182, v1172] : Fin 2 → IVec S16 32) a x).toNat < S4x10368.size a)
theorem k0_idx708_inb : ∀ (v1172 : IVec S16 32) (v1182 : IVec S16 32) (k0_hw708 : k0_chk708 v1172 v1182), ∀ a x, ((![v1182, v1172] : Fin 2 → IVec S16 32) a x).toNat < S4x10368.size a := fun v1172 v1182 k0_hw708 => k0_hw708
def k0_off247 (k0_t19 : Fin k0_t19_loop.trips) : Fin 1 → Nat :=
  let c7686_i32 : BitVec 32 := 7686#32
  let c0_i32_1032 : BitVec 32 := 0#32
  let c1_i32_1034 : BitVec 32 := 1#32
  let arg21 : BitVec 32 := Scf.iv c0_i32_1032 c1_i32_1034 k0_t19
  let c16_i32 : BitVec 32 := 16#32
  let v1131 : BitVec 32 := Scalar.muli arg21 c16_i32
  let c2546_i32 : BitVec 32 := 2546#32
  let v1132 : BitVec 32 := Scalar.minsi v1131 c2546_i32
  let v1185 : BitVec 32 := Scalar.addi c7686_i32 v1132
  let v1186 : Index := Scalar.indexCast v1185
  ![v1186.toNat]

def k0_chk709 (v1187 : IVec S16 32) (v1188 : IVec S16 32) : Prop :=
  (∀ a x, ((![v1188, v1187] : Fin 2 → IVec S16 32) a x).toNat < S4x10368.size a)
theorem k0_idx709_inb : ∀ (v1187 : IVec S16 32) (v1188 : IVec S16 32) (k0_hw709 : k0_chk709 v1187 v1188), ∀ a x, ((![v1188, v1187] : Fin 2 → IVec S16 32) a x).toNat < S4x10368.size a := fun v1187 v1188 k0_hw709 => k0_hw709

def k0_chk710 (v1187 : IVec S16 32) (v1191 : IVec S16 32) : Prop :=
  (∀ a x, ((![v1191, v1187] : Fin 2 → IVec S16 32) a x).toNat < S4x10368.size a)
theorem k0_idx710_inb : ∀ (v1187 : IVec S16 32) (v1191 : IVec S16 32) (k0_hw710 : k0_chk710 v1187 v1191), ∀ a x, ((![v1191, v1187] : Fin 2 → IVec S16 32) a x).toNat < S4x10368.size a := fun v1187 v1191 k0_hw710 => k0_hw710

def k0_chk711 (v1187 : IVec S16 32) (v1194 : IVec S16 32) : Prop :=
  (∀ a x, ((![v1194, v1187] : Fin 2 → IVec S16 32) a x).toNat < S4x10368.size a)
theorem k0_idx711_inb : ∀ (v1187 : IVec S16 32) (v1194 : IVec S16 32) (k0_hw711 : k0_chk711 v1187 v1194), ∀ a x, ((![v1194, v1187] : Fin 2 → IVec S16 32) a x).toNat < S4x10368.size a := fun v1187 v1194 k0_hw711 => k0_hw711

def k0_chk712 (v1187 : IVec S16 32) (v1197 : IVec S16 32) : Prop :=
  (∀ a x, ((![v1197, v1187] : Fin 2 → IVec S16 32) a x).toNat < S4x10368.size a)
theorem k0_idx712_inb : ∀ (v1187 : IVec S16 32) (v1197 : IVec S16 32) (k0_hw712 : k0_chk712 v1187 v1197), ∀ a x, ((![v1197, v1187] : Fin 2 → IVec S16 32) a x).toNat < S4x10368.size a := fun v1187 v1197 k0_hw712 => k0_hw712
def k0_off248 (k0_t19 : Fin k0_t19_loop.trips) : Fin 1 → Nat :=
  let c10248_i32 : BitVec 32 := 10248#32
  let c0_i32_1032 : BitVec 32 := 0#32
  let c1_i32_1034 : BitVec 32 := 1#32
  let arg21 : BitVec 32 := Scf.iv c0_i32_1032 c1_i32_1034 k0_t19
  let c16_i32 : BitVec 32 := 16#32
  let v1131 : BitVec 32 := Scalar.muli arg21 c16_i32
  let c2546_i32 : BitVec 32 := 2546#32
  let v1132 : BitVec 32 := Scalar.minsi v1131 c2546_i32
  let v1200 : BitVec 32 := Scalar.addi c10248_i32 v1132
  let v1201 : Index := Scalar.indexCast v1200
  ![v1201.toNat]

def k0_chk713 (v1202 : IVec S16 32) (v1203 : IVec S16 32) : Prop :=
  (∀ a x, ((![v1203, v1202] : Fin 2 → IVec S16 32) a x).toNat < S4x10368.size a)
theorem k0_idx713_inb : ∀ (v1202 : IVec S16 32) (v1203 : IVec S16 32) (k0_hw713 : k0_chk713 v1202 v1203), ∀ a x, ((![v1203, v1202] : Fin 2 → IVec S16 32) a x).toNat < S4x10368.size a := fun v1202 v1203 k0_hw713 => k0_hw713

def k0_chk714 (v1202 : IVec S16 32) (v1206 : IVec S16 32) : Prop :=
  (∀ a x, ((![v1206, v1202] : Fin 2 → IVec S16 32) a x).toNat < S4x10368.size a)
theorem k0_idx714_inb : ∀ (v1202 : IVec S16 32) (v1206 : IVec S16 32) (k0_hw714 : k0_chk714 v1202 v1206), ∀ a x, ((![v1206, v1202] : Fin 2 → IVec S16 32) a x).toNat < S4x10368.size a := fun v1202 v1206 k0_hw714 => k0_hw714

def k0_chk715 (v1202 : IVec S16 32) (v1209 : IVec S16 32) : Prop :=
  (∀ a x, ((![v1209, v1202] : Fin 2 → IVec S16 32) a x).toNat < S4x10368.size a)
theorem k0_idx715_inb : ∀ (v1202 : IVec S16 32) (v1209 : IVec S16 32) (k0_hw715 : k0_chk715 v1202 v1209), ∀ a x, ((![v1209, v1202] : Fin 2 → IVec S16 32) a x).toNat < S4x10368.size a := fun v1202 v1209 k0_hw715 => k0_hw715

def k0_chk716 (v1202 : IVec S16 32) (v1212 : IVec S16 32) : Prop :=
  (∀ a x, ((![v1212, v1202] : Fin 2 → IVec S16 32) a x).toNat < S4x10368.size a)
theorem k0_idx716_inb : ∀ (v1202 : IVec S16 32) (v1212 : IVec S16 32) (k0_hw716 : k0_chk716 v1202 v1212), ∀ a x, ((![v1212, v1202] : Fin 2 → IVec S16 32) a x).toNat < S4x10368.size a := fun v1202 v1212 k0_hw716 => k0_hw716
def k0_off249 (k0_t19 : Fin k0_t19_loop.trips) : Fin 1 → Nat :=
  let c12810_i32 : BitVec 32 := 12810#32
  let c0_i32_1032 : BitVec 32 := 0#32
  let c1_i32_1034 : BitVec 32 := 1#32
  let arg21 : BitVec 32 := Scf.iv c0_i32_1032 c1_i32_1034 k0_t19
  let c16_i32 : BitVec 32 := 16#32
  let v1131 : BitVec 32 := Scalar.muli arg21 c16_i32
  let c2546_i32 : BitVec 32 := 2546#32
  let v1132 : BitVec 32 := Scalar.minsi v1131 c2546_i32
  let v1215 : BitVec 32 := Scalar.addi c12810_i32 v1132
  let v1216 : Index := Scalar.indexCast v1215
  ![v1216.toNat]

def k0_chk717 (v1217 : IVec S16 32) (v1218 : IVec S16 32) : Prop :=
  (∀ a x, ((![v1218, v1217] : Fin 2 → IVec S16 32) a x).toNat < S4x10368.size a)
theorem k0_idx717_inb : ∀ (v1217 : IVec S16 32) (v1218 : IVec S16 32) (k0_hw717 : k0_chk717 v1217 v1218), ∀ a x, ((![v1218, v1217] : Fin 2 → IVec S16 32) a x).toNat < S4x10368.size a := fun v1217 v1218 k0_hw717 => k0_hw717

def k0_chk718 (v1217 : IVec S16 32) (v1221 : IVec S16 32) : Prop :=
  (∀ a x, ((![v1221, v1217] : Fin 2 → IVec S16 32) a x).toNat < S4x10368.size a)
theorem k0_idx718_inb : ∀ (v1217 : IVec S16 32) (v1221 : IVec S16 32) (k0_hw718 : k0_chk718 v1217 v1221), ∀ a x, ((![v1221, v1217] : Fin 2 → IVec S16 32) a x).toNat < S4x10368.size a := fun v1217 v1221 k0_hw718 => k0_hw718

def k0_chk719 (v1217 : IVec S16 32) (v1224 : IVec S16 32) : Prop :=
  (∀ a x, ((![v1224, v1217] : Fin 2 → IVec S16 32) a x).toNat < S4x10368.size a)
theorem k0_idx719_inb : ∀ (v1217 : IVec S16 32) (v1224 : IVec S16 32) (k0_hw719 : k0_chk719 v1217 v1224), ∀ a x, ((![v1224, v1217] : Fin 2 → IVec S16 32) a x).toNat < S4x10368.size a := fun v1217 v1224 k0_hw719 => k0_hw719

def k0_chk720 (v1217 : IVec S16 32) (v1227 : IVec S16 32) : Prop :=
  (∀ a x, ((![v1227, v1217] : Fin 2 → IVec S16 32) a x).toNat < S4x10368.size a)
theorem k0_idx720_inb : ∀ (v1217 : IVec S16 32) (v1227 : IVec S16 32) (k0_hw720 : k0_chk720 v1217 v1227), ∀ a x, ((![v1227, v1217] : Fin 2 → IVec S16 32) a x).toNat < S4x10368.size a := fun v1217 v1227 k0_hw720 => k0_hw720
def k0_off250 (k0_t19 : Fin k0_t19_loop.trips) : Fin 1 → Nat :=
  let c15372_i32 : BitVec 32 := 15372#32
  let c0_i32_1032 : BitVec 32 := 0#32
  let c1_i32_1034 : BitVec 32 := 1#32
  let arg21 : BitVec 32 := Scf.iv c0_i32_1032 c1_i32_1034 k0_t19
  let c16_i32 : BitVec 32 := 16#32
  let v1131 : BitVec 32 := Scalar.muli arg21 c16_i32
  let c2546_i32 : BitVec 32 := 2546#32
  let v1132 : BitVec 32 := Scalar.minsi v1131 c2546_i32
  let v1230 : BitVec 32 := Scalar.addi c15372_i32 v1132
  let v1231 : Index := Scalar.indexCast v1230
  ![v1231.toNat]

def k0_chk721 (v1232 : IVec S16 32) (v1233 : IVec S16 32) : Prop :=
  (∀ a x, ((![v1233, v1232] : Fin 2 → IVec S16 32) a x).toNat < S4x10368.size a)
theorem k0_idx721_inb : ∀ (v1232 : IVec S16 32) (v1233 : IVec S16 32) (k0_hw721 : k0_chk721 v1232 v1233), ∀ a x, ((![v1233, v1232] : Fin 2 → IVec S16 32) a x).toNat < S4x10368.size a := fun v1232 v1233 k0_hw721 => k0_hw721

def k0_chk722 (v1232 : IVec S16 32) (v1236 : IVec S16 32) : Prop :=
  (∀ a x, ((![v1236, v1232] : Fin 2 → IVec S16 32) a x).toNat < S4x10368.size a)
theorem k0_idx722_inb : ∀ (v1232 : IVec S16 32) (v1236 : IVec S16 32) (k0_hw722 : k0_chk722 v1232 v1236), ∀ a x, ((![v1236, v1232] : Fin 2 → IVec S16 32) a x).toNat < S4x10368.size a := fun v1232 v1236 k0_hw722 => k0_hw722

def k0_chk723 (v1232 : IVec S16 32) (v1239 : IVec S16 32) : Prop :=
  (∀ a x, ((![v1239, v1232] : Fin 2 → IVec S16 32) a x).toNat < S4x10368.size a)
theorem k0_idx723_inb : ∀ (v1232 : IVec S16 32) (v1239 : IVec S16 32) (k0_hw723 : k0_chk723 v1232 v1239), ∀ a x, ((![v1239, v1232] : Fin 2 → IVec S16 32) a x).toNat < S4x10368.size a := fun v1232 v1239 k0_hw723 => k0_hw723

def k0_chk724 (v1232 : IVec S16 32) (v1242 : IVec S16 32) : Prop :=
  (∀ a x, ((![v1242, v1232] : Fin 2 → IVec S16 32) a x).toNat < S4x10368.size a)
theorem k0_idx724_inb : ∀ (v1232 : IVec S16 32) (v1242 : IVec S16 32) (k0_hw724 : k0_chk724 v1232 v1242), ∀ a x, ((![v1242, v1232] : Fin 2 → IVec S16 32) a x).toNat < S4x10368.size a := fun v1232 v1242 k0_hw724 => k0_hw724

def k0_chk725 (v1135 : IVec S16 32) (v1245 : IVec S16 32) : Prop :=
  (∀ a x, ((![v1245, v1135] : Fin 2 → IVec S16 32) a x).toNat < S4x2572.size a)
theorem k0_idx725_inb : ∀ (v1135 : IVec S16 32) (v1245 : IVec S16 32) (k0_hw725 : k0_chk725 v1135 v1245), ∀ a x, ((![v1245, v1135] : Fin 2 → IVec S16 32) a x).toNat < S4x2572.size a := fun v1135 v1245 k0_hw725 => k0_hw725

def k0_chk726 (v1135 : IVec S16 32) (v1248 : IVec S16 32) : Prop :=
  (∀ a x, ((![v1248, v1135] : Fin 2 → IVec S16 32) a x).toNat < S4x2572.size a)
theorem k0_idx726_inb : ∀ (v1135 : IVec S16 32) (v1248 : IVec S16 32) (k0_hw726 : k0_chk726 v1135 v1248), ∀ a x, ((![v1248, v1135] : Fin 2 → IVec S16 32) a x).toNat < S4x2572.size a := fun v1135 v1248 k0_hw726 => k0_hw726

def k0_chk727 (v1135 : IVec S16 32) (v1251 : IVec S16 32) : Prop :=
  (∀ a x, ((![v1251, v1135] : Fin 2 → IVec S16 32) a x).toNat < S4x2572.size a)
theorem k0_idx727_inb : ∀ (v1135 : IVec S16 32) (v1251 : IVec S16 32) (k0_hw727 : k0_chk727 v1135 v1251), ∀ a x, ((![v1251, v1135] : Fin 2 → IVec S16 32) a x).toNat < S4x2572.size a := fun v1135 v1251 k0_hw727 => k0_hw727

def k0_chk728 (v1135 : IVec S16 32) (v1254 : IVec S16 32) : Prop :=
  (∀ a x, ((![v1254, v1135] : Fin 2 → IVec S16 32) a x).toNat < S4x2572.size a)
theorem k0_idx728_inb : ∀ (v1135 : IVec S16 32) (v1254 : IVec S16 32) (k0_hw728 : k0_chk728 v1135 v1254), ∀ a x, ((![v1254, v1135] : Fin 2 → IVec S16 32) a x).toNat < S4x2572.size a := fun v1135 v1254 k0_hw728 => k0_hw728

def k0_chk729 (v887 : IVec S16 32) (v888 : IVec S16 32) : Prop :=
  (∀ a x, ((![v888, v887] : Fin 2 → IVec S16 32) a x).toNat < S4x2572.size a)
theorem k0_idx729_inb : ∀ (v887 : IVec S16 32) (v888 : IVec S16 32) (k0_hw729 : k0_chk729 v887 v888), ∀ a x, ((![v888, v887] : Fin 2 → IVec S16 32) a x).toNat < S4x2572.size a := fun v887 v888 k0_hw729 => k0_hw729

def k0_chk730 (v887 : IVec S16 32) (v890 : IVec S16 32) : Prop :=
  (∀ a x, ((![v890, v887] : Fin 2 → IVec S16 32) a x).toNat < S4x2572.size a)
theorem k0_idx730_inb : ∀ (v887 : IVec S16 32) (v890 : IVec S16 32) (k0_hw730 : k0_chk730 v887 v890), ∀ a x, ((![v890, v887] : Fin 2 → IVec S16 32) a x).toNat < S4x2572.size a := fun v887 v890 k0_hw730 => k0_hw730

def k0_chk731 (v887 : IVec S16 32) (v892 : IVec S16 32) : Prop :=
  (∀ a x, ((![v892, v887] : Fin 2 → IVec S16 32) a x).toNat < S4x2572.size a)
theorem k0_idx731_inb : ∀ (v887 : IVec S16 32) (v892 : IVec S16 32) (k0_hw731 : k0_chk731 v887 v892), ∀ a x, ((![v892, v887] : Fin 2 → IVec S16 32) a x).toNat < S4x2572.size a := fun v887 v892 k0_hw731 => k0_hw731

def k0_chk732 (v887 : IVec S16 32) (v894 : IVec S16 32) : Prop :=
  (∀ a x, ((![v894, v887] : Fin 2 → IVec S16 32) a x).toNat < S4x2572.size a)
theorem k0_idx732_inb : ∀ (v887 : IVec S16 32) (v894 : IVec S16 32) (k0_hw732 : k0_chk732 v887 v894), ∀ a x, ((![v894, v887] : Fin 2 → IVec S16 32) a x).toNat < S4x2572.size a := fun v887 v894 k0_hw732 => k0_hw732
def k0_off251 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_995 : BitVec 32 := 4#32
  let v855 : BitVec 32 := Scalar.muli v1 c4_i32_995
  let c3_i32_996 : BitVec 32 := 3#32
  let v856 : BitVec 32 := Scalar.addi v855 c3_i32_996
  let c4_i32_997 : BitVec 32 := 4#32
  let v857 : BitVec 32 := Scalar.muli v856 c4_i32_997
  let v858 : BitVec 32 := v857
  let c0_i32_1044 : BitVec 32 := 0#32
  ![v858.toNat, 0]
def k0_mult40 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1048 : BitVec 32 := 4#32
  let v900 : BitVec 32 := Scalar.muli v1 c4_i32_1048
  let c3_i32_1049 : BitVec 32 := 3#32
  let v901 : BitVec 32 := Scalar.addi v900 c3_i32_1049
  let c4_i32_1050 : BitVec 32 := 4#32
  let v902 : BitVec 32 := Scalar.muli v901 c4_i32_1050
  v902
def k0_mult41 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1051 : BitVec 32 := 4#32
  let v904 : BitVec 32 := Scalar.muli v1 c4_i32_1051
  let c3_i32_1052 : BitVec 32 := 3#32
  let v905 : BitVec 32 := Scalar.addi v904 c3_i32_1052
  let c4_i32_1053 : BitVec 32 := 4#32
  let v906 : BitVec 32 := Scalar.muli v905 c4_i32_1053
  v906
def k0_off252 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1051 : BitVec 32 := 4#32
  let v904 : BitVec 32 := Scalar.muli v1 c4_i32_1051
  let c3_i32_1052 : BitVec 32 := 3#32
  let v905 : BitVec 32 := Scalar.addi v904 c3_i32_1052
  let c4_i32_1053 : BitVec 32 := 4#32
  let v906 : BitVec 32 := Scalar.muli v905 c4_i32_1053
  let v907 : BitVec 32 := v906
  let c20480_i32_1056 : BitVec 32 := 20480#32
  ![v907.toNat, 20480]
def k0_off253 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1051 : BitVec 32 := 4#32
  let v904 : BitVec 32 := Scalar.muli v1 c4_i32_1051
  let c3_i32_1052 : BitVec 32 := 3#32
  let v905 : BitVec 32 := Scalar.addi v904 c3_i32_1052
  let c4_i32_1053 : BitVec 32 := 4#32
  let v906 : BitVec 32 := Scalar.muli v905 c4_i32_1053
  let v907 : BitVec 32 := v906
  let c25600_i32_1062 : BitVec 32 := 25600#32
  ![v907.toNat, 25600]
def k0_off254 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_942 : BitVec 32 := 4#32
  let v816 : BitVec 32 := Scalar.muli v1 c4_i32_942
  let c2_i32_943 : BitVec 32 := 2#32
  let v817 : BitVec 32 := Scalar.addi v816 c2_i32_943
  let c4_i32_944 : BitVec 32 := 4#32
  let v818 : BitVec 32 := Scalar.muli v817 c4_i32_944
  let v819 : BitVec 32 := v818
  let c12800_i32_1066 : BitVec 32 := 12800#32
  ![v819.toNat, 12800]

def k0_chk733 (v2 : IVec S16 32) (v918 : IVec S16 32) : Prop :=
  (∀ a x, ((![v918, v2] : Fin 2 → IVec S16 32) a x).toNat < S4x2572.size a)
theorem k0_idx733_inb : ∀ (v2 : IVec S16 32) (v918 : IVec S16 32) (k0_hw733 : k0_chk733 v2 v918), ∀ a x, ((![v918, v2] : Fin 2 → IVec S16 32) a x).toNat < S4x2572.size a := fun v2 v918 k0_hw733 => k0_hw733

def k0_chk734 (v2 : IVec S16 32) (v919 : IVec S16 32) : Prop :=
  (∀ a x, ((![v919, v2] : Fin 2 → IVec S16 32) a x).toNat < S4x2572.size a)
theorem k0_idx734_inb : ∀ (v2 : IVec S16 32) (v919 : IVec S16 32) (k0_hw734 : k0_chk734 v2 v919), ∀ a x, ((![v919, v2] : Fin 2 → IVec S16 32) a x).toNat < S4x2572.size a := fun v2 v919 k0_hw734 => k0_hw734

def k0_chk735 (v2 : IVec S16 32) (v920 : IVec S16 32) : Prop :=
  (∀ a x, ((![v920, v2] : Fin 2 → IVec S16 32) a x).toNat < S4x2572.size a)
theorem k0_idx735_inb : ∀ (v2 : IVec S16 32) (v920 : IVec S16 32) (k0_hw735 : k0_chk735 v2 v920), ∀ a x, ((![v920, v2] : Fin 2 → IVec S16 32) a x).toNat < S4x2572.size a := fun v2 v920 k0_hw735 => k0_hw735

def k0_chk736 (v2 : IVec S16 32) (v921 : IVec S16 32) : Prop :=
  (∀ a x, ((![v921, v2] : Fin 2 → IVec S16 32) a x).toNat < S4x2572.size a)
theorem k0_idx736_inb : ∀ (v2 : IVec S16 32) (v921 : IVec S16 32) (k0_hw736 : k0_chk736 v2 v921), ∀ a x, ((![v921, v2] : Fin 2 → IVec S16 32) a x).toNat < S4x2572.size a := fun v2 v921 k0_hw736 => k0_hw736
def k0_off255 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_998 : BitVec 32 := 4#32
  let v859 : BitVec 32 := Scalar.muli v1 c4_i32_998
  let c3_i32_999 : BitVec 32 := 3#32
  let v860 : BitVec 32 := Scalar.addi v859 c3_i32_999
  let c4_i32_1000 : BitVec 32 := 4#32
  let v861 : BitVec 32 := Scalar.muli v860 c4_i32_1000
  let v862 : BitVec 32 := v861
  let c10240_i32_1074 : BitVec 32 := 10240#32
  ![v862.toNat, 10240]
def k0_off256 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_998 : BitVec 32 := 4#32
  let v859 : BitVec 32 := Scalar.muli v1 c4_i32_998
  let c3_i32_999 : BitVec 32 := 3#32
  let v860 : BitVec 32 := Scalar.addi v859 c3_i32_999
  let c4_i32_1000 : BitVec 32 := 4#32
  let v861 : BitVec 32 := Scalar.muli v860 c4_i32_1000
  let v862 : BitVec 32 := v861
  let c15360_i32_1080 : BitVec 32 := 15360#32
  ![v862.toNat, 15360]
@[reducible] def k0_t20_loop : Scf.Loop 32 :=
  let c0_i32_1085 : BitVec 32 := 0#32
  let c161_i32_1086 : BitVec 32 := 161#32
  let v930 : BitVec 32 := Scalar.addi c0_i32_1085 c161_i32_1086
  let c1_i32_1087 : BitVec 32 := 1#32
  ⟨c0_i32_1085, v930, c1_i32_1087⟩
def k0_off257 (k0_t20 : Fin k0_t20_loop.trips) : Fin 1 → Nat :=
  let c0_i32_1328 : BitVec 32 := 0#32
  let c0_i32_1085 : BitVec 32 := 0#32
  let c1_i32_1087 : BitVec 32 := 1#32
  let arg21 : BitVec 32 := Scf.iv c0_i32_1085 c1_i32_1087 k0_t20
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1328 v1132
  let v1141 : Index := Scalar.indexCast v1140
  ![v1141.toNat]

def k0_chk737 (v1144 : IVec S16 32) (v1145 : IVec S16 32) : Prop :=
  (∀ a x, ((![v1145, v1144] : Fin 2 → IVec S16 32) a x).toNat < S4x10368.size a)
theorem k0_idx737_inb : ∀ (v1144 : IVec S16 32) (v1145 : IVec S16 32) (k0_hw737 : k0_chk737 v1144 v1145), ∀ a x, ((![v1145, v1144] : Fin 2 → IVec S16 32) a x).toNat < S4x10368.size a := fun v1144 v1145 k0_hw737 => k0_hw737

def k0_chk738 (v1144 : IVec S16 32) (v1148 : IVec S16 32) : Prop :=
  (∀ a x, ((![v1148, v1144] : Fin 2 → IVec S16 32) a x).toNat < S4x10368.size a)
theorem k0_idx738_inb : ∀ (v1144 : IVec S16 32) (v1148 : IVec S16 32) (k0_hw738 : k0_chk738 v1144 v1148), ∀ a x, ((![v1148, v1144] : Fin 2 → IVec S16 32) a x).toNat < S4x10368.size a := fun v1144 v1148 k0_hw738 => k0_hw738

def k0_chk739 (v1144 : IVec S16 32) (v1151 : IVec S16 32) : Prop :=
  (∀ a x, ((![v1151, v1144] : Fin 2 → IVec S16 32) a x).toNat < S4x10368.size a)
theorem k0_idx739_inb : ∀ (v1144 : IVec S16 32) (v1151 : IVec S16 32) (k0_hw739 : k0_chk739 v1144 v1151), ∀ a x, ((![v1151, v1144] : Fin 2 → IVec S16 32) a x).toNat < S4x10368.size a := fun v1144 v1151 k0_hw739 => k0_hw739

def k0_chk740 (v1144 : IVec S16 32) (v1154 : IVec S16 32) : Prop :=
  (∀ a x, ((![v1154, v1144] : Fin 2 → IVec S16 32) a x).toNat < S4x10368.size a)
theorem k0_idx740_inb : ∀ (v1144 : IVec S16 32) (v1154 : IVec S16 32) (k0_hw740 : k0_chk740 v1144 v1154), ∀ a x, ((![v1154, v1144] : Fin 2 → IVec S16 32) a x).toNat < S4x10368.size a := fun v1144 v1154 k0_hw740 => k0_hw740
def k0_off258 (k0_t20 : Fin k0_t20_loop.trips) : Fin 1 → Nat :=
  let c2562_i32 : BitVec 32 := 2562#32
  let c0_i32_1085 : BitVec 32 := 0#32
  let c1_i32_1087 : BitVec 32 := 1#32
  let arg21 : BitVec 32 := Scf.iv c0_i32_1085 c1_i32_1087 k0_t20
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk741 (v1161 : IVec S16 32) (v1162 : IVec S16 32) : Prop :=
  (∀ a x, ((![v1162, v1161] : Fin 2 → IVec S16 32) a x).toNat < S4x10368.size a)
theorem k0_idx741_inb : ∀ (v1161 : IVec S16 32) (v1162 : IVec S16 32) (k0_hw741 : k0_chk741 v1161 v1162), ∀ a x, ((![v1162, v1161] : Fin 2 → IVec S16 32) a x).toNat < S4x10368.size a := fun v1161 v1162 k0_hw741 => k0_hw741

def k0_chk742 (v1161 : IVec S16 32) (v1165 : IVec S16 32) : Prop :=
  (∀ a x, ((![v1165, v1161] : Fin 2 → IVec S16 32) a x).toNat < S4x10368.size a)
theorem k0_idx742_inb : ∀ (v1161 : IVec S16 32) (v1165 : IVec S16 32) (k0_hw742 : k0_chk742 v1161 v1165), ∀ a x, ((![v1165, v1161] : Fin 2 → IVec S16 32) a x).toNat < S4x10368.size a := fun v1161 v1165 k0_hw742 => k0_hw742

def k0_chk743 (v1161 : IVec S16 32) (v1168 : IVec S16 32) : Prop :=
  (∀ a x, ((![v1168, v1161] : Fin 2 → IVec S16 32) a x).toNat < S4x10368.size a)
theorem k0_idx743_inb : ∀ (v1161 : IVec S16 32) (v1168 : IVec S16 32) (k0_hw743 : k0_chk743 v1161 v1168), ∀ a x, ((![v1168, v1161] : Fin 2 → IVec S16 32) a x).toNat < S4x10368.size a := fun v1161 v1168 k0_hw743 => k0_hw743

def k0_chk744 (v1161 : IVec S16 32) (v1171 : IVec S16 32) : Prop :=
  (∀ a x, ((![v1171, v1161] : Fin 2 → IVec S16 32) a x).toNat < S4x10368.size a)
theorem k0_idx744_inb : ∀ (v1161 : IVec S16 32) (v1171 : IVec S16 32) (k0_hw744 : k0_chk744 v1161 v1171), ∀ a x, ((![v1171, v1161] : Fin 2 → IVec S16 32) a x).toNat < S4x10368.size a := fun v1161 v1171 k0_hw744 => k0_hw744
def k0_off259 (k0_t20 : Fin k0_t20_loop.trips) : Fin 1 → Nat :=
  let c5124_i32 : BitVec 32 := 5124#32
  let c0_i32_1085 : BitVec 32 := 0#32
  let c1_i32_1087 : BitVec 32 := 1#32
  let arg21 : BitVec 32 := Scf.iv c0_i32_1085 c1_i32_1087 k0_t20
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk745 (v1178 : IVec S16 32) (v1179 : IVec S16 32) : Prop :=
  (∀ a x, ((![v1179, v1178] : Fin 2 → IVec S16 32) a x).toNat < S4x10368.size a)
theorem k0_idx745_inb : ∀ (v1178 : IVec S16 32) (v1179 : IVec S16 32) (k0_hw745 : k0_chk745 v1178 v1179), ∀ a x, ((![v1179, v1178] : Fin 2 → IVec S16 32) a x).toNat < S4x10368.size a := fun v1178 v1179 k0_hw745 => k0_hw745

def k0_chk746 (v1178 : IVec S16 32) (v1182 : IVec S16 32) : Prop :=
  (∀ a x, ((![v1182, v1178] : Fin 2 → IVec S16 32) a x).toNat < S4x10368.size a)
theorem k0_idx746_inb : ∀ (v1178 : IVec S16 32) (v1182 : IVec S16 32) (k0_hw746 : k0_chk746 v1178 v1182), ∀ a x, ((![v1182, v1178] : Fin 2 → IVec S16 32) a x).toNat < S4x10368.size a := fun v1178 v1182 k0_hw746 => k0_hw746

def k0_chk747 (v1178 : IVec S16 32) (v1185 : IVec S16 32) : Prop :=
  (∀ a x, ((![v1185, v1178] : Fin 2 → IVec S16 32) a x).toNat < S4x10368.size a)
theorem k0_idx747_inb : ∀ (v1178 : IVec S16 32) (v1185 : IVec S16 32) (k0_hw747 : k0_chk747 v1178 v1185), ∀ a x, ((![v1185, v1178] : Fin 2 → IVec S16 32) a x).toNat < S4x10368.size a := fun v1178 v1185 k0_hw747 => k0_hw747

def k0_chk748 (v1178 : IVec S16 32) (v1188 : IVec S16 32) : Prop :=
  (∀ a x, ((![v1188, v1178] : Fin 2 → IVec S16 32) a x).toNat < S4x10368.size a)
theorem k0_idx748_inb : ∀ (v1178 : IVec S16 32) (v1188 : IVec S16 32) (k0_hw748 : k0_chk748 v1178 v1188), ∀ a x, ((![v1188, v1178] : Fin 2 → IVec S16 32) a x).toNat < S4x10368.size a := fun v1178 v1188 k0_hw748 => k0_hw748
def k0_off260 (k0_t20 : Fin k0_t20_loop.trips) : Fin 1 → Nat :=
  let c7686_i32 : BitVec 32 := 7686#32
  let c0_i32_1085 : BitVec 32 := 0#32
  let c1_i32_1087 : BitVec 32 := 1#32
  let arg21 : BitVec 32 := Scf.iv c0_i32_1085 c1_i32_1087 k0_t20
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk749 (v1195 : IVec S16 32) (v1196 : IVec S16 32) : Prop :=
  (∀ a x, ((![v1196, v1195] : Fin 2 → IVec S16 32) a x).toNat < S4x10368.size a)
theorem k0_idx749_inb : ∀ (v1195 : IVec S16 32) (v1196 : IVec S16 32) (k0_hw749 : k0_chk749 v1195 v1196), ∀ a x, ((![v1196, v1195] : Fin 2 → IVec S16 32) a x).toNat < S4x10368.size a := fun v1195 v1196 k0_hw749 => k0_hw749

def k0_chk750 (v1195 : IVec S16 32) (v1199 : IVec S16 32) : Prop :=
  (∀ a x, ((![v1199, v1195] : Fin 2 → IVec S16 32) a x).toNat < S4x10368.size a)
theorem k0_idx750_inb : ∀ (v1195 : IVec S16 32) (v1199 : IVec S16 32) (k0_hw750 : k0_chk750 v1195 v1199), ∀ a x, ((![v1199, v1195] : Fin 2 → IVec S16 32) a x).toNat < S4x10368.size a := fun v1195 v1199 k0_hw750 => k0_hw750

def k0_chk751 (v1195 : IVec S16 32) (v1202 : IVec S16 32) : Prop :=
  (∀ a x, ((![v1202, v1195] : Fin 2 → IVec S16 32) a x).toNat < S4x10368.size a)
theorem k0_idx751_inb : ∀ (v1195 : IVec S16 32) (v1202 : IVec S16 32) (k0_hw751 : k0_chk751 v1195 v1202), ∀ a x, ((![v1202, v1195] : Fin 2 → IVec S16 32) a x).toNat < S4x10368.size a := fun v1195 v1202 k0_hw751 => k0_hw751

def k0_chk752 (v1195 : IVec S16 32) (v1205 : IVec S16 32) : Prop :=
  (∀ a x, ((![v1205, v1195] : Fin 2 → IVec S16 32) a x).toNat < S4x10368.size a)
theorem k0_idx752_inb : ∀ (v1195 : IVec S16 32) (v1205 : IVec S16 32) (k0_hw752 : k0_chk752 v1195 v1205), ∀ a x, ((![v1205, v1195] : Fin 2 → IVec S16 32) a x).toNat < S4x10368.size a := fun v1195 v1205 k0_hw752 => k0_hw752
def k0_off261 (k0_t20 : Fin k0_t20_loop.trips) : Fin 1 → Nat :=
  let c10248_i32 : BitVec 32 := 10248#32
  let c0_i32_1085 : BitVec 32 := 0#32
  let c1_i32_1087 : BitVec 32 := 1#32
  let arg21 : BitVec 32 := Scf.iv c0_i32_1085 c1_i32_1087 k0_t20
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk753 (v1212 : IVec S16 32) (v1213 : IVec S16 32) : Prop :=
  (∀ a x, ((![v1213, v1212] : Fin 2 → IVec S16 32) a x).toNat < S4x10368.size a)
theorem k0_idx753_inb : ∀ (v1212 : IVec S16 32) (v1213 : IVec S16 32) (k0_hw753 : k0_chk753 v1212 v1213), ∀ a x, ((![v1213, v1212] : Fin 2 → IVec S16 32) a x).toNat < S4x10368.size a := fun v1212 v1213 k0_hw753 => k0_hw753

def k0_chk754 (v1212 : IVec S16 32) (v1216 : IVec S16 32) : Prop :=
  (∀ a x, ((![v1216, v1212] : Fin 2 → IVec S16 32) a x).toNat < S4x10368.size a)
theorem k0_idx754_inb : ∀ (v1212 : IVec S16 32) (v1216 : IVec S16 32) (k0_hw754 : k0_chk754 v1212 v1216), ∀ a x, ((![v1216, v1212] : Fin 2 → IVec S16 32) a x).toNat < S4x10368.size a := fun v1212 v1216 k0_hw754 => k0_hw754

def k0_chk755 (v1212 : IVec S16 32) (v1219 : IVec S16 32) : Prop :=
  (∀ a x, ((![v1219, v1212] : Fin 2 → IVec S16 32) a x).toNat < S4x10368.size a)
theorem k0_idx755_inb : ∀ (v1212 : IVec S16 32) (v1219 : IVec S16 32) (k0_hw755 : k0_chk755 v1212 v1219), ∀ a x, ((![v1219, v1212] : Fin 2 → IVec S16 32) a x).toNat < S4x10368.size a := fun v1212 v1219 k0_hw755 => k0_hw755

def k0_chk756 (v1212 : IVec S16 32) (v1222 : IVec S16 32) : Prop :=
  (∀ a x, ((![v1222, v1212] : Fin 2 → IVec S16 32) a x).toNat < S4x10368.size a)
theorem k0_idx756_inb : ∀ (v1212 : IVec S16 32) (v1222 : IVec S16 32) (k0_hw756 : k0_chk756 v1212 v1222), ∀ a x, ((![v1222, v1212] : Fin 2 → IVec S16 32) a x).toNat < S4x10368.size a := fun v1212 v1222 k0_hw756 => k0_hw756
def k0_off262 (k0_t20 : Fin k0_t20_loop.trips) : Fin 1 → Nat :=
  let c12810_i32 : BitVec 32 := 12810#32
  let c0_i32_1085 : BitVec 32 := 0#32
  let c1_i32_1087 : BitVec 32 := 1#32
  let arg21 : BitVec 32 := Scf.iv c0_i32_1085 c1_i32_1087 k0_t20
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk757 (v1229 : IVec S16 32) (v1230 : IVec S16 32) : Prop :=
  (∀ a x, ((![v1230, v1229] : Fin 2 → IVec S16 32) a x).toNat < S4x10368.size a)
theorem k0_idx757_inb : ∀ (v1229 : IVec S16 32) (v1230 : IVec S16 32) (k0_hw757 : k0_chk757 v1229 v1230), ∀ a x, ((![v1230, v1229] : Fin 2 → IVec S16 32) a x).toNat < S4x10368.size a := fun v1229 v1230 k0_hw757 => k0_hw757

def k0_chk758 (v1229 : IVec S16 32) (v1233 : IVec S16 32) : Prop :=
  (∀ a x, ((![v1233, v1229] : Fin 2 → IVec S16 32) a x).toNat < S4x10368.size a)
theorem k0_idx758_inb : ∀ (v1229 : IVec S16 32) (v1233 : IVec S16 32) (k0_hw758 : k0_chk758 v1229 v1233), ∀ a x, ((![v1233, v1229] : Fin 2 → IVec S16 32) a x).toNat < S4x10368.size a := fun v1229 v1233 k0_hw758 => k0_hw758

def k0_chk759 (v1229 : IVec S16 32) (v1236 : IVec S16 32) : Prop :=
  (∀ a x, ((![v1236, v1229] : Fin 2 → IVec S16 32) a x).toNat < S4x10368.size a)
theorem k0_idx759_inb : ∀ (v1229 : IVec S16 32) (v1236 : IVec S16 32) (k0_hw759 : k0_chk759 v1229 v1236), ∀ a x, ((![v1236, v1229] : Fin 2 → IVec S16 32) a x).toNat < S4x10368.size a := fun v1229 v1236 k0_hw759 => k0_hw759

def k0_chk760 (v1229 : IVec S16 32) (v1239 : IVec S16 32) : Prop :=
  (∀ a x, ((![v1239, v1229] : Fin 2 → IVec S16 32) a x).toNat < S4x10368.size a)
theorem k0_idx760_inb : ∀ (v1229 : IVec S16 32) (v1239 : IVec S16 32) (k0_hw760 : k0_chk760 v1229 v1239), ∀ a x, ((![v1239, v1229] : Fin 2 → IVec S16 32) a x).toNat < S4x10368.size a := fun v1229 v1239 k0_hw760 => k0_hw760
def k0_off263 (k0_t20 : Fin k0_t20_loop.trips) : Fin 1 → Nat :=
  let c15372_i32 : BitVec 32 := 15372#32
  let c0_i32_1085 : BitVec 32 := 0#32
  let c1_i32_1087 : BitVec 32 := 1#32
  let arg21 : BitVec 32 := Scf.iv c0_i32_1085 c1_i32_1087 k0_t20
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk761 (v1246 : IVec S16 32) (v1247 : IVec S16 32) : Prop :=
  (∀ a x, ((![v1247, v1246] : Fin 2 → IVec S16 32) a x).toNat < S4x10368.size a)
theorem k0_idx761_inb : ∀ (v1246 : IVec S16 32) (v1247 : IVec S16 32) (k0_hw761 : k0_chk761 v1246 v1247), ∀ a x, ((![v1247, v1246] : Fin 2 → IVec S16 32) a x).toNat < S4x10368.size a := fun v1246 v1247 k0_hw761 => k0_hw761

def k0_chk762 (v1246 : IVec S16 32) (v1250 : IVec S16 32) : Prop :=
  (∀ a x, ((![v1250, v1246] : Fin 2 → IVec S16 32) a x).toNat < S4x10368.size a)
theorem k0_idx762_inb : ∀ (v1246 : IVec S16 32) (v1250 : IVec S16 32) (k0_hw762 : k0_chk762 v1246 v1250), ∀ a x, ((![v1250, v1246] : Fin 2 → IVec S16 32) a x).toNat < S4x10368.size a := fun v1246 v1250 k0_hw762 => k0_hw762

def k0_chk763 (v1246 : IVec S16 32) (v1253 : IVec S16 32) : Prop :=
  (∀ a x, ((![v1253, v1246] : Fin 2 → IVec S16 32) a x).toNat < S4x10368.size a)
theorem k0_idx763_inb : ∀ (v1246 : IVec S16 32) (v1253 : IVec S16 32) (k0_hw763 : k0_chk763 v1246 v1253), ∀ a x, ((![v1253, v1246] : Fin 2 → IVec S16 32) a x).toNat < S4x10368.size a := fun v1246 v1253 k0_hw763 => k0_hw763

def k0_chk764 (v1246 : IVec S16 32) (v1256 : IVec S16 32) : Prop :=
  (∀ a x, ((![v1256, v1246] : Fin 2 → IVec S16 32) a x).toNat < S4x10368.size a)
theorem k0_idx764_inb : ∀ (v1246 : IVec S16 32) (v1256 : IVec S16 32) (k0_hw764 : k0_chk764 v1246 v1256), ∀ a x, ((![v1256, v1246] : Fin 2 → IVec S16 32) a x).toNat < S4x10368.size a := fun v1246 v1256 k0_hw764 => k0_hw764

def k0_chk765 (v1135 : IVec S16 32) (v1259 : IVec S16 32) : Prop :=
  (∀ a x, ((![v1259, v1135] : Fin 2 → IVec S16 32) a x).toNat < S4x2572.size a)
theorem k0_idx765_inb : ∀ (v1135 : IVec S16 32) (v1259 : IVec S16 32) (k0_hw765 : k0_chk765 v1135 v1259), ∀ a x, ((![v1259, v1135] : Fin 2 → IVec S16 32) a x).toNat < S4x2572.size a := fun v1135 v1259 k0_hw765 => k0_hw765

def k0_chk766 (v1135 : IVec S16 32) (v1262 : IVec S16 32) : Prop :=
  (∀ a x, ((![v1262, v1135] : Fin 2 → IVec S16 32) a x).toNat < S4x2572.size a)
theorem k0_idx766_inb : ∀ (v1135 : IVec S16 32) (v1262 : IVec S16 32) (k0_hw766 : k0_chk766 v1135 v1262), ∀ a x, ((![v1262, v1135] : Fin 2 → IVec S16 32) a x).toNat < S4x2572.size a := fun v1135 v1262 k0_hw766 => k0_hw766

def k0_chk767 (v1135 : IVec S16 32) (v1265 : IVec S16 32) : Prop :=
  (∀ a x, ((![v1265, v1135] : Fin 2 → IVec S16 32) a x).toNat < S4x2572.size a)
theorem k0_idx767_inb : ∀ (v1135 : IVec S16 32) (v1265 : IVec S16 32) (k0_hw767 : k0_chk767 v1135 v1265), ∀ a x, ((![v1265, v1135] : Fin 2 → IVec S16 32) a x).toNat < S4x2572.size a := fun v1135 v1265 k0_hw767 => k0_hw767

def k0_chk768 (v1135 : IVec S16 32) (v1268 : IVec S16 32) : Prop :=
  (∀ a x, ((![v1268, v1135] : Fin 2 → IVec S16 32) a x).toNat < S4x2572.size a)
theorem k0_idx768_inb : ∀ (v1135 : IVec S16 32) (v1268 : IVec S16 32) (k0_hw768 : k0_chk768 v1135 v1268), ∀ a x, ((![v1268, v1135] : Fin 2 → IVec S16 32) a x).toNat < S4x2572.size a := fun v1135 v1268 k0_hw768 => k0_hw768

def k0_chk769 (v934 : IVec S16 32) (v935 : IVec S16 32) : Prop :=
  (∀ a x, ((![v935, v934] : Fin 2 → IVec S16 32) a x).toNat < S4x2572.size a)
theorem k0_idx769_inb : ∀ (v934 : IVec S16 32) (v935 : IVec S16 32) (k0_hw769 : k0_chk769 v934 v935), ∀ a x, ((![v935, v934] : Fin 2 → IVec S16 32) a x).toNat < S4x2572.size a := fun v934 v935 k0_hw769 => k0_hw769

def k0_chk770 (v934 : IVec S16 32) (v937 : IVec S16 32) : Prop :=
  (∀ a x, ((![v937, v934] : Fin 2 → IVec S16 32) a x).toNat < S4x2572.size a)
theorem k0_idx770_inb : ∀ (v934 : IVec S16 32) (v937 : IVec S16 32) (k0_hw770 : k0_chk770 v934 v937), ∀ a x, ((![v937, v934] : Fin 2 → IVec S16 32) a x).toNat < S4x2572.size a := fun v934 v937 k0_hw770 => k0_hw770

def k0_chk771 (v934 : IVec S16 32) (v939 : IVec S16 32) : Prop :=
  (∀ a x, ((![v939, v934] : Fin 2 → IVec S16 32) a x).toNat < S4x2572.size a)
theorem k0_idx771_inb : ∀ (v934 : IVec S16 32) (v939 : IVec S16 32) (k0_hw771 : k0_chk771 v934 v939), ∀ a x, ((![v939, v934] : Fin 2 → IVec S16 32) a x).toNat < S4x2572.size a := fun v934 v939 k0_hw771 => k0_hw771

def k0_chk772 (v934 : IVec S16 32) (v941 : IVec S16 32) : Prop :=
  (∀ a x, ((![v941, v934] : Fin 2 → IVec S16 32) a x).toNat < S4x2572.size a)
theorem k0_idx772_inb : ∀ (v934 : IVec S16 32) (v941 : IVec S16 32) (k0_hw772 : k0_chk772 v934 v941), ∀ a x, ((![v941, v934] : Fin 2 → IVec S16 32) a x).toNat < S4x2572.size a := fun v934 v941 k0_hw772 => k0_hw772
def k0_off264 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1048 : BitVec 32 := 4#32
  let v900 : BitVec 32 := Scalar.muli v1 c4_i32_1048
  let c3_i32_1049 : BitVec 32 := 3#32
  let v901 : BitVec 32 := Scalar.addi v900 c3_i32_1049
  let c4_i32_1050 : BitVec 32 := 4#32
  let v902 : BitVec 32 := Scalar.muli v901 c4_i32_1050
  let v903 : BitVec 32 := v902
  let c2560_i32_1097 : BitVec 32 := 2560#32
  ![v903.toNat, 2560]
def k0_mult42 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1101 : BitVec 32 := 4#32
  let v947 : BitVec 32 := Scalar.muli v1 c4_i32_1101
  let c3_i32_1102 : BitVec 32 := 3#32
  let v948 : BitVec 32 := Scalar.addi v947 c3_i32_1102
  let c4_i32_1103 : BitVec 32 := 4#32
  let v949 : BitVec 32 := Scalar.muli v948 c4_i32_1103
  v949
def k0_mult43 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1104 : BitVec 32 := 4#32
  let v951 : BitVec 32 := Scalar.muli v1 c4_i32_1104
  let c3_i32_1105 : BitVec 32 := 3#32
  let v952 : BitVec 32 := Scalar.addi v951 c3_i32_1105
  let c4_i32_1106 : BitVec 32 := 4#32
  let v953 : BitVec 32 := Scalar.muli v952 c4_i32_1106
  v953
def k0_off265 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1104 : BitVec 32 := 4#32
  let v951 : BitVec 32 := Scalar.muli v1 c4_i32_1104
  let c3_i32_1105 : BitVec 32 := 3#32
  let v952 : BitVec 32 := Scalar.addi v951 c3_i32_1105
  let c4_i32_1106 : BitVec 32 := 4#32
  let v953 : BitVec 32 := Scalar.muli v952 c4_i32_1106
  let v954 : BitVec 32 := v953
  let c30720_i32_1109 : BitVec 32 := 30720#32
  ![v954.toNat, 30720]
def k0_off266 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1104 : BitVec 32 := 4#32
  let v951 : BitVec 32 := Scalar.muli v1 c4_i32_1104
  let c3_i32_1105 : BitVec 32 := 3#32
  let v952 : BitVec 32 := Scalar.addi v951 c3_i32_1105
  let c4_i32_1106 : BitVec 32 := 4#32
  let v953 : BitVec 32 := Scalar.muli v952 c4_i32_1106
  let v954 : BitVec 32 := v953
  let c35840_i32_1115 : BitVec 32 := 35840#32
  ![v954.toNat, 35840]
def k0_off267 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_995 : BitVec 32 := 4#32
  let v855 : BitVec 32 := Scalar.muli v1 c4_i32_995
  let c3_i32_996 : BitVec 32 := 3#32
  let v856 : BitVec 32 := Scalar.addi v855 c3_i32_996
  let c4_i32_997 : BitVec 32 := 4#32
  let v857 : BitVec 32 := Scalar.muli v856 c4_i32_997
  let v858 : BitVec 32 := v857
  let c0_i32_1121 : BitVec 32 := 0#32
  ![v858.toNat, 0]

def k0_chk773 (v2 : IVec S16 32) (v967 : IVec S16 32) : Prop :=
  (∀ a x, ((![v967, v2] : Fin 2 → IVec S16 32) a x).toNat < S4x2572.size a)
theorem k0_idx773_inb : ∀ (v2 : IVec S16 32) (v967 : IVec S16 32) (k0_hw773 : k0_chk773 v2 v967), ∀ a x, ((![v967, v2] : Fin 2 → IVec S16 32) a x).toNat < S4x2572.size a := fun v2 v967 k0_hw773 => k0_hw773

def k0_chk774 (v2 : IVec S16 32) (v968 : IVec S16 32) : Prop :=
  (∀ a x, ((![v968, v2] : Fin 2 → IVec S16 32) a x).toNat < S4x2572.size a)
theorem k0_idx774_inb : ∀ (v2 : IVec S16 32) (v968 : IVec S16 32) (k0_hw774 : k0_chk774 v2 v968), ∀ a x, ((![v968, v2] : Fin 2 → IVec S16 32) a x).toNat < S4x2572.size a := fun v2 v968 k0_hw774 => k0_hw774

def k0_chk775 (v2 : IVec S16 32) (v969 : IVec S16 32) : Prop :=
  (∀ a x, ((![v969, v2] : Fin 2 → IVec S16 32) a x).toNat < S4x2572.size a)
theorem k0_idx775_inb : ∀ (v2 : IVec S16 32) (v969 : IVec S16 32) (k0_hw775 : k0_chk775 v2 v969), ∀ a x, ((![v969, v2] : Fin 2 → IVec S16 32) a x).toNat < S4x2572.size a := fun v2 v969 k0_hw775 => k0_hw775

def k0_chk776 (v2 : IVec S16 32) (v970 : IVec S16 32) : Prop :=
  (∀ a x, ((![v970, v2] : Fin 2 → IVec S16 32) a x).toNat < S4x2572.size a)
theorem k0_idx776_inb : ∀ (v2 : IVec S16 32) (v970 : IVec S16 32) (k0_hw776 : k0_chk776 v2 v970), ∀ a x, ((![v970, v2] : Fin 2 → IVec S16 32) a x).toNat < S4x2572.size a := fun v2 v970 k0_hw776 => k0_hw776
def k0_off268 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1051 : BitVec 32 := 4#32
  let v904 : BitVec 32 := Scalar.muli v1 c4_i32_1051
  let c3_i32_1052 : BitVec 32 := 3#32
  let v905 : BitVec 32 := Scalar.addi v904 c3_i32_1052
  let c4_i32_1053 : BitVec 32 := 4#32
  let v906 : BitVec 32 := Scalar.muli v905 c4_i32_1053
  let v907 : BitVec 32 := v906
  let c20480_i32_1131 : BitVec 32 := 20480#32
  ![v907.toNat, 20480]
def k0_off269 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1051 : BitVec 32 := 4#32
  let v904 : BitVec 32 := Scalar.muli v1 c4_i32_1051
  let c3_i32_1052 : BitVec 32 := 3#32
  let v905 : BitVec 32 := Scalar.addi v904 c3_i32_1052
  let c4_i32_1053 : BitVec 32 := 4#32
  let v906 : BitVec 32 := Scalar.muli v905 c4_i32_1053
  let v907 : BitVec 32 := v906
  let c25600_i32_1137 : BitVec 32 := 25600#32
  ![v907.toNat, 25600]
@[reducible] def k0_t21_loop : Scf.Loop 32 :=
  let c0_i32_1142 : BitVec 32 := 0#32
  let c161_i32_1143 : BitVec 32 := 161#32
  let v979 : BitVec 32 := Scalar.addi c0_i32_1142 c161_i32_1143
  let c1_i32_1144 : BitVec 32 := 1#32
  ⟨c0_i32_1142, v979, c1_i32_1144⟩
def k0_off270 (k0_t21 : Fin k0_t21_loop.trips) : Fin 1 → Nat :=
  let c0_i32_1328 : BitVec 32 := 0#32
  let c0_i32_1142 : BitVec 32 := 0#32
  let c1_i32_1144 : BitVec 32 := 1#32
  let arg21 : BitVec 32 := Scf.iv c0_i32_1142 c1_i32_1144 k0_t21
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1328 v1132
  let v1141 : Index := Scalar.indexCast v1140
  ![v1141.toNat]

def k0_chk777 (v1144 : IVec S16 32) (v1145 : IVec S16 32) : Prop :=
  (∀ a x, ((![v1145, v1144] : Fin 2 → IVec S16 32) a x).toNat < S4x10368.size a)
theorem k0_idx777_inb : ∀ (v1144 : IVec S16 32) (v1145 : IVec S16 32) (k0_hw777 : k0_chk777 v1144 v1145), ∀ a x, ((![v1145, v1144] : Fin 2 → IVec S16 32) a x).toNat < S4x10368.size a := fun v1144 v1145 k0_hw777 => k0_hw777

def k0_chk778 (v1144 : IVec S16 32) (v1148 : IVec S16 32) : Prop :=
  (∀ a x, ((![v1148, v1144] : Fin 2 → IVec S16 32) a x).toNat < S4x10368.size a)
theorem k0_idx778_inb : ∀ (v1144 : IVec S16 32) (v1148 : IVec S16 32) (k0_hw778 : k0_chk778 v1144 v1148), ∀ a x, ((![v1148, v1144] : Fin 2 → IVec S16 32) a x).toNat < S4x10368.size a := fun v1144 v1148 k0_hw778 => k0_hw778

def k0_chk779 (v1144 : IVec S16 32) (v1151 : IVec S16 32) : Prop :=
  (∀ a x, ((![v1151, v1144] : Fin 2 → IVec S16 32) a x).toNat < S4x10368.size a)
theorem k0_idx779_inb : ∀ (v1144 : IVec S16 32) (v1151 : IVec S16 32) (k0_hw779 : k0_chk779 v1144 v1151), ∀ a x, ((![v1151, v1144] : Fin 2 → IVec S16 32) a x).toNat < S4x10368.size a := fun v1144 v1151 k0_hw779 => k0_hw779

def k0_chk780 (v1144 : IVec S16 32) (v1154 : IVec S16 32) : Prop :=
  (∀ a x, ((![v1154, v1144] : Fin 2 → IVec S16 32) a x).toNat < S4x10368.size a)
theorem k0_idx780_inb : ∀ (v1144 : IVec S16 32) (v1154 : IVec S16 32) (k0_hw780 : k0_chk780 v1144 v1154), ∀ a x, ((![v1154, v1144] : Fin 2 → IVec S16 32) a x).toNat < S4x10368.size a := fun v1144 v1154 k0_hw780 => k0_hw780
def k0_off271 (k0_t21 : Fin k0_t21_loop.trips) : Fin 1 → Nat :=
  let c2562_i32 : BitVec 32 := 2562#32
  let c0_i32_1142 : BitVec 32 := 0#32
  let c1_i32_1144 : BitVec 32 := 1#32
  let arg21 : BitVec 32 := Scf.iv c0_i32_1142 c1_i32_1144 k0_t21
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk781 (v1161 : IVec S16 32) (v1162 : IVec S16 32) : Prop :=
  (∀ a x, ((![v1162, v1161] : Fin 2 → IVec S16 32) a x).toNat < S4x10368.size a)
theorem k0_idx781_inb : ∀ (v1161 : IVec S16 32) (v1162 : IVec S16 32) (k0_hw781 : k0_chk781 v1161 v1162), ∀ a x, ((![v1162, v1161] : Fin 2 → IVec S16 32) a x).toNat < S4x10368.size a := fun v1161 v1162 k0_hw781 => k0_hw781

def k0_chk782 (v1161 : IVec S16 32) (v1165 : IVec S16 32) : Prop :=
  (∀ a x, ((![v1165, v1161] : Fin 2 → IVec S16 32) a x).toNat < S4x10368.size a)
theorem k0_idx782_inb : ∀ (v1161 : IVec S16 32) (v1165 : IVec S16 32) (k0_hw782 : k0_chk782 v1161 v1165), ∀ a x, ((![v1165, v1161] : Fin 2 → IVec S16 32) a x).toNat < S4x10368.size a := fun v1161 v1165 k0_hw782 => k0_hw782

def k0_chk783 (v1161 : IVec S16 32) (v1168 : IVec S16 32) : Prop :=
  (∀ a x, ((![v1168, v1161] : Fin 2 → IVec S16 32) a x).toNat < S4x10368.size a)
theorem k0_idx783_inb : ∀ (v1161 : IVec S16 32) (v1168 : IVec S16 32) (k0_hw783 : k0_chk783 v1161 v1168), ∀ a x, ((![v1168, v1161] : Fin 2 → IVec S16 32) a x).toNat < S4x10368.size a := fun v1161 v1168 k0_hw783 => k0_hw783

def k0_chk784 (v1161 : IVec S16 32) (v1171 : IVec S16 32) : Prop :=
  (∀ a x, ((![v1171, v1161] : Fin 2 → IVec S16 32) a x).toNat < S4x10368.size a)
theorem k0_idx784_inb : ∀ (v1161 : IVec S16 32) (v1171 : IVec S16 32) (k0_hw784 : k0_chk784 v1161 v1171), ∀ a x, ((![v1171, v1161] : Fin 2 → IVec S16 32) a x).toNat < S4x10368.size a := fun v1161 v1171 k0_hw784 => k0_hw784
def k0_off272 (k0_t21 : Fin k0_t21_loop.trips) : Fin 1 → Nat :=
  let c5124_i32 : BitVec 32 := 5124#32
  let c0_i32_1142 : BitVec 32 := 0#32
  let c1_i32_1144 : BitVec 32 := 1#32
  let arg21 : BitVec 32 := Scf.iv c0_i32_1142 c1_i32_1144 k0_t21
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk785 (v1178 : IVec S16 32) (v1179 : IVec S16 32) : Prop :=
  (∀ a x, ((![v1179, v1178] : Fin 2 → IVec S16 32) a x).toNat < S4x10368.size a)
theorem k0_idx785_inb : ∀ (v1178 : IVec S16 32) (v1179 : IVec S16 32) (k0_hw785 : k0_chk785 v1178 v1179), ∀ a x, ((![v1179, v1178] : Fin 2 → IVec S16 32) a x).toNat < S4x10368.size a := fun v1178 v1179 k0_hw785 => k0_hw785

def k0_chk786 (v1178 : IVec S16 32) (v1182 : IVec S16 32) : Prop :=
  (∀ a x, ((![v1182, v1178] : Fin 2 → IVec S16 32) a x).toNat < S4x10368.size a)
theorem k0_idx786_inb : ∀ (v1178 : IVec S16 32) (v1182 : IVec S16 32) (k0_hw786 : k0_chk786 v1178 v1182), ∀ a x, ((![v1182, v1178] : Fin 2 → IVec S16 32) a x).toNat < S4x10368.size a := fun v1178 v1182 k0_hw786 => k0_hw786

def k0_chk787 (v1178 : IVec S16 32) (v1185 : IVec S16 32) : Prop :=
  (∀ a x, ((![v1185, v1178] : Fin 2 → IVec S16 32) a x).toNat < S4x10368.size a)
theorem k0_idx787_inb : ∀ (v1178 : IVec S16 32) (v1185 : IVec S16 32) (k0_hw787 : k0_chk787 v1178 v1185), ∀ a x, ((![v1185, v1178] : Fin 2 → IVec S16 32) a x).toNat < S4x10368.size a := fun v1178 v1185 k0_hw787 => k0_hw787

def k0_chk788 (v1178 : IVec S16 32) (v1188 : IVec S16 32) : Prop :=
  (∀ a x, ((![v1188, v1178] : Fin 2 → IVec S16 32) a x).toNat < S4x10368.size a)
theorem k0_idx788_inb : ∀ (v1178 : IVec S16 32) (v1188 : IVec S16 32) (k0_hw788 : k0_chk788 v1178 v1188), ∀ a x, ((![v1188, v1178] : Fin 2 → IVec S16 32) a x).toNat < S4x10368.size a := fun v1178 v1188 k0_hw788 => k0_hw788
def k0_off273 (k0_t21 : Fin k0_t21_loop.trips) : Fin 1 → Nat :=
  let c7686_i32 : BitVec 32 := 7686#32
  let c0_i32_1142 : BitVec 32 := 0#32
  let c1_i32_1144 : BitVec 32 := 1#32
  let arg21 : BitVec 32 := Scf.iv c0_i32_1142 c1_i32_1144 k0_t21
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk789 (v1195 : IVec S16 32) (v1196 : IVec S16 32) : Prop :=
  (∀ a x, ((![v1196, v1195] : Fin 2 → IVec S16 32) a x).toNat < S4x10368.size a)
theorem k0_idx789_inb : ∀ (v1195 : IVec S16 32) (v1196 : IVec S16 32) (k0_hw789 : k0_chk789 v1195 v1196), ∀ a x, ((![v1196, v1195] : Fin 2 → IVec S16 32) a x).toNat < S4x10368.size a := fun v1195 v1196 k0_hw789 => k0_hw789

def k0_chk790 (v1195 : IVec S16 32) (v1199 : IVec S16 32) : Prop :=
  (∀ a x, ((![v1199, v1195] : Fin 2 → IVec S16 32) a x).toNat < S4x10368.size a)
theorem k0_idx790_inb : ∀ (v1195 : IVec S16 32) (v1199 : IVec S16 32) (k0_hw790 : k0_chk790 v1195 v1199), ∀ a x, ((![v1199, v1195] : Fin 2 → IVec S16 32) a x).toNat < S4x10368.size a := fun v1195 v1199 k0_hw790 => k0_hw790

def k0_chk791 (v1195 : IVec S16 32) (v1202 : IVec S16 32) : Prop :=
  (∀ a x, ((![v1202, v1195] : Fin 2 → IVec S16 32) a x).toNat < S4x10368.size a)
theorem k0_idx791_inb : ∀ (v1195 : IVec S16 32) (v1202 : IVec S16 32) (k0_hw791 : k0_chk791 v1195 v1202), ∀ a x, ((![v1202, v1195] : Fin 2 → IVec S16 32) a x).toNat < S4x10368.size a := fun v1195 v1202 k0_hw791 => k0_hw791

def k0_chk792 (v1195 : IVec S16 32) (v1205 : IVec S16 32) : Prop :=
  (∀ a x, ((![v1205, v1195] : Fin 2 → IVec S16 32) a x).toNat < S4x10368.size a)
theorem k0_idx792_inb : ∀ (v1195 : IVec S16 32) (v1205 : IVec S16 32) (k0_hw792 : k0_chk792 v1195 v1205), ∀ a x, ((![v1205, v1195] : Fin 2 → IVec S16 32) a x).toNat < S4x10368.size a := fun v1195 v1205 k0_hw792 => k0_hw792
def k0_off274 (k0_t21 : Fin k0_t21_loop.trips) : Fin 1 → Nat :=
  let c10248_i32 : BitVec 32 := 10248#32
  let c0_i32_1142 : BitVec 32 := 0#32
  let c1_i32_1144 : BitVec 32 := 1#32
  let arg21 : BitVec 32 := Scf.iv c0_i32_1142 c1_i32_1144 k0_t21
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk793 (v1212 : IVec S16 32) (v1213 : IVec S16 32) : Prop :=
  (∀ a x, ((![v1213, v1212] : Fin 2 → IVec S16 32) a x).toNat < S4x10368.size a)
theorem k0_idx793_inb : ∀ (v1212 : IVec S16 32) (v1213 : IVec S16 32) (k0_hw793 : k0_chk793 v1212 v1213), ∀ a x, ((![v1213, v1212] : Fin 2 → IVec S16 32) a x).toNat < S4x10368.size a := fun v1212 v1213 k0_hw793 => k0_hw793

def k0_chk794 (v1212 : IVec S16 32) (v1216 : IVec S16 32) : Prop :=
  (∀ a x, ((![v1216, v1212] : Fin 2 → IVec S16 32) a x).toNat < S4x10368.size a)
theorem k0_idx794_inb : ∀ (v1212 : IVec S16 32) (v1216 : IVec S16 32) (k0_hw794 : k0_chk794 v1212 v1216), ∀ a x, ((![v1216, v1212] : Fin 2 → IVec S16 32) a x).toNat < S4x10368.size a := fun v1212 v1216 k0_hw794 => k0_hw794

def k0_chk795 (v1212 : IVec S16 32) (v1219 : IVec S16 32) : Prop :=
  (∀ a x, ((![v1219, v1212] : Fin 2 → IVec S16 32) a x).toNat < S4x10368.size a)
theorem k0_idx795_inb : ∀ (v1212 : IVec S16 32) (v1219 : IVec S16 32) (k0_hw795 : k0_chk795 v1212 v1219), ∀ a x, ((![v1219, v1212] : Fin 2 → IVec S16 32) a x).toNat < S4x10368.size a := fun v1212 v1219 k0_hw795 => k0_hw795

def k0_chk796 (v1212 : IVec S16 32) (v1222 : IVec S16 32) : Prop :=
  (∀ a x, ((![v1222, v1212] : Fin 2 → IVec S16 32) a x).toNat < S4x10368.size a)
theorem k0_idx796_inb : ∀ (v1212 : IVec S16 32) (v1222 : IVec S16 32) (k0_hw796 : k0_chk796 v1212 v1222), ∀ a x, ((![v1222, v1212] : Fin 2 → IVec S16 32) a x).toNat < S4x10368.size a := fun v1212 v1222 k0_hw796 => k0_hw796
def k0_off275 (k0_t21 : Fin k0_t21_loop.trips) : Fin 1 → Nat :=
  let c12810_i32 : BitVec 32 := 12810#32
  let c0_i32_1142 : BitVec 32 := 0#32
  let c1_i32_1144 : BitVec 32 := 1#32
  let arg21 : BitVec 32 := Scf.iv c0_i32_1142 c1_i32_1144 k0_t21
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk797 (v1229 : IVec S16 32) (v1230 : IVec S16 32) : Prop :=
  (∀ a x, ((![v1230, v1229] : Fin 2 → IVec S16 32) a x).toNat < S4x10368.size a)
theorem k0_idx797_inb : ∀ (v1229 : IVec S16 32) (v1230 : IVec S16 32) (k0_hw797 : k0_chk797 v1229 v1230), ∀ a x, ((![v1230, v1229] : Fin 2 → IVec S16 32) a x).toNat < S4x10368.size a := fun v1229 v1230 k0_hw797 => k0_hw797

def k0_chk798 (v1229 : IVec S16 32) (v1233 : IVec S16 32) : Prop :=
  (∀ a x, ((![v1233, v1229] : Fin 2 → IVec S16 32) a x).toNat < S4x10368.size a)
theorem k0_idx798_inb : ∀ (v1229 : IVec S16 32) (v1233 : IVec S16 32) (k0_hw798 : k0_chk798 v1229 v1233), ∀ a x, ((![v1233, v1229] : Fin 2 → IVec S16 32) a x).toNat < S4x10368.size a := fun v1229 v1233 k0_hw798 => k0_hw798

def k0_chk799 (v1229 : IVec S16 32) (v1236 : IVec S16 32) : Prop :=
  (∀ a x, ((![v1236, v1229] : Fin 2 → IVec S16 32) a x).toNat < S4x10368.size a)
theorem k0_idx799_inb : ∀ (v1229 : IVec S16 32) (v1236 : IVec S16 32) (k0_hw799 : k0_chk799 v1229 v1236), ∀ a x, ((![v1236, v1229] : Fin 2 → IVec S16 32) a x).toNat < S4x10368.size a := fun v1229 v1236 k0_hw799 => k0_hw799

def k0_chk800 (v1229 : IVec S16 32) (v1239 : IVec S16 32) : Prop :=
  (∀ a x, ((![v1239, v1229] : Fin 2 → IVec S16 32) a x).toNat < S4x10368.size a)
theorem k0_idx800_inb : ∀ (v1229 : IVec S16 32) (v1239 : IVec S16 32) (k0_hw800 : k0_chk800 v1229 v1239), ∀ a x, ((![v1239, v1229] : Fin 2 → IVec S16 32) a x).toNat < S4x10368.size a := fun v1229 v1239 k0_hw800 => k0_hw800
def k0_off276 (k0_t21 : Fin k0_t21_loop.trips) : Fin 1 → Nat :=
  let c15372_i32 : BitVec 32 := 15372#32
  let c0_i32_1142 : BitVec 32 := 0#32
  let c1_i32_1144 : BitVec 32 := 1#32
  let arg21 : BitVec 32 := Scf.iv c0_i32_1142 c1_i32_1144 k0_t21
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk801 (v1246 : IVec S16 32) (v1247 : IVec S16 32) : Prop :=
  (∀ a x, ((![v1247, v1246] : Fin 2 → IVec S16 32) a x).toNat < S4x10368.size a)
theorem k0_idx801_inb : ∀ (v1246 : IVec S16 32) (v1247 : IVec S16 32) (k0_hw801 : k0_chk801 v1246 v1247), ∀ a x, ((![v1247, v1246] : Fin 2 → IVec S16 32) a x).toNat < S4x10368.size a := fun v1246 v1247 k0_hw801 => k0_hw801

def k0_chk802 (v1246 : IVec S16 32) (v1250 : IVec S16 32) : Prop :=
  (∀ a x, ((![v1250, v1246] : Fin 2 → IVec S16 32) a x).toNat < S4x10368.size a)
theorem k0_idx802_inb : ∀ (v1246 : IVec S16 32) (v1250 : IVec S16 32) (k0_hw802 : k0_chk802 v1246 v1250), ∀ a x, ((![v1250, v1246] : Fin 2 → IVec S16 32) a x).toNat < S4x10368.size a := fun v1246 v1250 k0_hw802 => k0_hw802

def k0_chk803 (v1246 : IVec S16 32) (v1253 : IVec S16 32) : Prop :=
  (∀ a x, ((![v1253, v1246] : Fin 2 → IVec S16 32) a x).toNat < S4x10368.size a)
theorem k0_idx803_inb : ∀ (v1246 : IVec S16 32) (v1253 : IVec S16 32) (k0_hw803 : k0_chk803 v1246 v1253), ∀ a x, ((![v1253, v1246] : Fin 2 → IVec S16 32) a x).toNat < S4x10368.size a := fun v1246 v1253 k0_hw803 => k0_hw803

def k0_chk804 (v1246 : IVec S16 32) (v1256 : IVec S16 32) : Prop :=
  (∀ a x, ((![v1256, v1246] : Fin 2 → IVec S16 32) a x).toNat < S4x10368.size a)
theorem k0_idx804_inb : ∀ (v1246 : IVec S16 32) (v1256 : IVec S16 32) (k0_hw804 : k0_chk804 v1246 v1256), ∀ a x, ((![v1256, v1246] : Fin 2 → IVec S16 32) a x).toNat < S4x10368.size a := fun v1246 v1256 k0_hw804 => k0_hw804

def k0_chk805 (v1135 : IVec S16 32) (v1259 : IVec S16 32) : Prop :=
  (∀ a x, ((![v1259, v1135] : Fin 2 → IVec S16 32) a x).toNat < S4x2572.size a)
theorem k0_idx805_inb : ∀ (v1135 : IVec S16 32) (v1259 : IVec S16 32) (k0_hw805 : k0_chk805 v1135 v1259), ∀ a x, ((![v1259, v1135] : Fin 2 → IVec S16 32) a x).toNat < S4x2572.size a := fun v1135 v1259 k0_hw805 => k0_hw805

def k0_chk806 (v1135 : IVec S16 32) (v1262 : IVec S16 32) : Prop :=
  (∀ a x, ((![v1262, v1135] : Fin 2 → IVec S16 32) a x).toNat < S4x2572.size a)
theorem k0_idx806_inb : ∀ (v1135 : IVec S16 32) (v1262 : IVec S16 32) (k0_hw806 : k0_chk806 v1135 v1262), ∀ a x, ((![v1262, v1135] : Fin 2 → IVec S16 32) a x).toNat < S4x2572.size a := fun v1135 v1262 k0_hw806 => k0_hw806

def k0_chk807 (v1135 : IVec S16 32) (v1265 : IVec S16 32) : Prop :=
  (∀ a x, ((![v1265, v1135] : Fin 2 → IVec S16 32) a x).toNat < S4x2572.size a)
theorem k0_idx807_inb : ∀ (v1135 : IVec S16 32) (v1265 : IVec S16 32) (k0_hw807 : k0_chk807 v1135 v1265), ∀ a x, ((![v1265, v1135] : Fin 2 → IVec S16 32) a x).toNat < S4x2572.size a := fun v1135 v1265 k0_hw807 => k0_hw807

def k0_chk808 (v1135 : IVec S16 32) (v1268 : IVec S16 32) : Prop :=
  (∀ a x, ((![v1268, v1135] : Fin 2 → IVec S16 32) a x).toNat < S4x2572.size a)
theorem k0_idx808_inb : ∀ (v1135 : IVec S16 32) (v1268 : IVec S16 32) (k0_hw808 : k0_chk808 v1135 v1268), ∀ a x, ((![v1268, v1135] : Fin 2 → IVec S16 32) a x).toNat < S4x2572.size a := fun v1135 v1268 k0_hw808 => k0_hw808

def k0_chk809 (v983 : IVec S16 32) (v984 : IVec S16 32) : Prop :=
  (∀ a x, ((![v984, v983] : Fin 2 → IVec S16 32) a x).toNat < S4x2572.size a)
theorem k0_idx809_inb : ∀ (v983 : IVec S16 32) (v984 : IVec S16 32) (k0_hw809 : k0_chk809 v983 v984), ∀ a x, ((![v984, v983] : Fin 2 → IVec S16 32) a x).toNat < S4x2572.size a := fun v983 v984 k0_hw809 => k0_hw809

def k0_chk810 (v983 : IVec S16 32) (v986 : IVec S16 32) : Prop :=
  (∀ a x, ((![v986, v983] : Fin 2 → IVec S16 32) a x).toNat < S4x2572.size a)
theorem k0_idx810_inb : ∀ (v983 : IVec S16 32) (v986 : IVec S16 32) (k0_hw810 : k0_chk810 v983 v986), ∀ a x, ((![v986, v983] : Fin 2 → IVec S16 32) a x).toNat < S4x2572.size a := fun v983 v986 k0_hw810 => k0_hw810

def k0_chk811 (v983 : IVec S16 32) (v988 : IVec S16 32) : Prop :=
  (∀ a x, ((![v988, v983] : Fin 2 → IVec S16 32) a x).toNat < S4x2572.size a)
theorem k0_idx811_inb : ∀ (v983 : IVec S16 32) (v988 : IVec S16 32) (k0_hw811 : k0_chk811 v983 v988), ∀ a x, ((![v988, v983] : Fin 2 → IVec S16 32) a x).toNat < S4x2572.size a := fun v983 v988 k0_hw811 => k0_hw811

def k0_chk812 (v983 : IVec S16 32) (v990 : IVec S16 32) : Prop :=
  (∀ a x, ((![v990, v983] : Fin 2 → IVec S16 32) a x).toNat < S4x2572.size a)
theorem k0_idx812_inb : ∀ (v983 : IVec S16 32) (v990 : IVec S16 32) (k0_hw812 : k0_chk812 v983 v990), ∀ a x, ((![v990, v983] : Fin 2 → IVec S16 32) a x).toNat < S4x2572.size a := fun v983 v990 k0_hw812 => k0_hw812
def k0_off277 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1101 : BitVec 32 := 4#32
  let v947 : BitVec 32 := Scalar.muli v1 c4_i32_1101
  let c3_i32_1102 : BitVec 32 := 3#32
  let v948 : BitVec 32 := Scalar.addi v947 c3_i32_1102
  let c4_i32_1103 : BitVec 32 := 4#32
  let v949 : BitVec 32 := Scalar.muli v948 c4_i32_1103
  let v950 : BitVec 32 := v949
  let c5120_i32_1154 : BitVec 32 := 5120#32
  ![v950.toNat, 5120]
def k0_mult44 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1158 : BitVec 32 := 4#32
  let v996 : BitVec 32 := Scalar.muli v1 c4_i32_1158
  let c3_i32_1159 : BitVec 32 := 3#32
  let v997 : BitVec 32 := Scalar.addi v996 c3_i32_1159
  let c4_i32_1160 : BitVec 32 := 4#32
  let v998 : BitVec 32 := Scalar.muli v997 c4_i32_1160
  v998
def k0_mult45 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1161 : BitVec 32 := 4#32
  let v1000 : BitVec 32 := Scalar.muli v1 c4_i32_1161
  let c3_i32_1162 : BitVec 32 := 3#32
  let v1001 : BitVec 32 := Scalar.addi v1000 c3_i32_1162
  let c4_i32_1163 : BitVec 32 := 4#32
  let v1002 : BitVec 32 := Scalar.muli v1001 c4_i32_1163
  v1002
def k0_off278 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1161 : BitVec 32 := 4#32
  let v1000 : BitVec 32 := Scalar.muli v1 c4_i32_1161
  let c3_i32_1162 : BitVec 32 := 3#32
  let v1001 : BitVec 32 := Scalar.addi v1000 c3_i32_1162
  let c4_i32_1163 : BitVec 32 := 4#32
  let v1002 : BitVec 32 := Scalar.muli v1001 c4_i32_1163
  let v1003 : BitVec 32 := v1002
  let c40960_i32_1166 : BitVec 32 := 40960#32
  ![v1003.toNat, 40960]
def k0_off279 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1161 : BitVec 32 := 4#32
  let v1000 : BitVec 32 := Scalar.muli v1 c4_i32_1161
  let c3_i32_1162 : BitVec 32 := 3#32
  let v1001 : BitVec 32 := Scalar.addi v1000 c3_i32_1162
  let c4_i32_1163 : BitVec 32 := 4#32
  let v1002 : BitVec 32 := Scalar.muli v1001 c4_i32_1163
  let v1003 : BitVec 32 := v1002
  let c46080_i32_1172 : BitVec 32 := 46080#32
  ![v1003.toNat, 46080]
def k0_off280 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1048 : BitVec 32 := 4#32
  let v900 : BitVec 32 := Scalar.muli v1 c4_i32_1048
  let c3_i32_1049 : BitVec 32 := 3#32
  let v901 : BitVec 32 := Scalar.addi v900 c3_i32_1049
  let c4_i32_1050 : BitVec 32 := 4#32
  let v902 : BitVec 32 := Scalar.muli v901 c4_i32_1050
  let v903 : BitVec 32 := v902
  let c2560_i32_1178 : BitVec 32 := 2560#32
  ![v903.toNat, 2560]

def k0_chk813 (v2 : IVec S16 32) (v1016 : IVec S16 32) : Prop :=
  (∀ a x, ((![v1016, v2] : Fin 2 → IVec S16 32) a x).toNat < S4x2572.size a)
theorem k0_idx813_inb : ∀ (v2 : IVec S16 32) (v1016 : IVec S16 32) (k0_hw813 : k0_chk813 v2 v1016), ∀ a x, ((![v1016, v2] : Fin 2 → IVec S16 32) a x).toNat < S4x2572.size a := fun v2 v1016 k0_hw813 => k0_hw813

def k0_chk814 (v2 : IVec S16 32) (v1017 : IVec S16 32) : Prop :=
  (∀ a x, ((![v1017, v2] : Fin 2 → IVec S16 32) a x).toNat < S4x2572.size a)
theorem k0_idx814_inb : ∀ (v2 : IVec S16 32) (v1017 : IVec S16 32) (k0_hw814 : k0_chk814 v2 v1017), ∀ a x, ((![v1017, v2] : Fin 2 → IVec S16 32) a x).toNat < S4x2572.size a := fun v2 v1017 k0_hw814 => k0_hw814

def k0_chk815 (v2 : IVec S16 32) (v1018 : IVec S16 32) : Prop :=
  (∀ a x, ((![v1018, v2] : Fin 2 → IVec S16 32) a x).toNat < S4x2572.size a)
theorem k0_idx815_inb : ∀ (v2 : IVec S16 32) (v1018 : IVec S16 32) (k0_hw815 : k0_chk815 v2 v1018), ∀ a x, ((![v1018, v2] : Fin 2 → IVec S16 32) a x).toNat < S4x2572.size a := fun v2 v1018 k0_hw815 => k0_hw815

def k0_chk816 (v2 : IVec S16 32) (v1019 : IVec S16 32) : Prop :=
  (∀ a x, ((![v1019, v2] : Fin 2 → IVec S16 32) a x).toNat < S4x2572.size a)
theorem k0_idx816_inb : ∀ (v2 : IVec S16 32) (v1019 : IVec S16 32) (k0_hw816 : k0_chk816 v2 v1019), ∀ a x, ((![v1019, v2] : Fin 2 → IVec S16 32) a x).toNat < S4x2572.size a := fun v2 v1019 k0_hw816 => k0_hw816
def k0_off281 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1104 : BitVec 32 := 4#32
  let v951 : BitVec 32 := Scalar.muli v1 c4_i32_1104
  let c3_i32_1105 : BitVec 32 := 3#32
  let v952 : BitVec 32 := Scalar.addi v951 c3_i32_1105
  let c4_i32_1106 : BitVec 32 := 4#32
  let v953 : BitVec 32 := Scalar.muli v952 c4_i32_1106
  let v954 : BitVec 32 := v953
  let c30720_i32_1188 : BitVec 32 := 30720#32
  ![v954.toNat, 30720]
def k0_off282 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1104 : BitVec 32 := 4#32
  let v951 : BitVec 32 := Scalar.muli v1 c4_i32_1104
  let c3_i32_1105 : BitVec 32 := 3#32
  let v952 : BitVec 32 := Scalar.addi v951 c3_i32_1105
  let c4_i32_1106 : BitVec 32 := 4#32
  let v953 : BitVec 32 := Scalar.muli v952 c4_i32_1106
  let v954 : BitVec 32 := v953
  let c35840_i32_1194 : BitVec 32 := 35840#32
  ![v954.toNat, 35840]
@[reducible] def k0_t22_loop : Scf.Loop 32 :=
  let c0_i32_1199 : BitVec 32 := 0#32
  let c161_i32_1200 : BitVec 32 := 161#32
  let v1028 : BitVec 32 := Scalar.addi c0_i32_1199 c161_i32_1200
  let c1_i32_1201 : BitVec 32 := 1#32
  ⟨c0_i32_1199, v1028, c1_i32_1201⟩
def k0_off283 (k0_t22 : Fin k0_t22_loop.trips) : Fin 1 → Nat :=
  let c0_i32_1327 : BitVec 32 := 0#32
  let c0_i32_1199 : BitVec 32 := 0#32
  let c1_i32_1201 : BitVec 32 := 1#32
  let arg21 : BitVec 32 := Scf.iv c0_i32_1199 c1_i32_1201 k0_t22
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1327 v1132
  let v1141 : Index := Scalar.indexCast v1140
  ![v1141.toNat]

def k0_chk817 (v1144 : IVec S16 32) (v1145 : IVec S16 32) : Prop :=
  (∀ a x, ((![v1145, v1144] : Fin 2 → IVec S16 32) a x).toNat < S4x10368.size a)
theorem k0_idx817_inb : ∀ (v1144 : IVec S16 32) (v1145 : IVec S16 32) (k0_hw817 : k0_chk817 v1144 v1145), ∀ a x, ((![v1145, v1144] : Fin 2 → IVec S16 32) a x).toNat < S4x10368.size a := fun v1144 v1145 k0_hw817 => k0_hw817

def k0_chk818 (v1144 : IVec S16 32) (v1148 : IVec S16 32) : Prop :=
  (∀ a x, ((![v1148, v1144] : Fin 2 → IVec S16 32) a x).toNat < S4x10368.size a)
theorem k0_idx818_inb : ∀ (v1144 : IVec S16 32) (v1148 : IVec S16 32) (k0_hw818 : k0_chk818 v1144 v1148), ∀ a x, ((![v1148, v1144] : Fin 2 → IVec S16 32) a x).toNat < S4x10368.size a := fun v1144 v1148 k0_hw818 => k0_hw818

def k0_chk819 (v1144 : IVec S16 32) (v1151 : IVec S16 32) : Prop :=
  (∀ a x, ((![v1151, v1144] : Fin 2 → IVec S16 32) a x).toNat < S4x10368.size a)
theorem k0_idx819_inb : ∀ (v1144 : IVec S16 32) (v1151 : IVec S16 32) (k0_hw819 : k0_chk819 v1144 v1151), ∀ a x, ((![v1151, v1144] : Fin 2 → IVec S16 32) a x).toNat < S4x10368.size a := fun v1144 v1151 k0_hw819 => k0_hw819

def k0_chk820 (v1144 : IVec S16 32) (v1154 : IVec S16 32) : Prop :=
  (∀ a x, ((![v1154, v1144] : Fin 2 → IVec S16 32) a x).toNat < S4x10368.size a)
theorem k0_idx820_inb : ∀ (v1144 : IVec S16 32) (v1154 : IVec S16 32) (k0_hw820 : k0_chk820 v1144 v1154), ∀ a x, ((![v1154, v1144] : Fin 2 → IVec S16 32) a x).toNat < S4x10368.size a := fun v1144 v1154 k0_hw820 => k0_hw820
def k0_off284 (k0_t22 : Fin k0_t22_loop.trips) : Fin 1 → Nat :=
  let c2562_i32 : BitVec 32 := 2562#32
  let c0_i32_1199 : BitVec 32 := 0#32
  let c1_i32_1201 : BitVec 32 := 1#32
  let arg21 : BitVec 32 := Scf.iv c0_i32_1199 c1_i32_1201 k0_t22
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk821 (v1161 : IVec S16 32) (v1162 : IVec S16 32) : Prop :=
  (∀ a x, ((![v1162, v1161] : Fin 2 → IVec S16 32) a x).toNat < S4x10368.size a)
theorem k0_idx821_inb : ∀ (v1161 : IVec S16 32) (v1162 : IVec S16 32) (k0_hw821 : k0_chk821 v1161 v1162), ∀ a x, ((![v1162, v1161] : Fin 2 → IVec S16 32) a x).toNat < S4x10368.size a := fun v1161 v1162 k0_hw821 => k0_hw821

def k0_chk822 (v1161 : IVec S16 32) (v1165 : IVec S16 32) : Prop :=
  (∀ a x, ((![v1165, v1161] : Fin 2 → IVec S16 32) a x).toNat < S4x10368.size a)
theorem k0_idx822_inb : ∀ (v1161 : IVec S16 32) (v1165 : IVec S16 32) (k0_hw822 : k0_chk822 v1161 v1165), ∀ a x, ((![v1165, v1161] : Fin 2 → IVec S16 32) a x).toNat < S4x10368.size a := fun v1161 v1165 k0_hw822 => k0_hw822

def k0_chk823 (v1161 : IVec S16 32) (v1168 : IVec S16 32) : Prop :=
  (∀ a x, ((![v1168, v1161] : Fin 2 → IVec S16 32) a x).toNat < S4x10368.size a)
theorem k0_idx823_inb : ∀ (v1161 : IVec S16 32) (v1168 : IVec S16 32) (k0_hw823 : k0_chk823 v1161 v1168), ∀ a x, ((![v1168, v1161] : Fin 2 → IVec S16 32) a x).toNat < S4x10368.size a := fun v1161 v1168 k0_hw823 => k0_hw823

def k0_chk824 (v1161 : IVec S16 32) (v1171 : IVec S16 32) : Prop :=
  (∀ a x, ((![v1171, v1161] : Fin 2 → IVec S16 32) a x).toNat < S4x10368.size a)
theorem k0_idx824_inb : ∀ (v1161 : IVec S16 32) (v1171 : IVec S16 32) (k0_hw824 : k0_chk824 v1161 v1171), ∀ a x, ((![v1171, v1161] : Fin 2 → IVec S16 32) a x).toNat < S4x10368.size a := fun v1161 v1171 k0_hw824 => k0_hw824
def k0_off285 (k0_t22 : Fin k0_t22_loop.trips) : Fin 1 → Nat :=
  let c5124_i32 : BitVec 32 := 5124#32
  let c0_i32_1199 : BitVec 32 := 0#32
  let c1_i32_1201 : BitVec 32 := 1#32
  let arg21 : BitVec 32 := Scf.iv c0_i32_1199 c1_i32_1201 k0_t22
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk825 (v1178 : IVec S16 32) (v1179 : IVec S16 32) : Prop :=
  (∀ a x, ((![v1179, v1178] : Fin 2 → IVec S16 32) a x).toNat < S4x10368.size a)
theorem k0_idx825_inb : ∀ (v1178 : IVec S16 32) (v1179 : IVec S16 32) (k0_hw825 : k0_chk825 v1178 v1179), ∀ a x, ((![v1179, v1178] : Fin 2 → IVec S16 32) a x).toNat < S4x10368.size a := fun v1178 v1179 k0_hw825 => k0_hw825

def k0_chk826 (v1178 : IVec S16 32) (v1182 : IVec S16 32) : Prop :=
  (∀ a x, ((![v1182, v1178] : Fin 2 → IVec S16 32) a x).toNat < S4x10368.size a)
theorem k0_idx826_inb : ∀ (v1178 : IVec S16 32) (v1182 : IVec S16 32) (k0_hw826 : k0_chk826 v1178 v1182), ∀ a x, ((![v1182, v1178] : Fin 2 → IVec S16 32) a x).toNat < S4x10368.size a := fun v1178 v1182 k0_hw826 => k0_hw826

def k0_chk827 (v1178 : IVec S16 32) (v1185 : IVec S16 32) : Prop :=
  (∀ a x, ((![v1185, v1178] : Fin 2 → IVec S16 32) a x).toNat < S4x10368.size a)
theorem k0_idx827_inb : ∀ (v1178 : IVec S16 32) (v1185 : IVec S16 32) (k0_hw827 : k0_chk827 v1178 v1185), ∀ a x, ((![v1185, v1178] : Fin 2 → IVec S16 32) a x).toNat < S4x10368.size a := fun v1178 v1185 k0_hw827 => k0_hw827

def k0_chk828 (v1178 : IVec S16 32) (v1188 : IVec S16 32) : Prop :=
  (∀ a x, ((![v1188, v1178] : Fin 2 → IVec S16 32) a x).toNat < S4x10368.size a)
theorem k0_idx828_inb : ∀ (v1178 : IVec S16 32) (v1188 : IVec S16 32) (k0_hw828 : k0_chk828 v1178 v1188), ∀ a x, ((![v1188, v1178] : Fin 2 → IVec S16 32) a x).toNat < S4x10368.size a := fun v1178 v1188 k0_hw828 => k0_hw828
def k0_off286 (k0_t22 : Fin k0_t22_loop.trips) : Fin 1 → Nat :=
  let c7686_i32 : BitVec 32 := 7686#32
  let c0_i32_1199 : BitVec 32 := 0#32
  let c1_i32_1201 : BitVec 32 := 1#32
  let arg21 : BitVec 32 := Scf.iv c0_i32_1199 c1_i32_1201 k0_t22
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk829 (v1195 : IVec S16 32) (v1196 : IVec S16 32) : Prop :=
  (∀ a x, ((![v1196, v1195] : Fin 2 → IVec S16 32) a x).toNat < S4x10368.size a)
theorem k0_idx829_inb : ∀ (v1195 : IVec S16 32) (v1196 : IVec S16 32) (k0_hw829 : k0_chk829 v1195 v1196), ∀ a x, ((![v1196, v1195] : Fin 2 → IVec S16 32) a x).toNat < S4x10368.size a := fun v1195 v1196 k0_hw829 => k0_hw829

def k0_chk830 (v1195 : IVec S16 32) (v1199 : IVec S16 32) : Prop :=
  (∀ a x, ((![v1199, v1195] : Fin 2 → IVec S16 32) a x).toNat < S4x10368.size a)
theorem k0_idx830_inb : ∀ (v1195 : IVec S16 32) (v1199 : IVec S16 32) (k0_hw830 : k0_chk830 v1195 v1199), ∀ a x, ((![v1199, v1195] : Fin 2 → IVec S16 32) a x).toNat < S4x10368.size a := fun v1195 v1199 k0_hw830 => k0_hw830

def k0_chk831 (v1195 : IVec S16 32) (v1202 : IVec S16 32) : Prop :=
  (∀ a x, ((![v1202, v1195] : Fin 2 → IVec S16 32) a x).toNat < S4x10368.size a)
theorem k0_idx831_inb : ∀ (v1195 : IVec S16 32) (v1202 : IVec S16 32) (k0_hw831 : k0_chk831 v1195 v1202), ∀ a x, ((![v1202, v1195] : Fin 2 → IVec S16 32) a x).toNat < S4x10368.size a := fun v1195 v1202 k0_hw831 => k0_hw831

def k0_chk832 (v1195 : IVec S16 32) (v1205 : IVec S16 32) : Prop :=
  (∀ a x, ((![v1205, v1195] : Fin 2 → IVec S16 32) a x).toNat < S4x10368.size a)
theorem k0_idx832_inb : ∀ (v1195 : IVec S16 32) (v1205 : IVec S16 32) (k0_hw832 : k0_chk832 v1195 v1205), ∀ a x, ((![v1205, v1195] : Fin 2 → IVec S16 32) a x).toNat < S4x10368.size a := fun v1195 v1205 k0_hw832 => k0_hw832
def k0_off287 (k0_t22 : Fin k0_t22_loop.trips) : Fin 1 → Nat :=
  let c10248_i32 : BitVec 32 := 10248#32
  let c0_i32_1199 : BitVec 32 := 0#32
  let c1_i32_1201 : BitVec 32 := 1#32
  let arg21 : BitVec 32 := Scf.iv c0_i32_1199 c1_i32_1201 k0_t22
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk833 (v1212 : IVec S16 32) (v1213 : IVec S16 32) : Prop :=
  (∀ a x, ((![v1213, v1212] : Fin 2 → IVec S16 32) a x).toNat < S4x10368.size a)
theorem k0_idx833_inb : ∀ (v1212 : IVec S16 32) (v1213 : IVec S16 32) (k0_hw833 : k0_chk833 v1212 v1213), ∀ a x, ((![v1213, v1212] : Fin 2 → IVec S16 32) a x).toNat < S4x10368.size a := fun v1212 v1213 k0_hw833 => k0_hw833

def k0_chk834 (v1212 : IVec S16 32) (v1216 : IVec S16 32) : Prop :=
  (∀ a x, ((![v1216, v1212] : Fin 2 → IVec S16 32) a x).toNat < S4x10368.size a)
theorem k0_idx834_inb : ∀ (v1212 : IVec S16 32) (v1216 : IVec S16 32) (k0_hw834 : k0_chk834 v1212 v1216), ∀ a x, ((![v1216, v1212] : Fin 2 → IVec S16 32) a x).toNat < S4x10368.size a := fun v1212 v1216 k0_hw834 => k0_hw834

def k0_chk835 (v1212 : IVec S16 32) (v1219 : IVec S16 32) : Prop :=
  (∀ a x, ((![v1219, v1212] : Fin 2 → IVec S16 32) a x).toNat < S4x10368.size a)
theorem k0_idx835_inb : ∀ (v1212 : IVec S16 32) (v1219 : IVec S16 32) (k0_hw835 : k0_chk835 v1212 v1219), ∀ a x, ((![v1219, v1212] : Fin 2 → IVec S16 32) a x).toNat < S4x10368.size a := fun v1212 v1219 k0_hw835 => k0_hw835

def k0_chk836 (v1212 : IVec S16 32) (v1222 : IVec S16 32) : Prop :=
  (∀ a x, ((![v1222, v1212] : Fin 2 → IVec S16 32) a x).toNat < S4x10368.size a)
theorem k0_idx836_inb : ∀ (v1212 : IVec S16 32) (v1222 : IVec S16 32) (k0_hw836 : k0_chk836 v1212 v1222), ∀ a x, ((![v1222, v1212] : Fin 2 → IVec S16 32) a x).toNat < S4x10368.size a := fun v1212 v1222 k0_hw836 => k0_hw836
def k0_off288 (k0_t22 : Fin k0_t22_loop.trips) : Fin 1 → Nat :=
  let c12810_i32 : BitVec 32 := 12810#32
  let c0_i32_1199 : BitVec 32 := 0#32
  let c1_i32_1201 : BitVec 32 := 1#32
  let arg21 : BitVec 32 := Scf.iv c0_i32_1199 c1_i32_1201 k0_t22
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk837 (v1229 : IVec S16 32) (v1230 : IVec S16 32) : Prop :=
  (∀ a x, ((![v1230, v1229] : Fin 2 → IVec S16 32) a x).toNat < S4x10368.size a)
theorem k0_idx837_inb : ∀ (v1229 : IVec S16 32) (v1230 : IVec S16 32) (k0_hw837 : k0_chk837 v1229 v1230), ∀ a x, ((![v1230, v1229] : Fin 2 → IVec S16 32) a x).toNat < S4x10368.size a := fun v1229 v1230 k0_hw837 => k0_hw837

def k0_chk838 (v1229 : IVec S16 32) (v1233 : IVec S16 32) : Prop :=
  (∀ a x, ((![v1233, v1229] : Fin 2 → IVec S16 32) a x).toNat < S4x10368.size a)
theorem k0_idx838_inb : ∀ (v1229 : IVec S16 32) (v1233 : IVec S16 32) (k0_hw838 : k0_chk838 v1229 v1233), ∀ a x, ((![v1233, v1229] : Fin 2 → IVec S16 32) a x).toNat < S4x10368.size a := fun v1229 v1233 k0_hw838 => k0_hw838

def k0_chk839 (v1229 : IVec S16 32) (v1236 : IVec S16 32) : Prop :=
  (∀ a x, ((![v1236, v1229] : Fin 2 → IVec S16 32) a x).toNat < S4x10368.size a)
theorem k0_idx839_inb : ∀ (v1229 : IVec S16 32) (v1236 : IVec S16 32) (k0_hw839 : k0_chk839 v1229 v1236), ∀ a x, ((![v1236, v1229] : Fin 2 → IVec S16 32) a x).toNat < S4x10368.size a := fun v1229 v1236 k0_hw839 => k0_hw839

def k0_chk840 (v1229 : IVec S16 32) (v1239 : IVec S16 32) : Prop :=
  (∀ a x, ((![v1239, v1229] : Fin 2 → IVec S16 32) a x).toNat < S4x10368.size a)
theorem k0_idx840_inb : ∀ (v1229 : IVec S16 32) (v1239 : IVec S16 32) (k0_hw840 : k0_chk840 v1229 v1239), ∀ a x, ((![v1239, v1229] : Fin 2 → IVec S16 32) a x).toNat < S4x10368.size a := fun v1229 v1239 k0_hw840 => k0_hw840
def k0_off289 (k0_t22 : Fin k0_t22_loop.trips) : Fin 1 → Nat :=
  let c15372_i32 : BitVec 32 := 15372#32
  let c0_i32_1199 : BitVec 32 := 0#32
  let c1_i32_1201 : BitVec 32 := 1#32
  let arg21 : BitVec 32 := Scf.iv c0_i32_1199 c1_i32_1201 k0_t22
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk841 (v1246 : IVec S16 32) (v1247 : IVec S16 32) : Prop :=
  (∀ a x, ((![v1247, v1246] : Fin 2 → IVec S16 32) a x).toNat < S4x10368.size a)
theorem k0_idx841_inb : ∀ (v1246 : IVec S16 32) (v1247 : IVec S16 32) (k0_hw841 : k0_chk841 v1246 v1247), ∀ a x, ((![v1247, v1246] : Fin 2 → IVec S16 32) a x).toNat < S4x10368.size a := fun v1246 v1247 k0_hw841 => k0_hw841

def k0_chk842 (v1246 : IVec S16 32) (v1250 : IVec S16 32) : Prop :=
  (∀ a x, ((![v1250, v1246] : Fin 2 → IVec S16 32) a x).toNat < S4x10368.size a)
theorem k0_idx842_inb : ∀ (v1246 : IVec S16 32) (v1250 : IVec S16 32) (k0_hw842 : k0_chk842 v1246 v1250), ∀ a x, ((![v1250, v1246] : Fin 2 → IVec S16 32) a x).toNat < S4x10368.size a := fun v1246 v1250 k0_hw842 => k0_hw842

def k0_chk843 (v1246 : IVec S16 32) (v1253 : IVec S16 32) : Prop :=
  (∀ a x, ((![v1253, v1246] : Fin 2 → IVec S16 32) a x).toNat < S4x10368.size a)
theorem k0_idx843_inb : ∀ (v1246 : IVec S16 32) (v1253 : IVec S16 32) (k0_hw843 : k0_chk843 v1246 v1253), ∀ a x, ((![v1253, v1246] : Fin 2 → IVec S16 32) a x).toNat < S4x10368.size a := fun v1246 v1253 k0_hw843 => k0_hw843

def k0_chk844 (v1246 : IVec S16 32) (v1256 : IVec S16 32) : Prop :=
  (∀ a x, ((![v1256, v1246] : Fin 2 → IVec S16 32) a x).toNat < S4x10368.size a)
theorem k0_idx844_inb : ∀ (v1246 : IVec S16 32) (v1256 : IVec S16 32) (k0_hw844 : k0_chk844 v1246 v1256), ∀ a x, ((![v1256, v1246] : Fin 2 → IVec S16 32) a x).toNat < S4x10368.size a := fun v1246 v1256 k0_hw844 => k0_hw844

def k0_chk845 (v1135 : IVec S16 32) (v1259 : IVec S16 32) : Prop :=
  (∀ a x, ((![v1259, v1135] : Fin 2 → IVec S16 32) a x).toNat < S4x2572.size a)
theorem k0_idx845_inb : ∀ (v1135 : IVec S16 32) (v1259 : IVec S16 32) (k0_hw845 : k0_chk845 v1135 v1259), ∀ a x, ((![v1259, v1135] : Fin 2 → IVec S16 32) a x).toNat < S4x2572.size a := fun v1135 v1259 k0_hw845 => k0_hw845

def k0_chk846 (v1135 : IVec S16 32) (v1262 : IVec S16 32) : Prop :=
  (∀ a x, ((![v1262, v1135] : Fin 2 → IVec S16 32) a x).toNat < S4x2572.size a)
theorem k0_idx846_inb : ∀ (v1135 : IVec S16 32) (v1262 : IVec S16 32) (k0_hw846 : k0_chk846 v1135 v1262), ∀ a x, ((![v1262, v1135] : Fin 2 → IVec S16 32) a x).toNat < S4x2572.size a := fun v1135 v1262 k0_hw846 => k0_hw846

def k0_chk847 (v1135 : IVec S16 32) (v1265 : IVec S16 32) : Prop :=
  (∀ a x, ((![v1265, v1135] : Fin 2 → IVec S16 32) a x).toNat < S4x2572.size a)
theorem k0_idx847_inb : ∀ (v1135 : IVec S16 32) (v1265 : IVec S16 32) (k0_hw847 : k0_chk847 v1135 v1265), ∀ a x, ((![v1265, v1135] : Fin 2 → IVec S16 32) a x).toNat < S4x2572.size a := fun v1135 v1265 k0_hw847 => k0_hw847

def k0_chk848 (v1135 : IVec S16 32) (v1268 : IVec S16 32) : Prop :=
  (∀ a x, ((![v1268, v1135] : Fin 2 → IVec S16 32) a x).toNat < S4x2572.size a)
theorem k0_idx848_inb : ∀ (v1135 : IVec S16 32) (v1268 : IVec S16 32) (k0_hw848 : k0_chk848 v1135 v1268), ∀ a x, ((![v1268, v1135] : Fin 2 → IVec S16 32) a x).toNat < S4x2572.size a := fun v1135 v1268 k0_hw848 => k0_hw848

def k0_chk849 (v1032 : IVec S16 32) (v1033 : IVec S16 32) : Prop :=
  (∀ a x, ((![v1033, v1032] : Fin 2 → IVec S16 32) a x).toNat < S4x2572.size a)
theorem k0_idx849_inb : ∀ (v1032 : IVec S16 32) (v1033 : IVec S16 32) (k0_hw849 : k0_chk849 v1032 v1033), ∀ a x, ((![v1033, v1032] : Fin 2 → IVec S16 32) a x).toNat < S4x2572.size a := fun v1032 v1033 k0_hw849 => k0_hw849

def k0_chk850 (v1032 : IVec S16 32) (v1035 : IVec S16 32) : Prop :=
  (∀ a x, ((![v1035, v1032] : Fin 2 → IVec S16 32) a x).toNat < S4x2572.size a)
theorem k0_idx850_inb : ∀ (v1032 : IVec S16 32) (v1035 : IVec S16 32) (k0_hw850 : k0_chk850 v1032 v1035), ∀ a x, ((![v1035, v1032] : Fin 2 → IVec S16 32) a x).toNat < S4x2572.size a := fun v1032 v1035 k0_hw850 => k0_hw850

def k0_chk851 (v1032 : IVec S16 32) (v1037 : IVec S16 32) : Prop :=
  (∀ a x, ((![v1037, v1032] : Fin 2 → IVec S16 32) a x).toNat < S4x2572.size a)
theorem k0_idx851_inb : ∀ (v1032 : IVec S16 32) (v1037 : IVec S16 32) (k0_hw851 : k0_chk851 v1032 v1037), ∀ a x, ((![v1037, v1032] : Fin 2 → IVec S16 32) a x).toNat < S4x2572.size a := fun v1032 v1037 k0_hw851 => k0_hw851

def k0_chk852 (v1032 : IVec S16 32) (v1039 : IVec S16 32) : Prop :=
  (∀ a x, ((![v1039, v1032] : Fin 2 → IVec S16 32) a x).toNat < S4x2572.size a)
theorem k0_idx852_inb : ∀ (v1032 : IVec S16 32) (v1039 : IVec S16 32) (k0_hw852 : k0_chk852 v1032 v1039), ∀ a x, ((![v1039, v1032] : Fin 2 → IVec S16 32) a x).toNat < S4x2572.size a := fun v1032 v1039 k0_hw852 => k0_hw852
def k0_off290 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1158 : BitVec 32 := 4#32
  let v996 : BitVec 32 := Scalar.muli v1 c4_i32_1158
  let c3_i32_1159 : BitVec 32 := 3#32
  let v997 : BitVec 32 := Scalar.addi v996 c3_i32_1159
  let c4_i32_1160 : BitVec 32 := 4#32
  let v998 : BitVec 32 := Scalar.muli v997 c4_i32_1160
  let v999 : BitVec 32 := v998
  let c7680_i32_1211 : BitVec 32 := 7680#32
  ![v999.toNat, 7680]
def k0_mult46 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1215 : BitVec 32 := 4#32
  let v1045 : BitVec 32 := Scalar.muli v1 c4_i32_1215
  let c3_i32_1216 : BitVec 32 := 3#32
  let v1046 : BitVec 32 := Scalar.addi v1045 c3_i32_1216
  let c4_i32_1217 : BitVec 32 := 4#32
  let v1047 : BitVec 32 := Scalar.muli v1046 c4_i32_1217
  v1047
def k0_mult47 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1218 : BitVec 32 := 4#32
  let v1049 : BitVec 32 := Scalar.muli v1 c4_i32_1218
  let c3_i32_1219 : BitVec 32 := 3#32
  let v1050 : BitVec 32 := Scalar.addi v1049 c3_i32_1219
  let c4_i32_1220 : BitVec 32 := 4#32
  let v1051 : BitVec 32 := Scalar.muli v1050 c4_i32_1220
  v1051
def k0_off291 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1218 : BitVec 32 := 4#32
  let v1049 : BitVec 32 := Scalar.muli v1 c4_i32_1218
  let c3_i32_1219 : BitVec 32 := 3#32
  let v1050 : BitVec 32 := Scalar.addi v1049 c3_i32_1219
  let c4_i32_1220 : BitVec 32 := 4#32
  let v1051 : BitVec 32 := Scalar.muli v1050 c4_i32_1220
  let v1052 : BitVec 32 := v1051
  let c51200_i32_1223 : BitVec 32 := 51200#32
  ![v1052.toNat, 51200]
def k0_off292 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1218 : BitVec 32 := 4#32
  let v1049 : BitVec 32 := Scalar.muli v1 c4_i32_1218
  let c3_i32_1219 : BitVec 32 := 3#32
  let v1050 : BitVec 32 := Scalar.addi v1049 c3_i32_1219
  let c4_i32_1220 : BitVec 32 := 4#32
  let v1051 : BitVec 32 := Scalar.muli v1050 c4_i32_1220
  let v1052 : BitVec 32 := v1051
  let c56320_i32_1229 : BitVec 32 := 56320#32
  ![v1052.toNat, 56320]
def k0_off293 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1218 : BitVec 32 := 4#32
  let v1049 : BitVec 32 := Scalar.muli v1 c4_i32_1218
  let c3_i32_1219 : BitVec 32 := 3#32
  let v1050 : BitVec 32 := Scalar.addi v1049 c3_i32_1219
  let c4_i32_1220 : BitVec 32 := 4#32
  let v1051 : BitVec 32 := Scalar.muli v1050 c4_i32_1220
  let v1052 : BitVec 32 := v1051
  let c0_i32_1235 : BitVec 32 := 0#32
  ![v1052.toNat, 0]
def k0_off294 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1101 : BitVec 32 := 4#32
  let v947 : BitVec 32 := Scalar.muli v1 c4_i32_1101
  let c3_i32_1102 : BitVec 32 := 3#32
  let v948 : BitVec 32 := Scalar.addi v947 c3_i32_1102
  let c4_i32_1103 : BitVec 32 := 4#32
  let v949 : BitVec 32 := Scalar.muli v948 c4_i32_1103
  let v950 : BitVec 32 := v949
  let c5120_i32_1241 : BitVec 32 := 5120#32
  ![v950.toNat, 5120]

def k0_chk853 (v2 : IVec S16 32) (v1069 : IVec S16 32) : Prop :=
  (∀ a x, ((![v1069, v2] : Fin 2 → IVec S16 32) a x).toNat < S4x2572.size a)
theorem k0_idx853_inb : ∀ (v2 : IVec S16 32) (v1069 : IVec S16 32) (k0_hw853 : k0_chk853 v2 v1069), ∀ a x, ((![v1069, v2] : Fin 2 → IVec S16 32) a x).toNat < S4x2572.size a := fun v2 v1069 k0_hw853 => k0_hw853

def k0_chk854 (v2 : IVec S16 32) (v1070 : IVec S16 32) : Prop :=
  (∀ a x, ((![v1070, v2] : Fin 2 → IVec S16 32) a x).toNat < S4x2572.size a)
theorem k0_idx854_inb : ∀ (v2 : IVec S16 32) (v1070 : IVec S16 32) (k0_hw854 : k0_chk854 v2 v1070), ∀ a x, ((![v1070, v2] : Fin 2 → IVec S16 32) a x).toNat < S4x2572.size a := fun v2 v1070 k0_hw854 => k0_hw854

def k0_chk855 (v2 : IVec S16 32) (v1071 : IVec S16 32) : Prop :=
  (∀ a x, ((![v1071, v2] : Fin 2 → IVec S16 32) a x).toNat < S4x2572.size a)
theorem k0_idx855_inb : ∀ (v2 : IVec S16 32) (v1071 : IVec S16 32) (k0_hw855 : k0_chk855 v2 v1071), ∀ a x, ((![v1071, v2] : Fin 2 → IVec S16 32) a x).toNat < S4x2572.size a := fun v2 v1071 k0_hw855 => k0_hw855

def k0_chk856 (v2 : IVec S16 32) (v1072 : IVec S16 32) : Prop :=
  (∀ a x, ((![v1072, v2] : Fin 2 → IVec S16 32) a x).toNat < S4x2572.size a)
theorem k0_idx856_inb : ∀ (v2 : IVec S16 32) (v1072 : IVec S16 32) (k0_hw856 : k0_chk856 v2 v1072), ∀ a x, ((![v1072, v2] : Fin 2 → IVec S16 32) a x).toNat < S4x2572.size a := fun v2 v1072 k0_hw856 => k0_hw856
def k0_off295 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1161 : BitVec 32 := 4#32
  let v1000 : BitVec 32 := Scalar.muli v1 c4_i32_1161
  let c3_i32_1162 : BitVec 32 := 3#32
  let v1001 : BitVec 32 := Scalar.addi v1000 c3_i32_1162
  let c4_i32_1163 : BitVec 32 := 4#32
  let v1002 : BitVec 32 := Scalar.muli v1001 c4_i32_1163
  let v1003 : BitVec 32 := v1002
  let c40960_i32_1251 : BitVec 32 := 40960#32
  ![v1003.toNat, 40960]
def k0_off296 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1161 : BitVec 32 := 4#32
  let v1000 : BitVec 32 := Scalar.muli v1 c4_i32_1161
  let c3_i32_1162 : BitVec 32 := 3#32
  let v1001 : BitVec 32 := Scalar.addi v1000 c3_i32_1162
  let c4_i32_1163 : BitVec 32 := 4#32
  let v1002 : BitVec 32 := Scalar.muli v1001 c4_i32_1163
  let v1003 : BitVec 32 := v1002
  let c46080_i32_1257 : BitVec 32 := 46080#32
  ![v1003.toNat, 46080]
@[reducible] def k0_t23_loop : Scf.Loop 32 :=
  let c0_i32_1262 : BitVec 32 := 0#32
  let c161_i32_1263 : BitVec 32 := 161#32
  let v1081 : BitVec 32 := Scalar.addi c0_i32_1262 c161_i32_1263
  let c1_i32_1264 : BitVec 32 := 1#32
  ⟨c0_i32_1262, v1081, c1_i32_1264⟩
def k0_off297 (k0_t23 : Fin k0_t23_loop.trips) : Fin 1 → Nat :=
  let c0_i32_1327 : BitVec 32 := 0#32
  let c0_i32_1262 : BitVec 32 := 0#32
  let c1_i32_1264 : BitVec 32 := 1#32
  let arg21 : BitVec 32 := Scf.iv c0_i32_1262 c1_i32_1264 k0_t23
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1327 v1132
  let v1141 : Index := Scalar.indexCast v1140
  ![v1141.toNat]

def k0_chk857 (v1144 : IVec S16 32) (v1145 : IVec S16 32) : Prop :=
  (∀ a x, ((![v1145, v1144] : Fin 2 → IVec S16 32) a x).toNat < S4x10368.size a)
theorem k0_idx857_inb : ∀ (v1144 : IVec S16 32) (v1145 : IVec S16 32) (k0_hw857 : k0_chk857 v1144 v1145), ∀ a x, ((![v1145, v1144] : Fin 2 → IVec S16 32) a x).toNat < S4x10368.size a := fun v1144 v1145 k0_hw857 => k0_hw857

def k0_chk858 (v1144 : IVec S16 32) (v1148 : IVec S16 32) : Prop :=
  (∀ a x, ((![v1148, v1144] : Fin 2 → IVec S16 32) a x).toNat < S4x10368.size a)
theorem k0_idx858_inb : ∀ (v1144 : IVec S16 32) (v1148 : IVec S16 32) (k0_hw858 : k0_chk858 v1144 v1148), ∀ a x, ((![v1148, v1144] : Fin 2 → IVec S16 32) a x).toNat < S4x10368.size a := fun v1144 v1148 k0_hw858 => k0_hw858

def k0_chk859 (v1144 : IVec S16 32) (v1151 : IVec S16 32) : Prop :=
  (∀ a x, ((![v1151, v1144] : Fin 2 → IVec S16 32) a x).toNat < S4x10368.size a)
theorem k0_idx859_inb : ∀ (v1144 : IVec S16 32) (v1151 : IVec S16 32) (k0_hw859 : k0_chk859 v1144 v1151), ∀ a x, ((![v1151, v1144] : Fin 2 → IVec S16 32) a x).toNat < S4x10368.size a := fun v1144 v1151 k0_hw859 => k0_hw859

def k0_chk860 (v1144 : IVec S16 32) (v1154 : IVec S16 32) : Prop :=
  (∀ a x, ((![v1154, v1144] : Fin 2 → IVec S16 32) a x).toNat < S4x10368.size a)
theorem k0_idx860_inb : ∀ (v1144 : IVec S16 32) (v1154 : IVec S16 32) (k0_hw860 : k0_chk860 v1144 v1154), ∀ a x, ((![v1154, v1144] : Fin 2 → IVec S16 32) a x).toNat < S4x10368.size a := fun v1144 v1154 k0_hw860 => k0_hw860
def k0_off298 (k0_t23 : Fin k0_t23_loop.trips) : Fin 1 → Nat :=
  let c2562_i32 : BitVec 32 := 2562#32
  let c0_i32_1262 : BitVec 32 := 0#32
  let c1_i32_1264 : BitVec 32 := 1#32
  let arg21 : BitVec 32 := Scf.iv c0_i32_1262 c1_i32_1264 k0_t23
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk861 (v1161 : IVec S16 32) (v1162 : IVec S16 32) : Prop :=
  (∀ a x, ((![v1162, v1161] : Fin 2 → IVec S16 32) a x).toNat < S4x10368.size a)
theorem k0_idx861_inb : ∀ (v1161 : IVec S16 32) (v1162 : IVec S16 32) (k0_hw861 : k0_chk861 v1161 v1162), ∀ a x, ((![v1162, v1161] : Fin 2 → IVec S16 32) a x).toNat < S4x10368.size a := fun v1161 v1162 k0_hw861 => k0_hw861

def k0_chk862 (v1161 : IVec S16 32) (v1165 : IVec S16 32) : Prop :=
  (∀ a x, ((![v1165, v1161] : Fin 2 → IVec S16 32) a x).toNat < S4x10368.size a)
theorem k0_idx862_inb : ∀ (v1161 : IVec S16 32) (v1165 : IVec S16 32) (k0_hw862 : k0_chk862 v1161 v1165), ∀ a x, ((![v1165, v1161] : Fin 2 → IVec S16 32) a x).toNat < S4x10368.size a := fun v1161 v1165 k0_hw862 => k0_hw862

def k0_chk863 (v1161 : IVec S16 32) (v1168 : IVec S16 32) : Prop :=
  (∀ a x, ((![v1168, v1161] : Fin 2 → IVec S16 32) a x).toNat < S4x10368.size a)
theorem k0_idx863_inb : ∀ (v1161 : IVec S16 32) (v1168 : IVec S16 32) (k0_hw863 : k0_chk863 v1161 v1168), ∀ a x, ((![v1168, v1161] : Fin 2 → IVec S16 32) a x).toNat < S4x10368.size a := fun v1161 v1168 k0_hw863 => k0_hw863

def k0_chk864 (v1161 : IVec S16 32) (v1171 : IVec S16 32) : Prop :=
  (∀ a x, ((![v1171, v1161] : Fin 2 → IVec S16 32) a x).toNat < S4x10368.size a)
theorem k0_idx864_inb : ∀ (v1161 : IVec S16 32) (v1171 : IVec S16 32) (k0_hw864 : k0_chk864 v1161 v1171), ∀ a x, ((![v1171, v1161] : Fin 2 → IVec S16 32) a x).toNat < S4x10368.size a := fun v1161 v1171 k0_hw864 => k0_hw864
def k0_off299 (k0_t23 : Fin k0_t23_loop.trips) : Fin 1 → Nat :=
  let c5124_i32 : BitVec 32 := 5124#32
  let c0_i32_1262 : BitVec 32 := 0#32
  let c1_i32_1264 : BitVec 32 := 1#32
  let arg21 : BitVec 32 := Scf.iv c0_i32_1262 c1_i32_1264 k0_t23
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk865 (v1178 : IVec S16 32) (v1179 : IVec S16 32) : Prop :=
  (∀ a x, ((![v1179, v1178] : Fin 2 → IVec S16 32) a x).toNat < S4x10368.size a)
theorem k0_idx865_inb : ∀ (v1178 : IVec S16 32) (v1179 : IVec S16 32) (k0_hw865 : k0_chk865 v1178 v1179), ∀ a x, ((![v1179, v1178] : Fin 2 → IVec S16 32) a x).toNat < S4x10368.size a := fun v1178 v1179 k0_hw865 => k0_hw865

def k0_chk866 (v1178 : IVec S16 32) (v1182 : IVec S16 32) : Prop :=
  (∀ a x, ((![v1182, v1178] : Fin 2 → IVec S16 32) a x).toNat < S4x10368.size a)
theorem k0_idx866_inb : ∀ (v1178 : IVec S16 32) (v1182 : IVec S16 32) (k0_hw866 : k0_chk866 v1178 v1182), ∀ a x, ((![v1182, v1178] : Fin 2 → IVec S16 32) a x).toNat < S4x10368.size a := fun v1178 v1182 k0_hw866 => k0_hw866

def k0_chk867 (v1178 : IVec S16 32) (v1185 : IVec S16 32) : Prop :=
  (∀ a x, ((![v1185, v1178] : Fin 2 → IVec S16 32) a x).toNat < S4x10368.size a)
theorem k0_idx867_inb : ∀ (v1178 : IVec S16 32) (v1185 : IVec S16 32) (k0_hw867 : k0_chk867 v1178 v1185), ∀ a x, ((![v1185, v1178] : Fin 2 → IVec S16 32) a x).toNat < S4x10368.size a := fun v1178 v1185 k0_hw867 => k0_hw867

def k0_chk868 (v1178 : IVec S16 32) (v1188 : IVec S16 32) : Prop :=
  (∀ a x, ((![v1188, v1178] : Fin 2 → IVec S16 32) a x).toNat < S4x10368.size a)
theorem k0_idx868_inb : ∀ (v1178 : IVec S16 32) (v1188 : IVec S16 32) (k0_hw868 : k0_chk868 v1178 v1188), ∀ a x, ((![v1188, v1178] : Fin 2 → IVec S16 32) a x).toNat < S4x10368.size a := fun v1178 v1188 k0_hw868 => k0_hw868
def k0_off300 (k0_t23 : Fin k0_t23_loop.trips) : Fin 1 → Nat :=
  let c7686_i32 : BitVec 32 := 7686#32
  let c0_i32_1262 : BitVec 32 := 0#32
  let c1_i32_1264 : BitVec 32 := 1#32
  let arg21 : BitVec 32 := Scf.iv c0_i32_1262 c1_i32_1264 k0_t23
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk869 (v1195 : IVec S16 32) (v1196 : IVec S16 32) : Prop :=
  (∀ a x, ((![v1196, v1195] : Fin 2 → IVec S16 32) a x).toNat < S4x10368.size a)
theorem k0_idx869_inb : ∀ (v1195 : IVec S16 32) (v1196 : IVec S16 32) (k0_hw869 : k0_chk869 v1195 v1196), ∀ a x, ((![v1196, v1195] : Fin 2 → IVec S16 32) a x).toNat < S4x10368.size a := fun v1195 v1196 k0_hw869 => k0_hw869

def k0_chk870 (v1195 : IVec S16 32) (v1199 : IVec S16 32) : Prop :=
  (∀ a x, ((![v1199, v1195] : Fin 2 → IVec S16 32) a x).toNat < S4x10368.size a)
theorem k0_idx870_inb : ∀ (v1195 : IVec S16 32) (v1199 : IVec S16 32) (k0_hw870 : k0_chk870 v1195 v1199), ∀ a x, ((![v1199, v1195] : Fin 2 → IVec S16 32) a x).toNat < S4x10368.size a := fun v1195 v1199 k0_hw870 => k0_hw870

def k0_chk871 (v1195 : IVec S16 32) (v1202 : IVec S16 32) : Prop :=
  (∀ a x, ((![v1202, v1195] : Fin 2 → IVec S16 32) a x).toNat < S4x10368.size a)
theorem k0_idx871_inb : ∀ (v1195 : IVec S16 32) (v1202 : IVec S16 32) (k0_hw871 : k0_chk871 v1195 v1202), ∀ a x, ((![v1202, v1195] : Fin 2 → IVec S16 32) a x).toNat < S4x10368.size a := fun v1195 v1202 k0_hw871 => k0_hw871

def k0_chk872 (v1195 : IVec S16 32) (v1205 : IVec S16 32) : Prop :=
  (∀ a x, ((![v1205, v1195] : Fin 2 → IVec S16 32) a x).toNat < S4x10368.size a)
theorem k0_idx872_inb : ∀ (v1195 : IVec S16 32) (v1205 : IVec S16 32) (k0_hw872 : k0_chk872 v1195 v1205), ∀ a x, ((![v1205, v1195] : Fin 2 → IVec S16 32) a x).toNat < S4x10368.size a := fun v1195 v1205 k0_hw872 => k0_hw872
def k0_off301 (k0_t23 : Fin k0_t23_loop.trips) : Fin 1 → Nat :=
  let c10248_i32 : BitVec 32 := 10248#32
  let c0_i32_1262 : BitVec 32 := 0#32
  let c1_i32_1264 : BitVec 32 := 1#32
  let arg21 : BitVec 32 := Scf.iv c0_i32_1262 c1_i32_1264 k0_t23
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk873 (v1212 : IVec S16 32) (v1213 : IVec S16 32) : Prop :=
  (∀ a x, ((![v1213, v1212] : Fin 2 → IVec S16 32) a x).toNat < S4x10368.size a)
theorem k0_idx873_inb : ∀ (v1212 : IVec S16 32) (v1213 : IVec S16 32) (k0_hw873 : k0_chk873 v1212 v1213), ∀ a x, ((![v1213, v1212] : Fin 2 → IVec S16 32) a x).toNat < S4x10368.size a := fun v1212 v1213 k0_hw873 => k0_hw873

def k0_chk874 (v1212 : IVec S16 32) (v1216 : IVec S16 32) : Prop :=
  (∀ a x, ((![v1216, v1212] : Fin 2 → IVec S16 32) a x).toNat < S4x10368.size a)
theorem k0_idx874_inb : ∀ (v1212 : IVec S16 32) (v1216 : IVec S16 32) (k0_hw874 : k0_chk874 v1212 v1216), ∀ a x, ((![v1216, v1212] : Fin 2 → IVec S16 32) a x).toNat < S4x10368.size a := fun v1212 v1216 k0_hw874 => k0_hw874

def k0_chk875 (v1212 : IVec S16 32) (v1219 : IVec S16 32) : Prop :=
  (∀ a x, ((![v1219, v1212] : Fin 2 → IVec S16 32) a x).toNat < S4x10368.size a)
theorem k0_idx875_inb : ∀ (v1212 : IVec S16 32) (v1219 : IVec S16 32) (k0_hw875 : k0_chk875 v1212 v1219), ∀ a x, ((![v1219, v1212] : Fin 2 → IVec S16 32) a x).toNat < S4x10368.size a := fun v1212 v1219 k0_hw875 => k0_hw875

def k0_chk876 (v1212 : IVec S16 32) (v1222 : IVec S16 32) : Prop :=
  (∀ a x, ((![v1222, v1212] : Fin 2 → IVec S16 32) a x).toNat < S4x10368.size a)
theorem k0_idx876_inb : ∀ (v1212 : IVec S16 32) (v1222 : IVec S16 32) (k0_hw876 : k0_chk876 v1212 v1222), ∀ a x, ((![v1222, v1212] : Fin 2 → IVec S16 32) a x).toNat < S4x10368.size a := fun v1212 v1222 k0_hw876 => k0_hw876
def k0_off302 (k0_t23 : Fin k0_t23_loop.trips) : Fin 1 → Nat :=
  let c12810_i32 : BitVec 32 := 12810#32
  let c0_i32_1262 : BitVec 32 := 0#32
  let c1_i32_1264 : BitVec 32 := 1#32
  let arg21 : BitVec 32 := Scf.iv c0_i32_1262 c1_i32_1264 k0_t23
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk877 (v1229 : IVec S16 32) (v1230 : IVec S16 32) : Prop :=
  (∀ a x, ((![v1230, v1229] : Fin 2 → IVec S16 32) a x).toNat < S4x10368.size a)
theorem k0_idx877_inb : ∀ (v1229 : IVec S16 32) (v1230 : IVec S16 32) (k0_hw877 : k0_chk877 v1229 v1230), ∀ a x, ((![v1230, v1229] : Fin 2 → IVec S16 32) a x).toNat < S4x10368.size a := fun v1229 v1230 k0_hw877 => k0_hw877

def k0_chk878 (v1229 : IVec S16 32) (v1233 : IVec S16 32) : Prop :=
  (∀ a x, ((![v1233, v1229] : Fin 2 → IVec S16 32) a x).toNat < S4x10368.size a)
theorem k0_idx878_inb : ∀ (v1229 : IVec S16 32) (v1233 : IVec S16 32) (k0_hw878 : k0_chk878 v1229 v1233), ∀ a x, ((![v1233, v1229] : Fin 2 → IVec S16 32) a x).toNat < S4x10368.size a := fun v1229 v1233 k0_hw878 => k0_hw878

def k0_chk879 (v1229 : IVec S16 32) (v1236 : IVec S16 32) : Prop :=
  (∀ a x, ((![v1236, v1229] : Fin 2 → IVec S16 32) a x).toNat < S4x10368.size a)
theorem k0_idx879_inb : ∀ (v1229 : IVec S16 32) (v1236 : IVec S16 32) (k0_hw879 : k0_chk879 v1229 v1236), ∀ a x, ((![v1236, v1229] : Fin 2 → IVec S16 32) a x).toNat < S4x10368.size a := fun v1229 v1236 k0_hw879 => k0_hw879

def k0_chk880 (v1229 : IVec S16 32) (v1239 : IVec S16 32) : Prop :=
  (∀ a x, ((![v1239, v1229] : Fin 2 → IVec S16 32) a x).toNat < S4x10368.size a)
theorem k0_idx880_inb : ∀ (v1229 : IVec S16 32) (v1239 : IVec S16 32) (k0_hw880 : k0_chk880 v1229 v1239), ∀ a x, ((![v1239, v1229] : Fin 2 → IVec S16 32) a x).toNat < S4x10368.size a := fun v1229 v1239 k0_hw880 => k0_hw880
def k0_off303 (k0_t23 : Fin k0_t23_loop.trips) : Fin 1 → Nat :=
  let c15372_i32 : BitVec 32 := 15372#32
  let c0_i32_1262 : BitVec 32 := 0#32
  let c1_i32_1264 : BitVec 32 := 1#32
  let arg21 : BitVec 32 := Scf.iv c0_i32_1262 c1_i32_1264 k0_t23
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk881 (v1246 : IVec S16 32) (v1247 : IVec S16 32) : Prop :=
  (∀ a x, ((![v1247, v1246] : Fin 2 → IVec S16 32) a x).toNat < S4x10368.size a)
theorem k0_idx881_inb : ∀ (v1246 : IVec S16 32) (v1247 : IVec S16 32) (k0_hw881 : k0_chk881 v1246 v1247), ∀ a x, ((![v1247, v1246] : Fin 2 → IVec S16 32) a x).toNat < S4x10368.size a := fun v1246 v1247 k0_hw881 => k0_hw881

def k0_chk882 (v1246 : IVec S16 32) (v1250 : IVec S16 32) : Prop :=
  (∀ a x, ((![v1250, v1246] : Fin 2 → IVec S16 32) a x).toNat < S4x10368.size a)
theorem k0_idx882_inb : ∀ (v1246 : IVec S16 32) (v1250 : IVec S16 32) (k0_hw882 : k0_chk882 v1246 v1250), ∀ a x, ((![v1250, v1246] : Fin 2 → IVec S16 32) a x).toNat < S4x10368.size a := fun v1246 v1250 k0_hw882 => k0_hw882

def k0_chk883 (v1246 : IVec S16 32) (v1253 : IVec S16 32) : Prop :=
  (∀ a x, ((![v1253, v1246] : Fin 2 → IVec S16 32) a x).toNat < S4x10368.size a)
theorem k0_idx883_inb : ∀ (v1246 : IVec S16 32) (v1253 : IVec S16 32) (k0_hw883 : k0_chk883 v1246 v1253), ∀ a x, ((![v1253, v1246] : Fin 2 → IVec S16 32) a x).toNat < S4x10368.size a := fun v1246 v1253 k0_hw883 => k0_hw883

def k0_chk884 (v1246 : IVec S16 32) (v1256 : IVec S16 32) : Prop :=
  (∀ a x, ((![v1256, v1246] : Fin 2 → IVec S16 32) a x).toNat < S4x10368.size a)
theorem k0_idx884_inb : ∀ (v1246 : IVec S16 32) (v1256 : IVec S16 32) (k0_hw884 : k0_chk884 v1246 v1256), ∀ a x, ((![v1256, v1246] : Fin 2 → IVec S16 32) a x).toNat < S4x10368.size a := fun v1246 v1256 k0_hw884 => k0_hw884

def k0_chk885 (v1135 : IVec S16 32) (v1259 : IVec S16 32) : Prop :=
  (∀ a x, ((![v1259, v1135] : Fin 2 → IVec S16 32) a x).toNat < S4x2572.size a)
theorem k0_idx885_inb : ∀ (v1135 : IVec S16 32) (v1259 : IVec S16 32) (k0_hw885 : k0_chk885 v1135 v1259), ∀ a x, ((![v1259, v1135] : Fin 2 → IVec S16 32) a x).toNat < S4x2572.size a := fun v1135 v1259 k0_hw885 => k0_hw885

def k0_chk886 (v1135 : IVec S16 32) (v1262 : IVec S16 32) : Prop :=
  (∀ a x, ((![v1262, v1135] : Fin 2 → IVec S16 32) a x).toNat < S4x2572.size a)
theorem k0_idx886_inb : ∀ (v1135 : IVec S16 32) (v1262 : IVec S16 32) (k0_hw886 : k0_chk886 v1135 v1262), ∀ a x, ((![v1262, v1135] : Fin 2 → IVec S16 32) a x).toNat < S4x2572.size a := fun v1135 v1262 k0_hw886 => k0_hw886

def k0_chk887 (v1135 : IVec S16 32) (v1265 : IVec S16 32) : Prop :=
  (∀ a x, ((![v1265, v1135] : Fin 2 → IVec S16 32) a x).toNat < S4x2572.size a)
theorem k0_idx887_inb : ∀ (v1135 : IVec S16 32) (v1265 : IVec S16 32) (k0_hw887 : k0_chk887 v1135 v1265), ∀ a x, ((![v1265, v1135] : Fin 2 → IVec S16 32) a x).toNat < S4x2572.size a := fun v1135 v1265 k0_hw887 => k0_hw887

def k0_chk888 (v1135 : IVec S16 32) (v1268 : IVec S16 32) : Prop :=
  (∀ a x, ((![v1268, v1135] : Fin 2 → IVec S16 32) a x).toNat < S4x2572.size a)
theorem k0_idx888_inb : ∀ (v1135 : IVec S16 32) (v1268 : IVec S16 32) (k0_hw888 : k0_chk888 v1135 v1268), ∀ a x, ((![v1268, v1135] : Fin 2 → IVec S16 32) a x).toNat < S4x2572.size a := fun v1135 v1268 k0_hw888 => k0_hw888

def k0_chk889 (v1085 : IVec S16 32) (v1086 : IVec S16 32) : Prop :=
  (∀ a x, ((![v1086, v1085] : Fin 2 → IVec S16 32) a x).toNat < S4x2572.size a)
theorem k0_idx889_inb : ∀ (v1085 : IVec S16 32) (v1086 : IVec S16 32) (k0_hw889 : k0_chk889 v1085 v1086), ∀ a x, ((![v1086, v1085] : Fin 2 → IVec S16 32) a x).toNat < S4x2572.size a := fun v1085 v1086 k0_hw889 => k0_hw889

def k0_chk890 (v1085 : IVec S16 32) (v1088 : IVec S16 32) : Prop :=
  (∀ a x, ((![v1088, v1085] : Fin 2 → IVec S16 32) a x).toNat < S4x2572.size a)
theorem k0_idx890_inb : ∀ (v1085 : IVec S16 32) (v1088 : IVec S16 32) (k0_hw890 : k0_chk890 v1085 v1088), ∀ a x, ((![v1088, v1085] : Fin 2 → IVec S16 32) a x).toNat < S4x2572.size a := fun v1085 v1088 k0_hw890 => k0_hw890

def k0_chk891 (v1085 : IVec S16 32) (v1090 : IVec S16 32) : Prop :=
  (∀ a x, ((![v1090, v1085] : Fin 2 → IVec S16 32) a x).toNat < S4x2572.size a)
theorem k0_idx891_inb : ∀ (v1085 : IVec S16 32) (v1090 : IVec S16 32) (k0_hw891 : k0_chk891 v1085 v1090), ∀ a x, ((![v1090, v1085] : Fin 2 → IVec S16 32) a x).toNat < S4x2572.size a := fun v1085 v1090 k0_hw891 => k0_hw891

def k0_chk892 (v1085 : IVec S16 32) (v1092 : IVec S16 32) : Prop :=
  (∀ a x, ((![v1092, v1085] : Fin 2 → IVec S16 32) a x).toNat < S4x2572.size a)
theorem k0_idx892_inb : ∀ (v1085 : IVec S16 32) (v1092 : IVec S16 32) (k0_hw892 : k0_chk892 v1085 v1092), ∀ a x, ((![v1092, v1085] : Fin 2 → IVec S16 32) a x).toNat < S4x2572.size a := fun v1085 v1092 k0_hw892 => k0_hw892
def k0_off304 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1215 : BitVec 32 := 4#32
  let v1045 : BitVec 32 := Scalar.muli v1 c4_i32_1215
  let c3_i32_1216 : BitVec 32 := 3#32
  let v1046 : BitVec 32 := Scalar.addi v1045 c3_i32_1216
  let c4_i32_1217 : BitVec 32 := 4#32
  let v1047 : BitVec 32 := Scalar.muli v1046 c4_i32_1217
  let v1048 : BitVec 32 := v1047
  let c10240_i32_1274 : BitVec 32 := 10240#32
  ![v1048.toNat, 10240]
def k0_mult48 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1278 : BitVec 32 := 4#32
  let v1098 : BitVec 32 := Scalar.muli v1 c4_i32_1278
  let c3_i32_1279 : BitVec 32 := 3#32
  let v1099 : BitVec 32 := Scalar.addi v1098 c3_i32_1279
  let c4_i32_1280 : BitVec 32 := 4#32
  let v1100 : BitVec 32 := Scalar.muli v1099 c4_i32_1280
  v1100
def k0_off305 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1158 : BitVec 32 := 4#32
  let v996 : BitVec 32 := Scalar.muli v1 c4_i32_1158
  let c3_i32_1159 : BitVec 32 := 3#32
  let v997 : BitVec 32 := Scalar.addi v996 c3_i32_1159
  let c4_i32_1160 : BitVec 32 := 4#32
  let v998 : BitVec 32 := Scalar.muli v997 c4_i32_1160
  let v999 : BitVec 32 := v998
  let c7680_i32_1283 : BitVec 32 := 7680#32
  ![v999.toNat, 7680]

def k0_chk893 (v2 : IVec S16 32) (v1106 : IVec S16 32) : Prop :=
  (∀ a x, ((![v1106, v2] : Fin 2 → IVec S16 32) a x).toNat < S4x2572.size a)
theorem k0_idx893_inb : ∀ (v2 : IVec S16 32) (v1106 : IVec S16 32) (k0_hw893 : k0_chk893 v2 v1106), ∀ a x, ((![v1106, v2] : Fin 2 → IVec S16 32) a x).toNat < S4x2572.size a := fun v2 v1106 k0_hw893 => k0_hw893

def k0_chk894 (v2 : IVec S16 32) (v1107 : IVec S16 32) : Prop :=
  (∀ a x, ((![v1107, v2] : Fin 2 → IVec S16 32) a x).toNat < S4x2572.size a)
theorem k0_idx894_inb : ∀ (v2 : IVec S16 32) (v1107 : IVec S16 32) (k0_hw894 : k0_chk894 v2 v1107), ∀ a x, ((![v1107, v2] : Fin 2 → IVec S16 32) a x).toNat < S4x2572.size a := fun v2 v1107 k0_hw894 => k0_hw894

def k0_chk895 (v2 : IVec S16 32) (v1108 : IVec S16 32) : Prop :=
  (∀ a x, ((![v1108, v2] : Fin 2 → IVec S16 32) a x).toNat < S4x2572.size a)
theorem k0_idx895_inb : ∀ (v2 : IVec S16 32) (v1108 : IVec S16 32) (k0_hw895 : k0_chk895 v2 v1108), ∀ a x, ((![v1108, v2] : Fin 2 → IVec S16 32) a x).toNat < S4x2572.size a := fun v2 v1108 k0_hw895 => k0_hw895

def k0_chk896 (v2 : IVec S16 32) (v1109 : IVec S16 32) : Prop :=
  (∀ a x, ((![v1109, v2] : Fin 2 → IVec S16 32) a x).toNat < S4x2572.size a)
theorem k0_idx896_inb : ∀ (v2 : IVec S16 32) (v1109 : IVec S16 32) (k0_hw896 : k0_chk896 v2 v1109), ∀ a x, ((![v1109, v2] : Fin 2 → IVec S16 32) a x).toNat < S4x2572.size a := fun v2 v1109 k0_hw896 => k0_hw896
def k0_off306 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1218 : BitVec 32 := 4#32
  let v1049 : BitVec 32 := Scalar.muli v1 c4_i32_1218
  let c3_i32_1219 : BitVec 32 := 3#32
  let v1050 : BitVec 32 := Scalar.addi v1049 c3_i32_1219
  let c4_i32_1220 : BitVec 32 := 4#32
  let v1051 : BitVec 32 := Scalar.muli v1050 c4_i32_1220
  let v1052 : BitVec 32 := v1051
  let c51200_i32_1293 : BitVec 32 := 51200#32
  ![v1052.toNat, 51200]
def k0_off307 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1218 : BitVec 32 := 4#32
  let v1049 : BitVec 32 := Scalar.muli v1 c4_i32_1218
  let c3_i32_1219 : BitVec 32 := 3#32
  let v1050 : BitVec 32 := Scalar.addi v1049 c3_i32_1219
  let c4_i32_1220 : BitVec 32 := 4#32
  let v1051 : BitVec 32 := Scalar.muli v1050 c4_i32_1220
  let v1052 : BitVec 32 := v1051
  let c56320_i32_1299 : BitVec 32 := 56320#32
  ![v1052.toNat, 56320]
def k0_off308 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1218 : BitVec 32 := 4#32
  let v1049 : BitVec 32 := Scalar.muli v1 c4_i32_1218
  let c3_i32_1219 : BitVec 32 := 3#32
  let v1050 : BitVec 32 := Scalar.addi v1049 c3_i32_1219
  let c4_i32_1220 : BitVec 32 := 4#32
  let v1051 : BitVec 32 := Scalar.muli v1050 c4_i32_1220
  let v1052 : BitVec 32 := v1051
  let c0_i32_1305 : BitVec 32 := 0#32
  ![v1052.toNat, 0]
@[reducible] def k0_t24_loop : Scf.Loop 32 :=
  let c0_i32_1310 : BitVec 32 := 0#32
  let c161_i32_1311 : BitVec 32 := 161#32
  let v1122 : BitVec 32 := Scalar.addi c0_i32_1310 c161_i32_1311
  let c1_i32_1312 : BitVec 32 := 1#32
  ⟨c0_i32_1310, v1122, c1_i32_1312⟩
def k0_off309 (k0_t24 : Fin k0_t24_loop.trips) : Fin 1 → Nat :=
  let c0_i32_1327 : BitVec 32 := 0#32
  let c0_i32_1310 : BitVec 32 := 0#32
  let c1_i32_1312 : BitVec 32 := 1#32
  let arg21 : BitVec 32 := Scf.iv c0_i32_1310 c1_i32_1312 k0_t24
  let c16_i32 : BitVec 32 := 16#32
  let v1131 : BitVec 32 := Scalar.muli arg21 c16_i32
  let c2546_i32 : BitVec 32 := 2546#32
  let v1132 : BitVec 32 := Scalar.minsi v1131 c2546_i32
  let v1140 : BitVec 32 := Scalar.addi c0_i32_1327 v1132
  let v1141 : Index := Scalar.indexCast v1140
  ![v1141.toNat]

def k0_chk897 (v1144 : IVec S16 32) (v1145 : IVec S16 32) : Prop :=
  (∀ a x, ((![v1145, v1144] : Fin 2 → IVec S16 32) a x).toNat < S4x10368.size a)
theorem k0_idx897_inb : ∀ (v1144 : IVec S16 32) (v1145 : IVec S16 32) (k0_hw897 : k0_chk897 v1144 v1145), ∀ a x, ((![v1145, v1144] : Fin 2 → IVec S16 32) a x).toNat < S4x10368.size a := fun v1144 v1145 k0_hw897 => k0_hw897

def k0_chk898 (v1144 : IVec S16 32) (v1148 : IVec S16 32) : Prop :=
  (∀ a x, ((![v1148, v1144] : Fin 2 → IVec S16 32) a x).toNat < S4x10368.size a)
theorem k0_idx898_inb : ∀ (v1144 : IVec S16 32) (v1148 : IVec S16 32) (k0_hw898 : k0_chk898 v1144 v1148), ∀ a x, ((![v1148, v1144] : Fin 2 → IVec S16 32) a x).toNat < S4x10368.size a := fun v1144 v1148 k0_hw898 => k0_hw898

def k0_chk899 (v1144 : IVec S16 32) (v1151 : IVec S16 32) : Prop :=
  (∀ a x, ((![v1151, v1144] : Fin 2 → IVec S16 32) a x).toNat < S4x10368.size a)
theorem k0_idx899_inb : ∀ (v1144 : IVec S16 32) (v1151 : IVec S16 32) (k0_hw899 : k0_chk899 v1144 v1151), ∀ a x, ((![v1151, v1144] : Fin 2 → IVec S16 32) a x).toNat < S4x10368.size a := fun v1144 v1151 k0_hw899 => k0_hw899

def k0_chk900 (v1144 : IVec S16 32) (v1154 : IVec S16 32) : Prop :=
  (∀ a x, ((![v1154, v1144] : Fin 2 → IVec S16 32) a x).toNat < S4x10368.size a)
theorem k0_idx900_inb : ∀ (v1144 : IVec S16 32) (v1154 : IVec S16 32) (k0_hw900 : k0_chk900 v1144 v1154), ∀ a x, ((![v1154, v1144] : Fin 2 → IVec S16 32) a x).toNat < S4x10368.size a := fun v1144 v1154 k0_hw900 => k0_hw900
def k0_off310 (k0_t24 : Fin k0_t24_loop.trips) : Fin 1 → Nat :=
  let c2562_i32 : BitVec 32 := 2562#32
  let c0_i32_1310 : BitVec 32 := 0#32
  let c1_i32_1312 : BitVec 32 := 1#32
  let arg21 : BitVec 32 := Scf.iv c0_i32_1310 c1_i32_1312 k0_t24
  let c16_i32 : BitVec 32 := 16#32
  let v1131 : BitVec 32 := Scalar.muli arg21 c16_i32
  let c2546_i32 : BitVec 32 := 2546#32
  let v1132 : BitVec 32 := Scalar.minsi v1131 c2546_i32
  let v1157 : BitVec 32 := Scalar.addi c2562_i32 v1132
  let v1158 : Index := Scalar.indexCast v1157
  ![v1158.toNat]

def k0_chk901 (v1161 : IVec S16 32) (v1162 : IVec S16 32) : Prop :=
  (∀ a x, ((![v1162, v1161] : Fin 2 → IVec S16 32) a x).toNat < S4x10368.size a)
theorem k0_idx901_inb : ∀ (v1161 : IVec S16 32) (v1162 : IVec S16 32) (k0_hw901 : k0_chk901 v1161 v1162), ∀ a x, ((![v1162, v1161] : Fin 2 → IVec S16 32) a x).toNat < S4x10368.size a := fun v1161 v1162 k0_hw901 => k0_hw901

def k0_chk902 (v1161 : IVec S16 32) (v1165 : IVec S16 32) : Prop :=
  (∀ a x, ((![v1165, v1161] : Fin 2 → IVec S16 32) a x).toNat < S4x10368.size a)
theorem k0_idx902_inb : ∀ (v1161 : IVec S16 32) (v1165 : IVec S16 32) (k0_hw902 : k0_chk902 v1161 v1165), ∀ a x, ((![v1165, v1161] : Fin 2 → IVec S16 32) a x).toNat < S4x10368.size a := fun v1161 v1165 k0_hw902 => k0_hw902

def k0_chk903 (v1161 : IVec S16 32) (v1168 : IVec S16 32) : Prop :=
  (∀ a x, ((![v1168, v1161] : Fin 2 → IVec S16 32) a x).toNat < S4x10368.size a)
theorem k0_idx903_inb : ∀ (v1161 : IVec S16 32) (v1168 : IVec S16 32) (k0_hw903 : k0_chk903 v1161 v1168), ∀ a x, ((![v1168, v1161] : Fin 2 → IVec S16 32) a x).toNat < S4x10368.size a := fun v1161 v1168 k0_hw903 => k0_hw903

def k0_chk904 (v1161 : IVec S16 32) (v1171 : IVec S16 32) : Prop :=
  (∀ a x, ((![v1171, v1161] : Fin 2 → IVec S16 32) a x).toNat < S4x10368.size a)
theorem k0_idx904_inb : ∀ (v1161 : IVec S16 32) (v1171 : IVec S16 32) (k0_hw904 : k0_chk904 v1161 v1171), ∀ a x, ((![v1171, v1161] : Fin 2 → IVec S16 32) a x).toNat < S4x10368.size a := fun v1161 v1171 k0_hw904 => k0_hw904
def k0_off311 (k0_t24 : Fin k0_t24_loop.trips) : Fin 1 → Nat :=
  let c5124_i32 : BitVec 32 := 5124#32
  let c0_i32_1310 : BitVec 32 := 0#32
  let c1_i32_1312 : BitVec 32 := 1#32
  let arg21 : BitVec 32 := Scf.iv c0_i32_1310 c1_i32_1312 k0_t24
  let c16_i32 : BitVec 32 := 16#32
  let v1131 : BitVec 32 := Scalar.muli arg21 c16_i32
  let c2546_i32 : BitVec 32 := 2546#32
  let v1132 : BitVec 32 := Scalar.minsi v1131 c2546_i32
  let v1174 : BitVec 32 := Scalar.addi c5124_i32 v1132
  let v1175 : Index := Scalar.indexCast v1174
  ![v1175.toNat]

def k0_chk905 (v1178 : IVec S16 32) (v1179 : IVec S16 32) : Prop :=
  (∀ a x, ((![v1179, v1178] : Fin 2 → IVec S16 32) a x).toNat < S4x10368.size a)
theorem k0_idx905_inb : ∀ (v1178 : IVec S16 32) (v1179 : IVec S16 32) (k0_hw905 : k0_chk905 v1178 v1179), ∀ a x, ((![v1179, v1178] : Fin 2 → IVec S16 32) a x).toNat < S4x10368.size a := fun v1178 v1179 k0_hw905 => k0_hw905

def k0_chk906 (v1178 : IVec S16 32) (v1182 : IVec S16 32) : Prop :=
  (∀ a x, ((![v1182, v1178] : Fin 2 → IVec S16 32) a x).toNat < S4x10368.size a)
theorem k0_idx906_inb : ∀ (v1178 : IVec S16 32) (v1182 : IVec S16 32) (k0_hw906 : k0_chk906 v1178 v1182), ∀ a x, ((![v1182, v1178] : Fin 2 → IVec S16 32) a x).toNat < S4x10368.size a := fun v1178 v1182 k0_hw906 => k0_hw906

def k0_chk907 (v1178 : IVec S16 32) (v1185 : IVec S16 32) : Prop :=
  (∀ a x, ((![v1185, v1178] : Fin 2 → IVec S16 32) a x).toNat < S4x10368.size a)
theorem k0_idx907_inb : ∀ (v1178 : IVec S16 32) (v1185 : IVec S16 32) (k0_hw907 : k0_chk907 v1178 v1185), ∀ a x, ((![v1185, v1178] : Fin 2 → IVec S16 32) a x).toNat < S4x10368.size a := fun v1178 v1185 k0_hw907 => k0_hw907

def k0_chk908 (v1178 : IVec S16 32) (v1188 : IVec S16 32) : Prop :=
  (∀ a x, ((![v1188, v1178] : Fin 2 → IVec S16 32) a x).toNat < S4x10368.size a)
theorem k0_idx908_inb : ∀ (v1178 : IVec S16 32) (v1188 : IVec S16 32) (k0_hw908 : k0_chk908 v1178 v1188), ∀ a x, ((![v1188, v1178] : Fin 2 → IVec S16 32) a x).toNat < S4x10368.size a := fun v1178 v1188 k0_hw908 => k0_hw908
def k0_off312 (k0_t24 : Fin k0_t24_loop.trips) : Fin 1 → Nat :=
  let c7686_i32 : BitVec 32 := 7686#32
  let c0_i32_1310 : BitVec 32 := 0#32
  let c1_i32_1312 : BitVec 32 := 1#32
  let arg21 : BitVec 32 := Scf.iv c0_i32_1310 c1_i32_1312 k0_t24
  let c16_i32 : BitVec 32 := 16#32
  let v1131 : BitVec 32 := Scalar.muli arg21 c16_i32
  let c2546_i32 : BitVec 32 := 2546#32
  let v1132 : BitVec 32 := Scalar.minsi v1131 c2546_i32
  let v1191 : BitVec 32 := Scalar.addi c7686_i32 v1132
  let v1192 : Index := Scalar.indexCast v1191
  ![v1192.toNat]

def k0_chk909 (v1195 : IVec S16 32) (v1196 : IVec S16 32) : Prop :=
  (∀ a x, ((![v1196, v1195] : Fin 2 → IVec S16 32) a x).toNat < S4x10368.size a)
theorem k0_idx909_inb : ∀ (v1195 : IVec S16 32) (v1196 : IVec S16 32) (k0_hw909 : k0_chk909 v1195 v1196), ∀ a x, ((![v1196, v1195] : Fin 2 → IVec S16 32) a x).toNat < S4x10368.size a := fun v1195 v1196 k0_hw909 => k0_hw909

def k0_chk910 (v1195 : IVec S16 32) (v1199 : IVec S16 32) : Prop :=
  (∀ a x, ((![v1199, v1195] : Fin 2 → IVec S16 32) a x).toNat < S4x10368.size a)
theorem k0_idx910_inb : ∀ (v1195 : IVec S16 32) (v1199 : IVec S16 32) (k0_hw910 : k0_chk910 v1195 v1199), ∀ a x, ((![v1199, v1195] : Fin 2 → IVec S16 32) a x).toNat < S4x10368.size a := fun v1195 v1199 k0_hw910 => k0_hw910

def k0_chk911 (v1195 : IVec S16 32) (v1202 : IVec S16 32) : Prop :=
  (∀ a x, ((![v1202, v1195] : Fin 2 → IVec S16 32) a x).toNat < S4x10368.size a)
theorem k0_idx911_inb : ∀ (v1195 : IVec S16 32) (v1202 : IVec S16 32) (k0_hw911 : k0_chk911 v1195 v1202), ∀ a x, ((![v1202, v1195] : Fin 2 → IVec S16 32) a x).toNat < S4x10368.size a := fun v1195 v1202 k0_hw911 => k0_hw911

def k0_chk912 (v1195 : IVec S16 32) (v1205 : IVec S16 32) : Prop :=
  (∀ a x, ((![v1205, v1195] : Fin 2 → IVec S16 32) a x).toNat < S4x10368.size a)
theorem k0_idx912_inb : ∀ (v1195 : IVec S16 32) (v1205 : IVec S16 32) (k0_hw912 : k0_chk912 v1195 v1205), ∀ a x, ((![v1205, v1195] : Fin 2 → IVec S16 32) a x).toNat < S4x10368.size a := fun v1195 v1205 k0_hw912 => k0_hw912
def k0_off313 (k0_t24 : Fin k0_t24_loop.trips) : Fin 1 → Nat :=
  let c10248_i32 : BitVec 32 := 10248#32
  let c0_i32_1310 : BitVec 32 := 0#32
  let c1_i32_1312 : BitVec 32 := 1#32
  let arg21 : BitVec 32 := Scf.iv c0_i32_1310 c1_i32_1312 k0_t24
  let c16_i32 : BitVec 32 := 16#32
  let v1131 : BitVec 32 := Scalar.muli arg21 c16_i32
  let c2546_i32 : BitVec 32 := 2546#32
  let v1132 : BitVec 32 := Scalar.minsi v1131 c2546_i32
  let v1208 : BitVec 32 := Scalar.addi c10248_i32 v1132
  let v1209 : Index := Scalar.indexCast v1208
  ![v1209.toNat]

def k0_chk913 (v1212 : IVec S16 32) (v1213 : IVec S16 32) : Prop :=
  (∀ a x, ((![v1213, v1212] : Fin 2 → IVec S16 32) a x).toNat < S4x10368.size a)
theorem k0_idx913_inb : ∀ (v1212 : IVec S16 32) (v1213 : IVec S16 32) (k0_hw913 : k0_chk913 v1212 v1213), ∀ a x, ((![v1213, v1212] : Fin 2 → IVec S16 32) a x).toNat < S4x10368.size a := fun v1212 v1213 k0_hw913 => k0_hw913

def k0_chk914 (v1212 : IVec S16 32) (v1216 : IVec S16 32) : Prop :=
  (∀ a x, ((![v1216, v1212] : Fin 2 → IVec S16 32) a x).toNat < S4x10368.size a)
theorem k0_idx914_inb : ∀ (v1212 : IVec S16 32) (v1216 : IVec S16 32) (k0_hw914 : k0_chk914 v1212 v1216), ∀ a x, ((![v1216, v1212] : Fin 2 → IVec S16 32) a x).toNat < S4x10368.size a := fun v1212 v1216 k0_hw914 => k0_hw914

def k0_chk915 (v1212 : IVec S16 32) (v1219 : IVec S16 32) : Prop :=
  (∀ a x, ((![v1219, v1212] : Fin 2 → IVec S16 32) a x).toNat < S4x10368.size a)
theorem k0_idx915_inb : ∀ (v1212 : IVec S16 32) (v1219 : IVec S16 32) (k0_hw915 : k0_chk915 v1212 v1219), ∀ a x, ((![v1219, v1212] : Fin 2 → IVec S16 32) a x).toNat < S4x10368.size a := fun v1212 v1219 k0_hw915 => k0_hw915

def k0_chk916 (v1212 : IVec S16 32) (v1222 : IVec S16 32) : Prop :=
  (∀ a x, ((![v1222, v1212] : Fin 2 → IVec S16 32) a x).toNat < S4x10368.size a)
theorem k0_idx916_inb : ∀ (v1212 : IVec S16 32) (v1222 : IVec S16 32) (k0_hw916 : k0_chk916 v1212 v1222), ∀ a x, ((![v1222, v1212] : Fin 2 → IVec S16 32) a x).toNat < S4x10368.size a := fun v1212 v1222 k0_hw916 => k0_hw916
def k0_off314 (k0_t24 : Fin k0_t24_loop.trips) : Fin 1 → Nat :=
  let c12810_i32 : BitVec 32 := 12810#32
  let c0_i32_1310 : BitVec 32 := 0#32
  let c1_i32_1312 : BitVec 32 := 1#32
  let arg21 : BitVec 32 := Scf.iv c0_i32_1310 c1_i32_1312 k0_t24
  let c16_i32 : BitVec 32 := 16#32
  let v1131 : BitVec 32 := Scalar.muli arg21 c16_i32
  let c2546_i32 : BitVec 32 := 2546#32
  let v1132 : BitVec 32 := Scalar.minsi v1131 c2546_i32
  let v1225 : BitVec 32 := Scalar.addi c12810_i32 v1132
  let v1226 : Index := Scalar.indexCast v1225
  ![v1226.toNat]

def k0_chk917 (v1229 : IVec S16 32) (v1230 : IVec S16 32) : Prop :=
  (∀ a x, ((![v1230, v1229] : Fin 2 → IVec S16 32) a x).toNat < S4x10368.size a)
theorem k0_idx917_inb : ∀ (v1229 : IVec S16 32) (v1230 : IVec S16 32) (k0_hw917 : k0_chk917 v1229 v1230), ∀ a x, ((![v1230, v1229] : Fin 2 → IVec S16 32) a x).toNat < S4x10368.size a := fun v1229 v1230 k0_hw917 => k0_hw917

def k0_chk918 (v1229 : IVec S16 32) (v1233 : IVec S16 32) : Prop :=
  (∀ a x, ((![v1233, v1229] : Fin 2 → IVec S16 32) a x).toNat < S4x10368.size a)
theorem k0_idx918_inb : ∀ (v1229 : IVec S16 32) (v1233 : IVec S16 32) (k0_hw918 : k0_chk918 v1229 v1233), ∀ a x, ((![v1233, v1229] : Fin 2 → IVec S16 32) a x).toNat < S4x10368.size a := fun v1229 v1233 k0_hw918 => k0_hw918

def k0_chk919 (v1229 : IVec S16 32) (v1236 : IVec S16 32) : Prop :=
  (∀ a x, ((![v1236, v1229] : Fin 2 → IVec S16 32) a x).toNat < S4x10368.size a)
theorem k0_idx919_inb : ∀ (v1229 : IVec S16 32) (v1236 : IVec S16 32) (k0_hw919 : k0_chk919 v1229 v1236), ∀ a x, ((![v1236, v1229] : Fin 2 → IVec S16 32) a x).toNat < S4x10368.size a := fun v1229 v1236 k0_hw919 => k0_hw919

def k0_chk920 (v1229 : IVec S16 32) (v1239 : IVec S16 32) : Prop :=
  (∀ a x, ((![v1239, v1229] : Fin 2 → IVec S16 32) a x).toNat < S4x10368.size a)
theorem k0_idx920_inb : ∀ (v1229 : IVec S16 32) (v1239 : IVec S16 32) (k0_hw920 : k0_chk920 v1229 v1239), ∀ a x, ((![v1239, v1229] : Fin 2 → IVec S16 32) a x).toNat < S4x10368.size a := fun v1229 v1239 k0_hw920 => k0_hw920
def k0_off315 (k0_t24 : Fin k0_t24_loop.trips) : Fin 1 → Nat :=
  let c15372_i32 : BitVec 32 := 15372#32
  let c0_i32_1310 : BitVec 32 := 0#32
  let c1_i32_1312 : BitVec 32 := 1#32
  let arg21 : BitVec 32 := Scf.iv c0_i32_1310 c1_i32_1312 k0_t24
  let c16_i32 : BitVec 32 := 16#32
  let v1131 : BitVec 32 := Scalar.muli arg21 c16_i32
  let c2546_i32 : BitVec 32 := 2546#32
  let v1132 : BitVec 32 := Scalar.minsi v1131 c2546_i32
  let v1242 : BitVec 32 := Scalar.addi c15372_i32 v1132
  let v1243 : Index := Scalar.indexCast v1242
  ![v1243.toNat]

def k0_chk921 (v1246 : IVec S16 32) (v1247 : IVec S16 32) : Prop :=
  (∀ a x, ((![v1247, v1246] : Fin 2 → IVec S16 32) a x).toNat < S4x10368.size a)
theorem k0_idx921_inb : ∀ (v1246 : IVec S16 32) (v1247 : IVec S16 32) (k0_hw921 : k0_chk921 v1246 v1247), ∀ a x, ((![v1247, v1246] : Fin 2 → IVec S16 32) a x).toNat < S4x10368.size a := fun v1246 v1247 k0_hw921 => k0_hw921

def k0_chk922 (v1246 : IVec S16 32) (v1250 : IVec S16 32) : Prop :=
  (∀ a x, ((![v1250, v1246] : Fin 2 → IVec S16 32) a x).toNat < S4x10368.size a)
theorem k0_idx922_inb : ∀ (v1246 : IVec S16 32) (v1250 : IVec S16 32) (k0_hw922 : k0_chk922 v1246 v1250), ∀ a x, ((![v1250, v1246] : Fin 2 → IVec S16 32) a x).toNat < S4x10368.size a := fun v1246 v1250 k0_hw922 => k0_hw922

def k0_chk923 (v1246 : IVec S16 32) (v1253 : IVec S16 32) : Prop :=
  (∀ a x, ((![v1253, v1246] : Fin 2 → IVec S16 32) a x).toNat < S4x10368.size a)
theorem k0_idx923_inb : ∀ (v1246 : IVec S16 32) (v1253 : IVec S16 32) (k0_hw923 : k0_chk923 v1246 v1253), ∀ a x, ((![v1253, v1246] : Fin 2 → IVec S16 32) a x).toNat < S4x10368.size a := fun v1246 v1253 k0_hw923 => k0_hw923

def k0_chk924 (v1246 : IVec S16 32) (v1256 : IVec S16 32) : Prop :=
  (∀ a x, ((![v1256, v1246] : Fin 2 → IVec S16 32) a x).toNat < S4x10368.size a)
theorem k0_idx924_inb : ∀ (v1246 : IVec S16 32) (v1256 : IVec S16 32) (k0_hw924 : k0_chk924 v1246 v1256), ∀ a x, ((![v1256, v1246] : Fin 2 → IVec S16 32) a x).toNat < S4x10368.size a := fun v1246 v1256 k0_hw924 => k0_hw924

def k0_chk925 (v1135 : IVec S16 32) (v1259 : IVec S16 32) : Prop :=
  (∀ a x, ((![v1259, v1135] : Fin 2 → IVec S16 32) a x).toNat < S4x2572.size a)
theorem k0_idx925_inb : ∀ (v1135 : IVec S16 32) (v1259 : IVec S16 32) (k0_hw925 : k0_chk925 v1135 v1259), ∀ a x, ((![v1259, v1135] : Fin 2 → IVec S16 32) a x).toNat < S4x2572.size a := fun v1135 v1259 k0_hw925 => k0_hw925

def k0_chk926 (v1135 : IVec S16 32) (v1262 : IVec S16 32) : Prop :=
  (∀ a x, ((![v1262, v1135] : Fin 2 → IVec S16 32) a x).toNat < S4x2572.size a)
theorem k0_idx926_inb : ∀ (v1135 : IVec S16 32) (v1262 : IVec S16 32) (k0_hw926 : k0_chk926 v1135 v1262), ∀ a x, ((![v1262, v1135] : Fin 2 → IVec S16 32) a x).toNat < S4x2572.size a := fun v1135 v1262 k0_hw926 => k0_hw926

def k0_chk927 (v1135 : IVec S16 32) (v1265 : IVec S16 32) : Prop :=
  (∀ a x, ((![v1265, v1135] : Fin 2 → IVec S16 32) a x).toNat < S4x2572.size a)
theorem k0_idx927_inb : ∀ (v1135 : IVec S16 32) (v1265 : IVec S16 32) (k0_hw927 : k0_chk927 v1135 v1265), ∀ a x, ((![v1265, v1135] : Fin 2 → IVec S16 32) a x).toNat < S4x2572.size a := fun v1135 v1265 k0_hw927 => k0_hw927

def k0_chk928 (v1135 : IVec S16 32) (v1268 : IVec S16 32) : Prop :=
  (∀ a x, ((![v1268, v1135] : Fin 2 → IVec S16 32) a x).toNat < S4x2572.size a)
theorem k0_idx928_inb : ∀ (v1135 : IVec S16 32) (v1268 : IVec S16 32) (k0_hw928 : k0_chk928 v1135 v1268), ∀ a x, ((![v1268, v1135] : Fin 2 → IVec S16 32) a x).toNat < S4x2572.size a := fun v1135 v1268 k0_hw928 => k0_hw928
def k0_off316 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1278 : BitVec 32 := 4#32
  let v1098 : BitVec 32 := Scalar.muli v1 c4_i32_1278
  let c3_i32_1279 : BitVec 32 := 3#32
  let v1099 : BitVec 32 := Scalar.addi v1098 c3_i32_1279
  let c4_i32_1280 : BitVec 32 := 4#32
  let v1100 : BitVec 32 := Scalar.muli v1099 c4_i32_1280
  let v1101 : BitVec 32 := v1100
  let c12800_i32_1314 : BitVec 32 := 12800#32
  ![v1101.toNat, 12800]
def k0_off317 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_1215 : BitVec 32 := 4#32
  let v1045 : BitVec 32 := Scalar.muli v1 c4_i32_1215
  let c3_i32_1216 : BitVec 32 := 3#32
  let v1046 : BitVec 32 := Scalar.addi v1045 c3_i32_1216
  let c4_i32_1217 : BitVec 32 := 4#32
  let v1047 : BitVec 32 := Scalar.muli v1046 c4_i32_1217
  let v1048 : BitVec 32 := v1047
  let c10240_i32_1318 : BitVec 32 := 10240#32
  ![v1048.toNat, 10240]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "seventh" => some ((1 / 7 : ℝ) : EReal)
  | _ => none
-- ==== ReferenceIdeal.lean ====
abbrev S8x64x61452 : Shape := ⟨3, ![8, 64, 61452]⟩
abbrev S15372x7 : Shape := ⟨2, ![15372, 7]⟩
abbrev S_ : Shape := ⟨0, ![]⟩
abbrev S15372x7x1 : Shape := ⟨3, ![15372, 7, 1]⟩
abbrev S1 : Shape := ⟨1, ![1]⟩
abbrev S1x1x1 : Shape := ⟨3, ![1, 1, 1]⟩
abbrev S8x64x15372x7 : Shape := ⟨4, ![8, 64, 15372, 7]⟩
abbrev S8x64x15372 : Shape := ⟨3, ![8, 64, 15372]⟩

abbrev nBuf : Space → Nat
  | .hbm => 30
  | .vmem => 0
  | .smem => 0
  | _ => 0

abbrev bufTy : (tb : Table) → Fin (tcTables nBuf tb) → BufTy
  | .hbm, ⟨0, _⟩ => ⟨S8x64x61452, .f32⟩
  | .hbm, ⟨1, _⟩ => ⟨S15372x7, .i32⟩
  | .hbm, ⟨2, _⟩ => ⟨S_, .i32⟩
  | .hbm, ⟨3, _⟩ => ⟨S15372x7, .i32⟩
  | .hbm, ⟨4, _⟩ => ⟨S15372x7, .i1⟩
  | .hbm, ⟨5, _⟩ => ⟨S_, .i32⟩
  | .hbm, ⟨6, _⟩ => ⟨S15372x7, .i32⟩
  | .hbm, ⟨7, _⟩ => ⟨S15372x7, .i32⟩
  | .hbm, ⟨8, _⟩ => ⟨S15372x7, .i32⟩
  | .hbm, ⟨9, _⟩ => ⟨S15372x7x1, .i32⟩
  | .hbm, ⟨10, _⟩ => ⟨S1, .i32⟩
  | .hbm, ⟨11, _⟩ => ⟨S_, .i32⟩
  | .hbm, ⟨12, _⟩ => ⟨S15372x7x1, .i32⟩
  | .hbm, ⟨13, _⟩ => ⟨S15372x7x1, .i1⟩
  | .hbm, ⟨14, _⟩ => ⟨S1x1x1, .i32⟩
  | .hbm, ⟨15, _⟩ => ⟨S15372x7x1, .i32⟩
  | .hbm, ⟨16, _⟩ => ⟨S15372x7x1, .i1⟩
  | .hbm, ⟨17, _⟩ => ⟨S15372x7x1, .i1⟩
  | .hbm, ⟨18, _⟩ => ⟨S_, .i1⟩
  | .hbm, ⟨19, _⟩ => ⟨S15372x7, .i1⟩
  | .hbm, ⟨20, _⟩ => ⟨S8x64x15372x7, .f32⟩
  | .hbm, ⟨21, _⟩ => ⟨S8x64x15372x7, .i1⟩
  | .hbm, ⟨22, _⟩ => ⟨S_, .f32⟩
  | .hbm, ⟨23, _⟩ => ⟨S8x64x15372x7, .f32⟩
  | .hbm, ⟨24, _⟩ => ⟨S8x64x15372x7, .f32⟩
  | .hbm, ⟨25, _⟩ => ⟨S_, .f32⟩
  | .hbm, ⟨26, _⟩ => ⟨S8x64x15372, .f32⟩
  | .hbm, ⟨27, _⟩ => ⟨S_, .f32⟩
  | .hbm, ⟨28, _⟩ => ⟨S8x64x15372, .f32⟩
  | .hbm, ⟨29, _⟩ => ⟨S8x64x15372, .f32⟩
  | _, _ => ⟨S8x64x61452, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩

abbrev nD : Nat := 1
abbrev τ : Topo := Topo.v7x

variable {F : FTy → Type} [FloatOps F]
-- ==== Proof.Text.lean ====
/- The kernel's text, folded. The printed body spells out every one of its 24 tasks (four groups of four rows by
   six slabs), the seven neighbours of a trip and the four rows of a step; here each repeated group of operations
   is one definition over its parameters, each taking the program that follows it. `Equal.lean` proves the printed
   body equal to this. -/
module

public import proofs.«01_k».proof.Proof.Gen.KernelIdeal

@[expose] public section

noncomputable section

namespace Cert.KernelIdeal.Pool

open Cert.KernelIdeal Cert.KernelIdeal.Gen Idealize.ShloMosaic Idealize.SL.Sem

variable {F : FTy → Type} [FloatOps F] [Named F]

/-- A tile's program that returns nothing. -/
abbrev Tile (F : FTy → Type) (i : grid0.Coords) : Type 1 :=
  Prog (TpuEff nD τ sig (Elt F) Λ₀ (.scVector ((i 0).castLE hcore0) ((i 1).castLE hsub0))) PUnit

/-- Sixteen lanes of words, and of floats. -/
abbrev W16 : Type := IVec S16 32
abbrev V16 (F : FTy → Type) : Type := FVec F S16 .f32

abbrev XBuf : Type := Memref sig .scVector .vmem S4x10368 .f32
abbrev OBuf : Type := Memref sig .scVector .vmem S4x2572 .f32
abbrev XArr : Type := Memref sig .scVector .hbm S512x61452 .f32
abbrev TArr : Type := Memref sig .scVector .hbm S512x128 .f32
abbrev OArr : Type := Memref sig .scVector .hbm S512x15372 .f32
abbrev IBuf : Type := Memref sig .scVector .vmem S17934 .i32
abbrev Sm : Type := DmaSems sig S_

/-- The tile's number: twice its subcore plus its core. -/
def wid (i : grid0.Coords) : BitVec 32 :=
  Scalar.addi (Scalar.muli (BitVec.ofNat 32 (i 1).val) 2#32) (BitVec.ofNat 32 (i 0).val)

/-- The first of the four rows of the tile's group `h`. -/
def row (i : grid0.Coords) (h : Nat) : BitVec 32 :=
  Scalar.muli (Scalar.addi (Scalar.muli (wid i) 4#32) (BitVec.ofNat 32 h)) 4#32

/-- Where a window of the tile's group `h` starts: its first row and column `c`. -/
def at2 (i : grid0.Coords) (h : Nat) (c : Nat) : Fin 2 → Nat := ![(row i h).toNat, c]

/-- The lanes' own numbers. -/
def lanes : W16 := iota .scVector S16 32 [0] iota_S16_d0_w32_scVector

/-- The first of a trip's sixteen vertices: 16 times the trip, held at 2546. -/
def j0 (t : Fin k0_t1_loop.trips) : BitVec 32 :=
  Scalar.minsi (Scalar.muli (Scf.iv 0#32 1#32 t) 16#32) 2546#32

/-- The result columns of a trip's sixteen vertices, in slab `a`: two more per slab. -/
def cols (a : Nat) (t : Fin k0_t1_loop.trips) : W16 :=
  addi lanes (broadcast S16 (Scalar.addi (BitVec.ofNat 32 (2 * a)) (j0 t)))

/-- A slab's shift of its neighbours' words: two per slab, none in the first. -/
def shf : Nat → W16 → W16
  | 0, d => d
  | a + 1, d => addi d (broadcast S16 (BitVec.ofNat 32 (2 * (a + 1))))

variable (i : grid0.Coords)

/-- One row's gather added to its running sum. -/
def gat (xb : XBuf) (d : W16) (r : BitVec 32) (a : V16 F) (k : V16 F → Tile F i) : Tile F i := do
  let h ← Prog.lift (TpuEff.assume (k0_chk1 d (broadcast S16 r)) (k0_chk1.dec d (broadcast S16 r)))
  let v : Vec F S16 .f32 ← SparseCore.vectorLoadIdx xb ![broadcast S16 r, d] (k0_idx1_inb d (broadcast S16 r) h.down) (View.loads_vmem h_S4x10368)
  k (addf a v)

/-- The four rows' gathers at one neighbour. -/
def gat4 (xb : XBuf) (d : W16) (a b c e : V16 F) (k : V16 F → V16 F → V16 F → V16 F → Tile F i) : Tile F i :=
  gat i xb d 0#32 a fun a => gat i xb d 1#32 b fun b => gat i xb d 2#32 c fun c => gat i xb d 3#32 e fun e => k a b c e

/-- A neighbour's sixteen words read, shifted, and gathered at. -/
def near (ix : IBuf) (xb : XBuf) (sl : Nat) (off : Fin 1 → Nat) (inb : ∀ a, off a + S16.size a ≤ S17934.size a)
    (a b c e : V16 F) (k : V16 F → V16 F → V16 F → V16 F → Tile F i) : Tile F i := do
  let d : Vec F S16 .i32 ← Prog.lift (.load ix (Rect.unit (s := S17934) off S16.size inb).toLoadRect (View.loadsAt_vmem h_S16))
  gat4 i xb (shf sl d) a b c e k

/-- One row scattered into the result buffer. -/
def scat (ob : OBuf) (col : W16) (r : BitVec 32) (v : V16 F) (k : Tile F i) : Tile F i := do
  let h ← Prog.lift (TpuEff.assume (k0_chk29 col (broadcast S16 r)) (k0_chk29.dec col (broadcast S16 r)))
  SparseCore.vectorStoreIdx ob ![broadcast S16 r, col] v (fun _ => 1#1) false (k0_idx29_inb col (broadcast S16 r) h.down)
    (View.stores_vmem_bits_univ h_S4x2572 rfl)
  k

/-- The four rows scattered at the same columns. -/
def scat4 (ob : OBuf) (col : W16) (a b c e : V16 F) (k : Tile F i) : Tile F i :=
  scat i ob col 0#32 a <| scat i ob col 1#32 b <| scat i ob col 2#32 c <| scat i ob col 3#32 e k

/-- A running sum's start, and a sum scaled by the seventh. -/
def zero16 : V16 F := broadcast S16 (Scalar.ofBits .f32 0x00000000#32)
def scaled (a : V16 F) : V16 F := mulf a (broadcast S16 (Named.named κ "seventh" 0x3E124925#32))

/-- One trip: sixteen vertices' seven neighbours summed in four rows, scaled and scattered. -/
def trip (ix : IBuf) (xb : XBuf) (ob : OBuf) (sl : Nat) (t : Fin k0_t1_loop.trips) : Tile F i :=
  near i ix xb sl (k0_off5 t) (k0_off5_inb t) zero16 zero16 zero16 zero16 fun a b c e =>
  near i ix xb sl (k0_off6 t) (k0_off6_inb t) a b c e fun a b c e =>
  near i ix xb sl (k0_off7 t) (k0_off7_inb t) a b c e fun a b c e =>
  near i ix xb sl (k0_off8 t) (k0_off8_inb t) a b c e fun a b c e =>
  near i ix xb sl (k0_off9 t) (k0_off9_inb t) a b c e fun a b c e =>
  near i ix xb sl (k0_off10 t) (k0_off10_inb t) a b c e fun a b c e =>
  near i ix xb sl (k0_off11 t) (k0_off11_inb t) a b c e fun a b c e =>
  scat4 i ob (cols sl t) (scaled a) (scaled b) (scaled c) (scaled e) (pure ⟨⟩)

/-- A task's 161 trips. -/
def trips (ix : IBuf) (xb : XBuf) (ob : OBuf) (sl : Nat) : Tile F i :=
  Scf.Loop.for k0_t1_loop k0_t1_ok ⟨⟩ (fun t _ => trip i ix xb ob sl t)

/-! ## Copies -/

variable {i}
theorem row_toNat (h : Nat) (hh : h < 4) : (row i h).toNat = 4 * (4 * (2 * (i 1).val + (i 0).val) + h) := by
  have h0 : (i 0).val < 2 := (i 0).isLt
  have h1 : (i 1).val < 16 := (i 1).isLt
  show (((BitVec.ofNat 32 (i 1).val * 2#32 + BitVec.ofNat 32 (i 0).val) * 4#32 + BitVec.ofNat 32 h) * 4#32).toNat = _
  generalize (i 0).val = a at h0 ⊢
  generalize (i 1).val = b at h1 ⊢
  simp only [BitVec.toNat_mul, BitVec.toNat_add, BitVec.toNat_ofNat]
  omega

/-- A four-row window whose columns lie inside the array lies inside it. -/
theorem at2_inb {n m : Nat} (h : Nat) (c : Nat) (hh : h < 4) (hc : c + n ≤ m) :
    ∀ a, at2 i h c a + (⟨2, ![4, n]⟩ : Shape).size a ≤ (⟨2, ![512, m]⟩ : Shape).size a := by
  have h0 : (i 0).val < 2 := (i 0).isLt
  have h1 : (i 1).val < 16 := (i 1).isLt
  have e := row_toNat (i := i) h hh
  intro a
  match a with
  | 0 => show (row i h).toNat + 4 ≤ 512; omega
  | 1 => exact hc

/-- The windows of the row buffer a slab is copied into, of the source it is copied from, and of the result. -/
abbrev dst1 (xb : XBuf) : Memref sig .scVector .vmem S4x5120 .f32 :=
  xb.slice (Rect.unit (s := S4x10368) ![0, 0] S4x5120.size inb_S4x10368_S4x5120_0_0) (fun _ => rfl)
abbrev dst2 (xb : XBuf) : Memref sig .scVector .vmem S4x5248 .f32 :=
  xb.slice (Rect.unit (s := S4x10368) ![0, 5120] S4x5248.size inb_S4x10368_S4x5248_0_5120) (fun _ => rfl)
abbrev dst3 (xb : XBuf) : Memref sig .scVector .vmem S4x5120 .f32 :=
  xb.slice (Rect.unit (s := S4x10368) ![0, 5120] S4x5120.size inb_S4x10368_S4x5120_0_5120) (fun _ => rfl)
abbrev dst4 (xb : XBuf) : Memref sig .scVector .vmem S4x128 .f32 :=
  xb.slice (Rect.unit (s := S4x10368) ![0, 10240] S4x128.size inb_S4x10368_S4x128_0_10240) (fun _ => rfl)

variable (i)
abbrev src1 (x : XArr) (h : Nat) (hh : h < 4) (c : Nat) (hc : c + 5120 ≤ 61452) :
    Memref sig .scVector .hbm S4x5120 .f32 :=
  x.slice (Rect.unit (s := S512x61452) (at2 i h c) S4x5120.size (at2_inb h c hh hc)) (fun _ => rfl)
abbrev src2 (x : XArr) (h : Nat) (hh : h < 4) (c : Nat) (hc : c + 5248 ≤ 61452) :
    Memref sig .scVector .hbm S4x5248 .f32 :=
  x.slice (Rect.unit (s := S512x61452) (at2 i h c) S4x5248.size (at2_inb h c hh hc)) (fun _ => rfl)
abbrev src4 (xt : TArr) (h : Nat) (hh : h < 4) : Memref sig .scVector .hbm S4x128 .f32 :=
  xt.slice (Rect.unit (s := S512x128) (at2 i h 0) S4x128.size (at2_inb h 0 hh (by decide))) (fun _ => rfl)

/-- A slab's two copies started: columns from `c`, and the rest from `c'`. -/
def issueA (x : XArr) (xb : XBuf) (s s' : Sm) (h : Nat) (hh : h < 4) (c c' : Nat) (hc : c + 5120 ≤ 61452)
    (hc' : c' + 5248 ≤ 61452) (k : Tile F i) : Tile F i := do
  Prog.lift (.enqueueDma (src1 i x h hh c hc) (.here (dst1 xb)) (.dma s.sem) (View.wordExact_bits rfl) (View.wordExact_bits rfl) ⟨Or.inl rfl, trivial⟩)
  Prog.lift (.enqueueDma (src2 i x h hh c' hc') (.here (dst2 xb)) (.dma s'.sem) (View.wordExact_bits rfl) (View.wordExact_bits rfl) ⟨Or.inl rfl, trivial⟩)
  k

/-- The wait for them. -/
def awaitA (x : XArr) (xb : XBuf) (s s' : Sm) (h : Nat) (hh : h < 4) (c c' : Nat) (hc : c + 5120 ≤ 61452)
    (hc' : c' + 5248 ≤ 61452) (k : Tile F i) : Tile F i := do
  Prog.lift (.waitDma2 s.sem (src1 i x h hh c hc) (dst1 xb) (View.wordExact_bits rfl) (View.wordExact_bits rfl))
  Prog.lift (.waitDma2 s'.sem (src2 i x h hh c' hc') (dst2 xb) (View.wordExact_bits rfl) (View.wordExact_bits rfl))
  k

/-- The last slab's three copies started: two of the array, on one semaphore, and one of the padded tail. -/
def issueB (x : XArr) (xt : TArr) (xb : XBuf) (s s' : Sm) (h : Nat) (hh : h < 4) (k : Tile F i) : Tile F i := do
  Prog.lift (.enqueueDma (src1 i x h hh 51200 (by decide)) (.here (dst1 xb)) (.dma s.sem) (View.wordExact_bits rfl) (View.wordExact_bits rfl) ⟨Or.inl rfl, trivial⟩)
  Prog.lift (.enqueueDma (src1 i x h hh 56320 (by decide)) (.here (dst3 xb)) (.dma s.sem) (View.wordExact_bits rfl) (View.wordExact_bits rfl) ⟨Or.inl rfl, trivial⟩)
  Prog.lift (.enqueueDma (src4 i xt h hh) (.here (dst4 xb)) (.dma s'.sem) (View.wordExact_bits rfl) (View.wordExact_bits rfl) ⟨Or.inl rfl, trivial⟩)
  k

/-- The wait for them. -/
def awaitB (x : XArr) (xt : TArr) (xb : XBuf) (s s' : Sm) (h : Nat) (hh : h < 4) (k : Tile F i) : Tile F i := do
  Prog.lift (.waitDma2 s.sem (src1 i x h hh 51200 (by decide)) (dst1 xb) (View.wordExact_bits rfl) (View.wordExact_bits rfl))
  Prog.lift (.waitDma2 s.sem (src1 i x h hh 56320 (by decide)) (dst3 xb) (View.wordExact_bits rfl) (View.wordExact_bits rfl))
  Prog.lift (.waitDma2 s'.sem (src4 i xt h hh) (dst4 xb) (View.wordExact_bits rfl) (View.wordExact_bits rfl))
  k

abbrev osrc (ob : OBuf) : Memref sig .scVector .vmem S4x2560 .f32 :=
  ob.slice (Rect.unit (s := S4x2572) ![0, 0] S4x2560.size inb_S4x2572_S4x2560_0_0) (fun _ => rfl)
abbrev owin (o : OArr) (h : Nat) (hh : h < 4) (c : Nat) (hc : c + 2560 ≤ 15372) :
    Memref sig .scVector .hbm S4x2560 .f32 :=
  o.slice (Rect.unit (s := S512x15372) (at2 i h c) S4x2560.size (at2_inb h c hh hc)) (fun _ => rfl)
abbrev owinB (o : OArr) (h : Nat) (hh : h < 4) : Memref sig .scVector .hbm S4x2572 .f32 :=
  o.slice (Rect.unit (s := S512x15372) (at2 i h 12800) S4x2572.size (at2_inb h 12800 hh (by decide))) (fun _ => rfl)

/-- A slab's 2560 whole columns started out, and waited for. -/
def putA (o : OArr) (ob : OBuf) (s : Sm) (h : Nat) (hh : h < 4) (c : Nat) (hc : c + 2560 ≤ 15372) (k : Tile F i) : Tile F i := do
  Prog.lift (.enqueueDma (osrc ob) (.here (owin i o h hh c hc)) (.dma s.sem) (View.wordExact_bits rfl) (View.wordExact_bits rfl) ⟨Or.inl rfl, trivial⟩)
  k
def putWaitA (o : OArr) (ob : OBuf) (s : Sm) (h : Nat) (hh : h < 4) (c : Nat) (hc : c + 2560 ≤ 15372) (k : Tile F i) : Tile F i := do
  Prog.lift (.waitDma2 s.sem (osrc ob) (owin i o h hh c hc) (View.wordExact_bits rfl) (View.wordExact_bits rfl))
  k

/-- The last slab's whole buffer started out, and waited for. -/
def putB (o : OArr) (ob : OBuf) (hob : ob.IsWhole) (s : Sm) (h : Nat) (hh : h < 4) (k : Tile F i) : Tile F i := do
  Prog.lift (.enqueueDma ob (.here (owinB i o h hh)) (.dma s.sem) hob.wordExact (View.wordExact_bits rfl) ⟨Or.inl rfl, trivial⟩)
  k
def putWaitB (o : OArr) (ob : OBuf) (hob : ob.IsWhole) (s : Sm) (h : Nat) (hh : h < 4) (k : Tile F i) : Tile F i := do
  Prog.lift (.waitDma2 s.sem ob (owinB i o h hh) hob.wordExact (View.wordExact_bits rfl))
  k

/-- The columns a slab hands to the next: 2560 on, held at the last. -/
def over : W16 := minsi (addi lanes (broadcast S16 2560#32)) (broadcast S16 2571#32)

/-- One row of them gathered from the result buffer. -/
def keep (ob : OBuf) (r : BitVec 32) (k : V16 F → Tile F i) : Tile F i := do
  let h ← Prog.lift (TpuEff.assume (k0_chk33 over (broadcast S16 r)) (k0_chk33.dec over (broadcast S16 r)))
  let v : Vec F S16 .f32 ← SparseCore.vectorLoadIdx ob ![broadcast S16 r, over] (k0_idx33_inb over (broadcast S16 r) h.down) (View.loads_vmem h_S4x2572)
  k v

def keep4 (ob : OBuf) (k : V16 F → V16 F → V16 F → V16 F → Tile F i) : Tile F i :=
  keep i ob 0#32 fun a => keep i ob 1#32 fun b => keep i ob 2#32 fun c => keep i ob 3#32 fun e => k a b c e

/-- The kernel's arguments and scratch: the array, its padded tail, the words and the result; the words' copy, the
    two row buffers and the two result buffers; and the copies' semaphores, by what they carry and by parity. -/
structure Env where
  x : XArr
  xt : TArr
  iw : Memref sig .scVector .hbm S17934 .i32
  hiw : iw.IsWhole
  o : OArr
  ix : IBuf
  hix : ix.IsWhole
  b0 : XBuf
  b1 : XBuf
  o0 : OBuf
  o1 : OBuf
  ho1 : o1.IsWhole
  x0 : Sm
  x1 : Sm
  u0 : Sm
  u1 : Sm
  y0 : Sm
  y1 : Sm
  t1 : Sm
  q1 : Sm
  wr : Sm

variable (E : Env)

/-- A middle slab's columns lie inside the array; so do the columns it writes. -/
theorem in1 {a : Nat} (ha : a < 5) : 10240 * a + 5120 ≤ 61452 := by omega
theorem in2 {a : Nat} (ha : a < 5) : 10240 * a + 5120 + 5248 ≤ 61452 := by omega
theorem inO {a : Nat} (ha : a < 5) : 2560 * a + 2560 ≤ 15372 := by omega

abbrev fetch (xb : XBuf) (s s' : Sm) (h a : Nat) (hh : h < 4) (ha : a < 5) (k : Tile F i) : Tile F i :=
  issueA i E.x xb s s' h hh (10240 * a) (10240 * a + 5120) (in1 ha) (in2 ha) k
abbrev await (xb : XBuf) (s s' : Sm) (h a : Nat) (hh : h < 4) (ha : a < 5) (k : Tile F i) : Tile F i :=
  awaitA i E.x xb s s' h hh (10240 * a) (10240 * a + 5120) (in1 ha) (in2 ha) k
abbrev put (ob : OBuf) (s : Sm) (h a : Nat) (hh : h < 4) (ha : a < 5) (k : Tile F i) : Tile F i :=
  putA i E.o ob s h hh (2560 * a) (inO ha) k
abbrev putWait (ob : OBuf) (s : Sm) (h a : Nat) (hh : h < 4) (ha : a < 5) (k : Tile F i) : Tile F i :=
  putWaitA i E.o ob s h hh (2560 * a) (inO ha) k

/-- The words copied in, the first two slabs started, the first one waited for. -/
def start (k : Tile F i) : Tile F i := do
  Prog.lift (.enqueueDma E.iw (.here E.ix) (.dma E.wr.sem) E.hiw.wordExact E.hix.wordExact ⟨Or.inl rfl, trivial⟩)
  Prog.lift (.waitDma2 E.wr.sem E.iw E.ix E.hiw.wordExact E.hix.wordExact)
  fetch i E E.b0 E.x0 E.y0 0 0 (by decide) (by decide) <| fetch i E E.b1 E.x1 E.y1 0 1 (by decide) (by decide) <|
    await i E E.b0 E.x0 E.y0 0 0 (by decide) (by decide) k

/-- The wait for the group before's last slab: in the first group there is none. -/
def waitBefore : (h : Nat) → h < 4 → Tile F i → Tile F i
  | 0, _, k => k
  | h + 1, hh, k => putWaitB i E.o E.o1 E.ho1 E.q1 h (Nat.lt_of_succ_lt hh) k

/-- The next group's first slab started: after the last group there is none. -/
def fetchAfter (h : Nat) (k : Tile F i) : Tile F i :=
  if hh : h + 1 < 4 then fetch i E E.b0 E.x0 E.y0 (h + 1) 0 hh (by decide) k else k

/-- What lies between two slabs' trips. -/
def turn1 (h : Nat) (hh : h < 4) (k : Tile F i) : Tile F i :=
  keep4 i E.o0 fun a b c e => put i E E.o0 E.u0 h 0 hh (by decide) <| fetch i E E.b0 E.x0 E.y0 h 2 hh (by decide) <|
  waitBefore i E h hh <| scat4 i E.o1 lanes a b c e <| await i E E.b1 E.x1 E.y1 h 1 hh (by decide) k
def turn2 (h : Nat) (hh : h < 4) (k : Tile F i) : Tile F i :=
  keep4 i E.o1 fun a b c e => put i E E.o1 E.u1 h 1 hh (by decide) <| fetch i E E.b1 E.x1 E.y1 h 3 hh (by decide) <|
  putWait i E E.o0 E.u0 h 0 hh (by decide) <| scat4 i E.o0 lanes a b c e <| await i E E.b0 E.x0 E.y0 h 2 hh (by decide) k
def turn3 (h : Nat) (hh : h < 4) (k : Tile F i) : Tile F i :=
  keep4 i E.o0 fun a b c e => put i E E.o0 E.u0 h 2 hh (by decide) <| fetch i E E.b0 E.x0 E.y0 h 4 hh (by decide) <|
  putWait i E E.o1 E.u1 h 1 hh (by decide) <| scat4 i E.o1 lanes a b c e <| await i E E.b1 E.x1 E.y1 h 3 hh (by decide) k
def turn4 (h : Nat) (hh : h < 4) (k : Tile F i) : Tile F i :=
  keep4 i E.o1 fun a b c e => put i E E.o1 E.u1 h 3 hh (by decide) <| issueB i E.x E.xt E.b1 E.x1 E.t1 h hh <|
  putWait i E E.o0 E.u0 h 2 hh (by decide) <| scat4 i E.o0 lanes a b c e <| await i E E.b0 E.x0 E.y0 h 4 hh (by decide) k
def turn5 (h : Nat) (hh : h < 4) (k : Tile F i) : Tile F i :=
  keep4 i E.o0 fun a b c e => put i E E.o0 E.u0 h 4 hh (by decide) <| fetchAfter i E h <|
  putWait i E E.o1 E.u1 h 3 hh (by decide) <| scat4 i E.o1 lanes a b c e <| awaitB i E.x E.xt E.b1 E.x1 E.t1 h hh k

/-- Between a group's last slab and the next group's first. -/
def turn0 (h : Nat) (hh : h + 1 < 4) (k : Tile F i) : Tile F i :=
  putB i E.o E.o1 E.ho1 E.q1 h (Nat.lt_of_succ_lt hh) <| fetch i E E.b1 E.x1 E.y1 (h + 1) 1 hh (by decide) <|
  putWait i E E.o0 E.u0 h 4 (Nat.lt_of_succ_lt hh) (by decide) <| await i E E.b0 E.x0 E.y0 (h + 1) 0 hh (by decide) k

/-- After the last slab. -/
def finish : Tile F i :=
  putB i E.o E.o1 E.ho1 E.q1 3 (by decide) <| putWait i E E.o0 E.u0 3 4 (by decide) (by decide) <|
  putWaitB i E.o E.o1 E.ho1 E.q1 3 (by decide) (pure ⟨⟩)

/-- A slab's turn and its trips' buffers and number. -/
structure Leg (F : FTy → Type) (i : grid0.Coords) where
  turn : Tile F i → Tile F i
  xb : XBuf
  ob : OBuf
  sl : Nat

/-- Slabs in order: each one's turn, then its trips. -/
def legs : List (Leg F i) → Tile F i → Tile F i
  | [], k => k
  | l :: ls, k => l.turn (trips i E.ix l.xb l.ob l.sl >>= fun _ => legs ls k)

/-- A group's six slabs, the first reached by `first`. -/
def group (h : Nat) (hh : h < 4) (first : Tile F i → Tile F i) : List (Leg F i) :=
  [⟨first, E.b0, E.o0, 0⟩, ⟨turn1 i E h hh, E.b1, E.o1, 1⟩, ⟨turn2 i E h hh, E.b0, E.o0, 2⟩,
   ⟨turn3 i E h hh, E.b1, E.o1, 3⟩, ⟨turn4 i E h hh, E.b0, E.o0, 4⟩, ⟨turn5 i E h hh, E.b1, E.o1, 5⟩]

/-- The whole tile. -/
def pool : Tile F i :=
  legs i E (group i E 0 (by decide) (start i E) ++ group i E 1 (by decide) (turn0 i E 0 (by decide)) ++
    group i E 2 (by decide) (turn0 i E 1 (by decide)) ++ group i E 3 (by decide) (turn0 i E 2 (by decide))) (finish i E)

end Cert.KernelIdeal.Pool

end
-- ==== Proof.Own.lean ====
/- What a tile owns of a buffer, said by what a memref reads of it, and the run of the operations the kernel uses
   over that: an indexed load, an indexed store, a load, a copy started and a copy waited for. -/
module

public import proofs.«01_k».proof.Proof.Text
public import Idealize.ShloMosaic.Lib.SparseCore.Quiescent
public import Idealize.ShloMosaic.Lib.SparseCore.Ops
public import Idealize.ShloMosaic.Lib.Batch
public import Idealize.ShloMosaic.Lib.Tactic

@[expose] public section

noncomputable section

namespace Cert.KernelIdeal.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

/-- The ghost state: the handshakes' rounds beside the copies' counters. -/
abbrev UH : Type := URounds (GSem nD τ sig) ℕ
abbrev UU : Type := UH × Counters

local notation "𝕄" => MT nD τ sig (HIx 1) (Elt F) ℕ UU ℕ

variable [FloatOps F] [Named F]

abbrev cV (L : grid0.Coords) : Fin τ.nSC := (L 0).castLE hcore0
abbrev jV (L : grid0.Coords) : Fin τ.nSub := (L 1).castLE hsub0

variable (d : Dev nD) (i : grid0.Coords)

/-- The tile's thread. -/
abbrev thr : Thread nD τ := V d (cV i) (jV i)

/-- A tile's program run to `Q`. -/
abbrev run {α : Type} (p : Prog (TpuEff nD τ sig (Elt F) Λ₀ (.scVector (cV i) (jV i))) α) (Q : α → sProp 𝕄) : sProp 𝕄 :=
  wp frame (wpE (defs₀ (F := F)) Variants.none (thr d i) none) Set.univ p Q

/-- A memref's elements of a union, and of a rectangle. -/
theorem setOn_union {κ : Kind} {sp : Space} {s : Shape} {e : EltTy} (v : View sig κ sp s e) (A B : Finset s.Idx) :
    v.setOn (A ∪ B) = v.setOn A ∪ v.setOn B := Finset.map_union _ _

theorem setOn_slice {κ : Kind} {sp : Space} {s : Shape} {e : EltTy} (v : View sig κ sp s e) (r : Rect s) :
    (v.slice r).setOn Finset.univ = v.setOn r.set := by
  rw [View.setOn_univ, View.set_slice]; rfl

section Own

variable {sp : Space} {s : Shape} {e : EltTy} (m : Memref sig .scVector sp s e) (q : PosShare TreeShare)

/-- The share `q` of the elements `R` of the memref's shape, at which the memref reads `G`. -/
def Own (R : Finset s.Idx) (G : s.Idx → Elt F e) : sProp 𝕄 :=
  iprop(∃ f, ⌜∀ y ∈ R, m.view.read (Elt F) f y = G y⌝ ∗ m.view.loc (thr d i) ↦[m.view.setOn R]{q} f)

theorem Own_congr {R : Finset s.Idx} {G G' : s.Idx → Elt F e} (h : ∀ y ∈ R, G y = G' y) :
    Own d i m q R G ⊢ Own d i m q R G' := by
  unfold Own
  iintro ⟨%f, %hf, H⟩
  iexists f; isplitr
  · ipureintro; exact fun y hy => (hf y hy).trans (h y hy)
  · iexact H

theorem Own_of_pts (R : Finset s.Idx) (f : Buf (Elt F) (m.view.loc (thr d i))) :
    (m.view.loc (thr d i) ↦[m.view.setOn R]{q} f : sProp 𝕄) ⊢ Own d i m q R (m.view.read (Elt F) f) := by
  unfold Own
  iintro H
  iexists f; isplitr
  · ipureintro; exact fun _ _ => rfl
  · iexact H

theorem Own_split {A B : Finset s.Idx} (hd : Disjoint A B) (G : s.Idx → Elt F e) :
    Own d i m q (A ∪ B) G ⊢ iprop(Own d i m q A G ∗ Own d i m q B G) := by
  unfold Own
  iintro ⟨%f, %hf, H⟩
  rw [setOn_union]
  have hd' : Disjoint (m.view.setOn A) (m.view.setOn B) := (Finset.disjoint_map (m.view.emb)).mpr hd
  ihave H' := (pointsTo_union (ℓ := m.view.loc (thr d i)) (q := q) (f := f) hd').1 $$ H
  icases H' with ⟨HA, HB⟩
  isplitl [HA]
  · iexists f; isplitr
    · ipureintro; exact fun y hy => hf y (Finset.mem_union_left _ hy)
    · iexact HA
  · iexists f; isplitr
    · ipureintro; exact fun y hy => hf y (Finset.mem_union_right _ hy)
    · iexact HB

theorem Own_join {A B : Finset s.Idx} (hd : Disjoint A B) (G : s.Idx → Elt F e) :
    iprop(Own d i m q A G ∗ Own d i m q B G) ⊢ Own d i m q (A ∪ B) G := by
  unfold Own
  iintro ⟨⟨%f, %hf, HA⟩, ⟨%g, %hg, HB⟩⟩
  iexists ((m.view.setOn B).piecewise g f)
  isplitr
  · ipureintro
    intro y hy
    rw [View.read_apply]
    by_cases hB : y ∈ B
    · rw [Finset.piecewise_eq_of_mem _ _ _ ((m.view.mem_setOn).mpr hB)]; exact hg y hB
    · rw [Finset.piecewise_eq_of_notMem _ _ _ (fun h => hB ((m.view.mem_setOn).mp h))]
      exact hf y ((Finset.mem_union.mp hy).resolve_right hB)
  · rw [setOn_union]
    have hd' : Disjoint (m.view.setOn A) (m.view.setOn B) := (Finset.disjoint_map (m.view.emb)).mpr hd
    iapply (pointsTo_join (ℓ := m.view.loc (thr d i)) (q := q) (f := f) (g := g) hd')
    isplitl [HA] <;> iassumption

theorem slice_pts (r : Rect s) (hr : ∀ a, r.stride a = 1) (f : Buf (Elt F) (m.view.loc (thr d i))) :
    (m.view.loc (thr d i) ↦[m.view.setOn r.set]{q} f : sProp 𝕄)
      = ((m.slice r hr).view.loc (thr d i) ↦[(m.slice r hr).view.setOn Finset.univ]{q} f) := by
  rw [← setOn_slice]

/-- A slice's elements are the memref's in its rectangle. -/
theorem Own_slice (r : Rect s) (hr : ∀ a, r.stride a = 1) {G : s.Idx → Elt F e} {G' : r.shape.Idx → Elt F e}
    (h : ∀ x, G' x = G (r.emb x)) :
    Own d i m q r.set G ⊢ Own d i (m.slice r hr) q Finset.univ G' := by
  unfold Own
  iintro ⟨%f, %hf, H⟩
  iexists f; isplitr
  · ipureintro; intro x _
    exact (hf (r.emb x) (by rw [← Rect.map_emb_univ]; exact Finset.mem_map_of_mem _ (Finset.mem_univ x))).trans (h x).symm
  · iapply (Entails.of_eq (slice_pts d i m q r hr f)); iexact H

theorem Own_unslice (r : Rect s) (hr : ∀ a, r.stride a = 1) {G : s.Idx → Elt F e} {G' : r.shape.Idx → Elt F e}
    (h : ∀ x, G' x = G (r.emb x)) :
    Own d i (m.slice r hr) q Finset.univ G' ⊢ Own d i m q r.set G := by
  unfold Own
  iintro ⟨%f, %hf, H⟩
  iexists f; isplitr
  · ipureintro; intro y hy
    rw [← Rect.map_emb_univ] at hy
    obtain ⟨x, -, rfl⟩ := Finset.mem_map.mp hy
    exact (hf x (Finset.mem_univ x)).trans (h x)
  · iapply (Entails.of_eq (slice_pts d i m q r hr f).symm); iexact H

end Own

/-! ## Operations -/

section Ops

variable {s : Shape} {e : EltTy} {Q : PUnit → sProp (MT nD τ sig (HIx 1) (Elt F) ℕ UU ℕ)}

theorem run_loadIdx {t : Shape} (m : Memref sig .scVector .vmem s e) (q : PosShare TreeShare) (G : s.Idx → Elt F e)
    (idxs : Fin s.rank → IVec t 32) (h : ∀ a x, (idxs a x).toNat < s.size a) (hl : m.view.Loads)
    (k : Vec F t e → Tile F i) :
    Own d i m q Finset.univ G ⊢ iprop((Own d i m q Finset.univ G -∗ run d i (k (loadIdx G idxs h)) Q)
      -∗ run d i (SparseCore.vectorLoadIdx m idxs h hl >>= k) Q) := by
  unfold Own
  iintro ⟨%f, %hf, H⟩ Hk
  have hs : (m.access (.whole s)).set ⊆ m.view.setOn Finset.univ := m.view.set_slice_subset _
  iapply (SparseCore.wp_vectorLoadIdx Variants.none (thr d i) none Set.univ (base := m) (q := q) hs) $$ H
  iintro H
  rw [show (m.access (.whole s)).read (Elt F) f = G from funext fun y => by
    rw [show (m.access (.whole s)).read (Elt F) f y = m.view.read (Elt F) f ((Rect.whole s).emb y) from rfl, Rect.emb_whole_apply]
    exact hf y (Finset.mem_univ y)]
  iapply Hk
  iexists f; isplitr
  · ipureintro; exact hf
  · iexact H

theorem run_storeIdx {n : Fin 1 → Nat} (m : Memref sig .scVector .vmem s e) (G : s.Idx → Elt F e)
    (idxs : Fin s.rank → IVec ⟨1, n⟩ 32) (v : Vec F ⟨1, n⟩ e) (mask : IVec ⟨1, n⟩ 1) (add : Bool)
    (h : ∀ a x, (idxs a x).toNat < s.size a) (hs : (m.access (.whole s)).Stores Finset.univ)
    (k : PUnit → Tile F i) :
    Own d i m fullShare Finset.univ G ⊢ iprop((Own d i m fullShare Finset.univ (storeIdx G idxs v mask add h) -∗ run d i (k ⟨⟩) Q)
      -∗ run d i (SparseCore.vectorStoreIdx m idxs v mask add h hs >>= k) Q) := by
  unfold Own
  iintro ⟨%f, %hf, H⟩ Hk
  have hset : (m.access (.whole s)).set = m.view.setOn Finset.univ := by
    rw [View.set_slice, Rect.set_whole]; rfl
  have hread : (m.access (.whole s)).read (Elt F) f = G := funext fun y => by
    rw [show (m.access (.whole s)).read (Elt F) f y = m.view.read (Elt F) f ((Rect.whole s).emb y) from rfl, Rect.emb_whole_apply]
    exact hf y (Finset.mem_univ y)
  rw [← hset]
  iapply (SparseCore.wp_vectorStoreIdx Variants.none (thr d i) none Set.univ (base := m)) $$ H
  iintro H
  rw [hread]
  iapply Hk
  iexists _; isplitr
  rotate_left
  · iexact H
  · ipureintro; intro y _
    have e := View.read_write_univ (v := m.access (.whole s)) f (storeIdx G idxs v mask add h)
    have := congrFun e y
    rw [show (m.access (.whole s)).read (Elt F) _ y = m.view.read (Elt F) _ ((Rect.whole s).emb y) from rfl, Rect.emb_whole_apply] at this
    exact this

theorem run_load (m : Memref sig .scVector .vmem s e) (q : PosShare TreeShare) (G : s.Idx → Elt F e) (r : Rect s)
    (hl : m.view.LoadsAt r.toLoadRect) (k : (r.shape.Idx → Elt F e) → Tile F i) :
    Own d i m q Finset.univ G ⊢ iprop((Own d i m q Finset.univ G -∗ run d i (k fun x => G (r.emb x)) Q)
      -∗ run d i (Prog.lift (.load m r.toLoadRect hl) >>= k) Q) := by
  unfold Own
  iintro ⟨%f, %hf, H⟩ Hk
  rw [Prog.bind_lift]
  have hs : m.view.setOn r.toLoadRect.set ⊆ m.view.setOn Finset.univ := Finset.map_subset_map.mpr (Finset.subset_univ _)
  iapply (wp_load Variants.none (thr d i) none Set.univ (m := m) (q := q) hs) $$ H
  iintro H
  rw [show m.view.readAt (Elt F) r.toLoadRect f = fun x => G (r.emb x) from funext fun x => by
    exact hf (r.emb x) (Finset.mem_univ _)]
  iapply Hk
  iexists f; isplitr
  · ipureintro; exact hf
  · iexact H

/-- A flight keeps what is put beside it. -/
theorem Flight_frame {c : Thread nD τ} {sm : SemLoc sig} {ι : HIx 1} {N : ℕ} {D R' : sProp 𝕄} :
    iprop(Flight countersEmb c sm ι N D ∗ R') ⊢ (Flight countersEmb c sm ι N iprop(D ∗ R') : sProp 𝕄) := by
  unfold Flight
  iintro ⟨⟨⟨%R, HR, %hcap, %hpeek⟩, Hcred⟩, HR'⟩
  isplitl [HR HR']
  · iexists iprop(R ∗ R')
    isplitl [HR HR']; · isplitl [HR] <;> iassumption
    isplit
    · ipureintro
      intro K
      refine BIBase.Entails.trans ?_ (hcap K)
      iintro ⟨⟨HR, HR'⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HR'⟩, HK⟩
      isplitl [HR]; · iexact HR
      iintro HR
      iapply HK
      isplitl [HR] <;> iassumption
  · iexact Hcred

variable {sp sp' : Space}

/-- A copy in flight on a semaphore, which will deliver `D`. -/
abbrev Fly (sm : Sm) (N : ℕ) (D : sProp 𝕄) : sProp 𝕄 := Flight countersEmb (thr d i) (.dma sm.sem) none N D

/-- A copy started: the destination's elements and the semaphore at rest handed in, with a share of the source. -/
theorem run_copy (src : Memref sig .scVector sp s e) (dst : Memref sig (Proc.kind (.scVector (cV i) (jV i))) sp' s e) (sm : Sm)
    {hsrc : src.view.WordExact} {hdst : dst.view.WordExact}
    {hsem : DmaTarget.Typed (nD := nD) (p := .scVector (cV i) (jV i)) sp (.dma sm.sem) (.here dst)} {k : PUnit → Tile F i} (q : PosShare TreeShare)
    (hN : 0 < dst.view.dmaCredit) (G : s.Idx → Elt F e) (G₀ : s.Idx → Elt F e) :
    iprop(Own d i src q Finset.univ G ∗ Own d i dst fullShare Finset.univ G₀ ∗ semVal (thr d i, .dma sm.sem) 0)
      ⊢ iprop((Fly d i sm dst.view.dmaCredit iprop(Own d i dst fullShare Finset.univ G ∗ Own d i src q Finset.univ G)
          -∗ run d i (k ⟨⟩) Q)
        -∗ run d i (Prog.lift (.enqueueDma src (.here dst) (.dma sm.sem) hsrc hdst hsem) >>= k) Q) := by
  rw [Prog.bind_lift]
  unfold Own
  iintro ⟨⟨%f, %hf, Hs⟩, ⟨%g, %hg, Hd⟩, Hv⟩ Hk
  iapply (wp_dmaLocal (countersEmb (U := UU)) Variants.none (thr d i) none (src := src) (dst := dst) (fs := f) (fd := g) (q := q)
    (Sd := dst.view.setOn Finset.univ) none dst.view.dmaCredit rfl hN subset_rfl) $$ [Hs Hd Hv]
  · isplitl [Hs]; · iexact Hs
    isplitl [Hd] <;> iassumption
  iintro Hf
  iapply Hk
  iapply (Flight_mono countersEmb (thr d i) ?_) $$ Hf
  iintro ⟨Hd, Hs⟩
  isplitl [Hd]
  · iexists _; isplitr
    rotate_left
    · iexact Hd
    · ipureintro; intro y _
      rw [View.read_write_univ]
      exact hf y (Finset.mem_univ y)
  · iexists f; isplitr
    · ipureintro; exact hf
    · iexact Hs

/-- What the tile may still wait for, and what it owes. -/
def Owe (O : CellTallies nD τ sig (HIx 1)) (W : Waits sig (HIx 1)) : sProp 𝕄 :=
  iprop(MayWaits (thr d i) (none : HIx 1) O ∗ ∃ W', ⌜∀ p ∈ W', p ∈ W ∨ p.2 = none⌝ ∗ owes (thr d i) O W')

variable {O : CellTallies nD τ sig (HIx 1)} {W : Waits sig (HIx 1)}

/-- A copy waited for. -/
theorem run_wait (src : Memref sig .scVector sp s e) (dst : Memref sig .scVector sp' s e) (sm : Sm)
    {hsrc : src.view.WordExact} {hdst : dst.view.WordExact} {k : PUnit → Tile F i} (N : ℕ) (hN : dst.view.dmaCredit = N) (D : sProp 𝕄) :
    iprop(Fly d i sm N D ∗ Owe d i O W)
      ⊢ iprop((iprop(D ∗ semVal (thr d i, .dma sm.sem) 0 ∗ Owe d i O W) -∗ run d i (k ⟨⟩) Q)
        -∗ run d i (Prog.lift (.waitDma2 sm.sem src dst hsrc hdst) >>= k) Q) := by
  rw [Prog.bind_lift]
  unfold Owe
  iintro ⟨Hf, #Hmw, %W', %hW', HO⟩ Hk
  iapply (wp_waitLocalO (countersEmb (U := UU)) Variants.none (thr d i) none (srcw := src) (dstw := dst) none hN) $$ [Hf HO]
  · isplitl [Hf]; · iexact Hf
    isplitl [HO]; · iexact HO
    iapply (MayWaits.elim (.dma sm.sem)); iexact Hmw
  iintro ⟨HD, Hv, HO⟩
  iapply Hk
  isplitl [HD]; · iexact HD
  isplitl [Hv]; · iexact Hv
  isplitr; · iexact Hmw
  iexists _; isplitr
  rotate_left
  · iexact HO
  · ipureintro; intro p hp
    rcases Finset.mem_insert.mp hp with hp | hp
    · exact .inr (hp ▸ rfl)
    · exact hW' p hp

/-- A checked condition that holds. -/
theorem run_assume {P : Prop} (dec : Decidable P) (h : P) (k : PLift P → Tile F i) :
    run d i (k ⟨h⟩) Q ⊢ run d i (Prog.lift (TpuEff.assume P dec) >>= k) Q := by
  unfold run
  rw [Prog.bind_lift, wp_assume_of _ _ _ _ h]

end Ops

/-! ## Two copies on one semaphore -/

section Two

variable {sp sp' : Space} {s : Shape} {e : EltTy} {Q : PUnit → sProp (MT nD τ sig (HIx 1) (Elt F) ℕ UU ℕ)}

instance Own_storable {s : Shape} (m : Memref sig .scVector sp s e) (q : PosShare TreeShare) (R : Finset s.Idx) (G : s.Idx → Elt F e) :
    Storable (upEmb : UEmb _ 𝕄) (Own d i m q R G) := by
  unfold Own; infer_instance

/-- Two copies in flight on a semaphore, each of `N` units, which will deliver `D` when both are waited for. -/
def Two (sm : Sm) (N : ℕ) (D : sProp 𝕄) : sProp 𝕄 :=
  iprop(∃ (A : Fin 2 → sProp 𝕄) (R : sProp 𝕄), Batch countersEmb (thr d i) (.dma sm.sem) none N A 2 0 ∗ R ∗ ⌜iprop(A 0 ∗ A 1 ∗ R) ⊢ D⌝)

theorem Two_frame {sm : Sm} {N : ℕ} {D R' D' : sProp 𝕄} (h : iprop(D ∗ R') ⊢ D') : iprop(Two d i sm N D ∗ R') ⊢ Two d i sm N D' := by
  unfold Two
  iintro ⟨⟨%A, %R, HB, HR, %hA⟩, HR'⟩
  iexists A, iprop(R ∗ R')
  isplitl [HB]; · iexact HB
  isplitl [HR HR']
  · isplitl [HR]
    · iexact HR
    · iexact HR'
  ipureintro
  iintro ⟨H0, H1, HR, HR'⟩
  iapply h
  isplitr [HR']
  · iapply hA
    isplitl [H0]; · iexact H0
    isplitl [H1]
    · iexact H1
    · iexact HR
  · iexact HR'

/-- What the two deliver. -/
def pick (A B : sProp 𝕄) : Fin 2 → sProp 𝕄
  | ⟨0, _⟩ => A
  | ⟨1, _⟩ => B

instance pick_storable (A B : sProp 𝕄) [Storable (upEmb : UEmb _ 𝕄) A] [Storable (upEmb : UEmb _ 𝕄) B] :
    ∀ t, Storable (upEmb : UEmb _ 𝕄) (pick A B t)
  | ⟨0, _⟩ => by unfold pick; infer_instance
  | ⟨1, _⟩ => by unfold pick; infer_instance

theorem two_out (A : Fin 2 → sProp 𝕄) : bigSep Finset.univ A ⊢ iprop(A 0 ∗ A 1) := by
  rw [show (Finset.univ : Finset (Fin 2)) = {0, 1} from by decide, SparseCore.bigSep_insert' (by decide), bigSep_singleton]

/-- A copy's delivery, as the memrefs read it. -/
theorem delivered {src : Memref sig .scVector sp s e} {dst : Memref sig .scVector sp' s e} {q : PosShare TreeShare} {G : s.Idx → Elt F e}
    {f : Buf (Elt F) (src.view.loc (thr d i))} {g : Buf (Elt F) (dst.view.loc (thr d i))}
    (hf : ∀ y ∈ Finset.univ, src.view.read (Elt F) f y = G y) :
    iprop((dst.view.loc (thr d i) ↦[dst.view.setOn Finset.univ]{fullShare}
            (dst.view.write (Elt F) g ((ReadAs.same (Val := Elt F)).apply (src.view.read (Elt F) f)) Finset.univ))
        ∗ (src.view.loc (thr d i) ↦[src.view.setOn Finset.univ]{q} f : sProp 𝕄))
      ⊢ iprop(Own d i dst fullShare Finset.univ G ∗ Own d i src q Finset.univ G) := by
  unfold Own
  iintro ⟨Hd, Hs⟩
  isplitl [Hd]
  · iexists _; isplitr
    rotate_left
    · iexact Hd
    · ipureintro; intro y _
      rw [View.read_write_univ]
      exact hf y (Finset.mem_univ y)
  · iexists f; isplitr
    · ipureintro; exact hf
    · iexact Hs

/-- Two copies of one size started on a semaphore at rest. -/
theorem run_copy_two (src src' : Memref sig .scVector sp s e) (dst dst' : Memref sig (Proc.kind (.scVector (cV i) (jV i))) sp' s e) (sm : Sm)
    {hsrc : src.view.WordExact} {hdst : dst.view.WordExact} {hsrc' : src'.view.WordExact} {hdst' : dst'.view.WordExact}
    {hsem : DmaTarget.Typed (nD := nD) (p := .scVector (cV i) (jV i)) sp (.dma sm.sem) (.here dst)}
    {hsem' : DmaTarget.Typed (nD := nD) (p := .scVector (cV i) (jV i)) sp (.dma sm.sem) (.here dst')}
    {k : PUnit → Tile F i} (q q' : PosShare TreeShare) (N : ℕ) (hN : dst.view.dmaCredit = N) (hN' : dst'.view.dmaCredit = N)
    (G G₀ G' G₀' : s.Idx → Elt F e) :
    iprop((Own d i src q Finset.univ G ∗ Own d i dst fullShare Finset.univ G₀)
        ∗ (Own d i src' q' Finset.univ G' ∗ Own d i dst' fullShare Finset.univ G₀') ∗ semVal (thr d i, .dma sm.sem) 0)
      ⊢ iprop((Two d i sm N iprop((Own d i dst fullShare Finset.univ G ∗ Own d i src q Finset.univ G)
            ∗ (Own d i dst' fullShare Finset.univ G' ∗ Own d i src' q' Finset.univ G'))
          -∗ run d i (k ⟨⟩) Q)
        -∗ run d i (Prog.lift (.enqueueDma src (.here dst) (.dma sm.sem) hsrc hdst hsem) >>= fun _ =>
            Prog.lift (.enqueueDma src' (.here dst') (.dma sm.sem) hsrc' hdst' hsem') >>= k) Q) := by
  rw [Prog.bind_lift]
  iintro ⟨⟨Hs, Hd⟩, ⟨Hs', Hd'⟩, Hv⟩ Hk
  imod (batch_alloc' (Lvl := ℕ) (countersEmb (U := UU)) (thr d i) none N
    (pick iprop(Own d i dst fullShare Finset.univ G ∗ Own d i src q Finset.univ G)
      iprop(Own d i dst' fullShare Finset.univ G' ∗ Own d i src' q' Finset.univ G')) (sm := .dma sm.sem) (E := Set.univ)) $$ Hv with HB
  ihave Hs := (Entails.of_eq (show Own d i src q Finset.univ G = iprop(∃ f, ⌜∀ y ∈ Finset.univ, src.view.read (Elt F) f y = G y⌝
    ∗ src.view.loc (thr d i) ↦[src.view.setOn Finset.univ]{q} f) from rfl)) $$ Hs
  ihave Hd := (Entails.of_eq (show Own d i dst fullShare Finset.univ G₀ = iprop(∃ f, ⌜∀ y ∈ Finset.univ, dst.view.read (Elt F) f y = G₀ y⌝
    ∗ dst.view.loc (thr d i) ↦[dst.view.setOn Finset.univ]{fullShare} f) from rfl)) $$ Hd
  ihave Hs' := (Entails.of_eq (show Own d i src' q' Finset.univ G' = iprop(∃ f, ⌜∀ y ∈ Finset.univ, src'.view.read (Elt F) f y = G' y⌝
    ∗ src'.view.loc (thr d i) ↦[src'.view.setOn Finset.univ]{q'} f) from rfl)) $$ Hs'
  ihave Hd' := (Entails.of_eq (show Own d i dst' fullShare Finset.univ G₀' = iprop(∃ f, ⌜∀ y ∈ Finset.univ, dst'.view.read (Elt F) f y = G₀' y⌝
    ∗ dst'.view.loc (thr d i) ↦[dst'.view.setOn Finset.univ]{fullShare} f) from rfl)) $$ Hd'
  icases Hs with ⟨%f, %hf, Hs⟩
  icases Hd with ⟨%g, %hg, Hd⟩
  icases Hs' with ⟨%f', %hf', Hs'⟩
  icases Hd' with ⟨%g', %hg', Hd'⟩
  iapply (wp_dmaBatch (countersEmb (U := UU)) Variants.none (thr d i) none (src := src) (dst := dst) (fs := f) (fd := g) (q := q)
    (Sd := dst.view.setOn Finset.univ) (n := 2) (sm := .dma sm.sem)
    (D := pick iprop(Own d i dst fullShare Finset.univ G ∗ Own d i src q Finset.univ G)
      iprop(Own d i dst' fullShare Finset.univ G' ∗ Own d i src' q' Finset.univ G')) none N hN subset_rfl (j := 0) (u := 0) (by decide) (Nat.zero_le _) (delivered d i hf)) $$ [Hs Hd HB]
  · isplitl [Hs]; · iexact Hs
    isplitl [Hd] <;> iassumption
  iintro HB
  rw [Prog.bind_lift]
  iapply (wp_dmaBatch (countersEmb (U := UU)) Variants.none (thr d i) none (src := src') (dst := dst') (fs := f') (fd := g') (q := q')
    (Sd := dst'.view.setOn Finset.univ) (n := 2) (sm := .dma sm.sem)
    (D := pick iprop(Own d i dst fullShare Finset.univ G ∗ Own d i src q Finset.univ G)
      iprop(Own d i dst' fullShare Finset.univ G' ∗ Own d i src' q' Finset.univ G')) none N hN' subset_rfl (j := 1) (u := 0) (by decide) (Nat.zero_le _) (delivered d i hf')) $$ [Hs' Hd' HB]
  · isplitl [Hs']; · iexact Hs'
    isplitl [Hd'] <;> iassumption
  iintro HB
  iapply Hk
  unfold Two
  iexists _, iprop(emp)
  isplitl [HB]; · iexact HB
  isplitr; · iempintro
  ipureintro
  show iprop((Own d i dst fullShare Finset.univ G ∗ Own d i src q Finset.univ G)
    ∗ (Own d i dst' fullShare Finset.univ G' ∗ Own d i src' q' Finset.univ G') ∗ emp) ⊢ _
  iintro ⟨H0, H1, -⟩
  isplitl [H0]
  · iexact H0
  · iexact H1

variable {O : CellTallies nD τ sig (HIx 1)} {W : Waits sig (HIx 1)}

/-- The two waited for, one after the other: what they deliver comes with the second wait. -/
theorem run_wait_two (src src' : Memref sig .scVector sp s e) (dst dst' : Memref sig .scVector sp' s e) (sm : Sm)
    {hsrc : src.view.WordExact} {hdst : dst.view.WordExact} {hsrc' : src'.view.WordExact} {hdst' : dst'.view.WordExact}
    {k : PUnit → Tile F i} (N : ℕ) (hN0 : 0 < N) (hN : dst.view.dmaCredit = N) (hN' : dst'.view.dmaCredit = N) (D : sProp 𝕄) :
    iprop(Two d i sm N D ∗ Owe d i O W)
      ⊢ iprop((iprop(D ∗ semVal (thr d i, .dma sm.sem) 0 ∗ Owe d i O W) -∗ run d i (k ⟨⟩) Q)
        -∗ run d i (Prog.lift (.waitDma2 sm.sem src dst hsrc hdst) >>= fun _ =>
            Prog.lift (.waitDma2 sm.sem src' dst' hsrc' hdst') >>= k) Q) := by
  rw [Prog.bind_lift]
  unfold Two Owe
  iintro ⟨⟨%A, %R, HB, HR, %hA⟩, #Hmw, %W', %hW', HO⟩ Hk
  iapply (wp_waitBatchO (countersEmb (U := UU)) Variants.none (thr d i) none (srcw := src) (dstw := dst) none hN (n := 2) (D := A) (u := 0) (by omega)) $$ [HB HO]
  · isplitl [HB]; · iexact HB
    isplitl [HO]; · iexact HO
    iapply (MayWaits.elim (.dma sm.sem)); iexact Hmw
  iintro ⟨HB, HO⟩
  rw [Prog.bind_lift]
  iapply (wp_waitBatchLastO (countersEmb (U := UU)) Variants.none (thr d i) none (srcw := src') (dstw := dst') none hN' hN0 (n := 2) (D := A)
    (u := 0 + N) (by omega))
    $$ [HB HO]
  · isplitl [HB]; · iexact HB
    isplitl [HO]; · iexact HO
    iapply (MayWaits.elim (.dma sm.sem)); iexact Hmw
  iintro ⟨HA, Hv, HO⟩
  ihave HA := (two_out A) $$ HA
  icases HA with ⟨H0, H1⟩
  iapply Hk
  isplitl [H0 H1 HR]
  · iapply hA
    isplitl [H0]; · iexact H0
    isplitl [H1]
    · iexact H1
    · iexact HR
  isplitl [Hv]; · iexact Hv
  isplitr; · iexact Hmw
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    · exact hW' p hp

end Two

end Cert.KernelIdeal.Pool

end
-- ==== Proof.Vals.lean ====
/- The values: what each element of the result is, over the arrays a tile reads, and what the tile's two kinds of
   buffer hold on the way. A slab is 10240 columns of the array and the 128 after them; its 2562 vertices give
   columns 2562 times the slab's number on of the result, of which the slab's window of 2560 starts 2 earlier per slab. -/
module

public import proofs.«01_k».proof.Proof.Text

@[expose] public section

noncomputable section

namespace Cert.KernelIdeal.Pool

open Cert.KernelIdeal Cert.KernelIdeal.Gen Idealize.ShloMosaic Idealize.SL.Sem

variable {F : FTy → Type}

/-- A two-axis index named by two numbers, and a one-axis one by one. -/
def pt {n m : Nat} [NeZero n] [NeZero m] (r c : Nat) : (⟨2, ![n, m]⟩ : Shape).Idx :=
  fun | 0 => Fin.ofNat n r | 1 => Fin.ofNat m c
def pt1 {n : Nat} [NeZero n] (c : Nat) : (⟨1, ![n]⟩ : Shape).Idx := fun | 0 => Fin.ofNat n c

theorem eq_pt {n m : Nat} [NeZero n] [NeZero m] (y : (⟨2, ![n, m]⟩ : Shape).Idx) {r c : Nat} (h0 : (y 0).val = r)
    (h1 : (y 1).val = c) : y = pt r c := by
  funext a
  match a with
  | 0 => exact Fin.ext (h0.trans (Nat.mod_eq_of_lt (h0 ▸ (y 0).isLt)).symm)
  | 1 => exact Fin.ext (h1.trans (Nat.mod_eq_of_lt (h1 ▸ (y 1).isLt)).symm)

theorem eq_pt1 {n : Nat} [NeZero n] (y : (⟨1, ![n]⟩ : Shape).Idx) {c : Nat} (h0 : (y 0).val = c) : y = pt1 c := by
  funext a
  match a with
  | 0 => exact Fin.ext (h0.trans (Nat.mod_eq_of_lt (h0 ▸ (y 0).isLt)).symm)

theorem pt_zero {n m : Nat} [NeZero n] [NeZero m] {r c : Nat} (h : r < n) : ((pt r c : (⟨2, ![n, m]⟩ : Shape).Idx) 0).val = r :=
  Nat.mod_eq_of_lt h
theorem pt_one {n m : Nat} [NeZero n] [NeZero m] {r c : Nat} (h : c < m) : ((pt r c : (⟨2, ![n, m]⟩ : Shape).Idx) 1).val = c :=
  Nat.mod_eq_of_lt h

/-- The arrays a tile reads: the array, its last 12 columns padded to 128, and the neighbours' words. -/
structure Dat (F : FTy → Type) where
  x : S512x61452.Idx → Elt F .f32
  xt : S512x128.Idx → Elt F .f32
  w : S17934.Idx → Elt F .i32

variable (D : Dat F)

/-- Row `R`'s element at column `C`, the columns from 61440 on taken from the tail. -/
def Dat.X (R C : Nat) : Elt F .f32 := if C < 61440 then D.x (pt R C) else D.xt (pt R (C - 61440))

/-- Neighbour `k`'s word of a slab's vertex `m`. -/
def Dat.word (k m : Nat) : BitVec 32 := D.w (pt1 (k * 2562 + m))

/-- Every word names a column of its slab. -/
def Dat.OK : Prop := ∀ y : S17934.Idx, (show BitVec 32 from D.w y).toNat < 10242

/-- A word shifted as slab `a` shifts it. -/
def shw : Nat → BitVec 32 → BitVec 32
  | 0, w => w
  | a + 1, w => IntOp.addi w (BitVec.ofNat 32 (2 * (a + 1)))

theorem shf_apply (a : Nat) (d : W16) (x : S16.Idx) : shf a d x = shw a (d x) := by cases a <;> rfl

theorem shw_lt {a : Nat} (ha : a < 6) {w : BitVec 32} (hw : w.toNat < 10242) : (shw a w).toNat = w.toNat + 2 * a := by
  cases a with
  | zero => rfl
  | succ a =>
    show (w + BitVec.ofNat 32 (2 * (a + 1))).toNat = _
    rw [BitVec.toNat_add, BitVec.toNat_ofNat]; omega

/-- What slab `a`'s row buffer holds, from row `R` on. -/
def Dat.XV (R a : Nat) : S4x10368.Idx → Elt F .f32 := fun y => D.X (R + (y 0).val) (10240 * a + (y 1).val)

section Sums

variable [FloatOps F] [Named F]

/-- The running sum over the first `k` neighbours of slab `a`'s vertex `m` in row `R`. -/
def Dat.acc (a R m : Nat) : Nat → F .f32
  | 0 => Scalar.ofBits .f32 0x00000000#32
  | k + 1 => FloatOps.addf (Dat.acc a R m k) (D.X R (10240 * a + (shw a (D.word k m)).toNat))

/-- The vertex's value. -/
def Dat.val (a R m : Nat) : F .f32 := FloatOps.mulf (D.acc a R m 7) (Named.named κ "seventh" 0x3E124925#32)

/-- The result at row `R` and column `g`. -/
def Dat.out (R g : Nat) : F .f32 := D.val (g / 2562) R (g % 2562)

/-- Sixteen lanes of running sums, from vertex `j`. -/
def Dat.run16 (a R j k : Nat) : V16 F := fun x => D.acc a R (j + (x 0).val) k
/-- Sixteen lanes of values. -/
def Dat.val16 (a R j : Nat) : V16 F := fun x => D.val a R (j + (x 0).val)

theorem run16_zero (a R j : Nat) : D.run16 a R j 0 = (zero16 : V16 F) := rfl
theorem scaled_run16 (a R j : Nat) : scaled (D.run16 a R j 7) = D.val16 a R j := rfl

/-- The result buffer of slab `a` from row `R` on holds its first `n` vertices' values, and what came before. -/
def Dat.Filled (R a n : Nat) (G : S4x2572.Idx → Elt F .f32) : Prop :=
  ∀ r c, r < 4 → c < 2 * a + n → c < 2572 → G (pt r c) = D.out (R + r) (2560 * a + c)

end Sums

/-! ## Sixteen lanes stored -/

/-- Lane `n`. -/
def lane (n : Nat) : S16.Idx := fun | 0 => Fin.ofNat 16 n

/-- Sixteen lanes put at row `r` from column `c` on. -/
def puts (r c : Nat) (v : V16 F) (G : S4x2572.Idx → Elt F .f32) : S4x2572.Idx → Elt F .f32 :=
  fun y => if (y 0).val = r ∧ c ≤ (y 1).val ∧ (y 1).val < c + 16 then v (lane ((y 1).val - c)) else G y

/-- The sixteen columns of row `r` past a window, the last one held. -/
def kept (G : S4x2572.Idx → Elt F .f32) (r : Nat) : V16 F := fun x => G (pt r (min (2560 + (x 0).val) 2571))

/-- A fold of lanes each writing its value where it hits: the value every hit agrees on if there is one. -/
theorem foldl_hits {n : Nat} {I α : Type} (y : I) (P : Fin n → I → Prop) [∀ l j, Decidable (P l j)] (v : Fin n → α) (v0 : α)
    (L : List (Fin n)) (hv : ∀ l ∈ L, P l y → v l = v0) (f : I → α) :
    (L.foldl (fun g l => fun j => if P l j then v l else g j) f) y = if ∃ l ∈ L, P l y then v0 else f y := by
  induction L generalizing f with
  | nil => simp
  | cons l L ih =>
    rw [List.foldl_cons, ih (fun l' h => hv l' (List.mem_cons_of_mem _ h))]
    by_cases h : ∃ l ∈ L, P l y
    · rw [if_pos h, if_pos (h.imp fun l' h => ⟨List.mem_cons_of_mem _ h.1, h.2⟩)]
    · rw [if_neg h]
      by_cases hl : P l y
      · rw [if_pos hl, if_pos ⟨l, List.mem_cons_self, hl⟩, hv l List.mem_cons_self hl]
      · rw [if_neg hl, if_neg]
        rintro ⟨l', h', hp⟩
        rcases List.mem_cons.mp h' with rfl | h'
        · exact hl hp
        · exact h ⟨l', h', hp⟩

theorem storeIdx_row [FloatOps F] (G : S4x2572.Idx → Elt F .f32) (col : W16) (r : BitVec 32) (c : Nat) (v : V16 F)
    (hc : ∀ x, (col x).toNat = c + (x 0).val)
    (h : ∀ a x, ((![broadcast S16 r, col] : Fin 2 → IVec S16 32) a x).toNat < S4x2572.size a) :
    storeIdx (F := F) (s := S4x2572) (e := .f32) G ![broadcast S16 r, col] v (fun _ => 1#1) false h = puts r.toNat c v G := by
  funext y
  unfold storeIdx
  simp only [↓reduceIte, Bool.false_eq_true]
  refine (foldl_hits y (fun l j => ∀ a, (j a).val = (idxAt _ h (Shape.ofLane l) a).val) (fun l => v (Shape.ofLane l))
    (v (lane ((y 1).val - c))) _ ?_ G).trans ?_
  · intro l _ hl
    congr 1
    have h1 := hl 1
    change (y 1).val = (col (Shape.ofLane l)).toNat at h1
    rw [hc] at h1
    change (y 1).val = c + l.val at h1
    funext a
    match a with
    | 0 =>
      refine Fin.ext ?_
      show l.val = ((y 1).val - c) % 16
      have : l.val < 16 := l.isLt
      omega
  · unfold puts
    refine if_congr ?_ rfl rfl
    constructor
    · rintro ⟨l, -, hl⟩
      have h0 := hl 0
      change (y 0).val = r.toNat at h0
      have h1 := hl 1
      change (y 1).val = (col (Shape.ofLane l)).toNat at h1
      rw [hc] at h1
      change (y 1).val = c + l.val at h1
      have : l.val < 16 := l.isLt
      exact ⟨h0, by omega, by omega⟩
    · rintro ⟨h0, h1, h2⟩
      refine ⟨⟨(y 1).val - c, by show (y 1).val - c < 16; omega⟩, List.mem_finRange _, fun a => ?_⟩
      match a with
      | 0 => exact h0
      | 1 =>
        show (y 1).val = (col (Shape.ofLane _)).toNat
        rw [hc]
        show (y 1).val = c + ((y 1).val - c)
        omega

theorem puts_hit (r c : Nat) (v : V16 F) (G : S4x2572.Idx → Elt F .f32) {r' c' : Nat} (hr' : r' < 4) (hc' : c' < 2572) (h0 : r' = r)
    (h1 : c ≤ c') (h2 : c' < c + 16) : puts r c v G (pt r' c') = v (lane (c' - c)) := by
  unfold puts
  rw [if_pos (by rw [pt_zero hr', pt_one hc']; exact ⟨h0, h1, h2⟩), pt_one hc']

theorem puts_miss (r c : Nat) (v : V16 F) (G : S4x2572.Idx → Elt F .f32) {r' c' : Nat} (hr' : r' < 4) (hc' : c' < 2572)
    (h : ¬ (r' = r ∧ c ≤ c' ∧ c' < c + 16)) : puts r c v G (pt r' c') = G (pt r' c') := by
  unfold puts
  rw [if_neg (by rw [pt_zero hr', pt_one hc']; exact h)]

/-- Sixteen lanes put in all four rows. -/
def puts4 (c : Nat) (v : Nat → V16 F) (G : S4x2572.Idx → Elt F .f32) : S4x2572.Idx → Elt F .f32 :=
  puts 3 c (v 3) (puts 2 c (v 2) (puts 1 c (v 1) (puts 0 c (v 0) G)))

theorem puts4_hit (c : Nat) (v : Nat → V16 F) (G : S4x2572.Idx → Elt F .f32) {r c' : Nat} (hr : r < 4) (hc' : c' < 2572)
    (h1 : c ≤ c') (h2 : c' < c + 16) : puts4 c v G (pt r c') = v r (lane (c' - c)) := by
  unfold puts4
  match r, hr with
  | 0, _ => rw [puts_miss, puts_miss, puts_miss, puts_hit] <;> first | rfl | omega
  | 1, _ => rw [puts_miss, puts_miss, puts_hit] <;> first | rfl | omega
  | 2, _ => rw [puts_miss, puts_hit] <;> first | rfl | omega
  | 3, _ => rw [puts_hit] <;> first | rfl | omega

theorem puts4_miss (c : Nat) (v : Nat → V16 F) (G : S4x2572.Idx → Elt F .f32) {r c' : Nat} (hr : r < 4) (hc' : c' < 2572)
    (h : c' < c ∨ c + 16 ≤ c') : puts4 c v G (pt r c') = G (pt r c') := by
  unfold puts4
  rw [puts_miss, puts_miss, puts_miss, puts_miss] <;> omega

theorem lane_val {n : Nat} (h : n < 16) : (lane n 0).val = n := Nat.mod_eq_of_lt h

theorem lanes_toNat (x : S16.Idx) : (lanes x).toNat = (x 0).val := by
  have : (x 0).val < 16 := (x 0).isLt
  show (BitVec.ofNat 32 (0 * 16 + (x 0).val)).toNat = _
  rw [BitVec.toNat_ofNat]; omega

theorem trips_eq : k0_t1_loop.trips = 161 := by decide

theorem j0_toNat : ∀ t : Fin k0_t1_loop.trips, (j0 t).toNat = min (16 * t.val) 2546 := by decide +kernel

theorem cols_toNat {a : Nat} (ha : a < 6) (t : Fin k0_t1_loop.trips) (x : S16.Idx) :
    (cols a t x).toNat = (2 * a + min (16 * t.val) 2546) + (x 0).val := by
  have hx : (x 0).val < 16 := (x 0).isLt
  show (lanes x + (BitVec.ofNat 32 (2 * a) + j0 t)).toNat = _
  rw [BitVec.toNat_add, BitVec.toNat_add, lanes_toNat, j0_toNat, BitVec.toNat_ofNat]
  omega

theorem over_toNat : ∀ x : S16.Idx, (over x).toNat = min (2560 + (x 0).val) 2571 := by
  have h : ∀ n : Fin 16, (over fun | 0 => n).toNat = min (2560 + n.val) 2571 := by decide +kernel
  intro x
  have := h (x 0)
  rwa [show (fun | 0 => x 0 : S16.Idx) = x from funext fun a => by match a with | 0 => rfl] at this

variable [FloatOps F] [Named F]

/-- A trip's sixteen values stored: sixteen more vertices filled, up to the last. -/
theorem filled_trip {R a : Nat} {t : Nat} {G : S4x2572.Idx → Elt F .f32} (ha : a < 6) (ht : t < 161)
    (h : D.Filled R a (min (16 * t) 2562) G) :
    D.Filled R a (min (16 * (t + 1)) 2562)
      (puts4 (2 * a + min (16 * t) 2546) (fun r => D.val16 a (R + r) (min (16 * t) 2546)) G) := by
  intro r c hr hc hc'
  by_cases h1 : 2 * a + min (16 * t) 2546 ≤ c
  · rw [puts4_hit _ _ _ hr hc' h1 (by omega)]
    unfold Dat.val16 Dat.out
    rw [lane_val (by omega)]
    congr 1 <;> omega
  · rw [puts4_miss _ _ _ hr hc' (by omega)]
    exact h r c hr (by omega) hc'

/-- The columns past a filled buffer's window, stored first in the next: those of the slab before are in place. -/
theorem filled_next {R a : Nat} {G G' : S4x2572.Idx → Elt F .f32} (ha : a < 5) (h : D.Filled R a 2562 G) :
    D.Filled R (a + 1) 0 (puts4 0 (kept G) G') := by
  intro r c hr hc hc'
  rw [puts4_hit _ _ _ hr hc' (Nat.zero_le _) (by omega), Nat.sub_zero, kept, lane_val (by omega),
    h r _ hr (by omega) (by omega)]
  congr 1
  omega

theorem filled_zero {R : Nat} (G : S4x2572.Idx → Elt F .f32) : D.Filled R 0 0 G := fun r c _ hc => absurd hc (by omega)

theorem filled_last {R n : Nat} {a : Nat} {G : S4x2572.Idx → Elt F .f32} (hn : 2562 ≤ n) (h : D.Filled R a (min n 2562) G) :
    D.Filled R a 2562 G := by rwa [Nat.min_eq_right hn] at h

end Cert.KernelIdeal.Pool

end
-- ==== Proof.Trip.lean ====
/- One slab's trips: each gathers sixteen vertices' seven neighbours in four rows, and stores their values. The
   invariant says the result buffer holds the first vertices' values. -/
module

public import proofs.«01_k».proof.Proof.Own
public import proofs.«01_k».proof.Proof.Vals

@[expose] public section

noncomputable section

namespace Cert.KernelIdeal.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

variable [FloatOps F] [Named F] (d : Dev nD) (i : grid0.Coords) (D : Dat F) {Q : PUnit → sProp (MT nD τ sig (HIx 1) (Elt F) ℕ UU ℕ)}

/-- The whole of a buffer, at which it reads `G`. -/
abbrev Has {sp : Space} {s : Shape} {e : EltTy} (m : Memref sig .scVector sp s e) (G : s.Idx → Elt F e) : sProp 𝕄 :=
  Own d i m fullShare Finset.univ G

/-- A bound on two index vectors, from one on each. -/
theorem two_lt {n m : Nat} {r : BitVec 32} {c : W16} (hr : r.toNat < n) (hc : ∀ x, (c x).toNat < m) :
    ∀ a x, ((![broadcast S16 r, c] : Fin 2 → IVec S16 32) a x).toNat < (⟨2, ![n, m]⟩ : Shape).size a := by
  intro a x
  match a with
  | 0 => exact hr
  | 1 => exact hc x

theorem run_gat (xb : XBuf) (dd : W16) (r : Nat) (hr : r < 4) (hd : ∀ x, (dd x).toNat < 10368) (G : S4x10368.Idx → Elt F .f32)
    (a : V16 F) (k : V16 F → Tile F i) :
    Has d i xb G ⊢ iprop((Has d i xb G -∗ run d i (k fun x => FloatOps.addf (a x) (G (pt r (dd x).toNat))) Q)
      -∗ run d i (gat i xb dd (BitVec.ofNat 32 r) a k) Q) := by
  have hr' : (BitVec.ofNat 32 r).toNat = r := by rw [BitVec.toNat_ofNat]; omega
  have h : k0_chk1 dd (broadcast S16 (BitVec.ofNat 32 r)) := two_lt (by rw [hr']; exact hr) hd
  iintro H Hk
  unfold gat
  iapply (run_assume d i _ h)
  iapply (run_loadIdx d i xb fullShare G) $$ H
  iintro H
  ihave Hk := Hk $$ H
  rw [show (addf a (loadIdx G ![broadcast S16 (BitVec.ofNat 32 r), dd] (k0_idx1_inb dd (broadcast S16 (BitVec.ofNat 32 r)) h)) : V16 F)
    = fun x => FloatOps.addf (a x) (G (pt r (dd x).toNat)) from funext fun x =>
      congrArg (fun y => FloatOps.addf (a x) (G y)) (eq_pt _ hr' rfl)]
  iexact Hk

/-- The words from vertex `j` on, at neighbour `k`. -/
def Dat.words (k j : Nat) : W16 := fun x => D.word k (j + (x 0).val)

theorem run_gat4 (hD : D.OK) (xb : XBuf) {a : Nat} (ha : a < 6) (R j k : Nat) (K : V16 F → V16 F → V16 F → V16 F → Tile F i) :
    Has d i xb (D.XV R a) ⊢ iprop((Has d i xb (D.XV R a) -∗ run d i (K (D.run16 a (R + 0) j (k + 1)) (D.run16 a (R + 1) j (k + 1))
          (D.run16 a (R + 2) j (k + 1)) (D.run16 a (R + 3) j (k + 1))) Q)
      -∗ run d i (gat4 i xb (shf a (D.words k j)) (D.run16 a (R + 0) j k) (D.run16 a (R + 1) j k) (D.run16 a (R + 2) j k)
          (D.run16 a (R + 3) j k) K) Q) := by
  have hd : ∀ x, (shf a (D.words k j) x).toNat < 10368 := fun x => by
    have h : (D.word k (j + (x 0).val)).toNat < 10242 := hD _
    have := shw_lt ha h
    rw [shf_apply]
    show (shw a (D.word k (j + (x 0).val))).toNat < 10368
    omega
  have step : ∀ r, r < 4 → (fun x => FloatOps.addf (D.run16 a (R + r) j k x) (D.XV R a (pt r (shf a (D.words k j) x).toNat)))
      = D.run16 a (R + r) j (k + 1) := fun r hr => funext fun x => by
    show FloatOps.addf _ (D.X (R + ((pt r _ : S4x10368.Idx) 0).val) (10240 * a + ((pt r _ : S4x10368.Idx) 1).val)) = _
    rw [pt_zero hr, pt_one (hd x), shf_apply]
    rfl
  iintro H Hk
  unfold gat4
  iapply (run_gat d i xb _ 0 (by decide) hd) $$ H
  rw [step 0 (by decide)]
  iintro H
  iapply (run_gat d i xb _ 1 (by decide) hd) $$ H
  rw [step 1 (by decide)]
  iintro H
  iapply (run_gat d i xb _ 2 (by decide) hd) $$ H
  rw [step 2 (by decide)]
  iintro H
  iapply (run_gat d i xb _ 3 (by decide) hd) $$ H
  rw [step 3 (by decide)]
  iexact Hk

theorem run_near (hD : D.OK) (ix : IBuf) (xb : XBuf) {a : Nat} (ha : a < 6) (R j k : Nat) {off : Fin 1 → Nat}
    (inb : ∀ a, off a + S16.size a ≤ S17934.size a) (hoff : off 0 = k * 2562 + j)
    (K : V16 F → V16 F → V16 F → V16 F → Tile F i) :
    iprop(Has d i ix D.w ∗ Has d i xb (D.XV R a))
      ⊢ iprop((iprop(Has d i ix D.w ∗ Has d i xb (D.XV R a)) -∗ run d i (K (D.run16 a (R + 0) j (k + 1)) (D.run16 a (R + 1) j (k + 1))
          (D.run16 a (R + 2) j (k + 1)) (D.run16 a (R + 3) j (k + 1))) Q)
      -∗ run d i (near i ix xb a off inb (D.run16 a (R + 0) j k) (D.run16 a (R + 1) j k) (D.run16 a (R + 2) j k)
          (D.run16 a (R + 3) j k) K) Q) := by
  iintro ⟨Hi, Hx⟩ Hk
  unfold near
  iapply (run_load d i ix fullShare D.w (Rect.unit (s := S17934) off S16.size inb)) $$ Hi
  iintro Hi
  rw [show (fun x => D.w ((Rect.unit (s := S17934) off S16.size inb).emb x)) = D.words k j from funext fun x =>
    congrArg D.w (eq_pt1 _ (by
      show off 0 + 1 * (x 0).val = _
      rw [hoff]; omega))]
  iapply (run_gat4 d i D hD xb ha R j k) $$ Hx
  iintro Hx
  iapply Hk
  isplitl [Hi] <;> iassumption

theorem run_scat (ob : OBuf) (col : W16) (c : Nat) (hc : ∀ x, (col x).toNat = c + (x 0).val) (hc' : c + 16 ≤ 2572)
    (r : Nat) (hr : r < 4) (v : V16 F) (G : S4x2572.Idx → Elt F .f32) (k : Tile F i) :
    Has d i ob G ⊢ iprop((Has d i ob (puts r c v G) -∗ run d i k Q) -∗ run d i (scat i ob col (BitVec.ofNat 32 r) v k) Q) := by
  have hr' : (BitVec.ofNat 32 r).toNat = r := by rw [BitVec.toNat_ofNat]; omega
  have h : k0_chk29 col (broadcast S16 (BitVec.ofNat 32 r)) := two_lt (by rw [hr']; exact hr) fun x => by
    have : (x 0).val < 16 := (x 0).isLt
    rw [hc]; omega
  iintro H Hk
  unfold scat
  iapply (run_assume d i _ h)
  iapply (run_storeIdx d i ob G) $$ H
  rw [storeIdx_row G col _ c v hc, hr']
  iexact Hk

theorem run_scat4 (ob : OBuf) (col : W16) (c : Nat) (hc : ∀ x, (col x).toNat = c + (x 0).val) (hc' : c + 16 ≤ 2572)
    (v : Nat → V16 F) (G : S4x2572.Idx → Elt F .f32) (k : Tile F i) :
    Has d i ob G ⊢ iprop((Has d i ob (puts4 c v G) -∗ run d i k Q) -∗ run d i (scat4 i ob col (v 0) (v 1) (v 2) (v 3) k) Q) := by
  iintro H Hk
  unfold scat4
  iapply (run_scat d i ob col c hc hc' 0 (by decide)) $$ H
  iintro H
  iapply (run_scat d i ob col c hc hc' 1 (by decide)) $$ H
  iintro H
  iapply (run_scat d i ob col c hc hc' 2 (by decide)) $$ H
  iintro H
  iapply (run_scat d i ob col c hc hc' 3 (by decide)) $$ H
  iexact Hk

/-- A result buffer of slab `a` with its first `n` vertices filled. -/
def Full (ob : OBuf) (R a n : Nat) : sProp 𝕄 := iprop(∃ G, ⌜D.Filled R a n G⌝ ∗ Has d i ob G)

/-- What a slab's trips keep: the words, the row buffer, and the vertices filled so far. -/
def Inv (ix : IBuf) (xb : XBuf) (ob : OBuf) (R a n : Nat) : sProp 𝕄 :=
  iprop((Has d i ix D.w ∗ Has d i xb (D.XV R a)) ∗ Full d i D ob R a (min (16 * n) 2562))

theorem run_trip (hD : D.OK) (ix : IBuf) (xb : XBuf) (ob : OBuf) {a : Nat} (ha : a < 6) (R : Nat) (t : Fin k0_t1_loop.trips) :
    Inv d i D ix xb ob R a t.val ⊢ run d i (trip i ix xb ob a t) fun _ => Inv d i D ix xb ob R a (t.val + 1) := by
  have ht : t.val < 161 := lt_of_lt_of_eq t.isLt trips_eq
  unfold Inv Full
  iintro ⟨Hb, %G, %hG, Ho⟩
  unfold trip
  rw [show (zero16 : V16 F) = D.run16 a (R + 0) (min (16 * t.val) 2546) 0 from rfl]
  iapply (run_near d i D hD ix xb ha R (min (16 * t.val) 2546) 0 _ (by rw [k0_off5_eq]; show min _ _ = _; omega)) $$ Hb
  iintro Hb
  iapply (run_near d i D hD ix xb ha R (min (16 * t.val) 2546) 1 _ (by rw [k0_off6_eq]; show min _ _ + _ = _; omega)) $$ Hb
  iintro Hb
  iapply (run_near d i D hD ix xb ha R (min (16 * t.val) 2546) 2 _ (by rw [k0_off7_eq]; show min _ _ + _ = _; omega)) $$ Hb
  iintro Hb
  iapply (run_near d i D hD ix xb ha R (min (16 * t.val) 2546) 3 _ (by rw [k0_off8_eq]; show min _ _ + _ = _; omega)) $$ Hb
  iintro Hb
  iapply (run_near d i D hD ix xb ha R (min (16 * t.val) 2546) 4 _ (by rw [k0_off9_eq]; show min _ _ + _ = _; omega)) $$ Hb
  iintro Hb
  iapply (run_near d i D hD ix xb ha R (min (16 * t.val) 2546) 5 _ (by rw [k0_off10_eq]; show min _ _ + _ = _; omega)) $$ Hb
  iintro Hb
  iapply (run_near d i D hD ix xb ha R (min (16 * t.val) 2546) 6 _ (by rw [k0_off11_eq]; show min _ _ + _ = _; omega)) $$ Hb
  iintro Hb
  iapply (run_scat4 d i ob (cols a t) _ (cols_toNat ha t) (by omega) (fun r => D.val16 a (R + r) (min (16 * t.val) 2546))) $$ Ho
  iintro Ho
  unfold run
  iapply (Entails.of_eq (wp_ret _ _ _ _ _).symm)
  imodintro
  isplitl [Hb]; · iexact Hb
  iexists _; isplitr
  rotate_left
  · iexact Ho
  · ipureintro; exact filled_trip D ha ht hG

/-- A slab's trips: all its vertices filled. -/
theorem run_trips (hD : D.OK) (ix : IBuf) (xb : XBuf) (ob : OBuf) {a : Nat} (ha : a < 6) (R : Nat) (k : PUnit → Tile F i) :
    iprop(Has d i ix D.w ∗ Has d i xb (D.XV R a) ∗ Full d i D ob R a 0)
      ⊢ iprop((iprop(Has d i ix D.w ∗ Has d i xb (D.XV R a) ∗ Full d i D ob R a 2562) -∗ run d i (k ⟨⟩) Q)
        -∗ run d i (trips i ix xb ob a >>= k) Q) := by
  iintro ⟨Hi, Hx, Ho⟩ Hk
  unfold trips run
  iapply (Scf.wp_for_bind frame _ Set.univ _ _ _ k0_t1_ok ⟨⟩ _ (fun n _ => Inv d i D ix xb ob R a n)
    (fun t _ => run_trip d i D hD ix xb ob ha R t)) $$ [Hi Hx Ho]
  · unfold Inv
    isplitl [Hi Hx]
    · isplitl [Hi] <;> iassumption
    · iexact Ho
  iintro %u H
  unfold Inv
  icases H with ⟨⟨Hi, Hx⟩, Ho⟩
  iapply Hk
  isplitl [Hi]; · iexact Hi
  isplitl [Hx]; · iexact Hx
  rw [show Scf.trips k0_t1_loop.lb k0_t1_loop.ub k0_t1_loop.st = 161 from trips_eq]
  iexact Ho

theorem over_chk {r : Nat} (hr : r < 4) : k0_chk33 over (broadcast S16 (BitVec.ofNat 32 r)) :=
  two_lt (n := 4) (m := 2572) (by rw [BitVec.toNat_ofNat]; omega) fun x => by rw [over_toNat]; omega

theorem load_kept {r : Nat} (hr : r < 4) (G : S4x2572.Idx → Elt F .f32) (c : W16) (hc : ∀ x, (c x).toNat = min (2560 + (x 0).val) 2571)
    (h : ∀ a x, ((![broadcast S16 (BitVec.ofNat 32 r), c] : Fin 2 → IVec S16 32) a x).toNat < S4x2572.size a) :
    (loadIdx (s := S4x2572) (e := .f32) G ![broadcast S16 (BitVec.ofNat 32 r), c] h : V16 F) = kept G r := by
  funext x
  have hr' : (BitVec.ofNat 32 r).toNat = r := by rw [BitVec.toNat_ofNat]; omega
  exact congrArg G (eq_pt _ hr' (hc x))

theorem run_keep (ob : OBuf) (r : Nat) (hr : r < 4) (G : S4x2572.Idx → Elt F .f32) (k : V16 F → Tile F i) :
    Has d i ob G ⊢ iprop((Has d i ob G -∗ run d i (k (kept G r)) Q) -∗ run d i (keep i ob (BitVec.ofNat 32 r) k) Q) := by
  iintro H Hk
  unfold keep
  iapply (run_assume d i _ (over_chk hr))
  iapply (run_loadIdx d i ob fullShare G) $$ H
  rw [load_kept hr G over over_toNat]
  iexact Hk

theorem run_keep4 (ob : OBuf) (G : S4x2572.Idx → Elt F .f32) (k : V16 F → V16 F → V16 F → V16 F → Tile F i) :
    Has d i ob G ⊢ iprop((Has d i ob G -∗ run d i (k (kept G 0)
        (kept G 1) (kept G 2)
        (kept G 3)) Q)
      -∗ run d i (keep4 i ob k) Q) := by
  iintro H Hk
  unfold keep4
  iapply (run_keep d i ob 0 (by decide)) $$ H
  iintro H
  iapply (run_keep d i ob 1 (by decide)) $$ H
  iintro H
  iapply (run_keep d i ob 2 (by decide)) $$ H
  iintro H
  iapply (run_keep d i ob 3 (by decide)) $$ H
  iexact Hk

end Cert.KernelIdeal.Pool

end
-- ==== Proof.Copy.lean ====
/- The kernel's copies, said over what the buffers read: a slab fetched into a row buffer from a share of the array,
   and a result buffer's window put out into the result. -/
module

public import proofs.«01_k».proof.Proof.Trip

@[expose] public section

noncomputable section

namespace Cert.KernelIdeal.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

variable [FloatOps F] [Named F] (d : Dev nD) (i : grid0.Coords) (D : Dat F) {Q : PUnit → sProp (MT nD τ sig (HIx 1) (Elt F) ℕ UU ℕ)}

theorem Fly_frame {sm : Sm} {N : ℕ} {D R D' : sProp 𝕄} (h : iprop(D ∗ R) ⊢ D') : iprop(Fly d i sm N D ∗ R) ⊢ Fly d i sm N D' := by
  iintro H
  ihave H := Flight_frame $$ H
  iapply (Flight_mono countersEmb (thr d i) h) $$ H

section Windows

variable {sp sp' : Space} {e : EltTy}

/-- A memref's elements apart from a part of them, and together again. -/
theorem Own_part {s : Shape} (m : Memref sig .scVector sp s e) (q : PosShare TreeShare) (A : Finset s.Idx) (G : s.Idx → Elt F e) :
    Own d i m q Finset.univ G ⊢ iprop(Own d i m q A G ∗ Own d i m q Aᶜ G) := by
  have h := Own_split d i m q (A := A) (B := Aᶜ) disjoint_compl_right G
  rwa [Finset.union_compl] at h

theorem Own_whole {s : Shape} (m : Memref sig .scVector sp s e) (q : PosShare TreeShare) (A : Finset s.Idx) (G : s.Idx → Elt F e) :
    iprop(Own d i m q A G ∗ Own d i m q Aᶜ G) ⊢ Own d i m q Finset.univ G := by
  have h := Own_join d i m q (A := A) (B := Aᶜ) disjoint_compl_right G
  rwa [Finset.union_compl] at h

variable {n n' sz off off' : Fin 2 → Nat}

/-- A copy into a window of a memref, from a whole memref of the window's shape. -/
theorem run_copy_into (src : Memref sig .scVector sp ⟨2, sz⟩ e) (dst : Memref sig .scVector sp' ⟨2, n'⟩ e)
    (inb' : ∀ a, off' a + sz a ≤ (⟨2, n'⟩ : Shape).size a) (hr' : ∀ a, (Rect.unit (s := ⟨2, n'⟩) off' sz inb').stride a = 1) (sm : Sm)
    {hsrc : src.view.WordExact} {hdst : (dst.slice (Rect.unit (s := ⟨2, n'⟩) off' sz inb') hr').view.WordExact}
    {hsem : DmaTarget.Typed (nD := nD) (p := .scVector (cV i) (jV i)) sp (.dma sm.sem) (.here (dst.slice (Rect.unit (s := ⟨2, n'⟩) off' sz inb') hr'))}
    {k : PUnit → Tile F i} (q : PosShare TreeShare) (hN : 0 < (⟨2, sz⟩ : Shape).numel) (G : (⟨2, sz⟩ : Shape).Idx → Elt F e)
    (G₀ G' : (⟨2, n'⟩ : Shape).Idx → Elt F e) (h : ∀ x, G' ((Rect.unit (s := ⟨2, n'⟩) off' sz inb').emb x) = G x) :
    iprop(Own d i src q Finset.univ G ∗ Own d i dst fullShare (Rect.unit (s := ⟨2, n'⟩) off' sz inb').set G₀ ∗ semVal (thr d i, .dma sm.sem) 0)
      ⊢ iprop((Fly d i sm (dst.slice (Rect.unit (s := ⟨2, n'⟩) off' sz inb') hr').view.dmaCredit
            iprop(Own d i dst fullShare (Rect.unit (s := ⟨2, n'⟩) off' sz inb').set G' ∗ Own d i src q Finset.univ G)
          -∗ run d i (k ⟨⟩) Q)
        -∗ run d i (Prog.lift (.enqueueDma src (.here (dst.slice (Rect.unit (s := ⟨2, n'⟩) off' sz inb') hr')) (.dma sm.sem) hsrc hdst hsem) >>= k) Q) := by
  iintro ⟨Hs, Hd, Hv⟩ Hk
  ihave Hd := (Own_slice d i dst fullShare _ hr' (G := G₀) (G' := fun x => G₀ ((Rect.unit (s := ⟨2, n'⟩) off' sz inb').emb x)) (fun _ => rfl)) $$ Hd
  iapply (run_copy d i src _ sm q (View.dmaCredit_pos _ hN) G _) $$ [Hs Hd Hv]
  · isplitl [Hs]; · iexact Hs
    isplitl [Hd] <;> iassumption
  iintro Hf
  iapply Hk
  iapply (Flight_mono countersEmb (thr d i) ?_) $$ Hf
  iintro ⟨Hd, Hs⟩
  isplitl [Hd]
  · iapply (Own_unslice d i dst fullShare _ hr' (G := G') (G' := G) (fun x => (h x).symm)); iexact Hd
  · iexact Hs

/-- A copy of a window into a window: the rest of the source comes back with the flight. -/
theorem run_copy_window (src : Memref sig .scVector sp ⟨2, n⟩ e) (dst : Memref sig .scVector sp' ⟨2, n'⟩ e)
    (inb : ∀ a, off a + sz a ≤ (⟨2, n⟩ : Shape).size a) (hr : ∀ a, (Rect.unit (s := ⟨2, n⟩) off sz inb).stride a = 1)
    (inb' : ∀ a, off' a + sz a ≤ (⟨2, n'⟩ : Shape).size a) (hr' : ∀ a, (Rect.unit (s := ⟨2, n'⟩) off' sz inb').stride a = 1) (sm : Sm)
    {hsrc : (src.slice (Rect.unit (s := ⟨2, n⟩) off sz inb) hr).view.WordExact}
    {hdst : (dst.slice (Rect.unit (s := ⟨2, n'⟩) off' sz inb') hr').view.WordExact}
    {hsem : DmaTarget.Typed (nD := nD) (p := .scVector (cV i) (jV i)) sp (.dma sm.sem) (.here (dst.slice (Rect.unit (s := ⟨2, n'⟩) off' sz inb') hr'))}
    {k : PUnit → Tile F i} (q : PosShare TreeShare) (hN : 0 < (⟨2, sz⟩ : Shape).numel) (G : (⟨2, n⟩ : Shape).Idx → Elt F e)
    (G₀ G' : (⟨2, n'⟩ : Shape).Idx → Elt F e)
    (h : ∀ x, G' ((Rect.unit (s := ⟨2, n'⟩) off' sz inb').emb x) = G ((Rect.unit (s := ⟨2, n⟩) off sz inb).emb x)) :
    iprop(Own d i src q Finset.univ G ∗ Own d i dst fullShare (Rect.unit (s := ⟨2, n'⟩) off' sz inb').set G₀ ∗ semVal (thr d i, .dma sm.sem) 0)
      ⊢ iprop((Fly d i sm (dst.slice (Rect.unit (s := ⟨2, n'⟩) off' sz inb') hr').view.dmaCredit
            iprop(Own d i dst fullShare (Rect.unit (s := ⟨2, n'⟩) off' sz inb').set G' ∗ Own d i src q Finset.univ G)
          -∗ run d i (k ⟨⟩) Q)
        -∗ run d i (Prog.lift (.enqueueDma (src.slice (Rect.unit (s := ⟨2, n⟩) off sz inb) hr)
            (.here (dst.slice (Rect.unit (s := ⟨2, n'⟩) off' sz inb') hr')) (.dma sm.sem) hsrc hdst hsem) >>= k) Q) := by
  iintro ⟨Hs, Hd, Hv⟩ Hk
  ihave Hs := (Own_part d i src q (Rect.unit (s := ⟨2, n⟩) off sz inb).set G) $$ Hs
  icases Hs with ⟨Hs, Hrest⟩
  ihave Hs := (Own_slice d i src q _ hr (G := G) (G' := fun x => G ((Rect.unit (s := ⟨2, n⟩) off sz inb).emb x)) (fun _ => rfl)) $$ Hs
  iapply (run_copy_into d i (src.slice (Rect.unit (s := ⟨2, n⟩) off sz inb) hr) dst inb' hr' sm q hN _ G₀ G' h) $$ [Hs Hd Hv]
  · isplitl [Hs]; · iexact Hs
    isplitl [Hd]
    · iexact Hd
    · iexact Hv
  iintro Hf
  iapply Hk
  iapply (Fly_frame d i (D := iprop(Own d i dst fullShare (Rect.unit (s := ⟨2, n'⟩) off' sz inb').set G'
      ∗ Own d i (src.slice (Rect.unit (s := ⟨2, n⟩) off sz inb) hr) q Finset.univ fun x => G ((Rect.unit (s := ⟨2, n⟩) off sz inb).emb x)))
    (R := Own d i src q (Rect.unit (s := ⟨2, n⟩) off sz inb).setᶜ G) ?_)
  rotate_left
  · isplitl [Hf]; · iexact Hf
    iexact Hrest
  iintro ⟨⟨Hd, Hs⟩, Hrest⟩
  isplitl [Hd]; · iexact Hd
  iapply (Own_whole d i src q (Rect.unit (s := ⟨2, n⟩) off sz inb).set G)
  isplitl [Hs]
  · iapply (Own_unslice d i src q _ hr (G := G) (G' := fun x => G ((Rect.unit (s := ⟨2, n⟩) off sz inb).emb x)) (fun _ => rfl)); iexact Hs
  · iexact Hrest

variable {off₂ off₂' : Fin 2 → Nat}

/-- Windows of one extent count alike. -/
theorem credit_eq (dst : Memref sig .scVector sp' ⟨2, n'⟩ e)
    (inb' : ∀ a, off' a + sz a ≤ (⟨2, n'⟩ : Shape).size a) (hr' : ∀ a, (Rect.unit (s := ⟨2, n'⟩) off' sz inb').stride a = 1)
    (inb₂' : ∀ a, off₂' a + sz a ≤ (⟨2, n'⟩ : Shape).size a) (hr₂' : ∀ a, (Rect.unit (s := ⟨2, n'⟩) off₂' sz inb₂').stride a = 1) :
    (dst.slice (Rect.unit (s := ⟨2, n'⟩) off' sz inb') hr').view.dmaCredit = (dst.slice (Rect.unit (s := ⟨2, n'⟩) off₂' sz inb₂') hr₂').view.dmaCredit :=
  rfl

/-- Two such copies on one semaphore, between one pair of memrefs. -/
theorem run_copy_windows (src : Memref sig .scVector sp ⟨2, n⟩ e) (dst : Memref sig .scVector sp' ⟨2, n'⟩ e)
    (inb : ∀ a, off a + sz a ≤ (⟨2, n⟩ : Shape).size a) (hr : ∀ a, (Rect.unit (s := ⟨2, n⟩) off sz inb).stride a = 1)
    (inb' : ∀ a, off' a + sz a ≤ (⟨2, n'⟩ : Shape).size a) (hr' : ∀ a, (Rect.unit (s := ⟨2, n'⟩) off' sz inb').stride a = 1)
    (inb₂ : ∀ a, off₂ a + sz a ≤ (⟨2, n⟩ : Shape).size a) (hr₂ : ∀ a, (Rect.unit (s := ⟨2, n⟩) off₂ sz inb₂).stride a = 1)
    (inb₂' : ∀ a, off₂' a + sz a ≤ (⟨2, n'⟩ : Shape).size a) (hr₂' : ∀ a, (Rect.unit (s := ⟨2, n'⟩) off₂' sz inb₂').stride a = 1) (sm : Sm)
    {hsrc : (src.slice (Rect.unit (s := ⟨2, n⟩) off sz inb) hr).view.WordExact}
    {hdst : (dst.slice (Rect.unit (s := ⟨2, n'⟩) off' sz inb') hr').view.WordExact}
    {hsrc₂ : (src.slice (Rect.unit (s := ⟨2, n⟩) off₂ sz inb₂) hr₂).view.WordExact}
    {hdst₂ : (dst.slice (Rect.unit (s := ⟨2, n'⟩) off₂' sz inb₂') hr₂').view.WordExact}
    {hsem : DmaTarget.Typed (nD := nD) (p := .scVector (cV i) (jV i)) sp (.dma sm.sem) (.here (dst.slice (Rect.unit (s := ⟨2, n'⟩) off' sz inb') hr'))}
    {hsem₂ : DmaTarget.Typed (nD := nD) (p := .scVector (cV i) (jV i)) sp (.dma sm.sem) (.here (dst.slice (Rect.unit (s := ⟨2, n'⟩) off₂' sz inb₂') hr₂'))}
    {k : PUnit → Tile F i} (q q₂ : PosShare TreeShare)
    (G : (⟨2, n⟩ : Shape).Idx → Elt F e) (G₀ G' : (⟨2, n'⟩ : Shape).Idx → Elt F e)
    (h : ∀ x, G' ((Rect.unit (s := ⟨2, n'⟩) off' sz inb').emb x) = G ((Rect.unit (s := ⟨2, n⟩) off sz inb).emb x))
    (h₂ : ∀ x, G' ((Rect.unit (s := ⟨2, n'⟩) off₂' sz inb₂').emb x) = G ((Rect.unit (s := ⟨2, n⟩) off₂ sz inb₂).emb x)) :
    iprop((Own d i src q Finset.univ G ∗ Own d i dst fullShare (Rect.unit (s := ⟨2, n'⟩) off' sz inb').set G₀)
        ∗ (Own d i src q₂ Finset.univ G ∗ Own d i dst fullShare (Rect.unit (s := ⟨2, n'⟩) off₂' sz inb₂').set G₀) ∗ semVal (thr d i, .dma sm.sem) 0)
      ⊢ iprop((Two d i sm (dst.slice (Rect.unit (s := ⟨2, n'⟩) off' sz inb') hr').view.dmaCredit iprop((Own d i dst fullShare (Rect.unit (s := ⟨2, n'⟩) off' sz inb').set G' ∗ Own d i src q Finset.univ G)
            ∗ (Own d i dst fullShare (Rect.unit (s := ⟨2, n'⟩) off₂' sz inb₂').set G' ∗ Own d i src q₂ Finset.univ G))
          -∗ run d i (k ⟨⟩) Q)
        -∗ run d i (Prog.lift (.enqueueDma (src.slice (Rect.unit (s := ⟨2, n⟩) off sz inb) hr)
            (.here (dst.slice (Rect.unit (s := ⟨2, n'⟩) off' sz inb') hr')) (.dma sm.sem) hsrc hdst hsem) >>= fun _ =>
          Prog.lift (.enqueueDma (src.slice (Rect.unit (s := ⟨2, n⟩) off₂ sz inb₂) hr₂)
            (.here (dst.slice (Rect.unit (s := ⟨2, n'⟩) off₂' sz inb₂') hr₂')) (.dma sm.sem) hsrc₂ hdst₂ hsem₂) >>= k) Q) := by
  iintro ⟨⟨Hs, Hd⟩, ⟨Hs', Hd'⟩, Hv⟩ Hk
  ihave Hs := (Own_part d i src q (Rect.unit (s := ⟨2, n⟩) off sz inb).set G) $$ Hs
  icases Hs with ⟨Hs, Hrest⟩
  ihave Hs := (Own_slice d i src q _ hr (G := G) (G' := fun x => G ((Rect.unit (s := ⟨2, n⟩) off sz inb).emb x)) (fun _ => rfl)) $$ Hs
  ihave Hs' := (Own_part d i src q₂ (Rect.unit (s := ⟨2, n⟩) off₂ sz inb₂).set G) $$ Hs'
  icases Hs' with ⟨Hs', Hrest'⟩
  ihave Hs' := (Own_slice d i src q₂ _ hr₂ (G := G) (G' := fun x => G ((Rect.unit (s := ⟨2, n⟩) off₂ sz inb₂).emb x)) (fun _ => rfl)) $$ Hs'
  ihave Hd := (Own_slice d i dst fullShare _ hr' (G := G₀) (G' := fun x => G₀ ((Rect.unit (s := ⟨2, n'⟩) off' sz inb').emb x)) (fun _ => rfl)) $$ Hd
  ihave Hd' := (Own_slice d i dst fullShare _ hr₂' (G := G₀) (G' := fun x => G₀ ((Rect.unit (s := ⟨2, n'⟩) off₂' sz inb₂').emb x)) (fun _ => rfl)) $$ Hd'
  iapply (run_copy_two d i (src.slice (Rect.unit (s := ⟨2, n⟩) off sz inb) hr) (src.slice (Rect.unit (s := ⟨2, n⟩) off₂ sz inb₂) hr₂)
    (dst.slice (Rect.unit (s := ⟨2, n'⟩) off' sz inb') hr') (dst.slice (Rect.unit (s := ⟨2, n'⟩) off₂' sz inb₂') hr₂') sm q q₂ _ rfl (credit_eq dst inb₂' hr₂' inb' hr') _ _ _ _) $$ [Hs Hd Hs' Hd' Hv]
  · isplitl [Hs Hd]
    · isplitl [Hs]
      · iexact Hs
      · iexact Hd
    isplitl [Hs' Hd']
    · isplitl [Hs']
      · iexact Hs'
      · iexact Hd'
    · iexact Hv
  iintro Hf
  iapply Hk
  iapply (Two_frame d i (D := iprop((Own d i (dst.slice (Rect.unit (s := ⟨2, n'⟩) off' sz inb') hr') fullShare Finset.univ (fun x => G ((Rect.unit (s := ⟨2, n⟩) off sz inb).emb x))
          ∗ Own d i (src.slice (Rect.unit (s := ⟨2, n⟩) off sz inb) hr) q Finset.univ fun x => G ((Rect.unit (s := ⟨2, n⟩) off sz inb).emb x))
        ∗ (Own d i (dst.slice (Rect.unit (s := ⟨2, n'⟩) off₂' sz inb₂') hr₂') fullShare Finset.univ (fun x => G ((Rect.unit (s := ⟨2, n⟩) off₂ sz inb₂).emb x))
          ∗ Own d i (src.slice (Rect.unit (s := ⟨2, n⟩) off₂ sz inb₂) hr₂) q₂ Finset.univ fun x => G ((Rect.unit (s := ⟨2, n⟩) off₂ sz inb₂).emb x))))
    (R' := iprop(Own d i src q (Rect.unit (s := ⟨2, n⟩) off sz inb).setᶜ G ∗ Own d i src q₂ (Rect.unit (s := ⟨2, n⟩) off₂ sz inb₂).setᶜ G)) ?_)
  rotate_left
  · isplitl [Hf]; · iexact Hf
    isplitl [Hrest]
    · iexact Hrest
    · iexact Hrest'
  iintro ⟨⟨⟨Hd, Hs⟩, Hd', Hs'⟩, Hrest, Hrest'⟩
  isplitl [Hd Hs Hrest]
  · isplitl [Hd]
    · iapply (Own_unslice d i dst fullShare _ hr' (G := G') (G' := fun x => G ((Rect.unit (s := ⟨2, n⟩) off sz inb).emb x)) (fun x => (h x).symm)); iexact Hd
    iapply (Own_whole d i src q (Rect.unit (s := ⟨2, n⟩) off sz inb).set G)
    isplitl [Hs]
    · iapply (Own_unslice d i src q _ hr (G := G) (G' := fun x => G ((Rect.unit (s := ⟨2, n⟩) off sz inb).emb x)) (fun _ => rfl)); iexact Hs
    · iexact Hrest
  · isplitl [Hd']
    · iapply (Own_unslice d i dst fullShare _ hr₂' (G := G') (G' := fun x => G ((Rect.unit (s := ⟨2, n⟩) off₂ sz inb₂).emb x)) (fun x => (h₂ x).symm)); iexact Hd'
    iapply (Own_whole d i src q₂ (Rect.unit (s := ⟨2, n⟩) off₂ sz inb₂).set G)
    isplitl [Hs']
    · iapply (Own_unslice d i src q₂ _ hr₂ (G := G) (G' := fun x => G ((Rect.unit (s := ⟨2, n⟩) off₂ sz inb₂).emb x)) (fun _ => rfl)); iexact Hs'
    · iexact Hrest'

end Windows

end Cert.KernelIdeal.Pool

end
-- ==== Proof.Move.lean ====
/- A slab's copies in, and a window's copy out: what each start takes, what is in flight, and what each wait gives back. -/
module

public import proofs.«01_k».proof.Proof.Copy

@[expose] public section

noncomputable section

namespace Cert.KernelIdeal.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

/-- The first row of the tile's group `h`. -/
def rowN (i : grid0.Coords) (h : Nat) : Nat := 4 * (4 * (2 * (i 1).val + (i 0).val) + h)

theorem rowN_lt (i : grid0.Coords) {h : Nat} (hh : h < 4) : rowN i h + 4 ≤ 512 := by
  have h0 : (i 0).val < 2 := (i 0).isLt
  have h1 : (i 1).val < 16 := (i 1).isLt
  unfold rowN; omega

/-- The columns of a row buffer each copy fills. -/
abbrev part1 : Finset S4x10368.Idx := (Rect.unit (s := S4x10368) ![0, 0] S4x5120.size inb_S4x10368_S4x5120_0_0).set
abbrev part2 : Finset S4x10368.Idx := (Rect.unit (s := S4x10368) ![0, 5120] S4x5248.size inb_S4x10368_S4x5248_0_5120).set
abbrev part3 : Finset S4x10368.Idx := (Rect.unit (s := S4x10368) ![0, 5120] S4x5120.size inb_S4x10368_S4x5120_0_5120).set
abbrev part4 : Finset S4x10368.Idx := (Rect.unit (s := S4x10368) ![0, 10240] S4x128.size inb_S4x10368_S4x128_0_10240).set

theorem mem_cols {c n : Nat} {inb : ∀ a, (![0, c] : Fin 2 → Nat) a + (![4, n] : Fin 2 → Nat) a ≤ S4x10368.size a} {y : S4x10368.Idx} :
    y ∈ (Rect.unit (s := S4x10368) ![0, c] (![4, n] : Fin 2 → Nat) inb).set ↔ c ≤ (y 1).val ∧ (y 1).val < c + n := by
  have h0 : (y 0).val < 4 := (y 0).isLt
  rw [Rect.mem_set_unit]
  constructor
  · intro h; exact h 1
  · intro h a
    match a with
    | 0 => exact ⟨Nat.zero_le _, by show (y 0).val < 0 + 4; omega⟩
    | 1 => exact h

theorem part12 : part1 ∪ part2 = Finset.univ := by
  ext y
  have h1 : (y 1).val < 10368 := (y 1).isLt
  rw [Finset.mem_union, mem_cols, mem_cols]
  simp only [Finset.mem_univ, iff_true]
  omega
theorem disj12 : Disjoint part1 part2 := Finset.disjoint_left.mpr fun y => by
  rw [mem_cols, mem_cols]; omega
theorem part34 : part2 = part3 ∪ part4 := by
  ext y
  rw [Finset.mem_union, mem_cols, mem_cols, mem_cols]
  omega
theorem disj34 : Disjoint part3 part4 := Finset.disjoint_left.mpr fun y => by
  rw [mem_cols, mem_cols]; omega

/-- The result's window that slab `a` of group `h` writes. -/
def wset (i : grid0.Coords) (h a : Nat) : Finset S512x15372.Idx :=
  Finset.univ.filter fun y => (rowN i h ≤ (y 0).val ∧ (y 0).val < rowN i h + 4) ∧ 2560 * a ≤ (y 1).val ∧ (y 1).val < 2560 * a + 2560 + 12 * (a / 5)

theorem wset_eq (i : grid0.Coords) {h a n : Nat} (hh : h < 4) (hn : n = 2560 + 12 * (a / 5))
    {inb : ∀ b, at2 i h (2560 * a) b + (![4, n] : Fin 2 → Nat) b ≤ S512x15372.size b} :
    (Rect.unit (s := S512x15372) (at2 i h (2560 * a)) (![4, n] : Fin 2 → Nat) inb).set = wset i h a := by
  ext y
  have e : (row i h).toNat = rowN i h := row_toNat h hh
  rw [Rect.mem_set_unit, wset, Finset.mem_filter]
  constructor
  · intro H
    have H0 := H 0
    have H1 := H 1
    change (row i h).toNat ≤ (y 0).val ∧ (y 0).val < (row i h).toNat + 4 at H0
    change 2560 * a ≤ (y 1).val ∧ (y 1).val < 2560 * a + n at H1
    refine ⟨Finset.mem_univ _, ⟨?_, ?_⟩, ?_, ?_⟩ <;> omega
  · rintro ⟨-, H0, H1⟩ b
    match b with
    | 0 => show (row i h).toNat ≤ (y 0).val ∧ (y 0).val < (row i h).toNat + 4; omega
    | 1 => show 2560 * a ≤ (y 1).val ∧ (y 1).val < 2560 * a + n; omega

section Values

variable (D : Dat F)

theorem XV_x {R a : Nat} {y : S4x10368.Idx} {z : S512x61452.Idx} (h0 : (z 0).val = R + (y 0).val)
    (h1 : (z 1).val = 10240 * a + (y 1).val) (h : (z 1).val < 61440) : D.XV R a y = D.x z := by
  unfold Dat.XV Dat.X
  rw [if_pos (by omega), ← eq_pt z h0 h1]

theorem XV_xt {R a : Nat} {y : S4x10368.Idx} {z : S512x128.Idx} (h0 : (z 0).val = R + (y 0).val)
    (h1 : (z 1).val + 61440 = 10240 * a + (y 1).val) : D.XV R a y = D.xt z := by
  unfold Dat.XV Dat.X
  rw [if_neg (by omega), ← eq_pt z h0 (c := 10240 * a + (y 1).val - 61440) (by omega)]

variable [FloatOps F] [Named F]

/-- The whole result. -/
def Dat.Out : S512x15372.Idx → Elt F .f32 := fun y => D.out (y 0).val (y 1).val

theorem Out_filled {R a n : Nat} {G : S4x2572.Idx → Elt F .f32} (hG : D.Filled R a n G) {y : S4x2572.Idx} {z : S512x15372.Idx}
    (h0 : (z 0).val = R + (y 0).val) (h1 : (z 1).val = 2560 * a + (y 1).val) (h : (y 1).val < 2 * a + n) : D.Out z = G y := by
  have hy0 : (y 0).val < 4 := (y 0).isLt
  have hy1 : (y 1).val < 2572 := (y 1).isLt
  rw [eq_pt y rfl rfl, hG _ _ hy0 h hy1, ← h0, ← h1]
  rfl

end Values

variable [FloatOps F] [Named F] (d : Dev nD) (i : grid0.Coords) (D : Dat F) (E : Env) {Q : PUnit → sProp (MT nD τ sig (HIx 1) (Elt F) ℕ UU ℕ)}

/-- A semaphore at rest; with a share of what its copies read. -/
abbrev Rest (sm : Sm) : sProp 𝕄 := semVal (thr d i, .dma sm.sem) 0
def Ch {sp : Space} {s : Shape} {e : EltTy} (m : Memref sig .scVector sp s e) (q : PosShare TreeShare) (G : s.Idx → Elt F e) (sm : Sm) : sProp 𝕄 :=
  iprop(Own d i m q Finset.univ G ∗ Rest d i sm)

/-- A buffer whose contents do not matter. -/
def Any {sp : Space} {s : Shape} {e : EltTy} (m : Memref sig .scVector sp s e) : sProp 𝕄 := iprop(∃ G, Has d i m G)

/-- Slab `a`'s two copies into a row buffer in flight; the last slab's three, two of them on one semaphore and reading at
    the share of a semaphore at rest as well. -/
def Coming (xb : XBuf) (s s' : Sm) (q q' : PosShare TreeShare) (h a : Nat) : sProp 𝕄 :=
  iprop(Fly d i s (dst1 xb).view.dmaCredit iprop(Own d i xb fullShare part1 (D.XV (rowN i h) a) ∗ Own d i E.x q Finset.univ D.x)
    ∗ Fly d i s' (dst2 xb).view.dmaCredit iprop(Own d i xb fullShare part2 (D.XV (rowN i h) a) ∗ Own d i E.x q' Finset.univ D.x))
def ComingB (xb : XBuf) (s s' s'' : Sm) (q q' q'' : PosShare TreeShare) (h : Nat) : sProp 𝕄 :=
  iprop(Two d i s (dst1 xb).view.dmaCredit
        iprop((Own d i xb fullShare part1 (D.XV (rowN i h) 5) ∗ Own d i E.x q Finset.univ D.x)
          ∗ (Own d i xb fullShare part3 (D.XV (rowN i h) 5) ∗ Own d i E.x q' Finset.univ D.x))
    ∗ Rest d i s'
    ∗ Fly d i s'' (dst4 xb).view.dmaCredit iprop(Own d i xb fullShare part4 (D.XV (rowN i h) 5) ∗ Own d i E.xt q'' Finset.univ D.xt))

/-- The result's window of slab `a` of group `h`, before it is written and after. -/
def Todo (h a : Nat) : sProp 𝕄 := iprop(∃ G, Own d i E.o fullShare (wset i h a) G)
def Done (h a : Nat) : sProp 𝕄 := Own d i E.o fullShare (wset i h a) D.Out

/-- A window's copy out in flight, which gives back the buffer. -/
def Going (ob : OBuf) (s : Sm) (h a : Nat) (hh : h < 4) (ha : a < 5) : sProp 𝕄 :=
  Fly d i s (owin i E.o h hh (2560 * a) (inO ha)).view.dmaCredit iprop(Done d i D E h a ∗ Any d i ob)
def GoingB (ob : OBuf) (s : Sm) (h : Nat) (hh : h < 4) : sProp 𝕄 :=
  Fly d i s (owinB i E.o h hh).view.dmaCredit iprop(Done d i D E h 5 ∗ Any d i ob)

theorem run_fetch (xb : XBuf) (s s' : Sm) (q q' : PosShare TreeShare) (h a : Nat) (hh : h < 4) (ha : a < 5) (k : Tile F i) :
    iprop(Any d i xb ∗ Ch d i E.x q D.x s ∗ Ch d i E.x q' D.x s')
      ⊢ iprop((Coming d i D E xb s s' q q' h a -∗ run d i k Q) -∗ run d i (fetch i E xb s s' h a hh ha k) Q) := by
  have e : (row i h).toNat = rowN i h := row_toNat h hh
  have hR := rowN_lt i hh
  unfold Any Ch Coming
  iintro ⟨⟨%G, Hb⟩, ⟨Hx, Hv⟩, Hx', Hv'⟩ Hk
  ihave Hb := (Entails.of_eq (congrArg (fun A => Own d i xb fullShare A G) part12.symm)) $$ Hb
  ihave Hb := (Own_split d i xb fullShare disj12 G) $$ Hb
  icases Hb with ⟨Hb, Hb'⟩
  unfold fetch issueA
  iapply (run_copy_window d i E.x xb _ _ _ _ s q (by decide) D.x G (D.XV (rowN i h) a) ?_) $$ [Hb Hx Hv]
  · intro z
    have h1 : (z 1).val < 5120 := (z 1).isLt
    refine XV_x D (R := rowN i h) (a := a) ?_ ?_ ?_
    · show (row i h).toNat + 1 * (z 0).val = rowN i h + (0 + 1 * (z 0).val); omega
    · show 10240 * a + 1 * (z 1).val = 10240 * a + (0 + 1 * (z 1).val); omega
    · show 10240 * a + 1 * (z 1).val < 61440; omega
  · isplitl [Hx]; · iexact Hx
    isplitl [Hb]
    · iexact Hb
    · iexact Hv
  iintro Hf
  iapply (run_copy_window d i E.x xb _ _ _ _ s' q' (by decide) D.x G (D.XV (rowN i h) a) ?_) $$ [Hb' Hx' Hv']
  · intro z
    have h1 : (z 1).val < 5248 := (z 1).isLt
    refine XV_x D (R := rowN i h) (a := a) ?_ ?_ ?_
    · show (row i h).toNat + 1 * (z 0).val = rowN i h + (0 + 1 * (z 0).val); omega
    · show 10240 * a + 5120 + 1 * (z 1).val = 10240 * a + (5120 + 1 * (z 1).val); omega
    · show 10240 * a + 5120 + 1 * (z 1).val < 61440; omega
  · isplitl [Hx']; · iexact Hx'
    isplitl [Hb']
    · iexact Hb'
    · iexact Hv'
  iintro Hf'
  iapply Hk
  isplitl [Hf]
  · iexact Hf
  · iexact Hf'

variable {O : CellTallies nD τ sig (HIx 1)} {W : Waits sig (HIx 1)}

theorem run_await (xb : XBuf) (s s' : Sm) (q q' : PosShare TreeShare) (h a : Nat) (hh : h < 4) (ha : a < 5) (k : Tile F i) :
    iprop(Coming d i D E xb s s' q q' h a ∗ Owe d i O W)
      ⊢ iprop((iprop(Has d i xb (D.XV (rowN i h) a) ∗ Ch d i E.x q D.x s ∗ Ch d i E.x q' D.x s' ∗ Owe d i O W) -∗ run d i k Q)
        -∗ run d i (await i E xb s s' h a hh ha k) Q) := by
  unfold Coming Ch
  iintro ⟨⟨Hf, Hf'⟩, HO⟩ Hk
  unfold await awaitA
  iapply (run_wait d i _ _ s _ rfl _) $$ [Hf HO]
  · isplitl [Hf]
    · iexact Hf
    · iexact HO
  iintro ⟨⟨Hb, Hx⟩, Hv, HO⟩
  iapply (run_wait d i _ _ s' _ rfl _) $$ [Hf' HO]
  · isplitl [Hf']
    · iexact Hf'
    · iexact HO
  iintro ⟨⟨Hb', Hx'⟩, Hv', HO⟩
  iapply Hk
  isplitl [Hb Hb']
  · iapply (Entails.of_eq (congrArg (fun A => Own d i xb fullShare A (D.XV (rowN i h) a)) part12))
    iapply (Own_join d i xb fullShare disj12)
    isplitl [Hb]
    · iexact Hb
    · iexact Hb'
  isplitl [Hx Hv]
  · isplitl [Hx]
    · iexact Hx
    · iexact Hv
  isplitl [Hx' Hv']
  · isplitl [Hx']
    · iexact Hx'
    · iexact Hv'
  iexact HO

theorem run_issueB (xb : XBuf) (s s' s'' : Sm) (q q' q'' : PosShare TreeShare) (h : Nat) (hh : h < 4) (k : Tile F i) :
    iprop(Any d i xb ∗ Ch d i E.x q D.x s ∗ Ch d i E.x q' D.x s' ∗ Ch d i E.xt q'' D.xt s'')
      ⊢ iprop((ComingB d i D E xb s s' s'' q q' q'' h -∗ run d i k Q) -∗ run d i (issueB i E.x E.xt xb s s'' h hh k) Q) := by
  have e : (row i h).toNat = rowN i h := row_toNat h hh
  have hR := rowN_lt i hh
  unfold Any Ch ComingB
  iintro ⟨⟨%G, Hb⟩, ⟨Hx, Hv⟩, ⟨Hx', Hv'⟩, Hx'', Hv''⟩ Hk
  ihave Hb := (Entails.of_eq (congrArg (fun A => Own d i xb fullShare A G) part12.symm)) $$ Hb
  ihave Hb := (Own_split d i xb fullShare disj12 G) $$ Hb
  icases Hb with ⟨Hb, Hc⟩
  ihave Hc := (Entails.of_eq (congrArg (fun A => Own d i xb fullShare A G) part34)) $$ Hc
  ihave Hc := (Own_split d i xb fullShare disj34 G) $$ Hc
  icases Hc with ⟨Hb', Hb''⟩
  unfold issueB
  iapply (run_copy_windows d i E.x xb _ _ _ _ _ _ _ _ s q q' D.x G (D.XV (rowN i h) 5) ?_ ?_) $$ [Hb Hx Hb' Hx' Hv]
  · intro z
    have h1 : (z 1).val < 5120 := (z 1).isLt
    refine XV_x D (R := rowN i h) (a := 5) ?_ ?_ ?_
    · show (row i h).toNat + 1 * (z 0).val = rowN i h + (0 + 1 * (z 0).val); omega
    · show 51200 + 1 * (z 1).val = 10240 * 5 + (0 + 1 * (z 1).val); omega
    · show 51200 + 1 * (z 1).val < 61440; omega
  · intro z
    have h1 : (z 1).val < 5120 := (z 1).isLt
    refine XV_x D (R := rowN i h) (a := 5) ?_ ?_ ?_
    · show (row i h).toNat + 1 * (z 0).val = rowN i h + (0 + 1 * (z 0).val); omega
    · show 56320 + 1 * (z 1).val = 10240 * 5 + (5120 + 1 * (z 1).val); omega
    · show 56320 + 1 * (z 1).val < 61440; omega
  · isplitl [Hb Hx]
    · isplitl [Hx]
      · iexact Hx
      · iexact Hb
    isplitl [Hb' Hx']
    · isplitl [Hx']
      · iexact Hx'
      · iexact Hb'
    · iexact Hv
  iintro Hf
  iapply (run_copy_window d i E.xt xb _ _ _ _ s'' q'' (by decide) D.xt G (D.XV (rowN i h) 5) ?_) $$ [Hb'' Hx'' Hv'']
  · intro z
    have h1 : (z 1).val < 128 := (z 1).isLt
    refine XV_xt D (R := rowN i h) (a := 5) ?_ ?_
    · show (row i h).toNat + 1 * (z 0).val = rowN i h + (0 + 1 * (z 0).val); omega
    · show 0 + 1 * (z 1).val + 61440 = 10240 * 5 + (10240 + 1 * (z 1).val); omega
  · isplitl [Hx'']; · iexact Hx''
    isplitl [Hb'']
    · iexact Hb''
    · iexact Hv''
  iintro Hf''
  iapply Hk
  isplitl [Hf]; · iexact Hf
  isplitl [Hv']
  · iexact Hv'
  · iexact Hf''

theorem run_awaitB (xb : XBuf) (s s' s'' : Sm) (q q' q'' : PosShare TreeShare) (h : Nat) (hh : h < 4) (k : Tile F i) :
    iprop(ComingB d i D E xb s s' s'' q q' q'' h ∗ Owe d i O W)
      ⊢ iprop((iprop(Has d i xb (D.XV (rowN i h) 5) ∗ Ch d i E.x q D.x s ∗ Ch d i E.x q' D.x s' ∗ Ch d i E.xt q'' D.xt s'' ∗ Owe d i O W)
          -∗ run d i k Q)
        -∗ run d i (awaitB i E.x E.xt xb s s'' h hh k) Q) := by
  unfold ComingB Ch
  iintro ⟨⟨Hf, Hv', Hf''⟩, HO⟩ Hk
  unfold awaitB
  iapply (run_wait_two d i (src1 i E.x h hh 51200 _) (src1 i E.x h hh 56320 _) (dst1 xb) (dst3 xb) s _
    (View.dmaCredit_pos _ (by decide)) rfl (credit_eq xb _ _ _ _) _) $$ [Hf HO]
  · isplitl [Hf]
    · iexact Hf
    · iexact HO
  iintro ⟨⟨⟨Hb, Hx⟩, Hb', Hx'⟩, Hv, HO⟩
  iapply (run_wait d i _ _ s'' _ rfl _) $$ [Hf'' HO]
  · isplitl [Hf'']
    · iexact Hf''
    · iexact HO
  iintro ⟨⟨Hb'', Hx''⟩, Hv'', HO⟩
  iapply Hk
  isplitl [Hb Hb' Hb'']
  · iapply (Entails.of_eq (congrArg (fun A => Own d i xb fullShare A (D.XV (rowN i h) 5)) part12))
    iapply (Own_join d i xb fullShare disj12)
    isplitl [Hb]; · iexact Hb
    iapply (Entails.of_eq (congrArg (fun A => Own d i xb fullShare A (D.XV (rowN i h) 5)) part34.symm))
    iapply (Own_join d i xb fullShare disj34)
    isplitl [Hb']
    · iexact Hb'
    · iexact Hb''
  isplitl [Hx Hv]
  · isplitl [Hx]
    · iexact Hx
    · iexact Hv
  isplitl [Hx' Hv']
  · isplitl [Hx']
    · iexact Hx'
    · iexact Hv'
  isplitl [Hx'' Hv'']
  · isplitl [Hx'']
    · iexact Hx''
    · iexact Hv''
  iexact HO

theorem run_put (ob : OBuf) (s : Sm) (h a : Nat) (hh : h < 4) (ha : a < 5) (G : S4x2572.Idx → Elt F .f32) (hG : D.Filled (rowN i h) a 2562 G)
    (k : Tile F i) :
    iprop(Has d i ob G ∗ Todo d i E h a ∗ Rest d i s)
      ⊢ iprop((Going d i D E ob s h a hh ha -∗ run d i k Q) -∗ run d i (put i E ob s h a hh ha k) Q) := by
  have e : (row i h).toNat = rowN i h := row_toNat h hh
  unfold Todo Going Done
  iintro ⟨Hb, ⟨%G₀, Ho⟩, Hv⟩ Hk
  unfold put putA
  have hw := wset_eq i (a := a) (n := 2560) hh (by omega) (inb := at2_inb h (2560 * a) hh (inO ha))
  rw [← hw]
  iapply (run_copy_window d i ob E.o _ _ _ _ s fullShare (by decide) G G₀ D.Out ?_) $$ [Hb Ho Hv]
  · intro z
    have h1 : (z 1).val < 2560 := (z 1).isLt
    refine Out_filled D hG ?_ ?_ ?_
    · show (row i h).toNat + 1 * (z 0).val = rowN i h + (0 + 1 * (z 0).val); omega
    · show 2560 * a + 1 * (z 1).val = 2560 * a + (0 + 1 * (z 1).val); omega
    · show 0 + 1 * (z 1).val < 2 * a + 2562; omega
  · isplitl [Hb]; · iexact Hb
    isplitl [Ho]
    · iexact Ho
    · iexact Hv
  iintro Hf
  iapply Hk
  iapply (Flight_mono countersEmb (thr d i) ?_) $$ Hf
  unfold Any
  iintro ⟨Ho, Hb⟩
  isplitl [Ho]; · iexact Ho
  iexists G; iexact Hb

theorem run_putB (ob : OBuf) (hob : ob.IsWhole) (s : Sm) (h : Nat) (hh : h < 4) (G : S4x2572.Idx → Elt F .f32)
    (hG : D.Filled (rowN i h) 5 2562 G) (k : Tile F i) :
    iprop(Has d i ob G ∗ Todo d i E h 5 ∗ Rest d i s)
      ⊢ iprop((GoingB d i D E ob s h hh -∗ run d i k Q) -∗ run d i (putB i E.o ob hob s h hh k) Q) := by
  have e : (row i h).toNat = rowN i h := row_toNat h hh
  unfold Todo GoingB Done
  iintro ⟨Hb, ⟨%G₀, Ho⟩, Hv⟩ Hk
  unfold putB
  have hw := wset_eq i (a := 5) (n := 2572) hh (by omega) (inb := at2_inb h 12800 hh (by decide))
  rw [← hw]
  iapply (run_copy_into d i ob E.o _ _ s fullShare (by decide) G G₀ D.Out ?_) $$ [Hb Ho Hv]
  · intro z
    have h1 : (z 1).val < 2572 := (z 1).isLt
    refine Out_filled D hG ?_ ?_ ?_
    · show (row i h).toNat + 1 * (z 0).val = rowN i h + (z 0).val; omega
    · show 12800 + 1 * (z 1).val = 2560 * 5 + (z 1).val; omega
    · show (z 1).val < 2 * 5 + 2562; omega
  · isplitl [Hb]; · iexact Hb
    isplitl [Ho]
    · iexact Ho
    · iexact Hv
  iintro Hf
  iapply Hk
  iapply (Flight_mono countersEmb (thr d i) ?_) $$ Hf
  unfold Any
  iintro ⟨Ho, Hb⟩
  isplitl [Ho]; · iexact Ho
  iexists G; iexact Hb

theorem run_putWait (ob : OBuf) (s : Sm) (h a : Nat) (hh : h < 4) (ha : a < 5) (k : Tile F i) :
    iprop(Going d i D E ob s h a hh ha ∗ Owe d i O W)
      ⊢ iprop((iprop(Done d i D E h a ∗ Any d i ob ∗ Rest d i s ∗ Owe d i O W) -∗ run d i k Q)
        -∗ run d i (putWait i E ob s h a hh ha k) Q) := by
  unfold Going
  iintro H Hk
  unfold putWait putWaitA
  iapply (run_wait d i _ _ s _ rfl _) $$ H
  iintro ⟨⟨Ho, Hb⟩, Hv, HO⟩
  iapply Hk
  isplitl [Ho]; · iexact Ho
  isplitl [Hb]; · iexact Hb
  isplitl [Hv]
  · iexact Hv
  · iexact HO

theorem run_putWaitB (ob : OBuf) (hob : ob.IsWhole) (s : Sm) (h : Nat) (hh : h < 4) (k : Tile F i) :
    iprop(GoingB d i D E ob s h hh ∗ Owe d i O W)
      ⊢ iprop((iprop(Done d i D E h 5 ∗ Any d i ob ∗ Rest d i s ∗ Owe d i O W) -∗ run d i k Q)
        -∗ run d i (putWaitB i E.o ob hob s h hh k) Q) := by
  unfold GoingB
  iintro H Hk
  unfold putWaitB
  iapply (run_wait d i _ _ s _ rfl _) $$ H
  iintro ⟨⟨Ho, Hb⟩, Hv, HO⟩
  iapply Hk
  isplitl [Ho]; · iexact Ho
  isplitl [Hb]; · iexact Hb
  isplitl [Hv]
  · iexact Hv
  · iexact HO

end Cert.KernelIdeal.Pool

end
-- ==== Proof.Group.lean ====
/- The tile, slab after slab: what it holds before and after each group's six slabs, and the whole of it. -/
module

public import proofs.«01_k».proof.Proof.Move

@[expose] public section

noncomputable section

namespace Cert.KernelIdeal.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

/-- The shares of the array that the copies on each semaphore read. -/
structure Shares where
  x0 : PosShare TreeShare
  y0 : PosShare TreeShare
  x1 : PosShare TreeShare
  y1 : PosShare TreeShare
  t1 : PosShare TreeShare

variable [FloatOps F] [Named F] (d : Dev nD) (i : grid0.Coords) (D : Dat F) (E : Env) (q : Shares)
  {Q : PUnit → sProp (MT nD τ sig (HIx 1) (Elt F) ℕ UU ℕ)} {O : CellTallies nD τ sig (HIx 1)} {W : Waits sig (HIx 1)}

/-- The columns past a filled buffer's window read, and the window put out. -/
theorem run_lead (ob : OBuf) (s : Sm) (h a : Nat) (hh : h < 4) (ha : a < 5) (K : V16 F → V16 F → V16 F → V16 F → Tile F i) :
    iprop(Full d i D ob (rowN i h) a 2562 ∗ Todo d i E h a ∗ Rest d i s)
      ⊢ iprop((∀ G, ⌜D.Filled (rowN i h) a 2562 G⌝ -∗ Going d i D E ob s h a hh ha -∗ run d i (K (kept G 0) (kept G 1) (kept G 2) (kept G 3)) Q)
        -∗ run d i (keep4 i ob fun a' b c e => put i E ob s h a hh ha (K a' b c e)) Q) := by
  unfold Full
  iintro ⟨⟨%G, %hG, Hb⟩, Hr⟩ Hk
  iapply (run_keep4 d i ob G) $$ Hb
  iintro Hb
  iapply (run_put d i D E ob s h a hh ha G hG) $$ [Hb Hr]
  · isplitl [Hb]
    · iexact Hb
    · iexact Hr
  iintro Hg
  iapply Hk $$ %G %hG Hg

/-- Those columns stored first in the next slab's buffer. -/
theorem run_carry (ob : OBuf) (R a : Nat) (ha : a < 5) (G : S4x2572.Idx → Elt F .f32) (hG : D.Filled R a 2562 G) (k : Tile F i) :
    Any d i ob ⊢ iprop((Full d i D ob R (a + 1) 0 -∗ run d i k Q)
      -∗ run d i (scat4 i ob lanes (kept G 0) (kept G 1) (kept G 2) (kept G 3) k) Q) := by
  unfold Any Full
  iintro ⟨%G', Hb⟩ Hk
  iapply (run_scat4 d i ob lanes 0 (fun x => by rw [lanes_toNat, Nat.zero_add]) (by decide) (kept G) G') $$ Hb
  iintro Hb
  iapply Hk
  iexists _; isplitr
  rotate_left
  · iexact Hb
  · ipureintro; exact filled_next D ha hG

/-- The copy out of the group before's last slab, while it is in flight and after; and the next group's first slab. -/
def Before : (h : Nat) → h < 4 → sProp 𝕄
  | 0, _ => iprop(Any d i E.o1 ∗ Rest d i E.q1)
  | h + 1, hh => GoingB d i D E E.o1 E.q1 h (Nat.lt_of_succ_lt hh)
def DoneBefore : Nat → sProp 𝕄
  | 0 => iprop(emp)
  | h + 1 => Done d i D E h 5
def After (h : Nat) : sProp 𝕄 :=
  if h + 1 < 4 then Coming d i D E E.b0 E.x0 E.y0 q.x0 q.y0 (h + 1) 0
  else iprop(Any d i E.b0 ∗ Ch d i E.x q.x0 D.x E.x0 ∗ Ch d i E.x q.y0 D.x E.y0)

theorem run_waitBefore (h : Nat) (hh : h < 4) (k : Tile F i) :
    iprop(Before d i D E h hh ∗ Owe d i O W)
      ⊢ iprop((iprop(DoneBefore d i D E h ∗ Any d i E.o1 ∗ Rest d i E.q1 ∗ Owe d i O W) -∗ run d i k Q) -∗ run d i (waitBefore i E h hh k) Q) := by
  cases h with
  | zero =>
    unfold Before DoneBefore waitBefore
    iintro ⟨⟨Hb, Hv⟩, HO⟩ Hk
    iapply Hk
    isplitr; · iempintro
    isplitl [Hb]; · iexact Hb
    isplitl [Hv]
    · iexact Hv
    · iexact HO
  | succ h => exact run_putWaitB d i D E E.o1 E.ho1 E.q1 h (Nat.lt_of_succ_lt hh) k

theorem run_fetchAfter (h : Nat) (k : Tile F i) :
    iprop(Any d i E.b0 ∗ Ch d i E.x q.x0 D.x E.x0 ∗ Ch d i E.x q.y0 D.x E.y0)
      ⊢ iprop((After d i D E q h -∗ run d i k Q) -∗ run d i (fetchAfter i E h k) Q) := by
  unfold After fetchAfter
  by_cases hh : h + 1 < 4
  · rw [if_pos hh, dif_pos hh]
    exact run_fetch d i D E E.b0 E.x0 E.y0 q.x0 q.y0 (h + 1) 0 hh (by decide) k
  · rw [if_neg hh, dif_neg hh]
    iintro H Hk
    iapply Hk; iexact H

/-- What the tile holds before a group's first trips, but for the result's windows. -/
def Enter (h : Nat) (hh : h < 4) : sProp 𝕄 :=
  iprop(Has d i E.ix D.w ∗ Has d i E.b0 (D.XV (rowN i h) 0) ∗ Full d i D E.o0 (rowN i h) 0 0
    ∗ Ch d i E.x q.x0 D.x E.x0 ∗ Ch d i E.x q.y0 D.x E.y0 ∗ Coming d i D E E.b1 E.x1 E.y1 q.x1 q.y1 h 1
    ∗ Ch d i E.xt q.t1 D.xt E.t1 ∗ Rest d i E.u0 ∗ Rest d i E.u1 ∗ Before d i D E h hh ∗ Owe d i O W)

/-- What it holds after a group's last trips. -/
def Leave (h : Nat) (hh : h < 4) : sProp 𝕄 :=
  iprop(Has d i E.ix D.w ∗ Has d i E.b1 (D.XV (rowN i h) 5) ∗ Full d i D E.o1 (rowN i h) 5 2562
    ∗ Ch d i E.x q.x1 D.x E.x1 ∗ Ch d i E.x q.y1 D.x E.y1 ∗ After d i D E q h
    ∗ Ch d i E.xt q.t1 D.xt E.t1 ∗ Going d i D E E.o0 E.u0 h 4 hh (by decide) ∗ Rest d i E.u1 ∗ Rest d i E.q1 ∗ Owe d i O W)

/-- A group's windows but the last, to write; and the windows its slabs' waits give back. -/
def TodoG (h : Nat) : sProp 𝕄 :=
  iprop(Todo d i E h 0 ∗ Todo d i E h 1 ∗ Todo d i E h 2 ∗ Todo d i E h 3 ∗ Todo d i E h 4)
def DoneG (h : Nat) : sProp 𝕄 :=
  iprop(DoneBefore d i D E h ∗ Done d i D E h 0 ∗ Done d i D E h 1 ∗ Done d i D E h 2 ∗ Done d i D E h 3)

theorem run_group (hD : D.OK) (h : Nat) (hh : h < 4) (first : Tile F i → Tile F i) (ls : List (Leg F i)) (k : Tile F i) :
    iprop(Enter d i D E q (O := O) (W := W) h hh ∗ TodoG d i E h)
      ⊢ iprop((iprop(Leave d i D E q (O := O) (W := W) h hh ∗ DoneG d i D E h) -∗ run d i (legs i E ls k) Q)
        -∗ run d i (trips i E.ix E.b0 E.o0 0 >>= fun _ => legs i E ((group i E h hh first).tail ++ ls) k) Q) := by
  unfold Enter Leave TodoG DoneG
  iintro ⟨⟨Hix, Hb0, Ho0, Hx0, Hy0, Hc1, Ht1, Hu0, Hu1, HB, HO⟩, W0, W1, W2, W3, W4⟩ Hk
  iapply (run_trips d i D hD E.ix E.b0 E.o0 (a := 0) (by decide) (rowN i h)) $$ [Hix Hb0 Ho0]
  · isplitl [Hix]; · iexact Hix
    isplitl [Hb0]
    · iexact Hb0
    · iexact Ho0
  iintro ⟨Hix, Hb0, Ho0⟩
  simp only [group, List.tail_cons, List.cons_append, legs]
  -- to slab 1
  unfold turn1
  iapply (run_lead d i D E E.o0 E.u0 h 0 hh _) $$ [Ho0 W0 Hu0]
  · isplitl [Ho0]; · iexact Ho0
    isplitl [W0]
    · iexact W0
    · iexact Hu0
  iintro %G0 %hG0 Hg0
  iapply (run_fetch d i D E E.b0 E.x0 E.y0 q.x0 q.y0 h 2 hh _) $$ [Hb0 Hx0 Hy0]
  · isplitl [Hb0]; · unfold Any; iexists _; iexact Hb0
    isplitl [Hx0]
    · iexact Hx0
    · iexact Hy0
  iintro Hc0
  iapply (run_waitBefore d i D E h hh) $$ [HB HO]
  · isplitl [HB]
    · iexact HB
    · iexact HO
  iintro ⟨DB, Ho1, Hq1, HO⟩
  iapply (run_carry d i D E.o1 (rowN i h) 0 (by decide) G0 hG0) $$ Ho1
  iintro Ho1
  iapply (run_await d i D E E.b1 E.x1 E.y1 q.x1 q.y1 h 1 hh _) $$ [Hc1 HO]
  · isplitl [Hc1]
    · iexact Hc1
    · iexact HO
  iintro ⟨Hb1, Hx1, Hy1, HO⟩
  iapply (run_trips d i D hD E.ix E.b1 E.o1 (a := 1) (by decide) (rowN i h)) $$ [Hix Hb1 Ho1]
  · isplitl [Hix]; · iexact Hix
    isplitl [Hb1]
    · iexact Hb1
    · iexact Ho1
  iintro ⟨Hix, Hb1, Ho1⟩
  -- to slab 2
  unfold turn2
  iapply (run_lead d i D E E.o1 E.u1 h 1 hh _) $$ [Ho1 W1 Hu1]
  · isplitl [Ho1]; · iexact Ho1
    isplitl [W1]
    · iexact W1
    · iexact Hu1
  iintro %G1 %hG1 Hg1
  iapply (run_fetch d i D E E.b1 E.x1 E.y1 q.x1 q.y1 h 3 hh _) $$ [Hb1 Hx1 Hy1]
  · isplitl [Hb1]; · unfold Any; iexists _; iexact Hb1
    isplitl [Hx1]
    · iexact Hx1
    · iexact Hy1
  iintro Hc1
  iapply (run_putWait d i D E E.o0 E.u0 h 0 hh _) $$ [Hg0 HO]
  · isplitl [Hg0]
    · iexact Hg0
    · iexact HO
  iintro ⟨D0, Ho0, Hu0, HO⟩
  iapply (run_carry d i D E.o0 (rowN i h) 1 (by decide) G1 hG1) $$ Ho0
  iintro Ho0
  iapply (run_await d i D E E.b0 E.x0 E.y0 q.x0 q.y0 h 2 hh _) $$ [Hc0 HO]
  · isplitl [Hc0]
    · iexact Hc0
    · iexact HO
  iintro ⟨Hb0, Hx0, Hy0, HO⟩
  iapply (run_trips d i D hD E.ix E.b0 E.o0 (a := 2) (by decide) (rowN i h)) $$ [Hix Hb0 Ho0]
  · isplitl [Hix]; · iexact Hix
    isplitl [Hb0]
    · iexact Hb0
    · iexact Ho0
  iintro ⟨Hix, Hb0, Ho0⟩
  -- to slab 3
  unfold turn3
  iapply (run_lead d i D E E.o0 E.u0 h 2 hh _) $$ [Ho0 W2 Hu0]
  · isplitl [Ho0]; · iexact Ho0
    isplitl [W2]
    · iexact W2
    · iexact Hu0
  iintro %G2 %hG2 Hg0
  iapply (run_fetch d i D E E.b0 E.x0 E.y0 q.x0 q.y0 h 4 hh _) $$ [Hb0 Hx0 Hy0]
  · isplitl [Hb0]; · unfold Any; iexists _; iexact Hb0
    isplitl [Hx0]
    · iexact Hx0
    · iexact Hy0
  iintro Hc0
  iapply (run_putWait d i D E E.o1 E.u1 h 1 hh _) $$ [Hg1 HO]
  · isplitl [Hg1]
    · iexact Hg1
    · iexact HO
  iintro ⟨D1, Ho1, Hu1, HO⟩
  iapply (run_carry d i D E.o1 (rowN i h) 2 (by decide) G2 hG2) $$ Ho1
  iintro Ho1
  iapply (run_await d i D E E.b1 E.x1 E.y1 q.x1 q.y1 h 3 hh _) $$ [Hc1 HO]
  · isplitl [Hc1]
    · iexact Hc1
    · iexact HO
  iintro ⟨Hb1, Hx1, Hy1, HO⟩
  iapply (run_trips d i D hD E.ix E.b1 E.o1 (a := 3) (by decide) (rowN i h)) $$ [Hix Hb1 Ho1]
  · isplitl [Hix]; · iexact Hix
    isplitl [Hb1]
    · iexact Hb1
    · iexact Ho1
  iintro ⟨Hix, Hb1, Ho1⟩
  -- to slab 4
  unfold turn4
  iapply (run_lead d i D E E.o1 E.u1 h 3 hh _) $$ [Ho1 W3 Hu1]
  · isplitl [Ho1]; · iexact Ho1
    isplitl [W3]
    · iexact W3
    · iexact Hu1
  iintro %G3 %hG3 Hg1
  iapply (run_issueB d i D E E.b1 E.x1 E.y1 E.t1 q.x1 q.y1 q.t1 h hh) $$ [Hb1 Hx1 Hy1 Ht1]
  · isplitl [Hb1]; · unfold Any; iexists _; iexact Hb1
    isplitl [Hx1]; · iexact Hx1
    isplitl [Hy1]
    · iexact Hy1
    · iexact Ht1
  iintro Hc1
  iapply (run_putWait d i D E E.o0 E.u0 h 2 hh _) $$ [Hg0 HO]
  · isplitl [Hg0]
    · iexact Hg0
    · iexact HO
  iintro ⟨D2, Ho0, Hu0, HO⟩
  iapply (run_carry d i D E.o0 (rowN i h) 3 (by decide) G3 hG3) $$ Ho0
  iintro Ho0
  iapply (run_await d i D E E.b0 E.x0 E.y0 q.x0 q.y0 h 4 hh _) $$ [Hc0 HO]
  · isplitl [Hc0]
    · iexact Hc0
    · iexact HO
  iintro ⟨Hb0, Hx0, Hy0, HO⟩
  iapply (run_trips d i D hD E.ix E.b0 E.o0 (a := 4) (by decide) (rowN i h)) $$ [Hix Hb0 Ho0]
  · isplitl [Hix]; · iexact Hix
    isplitl [Hb0]
    · iexact Hb0
    · iexact Ho0
  iintro ⟨Hix, Hb0, Ho0⟩
  -- to slab 5
  unfold turn5
  iapply (run_lead d i D E E.o0 E.u0 h 4 hh _) $$ [Ho0 W4 Hu0]
  · isplitl [Ho0]; · iexact Ho0
    isplitl [W4]
    · iexact W4
    · iexact Hu0
  iintro %G4 %hG4 Hg0
  iapply (run_fetchAfter d i D E q h) $$ [Hb0 Hx0 Hy0]
  · isplitl [Hb0]; · unfold Any; iexists _; iexact Hb0
    isplitl [Hx0]
    · iexact Hx0
    · iexact Hy0
  iintro HA
  iapply (run_putWait d i D E E.o1 E.u1 h 3 hh _) $$ [Hg1 HO]
  · isplitl [Hg1]
    · iexact Hg1
    · iexact HO
  iintro ⟨D3, Ho1, Hu1, HO⟩
  iapply (run_carry d i D E.o1 (rowN i h) 4 (by decide) G4 hG4) $$ Ho1
  iintro Ho1
  iapply (run_awaitB d i D E E.b1 E.x1 E.y1 E.t1 q.x1 q.y1 q.t1 h hh) $$ [Hc1 HO]
  · isplitl [Hc1]
    · iexact Hc1
    · iexact HO
  iintro ⟨Hb1, Hx1, Hy1, Ht1, HO⟩
  iapply (run_trips d i D hD E.ix E.b1 E.o1 (a := 5) (by decide) (rowN i h)) $$ [Hix Hb1 Ho1]
  · isplitl [Hix]; · iexact Hix
    isplitl [Hb1]
    · iexact Hb1
    · iexact Ho1
  iintro ⟨Hix, Hb1, Ho1⟩
  iapply Hk
  isplitr [DB D0 D1 D2 D3]
  · isplitl [Hix]; · iexact Hix
    isplitl [Hb1]; · iexact Hb1
    isplitl [Ho1]; · iexact Ho1
    isplitl [Hx1]; · iexact Hx1
    isplitl [Hy1]; · iexact Hy1
    isplitl [HA]; · iexact HA
    isplitl [Ht1]; · iexact Ht1
    isplitl [Hg0]; · iexact Hg0
    isplitl [Hu1]; · iexact Hu1
    isplitl [Hq1]
    · iexact Hq1
    · iexact HO
  · isplitl [DB]; · iexact DB
    isplitl [D0]; · iexact D0
    isplitl [D1]; · iexact D1
    isplitl [D2]
    · iexact D2
    · iexact D3

/-- Between two groups. -/
theorem run_turn0 (h : Nat) (hh : h + 1 < 4) (k : Tile F i) :
    iprop(Leave d i D E q (O := O) (W := W) h (Nat.lt_of_succ_lt hh) ∗ Todo d i E h 5)
      ⊢ iprop((iprop(Enter d i D E q (O := O) (W := W) (h + 1) hh ∗ Done d i D E h 4) -∗ run d i k Q) -∗ run d i (turn0 i E h hh k) Q) := by
  unfold Enter Leave Full
  iintro ⟨⟨Hix, Hb1, ⟨%G, %hG, Ho1⟩, Hx1, Hy1, HA, Ht1, Hg0, Hu1, Hq1, HO⟩, W5⟩ Hk
  unfold turn0
  iapply (run_putB d i D E E.o1 E.ho1 E.q1 h (Nat.lt_of_succ_lt hh) G hG) $$ [Ho1 W5 Hq1]
  · isplitl [Ho1]; · iexact Ho1
    isplitl [W5]
    · iexact W5
    · iexact Hq1
  iintro HB
  iapply (run_fetch d i D E E.b1 E.x1 E.y1 q.x1 q.y1 (h + 1) 1 hh _) $$ [Hb1 Hx1 Hy1]
  · isplitl [Hb1]; · unfold Any; iexists _; iexact Hb1
    isplitl [Hx1]
    · iexact Hx1
    · iexact Hy1
  iintro Hc1
  iapply (run_putWait d i D E E.o0 E.u0 h 4 (Nat.lt_of_succ_lt hh) _) $$ [Hg0 HO]
  · isplitl [Hg0]
    · iexact Hg0
    · iexact HO
  unfold Any
  iintro ⟨D4, ⟨%G', Ho0⟩, Hu0, HO⟩
  ihave Hc0 := (Entails.of_eq (show After d i D E q h = Coming d i D E E.b0 E.x0 E.y0 q.x0 q.y0 (h + 1) 0 from if_pos hh)) $$ HA
  iapply (run_await d i D E E.b0 E.x0 E.y0 q.x0 q.y0 (h + 1) 0 hh _) $$ [Hc0 HO]
  · isplitl [Hc0]
    · iexact Hc0
    · iexact HO
  iintro ⟨Hb0, Hx0, Hy0, HO⟩
  iapply Hk
  isplitr [D4]
  · isplitl [Hix]; · iexact Hix
    isplitl [Hb0]; · iexact Hb0
    isplitl [Ho0]
    · iexists G'; isplitr
      · ipureintro; exact filled_zero D G'
      · iexact Ho0
    isplitl [Hx0]; · iexact Hx0
    isplitl [Hy0]; · iexact Hy0
    isplitl [Hc1]; · iexact Hc1
    isplitl [Ht1]; · iexact Ht1
    isplitl [Hu0]; · iexact Hu0
    isplitl [Hu1]; · iexact Hu1
    isplitl [HB]
    · unfold Before; iexact HB
    · iexact HO
  · iexact D4

/-- The tile's buffers, semaphores and shares at rest: what it starts and ends with, but for the result. -/
def Idle : sProp 𝕄 :=
  iprop(Any d i E.ix ∗ Any d i E.b0 ∗ Any d i E.b1 ∗ Any d i E.o0 ∗ Any d i E.o1
    ∗ Ch d i E.x q.x0 D.x E.x0 ∗ Ch d i E.x q.y0 D.x E.y0 ∗ Ch d i E.x q.x1 D.x E.x1 ∗ Ch d i E.x q.y1 D.x E.y1
    ∗ Ch d i E.xt q.t1 D.xt E.t1 ∗ Rest d i E.u0 ∗ Rest d i E.u1 ∗ Rest d i E.q1 ∗ Owe d i O W)

/-- The first slabs. -/
theorem run_start (qw : PosShare TreeShare) (k : Tile F i) :
    iprop(Idle d i D E q (O := O) (W := W) ∗ Ch d i E.iw qw D.w E.wr)
      ⊢ iprop((iprop(Enter d i D E q (O := O) (W := W) 0 (by decide) ∗ Ch d i E.iw qw D.w E.wr) -∗ run d i k Q) -∗ run d i (start i E k) Q) := by
  unfold Idle Enter Full Any
  iintro ⟨⟨⟨%g, Hix⟩, Hb0, Hb1, ⟨%G, Ho0⟩, Ho1, Hx0, Hy0, Hx1, Hy1, Ht1, Hu0, Hu1, Hq1, HO⟩, Hw⟩ Hk
  unfold start
  ihave Hw := (Entails.of_eq (show Ch d i E.iw qw D.w E.wr = iprop(Own d i E.iw qw Finset.univ D.w ∗ Rest d i E.wr) from rfl)) $$ Hw
  icases Hw with ⟨Hw, Hv⟩
  iapply (run_copy d i E.iw E.ix E.wr qw (View.dmaCredit_pos _ (by decide)) D.w g) $$ [Hw Hix Hv]
  · isplitl [Hw]; · iexact Hw
    isplitl [Hix]
    · iexact Hix
    · iexact Hv
  iintro Hf
  iapply (run_wait d i _ _ E.wr _ rfl _) $$ [Hf HO]
  · isplitl [Hf]
    · iexact Hf
    · iexact HO
  iintro ⟨⟨Hix, Hw⟩, Hv, HO⟩
  iapply (run_fetch d i D E E.b0 E.x0 E.y0 q.x0 q.y0 0 0 _ _) $$ [Hb0 Hx0 Hy0]
  · isplitl [Hb0]; · unfold Any; iexact Hb0
    isplitl [Hx0]
    · iexact Hx0
    · iexact Hy0
  iintro Hc0
  iapply (run_fetch d i D E E.b1 E.x1 E.y1 q.x1 q.y1 0 1 _ _) $$ [Hb1 Hx1 Hy1]
  · isplitl [Hb1]; · unfold Any; iexact Hb1
    isplitl [Hx1]
    · iexact Hx1
    · iexact Hy1
  iintro Hc1
  iapply (run_await d i D E E.b0 E.x0 E.y0 q.x0 q.y0 0 0 _ _) $$ [Hc0 HO]
  · isplitl [Hc0]
    · iexact Hc0
    · iexact HO
  iintro ⟨Hb0, Hx0, Hy0, HO⟩
  iapply Hk
  isplitr [Hw Hv]
  · isplitl [Hix]; · iexact Hix
    isplitl [Hb0]; · iexact Hb0
    isplitl [Ho0]
    · iexists G; isplitr
      · ipureintro; exact filled_zero D G
      · iexact Ho0
    isplitl [Hx0]; · iexact Hx0
    isplitl [Hy0]; · iexact Hy0
    isplitl [Hc1]; · iexact Hc1
    isplitl [Ht1]; · iexact Ht1
    isplitl [Hu0]; · iexact Hu0
    isplitl [Hu1]; · iexact Hu1
    isplitr [HO]
    · unfold Before Any
      isplitl [Ho1]
      · iexact Ho1
      · iexact Hq1
    · iexact HO
  · unfold Ch
    isplitl [Hw]
    · iexact Hw
    · iexact Hv

/-- The last copies waited for. -/
theorem run_finish :
    iprop(Leave d i D E q (O := O) (W := W) 3 (by decide) ∗ Todo d i E 3 5)
      ⊢ run d i (finish i E) fun _ => iprop(Idle d i D E q (O := O) (W := W) ∗ Done d i D E 3 4 ∗ Done d i D E 3 5) := by
  unfold Idle Leave Full
  iintro ⟨⟨Hix, Hb1, ⟨%G, %hG, Ho1⟩, Hx1, Hy1, HA, Ht1, Hg0, Hu1, Hq1, HO⟩, W5⟩
  unfold finish
  iapply (run_putB d i D E E.o1 E.ho1 E.q1 3 _ G hG) $$ [Ho1 W5 Hq1]
  · isplitl [Ho1]; · iexact Ho1
    isplitl [W5]
    · iexact W5
    · iexact Hq1
  iintro HB
  iapply (run_putWait d i D E E.o0 E.u0 3 4 _ _) $$ [Hg0 HO]
  · isplitl [Hg0]
    · iexact Hg0
    · iexact HO
  iintro ⟨D4, Ho0, Hu0, HO⟩
  iapply (run_putWaitB d i D E E.o1 E.ho1 E.q1 3 _) $$ [HB HO]
  · isplitl [HB]
    · iexact HB
    · iexact HO
  iintro ⟨D5, Ho1, Hq1, HO⟩
  ihave HA := (Entails.of_eq (show After d i D E q 3 = _ from if_neg (by decide))) $$ HA
  icases HA with ⟨Hb0, Hx0, Hy0⟩
  unfold run
  iapply (Entails.of_eq (wp_ret _ _ _ _ _).symm)
  imodintro
  isplitr [D4 D5]
  · isplitl [Hix]; · unfold Any; iexists _; iexact Hix
    isplitl [Hb0]; · iexact Hb0
    isplitl [Hb1]; · unfold Any; iexists _; iexact Hb1
    isplitl [Ho0]; · iexact Ho0
    isplitl [Ho1]; · iexact Ho1
    isplitl [Hx0]; · iexact Hx0
    isplitl [Hy0]; · iexact Hy0
    isplitl [Hx1]; · iexact Hx1
    isplitl [Hy1]; · iexact Hy1
    isplitl [Ht1]; · iexact Ht1
    isplitl [Hu0]; · iexact Hu0
    isplitl [Hu1]; · iexact Hu1
    isplitl [Hq1]
    · iexact Hq1
    · iexact HO
  · isplitl [D4]
    · iexact D4
    · iexact D5

end Cert.KernelIdeal.Pool

end
-- ==== Proof.Equal.lean ====
/- The printed body is the folded text. -/
module

public import proofs.«01_k».proof.Proof.Text

@[expose] public section

noncomputable section

namespace Cert.KernelIdeal.Pool

open Cert.KernelIdeal Cert.KernelIdeal.Gen Idealize.ShloMosaic Idealize.SL.Sem

variable {F : FTy → Type} [FloatOps F] [Named F] (i : grid0.Coords) (E : Env)

/-- One slab peeled: a program that is the turn followed by the trips, three deep in what comes after, is the slabs'
    program when what comes after is the remaining slabs'. -/
theorem leg_step {A B : Type} {l : Leg F i} {ls : List (Leg F i)} {k X : Tile F i}
    {f0 : PUnit → Prog (TpuEff nD τ sig (Elt F) Λ₀ (.scVector ((i 0).castLE hcore0) ((i 1).castLE hsub0))) A}
    {f1 : A → Prog (TpuEff nD τ sig (Elt F) Λ₀ (.scVector ((i 0).castLE hcore0) ((i 1).castLE hsub0))) B}
    {f2 : B → Tile F i}
    (h : X = l.turn (((trips i E.ix l.xb l.ob l.sl >>= f0) >>= f1) >>= f2))
    (hr : ((f0 ⟨⟩ >>= f1) >>= f2) = legs i E ls k) : X = legs i E (l :: ls) k := by
  rw [h]
  show _ = l.turn _
  congr 1
  rw [bind_assoc, bind_assoc]
  congr 1
  funext u
  rw [← hr, bind_assoc]

set_option maxRecDepth 100000 in
/-- The printed body, on any buffers and semaphores, is the folded text on the same ones. -/
theorem printed_eq (x : XArr) (hx : x.IsWhole) (xt : TArr) (hxt : xt.IsWhole) (iw : Memref sig .scVector .hbm S17934 .i32)
    (hiw : iw.IsWhole) (o : OArr) (ho : o.IsWhole) (ix : IBuf) (hix : ix.IsWhole) (b0 : XBuf) (hb0 : b0.IsWhole)
    (b1 : XBuf) (hb1 : b1.IsWhole) (o0 : OBuf) (ho0 : o0.IsWhole) (o1 : OBuf) (ho1 : o1.IsWhole)
    (x0 x1 u0 u1 y0 y1 t0 t1 q0 q1 wr : Sm) :
    cc0_pool_kernel (F := F) i x hx xt hxt iw hiw o ho ix hix b0 hb0 b1 hb1 o0 ho0 o1 ho1 x0 x1 u0 u1 y0 y1 t0 t1 q0 q1 wr
      = pool i ⟨x, xt, iw, hiw, o, ix, hix, b0, b1, o0, o1, ho1, x0, x1, u0, u1, y0, y1, t1, q1, wr⟩ := by
  iterate 24 refine leg_step i _ (Eq.refl _) ?_
  rfl

end Cert.KernelIdeal.Pool

end
-- ==== Proof.Whole.lean ====
/- The whole of a tile: from its scratch at rest and its windows of the result to write, to the windows written. -/
module

public import proofs.«01_k».proof.Proof.Group
public import proofs.«01_k».proof.Proof.Equal

@[expose] public section

noncomputable section

namespace Cert.KernelIdeal.Pool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

variable [FloatOps F] [Named F] (d : Dev nD) (i : grid0.Coords) (D : Dat F) (E : Env) (q : Shares)
  {Q : PUnit → sProp (MT nD τ sig (HIx 1) (Elt F) ℕ UU ℕ)} {O : CellTallies nD τ sig (HIx 1)} {W : Waits sig (HIx 1)}

/-- A group's six windows to write, and written. -/
def Todo6 (h : Nat) : sProp 𝕄 := iprop(TodoG d i E h ∗ Todo d i E h 5)
def Done6 (h : Nat) : sProp 𝕄 :=
  iprop((Done d i D E h 0 ∗ Done d i D E h 1 ∗ Done d i D E h 2 ∗ Done d i D E h 3) ∗ Done d i D E h 4 ∗ Done d i D E h 5)

/-- From one group's first leg to the next's. -/
theorem run_step (hD : D.OK) (h : Nat) (hh : h + 1 < 4)
    (first) (ls) (k) :
    iprop(Enter d i D E q (O := O) (W := W) h (Nat.lt_of_succ_lt hh) ∗ Todo6 d i E h)
      ⊢ iprop(((Enter d i D E q (O := O) (W := W) (h + 1) (hh) ∗ DoneG d i D E h ∗ Done d i D E h 4)
          -∗ run d i (trips i E.ix E.b0 E.o0 0 >>= fun _ => legs i E ls k) Q)
        -∗ run d i (trips i E.ix E.b0 E.o0 0 >>= fun _ => legs i E ((group i E h (Nat.lt_of_succ_lt hh) first).tail
              ++ (⟨turn0 i E h hh, E.b0, E.o0, 0⟩ :: ls)) k) Q) := by
  unfold Todo6
  iintro ⟨HE, HT, L⟩ Hk
  iapply (run_group d i D E q hD h _ _ _ _) $$ [HE HT]
  · isplitl [HE]
    · iexact HE
    · iexact HT
  iintro ⟨HL, HD⟩
  simp only [legs]
  iapply (run_turn0 d i D E q h _) $$ [HL L]
  · isplitl [HL]
    · iexact HL
    · iexact L
  iintro ⟨HE, HD4⟩
  iapply Hk
  isplitl [HE]
  · iexact HE
  isplitl [HD]
  · iexact HD
  iexact HD4

theorem run_pool (hD : D.OK) (qw : PosShare TreeShare) :
    iprop((Idle d i D E q (O := O) (W := W) ∗ Ch d i E.iw qw D.w E.wr) ∗ Todo6 d i E 0 ∗ Todo6 d i E 1 ∗ Todo6 d i E 2 ∗ Todo6 d i E 3)
      ⊢ run d i (pool i E) fun _ => iprop((Idle d i D E q (O := O) (W := W) ∗ Ch d i E.iw qw D.w E.wr)
          ∗ Done6 d i D E 0 ∗ Done6 d i D E 1 ∗ Done6 d i D E 2 ∗ Done6 d i D E 3) := by
  iintro ⟨⟨HI, Hw⟩, T0, T1, T2, T3⟩
  unfold pool
  rw [show group i E 0 (by decide) (start i E) ++ group i E 1 (by decide) (turn0 i E 0 (by decide)) ++
      group i E 2 (by decide) (turn0 i E 1 (by decide)) ++ group (F := F) i E 3 (by decide) (turn0 i E 2 (by decide))
    = ⟨start i E, E.b0, E.o0, 0⟩ :: ((group i E 0 (by decide) (start i E)).tail ++ (⟨turn0 i E 0 (by decide), E.b0, E.o0, 0⟩
        :: ((group i E 1 (by decide) (turn0 i E 0 (by decide))).tail ++ (⟨turn0 i E 1 (by decide), E.b0, E.o0, 0⟩
        :: ((group i E 2 (by decide) (turn0 i E 1 (by decide))).tail ++ (⟨turn0 i E 2 (by decide), E.b0, E.o0, 0⟩
        :: ((group i E 3 (by decide) (turn0 i E 2 (by decide))).tail ++ []))))))) from rfl]
  rw [show ∀ (l : Leg F i) ls k, legs i E (l :: ls) k = l.turn (trips i E.ix l.xb l.ob l.sl >>= fun _ => legs i E ls k)
    from fun _ _ _ => rfl]
  iapply (run_start d i D E q qw) $$ [HI Hw]
  · isplitl [HI]
    · iexact HI
    · iexact Hw
  iintro ⟨HE, Hw⟩
  iapply (run_step d i D E q hD 0 _ _ _ _) $$ [HE T0]
  · isplitl [HE]
    · iexact HE
    · iexact T0
  iintro ⟨HE, G0, D04⟩
  iapply (run_step d i D E q hD 1 _ _ _ _) $$ [HE T1]
  · isplitl [HE]
    · iexact HE
    · iexact T1
  iintro ⟨HE, G1, D14⟩
  iapply (run_step d i D E q hD 2 _ _ _ _) $$ [HE T2]
  · isplitl [HE]
    · iexact HE
    · iexact T2
  iintro ⟨HE, G2, D24⟩
  unfold Todo6
  icases T3 with ⟨T3, L3⟩
  iapply (run_group d i D E q hD 3 _ _ _ _) $$ [HE T3]
  · isplitl [HE]
    · iexact HE
    · iexact T3
  iintro ⟨HL, G3⟩
  rw [show ∀ k, legs (F := F) i E [] k = k from fun _ => rfl]
  unfold run
  iapply (wp_wand frame _ _) $$ [HL L3]
  · iapply (run_finish d i D E q)
    isplitl [HL]
    · iexact HL
    · iexact L3
  unfold DoneG DoneBefore Done6
  icases G0 with ⟨-, D00, D01, D02, D03⟩
  icases G1 with ⟨D05, D10, D11, D12, D13⟩
  icases G2 with ⟨D15, D20, D21, D22, D23⟩
  icases G3 with ⟨D25, D30, D31, D32, D33⟩
  iintro %_ ⟨HI, D34, D35⟩
  iframe

end Cert.KernelIdeal.Pool

end
-- ==== Proof.Tile.lean ====
/- A tile of the launch: its thread's scratch and semaphores, its shares of the arrays read and its rows of the result. -/
module

public import proofs.«01_k».proof.Proof.Whole
public import Idealize.ShloMosaic.Lib.SparseCore.Quiescent

@[expose] public section

noncomputable section

namespace Cert.KernelIdeal.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

variable [FloatOps F] [Named F] (d : Dev nD) (i : grid0.Coords) (D : Dat F)

/-! ## Whole arrays -/

/-- A whole array's elements, owned through its memref. -/
theorem own_whole (b : Ref sig .scVector) (q : PosShare TreeShare) (R : Finset b.ty.shape.Idx) (f : Buf (Elt F) ((thr d i).loc b)) :
    Own d i (Memref.whole b) q R f = ((thr d i).loc b ↦[R]{q} f : sProp 𝕄) := by
  have e : (Memref.whole b).view.setOn R = R := Finset.map_refl
  refine BI.Entails.antisymm (show Own d i (Memref.whole b) q R f ⊢ ((thr d i).loc b ↦[R]{q} f : sProp 𝕄) from ?_)
    (show ((thr d i).loc b ↦[R]{q} f : sProp 𝕄) ⊢ Own d i (Memref.whole b) q R f from ?_)
  · unfold Own
    iintro ⟨%g, %hg, H⟩
    rw [e]
    iapply (Entails.of_eq (pointsTo_congr (ℓ := (thr d i).loc b) (I := R) (q := q) (f := g) (g := f) hg))
    iexact H
  · unfold Own
    iintro H
    rw [e]
    iexists f; isplitr
    · ipureintro; exact fun _ _ => rfl
    · iexact H

/-- A scratch buffer, whatever it holds. -/
theorem any_whole (b : Ref sig .scVector) : Any (F := F) d i (Memref.whole b) = iprop(∃ f, (thr d i).loc b ↦{fullShare} f) := by
  unfold Any Has
  exact congrArg _ (funext fun f => own_whole d i b fullShare Finset.univ f)

/-! ## The result's rows -/

/-- The tile's sixteen rows of the result. -/
def tset (i : grid0.Coords) : Finset S512x15372.Idx :=
  Finset.univ.filter fun y => (y 0).val / 16 = 2 * (i 1).val + (i 0).val

theorem mem_wset {h a : Nat} {y : S512x15372.Idx} : y ∈ wset i h a ↔ (rowN i h ≤ (y 0).val ∧ (y 0).val < rowN i h + 4)
    ∧ 2560 * a ≤ (y 1).val ∧ (y 1).val < 2560 * a + 2560 + 12 * (a / 5) := by
  rw [wset, Finset.mem_filter]
  exact ⟨fun h => h.2, fun h => ⟨Finset.mem_univ _, h⟩⟩

theorem mem_tset {y : S512x15372.Idx} : y ∈ tset i ↔ (y 0).val / 16 = 2 * (i 1).val + (i 0).val := by
  rw [tset, Finset.mem_filter]
  exact ⟨fun h => h.2, fun h => ⟨Finset.mem_univ _, h⟩⟩

theorem tset_windows : (Finset.univ : Finset (Fin 4 × Fin 6)).biUnion (fun p => wset i p.1.val p.2.val) = tset i := by
  ext y
  rw [Finset.mem_biUnion, mem_tset]
  have h1 : (y 1).val < 15372 := (y 1).isLt
  constructor
  · rintro ⟨⟨h, a⟩, -, H⟩
    have := h.isLt
    have H := (mem_wset i).mp H
    unfold rowN at H
    dsimp only at H
    omega
  · intro H
    refine ⟨⟨⟨(y 0).val / 4 % 4, by omega⟩, ⟨min 5 ((y 1).val / 2560), by omega⟩⟩, Finset.mem_univ _, (mem_wset i).mpr ?_⟩
    unfold rowN
    dsimp only
    omega

theorem windows_disjoint : ∀ p ∈ (Finset.univ : Finset (Fin 4 × Fin 6)), ∀ p' ∈ (Finset.univ : Finset (Fin 4 × Fin 6)), p ≠ p' →
    Disjoint (wset i p.1.val p.2.val) (wset i p'.1.val p'.2.val) := by
  rintro ⟨h, a⟩ - ⟨h', a'⟩ - hne
  rw [Finset.disjoint_left]
  intro y hy hy'
  have hy := (mem_wset i).mp hy
  have hy' := (mem_wset i).mp hy'
  have := a.isLt
  have := a'.isLt
  have := h.isLt
  have := h'.isLt
  unfold rowN at hy hy'
  dsimp only at hy hy'
  refine hne (Prod.ext (Fin.ext ?_) (Fin.ext ?_))
  · dsimp only; omega
  · dsimp only
    rcases (show a.val ≤ 4 ∨ a.val = 5 by omega) with e | e <;> rcases (show a'.val ≤ 4 ∨ a'.val = 5 by omega) with e' | e'
    · rw [Nat.div_eq_of_lt (by omega)] at hy hy'; omega
    · rw [Nat.div_eq_of_lt (show a.val < 5 by omega)] at hy; omega
    · rw [Nat.div_eq_of_lt (show a'.val < 5 by omega)] at hy'; omega
    · omega

/-- A product over the windows, written out by groups. -/
theorem windows_out (Φ : Nat → Nat → sProp 𝕄) (G : Nat → sProp 𝕄)
    (hG : ∀ h, iprop((Φ h 0) ∗ (Φ h 1) ∗ (Φ h 2) ∗ (Φ h 3) ∗ (Φ h 4) ∗ Φ h 5) = G h) :
    (bigSep Finset.univ fun p : Fin 4 × Fin 6 => Φ p.1.val p.2.val) = iprop((G 0) ∗ (G 1) ∗ (G 2) ∗ G 3) := by
  rw [BI.bigSep_univ_prod]
  refine (bigSep_congr (Ψ := fun h : Fin 4 => G h.val) fun h _ => ?_).trans ?_
  · rw [← hG, show (Finset.univ : Finset (Fin 6)) = {0, 1, 2, 3, 4, 5} from by decide]
    iterate 5 rw [SparseCore.bigSep_insert' (by decide)]
    rw [bigSep_singleton]
    rfl
  · rw [show (Finset.univ : Finset (Fin 4)) = {0, 1, 2, 3} from by decide]
    iterate 3 rw [SparseCore.bigSep_insert' (by decide)]
    rw [bigSep_singleton]
    rfl

/-! ## The tile's memrefs -/

/-- The tile's arrays, buffers and semaphores. -/
abbrev env : Env :=
  ⟨Memref.whole main_v3_scv, Memref.whole main_v5_scv, Memref.whole main_v2_scv, Memref.isWhole_whole _, Memref.whole main_v6_scv,
    Memref.whole cc0_scratch0, Memref.isWhole_whole _, Memref.whole cc0_scratch1, Memref.whole cc0_scratch2,
    Memref.whole cc0_scratch3, Memref.whole cc0_scratch4, Memref.isWhole_whole _,
    cc0_scratch5, cc0_scratch6, cc0_scratch7, cc0_scratch8, cc0_scratch9, cc0_scratch10, cc0_scratch12, cc0_scratch14, cc0_scoped0⟩

/-- The arrays, as the device's. -/
abbrev xLoc (d : Dev nD) : Loc nD τ sig := (SparseCore.T d).loc main_v3
abbrev tLoc (d : Dev nD) : Loc nD τ sig := (SparseCore.T d).loc main_v5
abbrev wLoc (d : Dev nD) : Loc nD τ sig := (SparseCore.T d).loc main_v2
abbrev oLoc (d : Dev nD) : Loc nD τ sig := (SparseCore.T d).loc main_v6

theorem todo6_eq (h : Nat) : iprop((Todo (F := F) d i env h 0) ∗ (Todo d i env h 1) ∗ (Todo d i env h 2) ∗ (Todo d i env h 3) ∗ (Todo d i env h 4)
    ∗ Todo d i env h 5) = Todo6 d i env h := by
  unfold Todo6 TodoG
  refine BI.Entails.antisymm (show (_ : sProp 𝕄) ⊢ _ from ?_) (show (_ : sProp 𝕄) ⊢ _ from ?_)
  · iintro ⟨H0, H1, H2, H3, H4, H5⟩; iframe
  · iintro ⟨⟨H0, H1, H2, H3, H4⟩, H5⟩; iframe

theorem done6_eq (h : Nat) : iprop((Done d i D env h 0) ∗ (Done d i D env h 1) ∗ (Done d i D env h 2) ∗ (Done d i D env h 3) ∗ (Done d i D env h 4)
    ∗ Done d i D env h 5) = Done6 d i D env h := by
  unfold Done6
  refine BI.Entails.antisymm (show (_ : sProp 𝕄) ⊢ _ from ?_) (show (_ : sProp 𝕄) ⊢ _ from ?_)
  · iintro ⟨H0, H1, H2, H3, H4, H5⟩; iframe
  · iintro ⟨⟨H0, H1, H2, H3⟩, H4, H5⟩; iframe

theorem todo_windows (f : Buf (Elt F) (oLoc d)) :
    (oLoc d ↦[tset i]{fullShare} f : sProp 𝕄)
      ⊢ iprop(Todo6 d i env 0 ∗ Todo6 d i env 1 ∗ Todo6 d i env 2 ∗ Todo6 d i env 3) := by
  rw [← tset_windows, pointsTo_biUnion (ℓ := oLoc d) Finset.univ _ (windows_disjoint i),
    ← windows_out (fun h a => Todo (F := F) d i env h a) (fun h => Todo6 d i env h) (todo6_eq d i)]
  refine bigSep_mono fun p _ => ?_
  unfold Todo
  rw [← show Own d i (Memref.whole main_v6_scv) fullShare (wset i p.1.val p.2.val) f
    = (oLoc d ↦[wset i p.1.val p.2.val]{fullShare} f : sProp 𝕄) from own_whole d i main_v6_scv fullShare _ f]
  exact (exists_intro (Φ := fun G => Own d i (Memref.whole main_v6_scv) fullShare (wset i p.1.val p.2.val) G) f)

theorem done_windows :
    iprop(Done6 d i D env 0 ∗ Done6 d i D env 1 ∗ Done6 d i D env 2 ∗ Done6 d i D env 3)
      ⊢ (oLoc d ↦[tset i]{fullShare} D.Out : sProp 𝕄) := by
  rw [← tset_windows, pointsTo_biUnion (ℓ := oLoc d) Finset.univ _ (windows_disjoint i),
    ← windows_out (fun h a => Done (F := F) d i D env h a) (fun h => Done6 d i D env h) (done6_eq d i D)]
  refine bigSep_mono fun p _ => ?_
  unfold Done
  exact Entails.of_eq (own_whole d i main_v6_scv fullShare _ D.Out)

/-! ## The thread's own -/

theorem sems_out (Φ : DmaSem sig → sProp 𝕄) :
    bigSep (Finset.univ : Finset (DmaSem sig)) Φ = iprop((Φ 0) ∗ (Φ 1) ∗ (Φ 2) ∗ (Φ 3) ∗ (Φ 4) ∗ (Φ 5) ∗ (Φ 6) ∗ (Φ 7) ∗ (Φ 8) ∗ (Φ 9)
      ∗ Φ 10) := by
  rw [show (Finset.univ : Finset (DmaSem sig)) = {0, 1, 2, 3, 4, 5, 6, 7, 8, 9, 10} from by decide]
  iterate 10 rw [SparseCore.bigSep_insert' (by decide)]
  rw [bigSep_singleton]

/-- The thread's semaphores: the eleven the copies count on, and the rest. -/
def otherSems : sProp 𝕄 :=
  bigSep (ownCells (thr d i) \ (Finset.univ : Finset (DmaSem sig)).image fun k => ((thr d i, .dma k) : GSem nD τ sig)) fun g => semVal g 0

theorem sems_split :
    (ownSems0 (thr d i) : sProp 𝕄)
      = iprop((bigSep (Finset.univ : Finset (DmaSem sig)) fun k => semVal (thr d i, .dma k) 0) ∗ otherSems d i) := by
  unfold SparseCore.Cfg.ownSems0 otherSems
  rw [SparseCore.bigSep_sdiff_split' (t := (Finset.univ : Finset (DmaSem sig)).image fun k => ((thr d i, .dma k) : GSem nD τ sig)) ?_,
    SparseCore.bigSep_image_of_injOn (f := fun k : DmaSem sig => ((thr d i, .dma k) : GSem nD τ sig)) ?_]
  · intro a _ b _ e
    exact SemLoc.dma.inj (Prod.mk.inj e).2
  · intro g hg
    obtain ⟨k, -, rfl⟩ := Finset.mem_image.mp hg
    refine mem_ownCells.mpr ⟨rfl, ?_⟩
    show (SemLoc.dma k : SemLoc sig).isScoped .scVector = true
    exact (by decide : ∀ k : DmaSem sig, (SemLoc.dma k : SemLoc sig).isScoped .scVector = true) k

/-- The tile's five buffers. -/
abbrev scr (k : Fin 5) : Ref sig .scVector := ⟨.vmem, ⟨k.val, by have := k.isLt; show k.val < 5; omega⟩, rfl⟩

theorem bufs_out (Φ : Fin 5 → sProp 𝕄) :
    bigSep (Finset.univ : Finset (Fin 5)) Φ = iprop((Φ 0) ∗ (Φ 1) ∗ (Φ 2) ∗ (Φ 3) ∗ Φ 4) := by
  rw [show (Finset.univ : Finset (Fin 5)) = {0, 1, 2, 3, 4} from by decide]
  iterate 4 rw [SparseCore.bigSep_insert' (by decide)]
  rw [bigSep_singleton]

/-- The thread's buffers: those five, and the rest. -/
def otherBufs : sProp 𝕄 :=
  bigSep (ownRefs (τ := τ) (.scVector (cV i) (jV i)) \ (Finset.univ : Finset (Fin 5)).image fun k => (Proc.scVector (cV i) (jV i)).devRef (scr k))
    fun b => iprop(∃ f, ((d, b) : Loc nD τ sig) ↦{fullShare} f)

theorem bufs_split :
    (ownBufs (thr d i) : sProp 𝕄)
      = iprop((bigSep (Finset.univ : Finset (Fin 5)) fun k => iprop(∃ f, (thr d i).loc (scr k) ↦{fullShare} f)) ∗ otherBufs d i) := by
  unfold SparseCore.Cfg.ownBufs otherBufs
  refine (SparseCore.bigSep_sdiff_split' (t := (Finset.univ : Finset (Fin 5)).image fun k => (Proc.scVector (cV i) (jV i)).devRef (scr k)) ?_).trans ?_
  · intro g hg
    obtain ⟨k, -, rfl⟩ := Finset.mem_image.mp hg
    exact SparseCore.Cfg.mem_ownRefs_of_owner (p := Proc.scVector (cV i) (jV i)) (b := (Proc.scVector (cV i) (jV i)).devRef (scr k)) rfl
  · rw [SparseCore.bigSep_image_of_injOn (f := fun k : Fin 5 => (Proc.scVector (cV i) (jV i)).devRef (scr k)) ?_]
    intro a _ b _ e
    exact (by decide : ∀ a b : Fin 5, scr a = scr b → a = b) a b (Proc.devRef_injective _ e)

/-! ## The tile, from what the launch hands it -/

/-- The tile's share of the arrays read: the shares are dealt, `x`'s in four for the copies under way together. -/
def Reads (qx qt qw : PosShare TreeShare) : sProp 𝕄 :=
  iprop((xLoc d ↦{qx} D.x) ∗ (tLoc d ↦{qt} D.xt) ∗ wLoc d ↦{qw} D.w)

/-- The shares a tile's copies read at. -/
def shares (qx qt : PosShare TreeShare) : Shares :=
  ⟨dealOf qx (Finset.univ : Finset (Fin 4)) 0, dealOf qx (Finset.univ : Finset (Fin 4)) 1, dealOf qx (Finset.univ : Finset (Fin 4)) 2,
    dealOf qx (Finset.univ : Finset (Fin 4)) 3, qt⟩

theorem x_deal (qx : PosShare TreeShare) (f : Buf (Elt F) (xLoc d)) :
    (xLoc d ↦{qx} f : sProp 𝕄) = iprop((Own d i (Memref.whole main_v3_scv) (dealOf qx (Finset.univ : Finset (Fin 4)) 0) Finset.univ f)
      ∗ (Own d i (Memref.whole main_v3_scv) (dealOf qx (Finset.univ : Finset (Fin 4)) 1) Finset.univ f)
      ∗ (Own d i (Memref.whole main_v3_scv) (dealOf qx (Finset.univ : Finset (Fin 4)) 2) Finset.univ f)
      ∗ Own d i (Memref.whole main_v3_scv) (dealOf qx (Finset.univ : Finset (Fin 4)) 3) Finset.univ f) := by
  rw [pointsTo_deal (Finset.univ : Finset (Fin 4)) Finset.univ_nonempty qx,
    show (Finset.univ : Finset (Fin 4)) = {0, 1, 2, 3} from by decide]
  iterate 3 rw [SparseCore.bigSep_insert' (by decide)]
  rw [bigSep_singleton, own_whole, own_whole, own_whole, own_whole]

/-- The tile at rest, from the launch's resources and back. -/
theorem idle_in (qx qt : PosShare TreeShare) (O : CellTallies nD τ sig (HIx 1)) (W : Waits sig (HIx 1)) :
    iprop(((xLoc d ↦{qx} D.x) ∗ tLoc d ↦{qt} D.xt)
        ∗ ((∃ f, (thr d i).loc (scr 0) ↦{fullShare} f) ∗ (∃ f, (thr d i).loc (scr 1) ↦{fullShare} f)
          ∗ (∃ f, (thr d i).loc (scr 2) ↦{fullShare} f) ∗ (∃ f, (thr d i).loc (scr 3) ↦{fullShare} f)
          ∗ (∃ f, (thr d i).loc (scr 4) ↦{fullShare} f))
        ∗ ((semVal (thr d i, .dma 0) 0) ∗ (semVal (thr d i, .dma 1) 0) ∗ (semVal (thr d i, .dma 2) 0) ∗ (semVal (thr d i, .dma 3) 0)
          ∗ (semVal (thr d i, .dma 4) 0) ∗ (semVal (thr d i, .dma 5) 0) ∗ (semVal (thr d i, .dma 7) 0)
          ∗ semVal (thr d i, .dma 9) 0)
        ∗ Owe (F := F) d i O W)
      ⊢ Idle d i D env (shares qx qt) (O := O) (W := W) := by
  rw [x_deal d i]
  unfold Idle
  rw [any_whole, any_whole, any_whole, any_whole, any_whole]
  unfold Ch Rest
  rw [own_whole d i main_v5_scv]
  iintro ⟨⟨⟨X0, X1, X2, X3⟩, Ht⟩, ⟨B0, B1, B2, B3, B4⟩, ⟨S0, S1, S2, S3, S4, S5, S7, S9⟩, HO⟩
  isplitl [B0]; · iexact B0
  isplitl [B1]; · iexact B1
  isplitl [B2]; · iexact B2
  isplitl [B3]; · iexact B3
  isplitl [B4]; · iexact B4
  isplitl [X0 S0]
  · isplitl [X0]; · iexact X0
    iexact S0
  isplitl [X1 S4]
  · isplitl [X1]; · iexact X1
    iexact S4
  isplitl [X2 S1]
  · isplitl [X2]; · iexact X2
    iexact S1
  isplitl [X3 S5]
  · isplitl [X3]; · iexact X3
    iexact S5
  isplitl [Ht S7]
  · isplitl [Ht]; · iexact Ht
    iexact S7
  isplitl [S2]; · iexact S2
  isplitl [S3]; · iexact S3
  isplitl [S9]; · iexact S9
  iexact HO

theorem idle_out (qx qt : PosShare TreeShare) (O : CellTallies nD τ sig (HIx 1)) (W : Waits sig (HIx 1)) :
    Idle d i D env (shares qx qt) (O := O) (W := W) ⊢
      iprop(((xLoc d ↦{qx} D.x) ∗ tLoc d ↦{qt} D.xt)
        ∗ ((∃ f, (thr d i).loc (scr 0) ↦{fullShare} f) ∗ (∃ f, (thr d i).loc (scr 1) ↦{fullShare} f)
          ∗ (∃ f, (thr d i).loc (scr 2) ↦{fullShare} f) ∗ (∃ f, (thr d i).loc (scr 3) ↦{fullShare} f)
          ∗ (∃ f, (thr d i).loc (scr 4) ↦{fullShare} f))
        ∗ ((semVal (thr d i, .dma 0) 0) ∗ (semVal (thr d i, .dma 1) 0) ∗ (semVal (thr d i, .dma 2) 0) ∗ (semVal (thr d i, .dma 3) 0)
          ∗ (semVal (thr d i, .dma 4) 0) ∗ (semVal (thr d i, .dma 5) 0) ∗ (semVal (thr d i, .dma 7) 0)
          ∗ semVal (thr d i, .dma 9) 0)
        ∗ Owe (F := F) d i O W) := by
  rw [x_deal d i]
  unfold Idle
  rw [any_whole, any_whole, any_whole, any_whole, any_whole]
  unfold Ch Rest
  rw [own_whole d i main_v5_scv]
  iintro ⟨B0, B1, B2, B3, B4, ⟨X0, S0⟩, ⟨X1, S4⟩, ⟨X2, S1⟩, ⟨X3, S5⟩, ⟨Ht, S7⟩, S2, S3, S9, HO⟩
  isplitl [X0 X1 X2 X3 Ht]
  · isplitr [Ht]
    · isplitl [X0]; · iexact X0
      isplitl [X1]; · iexact X1
      isplitl [X2]; · iexact X2
      iexact X3
    · iexact Ht
  isplitl [B0 B1 B2 B3 B4]
  · isplitl [B0]; · iexact B0
    isplitl [B1]; · iexact B1
    isplitl [B2]; · iexact B2
    isplitl [B3]; · iexact B3
    iexact B4
  isplitr [HO]
  · isplitl [S0]; · iexact S0
    isplitl [S1]; · iexact S1
    isplitl [S2]; · iexact S2
    isplitl [S3]; · iexact S3
    isplitl [S4]; · iexact S4
    isplitl [S5]; · iexact S5
    isplitl [S7]; · iexact S7
    iexact S9
  · iexact HO

/-- The tile's program, between what it is handed and what it hands back. -/
theorem tile_run (hD : D.OK) (qx qt qw : PosShare TreeShare) (O : CellTallies nD τ sig (HIx 1)) (W : Waits sig (HIx 1)) :
    iprop((Reads d D qx qt qw ∗ ∃ f, oLoc d ↦[tset i]{fullShare} f) ∗ ownBufs (thr d i) ∗ ownSems0 (thr d i)
        ∗ MayWaits (thr d i) (none : HIx 1) O ∗ owes (thr d i) O W)
      ⊢ run (F := F) d i (pool i env) fun _ => iprop((Reads d D qx qt qw ∗ oLoc d ↦[tset i]{fullShare} D.Out) ∗ ownBufs (thr d i) ∗ ownSems0 (thr d i)
          ∗ ∃ W', ⌜∀ p ∈ W', p ∈ W ∨ p.2 = none⌝ ∗ owes (thr d i) O W') := by
  rw [bufs_split, bufs_out, sems_split, sems_out]
  unfold Reads
  iintro ⟨⟨⟨Hx, Ht, Hw⟩, %f, Ho⟩, ⟨B, HB⟩, ⟨⟨S0, S1, S2, S3, S4, S5, S6, S7, S8, S9, S10⟩, HS⟩, HM, HO⟩
  ihave Ho := (todo_windows d i f) $$ Ho
  unfold run
  iapply (wp_wand frame _ _) $$ [Hx Ht Hw Ho B S0 S1 S2 S3 S4 S5 S7 S9 S10 HM HO]
  · iapply (run_pool d i D env (shares qx qt) hD qw (O := O) (W := W))
    isplitr [Ho]
    · isplitr [Hw S10]
      · iapply (idle_in d i D qx qt O W)
        isplitl [Hx Ht]
        · isplitl [Hx]; · iexact Hx
          iexact Ht
        isplitl [B]; · iexact B
        isplitr [HM HO]
        · isplitl [S0]; · iexact S0
          isplitl [S1]; · iexact S1
          isplitl [S2]; · iexact S2
          isplitl [S3]; · iexact S3
          isplitl [S4]; · iexact S4
          isplitl [S5]; · iexact S5
          isplitl [S7]; · iexact S7
          iexact S9
        · unfold Owe
          isplitl [HM]; · iexact HM
          iexists W
          isplitr
          · ipureintro; exact fun p hp => Or.inl hp
          · iexact HO
      · unfold Ch Rest
        rw [own_whole d i main_v2_scv]
        isplitl [Hw]
        · iexact Hw
        · iexact S10
    · iexact Ho
  iintro %_ ⟨⟨HI, HW⟩, HD⟩
  ihave HI := (idle_out d i D qx qt O W) $$ HI
  ihave HD := (done_windows d i D) $$ HD
  unfold Ch Rest Owe
  rw [own_whole d i main_v2_scv]
  icases HW with ⟨Hw, S10⟩
  icases HI with ⟨⟨Hx, Ht⟩, B, ⟨S0, S1, S2, S3, S4, S5, S7, S9⟩, -, HO⟩
  isplitl [Hx Ht Hw HD]
  · isplitr [HD]
    · isplitl [Hx]; · iexact Hx
      isplitl [Ht]; · iexact Ht
      iexact Hw
    · iexact HD
  isplitl [B HB]
  · isplitl [B]; · iexact B
    iexact HB
  isplitr [HO]
  · isplitr [HS]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      iexact S10
    · iexact HS
  · iexact HO

end Cert.KernelIdeal.Pool

end
-- ==== Proof.Launch.lean ====
/- The launch: what the call hands the two SparseCores and their thirty-two tiles, the host's operations around it, and the
   program's run, with the result's contents. -/
module

public import proofs.«01_k».proof.Proof.Tile
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.KernelIdeal.Pool

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_sub_split held_congr wp_hlo_within wp_seq seq after)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

local notation "𝕄" => MT nD τ sig (HIx 1) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 1 := sc (F := F)

variable [FloatOps F] [Named F]

abbrev KD : Defs nD τ sig (Elt F) (ΛP (F := F)) := Pipeline.defs pcfgs defs₀
abbrev 𝒱 : Variants := (Variants.none : Variants).lift
abbrev v₀ : 𝒱.V := Sum.inl none

omit [FloatOps F] [Named F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

abbrev EH : Emb UH (MT nD τ sig (HIx 1) (Elt F) ℕ UU ℕ) := embL

/-! ## The host's operations and the arrays they leave -/

variable (m : (ℓ : Loc nD τ sig) → Buf (Elt F) ℓ) (ρ : Dev nD → PrngReg)

/-- The operations before the call. -/
abbrev hostOps : List (HloOp τ sig (Elt F)) :=
  [ StableHlo.unary main_arg1 main_v0 ((extractStridedSlice S2562x7 ![0, 0] · slices_S15372x7_S2562x7_0_0) : (⟨S15372x7, .i32⟩ : BufTy).Contents (Elt F) → (⟨S2562x7, .i32⟩ : BufTy).Contents (Elt F)),
    StableHlo.unary main_v0 main_v1 ((transpose S7x2562 [1, 0] · transposes_S2562x7_S7x2562_1_0) : (⟨S2562x7, .i32⟩ : BufTy).Contents (Elt F) → (⟨S7x2562, .i32⟩ : BufTy).Contents (Elt F)),
    StableHlo.reshape main_v1 main_v2 (rfl : (.i32 : EltTy) = .i32) shapeCasts_S7x2562_S17934,
    StableHlo.reshape main_arg0 main_v3 (rfl : (.f32 : EltTy) = .f32) shapeCasts_S8x64x61452_S512x61452,
    StableHlo.unary main_v3 main_v4 ((extractStridedSlice S512x12 ![0, 61440] · slices_S512x61452_S512x12_0_61440) : (⟨S512x61452, .f32⟩ : BufTy).Contents (Elt F) → (⟨S512x12, .f32⟩ : BufTy).Contents (Elt F)),
    StableHlo.nullary main_c (constantI S_ 32 0#32),
    StableHlo.TRef.unary (.of main_c) main_call0.v0 (sitofp .f32),
    StableHlo.TRef.binary (.of (T := ⟨S512x12, .f32⟩) main_v4) main_call0.v0 main_call0.v1 (fun x v => pad S512x128 ![0, 0] ![0, 116] ![0, 0] x v pads_S512x12_S512x128_000_01160 h_S_) ]

/-- The operation after it. -/
abbrev lastOp : HloOp τ sig (Elt F) := StableHlo.reshape main_v6 main_v7 (rfl : (.f32 : EltTy) = .f32) shapeCasts_S512x15372_S8x64x15372

theorem main_ops (d : Dev nD) : main (F := F) d = (seq hostOps >>= fun _ => (sc.run d 0 >>= fun _ => hlo rfl lastOp fun _ => .ret ⟨⟩)) := rfl

/-- The TensorCore's arrays. -/
def arrays : Finset (DevRef τ sig) := (Finset.univ.filter fun b : Ref sig .tc => ¬ b.isScoped).image (Proc.devRef .tc)

abbrev at0 (b : Ref sig .tc) : DevRef τ sig := Proc.devRef .tc b

/-- Their contents at the launch, at the call, after the call, and at the end. -/
def V0 (d : Dev nD) : Valuation τ sig (Elt F) := fun b => m (d, b)
def V1 (d : Dev nD) : Valuation τ sig (Elt F) := after hostOps (V0 m d)

/-- What the tiles read. -/
def dat (d : Dev nD) : Dat F := ⟨V1 m d (at0 main_v3), V1 m d (at0 main_v5), V1 m d (at0 main_v2)⟩

def V2 (d : Dev nD) : Valuation τ sig (Elt F) := Function.update (V1 m d) (at0 main_v6) (dat m d).Out
def V3 (d : Dev nD) : Valuation τ sig (Elt F) := lastOp.result (V2 m d)

omit [FloatOps F] [Named F] in
theorem arrays_held (d : Dev nD) : (unscopedBufs d (fun b => m ((SparseCore.T d).loc b)) : sProp 𝕄) = held (T d) arrays (V0 m d) := by
  unfold unscopedBufs held arrays
  rw [SparseCore.bigSep_image_of_injOn (f := fun b : Ref sig .tc => (Proc.devRef .tc b : DevRef τ sig)) (fun a _ b _ e => Proc.devRef_injective _ e)]
  rfl

/-! ## What the call carries -/

/-- SparseCore `c`'s share of the arrays read, and tile `(c, j)`'s. -/
def shC (c : Fin 2) : PosShare TreeShare := dealOf fullShare (Finset.univ : Finset (Fin 2)) c
def shT (c : Fin 2) (j : Fin 16) : PosShare TreeShare := dealOf (shC c) (Finset.univ : Finset (Fin 16)) j

/-- SparseCore `c`'s rows of the result. -/
def cset (c : Fin 2) : Finset S512x15372.Idx := Finset.univ.filter fun y => (y 0).val / 16 % 2 = c.val

/-- A tile's coordinates. -/
def tile (c : Fin 2) (j : Fin 16) : grid0.Coords :=
  fun | 0 => c | 1 => j | ⟨_ + 2, h⟩ => absurd h (Nat.not_lt.2 (Nat.le_add_left _ _))

def forCore (d : Dev nD) (c : Fin 2) : sProp 𝕄 := iprop(Reads d (dat m d) (shC c) (shC c) (shC c) ∗ ∃ f, oLoc d ↦[cset c]{fullShare} f)
def byCore (d : Dev nD) (c : Fin 2) : sProp 𝕄 := iprop(Reads d (dat m d) (shC c) (shC c) (shC c) ∗ oLoc d ↦[cset c]{fullShare} (dat m d).Out)
def forTile (d : Dev nD) (c : Fin 2) (j : Fin 16) : sProp 𝕄 :=
  iprop(Reads d (dat m d) (shT c j) (shT c j) (shT c j) ∗ ∃ f, oLoc d ↦[tset (tile c j)]{fullShare} f)
def byTile (d : Dev nD) (c : Fin 2) (j : Fin 16) : sProp 𝕄 :=
  iprop(Reads d (dat m d) (shT c j) (shT c j) (shT c j) ∗ oLoc d ↦[tset (tile c j)]{fullShare} (dat m d).Out)

instance forCore_storable (d : Dev nD) (c : Fin 2) : BI.Storable (upEmb : UEmb _ 𝕄) (forCore m d c) := by unfold forCore Reads; infer_instance
instance byCore_storable (d : Dev nD) (c : Fin 2) : BI.Storable (upEmb : UEmb _ 𝕄) (byCore m d c) := by unfold byCore Reads; infer_instance
instance forTile_storable (d : Dev nD) (c : Fin 2) (j : Fin 16) : BI.Storable (upEmb : UEmb _ 𝕄) (forTile m d c j) := by unfold forTile Reads; infer_instance
instance byTile_storable (d : Dev nD) (c : Fin 2) (j : Fin 16) : BI.Storable (upEmb : UEmb _ 𝕄) (byTile m d c j) := by unfold byTile Reads; infer_instance

omit [FloatOps F] [Named F] in
theorem nCore_eq : (K (F := F)).nCore 0 = 2 := rfl
omit [FloatOps F] [Named F] in
theorem nSub_eq : (K (F := F)).nSub 0 = 16 := rfl

def P : (K (F := F)).Pay (nD := nD) (Val := Elt F) (Name := ℕ) (U := UU) where
  st := fun q d c => match q with | 0 => forCore m d (Fin.cast nCore_eq c)
  dn := fun q d c => match q with | 0 => byCore m d (Fin.cast nCore_eq c)
  go := fun q d c j => match q with | 0 => forTile m d (Fin.cast nCore_eq c) (Fin.cast nSub_eq j)
  td := fun q d c j => match q with | 0 => byTile m d (Fin.cast nCore_eq c) (Fin.cast nSub_eq j)
  x := fun _ _ => iprop(emp)

instance P_storable : (P (F := F) m).IsStorable where
  st q d c := match q with | 0 => forCore_storable m d (Fin.cast nCore_eq c)
  dn q d c := match q with | 0 => byCore_storable m d (Fin.cast nCore_eq c)
  go q d c j := match q with | 0 => forTile_storable m d (Fin.cast nCore_eq c) (Fin.cast nSub_eq j)
  td q d c j := match q with | 0 => byTile_storable m d (Fin.cast nCore_eq c) (Fin.cast nSub_eq j)

omit [FloatOps F] [Named F] in
theorem over_cores (Φ : Fin 2 → sProp 𝕄) : (bigSep Finset.univ fun c : Fin ((K (F := F)).nCore 0) => Φ (Fin.cast nCore_eq c)) = bigSep Finset.univ Φ :=
  bigSep_congr fun _ _ => congrArg Φ (Fin.ext rfl)
omit [FloatOps F] [Named F] in
theorem over_tiles (Φ : Fin 16 → sProp 𝕄) : (bigSep Finset.univ fun c : Fin ((K (F := F)).nSub 0) => Φ (Fin.cast nSub_eq c)) = bigSep Finset.univ Φ :=
  bigSep_congr fun _ _ => congrArg Φ (Fin.ext rfl)

/-! ## Rows and shares dealt -/

theorem mem_cset {c : Fin 2} {y : S512x15372.Idx} : y ∈ cset c ↔ (y 0).val / 16 % 2 = c.val := by
  rw [cset, Finset.mem_filter]
  exact ⟨fun h => h.2, fun h => ⟨Finset.mem_univ _, h⟩⟩

theorem mem_tile {c : Fin 2} {j : Fin 16} {y : S512x15372.Idx} : y ∈ tset (tile c j) ↔ (y 0).val / 16 = 2 * j.val + c.val := mem_tset (tile c j)

theorem cset_all : (Finset.univ : Finset (Fin 2)).biUnion cset = Finset.univ := by
  ext y
  rw [Finset.mem_biUnion]
  exact ⟨fun _ => Finset.mem_univ _, fun _ => ⟨⟨(y 0).val / 16 % 2, by omega⟩, Finset.mem_univ _, mem_cset.mpr rfl⟩⟩

theorem cset_disjoint : ∀ c ∈ (Finset.univ : Finset (Fin 2)), ∀ c' ∈ (Finset.univ : Finset (Fin 2)), c ≠ c' → Disjoint (cset c) (cset c') := by
  intro c _ c' _ hne
  rw [Finset.disjoint_left]
  intro y hy hy'
  exact hne (Fin.ext ((mem_cset.mp hy).symm.trans (mem_cset.mp hy')))

theorem tset_all (c : Fin 2) : (Finset.univ : Finset (Fin 16)).biUnion (fun j => tset (tile c j)) = cset c := by
  ext y
  rw [Finset.mem_biUnion, mem_cset]
  have h0 : (y 0).val < 512 := (y 0).isLt
  have hc := c.isLt
  constructor
  · rintro ⟨j, -, H⟩
    have H := mem_tile.mp H
    omega
  · intro H
    exact ⟨⟨(y 0).val / 32, by omega⟩, Finset.mem_univ _, mem_tile.mpr (by dsimp only; omega)⟩

theorem tset_disjoint (c : Fin 2) : ∀ j ∈ (Finset.univ : Finset (Fin 16)), ∀ j' ∈ (Finset.univ : Finset (Fin 16)), j ≠ j' →
    Disjoint (tset (tile c j)) (tset (tile c j')) := by
  intro j _ j' _ hne
  rw [Finset.disjoint_left]
  intro y hy hy'
  have hy := mem_tile.mp hy
  have hy' := mem_tile.mp hy'
  exact hne (Fin.ext (by omega))

/-- The arrays read, dealt. -/
theorem Reads_deal {n : ℕ} [NeZero n] (d : Dev nD) (D : Dat F) (q : PosShare TreeShare) :
    (Reads d D q q q : sProp 𝕄) = bigSep (Finset.univ : Finset (Fin n)) fun c => Reads d D (dealOf q Finset.univ c) (dealOf q Finset.univ c) (dealOf q Finset.univ c) := by
  unfold Reads
  rw [bigSep_sep', bigSep_sep', ← pointsTo_deal _ Finset.univ_nonempty, ← pointsTo_deal _ Finset.univ_nonempty, ← pointsTo_deal _ Finset.univ_nonempty]

/-- The result's rows at some contents, dealt. -/
theorem some_deal {n : ℕ} (d : Dev nD) (A : Finset S512x15372.Idx) (B : Fin n → Finset S512x15372.Idx)
    (hu : (Finset.univ : Finset (Fin n)).biUnion B = A)
    (hd : ∀ j ∈ (Finset.univ : Finset (Fin n)), ∀ j' ∈ (Finset.univ : Finset (Fin n)), j ≠ j' → Disjoint (B j) (B j')) :
    (iprop(∃ f, oLoc d ↦[A]{fullShare} f) : sProp 𝕄) ⊢ bigSep Finset.univ fun j => iprop(∃ f, oLoc d ↦[B j]{fullShare} f) := by
  subst hu
  refine exists_elim fun f => ?_
  rw [pointsTo_biUnion (ℓ := oLoc d) Finset.univ _ hd]
  exact bigSep_mono fun j _ => exists_intro (Φ := fun f => (oLoc d ↦[B j]{fullShare} f : sProp 𝕄)) f

theorem vecSplit : (K (F := F)).VecSplit' (P m) 0 := by
  intro d c
  show forCore m d (Fin.cast nCore_eq c) ⊢ |={Set.univ}=> iprop(
      (bigSep Finset.univ fun j : Fin ((K (F := F)).nSub 0) => forTile m d (Fin.cast nCore_eq c) (Fin.cast nSub_eq j))
      ∗ ((bigSep Finset.univ fun j : Fin ((K (F := F)).nSub 0) => byTile m d (Fin.cast nCore_eq c) (Fin.cast nSub_eq j)) -∗ byCore m d (Fin.cast nCore_eq c)))
  generalize Fin.cast nCore_eq c = c
  rw [over_tiles (F := F) (fun j => forTile m d c j), over_tiles (F := F) (fun j => byTile m d c j)]
  unfold forCore forTile byTile byCore
  rw [bigSep_sep', bigSep_sep', Reads_deal (n := 16), ← tset_all c, pointsTo_biUnion (ℓ := oLoc d) Finset.univ _ (tset_disjoint c), tset_all c]
  unfold shT
  iintro ⟨HR, Ho⟩; imodintro
  isplitl [HR Ho]
  · isplitl [HR]; · iexact HR
    iapply (some_deal d (cset c) (fun j => tset (tile c j)) (tset_all c) (tset_disjoint c)); iexact Ho
  iintro H
  iexact H

/-! ## The tile's obligation -/

theorem defs₀_tile (c : Fin τ.nSC) (s : Fin τ.nSub) :
    defs₀ (F := F) (.scVector c s) 0 () = SparseCore.onTile hcore0 hsub0 (fun c s => cc0_pool_kernel (tile c s)
      (Memref.whole main_v3_scv) (Memref.isWhole_whole _) (Memref.whole main_v5_scv) (Memref.isWhole_whole _)
      (Memref.whole main_v2_scv) (Memref.isWhole_whole _) (Memref.whole main_v6_scv) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _)
      cc0_scratch5 cc0_scratch6 cc0_scratch7 cc0_scratch8 cc0_scratch9 cc0_scratch10 cc0_scratch11 cc0_scratch12 cc0_scratch13
      cc0_scratch14 cc0_scoped0) ⟨⟩ c s := rfl

theorem tile_body (hD : ∀ d, (dat m d).OK) (d : Dev nD) (c : Fin 2) (j : Fin 16) (O : CellTallies nD τ sig (HIx 1)) (W : Waits sig (HIx 1))
    (hO : ∀ g, O g none = 0) :
    iprop(levAts (K (F := F)).L (K (F := F)).lev ∗ emp ∗ forTile m d c j ∗ scopedBufs (thr d (tile c j)) ∗ scopedSems0 (thr d (tile c j))
        ∗ owes (thr d (tile c j)) O W)
      ⊢ run d (tile c j) (pool (F := F) (tile c j) env) fun _ => iprop(byTile m d c j ∗ scopedBufs (thr d (tile c j)) ∗ scopedSems0 (thr d (tile c j))
          ∗ ∃ W', ⌜∀ p ∈ W', p ∈ W ∨ p.2 = none ∨ p.2 = some (0 : Fin 1)⌝ ∗ owes (thr d (tile c j)) O W') := by
  rw [(K (F := F)).scopedBufs_V facts d (cV (tile c j)) (jV (tile c j)),
    SparseCore.Cfg.scopedSems0_V (Val := Elt F) d (cV (tile c j)) (jV (tile c j))]
  unfold forTile byTile
  iintro ⟨Hlv, -, HT, HB, HS, HO⟩
  ihave HM := ((K (F := F)).mayWaits_none (thr := thr d (tile c j)) hO) $$ Hlv
  unfold run
  iapply (wp_wand frame _ _) $$ [HM HT HB HS HO]
  · iapply (tile_run d (tile c j) (dat m d) (hD d) (shT c j) (shT c j) (shT c j) O W)
    isplitl [HT]; · iexact HT
    isplitl [HB]; · iexact HB
    isplitl [HS]; · iexact HS
    isplitl [HM]; · iexact HM
    iexact HO
  iintro %_ ⟨HT, HB, HS, %W', %hW', HO⟩
  isplitl [HT]; · iexact HT
  isplitl [HB]; · iexact HB
  isplitl [HS]; · iexact HS
  iexists W'
  isplitr
  · ipureintro; exact fun p hp => (hW' p hp).imp_right Or.inl
  · iexact HO

theorem tileObl (hD : ∀ d, (dat m d).OK) : (K (F := F)).TileObl (KD (F := F)) 𝒱 (P m) v₀ 0 := by
  intro d c j O W hO _ _
  simp only [show (P m).ox = fun _ _ => 0 from rfl, add_zero]
  change _ ⊢ wp _ _ _ (Pipeline.liftProg (defs₀ (F := F) (.scVector ((K (F := F)).core 0 c) ((K (F := F)).sub 0 j)) 0 ())) _
  refine BI.Entails.trans ?_ (Pipeline.wp_liftProg (KD (F := F)) (Pipeline.defs_kernel pcfgs defs₀) Variants.none _ Set.univ none _ _)
  have hc : ((K (F := F)).core 0 c).val < grid0.bound 0 ∧ ((K (F := F)).sub 0 j).val < grid0.bound 1 := ⟨c.isLt, j.isLt⟩
  rw [defs₀_tile]; simp only [SparseCore.onTile, hc, and_self, ↓reduceDIte]
  rw [printed_eq]
  exact tile_body m hD d (Fin.cast nCore_eq c) (Fin.cast nSub_eq j) O W hO

/-! ## The launch element: the handshakes' rounds; nothing of the kernel's own -/

def u₀ : UU := (initOf (K (F := F)).hsCells (K (F := F)).hsToks, 1)

omit [FloatOps F] [Named F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [emps]; iempintro
  unfold P; dsimp only
  rw [show (bigSep Finset.univ fun _ : Thread nD τ => bigSep Finset.univ fun _ : Fin 1 => (iprop(emp) : sProp 𝕄)) = iprop(emp) from by
    rw [bigSep_congr fun _ _ => emps _, emps]]
  iempintro

/-! ## The host -/

/-- The arrays of the call. -/
def callRefs : Finset (DevRef τ sig) := {at0 main_v3, at0 main_v5, at0 main_v2, at0 main_v6}

/-- The arrays the claim is about. -/
def endRefs : Finset (DevRef τ sig) := {at0 main_arg0, at0 main_arg1, at0 main_v7}

theorem callRefs_sub : callRefs ⊆ arrays := by decide
theorem endRefs_sub : endRefs ⊆ arrays := by decide

theorem held_call (d : Dev nD) (W : Valuation τ sig (Elt F)) :
    (held (T d) callRefs W : sProp 𝕄) = iprop((xLoc d ↦{fullShare} W (at0 main_v3)) ∗ (tLoc d ↦{fullShare} W (at0 main_v5))
      ∗ (wLoc d ↦{fullShare} W (at0 main_v2)) ∗ oLoc d ↦{fullShare} W (at0 main_v6)) := by
  unfold held callRefs
  rw [SparseCore.bigSep_insert' (by decide), SparseCore.bigSep_insert' (by decide), SparseCore.bigSep_insert' (by decide), bigSep_singleton]

/-- What the call takes for the two SparseCores. -/
theorem st_eq (d : Dev nD) : (held (T d) callRefs (V1 m d) : sProp 𝕄) ⊢ bigSep Finset.univ fun c : Fin ((K (F := F)).nCore 0) => (P m).st 0 d c := by
  show _ ⊢ bigSep Finset.univ fun c : Fin ((K (F := F)).nCore 0) => forCore m d (Fin.cast nCore_eq c)
  rw [over_cores (F := F) (fun c => forCore m d c), held_call]
  unfold forCore shC
  rw [bigSep_sep', ← Reads_deal (n := 2)]
  unfold Reads
  iintro ⟨Hx, Ht, Hw, Ho⟩
  isplitl [Hx Ht Hw]
  · isplitl [Hx]; · iexact Hx
    isplitl [Ht]; · iexact Ht
    iexact Hw
  iapply (some_deal d Finset.univ cset cset_all cset_disjoint)
  iexists _; iexact Ho

/-- What it hands back. -/
theorem dn_eq (d : Dev nD) : (bigSep Finset.univ fun c : Fin ((K (F := F)).nCore 0) => (P m).dn 0 d c) ⊢ (held (T d) callRefs (V2 m d) : sProp 𝕄) := by
  show (bigSep Finset.univ fun c : Fin ((K (F := F)).nCore 0) => byCore m d (Fin.cast nCore_eq c)) ⊢ _
  rw [over_cores (F := F) (fun c => byCore m d c), held_call]
  unfold byCore shC
  rw [bigSep_sep', ← Reads_deal (n := 2), ← pointsTo_biUnion (ℓ := oLoc d) Finset.univ _ cset_disjoint, cset_all]
  unfold Reads V2
  rw [Function.update_self, Function.update_of_ne (show at0 main_v3 ≠ at0 main_v6 by decide), Function.update_of_ne (show at0 main_v5 ≠ at0 main_v6 by decide),
    Function.update_of_ne (show at0 main_v2 ≠ at0 main_v6 by decide)]
  iintro ⟨⟨Hx, Ht, Hw⟩, Ho⟩
  isplitl [Hx]; · iexact Hx
  isplitl [Ht]; · iexact Ht
  isplitl [Hw]; · iexact Hw
  iexact Ho

theorem rest_eq (d : Dev nD) : (held (T d) (arrays \ callRefs) (V1 m d) : sProp 𝕄) = held (T d) (arrays \ callRefs) (V2 m d) :=
  held_congr _ fun b hb => (Function.update_of_ne (fun e => (Finset.mem_sdiff.mp hb).2 (by rw [e]; decide)) _ _).symm

theorem hostOps_bufs : ∀ op ∈ (hostOps : List (HloOp τ sig (Elt F))), op.bufs ⊆ arrays := by
  intro op hop
  simp only [hostOps, List.mem_cons, List.not_mem_nil, or_false] at hop
  rcases hop with rfl | rfl | rfl | rfl | rfl | rfl | rfl | rfl
  · rw [StableHlo.unary_bufs]; decide
  · rw [StableHlo.unary_bufs]; decide
  · rw [StableHlo.reshape_bufs]; decide
  · rw [StableHlo.reshape_bufs]; decide
  · rw [StableHlo.unary_bufs]; decide
  · rw [StableHlo.nullary_bufs]; decide
  · rw [StableHlo.TRef.unary, StableHlo.unary_bufs]; decide
  · rw [StableHlo.TRef.binary, StableHlo.binary_bufs]; decide

theorem lastOp_bufs : (lastOp (F := F)).bufs ⊆ arrays := by rw [lastOp, StableHlo.reshape_bufs]; decide

theorem hostOps_fresh : ∀ op ∈ (hostOps : List (HloOp τ sig (Elt F))), op.fresh = ∅ := by
  intro op hop
  simp only [hostOps, List.mem_cons, List.not_mem_nil, or_false] at hop
  rcases hop with rfl | rfl | rfl | rfl | rfl | rfl | rfl | rfl <;> rfl

/-- What the host leaves the claim. -/
abbrev FIN (d : Dev nD) : sProp 𝕄 := held (T d) endRefs (V3 m d)

/-- The host on device `d`'s TensorCore: the operations before the call, the call, the operation after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (KD (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_held, main_ops]
  iintro ⟨#Hctx, Hst, ⟨Hb, Hheld, Hts, -⟩, -⟩
  iapply (wp_seq 𝒱 none Set.univ d arrays _ hostOps hostOps_bufs hostOps_fresh (V0 m d)) $$ [Hb Hheld]
  · isplitl [Hb]; · iexact Hb
    iexact Hheld
  iintro ⟨Hb, Hheld⟩
  ihave Hheld := (Entails.of_eq (show (held d.tc arrays (after hostOps (V0 m d)) : sProp 𝕄) = held (T d) arrays (V1 m d) from rfl)) $$ Hheld
  ihave Hh := (Entails.of_eq (held_sub_split (T d) callRefs_sub (V1 m d))) $$ Hheld
  icases Hh with ⟨Hcall, Hrest⟩
  rw [wp_bind]
  iapply ((K (F := F)).wp_run (KD (F := F)) 𝒱 (EH := EH) (P := P m) κ d 0) $$ [Hst Hcall Hrest Hb Hts]
  isplitr; · iexact Hctx
  isplitl [Hst]; · iexact Hst
  isplitl [Hcall]; · iapply (st_eq m d); iexact Hcall
  iintro ⟨Hst, Hdn⟩
  ihave Hcall := (dn_eq m d) $$ Hdn
  ihave Hrest := (Entails.of_eq (rest_eq m d)) $$ Hrest
  iapply (wp_hlo_within 𝒱 (SparseCore.T d) none Set.univ (op := lastOp) (S := arrays) lastOp_bufs (V := V2 m d)) $$ [Hb Hcall Hrest]
  · isplitl [Hb]; · iexact Hb
    iapply (Entails.of_eq (held_sub_split (T d) callRefs_sub (V2 m d)).symm)
    isplitl [Hcall]; · iexact Hcall
    iexact Hrest
  iintro ⟨Hb, Hheld⟩
  ihave Hheld := (Entails.of_eq (show (held (T d) arrays (lastOp.result (V2 m d)) : sProp 𝕄) = held (T d) arrays (V3 m d) from rfl)) $$ Hheld
  ihave Hh := (Entails.of_eq (held_sub_split (T d) endRefs_sub (V3 m d))) $$ Hheld
  icases Hh with ⟨Hend, -⟩
  rw [wp_ret]; imodintro
  isplitl [Hst]; · iexact Hst
  isplitl [Hend]; · iexact Hend
  isplitl [Hb]; · iexact Hb
  iexact Hts

/-! ## The run -/

theorem V3_arg0 (d : Dev nD) : V3 m d (at0 main_arg0) = m ((SparseCore.T d).loc main_arg0) := by
  rw [V3, HloOp.result_of_not_mem _ _ (show at0 main_arg0 ∉ ({at0 main_v7} : Finset (DevRef τ sig)) by decide), V2,
    Function.update_of_ne (show at0 main_arg0 ≠ at0 main_v6 by decide), V1]
  after_results <;> rfl

theorem V3_arg1 (d : Dev nD) : V3 m d (at0 main_arg1) = m ((SparseCore.T d).loc main_arg1) := by
  rw [V3, HloOp.result_of_not_mem _ _ (show at0 main_arg1 ∉ ({at0 main_v7} : Finset (DevRef τ sig)) by decide), V2,
    Function.update_of_ne (show at0 main_arg1 ≠ at0 main_v6 by decide), V1]
  after_results <;> rfl

/-- The result: the rows the tiles wrote, as the eight batches. -/
def result (d : Dev nD) : S8x64x15372.Idx → Elt F .f32 := shapeCast S8x64x15372 (dat m d).Out shapeCasts_S512x15372_S8x64x15372

theorem V3_v7 (d : Dev nD) : V3 m d (at0 main_v7) = result m d := by
  rw [V3, lastOp, StableHlo.reshape_result, V2, Function.update_self]
  rfl

def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_v7) = result m d

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) endRefs) $$ [HSI H]
  · isplitl [HSI]; · iexact HSI
    iexact H
  ipureintro
  exact ⟨(h (at0 main_arg0) (by decide)).trans (V3_arg0 m d), (h (at0 main_arg1) (by decide)).trans (V3_arg1 m d), (h (at0 main_v7) (by decide)).trans (V3_v7 m d)⟩

def QC : PUnit × MemSt nD τ sig (Elt F) → Prop := fun r => (∀ c : Dev nD,
    r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_v7) = result m c) ∧ r.2.sem = fun _ => 0

theorem run_main [∀ e, Nonempty (Elt F e)] (hD : ∀ d, (dat m d).OK) :
    θ_run (Cert.KernelIdeal.defs (F := F)) (Cert.KernelIdeal.threads (F := F)) ⟨m, fun _ => 0, ρ⟩ (QC m) :=
  SparseCore.Cfg.θ_run_sc_quiescent (K := K (F := F)) (D := KD (F := F)) (𝒱 := 𝒱) (EH := EH) (P := P m) (A := ∅) facts v₀
    (fun q hq => match q with | 0 => nomatch hq)
    (fun q _ => match q with | 0 => tileObl m hD)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Pool

end
-- ==== Proof.Host.lean ====
/- What the host hands the call: the matrix of rows, its last twelve columns set apart, and the first slab's words; and when
   those words are columns of their slab. -/
module

public import proofs.«01_k».proof.Proof.Launch
public import Idealize.ShloMosaic.Lib.Pipeline.Value
public import Idealize.ShloMosaic.Lib.Pointwise

@[expose] public section

noncomputable section

namespace Cert.KernelIdeal.Pool

open Cert.KernelIdeal Cert.KernelIdeal.Gen
open Idealize.ShloMosaic
open Idealize.ShloMosaic.SparseCore (S V T)
open Idealize.ShloMosaic.StableHlo (after seq)

variable {F : FTy → Type} [FloatOps F] [Named F]
variable (m : (ℓ : Loc nD τ sig) → Buf (Elt F) ℓ)

/-- The launch's matrix and its words. -/
abbrev argX (d : Dev nD) : S8x64x61452.Idx → Elt F .f32 := m ((SparseCore.T d).loc main_arg0)
abbrev argI (d : Dev nD) : S15372x7.Idx → BitVec 32 := m ((SparseCore.T d).loc main_arg1)

theorem V1_x (d : Dev nD) : V1 m d (at0 main_v3) = shapeCast S512x61452 (argX m d) shapeCasts_S8x64x61452_S512x61452 := by
  unfold V1
  simp only [hostOps, StableHlo.TRef.binary, StableHlo.TRef.unary, StableHlo.TRef.toBuf, StableHlo.TRef.ofBuf, cast_eq]
  after_results <;> rfl

theorem V1_xt (d : Dev nD) : V1 m d (at0 main_v5) = pad S512x128 ![0, 0] ![0, 116] ![0, 0]
    (extractStridedSlice S512x12 ![0, 61440] (shapeCast S512x61452 (argX m d) shapeCasts_S8x64x61452_S512x61452) slices_S512x61452_S512x12_0_61440)
    (sitofp .f32 (constantI S_ 32 0#32) : S_.Idx → Elt F .f32) pads_S512x12_S512x128_000_01160 h_S_ := by
  unfold V1
  simp only [hostOps, StableHlo.TRef.binary, StableHlo.TRef.unary, StableHlo.TRef.toBuf, StableHlo.TRef.ofBuf, cast_eq]
  after_results <;> rfl

theorem V1_w (d : Dev nD) : V1 m d (at0 main_v2) = shapeCast S17934 (transpose S7x2562 [1, 0]
    (extractStridedSlice S2562x7 ![0, 0] (argI m d) slices_S15372x7_S2562x7_0_0) transposes_S2562x7_S7x2562_1_0) shapeCasts_S7x2562_S17934 := by
  unfold V1
  simp only [hostOps, StableHlo.TRef.binary, StableHlo.TRef.unary, StableHlo.TRef.toBuf, StableHlo.TRef.ofBuf, cast_eq]
  after_results <;> rfl

theorem dat_x (d : Dev nD) {R C : Nat} (hR : R < 512) (hC : C < 61452) :
    (dat m d).x (pt R C) = argX m d (ix3 ⟨R / 64, by omega⟩ ⟨R % 64, by omega⟩ ⟨C, hC⟩) := by
  show V1 m d (at0 main_v3) (pt R C) = _
  rw [V1_x]
  refine shapeCast_apply _ _ _ _ ?_
  rw [Shape.rowMajor_val_three, Shape.rowMajor_val_two]
  show (R / 64 * 64 + R % 64) * 61452 + C = R % 512 * 61452 + C % 61452
  omega

theorem dat_xt (d : Dev nD) {R C : Nat} (hR : R < 512) (hC : C < 12) :
    (dat m d).xt (pt R C) = argX m d (ix3 ⟨R / 64, by omega⟩ ⟨R % 64, by omega⟩ ⟨61440 + C, by omega⟩) := by
  show V1 m d (at0 main_v5) (pt R C) = _
  rw [V1_xt]
  unfold pad
  rw [dif_pos]
  · unfold extractStridedSlice
    refine shapeCast_apply _ _ _ _ ?_
    rw [Shape.rowMajor_val_three, Shape.rowMajor_val_two]
    show (R / 64 * 64 + R % 64) * 61452 + (61440 + C) = (0 + (R % 512 - 0) / 1) * 61452 + (61440 + (C % 128 - 0) / 1)
    omega
  · intro a
    match a with
    | 0 => exact ⟨Nat.zero_le _, Nat.mod_one _, show (R % 512 - 0) / 1 < 512 by omega⟩
    | 1 => exact ⟨Nat.zero_le _, Nat.mod_one _, show (C % 128 - 0) / 1 < 12 by omega⟩

theorem dat_w (d : Dev nD) {k v : Nat} (hk : k < 7) (hv : v < 2562) :
    (dat m d).w (pt1 (k * 2562 + v)) = argI m d (ix2 ⟨v, by omega⟩ ⟨k, hk⟩) := by
  show V1 m d (at0 main_v2) (pt1 (k * 2562 + v)) = _
  rw [V1_w, shapeCast_apply _ _ _ (ix2 ⟨k, hk⟩ ⟨v, hv⟩) (by
    rw [Shape.rowMajor_val_two, Shape.rowMajor_val_one]
    show k * 2562 + v = (k * 2562 + v) % 17934
    omega)]
  unfold transpose extractStridedSlice
  refine congrArg (argI m d) (funext fun a => Fin.ext ?_)
  match a with
  | 0 => exact Nat.zero_add _
  | 1 => exact Nat.zero_add _

/-- The padded tail and the matrix are one: a column of the matrix. -/
theorem dat_X (d : Dev nD) {R C : Nat} (hR : R < 512) (hC : C < 61452) :
    (dat m d).X R C = argX m d (ix3 ⟨R / 64, by omega⟩ ⟨R % 64, by omega⟩ ⟨C, hC⟩) := by
  unfold Dat.X
  split
  · exact dat_x m d hR hC
  · rw [dat_xt m d hR (by omega)]
    exact congrArg (fun c => argX m d (ix3 ⟨R / 64, by omega⟩ ⟨R % 64, by omega⟩ c)) (Fin.ext (Nat.add_sub_of_le (by omega)))

theorem dat_word (d : Dev nD) {k v : Nat} (hk : k < 7) (hv : v < 2562) :
    (dat m d).word k v = argI m d (ix2 ⟨v, by omega⟩ ⟨k, hk⟩) := dat_w m d hk hv

/-- The words are columns of their slab when the first slab's indices are. -/
theorem dat_ok (d : Dev nD) (h : ∀ (v : Nat) (hv : v < 2562) (k : Nat) (hk : k < 7), (argI m d (ix2 ⟨v, by omega⟩ ⟨k, hk⟩)).toNat < 10242) : (dat m d).OK := by
  intro y
  have hy : (y 0).val < 17934 := (y 0).isLt
  have e : y = pt1 ((y 0).val / 2562 * 2562 + (y 0).val % 2562) := by
    funext a
    match a with
    | 0 => exact Fin.ext (by show (y 0).val = ((y 0).val / 2562 * 2562 + (y 0).val % 2562) % 17934; omega)
  rw [e]
  exact lt_of_eq_of_lt (congrArg BitVec.toNat (dat_w m d (by omega) (by omega))) (h _ (by omega) _ (by omega))

/-- The result at a batch, a row and a vertex. -/
theorem result_apply (d : Dev nD) (y : S8x64x15372.Idx) : result m d y = (dat m d).out (64 * (y 0).val + (y 1).val) (y 2).val := by
  have h0 : (y 0).val < 8 := (y 0).isLt
  have h1 : (y 1).val < 64 := (y 1).isLt
  have h2 : (y 2).val < 15372 := (y 2).isLt
  unfold result
  rw [shapeCast_apply _ _ y (ix2 ⟨64 * (y 0).val + (y 1).val, by omega⟩ ⟨(y 2).val, h2⟩) (by
    rw [Shape.rowMajor_val_two, Shape.rowMajor_val_three]
    show (64 * (y 0).val + (y 1).val) * 15372 + (y 2).val = ((y 0).val * 64 + (y 1).val) * 15372 + (y 2).val
    omega)]
  rfl

/-! ## The predicates -/

/-- A word from 0 on and under 10242, signed, is under 10242. -/
theorem toNat_lt_of_cmp (w : BitVec 32) (h : IntOp.andi (IntOp.cmpi .sge w 0#32) (IntOp.cmpi .slt w 10242#32) = 1#1) : w.toNat < 10242 := by
  simp only [IntOp.andi, IntOp.cmpi] at h
  have h0 : (0#32).sle w = true ∧ w.slt 10242#32 = true := by
    revert h
    cases (0#32).sle w <;> cases w.slt 10242#32 <;> decide
  have h1 := h0.1
  have h2 := h0.2
  simp only [BitVec.sle_eq_decide, BitVec.slt_eq_decide, decide_eq_true_eq, BitVec.toInt_eq_toNat_cond] at h1 h2
  have hw := w.isLt
  simp at h1 h2
  split at h1 <;> omega

end Cert.KernelIdeal.Pool

end
-- ==== Proof.Frames.lean ====
/- The kernel as it was written, over the machine's floats, and the frames of both kernels. -/
module

public import proofs.«01_k».proof.Defs
public import proofs.«01_k».proof.Proof.Host
public import proofs.«01_k».proof.Proof.Gen.Kernel
public import Idealize.ShloMosaic.Lib.StableHlo.RunHlo

@[expose] public section

noncomputable section

/-! ## The preconditions' own facts -/

instance Cert.Pre_in_slab.facts : Cert.Pre_in_slab.Facts where
  slices_S15372x7_S2562x7_0_0 := by decide
  bcast_S_S2562x7 := by decide

instance Cert.Pre_slabs.facts : Cert.Pre_slabs.Facts where
  slices_S15372x7_S2562x7_0_0 := by decide
  shapeCasts_S15372x7_S6x2562x7 := by decide
  bcast_S_S2562x7 := by decide
  bcast_S_S6x2562x7 := by decide
  bcast_S2562x7_S1x2562x7_1_2 := by decide
  bcast_S1x2562x7_S6x2562x7_0_1_2 := by decide

namespace Cert.KernelIdeal.Pool

open Cert.KernelIdeal Cert.KernelIdeal.Gen Idealize.ShloMosaic Idealize.SL.Sem Idealize.ShloMosaic.StableHlo

/-! ## The kernel with its seventh as printed -/

/-- A named constant read in bits is the bits it is printed with. -/
instance namedBits : Named Bits where
  named _ _ φ b := FloatOps.ofBits φ b

set_option maxRecDepth 100000 in
-- the two printed bodies are some thousands of lines each, compared line by line
set_option maxHeartbeats 2000000 in
/-- The body printed with the constant's bits is the folded text, over floats that read the name as those bits. -/
theorem printed_bits (i : grid0.Coords) (x : XArr) (hx : x.IsWhole) (xt : TArr) (hxt : xt.IsWhole)
    (iw : Memref sig .scVector .hbm S17934 .i32) (hiw : iw.IsWhole) (o : OArr) (ho : o.IsWhole) (ix : IBuf) (hix : ix.IsWhole)
    (b0 : XBuf) (hb0 : b0.IsWhole) (b1 : XBuf) (hb1 : b1.IsWhole) (o0 : OBuf) (ho0 : o0.IsWhole) (o1 : OBuf) (ho1 : o1.IsWhole)
    (x0 x1 u0 u1 y0 y1 t0 t1 q0 q1 wr : Sm) :
    Cert.Kernel.cc0_pool_kernel (F := Bits) i x hx xt hxt iw hiw o ho ix hix b0 hb0 b1 hb1 o0 ho0 o1 ho1 x0 x1 u0 u1 y0 y1 t0 t1 q0 q1 wr
      = pool (F := Bits) i ⟨x, xt, iw, hiw, o, ix, hix, b0, b1, o0, o1, ho1, x0, x1, u0, u1, y0, y1, t1, q1, wr⟩ := by
  iterate 24 refine leg_step (F := Bits) i _ (Eq.refl _) ?_
  rfl

/-- On a vector subcore the other table runs its own printed body at the tile's place. -/
theorem tile_bits (c : Fin τ.nSC) (s : Fin τ.nSub) :
    Cert.Kernel.defs₀ (F := Bits) (.scVector c s) 0 () = SparseCore.onTile hcore0 hsub0 (fun c s => Cert.Kernel.cc0_pool_kernel (F := Bits) (tile c s)
      (Memref.whole main_v3_scv) (Memref.isWhole_whole _) (Memref.whole main_v5_scv) (Memref.isWhole_whole _)
      (Memref.whole main_v2_scv) (Memref.isWhole_whole _) (Memref.whole main_v6_scv) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _)
      cc0_scratch5 cc0_scratch6 cc0_scratch7 cc0_scratch8 cc0_scratch9 cc0_scratch10 cc0_scratch11 cc0_scratch12 cc0_scratch13
      cc0_scratch14 cc0_scoped0) ⟨⟩ c s := rfl

/-- The two programs' kernel tables agree over those floats: one label, one body, the rest returns. -/
theorem table_bits : (Cert.Kernel.defs₀ (F := Bits) : Defs nD τ sig (Elt Bits) Λ₀) = defs₀ (F := Bits) := by
  funext p l a
  match p, l, a with
  | .scVector c s, 0, _ =>
    refine (tile_bits c s).trans (Eq.trans ?_ (defs₀_tile (F := Bits) c s).symm)
    refine congrArg (fun b => SparseCore.onTile hcore0 hsub0 b _ c s) (funext fun c => funext fun s => ?_)
    exact (printed_bits ..).trans (printed_eq (F := Bits) ..).symm
  | .tc, 0, _ => rfl
  | .scScalar _, 0, _ => rfl

/-- So the two programs run alike over those floats. -/
theorem run_bits (s : MemSt nD τ sig (Elt Bits)) (Q : PUnit × MemSt nD τ sig (Elt Bits) → Prop)
    (h : θ_run (defs (F := Bits)) (threads (F := Bits)) s Q) : θ_run (Cert.Kernel.defs (F := Bits)) (Cert.Kernel.threads (F := Bits)) s Q := by
  have e : (Cert.Kernel.defs (F := Bits) : Defs nD τ sig (Elt Bits) (SparseCore.Sig (Pipeline.Sig Λ₀ (Fin 0) fun p => (pcfgs (F := Bits) p).Adm) 1))
      = defs (F := Bits) := congrArg (fun D => (sc (F := Bits)).defs (Pipeline.defs pcfgs D)) table_bits
  exact (congrArg (fun D => θ_run D (threads (F := Bits)) s Q) e).mpr h

/-! ## The frames -/

section
variable {F : FTy → Type} [FloatOps F] [Named F]

/-- The first slab's rows, read from the index array. -/
theorem first_apply (w : IVec S15372x7 32) {v k : Nat} (hv : v < 2562) (hk : k < 7) :
    extractStridedSlice S2562x7 ![0, 0] w slices_S15372x7_S2562x7_0_0 (ix2 ⟨v, hv⟩ ⟨k, hk⟩) = w (ix2 ⟨v, by omega⟩ ⟨k, hk⟩) := by
  unfold extractStridedSlice
  refine congrArg w (funext fun a => Fin.ext ?_)
  match a with
  | 0 => exact Nat.zero_add _
  | 1 => exact Nat.zero_add _

/-- A table over the first slab's rows, spread over the six slabs. -/
theorem spread_apply {α : Type} (T : S2562x7.Idx → α) {a v k : Nat} (ha : a < 6) (hv : v < 2562) (hk : k < 7) :
    broadcastInDim Cert.Pre_slabs.S6x2562x7 ![0, 1, 2] Cert.Pre_slabs.facts.bcast_S1x2562x7_S6x2562x7_0_1_2
      (broadcastInDim Cert.Pre_slabs.S1x2562x7 ![1, 2] Cert.Pre_slabs.facts.bcast_S2562x7_S1x2562x7_1_2 T) (ix3 ⟨a, ha⟩ ⟨v, hv⟩ ⟨k, hk⟩)
      = T (ix2 ⟨v, hv⟩ ⟨k, hk⟩) :=
  congrArg T (funext fun b => match b with | 0 => rfl | 1 => rfl)

/-- What the narrow precondition gives of one word. -/
theorem lt_of_in_slab (x : FVec F S8x64x61452 .f32) (w : IVec S15372x7 32) (h : Cert.Pre_in_slab.fn (F := F) x w = fun _ => 1#1)
    (v : ℕ) (hv : v < 2562) (k : ℕ) (hk : k < 7) : (w (ix2 ⟨v, by omega⟩ ⟨k, hk⟩)).toNat < 10242 := by
  have e := congrFun h (ix2 ⟨v, hv⟩ ⟨k, hk⟩)
  refine toNat_lt_of_cmp _ ?_
  rw [← first_apply w hv hk]
  exact e

/-- The wide precondition at one slab, row and tap: the first slab's word is in range, and the slab's word is that
    word moved to the slab. -/
theorem slabs_at (x : FVec F S8x64x61452 .f32) (w : IVec S15372x7 32) (h : Cert.Pre_slabs.fn (F := F) x w = fun _ => 1#1)
    {a v k : ℕ} (ha : a < 6) (hv : v < 2562) (hk : k < 7) :
    IntOp.andi (IntOp.andi (IntOp.cmpi .sge (w (ix2 ⟨v, by omega⟩ ⟨k, hk⟩)) 0#32) (IntOp.cmpi .slt (w (ix2 ⟨v, by omega⟩ ⟨k, hk⟩)) 10242#32))
      (IntOp.cmpi .eq (w (ix2 ⟨2562 * a + v, by omega⟩ ⟨k, hk⟩))
        (IntOp.addi (w (ix2 ⟨v, by omega⟩ ⟨k, hk⟩)) (IntOp.muli (BitVec.ofNat 32 a) 10242#32))) = 1#1 := by
  have e : IntOp.andi (broadcastInDim Cert.Pre_slabs.S6x2562x7 ![0, 1, 2] Cert.Pre_slabs.facts.bcast_S1x2562x7_S6x2562x7_0_1_2
        (broadcastInDim Cert.Pre_slabs.S1x2562x7 ![1, 2] Cert.Pre_slabs.facts.bcast_S2562x7_S1x2562x7_1_2
          (fun j => IntOp.andi (IntOp.cmpi .sge (extractStridedSlice S2562x7 ![0, 0] w slices_S15372x7_S2562x7_0_0 j) 0#32)
            (IntOp.cmpi .slt (extractStridedSlice S2562x7 ![0, 0] w slices_S15372x7_S2562x7_0_0 j) 10242#32))) (ix3 ⟨a, ha⟩ ⟨v, hv⟩ ⟨k, hk⟩))
      (IntOp.cmpi .eq (shapeCast Cert.Pre_slabs.S6x2562x7 w Cert.Pre_slabs.facts.shapeCasts_S15372x7_S6x2562x7 (ix3 ⟨a, ha⟩ ⟨v, hv⟩ ⟨k, hk⟩))
        (IntOp.addi (broadcastInDim Cert.Pre_slabs.S6x2562x7 ![0, 1, 2] Cert.Pre_slabs.facts.bcast_S1x2562x7_S6x2562x7_0_1_2
          (broadcastInDim Cert.Pre_slabs.S1x2562x7 ![1, 2] Cert.Pre_slabs.facts.bcast_S2562x7_S1x2562x7_1_2
            (extractStridedSlice S2562x7 ![0, 0] w slices_S15372x7_S2562x7_0_0)) (ix3 ⟨a, ha⟩ ⟨v, hv⟩ ⟨k, hk⟩))
          (IntOp.muli (BitVec.ofNat 32 a) 10242#32))) = 1#1 := congrFun h (ix3 ⟨a, ha⟩ ⟨v, hv⟩ ⟨k, hk⟩)
  rw [spread_apply _ ha hv hk, spread_apply _ ha hv hk, first_apply w hv hk, shapeCast_apply w _ _ (ix2 ⟨2562 * a + v, by omega⟩ ⟨k, hk⟩) (by
    rw [Shape.rowMajor_val_two, Shape.rowMajor_val_three]
    show (2562 * a + v) * 7 + k = (a * 2562 + v) * 7 + k
    omega)] at e
  exact e

/-- Two words whose conjunction of tests is one: each test is one. -/
theorem both_of_andi {b c : BitVec 1} (h : IntOp.andi b c = 1#1) : b = 1#1 ∧ c = 1#1 := by
  revert h; revert b c; decide

theorem lt_of_slabs (x : FVec F S8x64x61452 .f32) (w : IVec S15372x7 32) (h : Cert.Pre_slabs.fn (F := F) x w = fun _ => 1#1)
    (v : ℕ) (hv : v < 2562) (k : ℕ) (hk : k < 7) : (w (ix2 ⟨v, by omega⟩ ⟨k, hk⟩)).toNat < 10242 :=
  toNat_lt_of_cmp _ (both_of_andi (slabs_at x w h (a := 0) (by omega) hv hk)).1

/-- Under the wide precondition a slab's word is the first slab's, ten thousand two hundred and forty-two columns on per slab. -/
theorem word_of_slabs (x : FVec F S8x64x61452 .f32) (w : IVec S15372x7 32) (h : Cert.Pre_slabs.fn (F := F) x w = fun _ => 1#1)
    {a v k : ℕ} (ha : a < 6) (hv : v < 2562) (hk : k < 7) :
    (w (ix2 ⟨2562 * a + v, by omega⟩ ⟨k, hk⟩)).toNat = 10242 * a + (w (ix2 ⟨v, by omega⟩ ⟨k, hk⟩)).toNat := by
  have e := (both_of_andi (slabs_at x w h ha hv hk)).2
  have hb := lt_of_slabs x w h v hv k hk
  have e' : w (ix2 ⟨2562 * a + v, by omega⟩ ⟨k, hk⟩) = w (ix2 ⟨v, by omega⟩ ⟨k, hk⟩) + BitVec.ofNat 32 a * 10242#32 := by
    simp only [IntOp.cmpi] at e
    revert e
    generalize w (ix2 ⟨2562 * a + v, by omega⟩ ⟨k, hk⟩) = p
    intro e
    by_contra hne
    rw [show (p == IntOp.addi (w (ix2 ⟨v, by omega⟩ ⟨k, hk⟩)) (IntOp.muli (BitVec.ofNat 32 a) 10242#32)) = false from beq_false_of_ne hne] at e
    exact absurd e (by decide)
  rw [e', BitVec.toNat_add, BitVec.toNat_mul, BitVec.toNat_ofNat, BitVec.toNat_ofNat]
  omega

theorem frame_of [∀ e, Nonempty (Elt F e)] (m : (ℓ : Loc nD τ sig) → Buf (Elt F) ℓ) (ρ : Dev nD → PrngReg)
    (h : ∀ (d : Dev nD) (v : ℕ) (hv : v < 2562) (k : ℕ) (hk : k < 7), (argI m d (ix2 ⟨v, by omega⟩ ⟨k, hk⟩)).toNat < 10242) :
    θ_run (defs (F := F)) threads ⟨m, fun _ => 0, ρ⟩ (QC m) := run_main m ρ fun d => dat_ok m d (h d)

end

theorem frame_kernel : Cert.quiescent_Kernel := fun m g hp =>
  run_bits _ _ (θ_run_mono (frame_of m g fun d => lt_of_in_slab _ _ (hp d)) fun r hr => ⟨fun c => ⟨(hr.1 c).1, (hr.1 c).2.1⟩, hr.2⟩)

theorem frame_ideal : Cert.quiescent_KernelIdeal := fun m g hp =>
  θ_run_mono (frame_of m g fun d => lt_of_in_slab _ _ (hp d)) fun r hr => ⟨fun c => ⟨(hr.1 c).1, (hr.1 c).2.1⟩, hr.2⟩

theorem frame_ideal_slabs : Cert.quiescent_KernelIdeal_pre_slabs := fun m g hp =>
  θ_run_mono (frame_of m g fun d => lt_of_slabs _ _ (hp d)) fun r hr => ⟨fun c => ⟨(hr.1 c).1, (hr.1 c).2.1⟩, hr.2⟩

end Cert.KernelIdeal.Pool

end
-- ==== Proof.Mean.lean ====
/- The reference's result, element by element: the mean of the seven columns a vertex names. -/
module

public import proofs.«01_k».proof.Proof.Gen.ReferenceIdeal
public import proofs.«01_k».proof.Proof.Gen.ReferenceIdeal.Run
public import Idealize.ShloMosaic.Lib.Pointwise
public import Idealize.ShloMosaic.Lib.ReduceAll
public import Idealize.ShloMosaic.Lib.IdealHost
public import Idealize.ShloMosaic.Lib.StableHlo.RunHlo

@[expose] public section

noncomputable section

namespace Cert.ReferenceIdeal.Mean

open Cert.ReferenceIdeal Cert.ReferenceIdeal.Gen Idealize.ShloMosaic Idealize.ShloMosaic.TcCoe Idealize.SL.Sem Idealize.ShloMosaic.StableHlo

variable (x : FVec Ideal S8x64x61452 .f32) (w : IVec S15372x7 32)

/-- The index array with a negative word counted from the end, one word per position. -/
def picks : IVec S15372x7x1 32 :=
  broadcastInDim S15372x7x1 ![0, 1] bcast_S15372x7_S15372x7x1_0_1 (select (cmpi .slt w (broadcastInDim S15372x7 ![] bcast_S_S15372x7 (constantI S_ 32 0#32))) (addi w (broadcastInDim S15372x7 ![] bcast_S_S15372x7 (constantI S_ 32 61452#32))) w)

/-- Whether each picked word is a column. -/
def inside : IVec S15372x7x1 1 :=
  andi (cmpi .sge (picks w) (broadcastInDim S15372x7x1 ![] bcast_S_S15372x7x1 (constantI S_ 32 0#32)))
    (cmpi .sle (picks w) (broadcastInDim S15372x7x1 ![0, 1, 2] bcast_S1x1x1_S15372x7x1_0_1_2 (broadcastInDim S1x1x1 ![2] bcast_S1_S1x1x1_2 (constantI S1 32 61451#32))))

/-- How the reference gathers: a column per position. -/
abbrev gatherAt : GatherDims S8x64x61452 S15372x7x1 S8x64x15372x7 := gather_S8x64x61452_S15372x7x1_S8x64x15372x7_01_2_n_n_2_2_8641

/-- The columns picked, a word that is no column giving the filler. -/
def taken : FVec Ideal S8x64x15372x7 .f32 :=
  select (broadcastInDim S8x64x15372x7 ![2, 3] bcast_S15372x7_S8x64x15372x7_2_3 (Host.reduce IntOp.andi (inside w) (constantI S_ 1 1#1) reducesTo_S15372x7x1_S15372x7_d2 h_S_))
    (Host.gather gatherAt x (picks w)) (broadcastInDim S8x64x15372x7 ![] bcast_S_S8x64x15372x7 (constant (F := Ideal) S_ .f32 0x7FC00000#32))

/-- The reference's result. -/
def mean : FVec Ideal S8x64x15372 .f32 :=
  Host.divf (Host.reduceAdd (taken x w) (constant (F := Ideal) S_ .f32 0x00000000#32) reducesTo_S8x64x15372x7_S8x64x15372_d3 h_S_) (broadcastInDim S8x64x15372 ![] bcast_S_S8x64x15372 (constant (F := Ideal) S_ .f32 0x40E00000#32))

variable {x w}

/-- A small word is not negative, signed. -/
theorem toInt_of_lt {p : BitVec 32} (h : p.toNat < 61452) : p.toInt = p.toNat := by
  rw [BitVec.toInt_eq_toNat_cond, if_pos (by omega)]

theorem not_neg {p : BitVec 32} (h : p.toNat < 61452) : IntOp.cmpi .slt p 0#32 = 0#1 := by
  show BitVec.ofBool (p.slt 0#32) = 0#1
  rw [BitVec.slt_eq_decide, toInt_of_lt h, decide_eq_false (by simp)]
  rfl

theorem picks_apply (hw : ∀ j, (w j).toNat < 61452) (i : S15372x7x1.Idx) : picks w i = w (ix2 (i 0) (i 1)) := by
  have e : picks w i = Scalar.select (IntOp.cmpi .slt (w (ix2 (i 0) (i 1))) 0#32) (IntOp.addi (w (ix2 (i 0) (i 1))) 61452#32) (w (ix2 (i 0) (i 1))) :=
    congrArg (fun j => Scalar.select (IntOp.cmpi .slt (w j) 0#32) (IntOp.addi (w j) 61452#32) (w j)) (funext fun b => match b with | 0 => rfl | 1 => rfl)
  rw [e, not_neg (hw _)]
  rfl

theorem inside_apply (hw : ∀ j, (w j).toNat < 61452) (i : S15372x7x1.Idx) : inside w i = 1#1 := by
  show IntOp.andi (BitVec.ofBool ((0#32).sle (picks w i))) (BitVec.ofBool ((picks w i).sle 61451#32)) = 1#1
  rw [picks_apply hw]
  have h := hw (ix2 (i 0) (i 1))
  rw [BitVec.sle_eq_decide, BitVec.sle_eq_decide, toInt_of_lt h, decide_eq_true (by simp), decide_eq_true (by simp; omega)]
  rfl

theorem gather_apply (hw : ∀ j, (w j).toNat < 61452) (i : S8x64x15372x7.Idx) :
    Host.gather gatherAt x (picks w) i
      = x (ix3 (i 0) (i 1) ⟨(w (ix2 (i 2) (i 3))).toNat, hw _⟩) := by
  unfold Host.gather
  refine congrArg x (funext fun a => Fin.ext ?_)
  show gatherAt.start i (picks w) a + gatherAt.batchCoord i a + gatherAt.offCoord i a = _
  rw [GatherDims.batchCoord_eq_zero _ _ _ List.not_mem_nil, Nat.add_zero]
  match a with
  | 0 => exact Nat.zero_add _
  | 1 => exact Nat.zero_add _
  | 2 =>
    rw [GatherDims.offCoord_eq_zero _ _ _ (fun h => ((GatherDims.mem_sKept _ _).mp h).1 (List.mem_singleton.mpr rfl)), Nat.add_zero]
    unfold GatherDims.start
    rw [dif_pos (show (2 : Fin 3) ∈ gatherAt.startIndexMap from List.mem_singleton.mpr rfl), picks_apply hw, toInt_of_lt (hw _)]
    show min (w (ix2 (i 2) (i 3))).toNat 61451 = (w (ix2 (i 2) (i 3))).toNat
    have := hw (ix2 (i 2) (i 3))
    omega

theorem taken_apply (hw : ∀ j, (w j).toNat < 61452) (i : S8x64x15372x7.Idx) :
    taken x w i = x (ix3 (i 0) (i 1) ⟨(w (ix2 (i 2) (i 3))).toNat, hw _⟩) := by
  unfold taken
  have e : broadcastInDim S8x64x15372x7 ![2, 3] bcast_S15372x7_S8x64x15372x7_2_3 (Host.reduce IntOp.andi (inside w) (constantI S_ 1 1#1) reducesTo_S15372x7x1_S15372x7_d2 h_S_) i = 1#1 :=
    Host.reduce_andi_one _ _ _ _ _ rfl (inside_apply hw)
  show Scalar.select _ _ _ = _
  rw [e, gather_apply hw]
  rfl

theorem seven : Ideal.ofBits .f32 0x40E00000#32 = ((7 : ℝ) : EReal) := by
  simp [Ideal.ofBits, Ideal.ieee, -EReal.coe_mul]; norm_num

theorem mean_apply (hw : ∀ j, (w j).toNat < 61452) (y : S8x64x15372.Idx) :
    mean x w y = Ideal.div (0 + ∑ k : Fin 7, x (ix3 (y 0) (y 1) ⟨(w (ix2 (y 2) k)).toNat, hw _⟩)) ((7 : ℝ) : EReal) := by
  have e : mean x w y = Ideal.div (Ideal.hostReduceAdd reducesTo_S8x64x15372x7_S8x64x15372_d3 (taken x w) (Ideal.ofBits .f32 0x00000000#32) y) (Ideal.ofBits .f32 0x40E00000#32) := rfl
  rw [e, seven, Ideal.ofBits_zero_f32, Ideal.hostReduceAdd_r4_a3]
  refine congrArg (fun s => Ideal.div (0 + s) ((7 : ℝ) : EReal)) (Finset.sum_congr rfl fun k _ => ?_)
  rw [taken_apply hw]
  rfl

/-- The run of the reference, with its semaphores: it has none. -/
theorem run_mean (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_v3) = mean (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  θ_run_mono (Value.run m ρ) fun r h => ⟨h, funext fun g => match g with | ⟨_, .reg s⟩ => s.elim0 | ⟨_, .dma s⟩ => s.elim0⟩

end Cert.ReferenceIdeal.Mean

end
-- ==== Proof.Value.lean ====
/- The kernel's result is the reference's mean, over the extended reals. -/
module

public import proofs.«01_k».proof.Proof.Frames
public import proofs.«01_k».proof.Proof.Mean

@[expose] public section

noncomputable section

namespace Cert.KernelIdeal.Pool

open Cert.KernelIdeal Cert.KernelIdeal.Gen Idealize.ShloMosaic Idealize.SL.Sem Idealize.ShloMosaic.StableHlo

/-- The named constant's value. -/
theorem seventh_eq : (Named.named κ "seventh" (φ := .f32) 0x3E124925#32 : Ideal .f32) = ((1 / 7 : ℝ) : EReal) := rfl

/-- A seventh of a sum is the sum over seven. -/
theorem mul_seventh (s : EReal) : s * ((1 / 7 : ℝ) : EReal) = Ideal.div s ((7 : ℝ) : EReal) := by
  unfold Ideal.div
  rw [if_neg (by norm_num), ← EReal.coe_inv, one_div]

/-- Seven columns added one after another are their sum. -/
theorem val_eq (D : Dat Ideal) (a R v : ℕ) :
    D.val a R v = Ideal.div (0 + ∑ k : Fin 7, (D.X R (10240 * a + (shw a (D.word k.val v)).toNat) : EReal)) ((7 : ℝ) : EReal) := by
  have h0 : (Scalar.ofBits .f32 0x00000000#32 : Ideal .f32) = (0 : EReal) := Ideal.ofBits_zero_f32
  show (_ * _ : EReal) = _
  rw [seventh_eq, mul_seventh, Fin.sum_univ_seven]
  refine congrArg (fun s => Ideal.div s ((7 : ℝ) : EReal)) ?_
  show (((((((_ + _) + _) + _) + _) + _) + _) + _ : EReal) = _
  rw [show D.acc a R v 0 = (0 : EReal) from h0]
  simp only [zero_add]
  rfl

variable (m : (ℓ : Loc nD τ sig) → Buf (Elt Ideal) ℓ) (d : Dev nD)

section
variable {m d} (h : Cert.Pre_slabs.fn (F := Ideal) (argX m d) (argI m d) = fun _ => 1#1)
include h

/-- Every word is a column of the whole array. -/
theorem col_lt (j : S15372x7.Idx) : (argI m d j).toNat < 61452 := by
  have h0 : (j 0).val < 15372 := (j 0).isLt
  have h1 : (j 1).val < 7 := (j 1).isLt
  have e : j = ix2 ⟨2562 * ((j 0).val / 2562) + (j 0).val % 2562, by omega⟩ ⟨(j 1).val, h1⟩ :=
    funext fun b => match b with | 0 => Fin.ext (Nat.div_add_mod _ _).symm | 1 => rfl
  have hb := lt_of_slabs (F := Ideal) (argX m d) (argI m d) h ((j 0).val % 2562) (by omega) (j 1).val h1
  have hw := word_of_slabs (F := Ideal) (argX m d) (argI m d) h (a := (j 0).val / 2562) (v := (j 0).val % 2562) (by omega) (by omega) h1
  rw [e, hw]
  omega

/-- The column the kernel adds for a vertex's neighbour is the column its index names. -/
theorem term_eq (y : S8x64x15372.Idx) (k : Fin 7) :
    (dat m d).X (64 * (y 0).val + (y 1).val) (10240 * ((y 2).val / 2562) + (shw ((y 2).val / 2562) ((dat m d).word k.val ((y 2).val % 2562))).toNat)
      = argX m d (ix3 (y 0) (y 1) ⟨(argI m d (ix2 (y 2) k)).toNat, col_lt h _⟩) := by
  have h0 : (y 0).val < 8 := (y 0).isLt
  have h1 : (y 1).val < 64 := (y 1).isLt
  have h2 : (y 2).val < 15372 := (y 2).isLt
  have e : y 2 = ⟨2562 * ((y 2).val / 2562) + (y 2).val % 2562, by omega⟩ := Fin.ext (Nat.div_add_mod _ _).symm
  have hb := lt_of_slabs (F := Ideal) (argX m d) (argI m d) h ((y 2).val % 2562) (by omega) k.val k.isLt
  have hw := word_of_slabs (F := Ideal) (argX m d) (argI m d) h (a := (y 2).val / 2562) (v := (y 2).val % 2562) (by omega) (by omega) k.isLt
  have hc : (argI m d (ix2 (y 2) k)).toNat = 10242 * ((y 2).val / 2562) + (argI m d (ix2 ⟨(y 2).val % 2562, by omega⟩ ⟨k.val, k.isLt⟩)).toNat := by
    rw [← hw]
    exact congrArg (fun g => (argI m d (ix2 g k)).toNat) e
  rw [dat_word m d k.isLt (by omega), shw_lt (by omega) hb, dat_X m d (by omega) (by omega)]
  refine congrArg (argX m d) (funext fun b => Fin.ext ?_)
  match b with
  | 0 => show (64 * (y 0).val + (y 1).val) / 64 = (y 0).val; omega
  | 1 => show (64 * (y 0).val + (y 1).val) % 64 = (y 1).val; omega
  | 2 =>
    show 10240 * ((y 2).val / 2562) + ((argI m d (ix2 ⟨(y 2).val % 2562, by omega⟩ ⟨k.val, k.isLt⟩)).toNat + 2 * ((y 2).val / 2562))
      = (argI m d (ix2 (y 2) k)).toNat
    omega

/-- The kernel's result is the mean the reference takes. -/
theorem result_mean : result m d = Cert.ReferenceIdeal.Mean.mean (argX m d) (argI m d) := by
  funext y
  rw [result_apply, Cert.ReferenceIdeal.Mean.mean_apply (col_lt h)]
  unfold Dat.out
  rw [val_eq]
  exact congrArg (fun s => Ideal.div (0 + s) ((7 : ℝ) : EReal)) (Finset.sum_congr rfl fun k _ => term_eq h y k)

end

theorem frame_reference : Cert.quiescent_ReferenceIdeal := fun m g _ =>
  θ_run_mono (Cert.ReferenceIdeal.Mean.run_mean m g) fun _ hr => ⟨fun c => (hr.1 c).2, hr.2⟩

theorem frame_reference_slabs : Cert.quiescent_ReferenceIdeal_pre_slabs := fun m g _ => frame_reference m g trivial

/-- The kernel and the reference end with the same result. -/
theorem value : Cert.algebraic_KernelIdeal_ReferenceIdeal_pre_slabs := by
  intro m g m' g' hp hm
  refine ⟨fun c => result m c, θ_run_mono (frame_of m g fun d => lt_of_slabs _ _ (hp d)) fun r hr c => ⟨(hr.1 c).2.2, (hr.1 c).1, (hr.1 c).2.1⟩,
    θ_run_mono (Cert.ReferenceIdeal.Mean.run_mean m' g') fun r hr c => ⟨(hr.1 c).1.trans ?_, (hr.1 c).2⟩⟩
  rw [(hm c).1, (hm c).2]
  exact (result_mean (m := m) (d := c) (hp c)).symm

end Cert.KernelIdeal.Pool

end
-- ==== Proof.lean ====
/- The claim: the frames of the kernel, of its idealization and of the reference, the idealization's one rule, and the
   kernel's value, which is the reference's. -/
module

public import proofs.«01_k».proof.Defs
public import proofs.«01_k».proof.Proof.Value

@[expose] public section

noncomputable section

namespace Cert.Proof

open Idealize.ShloMosaic Cert.KernelIdeal.Pool

/-- The constant one seventh keeps its printed bits and is named by its exact value. -/
theorem preserved : Cert.preserves_Kernel_KernelIdeal :=
  IdealRules.named_const.statement Cert.KernelIdeal.κ "seventh" .f32 0x3E124925#32 _ rfl

theorem claim : Cert.Claim :=
  ⟨Cert.Kernel.Gen.facts, Cert.KernelIdeal.Gen.facts, Cert.ReferenceIdeal.Gen.facts, Cert.Pre_in_slab.facts, Cert.Pre_slabs.facts,
    frame_kernel, frame_ideal, frame_ideal_slabs, frame_reference, frame_reference_slabs, preserved, value⟩

end Cert.Proof

end
